-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_ChipsRef (m : (ℓ : Loc Cert.ChipsRef.nD Cert.ChipsRef.τ Cert.ChipsRef.sig) → Buf (Elt Bits) ℓ) : Prop :=
  True

def Pre_Cores (m : (ℓ : Loc Cert.Cores.nD Cert.Cores.τ Cert.Cores.sig) → Buf (Elt Bits) ℓ) : Prop :=
  True

def Pre_CoresIdeal (m : (ℓ : Loc Cert.CoresIdeal.nD Cert.CoresIdeal.τ Cert.CoresIdeal.sig) → Buf (Elt Ideal) ℓ) : Prop :=
  True

def Pre_CoresRefIdeal (m : (ℓ : Loc Cert.CoresRefIdeal.nD Cert.CoresRefIdeal.τ Cert.CoresRefIdeal.sig) → Buf (Elt Ideal) ℓ) : Prop :=
  True

def Pre_CoresRef (m : (ℓ : Loc Cert.CoresRef.nD Cert.CoresRef.τ Cert.CoresRef.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_SmallRef (m : (ℓ : Loc Cert.SmallRef.nD Cert.SmallRef.τ Cert.SmallRef.sig) → Buf (Elt Bits) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateRefIdeal (m : (ℓ : Loc Cert.UpdateRefIdeal.nD Cert.UpdateRefIdeal.τ Cert.UpdateRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenRefIdeal (m : (ℓ : Loc Cert.HiddenRefIdeal.nD Cert.HiddenRefIdeal.τ Cert.HiddenRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OddGate (m : (ℓ : Loc Cert.OddGate.nD Cert.OddGate.τ Cert.OddGate.sig) → Buf (Elt Bits) ℓ) : Prop :=
  True

def Pre_OddGateIdeal (m : (ℓ : Loc Cert.OddGateIdeal.nD Cert.OddGateIdeal.τ Cert.OddGateIdeal.sig) → Buf (Elt Ideal) ℓ) : Prop :=
  True

def Pre_OddGateRefIdeal (m : (ℓ : Loc Cert.OddGateRefIdeal.nD Cert.OddGateRefIdeal.τ Cert.OddGateRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_Pieces (m : (ℓ : Loc Cert.Pieces.nD Cert.Pieces.τ Cert.Pieces.sig) → Buf (Elt Bits) ℓ) : Prop :=
  True

def Pre_PiecesIdeal (m : (ℓ : Loc Cert.PiecesIdeal.nD Cert.PiecesIdeal.τ Cert.PiecesIdeal.sig) → Buf (Elt Ideal) ℓ) : Prop :=
  True

def Pre_PiecesRefIdeal (m : (ℓ : Loc Cert.PiecesRefIdeal.nD Cert.PiecesRefIdeal.τ Cert.PiecesRefIdeal.sig) → Buf (Elt Ideal) ℓ) : Prop :=
  True

def Pre_PiecesRef (m : (ℓ : Loc Cert.PiecesRef.nD Cert.PiecesRef.τ Cert.PiecesRef.sig) → Buf (Elt Bits) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_ModsRef (m : (ℓ : Loc Cert.ModsRef.nD Cert.ModsRef.τ Cert.ModsRef.sig) → Buf (Elt Bits) ℓ) : Prop :=
  True

def Pre_Slopes (m : (ℓ : Loc Cert.Slopes.nD Cert.Slopes.τ Cert.Slopes.sig) → Buf (Elt Bits) ℓ) : Prop :=
  True

def Pre_SlopesIdeal (m : (ℓ : Loc Cert.SlopesIdeal.nD Cert.SlopesIdeal.τ Cert.SlopesIdeal.sig) → Buf (Elt Ideal) ℓ) : Prop :=
  True

def Pre_SlopesRefIdeal (m : (ℓ : Loc Cert.SlopesRefIdeal.nD Cert.SlopesRefIdeal.τ Cert.SlopesRefIdeal.sig) → Buf (Elt Ideal) ℓ) : Prop :=
  True

def Pre_SlopesRef (m : (ℓ : Loc Cert.SlopesRef.nD Cert.SlopesRef.τ Cert.SlopesRef.sig) → Buf (Elt Bits) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpEven (m : (ℓ : Loc Cert.UpEven.nD Cert.UpEven.τ Cert.UpEven.sig) → Buf (Elt Bits) ℓ) : Prop :=
  True

def Pre_UpEvenIdeal (m : (ℓ : Loc Cert.UpEvenIdeal.nD Cert.UpEvenIdeal.τ Cert.UpEvenIdeal.sig) → Buf (Elt Ideal) ℓ) : Prop :=
  True

def Pre_UpEvenRefIdeal (m : (ℓ : Loc Cert.UpEvenRefIdeal.nD Cert.UpEvenRefIdeal.τ Cert.UpEvenRefIdeal.sig) → Buf (Elt Ideal) ℓ) : Prop :=
  True

def Pre_MixEven (m : (ℓ : Loc Cert.MixEven.nD Cert.MixEven.τ Cert.MixEven.sig) → Buf (Elt Bits) ℓ) : Prop :=
  True

def Pre_MixEvenIdeal (m : (ℓ : Loc Cert.MixEvenIdeal.nD Cert.MixEvenIdeal.τ Cert.MixEvenIdeal.sig) → Buf (Elt Ideal) ℓ) : Prop :=
  True

def Pre_MixEvenRefIdeal (m : (ℓ : Loc Cert.MixEvenRefIdeal.nD Cert.MixEvenRefIdeal.τ Cert.MixEvenRefIdeal.sig) → Buf (Elt Ideal) ℓ) : Prop :=
  True

def Pre_UpOdd (m : (ℓ : Loc Cert.UpOdd.nD Cert.UpOdd.τ Cert.UpOdd.sig) → Buf (Elt Bits) ℓ) : Prop :=
  True

def Pre_UpOddIdeal (m : (ℓ : Loc Cert.UpOddIdeal.nD Cert.UpOddIdeal.τ Cert.UpOddIdeal.sig) → Buf (Elt Ideal) ℓ) : Prop :=
  True

def Pre_UpOddRefIdeal (m : (ℓ : Loc Cert.UpOddRefIdeal.nD Cert.UpOddRefIdeal.τ Cert.UpOddRefIdeal.sig) → Buf (Elt Ideal) ℓ) : Prop :=
  True

def Pre_GateOdd (m : (ℓ : Loc Cert.GateOdd.nD Cert.GateOdd.τ Cert.GateOdd.sig) → Buf (Elt Bits) ℓ) : Prop :=
  True

def Pre_GateOddIdeal (m : (ℓ : Loc Cert.GateOddIdeal.nD Cert.GateOddIdeal.τ Cert.GateOddIdeal.sig) → Buf (Elt Ideal) ℓ) : Prop :=
  True

def Pre_GateOddRefIdeal (m : (ℓ : Loc Cert.GateOddRefIdeal.nD Cert.GateOddRefIdeal.τ Cert.GateOddRefIdeal.sig) → Buf (Elt Ideal) ℓ) : Prop :=
  True

def Pre_BackDown (m : (ℓ : Loc Cert.BackDown.nD Cert.BackDown.τ Cert.BackDown.sig) → Buf (Elt Bits) ℓ) : Prop :=
  True

def Pre_BackDownIdeal (m : (ℓ : Loc Cert.BackDownIdeal.nD Cert.BackDownIdeal.τ Cert.BackDownIdeal.sig) → Buf (Elt Ideal) ℓ) : Prop :=
  True

def Pre_BackDownRefIdeal (m : (ℓ : Loc Cert.BackDownRefIdeal.nD Cert.BackDownRefIdeal.τ Cert.BackDownRefIdeal.sig) → Buf (Elt Ideal) ℓ) : Prop :=
  True

def Pre_BackEven (m : (ℓ : Loc Cert.BackEven.nD Cert.BackEven.τ Cert.BackEven.sig) → Buf (Elt Bits) ℓ) : Prop :=
  True

def Pre_BackEvenIdeal (m : (ℓ : Loc Cert.BackEvenIdeal.nD Cert.BackEvenIdeal.τ Cert.BackEvenIdeal.sig) → Buf (Elt Ideal) ℓ) : Prop :=
  True

def Pre_BackEvenRefIdeal (m : (ℓ : Loc Cert.BackEvenRefIdeal.nD Cert.BackEvenRefIdeal.τ Cert.BackEvenRefIdeal.sig) → Buf (Elt Ideal) ℓ) : Prop :=
  True

def Pre_BackOdd (m : (ℓ : Loc Cert.BackOdd.nD Cert.BackOdd.τ Cert.BackOdd.sig) → Buf (Elt Bits) ℓ) : Prop :=
  True

def Pre_BackOddIdeal (m : (ℓ : Loc Cert.BackOddIdeal.nD Cert.BackOddIdeal.τ Cert.BackOddIdeal.sig) → Buf (Elt Ideal) ℓ) : Prop :=
  True

def Pre_BackOddRefIdeal (m : (ℓ : Loc Cert.BackOddRefIdeal.nD Cert.BackOddRefIdeal.τ Cert.BackOddRefIdeal.sig) → Buf (Elt Ideal) ℓ) : Prop :=
  True

def Pre_BackGate (m : (ℓ : Loc Cert.BackGate.nD Cert.BackGate.τ Cert.BackGate.sig) → Buf (Elt Bits) ℓ) : Prop :=
  True

def Pre_BackGateIdeal (m : (ℓ : Loc Cert.BackGateIdeal.nD Cert.BackGateIdeal.τ Cert.BackGateIdeal.sig) → Buf (Elt Ideal) ℓ) : Prop :=
  True

def Pre_BackGateRefIdeal (m : (ℓ : Loc Cert.BackGateRefIdeal.nD Cert.BackGateRefIdeal.τ Cert.BackGateRefIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondRefIdeal (m : (ℓ : Loc Cert.SecondRefIdeal.nD Cert.SecondRefIdeal.τ Cert.SecondRefIdeal.sig) → Buf (Elt Ideal) ℓ) : Prop :=
  True

def Pre_MixOdd (m : (ℓ : Loc Cert.MixOdd.nD Cert.MixOdd.τ Cert.MixOdd.sig) → Buf (Elt Bits) ℓ) : Prop :=
  True

def Pre_MixOddIdeal (m : (ℓ : Loc Cert.MixOddIdeal.nD Cert.MixOddIdeal.τ Cert.MixOddIdeal.sig) → Buf (Elt Ideal) ℓ) : Prop :=
  True

def Pre_MixOddRefIdeal (m : (ℓ : Loc Cert.MixOddRefIdeal.nD Cert.MixOddRefIdeal.τ Cert.MixOddRefIdeal.sig) → Buf (Elt Ideal) ℓ) : Prop :=
  True

def Pre_BackUp (m : (ℓ : Loc Cert.BackUp.nD Cert.BackUp.τ Cert.BackUp.sig) → Buf (Elt Bits) ℓ) : Prop :=
  True

def Pre_BackUpIdeal (m : (ℓ : Loc Cert.BackUpIdeal.nD Cert.BackUpIdeal.τ Cert.BackUpIdeal.sig) → Buf (Elt Ideal) ℓ) : Prop :=
  True

def Pre_BackUpRefIdeal (m : (ℓ : Loc Cert.BackUpRefIdeal.nD Cert.BackUpRefIdeal.τ Cert.BackUpRefIdeal.sig) → Buf (Elt Ideal) ℓ) : Prop :=
  True

def Pre_BackUpEven (m : (ℓ : Loc Cert.BackUpEven.nD Cert.BackUpEven.τ Cert.BackUpEven.sig) → Buf (Elt Bits) ℓ) : Prop :=
  True

def Pre_BackUpEvenIdeal (m : (ℓ : Loc Cert.BackUpEvenIdeal.nD Cert.BackUpEvenIdeal.τ Cert.BackUpEvenIdeal.sig) → Buf (Elt Ideal) ℓ) : Prop :=
  True

def Pre_BackUpEvenRefIdeal (m : (ℓ : Loc Cert.BackUpEvenRefIdeal.nD Cert.BackUpEvenRefIdeal.τ Cert.BackUpEvenRefIdeal.sig) → Buf (Elt Ideal) ℓ) : Prop :=
  True

def Pre_BackUpOdd (m : (ℓ : Loc Cert.BackUpOdd.nD Cert.BackUpOdd.τ Cert.BackUpOdd.sig) → Buf (Elt Bits) ℓ) : Prop :=
  True

def Pre_BackUpOddIdeal (m : (ℓ : Loc Cert.BackUpOddIdeal.nD Cert.BackUpOddIdeal.τ Cert.BackUpOddIdeal.sig) → Buf (Elt Ideal) ℓ) : Prop :=
  True

def Pre_BackUpOddRefIdeal (m : (ℓ : Loc Cert.BackUpOddRefIdeal.nD Cert.BackUpOddRefIdeal.τ Cert.BackUpOddRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualRefIdeal (m : (ℓ : Loc Cert.ResidualRefIdeal.nD Cert.ResidualRefIdeal.τ Cert.ResidualRefIdeal.sig) → Buf (Elt Ideal) ℓ) : Prop :=
  True

def Pre_Activation (m : (ℓ : Loc Cert.Activation.nD Cert.Activation.τ Cert.Activation.sig) → Buf (Elt Bits) ℓ) : Prop :=
  True

def Pre_ActivationIdeal (m : (ℓ : Loc Cert.ActivationIdeal.nD Cert.ActivationIdeal.τ Cert.ActivationIdeal.sig) → Buf (Elt Ideal) ℓ) : Prop :=
  True

def Pre_ActivationRefIdeal (m : (ℓ : Loc Cert.ActivationRefIdeal.nD Cert.ActivationRefIdeal.τ Cert.ActivationRefIdeal.sig) → Buf (Elt Ideal) ℓ) : Prop :=
  True

def Pre_ActivationBack (m : (ℓ : Loc Cert.ActivationBack.nD Cert.ActivationBack.τ Cert.ActivationBack.sig) → Buf (Elt Bits) ℓ) : Prop :=
  True

def Pre_ActivationBackIdeal (m : (ℓ : Loc Cert.ActivationBackIdeal.nD Cert.ActivationBackIdeal.τ Cert.ActivationBackIdeal.sig) → Buf (Elt Ideal) ℓ) : Prop :=
  True

def Pre_ActivationBackRefIdeal (m : (ℓ : Loc Cert.ActivationBackRefIdeal.nD Cert.ActivationBackRefIdeal.τ Cert.ActivationBackRefIdeal.sig) → Buf (Elt Ideal) ℓ) : Prop :=
  True

def Pre_ResidualBack (m : (ℓ : Loc Cert.ResidualBack.nD Cert.ResidualBack.τ Cert.ResidualBack.sig) → Buf (Elt Bits) ℓ) : Prop :=
  True

def Pre_ResidualBackIdeal (m : (ℓ : Loc Cert.ResidualBackIdeal.nD Cert.ResidualBackIdeal.τ Cert.ResidualBackIdeal.sig) → Buf (Elt Ideal) ℓ) : Prop :=
  True

def Pre_ResidualBackRefIdeal (m : (ℓ : Loc Cert.ResidualBackRefIdeal.nD Cert.ResidualBackRefIdeal.τ Cert.ResidualBackRefIdeal.sig) → Buf (Elt Ideal) ℓ) : Prop :=
  True

def Pre_ReadEven (m : (ℓ : Loc Cert.ReadEven.nD Cert.ReadEven.τ Cert.ReadEven.sig) → Buf (Elt Bits) ℓ) : Prop :=
  True

def Pre_ReadEvenIdeal (m : (ℓ : Loc Cert.ReadEvenIdeal.nD Cert.ReadEvenIdeal.τ Cert.ReadEvenIdeal.sig) → Buf (Elt Ideal) ℓ) : Prop :=
  True

def Pre_ReadEvenRefIdeal (m : (ℓ : Loc Cert.ReadEvenRefIdeal.nD Cert.ReadEvenRefIdeal.τ Cert.ReadEvenRefIdeal.sig) → Buf (Elt Ideal) ℓ) : Prop :=
  True

def Pre_ReadOdd (m : (ℓ : Loc Cert.ReadOdd.nD Cert.ReadOdd.τ Cert.ReadOdd.sig) → Buf (Elt Bits) ℓ) : Prop :=
  True

def Pre_ReadOddIdeal (m : (ℓ : Loc Cert.ReadOddIdeal.nD Cert.ReadOddIdeal.τ Cert.ReadOddIdeal.sig) → Buf (Elt Ideal) ℓ) : Prop :=
  True

def Pre_ReadOddRefIdeal (m : (ℓ : Loc Cert.ReadOddRefIdeal.nD Cert.ReadOddRefIdeal.τ Cert.ReadOddRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0))
      ∧ r.2.sem = fun _ => 0)

def quiescent_ChipsRef [hChipsRef : Cert.ChipsRef.Facts] : Prop :=
  ∀ (m : (ℓ : Loc Cert.ChipsRef.nD Cert.ChipsRef.τ Cert.ChipsRef.sig) → Buf (Elt Bits) ℓ) (g : Dev Cert.ChipsRef.nD → PrngReg), Pre_ChipsRef m →
    θ_run (Cert.ChipsRef.defs (F := Bits)) (onTc (τ := Cert.ChipsRef.τ) (Cert.ChipsRef.main (F := Bits))) ⟨m, fun _ => 0, g⟩ (fun r => (∀ c : Dev Cert.ChipsRef.nD,
      r.2.mem ((c.tc : Thread Cert.ChipsRef.nD Cert.ChipsRef.τ).loc Cert.ChipsRef.main_arg0) = m ((c.tc : Thread Cert.ChipsRef.nD Cert.ChipsRef.τ).loc Cert.ChipsRef.main_arg0))
      ∧ r.2.sem = fun _ => 0)

def quiescent_Cores [hCores : Cert.Cores.Facts] : Prop :=
  ∀ (m : (ℓ : Loc Cert.Cores.nD Cert.Cores.τ Cert.Cores.sig) → Buf (Elt Bits) ℓ) (g : Dev Cert.Cores.nD → PrngReg), Pre_Cores m →
    θ_run (Cert.Cores.defs (F := Bits)) (onTc (τ := Cert.Cores.τ) (Cert.Cores.main (F := Bits))) ⟨m, fun _ => 0, g⟩ (fun r => (∀ c : Dev Cert.Cores.nD,
      r.2.mem ((c.tc : Thread Cert.Cores.nD Cert.Cores.τ).loc Cert.Cores.main_arg0) = m ((c.tc : Thread Cert.Cores.nD Cert.Cores.τ).loc Cert.Cores.main_arg0)
      ∧ r.2.mem ((c.tc : Thread Cert.Cores.nD Cert.Cores.τ).loc Cert.Cores.main_arg1) = m ((c.tc : Thread Cert.Cores.nD Cert.Cores.τ).loc Cert.Cores.main_arg1))
      ∧ r.2.sem = fun _ => 0)

def quiescent_CoresIdeal [hCoresIdeal : Cert.CoresIdeal.Facts] : Prop :=
  ∀ (m : (ℓ : Loc Cert.CoresIdeal.nD Cert.CoresIdeal.τ Cert.CoresIdeal.sig) → Buf (Elt Ideal) ℓ) (g : Dev Cert.CoresIdeal.nD → PrngReg), Pre_CoresIdeal m →
    θ_run (Cert.CoresIdeal.defs (F := Ideal)) (onTc (τ := Cert.CoresIdeal.τ) (Cert.CoresIdeal.main (F := Ideal))) ⟨m, fun _ => 0, g⟩ (fun r => (∀ c : Dev Cert.CoresIdeal.nD,
      r.2.mem ((c.tc : Thread Cert.CoresIdeal.nD Cert.CoresIdeal.τ).loc Cert.CoresIdeal.main_arg0) = m ((c.tc : Thread Cert.CoresIdeal.nD Cert.CoresIdeal.τ).loc Cert.CoresIdeal.main_arg0)
      ∧ r.2.mem ((c.tc : Thread Cert.CoresIdeal.nD Cert.CoresIdeal.τ).loc Cert.CoresIdeal.main_arg1) = m ((c.tc : Thread Cert.CoresIdeal.nD Cert.CoresIdeal.τ).loc Cert.CoresIdeal.main_arg1))
      ∧ r.2.sem = fun _ => 0)

def quiescent_CoresRefIdeal [hCoresRefIdeal : Cert.CoresRefIdeal.Facts] : Prop :=
  ∀ (m : (ℓ : Loc Cert.CoresRefIdeal.nD Cert.CoresRefIdeal.τ Cert.CoresRefIdeal.sig) → Buf (Elt Ideal) ℓ) (g : Dev Cert.CoresRefIdeal.nD → PrngReg), Pre_CoresRefIdeal m →
    θ_run (Cert.CoresRefIdeal.defs (F := Ideal)) (onTc (τ := Cert.CoresRefIdeal.τ) (Cert.CoresRefIdeal.main (F := Ideal))) ⟨m, fun _ => 0, g⟩ (fun r => (∀ c : Dev Cert.CoresRefIdeal.nD,
      r.2.mem ((c.tc : Thread Cert.CoresRefIdeal.nD Cert.CoresRefIdeal.τ).loc Cert.CoresRefIdeal.main_arg0) = m ((c.tc : Thread Cert.CoresRefIdeal.nD Cert.CoresRefIdeal.τ).loc Cert.CoresRefIdeal.main_arg0)
      ∧ r.2.mem ((c.tc : Thread Cert.CoresRefIdeal.nD Cert.CoresRefIdeal.τ).loc Cert.CoresRefIdeal.main_arg1) = m ((c.tc : Thread Cert.CoresRefIdeal.nD Cert.CoresRefIdeal.τ).loc Cert.CoresRefIdeal.main_arg1))
      ∧ r.2.sem = fun _ => 0)

def quiescent_CoresRef [hCoresRef : Cert.CoresRef.Facts] : Prop :=
  ∀ (m : (ℓ : Loc Cert.CoresRef.nD Cert.CoresRef.τ Cert.CoresRef.sig) → Buf (Elt Bits) ℓ) (g : Dev Cert.CoresRef.nD → PrngReg), Pre_CoresRef m →
    θ_run (Cert.CoresRef.defs (F := Bits)) (onTc (τ := Cert.CoresRef.τ) (Cert.CoresRef.main (F := Bits))) ⟨m, fun _ => 0, g⟩ (fun r => (∀ c : Dev Cert.CoresRef.nD,
      r.2.mem ((c.tc : Thread Cert.CoresRef.nD Cert.CoresRef.τ).loc Cert.CoresRef.main_arg0) = m ((c.tc : Thread Cert.CoresRef.nD Cert.CoresRef.τ).loc Cert.CoresRef.main_arg0)
      ∧ r.2.mem ((c.tc : Thread Cert.CoresRef.nD Cert.CoresRef.τ).loc Cert.CoresRef.main_arg1) = m ((c.tc : Thread Cert.CoresRef.nD Cert.CoresRef.τ).loc Cert.CoresRef.main_arg1))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0))
      ∧ r.2.sem = fun _ => 0)

def quiescent_SmallRef [hSmallRef : Cert.SmallRef.Facts] : Prop :=
  ∀ (m : (ℓ : Loc Cert.SmallRef.nD Cert.SmallRef.τ Cert.SmallRef.sig) → Buf (Elt Bits) ℓ) (g : Dev Cert.SmallRef.nD → PrngReg), Pre_SmallRef m →
    θ_run (Cert.SmallRef.defs (F := Bits)) (onTc (τ := Cert.SmallRef.τ) (Cert.SmallRef.main (F := Bits))) ⟨m, fun _ => 0, g⟩ (fun r => (∀ c : Dev Cert.SmallRef.nD,
      r.2.mem ((c.tc : Thread Cert.SmallRef.nD Cert.SmallRef.τ).loc Cert.SmallRef.main_arg0) = m ((c.tc : Thread Cert.SmallRef.nD Cert.SmallRef.τ).loc Cert.SmallRef.main_arg0))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ r.2.sem = fun _ => 0)

def quiescent_UpdateRefIdeal [hUpdateRefIdeal : Cert.UpdateRefIdeal.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_OddGate [hOddGate : Cert.OddGate.Facts] : Prop :=
  ∀ (m : (ℓ : Loc Cert.OddGate.nD Cert.OddGate.τ Cert.OddGate.sig) → Buf (Elt Bits) ℓ) (g : Dev Cert.OddGate.nD → PrngReg), Pre_OddGate m →
    θ_run (Cert.OddGate.defs (F := Bits)) (onTc (τ := Cert.OddGate.τ) (Cert.OddGate.main (F := Bits))) ⟨m, fun _ => 0, g⟩ (fun r => (∀ c : Dev Cert.OddGate.nD,
      r.2.mem ((c.tc : Thread Cert.OddGate.nD Cert.OddGate.τ).loc Cert.OddGate.main_arg0) = m ((c.tc : Thread Cert.OddGate.nD Cert.OddGate.τ).loc Cert.OddGate.main_arg0)
      ∧ r.2.mem ((c.tc : Thread Cert.OddGate.nD Cert.OddGate.τ).loc Cert.OddGate.main_arg1) = m ((c.tc : Thread Cert.OddGate.nD Cert.OddGate.τ).loc Cert.OddGate.main_arg1))
      ∧ r.2.sem = fun _ => 0)

def quiescent_OddGateIdeal [hOddGateIdeal : Cert.OddGateIdeal.Facts] : Prop :=
  ∀ (m : (ℓ : Loc Cert.OddGateIdeal.nD Cert.OddGateIdeal.τ Cert.OddGateIdeal.sig) → Buf (Elt Ideal) ℓ) (g : Dev Cert.OddGateIdeal.nD → PrngReg), Pre_OddGateIdeal m →
    θ_run (Cert.OddGateIdeal.defs (F := Ideal)) (onTc (τ := Cert.OddGateIdeal.τ) (Cert.OddGateIdeal.main (F := Ideal))) ⟨m, fun _ => 0, g⟩ (fun r => (∀ c : Dev Cert.OddGateIdeal.nD,
      r.2.mem ((c.tc : Thread Cert.OddGateIdeal.nD Cert.OddGateIdeal.τ).loc Cert.OddGateIdeal.main_arg0) = m ((c.tc : Thread Cert.OddGateIdeal.nD Cert.OddGateIdeal.τ).loc Cert.OddGateIdeal.main_arg0)
      ∧ r.2.mem ((c.tc : Thread Cert.OddGateIdeal.nD Cert.OddGateIdeal.τ).loc Cert.OddGateIdeal.main_arg1) = m ((c.tc : Thread Cert.OddGateIdeal.nD Cert.OddGateIdeal.τ).loc Cert.OddGateIdeal.main_arg1))
      ∧ r.2.sem = fun _ => 0)

def quiescent_OddGateRefIdeal [hOddGateRefIdeal : Cert.OddGateRefIdeal.Facts] : Prop :=
  ∀ (m : (ℓ : Loc Cert.OddGateRefIdeal.nD Cert.OddGateRefIdeal.τ Cert.OddGateRefIdeal.sig) → Buf (Elt Ideal) ℓ) (g : Dev Cert.OddGateRefIdeal.nD → PrngReg), Pre_OddGateRefIdeal m →
    θ_run (Cert.OddGateRefIdeal.defs (F := Ideal)) (onTc (τ := Cert.OddGateRefIdeal.τ) (Cert.OddGateRefIdeal.main (F := Ideal))) ⟨m, fun _ => 0, g⟩ (fun r => (∀ c : Dev Cert.OddGateRefIdeal.nD,
      r.2.mem ((c.tc : Thread Cert.OddGateRefIdeal.nD Cert.OddGateRefIdeal.τ).loc Cert.OddGateRefIdeal.main_arg0) = m ((c.tc : Thread Cert.OddGateRefIdeal.nD Cert.OddGateRefIdeal.τ).loc Cert.OddGateRefIdeal.main_arg0)
      ∧ r.2.mem ((c.tc : Thread Cert.OddGateRefIdeal.nD Cert.OddGateRefIdeal.τ).loc Cert.OddGateRefIdeal.main_arg1) = m ((c.tc : Thread Cert.OddGateRefIdeal.nD Cert.OddGateRefIdeal.τ).loc Cert.OddGateRefIdeal.main_arg1))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1))
      ∧ r.2.sem = fun _ => 0)

def quiescent_Pieces [hPieces : Cert.Pieces.Facts] : Prop :=
  ∀ (m : (ℓ : Loc Cert.Pieces.nD Cert.Pieces.τ Cert.Pieces.sig) → Buf (Elt Bits) ℓ) (g : Dev Cert.Pieces.nD → PrngReg), Pre_Pieces m →
    θ_run (Cert.Pieces.defs (F := Bits)) (onTc (τ := Cert.Pieces.τ) (Cert.Pieces.main (F := Bits))) ⟨m, fun _ => 0, g⟩ (fun r => (∀ c : Dev Cert.Pieces.nD,
      r.2.mem ((c.tc : Thread Cert.Pieces.nD Cert.Pieces.τ).loc Cert.Pieces.main_arg0) = m ((c.tc : Thread Cert.Pieces.nD Cert.Pieces.τ).loc Cert.Pieces.main_arg0))
      ∧ r.2.sem = fun _ => 0)

def quiescent_PiecesIdeal [hPiecesIdeal : Cert.PiecesIdeal.Facts] : Prop :=
  ∀ (m : (ℓ : Loc Cert.PiecesIdeal.nD Cert.PiecesIdeal.τ Cert.PiecesIdeal.sig) → Buf (Elt Ideal) ℓ) (g : Dev Cert.PiecesIdeal.nD → PrngReg), Pre_PiecesIdeal m →
    θ_run (Cert.PiecesIdeal.defs (F := Ideal)) (onTc (τ := Cert.PiecesIdeal.τ) (Cert.PiecesIdeal.main (F := Ideal))) ⟨m, fun _ => 0, g⟩ (fun r => (∀ c : Dev Cert.PiecesIdeal.nD,
      r.2.mem ((c.tc : Thread Cert.PiecesIdeal.nD Cert.PiecesIdeal.τ).loc Cert.PiecesIdeal.main_arg0) = m ((c.tc : Thread Cert.PiecesIdeal.nD Cert.PiecesIdeal.τ).loc Cert.PiecesIdeal.main_arg0))
      ∧ r.2.sem = fun _ => 0)

def quiescent_PiecesRefIdeal [hPiecesRefIdeal : Cert.PiecesRefIdeal.Facts] : Prop :=
  ∀ (m : (ℓ : Loc Cert.PiecesRefIdeal.nD Cert.PiecesRefIdeal.τ Cert.PiecesRefIdeal.sig) → Buf (Elt Ideal) ℓ) (g : Dev Cert.PiecesRefIdeal.nD → PrngReg), Pre_PiecesRefIdeal m →
    θ_run (Cert.PiecesRefIdeal.defs (F := Ideal)) (onTc (τ := Cert.PiecesRefIdeal.τ) (Cert.PiecesRefIdeal.main (F := Ideal))) ⟨m, fun _ => 0, g⟩ (fun r => (∀ c : Dev Cert.PiecesRefIdeal.nD,
      r.2.mem ((c.tc : Thread Cert.PiecesRefIdeal.nD Cert.PiecesRefIdeal.τ).loc Cert.PiecesRefIdeal.main_arg0) = m ((c.tc : Thread Cert.PiecesRefIdeal.nD Cert.PiecesRefIdeal.τ).loc Cert.PiecesRefIdeal.main_arg0))
      ∧ r.2.sem = fun _ => 0)

def quiescent_PiecesRef [hPiecesRef : Cert.PiecesRef.Facts] : Prop :=
  ∀ (m : (ℓ : Loc Cert.PiecesRef.nD Cert.PiecesRef.τ Cert.PiecesRef.sig) → Buf (Elt Bits) ℓ) (g : Dev Cert.PiecesRef.nD → PrngReg), Pre_PiecesRef m →
    θ_run (Cert.PiecesRef.defs (F := Bits)) (onTc (τ := Cert.PiecesRef.τ) (Cert.PiecesRef.main (F := Bits))) ⟨m, fun _ => 0, g⟩ (fun r => (∀ c : Dev Cert.PiecesRef.nD,
      r.2.mem ((c.tc : Thread Cert.PiecesRef.nD Cert.PiecesRef.τ).loc Cert.PiecesRef.main_arg0) = m ((c.tc : Thread Cert.PiecesRef.nD Cert.PiecesRef.τ).loc Cert.PiecesRef.main_arg0))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0))
      ∧ r.2.sem = fun _ => 0)

def quiescent_ModsRef [hModsRef : Cert.ModsRef.Facts] : Prop :=
  ∀ (m : (ℓ : Loc Cert.ModsRef.nD Cert.ModsRef.τ Cert.ModsRef.sig) → Buf (Elt Bits) ℓ) (g : Dev Cert.ModsRef.nD → PrngReg), Pre_ModsRef m →
    θ_run (Cert.ModsRef.defs (F := Bits)) (onTc (τ := Cert.ModsRef.τ) (Cert.ModsRef.main (F := Bits))) ⟨m, fun _ => 0, g⟩ (fun r => (∀ c : Dev Cert.ModsRef.nD,
      r.2.mem ((c.tc : Thread Cert.ModsRef.nD Cert.ModsRef.τ).loc Cert.ModsRef.main_arg0) = m ((c.tc : Thread Cert.ModsRef.nD Cert.ModsRef.τ).loc Cert.ModsRef.main_arg0))
      ∧ r.2.sem = fun _ => 0)

def quiescent_Slopes [hSlopes : Cert.Slopes.Facts] : Prop :=
  ∀ (m : (ℓ : Loc Cert.Slopes.nD Cert.Slopes.τ Cert.Slopes.sig) → Buf (Elt Bits) ℓ) (g : Dev Cert.Slopes.nD → PrngReg), Pre_Slopes m →
    θ_run (Cert.Slopes.defs (F := Bits)) (onTc (τ := Cert.Slopes.τ) (Cert.Slopes.main (F := Bits))) ⟨m, fun _ => 0, g⟩ (fun r => (∀ c : Dev Cert.Slopes.nD,
      r.2.mem ((c.tc : Thread Cert.Slopes.nD Cert.Slopes.τ).loc Cert.Slopes.main_arg0) = m ((c.tc : Thread Cert.Slopes.nD Cert.Slopes.τ).loc Cert.Slopes.main_arg0))
      ∧ r.2.sem = fun _ => 0)

def quiescent_SlopesIdeal [hSlopesIdeal : Cert.SlopesIdeal.Facts] : Prop :=
  ∀ (m : (ℓ : Loc Cert.SlopesIdeal.nD Cert.SlopesIdeal.τ Cert.SlopesIdeal.sig) → Buf (Elt Ideal) ℓ) (g : Dev Cert.SlopesIdeal.nD → PrngReg), Pre_SlopesIdeal m →
    θ_run (Cert.SlopesIdeal.defs (F := Ideal)) (onTc (τ := Cert.SlopesIdeal.τ) (Cert.SlopesIdeal.main (F := Ideal))) ⟨m, fun _ => 0, g⟩ (fun r => (∀ c : Dev Cert.SlopesIdeal.nD,
      r.2.mem ((c.tc : Thread Cert.SlopesIdeal.nD Cert.SlopesIdeal.τ).loc Cert.SlopesIdeal.main_arg0) = m ((c.tc : Thread Cert.SlopesIdeal.nD Cert.SlopesIdeal.τ).loc Cert.SlopesIdeal.main_arg0))
      ∧ r.2.sem = fun _ => 0)

def quiescent_SlopesRefIdeal [hSlopesRefIdeal : Cert.SlopesRefIdeal.Facts] : Prop :=
  ∀ (m : (ℓ : Loc Cert.SlopesRefIdeal.nD Cert.SlopesRefIdeal.τ Cert.SlopesRefIdeal.sig) → Buf (Elt Ideal) ℓ) (g : Dev Cert.SlopesRefIdeal.nD → PrngReg), Pre_SlopesRefIdeal m →
    θ_run (Cert.SlopesRefIdeal.defs (F := Ideal)) (onTc (τ := Cert.SlopesRefIdeal.τ) (Cert.SlopesRefIdeal.main (F := Ideal))) ⟨m, fun _ => 0, g⟩ (fun r => (∀ c : Dev Cert.SlopesRefIdeal.nD,
      r.2.mem ((c.tc : Thread Cert.SlopesRefIdeal.nD Cert.SlopesRefIdeal.τ).loc Cert.SlopesRefIdeal.main_arg0) = m ((c.tc : Thread Cert.SlopesRefIdeal.nD Cert.SlopesRefIdeal.τ).loc Cert.SlopesRefIdeal.main_arg0))
      ∧ r.2.sem = fun _ => 0)

def quiescent_SlopesRef [hSlopesRef : Cert.SlopesRef.Facts] : Prop :=
  ∀ (m : (ℓ : Loc Cert.SlopesRef.nD Cert.SlopesRef.τ Cert.SlopesRef.sig) → Buf (Elt Bits) ℓ) (g : Dev Cert.SlopesRef.nD → PrngReg), Pre_SlopesRef m →
    θ_run (Cert.SlopesRef.defs (F := Bits)) (onTc (τ := Cert.SlopesRef.τ) (Cert.SlopesRef.main (F := Bits))) ⟨m, fun _ => 0, g⟩ (fun r => (∀ c : Dev Cert.SlopesRef.nD,
      r.2.mem ((c.tc : Thread Cert.SlopesRef.nD Cert.SlopesRef.τ).loc Cert.SlopesRef.main_arg0) = m ((c.tc : Thread Cert.SlopesRef.nD Cert.SlopesRef.τ).loc Cert.SlopesRef.main_arg0))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpEven [hUpEven : Cert.UpEven.Facts] : Prop :=
  ∀ (m : (ℓ : Loc Cert.UpEven.nD Cert.UpEven.τ Cert.UpEven.sig) → Buf (Elt Bits) ℓ) (g : Dev Cert.UpEven.nD → PrngReg), Pre_UpEven m →
    θ_run (Cert.UpEven.defs (F := Bits)) (onTc (τ := Cert.UpEven.τ) (Cert.UpEven.main (F := Bits))) ⟨m, fun _ => 0, g⟩ (fun r => (∀ c : Dev Cert.UpEven.nD,
      r.2.mem ((c.tc : Thread Cert.UpEven.nD Cert.UpEven.τ).loc Cert.UpEven.main_arg0) = m ((c.tc : Thread Cert.UpEven.nD Cert.UpEven.τ).loc Cert.UpEven.main_arg0)
      ∧ r.2.mem ((c.tc : Thread Cert.UpEven.nD Cert.UpEven.τ).loc Cert.UpEven.main_arg1) = m ((c.tc : Thread Cert.UpEven.nD Cert.UpEven.τ).loc Cert.UpEven.main_arg1))
      ∧ r.2.sem = fun _ => 0)

def quiescent_UpEvenIdeal [hUpEvenIdeal : Cert.UpEvenIdeal.Facts] : Prop :=
  ∀ (m : (ℓ : Loc Cert.UpEvenIdeal.nD Cert.UpEvenIdeal.τ Cert.UpEvenIdeal.sig) → Buf (Elt Ideal) ℓ) (g : Dev Cert.UpEvenIdeal.nD → PrngReg), Pre_UpEvenIdeal m →
    θ_run (Cert.UpEvenIdeal.defs (F := Ideal)) (onTc (τ := Cert.UpEvenIdeal.τ) (Cert.UpEvenIdeal.main (F := Ideal))) ⟨m, fun _ => 0, g⟩ (fun r => (∀ c : Dev Cert.UpEvenIdeal.nD,
      r.2.mem ((c.tc : Thread Cert.UpEvenIdeal.nD Cert.UpEvenIdeal.τ).loc Cert.UpEvenIdeal.main_arg0) = m ((c.tc : Thread Cert.UpEvenIdeal.nD Cert.UpEvenIdeal.τ).loc Cert.UpEvenIdeal.main_arg0)
      ∧ r.2.mem ((c.tc : Thread Cert.UpEvenIdeal.nD Cert.UpEvenIdeal.τ).loc Cert.UpEvenIdeal.main_arg1) = m ((c.tc : Thread Cert.UpEvenIdeal.nD Cert.UpEvenIdeal.τ).loc Cert.UpEvenIdeal.main_arg1))
      ∧ r.2.sem = fun _ => 0)

def quiescent_UpEvenRefIdeal [hUpEvenRefIdeal : Cert.UpEvenRefIdeal.Facts] : Prop :=
  ∀ (m : (ℓ : Loc Cert.UpEvenRefIdeal.nD Cert.UpEvenRefIdeal.τ Cert.UpEvenRefIdeal.sig) → Buf (Elt Ideal) ℓ) (g : Dev Cert.UpEvenRefIdeal.nD → PrngReg), Pre_UpEvenRefIdeal m →
    θ_run (Cert.UpEvenRefIdeal.defs (F := Ideal)) (onTc (τ := Cert.UpEvenRefIdeal.τ) (Cert.UpEvenRefIdeal.main (F := Ideal))) ⟨m, fun _ => 0, g⟩ (fun r => (∀ c : Dev Cert.UpEvenRefIdeal.nD,
      r.2.mem ((c.tc : Thread Cert.UpEvenRefIdeal.nD Cert.UpEvenRefIdeal.τ).loc Cert.UpEvenRefIdeal.main_arg0) = m ((c.tc : Thread Cert.UpEvenRefIdeal.nD Cert.UpEvenRefIdeal.τ).loc Cert.UpEvenRefIdeal.main_arg0)
      ∧ r.2.mem ((c.tc : Thread Cert.UpEvenRefIdeal.nD Cert.UpEvenRefIdeal.τ).loc Cert.UpEvenRefIdeal.main_arg1) = m ((c.tc : Thread Cert.UpEvenRefIdeal.nD Cert.UpEvenRefIdeal.τ).loc Cert.UpEvenRefIdeal.main_arg1))
      ∧ r.2.sem = fun _ => 0)

def quiescent_MixEven [hMixEven : Cert.MixEven.Facts] : Prop :=
  ∀ (m : (ℓ : Loc Cert.MixEven.nD Cert.MixEven.τ Cert.MixEven.sig) → Buf (Elt Bits) ℓ) (g : Dev Cert.MixEven.nD → PrngReg), Pre_MixEven m →
    θ_run (Cert.MixEven.defs (F := Bits)) (onTc (τ := Cert.MixEven.τ) (Cert.MixEven.main (F := Bits))) ⟨m, fun _ => 0, g⟩ (fun r => (∀ c : Dev Cert.MixEven.nD,
      r.2.mem ((c.tc : Thread Cert.MixEven.nD Cert.MixEven.τ).loc Cert.MixEven.main_arg0) = m ((c.tc : Thread Cert.MixEven.nD Cert.MixEven.τ).loc Cert.MixEven.main_arg0)
      ∧ r.2.mem ((c.tc : Thread Cert.MixEven.nD Cert.MixEven.τ).loc Cert.MixEven.main_arg1) = m ((c.tc : Thread Cert.MixEven.nD Cert.MixEven.τ).loc Cert.MixEven.main_arg1))
      ∧ r.2.sem = fun _ => 0)

def quiescent_MixEvenIdeal [hMixEvenIdeal : Cert.MixEvenIdeal.Facts] : Prop :=
  ∀ (m : (ℓ : Loc Cert.MixEvenIdeal.nD Cert.MixEvenIdeal.τ Cert.MixEvenIdeal.sig) → Buf (Elt Ideal) ℓ) (g : Dev Cert.MixEvenIdeal.nD → PrngReg), Pre_MixEvenIdeal m →
    θ_run (Cert.MixEvenIdeal.defs (F := Ideal)) (onTc (τ := Cert.MixEvenIdeal.τ) (Cert.MixEvenIdeal.main (F := Ideal))) ⟨m, fun _ => 0, g⟩ (fun r => (∀ c : Dev Cert.MixEvenIdeal.nD,
      r.2.mem ((c.tc : Thread Cert.MixEvenIdeal.nD Cert.MixEvenIdeal.τ).loc Cert.MixEvenIdeal.main_arg0) = m ((c.tc : Thread Cert.MixEvenIdeal.nD Cert.MixEvenIdeal.τ).loc Cert.MixEvenIdeal.main_arg0)
      ∧ r.2.mem ((c.tc : Thread Cert.MixEvenIdeal.nD Cert.MixEvenIdeal.τ).loc Cert.MixEvenIdeal.main_arg1) = m ((c.tc : Thread Cert.MixEvenIdeal.nD Cert.MixEvenIdeal.τ).loc Cert.MixEvenIdeal.main_arg1))
      ∧ r.2.sem = fun _ => 0)

def quiescent_MixEvenRefIdeal [hMixEvenRefIdeal : Cert.MixEvenRefIdeal.Facts] : Prop :=
  ∀ (m : (ℓ : Loc Cert.MixEvenRefIdeal.nD Cert.MixEvenRefIdeal.τ Cert.MixEvenRefIdeal.sig) → Buf (Elt Ideal) ℓ) (g : Dev Cert.MixEvenRefIdeal.nD → PrngReg), Pre_MixEvenRefIdeal m →
    θ_run (Cert.MixEvenRefIdeal.defs (F := Ideal)) (onTc (τ := Cert.MixEvenRefIdeal.τ) (Cert.MixEvenRefIdeal.main (F := Ideal))) ⟨m, fun _ => 0, g⟩ (fun r => (∀ c : Dev Cert.MixEvenRefIdeal.nD,
      r.2.mem ((c.tc : Thread Cert.MixEvenRefIdeal.nD Cert.MixEvenRefIdeal.τ).loc Cert.MixEvenRefIdeal.main_arg0) = m ((c.tc : Thread Cert.MixEvenRefIdeal.nD Cert.MixEvenRefIdeal.τ).loc Cert.MixEvenRefIdeal.main_arg0)
      ∧ r.2.mem ((c.tc : Thread Cert.MixEvenRefIdeal.nD Cert.MixEvenRefIdeal.τ).loc Cert.MixEvenRefIdeal.main_arg1) = m ((c.tc : Thread Cert.MixEvenRefIdeal.nD Cert.MixEvenRefIdeal.τ).loc Cert.MixEvenRefIdeal.main_arg1))
      ∧ r.2.sem = fun _ => 0)

def quiescent_UpOdd [hUpOdd : Cert.UpOdd.Facts] : Prop :=
  ∀ (m : (ℓ : Loc Cert.UpOdd.nD Cert.UpOdd.τ Cert.UpOdd.sig) → Buf (Elt Bits) ℓ) (g : Dev Cert.UpOdd.nD → PrngReg), Pre_UpOdd m →
    θ_run (Cert.UpOdd.defs (F := Bits)) (onTc (τ := Cert.UpOdd.τ) (Cert.UpOdd.main (F := Bits))) ⟨m, fun _ => 0, g⟩ (fun r => (∀ c : Dev Cert.UpOdd.nD,
      r.2.mem ((c.tc : Thread Cert.UpOdd.nD Cert.UpOdd.τ).loc Cert.UpOdd.main_arg0) = m ((c.tc : Thread Cert.UpOdd.nD Cert.UpOdd.τ).loc Cert.UpOdd.main_arg0)
      ∧ r.2.mem ((c.tc : Thread Cert.UpOdd.nD Cert.UpOdd.τ).loc Cert.UpOdd.main_arg1) = m ((c.tc : Thread Cert.UpOdd.nD Cert.UpOdd.τ).loc Cert.UpOdd.main_arg1))
      ∧ r.2.sem = fun _ => 0)

def quiescent_UpOddIdeal [hUpOddIdeal : Cert.UpOddIdeal.Facts] : Prop :=
  ∀ (m : (ℓ : Loc Cert.UpOddIdeal.nD Cert.UpOddIdeal.τ Cert.UpOddIdeal.sig) → Buf (Elt Ideal) ℓ) (g : Dev Cert.UpOddIdeal.nD → PrngReg), Pre_UpOddIdeal m →
    θ_run (Cert.UpOddIdeal.defs (F := Ideal)) (onTc (τ := Cert.UpOddIdeal.τ) (Cert.UpOddIdeal.main (F := Ideal))) ⟨m, fun _ => 0, g⟩ (fun r => (∀ c : Dev Cert.UpOddIdeal.nD,
      r.2.mem ((c.tc : Thread Cert.UpOddIdeal.nD Cert.UpOddIdeal.τ).loc Cert.UpOddIdeal.main_arg0) = m ((c.tc : Thread Cert.UpOddIdeal.nD Cert.UpOddIdeal.τ).loc Cert.UpOddIdeal.main_arg0)
      ∧ r.2.mem ((c.tc : Thread Cert.UpOddIdeal.nD Cert.UpOddIdeal.τ).loc Cert.UpOddIdeal.main_arg1) = m ((c.tc : Thread Cert.UpOddIdeal.nD Cert.UpOddIdeal.τ).loc Cert.UpOddIdeal.main_arg1))
      ∧ r.2.sem = fun _ => 0)

def quiescent_UpOddRefIdeal [hUpOddRefIdeal : Cert.UpOddRefIdeal.Facts] : Prop :=
  ∀ (m : (ℓ : Loc Cert.UpOddRefIdeal.nD Cert.UpOddRefIdeal.τ Cert.UpOddRefIdeal.sig) → Buf (Elt Ideal) ℓ) (g : Dev Cert.UpOddRefIdeal.nD → PrngReg), Pre_UpOddRefIdeal m →
    θ_run (Cert.UpOddRefIdeal.defs (F := Ideal)) (onTc (τ := Cert.UpOddRefIdeal.τ) (Cert.UpOddRefIdeal.main (F := Ideal))) ⟨m, fun _ => 0, g⟩ (fun r => (∀ c : Dev Cert.UpOddRefIdeal.nD,
      r.2.mem ((c.tc : Thread Cert.UpOddRefIdeal.nD Cert.UpOddRefIdeal.τ).loc Cert.UpOddRefIdeal.main_arg0) = m ((c.tc : Thread Cert.UpOddRefIdeal.nD Cert.UpOddRefIdeal.τ).loc Cert.UpOddRefIdeal.main_arg0)
      ∧ r.2.mem ((c.tc : Thread Cert.UpOddRefIdeal.nD Cert.UpOddRefIdeal.τ).loc Cert.UpOddRefIdeal.main_arg1) = m ((c.tc : Thread Cert.UpOddRefIdeal.nD Cert.UpOddRefIdeal.τ).loc Cert.UpOddRefIdeal.main_arg1))
      ∧ r.2.sem = fun _ => 0)

def quiescent_GateOdd [hGateOdd : Cert.GateOdd.Facts] : Prop :=
  ∀ (m : (ℓ : Loc Cert.GateOdd.nD Cert.GateOdd.τ Cert.GateOdd.sig) → Buf (Elt Bits) ℓ) (g : Dev Cert.GateOdd.nD → PrngReg), Pre_GateOdd m →
    θ_run (Cert.GateOdd.defs (F := Bits)) (onTc (τ := Cert.GateOdd.τ) (Cert.GateOdd.main (F := Bits))) ⟨m, fun _ => 0, g⟩ (fun r => (∀ c : Dev Cert.GateOdd.nD,
      r.2.mem ((c.tc : Thread Cert.GateOdd.nD Cert.GateOdd.τ).loc Cert.GateOdd.main_arg0) = m ((c.tc : Thread Cert.GateOdd.nD Cert.GateOdd.τ).loc Cert.GateOdd.main_arg0)
      ∧ r.2.mem ((c.tc : Thread Cert.GateOdd.nD Cert.GateOdd.τ).loc Cert.GateOdd.main_arg1) = m ((c.tc : Thread Cert.GateOdd.nD Cert.GateOdd.τ).loc Cert.GateOdd.main_arg1))
      ∧ r.2.sem = fun _ => 0)

def quiescent_GateOddIdeal [hGateOddIdeal : Cert.GateOddIdeal.Facts] : Prop :=
  ∀ (m : (ℓ : Loc Cert.GateOddIdeal.nD Cert.GateOddIdeal.τ Cert.GateOddIdeal.sig) → Buf (Elt Ideal) ℓ) (g : Dev Cert.GateOddIdeal.nD → PrngReg), Pre_GateOddIdeal m →
    θ_run (Cert.GateOddIdeal.defs (F := Ideal)) (onTc (τ := Cert.GateOddIdeal.τ) (Cert.GateOddIdeal.main (F := Ideal))) ⟨m, fun _ => 0, g⟩ (fun r => (∀ c : Dev Cert.GateOddIdeal.nD,
      r.2.mem ((c.tc : Thread Cert.GateOddIdeal.nD Cert.GateOddIdeal.τ).loc Cert.GateOddIdeal.main_arg0) = m ((c.tc : Thread Cert.GateOddIdeal.nD Cert.GateOddIdeal.τ).loc Cert.GateOddIdeal.main_arg0)
      ∧ r.2.mem ((c.tc : Thread Cert.GateOddIdeal.nD Cert.GateOddIdeal.τ).loc Cert.GateOddIdeal.main_arg1) = m ((c.tc : Thread Cert.GateOddIdeal.nD Cert.GateOddIdeal.τ).loc Cert.GateOddIdeal.main_arg1))
      ∧ r.2.sem = fun _ => 0)

def quiescent_GateOddRefIdeal [hGateOddRefIdeal : Cert.GateOddRefIdeal.Facts] : Prop :=
  ∀ (m : (ℓ : Loc Cert.GateOddRefIdeal.nD Cert.GateOddRefIdeal.τ Cert.GateOddRefIdeal.sig) → Buf (Elt Ideal) ℓ) (g : Dev Cert.GateOddRefIdeal.nD → PrngReg), Pre_GateOddRefIdeal m →
    θ_run (Cert.GateOddRefIdeal.defs (F := Ideal)) (onTc (τ := Cert.GateOddRefIdeal.τ) (Cert.GateOddRefIdeal.main (F := Ideal))) ⟨m, fun _ => 0, g⟩ (fun r => (∀ c : Dev Cert.GateOddRefIdeal.nD,
      r.2.mem ((c.tc : Thread Cert.GateOddRefIdeal.nD Cert.GateOddRefIdeal.τ).loc Cert.GateOddRefIdeal.main_arg0) = m ((c.tc : Thread Cert.GateOddRefIdeal.nD Cert.GateOddRefIdeal.τ).loc Cert.GateOddRefIdeal.main_arg0)
      ∧ r.2.mem ((c.tc : Thread Cert.GateOddRefIdeal.nD Cert.GateOddRefIdeal.τ).loc Cert.GateOddRefIdeal.main_arg1) = m ((c.tc : Thread Cert.GateOddRefIdeal.nD Cert.GateOddRefIdeal.τ).loc Cert.GateOddRefIdeal.main_arg1))
      ∧ r.2.sem = fun _ => 0)

def quiescent_BackDown [hBackDown : Cert.BackDown.Facts] : Prop :=
  ∀ (m : (ℓ : Loc Cert.BackDown.nD Cert.BackDown.τ Cert.BackDown.sig) → Buf (Elt Bits) ℓ) (g : Dev Cert.BackDown.nD → PrngReg), Pre_BackDown m →
    θ_run (Cert.BackDown.defs (F := Bits)) (onTc (τ := Cert.BackDown.τ) (Cert.BackDown.main (F := Bits))) ⟨m, fun _ => 0, g⟩ (fun r => (∀ c : Dev Cert.BackDown.nD,
      r.2.mem ((c.tc : Thread Cert.BackDown.nD Cert.BackDown.τ).loc Cert.BackDown.main_arg0) = m ((c.tc : Thread Cert.BackDown.nD Cert.BackDown.τ).loc Cert.BackDown.main_arg0)
      ∧ r.2.mem ((c.tc : Thread Cert.BackDown.nD Cert.BackDown.τ).loc Cert.BackDown.main_arg1) = m ((c.tc : Thread Cert.BackDown.nD Cert.BackDown.τ).loc Cert.BackDown.main_arg1))
      ∧ r.2.sem = fun _ => 0)

def quiescent_BackDownIdeal [hBackDownIdeal : Cert.BackDownIdeal.Facts] : Prop :=
  ∀ (m : (ℓ : Loc Cert.BackDownIdeal.nD Cert.BackDownIdeal.τ Cert.BackDownIdeal.sig) → Buf (Elt Ideal) ℓ) (g : Dev Cert.BackDownIdeal.nD → PrngReg), Pre_BackDownIdeal m →
    θ_run (Cert.BackDownIdeal.defs (F := Ideal)) (onTc (τ := Cert.BackDownIdeal.τ) (Cert.BackDownIdeal.main (F := Ideal))) ⟨m, fun _ => 0, g⟩ (fun r => (∀ c : Dev Cert.BackDownIdeal.nD,
      r.2.mem ((c.tc : Thread Cert.BackDownIdeal.nD Cert.BackDownIdeal.τ).loc Cert.BackDownIdeal.main_arg0) = m ((c.tc : Thread Cert.BackDownIdeal.nD Cert.BackDownIdeal.τ).loc Cert.BackDownIdeal.main_arg0)
      ∧ r.2.mem ((c.tc : Thread Cert.BackDownIdeal.nD Cert.BackDownIdeal.τ).loc Cert.BackDownIdeal.main_arg1) = m ((c.tc : Thread Cert.BackDownIdeal.nD Cert.BackDownIdeal.τ).loc Cert.BackDownIdeal.main_arg1))
      ∧ r.2.sem = fun _ => 0)

def quiescent_BackDownRefIdeal [hBackDownRefIdeal : Cert.BackDownRefIdeal.Facts] : Prop :=
  ∀ (m : (ℓ : Loc Cert.BackDownRefIdeal.nD Cert.BackDownRefIdeal.τ Cert.BackDownRefIdeal.sig) → Buf (Elt Ideal) ℓ) (g : Dev Cert.BackDownRefIdeal.nD → PrngReg), Pre_BackDownRefIdeal m →
    θ_run (Cert.BackDownRefIdeal.defs (F := Ideal)) (onTc (τ := Cert.BackDownRefIdeal.τ) (Cert.BackDownRefIdeal.main (F := Ideal))) ⟨m, fun _ => 0, g⟩ (fun r => (∀ c : Dev Cert.BackDownRefIdeal.nD,
      r.2.mem ((c.tc : Thread Cert.BackDownRefIdeal.nD Cert.BackDownRefIdeal.τ).loc Cert.BackDownRefIdeal.main_arg0) = m ((c.tc : Thread Cert.BackDownRefIdeal.nD Cert.BackDownRefIdeal.τ).loc Cert.BackDownRefIdeal.main_arg0)
      ∧ r.2.mem ((c.tc : Thread Cert.BackDownRefIdeal.nD Cert.BackDownRefIdeal.τ).loc Cert.BackDownRefIdeal.main_arg1) = m ((c.tc : Thread Cert.BackDownRefIdeal.nD Cert.BackDownRefIdeal.τ).loc Cert.BackDownRefIdeal.main_arg1))
      ∧ r.2.sem = fun _ => 0)

def quiescent_BackEven [hBackEven : Cert.BackEven.Facts] : Prop :=
  ∀ (m : (ℓ : Loc Cert.BackEven.nD Cert.BackEven.τ Cert.BackEven.sig) → Buf (Elt Bits) ℓ) (g : Dev Cert.BackEven.nD → PrngReg), Pre_BackEven m →
    θ_run (Cert.BackEven.defs (F := Bits)) (onTc (τ := Cert.BackEven.τ) (Cert.BackEven.main (F := Bits))) ⟨m, fun _ => 0, g⟩ (fun r => (∀ c : Dev Cert.BackEven.nD,
      r.2.mem ((c.tc : Thread Cert.BackEven.nD Cert.BackEven.τ).loc Cert.BackEven.main_arg0) = m ((c.tc : Thread Cert.BackEven.nD Cert.BackEven.τ).loc Cert.BackEven.main_arg0)
      ∧ r.2.mem ((c.tc : Thread Cert.BackEven.nD Cert.BackEven.τ).loc Cert.BackEven.main_arg1) = m ((c.tc : Thread Cert.BackEven.nD Cert.BackEven.τ).loc Cert.BackEven.main_arg1))
      ∧ r.2.sem = fun _ => 0)

def quiescent_BackEvenIdeal [hBackEvenIdeal : Cert.BackEvenIdeal.Facts] : Prop :=
  ∀ (m : (ℓ : Loc Cert.BackEvenIdeal.nD Cert.BackEvenIdeal.τ Cert.BackEvenIdeal.sig) → Buf (Elt Ideal) ℓ) (g : Dev Cert.BackEvenIdeal.nD → PrngReg), Pre_BackEvenIdeal m →
    θ_run (Cert.BackEvenIdeal.defs (F := Ideal)) (onTc (τ := Cert.BackEvenIdeal.τ) (Cert.BackEvenIdeal.main (F := Ideal))) ⟨m, fun _ => 0, g⟩ (fun r => (∀ c : Dev Cert.BackEvenIdeal.nD,
      r.2.mem ((c.tc : Thread Cert.BackEvenIdeal.nD Cert.BackEvenIdeal.τ).loc Cert.BackEvenIdeal.main_arg0) = m ((c.tc : Thread Cert.BackEvenIdeal.nD Cert.BackEvenIdeal.τ).loc Cert.BackEvenIdeal.main_arg0)
      ∧ r.2.mem ((c.tc : Thread Cert.BackEvenIdeal.nD Cert.BackEvenIdeal.τ).loc Cert.BackEvenIdeal.main_arg1) = m ((c.tc : Thread Cert.BackEvenIdeal.nD Cert.BackEvenIdeal.τ).loc Cert.BackEvenIdeal.main_arg1))
      ∧ r.2.sem = fun _ => 0)

def quiescent_BackEvenRefIdeal [hBackEvenRefIdeal : Cert.BackEvenRefIdeal.Facts] : Prop :=
  ∀ (m : (ℓ : Loc Cert.BackEvenRefIdeal.nD Cert.BackEvenRefIdeal.τ Cert.BackEvenRefIdeal.sig) → Buf (Elt Ideal) ℓ) (g : Dev Cert.BackEvenRefIdeal.nD → PrngReg), Pre_BackEvenRefIdeal m →
    θ_run (Cert.BackEvenRefIdeal.defs (F := Ideal)) (onTc (τ := Cert.BackEvenRefIdeal.τ) (Cert.BackEvenRefIdeal.main (F := Ideal))) ⟨m, fun _ => 0, g⟩ (fun r => (∀ c : Dev Cert.BackEvenRefIdeal.nD,
      r.2.mem ((c.tc : Thread Cert.BackEvenRefIdeal.nD Cert.BackEvenRefIdeal.τ).loc Cert.BackEvenRefIdeal.main_arg0) = m ((c.tc : Thread Cert.BackEvenRefIdeal.nD Cert.BackEvenRefIdeal.τ).loc Cert.BackEvenRefIdeal.main_arg0)
      ∧ r.2.mem ((c.tc : Thread Cert.BackEvenRefIdeal.nD Cert.BackEvenRefIdeal.τ).loc Cert.BackEvenRefIdeal.main_arg1) = m ((c.tc : Thread Cert.BackEvenRefIdeal.nD Cert.BackEvenRefIdeal.τ).loc Cert.BackEvenRefIdeal.main_arg1))
      ∧ r.2.sem = fun _ => 0)

def quiescent_BackOdd [hBackOdd : Cert.BackOdd.Facts] : Prop :=
  ∀ (m : (ℓ : Loc Cert.BackOdd.nD Cert.BackOdd.τ Cert.BackOdd.sig) → Buf (Elt Bits) ℓ) (g : Dev Cert.BackOdd.nD → PrngReg), Pre_BackOdd m →
    θ_run (Cert.BackOdd.defs (F := Bits)) (onTc (τ := Cert.BackOdd.τ) (Cert.BackOdd.main (F := Bits))) ⟨m, fun _ => 0, g⟩ (fun r => (∀ c : Dev Cert.BackOdd.nD,
      r.2.mem ((c.tc : Thread Cert.BackOdd.nD Cert.BackOdd.τ).loc Cert.BackOdd.main_arg0) = m ((c.tc : Thread Cert.BackOdd.nD Cert.BackOdd.τ).loc Cert.BackOdd.main_arg0)
      ∧ r.2.mem ((c.tc : Thread Cert.BackOdd.nD Cert.BackOdd.τ).loc Cert.BackOdd.main_arg1) = m ((c.tc : Thread Cert.BackOdd.nD Cert.BackOdd.τ).loc Cert.BackOdd.main_arg1))
      ∧ r.2.sem = fun _ => 0)

def quiescent_BackOddIdeal [hBackOddIdeal : Cert.BackOddIdeal.Facts] : Prop :=
  ∀ (m : (ℓ : Loc Cert.BackOddIdeal.nD Cert.BackOddIdeal.τ Cert.BackOddIdeal.sig) → Buf (Elt Ideal) ℓ) (g : Dev Cert.BackOddIdeal.nD → PrngReg), Pre_BackOddIdeal m →
    θ_run (Cert.BackOddIdeal.defs (F := Ideal)) (onTc (τ := Cert.BackOddIdeal.τ) (Cert.BackOddIdeal.main (F := Ideal))) ⟨m, fun _ => 0, g⟩ (fun r => (∀ c : Dev Cert.BackOddIdeal.nD,
      r.2.mem ((c.tc : Thread Cert.BackOddIdeal.nD Cert.BackOddIdeal.τ).loc Cert.BackOddIdeal.main_arg0) = m ((c.tc : Thread Cert.BackOddIdeal.nD Cert.BackOddIdeal.τ).loc Cert.BackOddIdeal.main_arg0)
      ∧ r.2.mem ((c.tc : Thread Cert.BackOddIdeal.nD Cert.BackOddIdeal.τ).loc Cert.BackOddIdeal.main_arg1) = m ((c.tc : Thread Cert.BackOddIdeal.nD Cert.BackOddIdeal.τ).loc Cert.BackOddIdeal.main_arg1))
      ∧ r.2.sem = fun _ => 0)

def quiescent_BackOddRefIdeal [hBackOddRefIdeal : Cert.BackOddRefIdeal.Facts] : Prop :=
  ∀ (m : (ℓ : Loc Cert.BackOddRefIdeal.nD Cert.BackOddRefIdeal.τ Cert.BackOddRefIdeal.sig) → Buf (Elt Ideal) ℓ) (g : Dev Cert.BackOddRefIdeal.nD → PrngReg), Pre_BackOddRefIdeal m →
    θ_run (Cert.BackOddRefIdeal.defs (F := Ideal)) (onTc (τ := Cert.BackOddRefIdeal.τ) (Cert.BackOddRefIdeal.main (F := Ideal))) ⟨m, fun _ => 0, g⟩ (fun r => (∀ c : Dev Cert.BackOddRefIdeal.nD,
      r.2.mem ((c.tc : Thread Cert.BackOddRefIdeal.nD Cert.BackOddRefIdeal.τ).loc Cert.BackOddRefIdeal.main_arg0) = m ((c.tc : Thread Cert.BackOddRefIdeal.nD Cert.BackOddRefIdeal.τ).loc Cert.BackOddRefIdeal.main_arg0)
      ∧ r.2.mem ((c.tc : Thread Cert.BackOddRefIdeal.nD Cert.BackOddRefIdeal.τ).loc Cert.BackOddRefIdeal.main_arg1) = m ((c.tc : Thread Cert.BackOddRefIdeal.nD Cert.BackOddRefIdeal.τ).loc Cert.BackOddRefIdeal.main_arg1))
      ∧ r.2.sem = fun _ => 0)

def quiescent_BackGate [hBackGate : Cert.BackGate.Facts] : Prop :=
  ∀ (m : (ℓ : Loc Cert.BackGate.nD Cert.BackGate.τ Cert.BackGate.sig) → Buf (Elt Bits) ℓ) (g : Dev Cert.BackGate.nD → PrngReg), Pre_BackGate m →
    θ_run (Cert.BackGate.defs (F := Bits)) (onTc (τ := Cert.BackGate.τ) (Cert.BackGate.main (F := Bits))) ⟨m, fun _ => 0, g⟩ (fun r => (∀ c : Dev Cert.BackGate.nD,
      r.2.mem ((c.tc : Thread Cert.BackGate.nD Cert.BackGate.τ).loc Cert.BackGate.main_arg0) = m ((c.tc : Thread Cert.BackGate.nD Cert.BackGate.τ).loc Cert.BackGate.main_arg0)
      ∧ r.2.mem ((c.tc : Thread Cert.BackGate.nD Cert.BackGate.τ).loc Cert.BackGate.main_arg1) = m ((c.tc : Thread Cert.BackGate.nD Cert.BackGate.τ).loc Cert.BackGate.main_arg1))
      ∧ r.2.sem = fun _ => 0)

def quiescent_BackGateIdeal [hBackGateIdeal : Cert.BackGateIdeal.Facts] : Prop :=
  ∀ (m : (ℓ : Loc Cert.BackGateIdeal.nD Cert.BackGateIdeal.τ Cert.BackGateIdeal.sig) → Buf (Elt Ideal) ℓ) (g : Dev Cert.BackGateIdeal.nD → PrngReg), Pre_BackGateIdeal m →
    θ_run (Cert.BackGateIdeal.defs (F := Ideal)) (onTc (τ := Cert.BackGateIdeal.τ) (Cert.BackGateIdeal.main (F := Ideal))) ⟨m, fun _ => 0, g⟩ (fun r => (∀ c : Dev Cert.BackGateIdeal.nD,
      r.2.mem ((c.tc : Thread Cert.BackGateIdeal.nD Cert.BackGateIdeal.τ).loc Cert.BackGateIdeal.main_arg0) = m ((c.tc : Thread Cert.BackGateIdeal.nD Cert.BackGateIdeal.τ).loc Cert.BackGateIdeal.main_arg0)
      ∧ r.2.mem ((c.tc : Thread Cert.BackGateIdeal.nD Cert.BackGateIdeal.τ).loc Cert.BackGateIdeal.main_arg1) = m ((c.tc : Thread Cert.BackGateIdeal.nD Cert.BackGateIdeal.τ).loc Cert.BackGateIdeal.main_arg1))
      ∧ r.2.sem = fun _ => 0)

def quiescent_BackGateRefIdeal [hBackGateRefIdeal : Cert.BackGateRefIdeal.Facts] : Prop :=
  ∀ (m : (ℓ : Loc Cert.BackGateRefIdeal.nD Cert.BackGateRefIdeal.τ Cert.BackGateRefIdeal.sig) → Buf (Elt Ideal) ℓ) (g : Dev Cert.BackGateRefIdeal.nD → PrngReg), Pre_BackGateRefIdeal m →
    θ_run (Cert.BackGateRefIdeal.defs (F := Ideal)) (onTc (τ := Cert.BackGateRefIdeal.τ) (Cert.BackGateRefIdeal.main (F := Ideal))) ⟨m, fun _ => 0, g⟩ (fun r => (∀ c : Dev Cert.BackGateRefIdeal.nD,
      r.2.mem ((c.tc : Thread Cert.BackGateRefIdeal.nD Cert.BackGateRefIdeal.τ).loc Cert.BackGateRefIdeal.main_arg0) = m ((c.tc : Thread Cert.BackGateRefIdeal.nD Cert.BackGateRefIdeal.τ).loc Cert.BackGateRefIdeal.main_arg0)
      ∧ r.2.mem ((c.tc : Thread Cert.BackGateRefIdeal.nD Cert.BackGateRefIdeal.τ).loc Cert.BackGateRefIdeal.main_arg1) = m ((c.tc : Thread Cert.BackGateRefIdeal.nD Cert.BackGateRefIdeal.τ).loc Cert.BackGateRefIdeal.main_arg1))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1))
      ∧ r.2.sem = fun _ => 0)

def quiescent_SecondRefIdeal [hSecondRefIdeal : Cert.SecondRefIdeal.Facts] : Prop :=
  ∀ (m : (ℓ : Loc Cert.SecondRefIdeal.nD Cert.SecondRefIdeal.τ Cert.SecondRefIdeal.sig) → Buf (Elt Ideal) ℓ) (g : Dev Cert.SecondRefIdeal.nD → PrngReg), Pre_SecondRefIdeal m →
    θ_run (Cert.SecondRefIdeal.defs (F := Ideal)) (onTc (τ := Cert.SecondRefIdeal.τ) (Cert.SecondRefIdeal.main (F := Ideal))) ⟨m, fun _ => 0, g⟩ (fun r => (∀ c : Dev Cert.SecondRefIdeal.nD,
      r.2.mem ((c.tc : Thread Cert.SecondRefIdeal.nD Cert.SecondRefIdeal.τ).loc Cert.SecondRefIdeal.main_arg0) = m ((c.tc : Thread Cert.SecondRefIdeal.nD Cert.SecondRefIdeal.τ).loc Cert.SecondRefIdeal.main_arg0)
      ∧ r.2.mem ((c.tc : Thread Cert.SecondRefIdeal.nD Cert.SecondRefIdeal.τ).loc Cert.SecondRefIdeal.main_arg1) = m ((c.tc : Thread Cert.SecondRefIdeal.nD Cert.SecondRefIdeal.τ).loc Cert.SecondRefIdeal.main_arg1))
      ∧ r.2.sem = fun _ => 0)

def quiescent_MixOdd [hMixOdd : Cert.MixOdd.Facts] : Prop :=
  ∀ (m : (ℓ : Loc Cert.MixOdd.nD Cert.MixOdd.τ Cert.MixOdd.sig) → Buf (Elt Bits) ℓ) (g : Dev Cert.MixOdd.nD → PrngReg), Pre_MixOdd m →
    θ_run (Cert.MixOdd.defs (F := Bits)) (onTc (τ := Cert.MixOdd.τ) (Cert.MixOdd.main (F := Bits))) ⟨m, fun _ => 0, g⟩ (fun r => (∀ c : Dev Cert.MixOdd.nD,
      r.2.mem ((c.tc : Thread Cert.MixOdd.nD Cert.MixOdd.τ).loc Cert.MixOdd.main_arg0) = m ((c.tc : Thread Cert.MixOdd.nD Cert.MixOdd.τ).loc Cert.MixOdd.main_arg0)
      ∧ r.2.mem ((c.tc : Thread Cert.MixOdd.nD Cert.MixOdd.τ).loc Cert.MixOdd.main_arg1) = m ((c.tc : Thread Cert.MixOdd.nD Cert.MixOdd.τ).loc Cert.MixOdd.main_arg1))
      ∧ r.2.sem = fun _ => 0)

def quiescent_MixOddIdeal [hMixOddIdeal : Cert.MixOddIdeal.Facts] : Prop :=
  ∀ (m : (ℓ : Loc Cert.MixOddIdeal.nD Cert.MixOddIdeal.τ Cert.MixOddIdeal.sig) → Buf (Elt Ideal) ℓ) (g : Dev Cert.MixOddIdeal.nD → PrngReg), Pre_MixOddIdeal m →
    θ_run (Cert.MixOddIdeal.defs (F := Ideal)) (onTc (τ := Cert.MixOddIdeal.τ) (Cert.MixOddIdeal.main (F := Ideal))) ⟨m, fun _ => 0, g⟩ (fun r => (∀ c : Dev Cert.MixOddIdeal.nD,
      r.2.mem ((c.tc : Thread Cert.MixOddIdeal.nD Cert.MixOddIdeal.τ).loc Cert.MixOddIdeal.main_arg0) = m ((c.tc : Thread Cert.MixOddIdeal.nD Cert.MixOddIdeal.τ).loc Cert.MixOddIdeal.main_arg0)
      ∧ r.2.mem ((c.tc : Thread Cert.MixOddIdeal.nD Cert.MixOddIdeal.τ).loc Cert.MixOddIdeal.main_arg1) = m ((c.tc : Thread Cert.MixOddIdeal.nD Cert.MixOddIdeal.τ).loc Cert.MixOddIdeal.main_arg1))
      ∧ r.2.sem = fun _ => 0)

def quiescent_MixOddRefIdeal [hMixOddRefIdeal : Cert.MixOddRefIdeal.Facts] : Prop :=
  ∀ (m : (ℓ : Loc Cert.MixOddRefIdeal.nD Cert.MixOddRefIdeal.τ Cert.MixOddRefIdeal.sig) → Buf (Elt Ideal) ℓ) (g : Dev Cert.MixOddRefIdeal.nD → PrngReg), Pre_MixOddRefIdeal m →
    θ_run (Cert.MixOddRefIdeal.defs (F := Ideal)) (onTc (τ := Cert.MixOddRefIdeal.τ) (Cert.MixOddRefIdeal.main (F := Ideal))) ⟨m, fun _ => 0, g⟩ (fun r => (∀ c : Dev Cert.MixOddRefIdeal.nD,
      r.2.mem ((c.tc : Thread Cert.MixOddRefIdeal.nD Cert.MixOddRefIdeal.τ).loc Cert.MixOddRefIdeal.main_arg0) = m ((c.tc : Thread Cert.MixOddRefIdeal.nD Cert.MixOddRefIdeal.τ).loc Cert.MixOddRefIdeal.main_arg0)
      ∧ r.2.mem ((c.tc : Thread Cert.MixOddRefIdeal.nD Cert.MixOddRefIdeal.τ).loc Cert.MixOddRefIdeal.main_arg1) = m ((c.tc : Thread Cert.MixOddRefIdeal.nD Cert.MixOddRefIdeal.τ).loc Cert.MixOddRefIdeal.main_arg1))
      ∧ r.2.sem = fun _ => 0)

def quiescent_BackUp [hBackUp : Cert.BackUp.Facts] : Prop :=
  ∀ (m : (ℓ : Loc Cert.BackUp.nD Cert.BackUp.τ Cert.BackUp.sig) → Buf (Elt Bits) ℓ) (g : Dev Cert.BackUp.nD → PrngReg), Pre_BackUp m →
    θ_run (Cert.BackUp.defs (F := Bits)) (onTc (τ := Cert.BackUp.τ) (Cert.BackUp.main (F := Bits))) ⟨m, fun _ => 0, g⟩ (fun r => (∀ c : Dev Cert.BackUp.nD,
      r.2.mem ((c.tc : Thread Cert.BackUp.nD Cert.BackUp.τ).loc Cert.BackUp.main_arg0) = m ((c.tc : Thread Cert.BackUp.nD Cert.BackUp.τ).loc Cert.BackUp.main_arg0)
      ∧ r.2.mem ((c.tc : Thread Cert.BackUp.nD Cert.BackUp.τ).loc Cert.BackUp.main_arg1) = m ((c.tc : Thread Cert.BackUp.nD Cert.BackUp.τ).loc Cert.BackUp.main_arg1))
      ∧ r.2.sem = fun _ => 0)

def quiescent_BackUpIdeal [hBackUpIdeal : Cert.BackUpIdeal.Facts] : Prop :=
  ∀ (m : (ℓ : Loc Cert.BackUpIdeal.nD Cert.BackUpIdeal.τ Cert.BackUpIdeal.sig) → Buf (Elt Ideal) ℓ) (g : Dev Cert.BackUpIdeal.nD → PrngReg), Pre_BackUpIdeal m →
    θ_run (Cert.BackUpIdeal.defs (F := Ideal)) (onTc (τ := Cert.BackUpIdeal.τ) (Cert.BackUpIdeal.main (F := Ideal))) ⟨m, fun _ => 0, g⟩ (fun r => (∀ c : Dev Cert.BackUpIdeal.nD,
      r.2.mem ((c.tc : Thread Cert.BackUpIdeal.nD Cert.BackUpIdeal.τ).loc Cert.BackUpIdeal.main_arg0) = m ((c.tc : Thread Cert.BackUpIdeal.nD Cert.BackUpIdeal.τ).loc Cert.BackUpIdeal.main_arg0)
      ∧ r.2.mem ((c.tc : Thread Cert.BackUpIdeal.nD Cert.BackUpIdeal.τ).loc Cert.BackUpIdeal.main_arg1) = m ((c.tc : Thread Cert.BackUpIdeal.nD Cert.BackUpIdeal.τ).loc Cert.BackUpIdeal.main_arg1))
      ∧ r.2.sem = fun _ => 0)

def quiescent_BackUpRefIdeal [hBackUpRefIdeal : Cert.BackUpRefIdeal.Facts] : Prop :=
  ∀ (m : (ℓ : Loc Cert.BackUpRefIdeal.nD Cert.BackUpRefIdeal.τ Cert.BackUpRefIdeal.sig) → Buf (Elt Ideal) ℓ) (g : Dev Cert.BackUpRefIdeal.nD → PrngReg), Pre_BackUpRefIdeal m →
    θ_run (Cert.BackUpRefIdeal.defs (F := Ideal)) (onTc (τ := Cert.BackUpRefIdeal.τ) (Cert.BackUpRefIdeal.main (F := Ideal))) ⟨m, fun _ => 0, g⟩ (fun r => (∀ c : Dev Cert.BackUpRefIdeal.nD,
      r.2.mem ((c.tc : Thread Cert.BackUpRefIdeal.nD Cert.BackUpRefIdeal.τ).loc Cert.BackUpRefIdeal.main_arg0) = m ((c.tc : Thread Cert.BackUpRefIdeal.nD Cert.BackUpRefIdeal.τ).loc Cert.BackUpRefIdeal.main_arg0)
      ∧ r.2.mem ((c.tc : Thread Cert.BackUpRefIdeal.nD Cert.BackUpRefIdeal.τ).loc Cert.BackUpRefIdeal.main_arg1) = m ((c.tc : Thread Cert.BackUpRefIdeal.nD Cert.BackUpRefIdeal.τ).loc Cert.BackUpRefIdeal.main_arg1))
      ∧ r.2.sem = fun _ => 0)

def quiescent_BackUpEven [hBackUpEven : Cert.BackUpEven.Facts] : Prop :=
  ∀ (m : (ℓ : Loc Cert.BackUpEven.nD Cert.BackUpEven.τ Cert.BackUpEven.sig) → Buf (Elt Bits) ℓ) (g : Dev Cert.BackUpEven.nD → PrngReg), Pre_BackUpEven m →
    θ_run (Cert.BackUpEven.defs (F := Bits)) (onTc (τ := Cert.BackUpEven.τ) (Cert.BackUpEven.main (F := Bits))) ⟨m, fun _ => 0, g⟩ (fun r => (∀ c : Dev Cert.BackUpEven.nD,
      r.2.mem ((c.tc : Thread Cert.BackUpEven.nD Cert.BackUpEven.τ).loc Cert.BackUpEven.main_arg0) = m ((c.tc : Thread Cert.BackUpEven.nD Cert.BackUpEven.τ).loc Cert.BackUpEven.main_arg0)
      ∧ r.2.mem ((c.tc : Thread Cert.BackUpEven.nD Cert.BackUpEven.τ).loc Cert.BackUpEven.main_arg1) = m ((c.tc : Thread Cert.BackUpEven.nD Cert.BackUpEven.τ).loc Cert.BackUpEven.main_arg1))
      ∧ r.2.sem = fun _ => 0)

def quiescent_BackUpEvenIdeal [hBackUpEvenIdeal : Cert.BackUpEvenIdeal.Facts] : Prop :=
  ∀ (m : (ℓ : Loc Cert.BackUpEvenIdeal.nD Cert.BackUpEvenIdeal.τ Cert.BackUpEvenIdeal.sig) → Buf (Elt Ideal) ℓ) (g : Dev Cert.BackUpEvenIdeal.nD → PrngReg), Pre_BackUpEvenIdeal m →
    θ_run (Cert.BackUpEvenIdeal.defs (F := Ideal)) (onTc (τ := Cert.BackUpEvenIdeal.τ) (Cert.BackUpEvenIdeal.main (F := Ideal))) ⟨m, fun _ => 0, g⟩ (fun r => (∀ c : Dev Cert.BackUpEvenIdeal.nD,
      r.2.mem ((c.tc : Thread Cert.BackUpEvenIdeal.nD Cert.BackUpEvenIdeal.τ).loc Cert.BackUpEvenIdeal.main_arg0) = m ((c.tc : Thread Cert.BackUpEvenIdeal.nD Cert.BackUpEvenIdeal.τ).loc Cert.BackUpEvenIdeal.main_arg0)
      ∧ r.2.mem ((c.tc : Thread Cert.BackUpEvenIdeal.nD Cert.BackUpEvenIdeal.τ).loc Cert.BackUpEvenIdeal.main_arg1) = m ((c.tc : Thread Cert.BackUpEvenIdeal.nD Cert.BackUpEvenIdeal.τ).loc Cert.BackUpEvenIdeal.main_arg1))
      ∧ r.2.sem = fun _ => 0)

def quiescent_BackUpEvenRefIdeal [hBackUpEvenRefIdeal : Cert.BackUpEvenRefIdeal.Facts] : Prop :=
  ∀ (m : (ℓ : Loc Cert.BackUpEvenRefIdeal.nD Cert.BackUpEvenRefIdeal.τ Cert.BackUpEvenRefIdeal.sig) → Buf (Elt Ideal) ℓ) (g : Dev Cert.BackUpEvenRefIdeal.nD → PrngReg), Pre_BackUpEvenRefIdeal m →
    θ_run (Cert.BackUpEvenRefIdeal.defs (F := Ideal)) (onTc (τ := Cert.BackUpEvenRefIdeal.τ) (Cert.BackUpEvenRefIdeal.main (F := Ideal))) ⟨m, fun _ => 0, g⟩ (fun r => (∀ c : Dev Cert.BackUpEvenRefIdeal.nD,
      r.2.mem ((c.tc : Thread Cert.BackUpEvenRefIdeal.nD Cert.BackUpEvenRefIdeal.τ).loc Cert.BackUpEvenRefIdeal.main_arg0) = m ((c.tc : Thread Cert.BackUpEvenRefIdeal.nD Cert.BackUpEvenRefIdeal.τ).loc Cert.BackUpEvenRefIdeal.main_arg0)
      ∧ r.2.mem ((c.tc : Thread Cert.BackUpEvenRefIdeal.nD Cert.BackUpEvenRefIdeal.τ).loc Cert.BackUpEvenRefIdeal.main_arg1) = m ((c.tc : Thread Cert.BackUpEvenRefIdeal.nD Cert.BackUpEvenRefIdeal.τ).loc Cert.BackUpEvenRefIdeal.main_arg1))
      ∧ r.2.sem = fun _ => 0)

def quiescent_BackUpOdd [hBackUpOdd : Cert.BackUpOdd.Facts] : Prop :=
  ∀ (m : (ℓ : Loc Cert.BackUpOdd.nD Cert.BackUpOdd.τ Cert.BackUpOdd.sig) → Buf (Elt Bits) ℓ) (g : Dev Cert.BackUpOdd.nD → PrngReg), Pre_BackUpOdd m →
    θ_run (Cert.BackUpOdd.defs (F := Bits)) (onTc (τ := Cert.BackUpOdd.τ) (Cert.BackUpOdd.main (F := Bits))) ⟨m, fun _ => 0, g⟩ (fun r => (∀ c : Dev Cert.BackUpOdd.nD,
      r.2.mem ((c.tc : Thread Cert.BackUpOdd.nD Cert.BackUpOdd.τ).loc Cert.BackUpOdd.main_arg0) = m ((c.tc : Thread Cert.BackUpOdd.nD Cert.BackUpOdd.τ).loc Cert.BackUpOdd.main_arg0)
      ∧ r.2.mem ((c.tc : Thread Cert.BackUpOdd.nD Cert.BackUpOdd.τ).loc Cert.BackUpOdd.main_arg1) = m ((c.tc : Thread Cert.BackUpOdd.nD Cert.BackUpOdd.τ).loc Cert.BackUpOdd.main_arg1)
      ∧ r.2.mem ((c.tc : Thread Cert.BackUpOdd.nD Cert.BackUpOdd.τ).loc Cert.BackUpOdd.main_arg2) = m ((c.tc : Thread Cert.BackUpOdd.nD Cert.BackUpOdd.τ).loc Cert.BackUpOdd.main_arg2))
      ∧ r.2.sem = fun _ => 0)

def quiescent_BackUpOddIdeal [hBackUpOddIdeal : Cert.BackUpOddIdeal.Facts] : Prop :=
  ∀ (m : (ℓ : Loc Cert.BackUpOddIdeal.nD Cert.BackUpOddIdeal.τ Cert.BackUpOddIdeal.sig) → Buf (Elt Ideal) ℓ) (g : Dev Cert.BackUpOddIdeal.nD → PrngReg), Pre_BackUpOddIdeal m →
    θ_run (Cert.BackUpOddIdeal.defs (F := Ideal)) (onTc (τ := Cert.BackUpOddIdeal.τ) (Cert.BackUpOddIdeal.main (F := Ideal))) ⟨m, fun _ => 0, g⟩ (fun r => (∀ c : Dev Cert.BackUpOddIdeal.nD,
      r.2.mem ((c.tc : Thread Cert.BackUpOddIdeal.nD Cert.BackUpOddIdeal.τ).loc Cert.BackUpOddIdeal.main_arg0) = m ((c.tc : Thread Cert.BackUpOddIdeal.nD Cert.BackUpOddIdeal.τ).loc Cert.BackUpOddIdeal.main_arg0)
      ∧ r.2.mem ((c.tc : Thread Cert.BackUpOddIdeal.nD Cert.BackUpOddIdeal.τ).loc Cert.BackUpOddIdeal.main_arg1) = m ((c.tc : Thread Cert.BackUpOddIdeal.nD Cert.BackUpOddIdeal.τ).loc Cert.BackUpOddIdeal.main_arg1)
      ∧ r.2.mem ((c.tc : Thread Cert.BackUpOddIdeal.nD Cert.BackUpOddIdeal.τ).loc Cert.BackUpOddIdeal.main_arg2) = m ((c.tc : Thread Cert.BackUpOddIdeal.nD Cert.BackUpOddIdeal.τ).loc Cert.BackUpOddIdeal.main_arg2))
      ∧ r.2.sem = fun _ => 0)

def quiescent_BackUpOddRefIdeal [hBackUpOddRefIdeal : Cert.BackUpOddRefIdeal.Facts] : Prop :=
  ∀ (m : (ℓ : Loc Cert.BackUpOddRefIdeal.nD Cert.BackUpOddRefIdeal.τ Cert.BackUpOddRefIdeal.sig) → Buf (Elt Ideal) ℓ) (g : Dev Cert.BackUpOddRefIdeal.nD → PrngReg), Pre_BackUpOddRefIdeal m →
    θ_run (Cert.BackUpOddRefIdeal.defs (F := Ideal)) (onTc (τ := Cert.BackUpOddRefIdeal.τ) (Cert.BackUpOddRefIdeal.main (F := Ideal))) ⟨m, fun _ => 0, g⟩ (fun r => (∀ c : Dev Cert.BackUpOddRefIdeal.nD,
      r.2.mem ((c.tc : Thread Cert.BackUpOddRefIdeal.nD Cert.BackUpOddRefIdeal.τ).loc Cert.BackUpOddRefIdeal.main_arg0) = m ((c.tc : Thread Cert.BackUpOddRefIdeal.nD Cert.BackUpOddRefIdeal.τ).loc Cert.BackUpOddRefIdeal.main_arg0)
      ∧ r.2.mem ((c.tc : Thread Cert.BackUpOddRefIdeal.nD Cert.BackUpOddRefIdeal.τ).loc Cert.BackUpOddRefIdeal.main_arg1) = m ((c.tc : Thread Cert.BackUpOddRefIdeal.nD Cert.BackUpOddRefIdeal.τ).loc Cert.BackUpOddRefIdeal.main_arg1)
      ∧ r.2.mem ((c.tc : Thread Cert.BackUpOddRefIdeal.nD Cert.BackUpOddRefIdeal.τ).loc Cert.BackUpOddRefIdeal.main_arg2) = m ((c.tc : Thread Cert.BackUpOddRefIdeal.nD Cert.BackUpOddRefIdeal.τ).loc Cert.BackUpOddRefIdeal.main_arg2))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1)
      ∧ r.2.mem ((c.tc : Thread Cert.ModulateRefIdeal.nD Cert.ModulateRefIdeal.τ).loc Cert.ModulateRefIdeal.main_arg2) = m ((c.tc : Thread Cert.ModulateRefIdeal.nD Cert.ModulateRefIdeal.τ).loc Cert.ModulateRefIdeal.main_arg2))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ r.2.sem = fun _ => 0)

def quiescent_ResidualRefIdeal [hResidualRefIdeal : Cert.ResidualRefIdeal.Facts] : Prop :=
  ∀ (m : (ℓ : Loc Cert.ResidualRefIdeal.nD Cert.ResidualRefIdeal.τ Cert.ResidualRefIdeal.sig) → Buf (Elt Ideal) ℓ) (g : Dev Cert.ResidualRefIdeal.nD → PrngReg), Pre_ResidualRefIdeal m →
    θ_run (Cert.ResidualRefIdeal.defs (F := Ideal)) (onTc (τ := Cert.ResidualRefIdeal.τ) (Cert.ResidualRefIdeal.main (F := Ideal))) ⟨m, fun _ => 0, g⟩ (fun r => (∀ c : Dev Cert.ResidualRefIdeal.nD,
      r.2.mem ((c.tc : Thread Cert.ResidualRefIdeal.nD Cert.ResidualRefIdeal.τ).loc Cert.ResidualRefIdeal.main_arg0) = m ((c.tc : Thread Cert.ResidualRefIdeal.nD Cert.ResidualRefIdeal.τ).loc Cert.ResidualRefIdeal.main_arg0)
      ∧ r.2.mem ((c.tc : Thread Cert.ResidualRefIdeal.nD Cert.ResidualRefIdeal.τ).loc Cert.ResidualRefIdeal.main_arg1) = m ((c.tc : Thread Cert.ResidualRefIdeal.nD Cert.ResidualRefIdeal.τ).loc Cert.ResidualRefIdeal.main_arg1)
      ∧ r.2.mem ((c.tc : Thread Cert.ResidualRefIdeal.nD Cert.ResidualRefIdeal.τ).loc Cert.ResidualRefIdeal.main_arg2) = m ((c.tc : Thread Cert.ResidualRefIdeal.nD Cert.ResidualRefIdeal.τ).loc Cert.ResidualRefIdeal.main_arg2)
      ∧ r.2.mem ((c.tc : Thread Cert.ResidualRefIdeal.nD Cert.ResidualRefIdeal.τ).loc Cert.ResidualRefIdeal.main_arg3) = m ((c.tc : Thread Cert.ResidualRefIdeal.nD Cert.ResidualRefIdeal.τ).loc Cert.ResidualRefIdeal.main_arg3))
      ∧ r.2.sem = fun _ => 0)

def quiescent_Activation [hActivation : Cert.Activation.Facts] : Prop :=
  ∀ (m : (ℓ : Loc Cert.Activation.nD Cert.Activation.τ Cert.Activation.sig) → Buf (Elt Bits) ℓ) (g : Dev Cert.Activation.nD → PrngReg), Pre_Activation m →
    θ_run (Cert.Activation.defs (F := Bits)) (onTc (τ := Cert.Activation.τ) (Cert.Activation.main (F := Bits))) ⟨m, fun _ => 0, g⟩ (fun r => (∀ c : Dev Cert.Activation.nD,
      r.2.mem ((c.tc : Thread Cert.Activation.nD Cert.Activation.τ).loc Cert.Activation.main_arg0) = m ((c.tc : Thread Cert.Activation.nD Cert.Activation.τ).loc Cert.Activation.main_arg0))
      ∧ r.2.sem = fun _ => 0)

def quiescent_ActivationIdeal [hActivationIdeal : Cert.ActivationIdeal.Facts] : Prop :=
  ∀ (m : (ℓ : Loc Cert.ActivationIdeal.nD Cert.ActivationIdeal.τ Cert.ActivationIdeal.sig) → Buf (Elt Ideal) ℓ) (g : Dev Cert.ActivationIdeal.nD → PrngReg), Pre_ActivationIdeal m →
    θ_run (Cert.ActivationIdeal.defs (F := Ideal)) (onTc (τ := Cert.ActivationIdeal.τ) (Cert.ActivationIdeal.main (F := Ideal))) ⟨m, fun _ => 0, g⟩ (fun r => (∀ c : Dev Cert.ActivationIdeal.nD,
      r.2.mem ((c.tc : Thread Cert.ActivationIdeal.nD Cert.ActivationIdeal.τ).loc Cert.ActivationIdeal.main_arg0) = m ((c.tc : Thread Cert.ActivationIdeal.nD Cert.ActivationIdeal.τ).loc Cert.ActivationIdeal.main_arg0))
      ∧ r.2.sem = fun _ => 0)

def quiescent_ActivationRefIdeal [hActivationRefIdeal : Cert.ActivationRefIdeal.Facts] : Prop :=
  ∀ (m : (ℓ : Loc Cert.ActivationRefIdeal.nD Cert.ActivationRefIdeal.τ Cert.ActivationRefIdeal.sig) → Buf (Elt Ideal) ℓ) (g : Dev Cert.ActivationRefIdeal.nD → PrngReg), Pre_ActivationRefIdeal m →
    θ_run (Cert.ActivationRefIdeal.defs (F := Ideal)) (onTc (τ := Cert.ActivationRefIdeal.τ) (Cert.ActivationRefIdeal.main (F := Ideal))) ⟨m, fun _ => 0, g⟩ (fun r => (∀ c : Dev Cert.ActivationRefIdeal.nD,
      r.2.mem ((c.tc : Thread Cert.ActivationRefIdeal.nD Cert.ActivationRefIdeal.τ).loc Cert.ActivationRefIdeal.main_arg0) = m ((c.tc : Thread Cert.ActivationRefIdeal.nD Cert.ActivationRefIdeal.τ).loc Cert.ActivationRefIdeal.main_arg0))
      ∧ r.2.sem = fun _ => 0)

def quiescent_ActivationBack [hActivationBack : Cert.ActivationBack.Facts] : Prop :=
  ∀ (m : (ℓ : Loc Cert.ActivationBack.nD Cert.ActivationBack.τ Cert.ActivationBack.sig) → Buf (Elt Bits) ℓ) (g : Dev Cert.ActivationBack.nD → PrngReg), Pre_ActivationBack m →
    θ_run (Cert.ActivationBack.defs (F := Bits)) (onTc (τ := Cert.ActivationBack.τ) (Cert.ActivationBack.main (F := Bits))) ⟨m, fun _ => 0, g⟩ (fun r => (∀ c : Dev Cert.ActivationBack.nD,
      r.2.mem ((c.tc : Thread Cert.ActivationBack.nD Cert.ActivationBack.τ).loc Cert.ActivationBack.main_arg0) = m ((c.tc : Thread Cert.ActivationBack.nD Cert.ActivationBack.τ).loc Cert.ActivationBack.main_arg0)
      ∧ r.2.mem ((c.tc : Thread Cert.ActivationBack.nD Cert.ActivationBack.τ).loc Cert.ActivationBack.main_arg1) = m ((c.tc : Thread Cert.ActivationBack.nD Cert.ActivationBack.τ).loc Cert.ActivationBack.main_arg1))
      ∧ r.2.sem = fun _ => 0)

def quiescent_ActivationBackIdeal [hActivationBackIdeal : Cert.ActivationBackIdeal.Facts] : Prop :=
  ∀ (m : (ℓ : Loc Cert.ActivationBackIdeal.nD Cert.ActivationBackIdeal.τ Cert.ActivationBackIdeal.sig) → Buf (Elt Ideal) ℓ) (g : Dev Cert.ActivationBackIdeal.nD → PrngReg), Pre_ActivationBackIdeal m →
    θ_run (Cert.ActivationBackIdeal.defs (F := Ideal)) (onTc (τ := Cert.ActivationBackIdeal.τ) (Cert.ActivationBackIdeal.main (F := Ideal))) ⟨m, fun _ => 0, g⟩ (fun r => (∀ c : Dev Cert.ActivationBackIdeal.nD,
      r.2.mem ((c.tc : Thread Cert.ActivationBackIdeal.nD Cert.ActivationBackIdeal.τ).loc Cert.ActivationBackIdeal.main_arg0) = m ((c.tc : Thread Cert.ActivationBackIdeal.nD Cert.ActivationBackIdeal.τ).loc Cert.ActivationBackIdeal.main_arg0)
      ∧ r.2.mem ((c.tc : Thread Cert.ActivationBackIdeal.nD Cert.ActivationBackIdeal.τ).loc Cert.ActivationBackIdeal.main_arg1) = m ((c.tc : Thread Cert.ActivationBackIdeal.nD Cert.ActivationBackIdeal.τ).loc Cert.ActivationBackIdeal.main_arg1))
      ∧ r.2.sem = fun _ => 0)

def quiescent_ActivationBackRefIdeal [hActivationBackRefIdeal : Cert.ActivationBackRefIdeal.Facts] : Prop :=
  ∀ (m : (ℓ : Loc Cert.ActivationBackRefIdeal.nD Cert.ActivationBackRefIdeal.τ Cert.ActivationBackRefIdeal.sig) → Buf (Elt Ideal) ℓ) (g : Dev Cert.ActivationBackRefIdeal.nD → PrngReg), Pre_ActivationBackRefIdeal m →
    θ_run (Cert.ActivationBackRefIdeal.defs (F := Ideal)) (onTc (τ := Cert.ActivationBackRefIdeal.τ) (Cert.ActivationBackRefIdeal.main (F := Ideal))) ⟨m, fun _ => 0, g⟩ (fun r => (∀ c : Dev Cert.ActivationBackRefIdeal.nD,
      r.2.mem ((c.tc : Thread Cert.ActivationBackRefIdeal.nD Cert.ActivationBackRefIdeal.τ).loc Cert.ActivationBackRefIdeal.main_arg0) = m ((c.tc : Thread Cert.ActivationBackRefIdeal.nD Cert.ActivationBackRefIdeal.τ).loc Cert.ActivationBackRefIdeal.main_arg0)
      ∧ r.2.mem ((c.tc : Thread Cert.ActivationBackRefIdeal.nD Cert.ActivationBackRefIdeal.τ).loc Cert.ActivationBackRefIdeal.main_arg1) = m ((c.tc : Thread Cert.ActivationBackRefIdeal.nD Cert.ActivationBackRefIdeal.τ).loc Cert.ActivationBackRefIdeal.main_arg1))
      ∧ r.2.sem = fun _ => 0)

def quiescent_ResidualBack [hResidualBack : Cert.ResidualBack.Facts] : Prop :=
  ∀ (m : (ℓ : Loc Cert.ResidualBack.nD Cert.ResidualBack.τ Cert.ResidualBack.sig) → Buf (Elt Bits) ℓ) (g : Dev Cert.ResidualBack.nD → PrngReg), Pre_ResidualBack m →
    θ_run (Cert.ResidualBack.defs (F := Bits)) (onTc (τ := Cert.ResidualBack.τ) (Cert.ResidualBack.main (F := Bits))) ⟨m, fun _ => 0, g⟩ (fun r => (∀ c : Dev Cert.ResidualBack.nD,
      r.2.mem ((c.tc : Thread Cert.ResidualBack.nD Cert.ResidualBack.τ).loc Cert.ResidualBack.main_arg0) = m ((c.tc : Thread Cert.ResidualBack.nD Cert.ResidualBack.τ).loc Cert.ResidualBack.main_arg0)
      ∧ r.2.mem ((c.tc : Thread Cert.ResidualBack.nD Cert.ResidualBack.τ).loc Cert.ResidualBack.main_arg1) = m ((c.tc : Thread Cert.ResidualBack.nD Cert.ResidualBack.τ).loc Cert.ResidualBack.main_arg1)
      ∧ r.2.mem ((c.tc : Thread Cert.ResidualBack.nD Cert.ResidualBack.τ).loc Cert.ResidualBack.main_arg2) = m ((c.tc : Thread Cert.ResidualBack.nD Cert.ResidualBack.τ).loc Cert.ResidualBack.main_arg2)
      ∧ r.2.mem ((c.tc : Thread Cert.ResidualBack.nD Cert.ResidualBack.τ).loc Cert.ResidualBack.main_arg3) = m ((c.tc : Thread Cert.ResidualBack.nD Cert.ResidualBack.τ).loc Cert.ResidualBack.main_arg3)
      ∧ r.2.mem ((c.tc : Thread Cert.ResidualBack.nD Cert.ResidualBack.τ).loc Cert.ResidualBack.main_arg4) = m ((c.tc : Thread Cert.ResidualBack.nD Cert.ResidualBack.τ).loc Cert.ResidualBack.main_arg4))
      ∧ r.2.sem = fun _ => 0)

def quiescent_ResidualBackIdeal [hResidualBackIdeal : Cert.ResidualBackIdeal.Facts] : Prop :=
  ∀ (m : (ℓ : Loc Cert.ResidualBackIdeal.nD Cert.ResidualBackIdeal.τ Cert.ResidualBackIdeal.sig) → Buf (Elt Ideal) ℓ) (g : Dev Cert.ResidualBackIdeal.nD → PrngReg), Pre_ResidualBackIdeal m →
    θ_run (Cert.ResidualBackIdeal.defs (F := Ideal)) (onTc (τ := Cert.ResidualBackIdeal.τ) (Cert.ResidualBackIdeal.main (F := Ideal))) ⟨m, fun _ => 0, g⟩ (fun r => (∀ c : Dev Cert.ResidualBackIdeal.nD,
      r.2.mem ((c.tc : Thread Cert.ResidualBackIdeal.nD Cert.ResidualBackIdeal.τ).loc Cert.ResidualBackIdeal.main_arg0) = m ((c.tc : Thread Cert.ResidualBackIdeal.nD Cert.ResidualBackIdeal.τ).loc Cert.ResidualBackIdeal.main_arg0)
      ∧ r.2.mem ((c.tc : Thread Cert.ResidualBackIdeal.nD Cert.ResidualBackIdeal.τ).loc Cert.ResidualBackIdeal.main_arg1) = m ((c.tc : Thread Cert.ResidualBackIdeal.nD Cert.ResidualBackIdeal.τ).loc Cert.ResidualBackIdeal.main_arg1)
      ∧ r.2.mem ((c.tc : Thread Cert.ResidualBackIdeal.nD Cert.ResidualBackIdeal.τ).loc Cert.ResidualBackIdeal.main_arg2) = m ((c.tc : Thread Cert.ResidualBackIdeal.nD Cert.ResidualBackIdeal.τ).loc Cert.ResidualBackIdeal.main_arg2)
      ∧ r.2.mem ((c.tc : Thread Cert.ResidualBackIdeal.nD Cert.ResidualBackIdeal.τ).loc Cert.ResidualBackIdeal.main_arg3) = m ((c.tc : Thread Cert.ResidualBackIdeal.nD Cert.ResidualBackIdeal.τ).loc Cert.ResidualBackIdeal.main_arg3)
      ∧ r.2.mem ((c.tc : Thread Cert.ResidualBackIdeal.nD Cert.ResidualBackIdeal.τ).loc Cert.ResidualBackIdeal.main_arg4) = m ((c.tc : Thread Cert.ResidualBackIdeal.nD Cert.ResidualBackIdeal.τ).loc Cert.ResidualBackIdeal.main_arg4))
      ∧ r.2.sem = fun _ => 0)

def quiescent_ResidualBackRefIdeal [hResidualBackRefIdeal : Cert.ResidualBackRefIdeal.Facts] : Prop :=
  ∀ (m : (ℓ : Loc Cert.ResidualBackRefIdeal.nD Cert.ResidualBackRefIdeal.τ Cert.ResidualBackRefIdeal.sig) → Buf (Elt Ideal) ℓ) (g : Dev Cert.ResidualBackRefIdeal.nD → PrngReg), Pre_ResidualBackRefIdeal m →
    θ_run (Cert.ResidualBackRefIdeal.defs (F := Ideal)) (onTc (τ := Cert.ResidualBackRefIdeal.τ) (Cert.ResidualBackRefIdeal.main (F := Ideal))) ⟨m, fun _ => 0, g⟩ (fun r => (∀ c : Dev Cert.ResidualBackRefIdeal.nD,
      r.2.mem ((c.tc : Thread Cert.ResidualBackRefIdeal.nD Cert.ResidualBackRefIdeal.τ).loc Cert.ResidualBackRefIdeal.main_arg0) = m ((c.tc : Thread Cert.ResidualBackRefIdeal.nD Cert.ResidualBackRefIdeal.τ).loc Cert.ResidualBackRefIdeal.main_arg0)
      ∧ r.2.mem ((c.tc : Thread Cert.ResidualBackRefIdeal.nD Cert.ResidualBackRefIdeal.τ).loc Cert.ResidualBackRefIdeal.main_arg1) = m ((c.tc : Thread Cert.ResidualBackRefIdeal.nD Cert.ResidualBackRefIdeal.τ).loc Cert.ResidualBackRefIdeal.main_arg1)
      ∧ r.2.mem ((c.tc : Thread Cert.ResidualBackRefIdeal.nD Cert.ResidualBackRefIdeal.τ).loc Cert.ResidualBackRefIdeal.main_arg2) = m ((c.tc : Thread Cert.ResidualBackRefIdeal.nD Cert.ResidualBackRefIdeal.τ).loc Cert.ResidualBackRefIdeal.main_arg2)
      ∧ r.2.mem ((c.tc : Thread Cert.ResidualBackRefIdeal.nD Cert.ResidualBackRefIdeal.τ).loc Cert.ResidualBackRefIdeal.main_arg3) = m ((c.tc : Thread Cert.ResidualBackRefIdeal.nD Cert.ResidualBackRefIdeal.τ).loc Cert.ResidualBackRefIdeal.main_arg3)
      ∧ r.2.mem ((c.tc : Thread Cert.ResidualBackRefIdeal.nD Cert.ResidualBackRefIdeal.τ).loc Cert.ResidualBackRefIdeal.main_arg4) = m ((c.tc : Thread Cert.ResidualBackRefIdeal.nD Cert.ResidualBackRefIdeal.τ).loc Cert.ResidualBackRefIdeal.main_arg4))
      ∧ r.2.sem = fun _ => 0)

def quiescent_ReadEven [hReadEven : Cert.ReadEven.Facts] : Prop :=
  ∀ (m : (ℓ : Loc Cert.ReadEven.nD Cert.ReadEven.τ Cert.ReadEven.sig) → Buf (Elt Bits) ℓ) (g : Dev Cert.ReadEven.nD → PrngReg), Pre_ReadEven m →
    θ_run (Cert.ReadEven.defs (F := Bits)) (onTc (τ := Cert.ReadEven.τ) (Cert.ReadEven.main (F := Bits))) ⟨m, fun _ => 0, g⟩ (fun r => (∀ c : Dev Cert.ReadEven.nD,
      r.2.mem ((c.tc : Thread Cert.ReadEven.nD Cert.ReadEven.τ).loc Cert.ReadEven.main_arg0) = m ((c.tc : Thread Cert.ReadEven.nD Cert.ReadEven.τ).loc Cert.ReadEven.main_arg0)
      ∧ r.2.mem ((c.tc : Thread Cert.ReadEven.nD Cert.ReadEven.τ).loc Cert.ReadEven.main_arg1) = m ((c.tc : Thread Cert.ReadEven.nD Cert.ReadEven.τ).loc Cert.ReadEven.main_arg1)
      ∧ r.2.mem ((c.tc : Thread Cert.ReadEven.nD Cert.ReadEven.τ).loc Cert.ReadEven.main_arg2) = m ((c.tc : Thread Cert.ReadEven.nD Cert.ReadEven.τ).loc Cert.ReadEven.main_arg2)
      ∧ r.2.mem ((c.tc : Thread Cert.ReadEven.nD Cert.ReadEven.τ).loc Cert.ReadEven.main_arg3) = m ((c.tc : Thread Cert.ReadEven.nD Cert.ReadEven.τ).loc Cert.ReadEven.main_arg3))
      ∧ r.2.sem = fun _ => 0)

def quiescent_ReadEvenIdeal [hReadEvenIdeal : Cert.ReadEvenIdeal.Facts] : Prop :=
  ∀ (m : (ℓ : Loc Cert.ReadEvenIdeal.nD Cert.ReadEvenIdeal.τ Cert.ReadEvenIdeal.sig) → Buf (Elt Ideal) ℓ) (g : Dev Cert.ReadEvenIdeal.nD → PrngReg), Pre_ReadEvenIdeal m →
    θ_run (Cert.ReadEvenIdeal.defs (F := Ideal)) (onTc (τ := Cert.ReadEvenIdeal.τ) (Cert.ReadEvenIdeal.main (F := Ideal))) ⟨m, fun _ => 0, g⟩ (fun r => (∀ c : Dev Cert.ReadEvenIdeal.nD,
      r.2.mem ((c.tc : Thread Cert.ReadEvenIdeal.nD Cert.ReadEvenIdeal.τ).loc Cert.ReadEvenIdeal.main_arg0) = m ((c.tc : Thread Cert.ReadEvenIdeal.nD Cert.ReadEvenIdeal.τ).loc Cert.ReadEvenIdeal.main_arg0)
      ∧ r.2.mem ((c.tc : Thread Cert.ReadEvenIdeal.nD Cert.ReadEvenIdeal.τ).loc Cert.ReadEvenIdeal.main_arg1) = m ((c.tc : Thread Cert.ReadEvenIdeal.nD Cert.ReadEvenIdeal.τ).loc Cert.ReadEvenIdeal.main_arg1)
      ∧ r.2.mem ((c.tc : Thread Cert.ReadEvenIdeal.nD Cert.ReadEvenIdeal.τ).loc Cert.ReadEvenIdeal.main_arg2) = m ((c.tc : Thread Cert.ReadEvenIdeal.nD Cert.ReadEvenIdeal.τ).loc Cert.ReadEvenIdeal.main_arg2)
      ∧ r.2.mem ((c.tc : Thread Cert.ReadEvenIdeal.nD Cert.ReadEvenIdeal.τ).loc Cert.ReadEvenIdeal.main_arg3) = m ((c.tc : Thread Cert.ReadEvenIdeal.nD Cert.ReadEvenIdeal.τ).loc Cert.ReadEvenIdeal.main_arg3))
      ∧ r.2.sem = fun _ => 0)

def quiescent_ReadEvenRefIdeal [hReadEvenRefIdeal : Cert.ReadEvenRefIdeal.Facts] : Prop :=
  ∀ (m : (ℓ : Loc Cert.ReadEvenRefIdeal.nD Cert.ReadEvenRefIdeal.τ Cert.ReadEvenRefIdeal.sig) → Buf (Elt Ideal) ℓ) (g : Dev Cert.ReadEvenRefIdeal.nD → PrngReg), Pre_ReadEvenRefIdeal m →
    θ_run (Cert.ReadEvenRefIdeal.defs (F := Ideal)) (onTc (τ := Cert.ReadEvenRefIdeal.τ) (Cert.ReadEvenRefIdeal.main (F := Ideal))) ⟨m, fun _ => 0, g⟩ (fun r => (∀ c : Dev Cert.ReadEvenRefIdeal.nD,
      r.2.mem ((c.tc : Thread Cert.ReadEvenRefIdeal.nD Cert.ReadEvenRefIdeal.τ).loc Cert.ReadEvenRefIdeal.main_arg0) = m ((c.tc : Thread Cert.ReadEvenRefIdeal.nD Cert.ReadEvenRefIdeal.τ).loc Cert.ReadEvenRefIdeal.main_arg0)
      ∧ r.2.mem ((c.tc : Thread Cert.ReadEvenRefIdeal.nD Cert.ReadEvenRefIdeal.τ).loc Cert.ReadEvenRefIdeal.main_arg1) = m ((c.tc : Thread Cert.ReadEvenRefIdeal.nD Cert.ReadEvenRefIdeal.τ).loc Cert.ReadEvenRefIdeal.main_arg1)
      ∧ r.2.mem ((c.tc : Thread Cert.ReadEvenRefIdeal.nD Cert.ReadEvenRefIdeal.τ).loc Cert.ReadEvenRefIdeal.main_arg2) = m ((c.tc : Thread Cert.ReadEvenRefIdeal.nD Cert.ReadEvenRefIdeal.τ).loc Cert.ReadEvenRefIdeal.main_arg2)
      ∧ r.2.mem ((c.tc : Thread Cert.ReadEvenRefIdeal.nD Cert.ReadEvenRefIdeal.τ).loc Cert.ReadEvenRefIdeal.main_arg3) = m ((c.tc : Thread Cert.ReadEvenRefIdeal.nD Cert.ReadEvenRefIdeal.τ).loc Cert.ReadEvenRefIdeal.main_arg3))
      ∧ r.2.sem = fun _ => 0)

def quiescent_ReadOdd [hReadOdd : Cert.ReadOdd.Facts] : Prop :=
  ∀ (m : (ℓ : Loc Cert.ReadOdd.nD Cert.ReadOdd.τ Cert.ReadOdd.sig) → Buf (Elt Bits) ℓ) (g : Dev Cert.ReadOdd.nD → PrngReg), Pre_ReadOdd m →
    θ_run (Cert.ReadOdd.defs (F := Bits)) (onTc (τ := Cert.ReadOdd.τ) (Cert.ReadOdd.main (F := Bits))) ⟨m, fun _ => 0, g⟩ (fun r => (∀ c : Dev Cert.ReadOdd.nD,
      r.2.mem ((c.tc : Thread Cert.ReadOdd.nD Cert.ReadOdd.τ).loc Cert.ReadOdd.main_arg0) = m ((c.tc : Thread Cert.ReadOdd.nD Cert.ReadOdd.τ).loc Cert.ReadOdd.main_arg0)
      ∧ r.2.mem ((c.tc : Thread Cert.ReadOdd.nD Cert.ReadOdd.τ).loc Cert.ReadOdd.main_arg1) = m ((c.tc : Thread Cert.ReadOdd.nD Cert.ReadOdd.τ).loc Cert.ReadOdd.main_arg1)
      ∧ r.2.mem ((c.tc : Thread Cert.ReadOdd.nD Cert.ReadOdd.τ).loc Cert.ReadOdd.main_arg2) = m ((c.tc : Thread Cert.ReadOdd.nD Cert.ReadOdd.τ).loc Cert.ReadOdd.main_arg2)
      ∧ r.2.mem ((c.tc : Thread Cert.ReadOdd.nD Cert.ReadOdd.τ).loc Cert.ReadOdd.main_arg3) = m ((c.tc : Thread Cert.ReadOdd.nD Cert.ReadOdd.τ).loc Cert.ReadOdd.main_arg3))
      ∧ r.2.sem = fun _ => 0)

def quiescent_ReadOddIdeal [hReadOddIdeal : Cert.ReadOddIdeal.Facts] : Prop :=
  ∀ (m : (ℓ : Loc Cert.ReadOddIdeal.nD Cert.ReadOddIdeal.τ Cert.ReadOddIdeal.sig) → Buf (Elt Ideal) ℓ) (g : Dev Cert.ReadOddIdeal.nD → PrngReg), Pre_ReadOddIdeal m →
    θ_run (Cert.ReadOddIdeal.defs (F := Ideal)) (onTc (τ := Cert.ReadOddIdeal.τ) (Cert.ReadOddIdeal.main (F := Ideal))) ⟨m, fun _ => 0, g⟩ (fun r => (∀ c : Dev Cert.ReadOddIdeal.nD,
      r.2.mem ((c.tc : Thread Cert.ReadOddIdeal.nD Cert.ReadOddIdeal.τ).loc Cert.ReadOddIdeal.main_arg0) = m ((c.tc : Thread Cert.ReadOddIdeal.nD Cert.ReadOddIdeal.τ).loc Cert.ReadOddIdeal.main_arg0)
      ∧ r.2.mem ((c.tc : Thread Cert.ReadOddIdeal.nD Cert.ReadOddIdeal.τ).loc Cert.ReadOddIdeal.main_arg1) = m ((c.tc : Thread Cert.ReadOddIdeal.nD Cert.ReadOddIdeal.τ).loc Cert.ReadOddIdeal.main_arg1)
      ∧ r.2.mem ((c.tc : Thread Cert.ReadOddIdeal.nD Cert.ReadOddIdeal.τ).loc Cert.ReadOddIdeal.main_arg2) = m ((c.tc : Thread Cert.ReadOddIdeal.nD Cert.ReadOddIdeal.τ).loc Cert.ReadOddIdeal.main_arg2)
      ∧ r.2.mem ((c.tc : Thread Cert.ReadOddIdeal.nD Cert.ReadOddIdeal.τ).loc Cert.ReadOddIdeal.main_arg3) = m ((c.tc : Thread Cert.ReadOddIdeal.nD Cert.ReadOddIdeal.τ).loc Cert.ReadOddIdeal.main_arg3))
      ∧ r.2.sem = fun _ => 0)

def quiescent_ReadOddRefIdeal [hReadOddRefIdeal : Cert.ReadOddRefIdeal.Facts] : Prop :=
  ∀ (m : (ℓ : Loc Cert.ReadOddRefIdeal.nD Cert.ReadOddRefIdeal.τ Cert.ReadOddRefIdeal.sig) → Buf (Elt Ideal) ℓ) (g : Dev Cert.ReadOddRefIdeal.nD → PrngReg), Pre_ReadOddRefIdeal m →
    θ_run (Cert.ReadOddRefIdeal.defs (F := Ideal)) (onTc (τ := Cert.ReadOddRefIdeal.τ) (Cert.ReadOddRefIdeal.main (F := Ideal))) ⟨m, fun _ => 0, g⟩ (fun r => (∀ c : Dev Cert.ReadOddRefIdeal.nD,
      r.2.mem ((c.tc : Thread Cert.ReadOddRefIdeal.nD Cert.ReadOddRefIdeal.τ).loc Cert.ReadOddRefIdeal.main_arg0) = m ((c.tc : Thread Cert.ReadOddRefIdeal.nD Cert.ReadOddRefIdeal.τ).loc Cert.ReadOddRefIdeal.main_arg0)
      ∧ r.2.mem ((c.tc : Thread Cert.ReadOddRefIdeal.nD Cert.ReadOddRefIdeal.τ).loc Cert.ReadOddRefIdeal.main_arg1) = m ((c.tc : Thread Cert.ReadOddRefIdeal.nD Cert.ReadOddRefIdeal.τ).loc Cert.ReadOddRefIdeal.main_arg1)
      ∧ r.2.mem ((c.tc : Thread Cert.ReadOddRefIdeal.nD Cert.ReadOddRefIdeal.τ).loc Cert.ReadOddRefIdeal.main_arg2) = m ((c.tc : Thread Cert.ReadOddRefIdeal.nD Cert.ReadOddRefIdeal.τ).loc Cert.ReadOddRefIdeal.main_arg2)
      ∧ r.2.mem ((c.tc : Thread Cert.ReadOddRefIdeal.nD Cert.ReadOddRefIdeal.τ).loc Cert.ReadOddRefIdeal.main_arg3) = m ((c.tc : Thread Cert.ReadOddRefIdeal.nD Cert.ReadOddRefIdeal.τ).loc Cert.ReadOddRefIdeal.main_arg3))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![14848, 1024]⟩ ⟨2, ![118784, 1024]⟩ 0 8 c (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![14848, 1024]⟩ ⟨2, ![118784, 1024]⟩ 0 8 c (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Chips_ChipsIdeal : Prop :=
  True

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 14848, 1024]⟩ ⟨3, ![32, 14848, 1024]⟩ 0 8 c (m' (((0 : Dev Cert.ChipsRefIdeal.nD).tc : Thread Cert.ChipsRefIdeal.nD Cert.ChipsRefIdeal.τ).loc Cert.ChipsRefIdeal.main_arg0))) →
    ∃ (v0 : Buf (Elt Ideal) (((0 : Dev Cert.ChipsRefIdeal.nD).tc : Thread Cert.ChipsRefIdeal.nD Cert.ChipsRefIdeal.τ).loc Cert.ChipsRefIdeal.main_v14)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v2) = Layout.block ⟨2, ![14848, 1024]⟩ ⟨2, ![118784, 1024]⟩ 0 8 c v0
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v14) = v0
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0))

def bitexact_Chips_ChipsRef [hChips : Cert.Chips.Facts] [hChipsRef : Cert.ChipsRef.Facts] : Prop :=
  ∀ (m : (ℓ : Loc Cert.Chips.nD Cert.Chips.τ Cert.Chips.sig) → Buf (Elt Bits) ℓ) (g : Dev Cert.Chips.nD → PrngReg)
    (m' : (ℓ : Loc Cert.ChipsRef.nD Cert.ChipsRef.τ Cert.ChipsRef.sig) → Buf (Elt Bits) ℓ) (g' : Dev Cert.ChipsRef.nD → PrngReg), Pre_Chips m →
    (∀ c : Dev Cert.Chips.nD,
      m ((c.tc : Thread Cert.Chips.nD Cert.Chips.τ).loc Cert.Chips.main_arg0) = Layout.block ⟨3, ![4, 14848, 1024]⟩ ⟨3, ![32, 14848, 1024]⟩ 0 8 c (m' (((0 : Dev Cert.ChipsRef.nD).tc : Thread Cert.ChipsRef.nD Cert.ChipsRef.τ).loc Cert.ChipsRef.main_arg0))) →
    ∃ (v0 : Buf (Elt Bits) (((0 : Dev Cert.ChipsRef.nD).tc : Thread Cert.ChipsRef.nD Cert.ChipsRef.τ).loc Cert.ChipsRef.main_v14)),
      θ_run (Cert.Chips.defs (F := Bits)) (onTc (τ := Cert.Chips.τ) (Cert.Chips.main (F := Bits))) ⟨m, fun _ => 0, g⟩ (fun r => ∀ c : Dev Cert.Chips.nD,
          r.2.mem ((c.tc : Thread Cert.Chips.nD Cert.Chips.τ).loc Cert.Chips.main_v2) = Layout.block ⟨2, ![14848, 1024]⟩ ⟨2, ![118784, 1024]⟩ 0 8 c v0
          ∧ r.2.mem ((c.tc : Thread Cert.Chips.nD Cert.Chips.τ).loc Cert.Chips.main_arg0) = m ((c.tc : Thread Cert.Chips.nD Cert.Chips.τ).loc Cert.Chips.main_arg0))
      ∧ θ_run (Cert.ChipsRef.defs (F := Bits)) (onTc (τ := Cert.ChipsRef.τ) (Cert.ChipsRef.main (F := Bits))) ⟨m', fun _ => 0, g'⟩ (fun r =>
          r.2.mem (((0 : Dev Cert.ChipsRef.nD).tc : Thread Cert.ChipsRef.nD Cert.ChipsRef.τ).loc Cert.ChipsRef.main_v14) = v0
          ∧ r.2.mem (((0 : Dev Cert.ChipsRef.nD).tc : Thread Cert.ChipsRef.nD Cert.ChipsRef.τ).loc Cert.ChipsRef.main_arg0) = m' (((0 : Dev Cert.ChipsRef.nD).tc : Thread Cert.ChipsRef.nD Cert.ChipsRef.τ).loc Cert.ChipsRef.main_arg0))

def preserves_Cores_CoresIdeal : Prop :=
  True

def algebraic_CoresIdeal_CoresRefIdeal [hCoresIdeal : Cert.CoresIdeal.Facts] [hCoresRefIdeal : Cert.CoresRefIdeal.Facts] : Prop :=
  ∀ (m : (ℓ : Loc Cert.CoresIdeal.nD Cert.CoresIdeal.τ Cert.CoresIdeal.sig) → Buf (Elt Ideal) ℓ) (g : Dev Cert.CoresIdeal.nD → PrngReg)
    (m' : (ℓ : Loc Cert.CoresRefIdeal.nD Cert.CoresRefIdeal.τ Cert.CoresRefIdeal.sig) → Buf (Elt Ideal) ℓ) (g' : Dev Cert.CoresRefIdeal.nD → PrngReg), Pre_CoresIdeal m →
    (∀ c : Dev Cert.CoresIdeal.nD,
      m ((c.tc : Thread Cert.CoresIdeal.nD Cert.CoresIdeal.τ).loc Cert.CoresIdeal.main_arg0) = Layout.block ⟨3, ![4, 14848, 1024]⟩ ⟨3, ![32, 14848, 1024]⟩ 0 8 c (m' (((0 : Dev Cert.CoresRefIdeal.nD).tc : Thread Cert.CoresRefIdeal.nD Cert.CoresRefIdeal.τ).loc Cert.CoresRefIdeal.main_arg0))
      ∧ m ((c.tc : Thread Cert.CoresIdeal.nD Cert.CoresIdeal.τ).loc Cert.CoresIdeal.main_arg1) = Layout.block ⟨3, ![4, 14848, 1024]⟩ ⟨3, ![32, 14848, 1024]⟩ 0 8 c (m' (((0 : Dev Cert.CoresRefIdeal.nD).tc : Thread Cert.CoresRefIdeal.nD Cert.CoresRefIdeal.τ).loc Cert.CoresRefIdeal.main_arg1))) →
    ∃ (v0 : Buf (Elt Ideal) (((0 : Dev Cert.CoresRefIdeal.nD).tc : Thread Cert.CoresRefIdeal.nD Cert.CoresRefIdeal.τ).loc Cert.CoresRefIdeal.main_v4)),
      θ_run (Cert.CoresIdeal.defs (F := Ideal)) (onTc (τ := Cert.CoresIdeal.τ) (Cert.CoresIdeal.main (F := Ideal))) ⟨m, fun _ => 0, g⟩ (fun r => ∀ c : Dev Cert.CoresIdeal.nD,
          r.2.mem ((c.tc : Thread Cert.CoresIdeal.nD Cert.CoresIdeal.τ).loc Cert.CoresIdeal.main_v2) = Layout.block ⟨3, ![4, 14848, 1024]⟩ ⟨3, ![32, 14848, 1024]⟩ 0 8 c v0
          ∧ r.2.mem ((c.tc : Thread Cert.CoresIdeal.nD Cert.CoresIdeal.τ).loc Cert.CoresIdeal.main_arg0) = m ((c.tc : Thread Cert.CoresIdeal.nD Cert.CoresIdeal.τ).loc Cert.CoresIdeal.main_arg0)
          ∧ r.2.mem ((c.tc : Thread Cert.CoresIdeal.nD Cert.CoresIdeal.τ).loc Cert.CoresIdeal.main_arg1) = m ((c.tc : Thread Cert.CoresIdeal.nD Cert.CoresIdeal.τ).loc Cert.CoresIdeal.main_arg1))
      ∧ θ_run (Cert.CoresRefIdeal.defs (F := Ideal)) (onTc (τ := Cert.CoresRefIdeal.τ) (Cert.CoresRefIdeal.main (F := Ideal))) ⟨m', fun _ => 0, g'⟩ (fun r =>
          r.2.mem (((0 : Dev Cert.CoresRefIdeal.nD).tc : Thread Cert.CoresRefIdeal.nD Cert.CoresRefIdeal.τ).loc Cert.CoresRefIdeal.main_v4) = v0
          ∧ r.2.mem (((0 : Dev Cert.CoresRefIdeal.nD).tc : Thread Cert.CoresRefIdeal.nD Cert.CoresRefIdeal.τ).loc Cert.CoresRefIdeal.main_arg0) = m' (((0 : Dev Cert.CoresRefIdeal.nD).tc : Thread Cert.CoresRefIdeal.nD Cert.CoresRefIdeal.τ).loc Cert.CoresRefIdeal.main_arg0)
          ∧ r.2.mem (((0 : Dev Cert.CoresRefIdeal.nD).tc : Thread Cert.CoresRefIdeal.nD Cert.CoresRefIdeal.τ).loc Cert.CoresRefIdeal.main_arg1) = m' (((0 : Dev Cert.CoresRefIdeal.nD).tc : Thread Cert.CoresRefIdeal.nD Cert.CoresRefIdeal.τ).loc Cert.CoresRefIdeal.main_arg1))

def bitexact_Cores_CoresRef [hCores : Cert.Cores.Facts] [hCoresRef : Cert.CoresRef.Facts] : Prop :=
  ∀ (m : (ℓ : Loc Cert.Cores.nD Cert.Cores.τ Cert.Cores.sig) → Buf (Elt Bits) ℓ) (g : Dev Cert.Cores.nD → PrngReg)
    (m' : (ℓ : Loc Cert.CoresRef.nD Cert.CoresRef.τ Cert.CoresRef.sig) → Buf (Elt Bits) ℓ) (g' : Dev Cert.CoresRef.nD → PrngReg), Pre_Cores m →
    (∀ c : Dev Cert.Cores.nD,
      m ((c.tc : Thread Cert.Cores.nD Cert.Cores.τ).loc Cert.Cores.main_arg0) = Layout.block ⟨3, ![4, 14848, 1024]⟩ ⟨3, ![32, 14848, 1024]⟩ 0 8 c (m' (((0 : Dev Cert.CoresRef.nD).tc : Thread Cert.CoresRef.nD Cert.CoresRef.τ).loc Cert.CoresRef.main_arg0))
      ∧ m ((c.tc : Thread Cert.Cores.nD Cert.Cores.τ).loc Cert.Cores.main_arg1) = Layout.block ⟨3, ![4, 14848, 1024]⟩ ⟨3, ![32, 14848, 1024]⟩ 0 8 c (m' (((0 : Dev Cert.CoresRef.nD).tc : Thread Cert.CoresRef.nD Cert.CoresRef.τ).loc Cert.CoresRef.main_arg1))) →
    ∃ (v0 : Buf (Elt Bits) (((0 : Dev Cert.CoresRef.nD).tc : Thread Cert.CoresRef.nD Cert.CoresRef.τ).loc Cert.CoresRef.main_v4)),
      θ_run (Cert.Cores.defs (F := Bits)) (onTc (τ := Cert.Cores.τ) (Cert.Cores.main (F := Bits))) ⟨m, fun _ => 0, g⟩ (fun r => ∀ c : Dev Cert.Cores.nD,
          r.2.mem ((c.tc : Thread Cert.Cores.nD Cert.Cores.τ).loc Cert.Cores.main_v2) = Layout.block ⟨3, ![4, 14848, 1024]⟩ ⟨3, ![32, 14848, 1024]⟩ 0 8 c v0
          ∧ r.2.mem ((c.tc : Thread Cert.Cores.nD Cert.Cores.τ).loc Cert.Cores.main_arg0) = m ((c.tc : Thread Cert.Cores.nD Cert.Cores.τ).loc Cert.Cores.main_arg0)
          ∧ r.2.mem ((c.tc : Thread Cert.Cores.nD Cert.Cores.τ).loc Cert.Cores.main_arg1) = m ((c.tc : Thread Cert.Cores.nD Cert.Cores.τ).loc Cert.Cores.main_arg1))
      ∧ θ_run (Cert.CoresRef.defs (F := Bits)) (onTc (τ := Cert.CoresRef.τ) (Cert.CoresRef.main (F := Bits))) ⟨m', fun _ => 0, g'⟩ (fun r =>
          r.2.mem (((0 : Dev Cert.CoresRef.nD).tc : Thread Cert.CoresRef.nD Cert.CoresRef.τ).loc Cert.CoresRef.main_v4) = v0
          ∧ r.2.mem (((0 : Dev Cert.CoresRef.nD).tc : Thread Cert.CoresRef.nD Cert.CoresRef.τ).loc Cert.CoresRef.main_arg0) = m' (((0 : Dev Cert.CoresRef.nD).tc : Thread Cert.CoresRef.nD Cert.CoresRef.τ).loc Cert.CoresRef.main_arg0)
          ∧ r.2.mem (((0 : Dev Cert.CoresRef.nD).tc : Thread Cert.CoresRef.nD Cert.CoresRef.τ).loc Cert.CoresRef.main_arg1) = m' (((0 : Dev Cert.CoresRef.nD).tc : Thread Cert.CoresRef.nD Cert.CoresRef.τ).loc Cert.CoresRef.main_arg1))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![344, 1024]⟩ ⟨2, ![2752, 1024]⟩ 0 8 c (m' (((0 : Dev Cert.SmallRefIdeal.nD).tc : Thread Cert.SmallRefIdeal.nD Cert.SmallRefIdeal.τ).loc Cert.SmallRefIdeal.main_arg0))) →
    ∃ (v0 : Buf (Elt Ideal) (((0 : Dev Cert.SmallRefIdeal.nD).tc : Thread Cert.SmallRefIdeal.nD Cert.SmallRefIdeal.τ).loc Cert.SmallRefIdeal.main_v23)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v2) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallRefIdeal.defs (F := Ideal)) (onTc (τ := Cert.SmallRefIdeal.τ) (Cert.SmallRefIdeal.main (F := Ideal))) ⟨m', fun _ => 0, g'⟩ (fun r =>
          r.2.mem (((0 : Dev Cert.SmallRefIdeal.nD).tc : Thread Cert.SmallRefIdeal.nD Cert.SmallRefIdeal.τ).loc Cert.SmallRefIdeal.main_v23) = v0
          ∧ r.2.mem (((0 : Dev Cert.SmallRefIdeal.nD).tc : Thread Cert.SmallRefIdeal.nD Cert.SmallRefIdeal.τ).loc Cert.SmallRefIdeal.main_arg0) = m' (((0 : Dev Cert.SmallRefIdeal.nD).tc : Thread Cert.SmallRefIdeal.nD Cert.SmallRefIdeal.τ).loc Cert.SmallRefIdeal.main_arg0))

def bitexact_Small_SmallRef [hSmall : Cert.Small.Facts] [hSmallRef : Cert.SmallRef.Facts] : Prop :=
  ∀ (m : (ℓ : Loc Cert.Small.nD Cert.Small.τ Cert.Small.sig) → Buf (Elt Bits) ℓ) (g : Dev Cert.Small.nD → PrngReg)
    (m' : (ℓ : Loc Cert.SmallRef.nD Cert.SmallRef.τ Cert.SmallRef.sig) → Buf (Elt Bits) ℓ) (g' : Dev Cert.SmallRef.nD → PrngReg), Pre_Small m →
    (∀ c : Dev Cert.Small.nD,
      m ((c.tc : Thread Cert.Small.nD Cert.Small.τ).loc Cert.Small.main_arg0) = Layout.block ⟨2, ![344, 1024]⟩ ⟨2, ![2752, 1024]⟩ 0 8 c (m' (((0 : Dev Cert.SmallRef.nD).tc : Thread Cert.SmallRef.nD Cert.SmallRef.τ).loc Cert.SmallRef.main_arg0))) →
    ∃ (v0 : Buf (Elt Bits) (((0 : Dev Cert.SmallRef.nD).tc : Thread Cert.SmallRef.nD Cert.SmallRef.τ).loc Cert.SmallRef.main_v23)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v2) = v0
          ∧ r.2.mem ((c.tc : Thread Cert.Small.nD Cert.Small.τ).loc Cert.Small.main_arg0) = m ((c.tc : Thread Cert.Small.nD Cert.Small.τ).loc Cert.Small.main_arg0))
      ∧ θ_run (Cert.SmallRef.defs (F := Bits)) (onTc (τ := Cert.SmallRef.τ) (Cert.SmallRef.main (F := Bits))) ⟨m', fun _ => 0, g'⟩ (fun r =>
          r.2.mem (((0 : Dev Cert.SmallRef.nD).tc : Thread Cert.SmallRef.nD Cert.SmallRef.τ).loc Cert.SmallRef.main_v23) = v0
          ∧ r.2.mem (((0 : Dev Cert.SmallRef.nD).tc : Thread Cert.SmallRef.nD Cert.SmallRef.τ).loc Cert.SmallRef.main_arg0) = m' (((0 : Dev Cert.SmallRef.nD).tc : Thread Cert.SmallRef.nD Cert.SmallRef.τ).loc Cert.SmallRef.main_arg0))

def preserves_Update_UpdateIdeal : Prop :=
  True

def algebraic_UpdateIdeal_UpdateRefIdeal [hUpdateIdeal : Cert.UpdateIdeal.Facts] [hUpdateRefIdeal : Cert.UpdateRefIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateRefIdeal.nD Cert.UpdateRefIdeal.τ Cert.UpdateRefIdeal.sig) → Buf (Elt Ideal) ℓ) (g' : Dev Cert.UpdateRefIdeal.nD → PrngReg), Pre_UpdateIdeal m →
    (∀ c : Dev Cert.UpdateIdeal.nD,
      m' ((c.tc : Thread Cert.UpdateRefIdeal.nD Cert.UpdateRefIdeal.τ).loc Cert.UpdateRefIdeal.main_arg0) = m ((c.tc : Thread Cert.UpdateIdeal.nD Cert.UpdateIdeal.τ).loc Cert.UpdateIdeal.main_arg0)
      ∧ m' ((c.tc : Thread Cert.UpdateRefIdeal.nD Cert.UpdateRefIdeal.τ).loc Cert.UpdateRefIdeal.main_arg1) = m ((c.tc : Thread Cert.UpdateIdeal.nD Cert.UpdateIdeal.τ).loc Cert.UpdateIdeal.main_arg1)
      ∧ m' ((c.tc : Thread Cert.UpdateRefIdeal.nD Cert.UpdateRefIdeal.τ).loc Cert.UpdateRefIdeal.main_arg2) = m ((c.tc : Thread Cert.UpdateIdeal.nD Cert.UpdateIdeal.τ).loc Cert.UpdateIdeal.main_arg2)
      ∧ m' ((c.tc : Thread Cert.UpdateRefIdeal.nD Cert.UpdateRefIdeal.τ).loc Cert.UpdateRefIdeal.main_arg3) = m ((c.tc : Thread Cert.UpdateIdeal.nD Cert.UpdateIdeal.τ).loc Cert.UpdateIdeal.main_arg3)) →
    ∃ (v0 : (c : Dev Cert.UpdateIdeal.nD) → Buf (Elt Ideal) ((c.tc : Thread Cert.UpdateIdeal.nD Cert.UpdateIdeal.τ).loc Cert.UpdateIdeal.main_v0_0)) (v1 : (c : Dev Cert.UpdateIdeal.nD) → Buf (Elt Ideal) ((c.tc : Thread Cert.UpdateIdeal.nD Cert.UpdateIdeal.τ).loc Cert.UpdateIdeal.main_v0_1)) (v2 : (c : Dev Cert.UpdateIdeal.nD) → Buf (Elt Ideal) ((c.tc : Thread Cert.UpdateIdeal.nD Cert.UpdateIdeal.τ).loc Cert.UpdateIdeal.main_v0_2)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v0_0) = v0 c
          ∧ r.2.mem ((c.tc : Thread Cert.UpdateIdeal.nD Cert.UpdateIdeal.τ).loc Cert.UpdateIdeal.main_v0_1) = v1 c
          ∧ r.2.mem ((c.tc : Thread Cert.UpdateIdeal.nD Cert.UpdateIdeal.τ).loc Cert.UpdateIdeal.main_v0_2) = v2 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ θ_run (Cert.UpdateRefIdeal.defs (F := Ideal)) (onTc (τ := Cert.UpdateRefIdeal.τ) (Cert.UpdateRefIdeal.main (F := Ideal))) ⟨m', fun _ => 0, g'⟩ (fun r => ∀ c : Dev Cert.UpdateRefIdeal.nD,
          r.2.mem ((c.tc : Thread Cert.UpdateRefIdeal.nD Cert.UpdateRefIdeal.τ).loc Cert.UpdateRefIdeal.main_v23) = v0 c
          ∧ r.2.mem ((c.tc : Thread Cert.UpdateRefIdeal.nD Cert.UpdateRefIdeal.τ).loc Cert.UpdateRefIdeal.main_v4) = v1 c
          ∧ r.2.mem ((c.tc : Thread Cert.UpdateRefIdeal.nD Cert.UpdateRefIdeal.τ).loc Cert.UpdateRefIdeal.main_v10) = v2 c
          ∧ r.2.mem ((c.tc : Thread Cert.UpdateRefIdeal.nD Cert.UpdateRefIdeal.τ).loc Cert.UpdateRefIdeal.main_arg0) = m' ((c.tc : Thread Cert.UpdateRefIdeal.nD Cert.UpdateRefIdeal.τ).loc Cert.UpdateRefIdeal.main_arg0)
          ∧ r.2.mem ((c.tc : Thread Cert.UpdateRefIdeal.nD Cert.UpdateRefIdeal.τ).loc Cert.UpdateRefIdeal.main_arg1) = m' ((c.tc : Thread Cert.UpdateRefIdeal.nD Cert.UpdateRefIdeal.τ).loc Cert.UpdateRefIdeal.main_arg1)
          ∧ r.2.mem ((c.tc : Thread Cert.UpdateRefIdeal.nD Cert.UpdateRefIdeal.τ).loc Cert.UpdateRefIdeal.main_arg2) = m' ((c.tc : Thread Cert.UpdateRefIdeal.nD Cert.UpdateRefIdeal.τ).loc Cert.UpdateRefIdeal.main_arg2)
          ∧ r.2.mem ((c.tc : Thread Cert.UpdateRefIdeal.nD Cert.UpdateRefIdeal.τ).loc Cert.UpdateRefIdeal.main_arg3) = m' ((c.tc : Thread Cert.UpdateRefIdeal.nD Cert.UpdateRefIdeal.τ).loc Cert.UpdateRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m ((c.tc : Thread Cert.LossIdeal.nD Cert.LossIdeal.τ).loc Cert.LossIdeal.main_arg0) = Layout.block ⟨2, ![8448, 2048]⟩ ⟨2, ![67584, 2048]⟩ 0 8 c (m' (((0 : Dev Cert.LossRefIdeal.nD).tc : Thread Cert.LossRefIdeal.nD Cert.LossRefIdeal.τ).loc Cert.LossRefIdeal.main_arg0))
      ∧ m ((c.tc : Thread Cert.LossIdeal.nD Cert.LossIdeal.τ).loc Cert.LossIdeal.main_arg1) = Layout.block ⟨2, ![8192, 2048]⟩ ⟨2, ![65536, 2048]⟩ 0 8 c (m' (((0 : Dev Cert.LossRefIdeal.nD).tc : Thread Cert.LossRefIdeal.nD Cert.LossRefIdeal.τ).loc Cert.LossRefIdeal.main_arg1))) →
    ∃ (v0 : Buf (Elt Ideal) (((0 : Dev Cert.LossRefIdeal.nD).tc : Thread Cert.LossRefIdeal.nD Cert.LossRefIdeal.τ).loc Cert.LossRefIdeal.main_v9)) (v1 : Buf (Elt Ideal) (((0 : Dev Cert.LossRefIdeal.nD).tc : Thread Cert.LossRefIdeal.nD Cert.LossRefIdeal.τ).loc Cert.LossRefIdeal.main_v13)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0
          ∧ r.2.mem ((c.tc : Thread Cert.LossIdeal.nD Cert.LossIdeal.τ).loc Cert.LossIdeal.main_v1_0) = Layout.block ⟨2, ![8448, 2048]⟩ ⟨2, ![67584, 2048]⟩ 0 8 c v1
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r =>
          r.2.mem (((0 : Dev Cert.LossRefIdeal.nD).tc : Thread Cert.LossRefIdeal.nD Cert.LossRefIdeal.τ).loc Cert.LossRefIdeal.main_v9) = v0
          ∧ r.2.mem (((0 : Dev Cert.LossRefIdeal.nD).tc : Thread Cert.LossRefIdeal.nD Cert.LossRefIdeal.τ).loc Cert.LossRefIdeal.main_v13) = v1
          ∧ r.2.mem (((0 : Dev Cert.LossRefIdeal.nD).tc : Thread Cert.LossRefIdeal.nD Cert.LossRefIdeal.τ).loc Cert.LossRefIdeal.main_arg0) = m' (((0 : Dev Cert.LossRefIdeal.nD).tc : Thread Cert.LossRefIdeal.nD Cert.LossRefIdeal.τ).loc Cert.LossRefIdeal.main_arg0)
          ∧ r.2.mem (((0 : Dev Cert.LossRefIdeal.nD).tc : Thread Cert.LossRefIdeal.nD Cert.LossRefIdeal.τ).loc Cert.LossRefIdeal.main_arg1) = m' (((0 : Dev Cert.LossRefIdeal.nD).tc : Thread Cert.LossRefIdeal.nD Cert.LossRefIdeal.τ).loc Cert.LossRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)
      ∧ m' ((c.tc : Thread Cert.AdaRefIdeal.nD Cert.AdaRefIdeal.τ).loc Cert.AdaRefIdeal.main_arg4) = m ((c.tc : Thread Cert.AdaIdeal.nD Cert.AdaIdeal.τ).loc Cert.AdaIdeal.main_arg4)) →
    ∃ (v0 : (c : Dev Cert.AdaIdeal.nD) → Buf (Elt Ideal) ((c.tc : Thread Cert.AdaIdeal.nD Cert.AdaIdeal.τ).loc Cert.AdaIdeal.main_v1_1)) (v1 : (c : Dev Cert.AdaIdeal.nD) → Buf (Elt Ideal) ((c.tc : Thread Cert.AdaIdeal.nD Cert.AdaIdeal.τ).loc Cert.AdaIdeal.main_v1_2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1_1) = v0 c
          ∧ r.2.mem ((c.tc : Thread Cert.AdaIdeal.nD Cert.AdaIdeal.τ).loc Cert.AdaIdeal.main_v1_2) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_v7) = v1 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v1_0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v53) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Hidden_HiddenIdeal : Prop :=
  True

def algebraic_HiddenIdeal_HiddenRefIdeal [hHiddenIdeal : Cert.HiddenIdeal.Facts] [hHiddenRefIdeal : Cert.HiddenRefIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)) →
    ∃ (v0 : (c : Dev Cert.HiddenIdeal.nD) → Buf (Elt Ideal) ((c.tc : Thread Cert.HiddenIdeal.nD Cert.HiddenIdeal.τ).loc Cert.HiddenIdeal.main_v0)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v0) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v3) = v0 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v0)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v0) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v3) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)) →
    ∃ (v0 : (c : Dev Cert.EvenOutIdeal.nD) → Buf (Elt Ideal) ((c.tc : Thread Cert.EvenOutIdeal.nD Cert.EvenOutIdeal.τ).loc Cert.EvenOutIdeal.main_v0)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v0) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v3) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v0)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v0) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v3) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_OddGate_OddGateIdeal : Prop :=
  True

def algebraic_OddGateIdeal_OddGateRefIdeal [hOddGateIdeal : Cert.OddGateIdeal.Facts] [hOddGateRefIdeal : Cert.OddGateRefIdeal.Facts] : Prop :=
  ∀ (m : (ℓ : Loc Cert.OddGateIdeal.nD Cert.OddGateIdeal.τ Cert.OddGateIdeal.sig) → Buf (Elt Ideal) ℓ) (g : Dev Cert.OddGateIdeal.nD → PrngReg)
    (m' : (ℓ : Loc Cert.OddGateRefIdeal.nD Cert.OddGateRefIdeal.τ Cert.OddGateRefIdeal.sig) → Buf (Elt Ideal) ℓ) (g' : Dev Cert.OddGateRefIdeal.nD → PrngReg), Pre_OddGateIdeal m →
    (∀ c : Dev Cert.OddGateIdeal.nD,
      m' ((c.tc : Thread Cert.OddGateRefIdeal.nD Cert.OddGateRefIdeal.τ).loc Cert.OddGateRefIdeal.main_arg0) = m ((c.tc : Thread Cert.OddGateIdeal.nD Cert.OddGateIdeal.τ).loc Cert.OddGateIdeal.main_arg0)
      ∧ m' ((c.tc : Thread Cert.OddGateRefIdeal.nD Cert.OddGateRefIdeal.τ).loc Cert.OddGateRefIdeal.main_arg1) = m ((c.tc : Thread Cert.OddGateIdeal.nD Cert.OddGateIdeal.τ).loc Cert.OddGateIdeal.main_arg1)) →
    ∃ (v0 : (c : Dev Cert.OddGateIdeal.nD) → Buf (Elt Ideal) ((c.tc : Thread Cert.OddGateIdeal.nD Cert.OddGateIdeal.τ).loc Cert.OddGateIdeal.main_v0)),
      θ_run (Cert.OddGateIdeal.defs (F := Ideal)) (onTc (τ := Cert.OddGateIdeal.τ) (Cert.OddGateIdeal.main (F := Ideal))) ⟨m, fun _ => 0, g⟩ (fun r => ∀ c : Dev Cert.OddGateIdeal.nD,
          r.2.mem ((c.tc : Thread Cert.OddGateIdeal.nD Cert.OddGateIdeal.τ).loc Cert.OddGateIdeal.main_v0) = v0 c
          ∧ r.2.mem ((c.tc : Thread Cert.OddGateIdeal.nD Cert.OddGateIdeal.τ).loc Cert.OddGateIdeal.main_arg0) = m ((c.tc : Thread Cert.OddGateIdeal.nD Cert.OddGateIdeal.τ).loc Cert.OddGateIdeal.main_arg0)
          ∧ r.2.mem ((c.tc : Thread Cert.OddGateIdeal.nD Cert.OddGateIdeal.τ).loc Cert.OddGateIdeal.main_arg1) = m ((c.tc : Thread Cert.OddGateIdeal.nD Cert.OddGateIdeal.τ).loc Cert.OddGateIdeal.main_arg1))
      ∧ θ_run (Cert.OddGateRefIdeal.defs (F := Ideal)) (onTc (τ := Cert.OddGateRefIdeal.τ) (Cert.OddGateRefIdeal.main (F := Ideal))) ⟨m', fun _ => 0, g'⟩ (fun r => ∀ c : Dev Cert.OddGateRefIdeal.nD,
          r.2.mem ((c.tc : Thread Cert.OddGateRefIdeal.nD Cert.OddGateRefIdeal.τ).loc Cert.OddGateRefIdeal.main_v3) = v0 c
          ∧ r.2.mem ((c.tc : Thread Cert.OddGateRefIdeal.nD Cert.OddGateRefIdeal.τ).loc Cert.OddGateRefIdeal.main_arg0) = m' ((c.tc : Thread Cert.OddGateRefIdeal.nD Cert.OddGateRefIdeal.τ).loc Cert.OddGateRefIdeal.main_arg0)
          ∧ r.2.mem ((c.tc : Thread Cert.OddGateRefIdeal.nD Cert.OddGateRefIdeal.τ).loc Cert.OddGateRefIdeal.main_arg1) = m' ((c.tc : Thread Cert.OddGateRefIdeal.nD Cert.OddGateRefIdeal.τ).loc Cert.OddGateRefIdeal.main_arg1))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)) →
    ∃ (v0 : (c : Dev Cert.OddOutIdeal.nD) → Buf (Elt Ideal) ((c.tc : Thread Cert.OddOutIdeal.nD Cert.OddOutIdeal.τ).loc Cert.OddOutIdeal.main_v0)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v0) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v3) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1))

def preserves_Pieces_PiecesIdeal : Prop :=
  True

def algebraic_PiecesIdeal_PiecesRefIdeal [hPiecesIdeal : Cert.PiecesIdeal.Facts] [hPiecesRefIdeal : Cert.PiecesRefIdeal.Facts] : Prop :=
  ∀ (m : (ℓ : Loc Cert.PiecesIdeal.nD Cert.PiecesIdeal.τ Cert.PiecesIdeal.sig) → Buf (Elt Ideal) ℓ) (g : Dev Cert.PiecesIdeal.nD → PrngReg)
    (m' : (ℓ : Loc Cert.PiecesRefIdeal.nD Cert.PiecesRefIdeal.τ Cert.PiecesRefIdeal.sig) → Buf (Elt Ideal) ℓ) (g' : Dev Cert.PiecesRefIdeal.nD → PrngReg), Pre_PiecesIdeal m →
    (∀ c : Dev Cert.PiecesIdeal.nD,
      m ((c.tc : Thread Cert.PiecesIdeal.nD Cert.PiecesIdeal.τ).loc Cert.PiecesIdeal.main_arg0) = Layout.block ⟨2, ![328, 128]⟩ ⟨2, ![2624, 128]⟩ 0 8 c (m' (((0 : Dev Cert.PiecesRefIdeal.nD).tc : Thread Cert.PiecesRefIdeal.nD Cert.PiecesRefIdeal.τ).loc Cert.PiecesRefIdeal.main_arg0))) →
    ∃ (v0 : Buf (Elt Ideal) (((0 : Dev Cert.PiecesRefIdeal.nD).tc : Thread Cert.PiecesRefIdeal.nD Cert.PiecesRefIdeal.τ).loc Cert.PiecesRefIdeal.main_v0)),
      θ_run (Cert.PiecesIdeal.defs (F := Ideal)) (onTc (τ := Cert.PiecesIdeal.τ) (Cert.PiecesIdeal.main (F := Ideal))) ⟨m, fun _ => 0, g⟩ (fun r => ∀ c : Dev Cert.PiecesIdeal.nD,
          r.2.mem ((c.tc : Thread Cert.PiecesIdeal.nD Cert.PiecesIdeal.τ).loc Cert.PiecesIdeal.main_v1) = v0
          ∧ r.2.mem ((c.tc : Thread Cert.PiecesIdeal.nD Cert.PiecesIdeal.τ).loc Cert.PiecesIdeal.main_arg0) = m ((c.tc : Thread Cert.PiecesIdeal.nD Cert.PiecesIdeal.τ).loc Cert.PiecesIdeal.main_arg0))
      ∧ θ_run (Cert.PiecesRefIdeal.defs (F := Ideal)) (onTc (τ := Cert.PiecesRefIdeal.τ) (Cert.PiecesRefIdeal.main (F := Ideal))) ⟨m', fun _ => 0, g'⟩ (fun r =>
          r.2.mem (((0 : Dev Cert.PiecesRefIdeal.nD).tc : Thread Cert.PiecesRefIdeal.nD Cert.PiecesRefIdeal.τ).loc Cert.PiecesRefIdeal.main_v0) = v0
          ∧ r.2.mem (((0 : Dev Cert.PiecesRefIdeal.nD).tc : Thread Cert.PiecesRefIdeal.nD Cert.PiecesRefIdeal.τ).loc Cert.PiecesRefIdeal.main_arg0) = m' (((0 : Dev Cert.PiecesRefIdeal.nD).tc : Thread Cert.PiecesRefIdeal.nD Cert.PiecesRefIdeal.τ).loc Cert.PiecesRefIdeal.main_arg0))

def bitexact_Pieces_PiecesRef [hPieces : Cert.Pieces.Facts] [hPiecesRef : Cert.PiecesRef.Facts] : Prop :=
  ∀ (m : (ℓ : Loc Cert.Pieces.nD Cert.Pieces.τ Cert.Pieces.sig) → Buf (Elt Bits) ℓ) (g : Dev Cert.Pieces.nD → PrngReg)
    (m' : (ℓ : Loc Cert.PiecesRef.nD Cert.PiecesRef.τ Cert.PiecesRef.sig) → Buf (Elt Bits) ℓ) (g' : Dev Cert.PiecesRef.nD → PrngReg), Pre_Pieces m →
    (∀ c : Dev Cert.Pieces.nD,
      m ((c.tc : Thread Cert.Pieces.nD Cert.Pieces.τ).loc Cert.Pieces.main_arg0) = Layout.block ⟨2, ![328, 128]⟩ ⟨2, ![2624, 128]⟩ 0 8 c (m' (((0 : Dev Cert.PiecesRef.nD).tc : Thread Cert.PiecesRef.nD Cert.PiecesRef.τ).loc Cert.PiecesRef.main_arg0))) →
    ∃ (v0 : Buf (Elt Bits) (((0 : Dev Cert.PiecesRef.nD).tc : Thread Cert.PiecesRef.nD Cert.PiecesRef.τ).loc Cert.PiecesRef.main_v0)),
      θ_run (Cert.Pieces.defs (F := Bits)) (onTc (τ := Cert.Pieces.τ) (Cert.Pieces.main (F := Bits))) ⟨m, fun _ => 0, g⟩ (fun r => ∀ c : Dev Cert.Pieces.nD,
          r.2.mem ((c.tc : Thread Cert.Pieces.nD Cert.Pieces.τ).loc Cert.Pieces.main_v1) = v0
          ∧ r.2.mem ((c.tc : Thread Cert.Pieces.nD Cert.Pieces.τ).loc Cert.Pieces.main_arg0) = m ((c.tc : Thread Cert.Pieces.nD Cert.Pieces.τ).loc Cert.Pieces.main_arg0))
      ∧ θ_run (Cert.PiecesRef.defs (F := Bits)) (onTc (τ := Cert.PiecesRef.τ) (Cert.PiecesRef.main (F := Bits))) ⟨m', fun _ => 0, g'⟩ (fun r =>
          r.2.mem (((0 : Dev Cert.PiecesRef.nD).tc : Thread Cert.PiecesRef.nD Cert.PiecesRef.τ).loc Cert.PiecesRef.main_v0) = v0
          ∧ r.2.mem (((0 : Dev Cert.PiecesRef.nD).tc : Thread Cert.PiecesRef.nD Cert.PiecesRef.τ).loc Cert.PiecesRef.main_arg0) = m' (((0 : Dev Cert.PiecesRef.nD).tc : Thread Cert.PiecesRef.nD Cert.PiecesRef.τ).loc Cert.PiecesRef.main_arg0))

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m ((c.tc : Thread Cert.ModsIdeal.nD Cert.ModsIdeal.τ).loc Cert.ModsIdeal.main_arg0) = Layout.block ⟨2, ![32, 1536]⟩ ⟨2, ![256, 1536]⟩ 0 8 c (m' (((0 : Dev Cert.ModsRefIdeal.nD).tc : Thread Cert.ModsRefIdeal.nD Cert.ModsRefIdeal.τ).loc Cert.ModsRefIdeal.main_arg0))) →
    ∃ (v0 : Buf (Elt Ideal) (((0 : Dev Cert.ModsRefIdeal.nD).tc : Thread Cert.ModsRefIdeal.nD Cert.ModsRefIdeal.τ).loc Cert.ModsRefIdeal.main_v0)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v1) = v0
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0))
      ∧ θ_run (Cert.ModsRefIdeal.defs (F := Ideal)) (onTc (τ := Cert.ModsRefIdeal.τ) (Cert.ModsRefIdeal.main (F := Ideal))) ⟨m', fun _ => 0, g'⟩ (fun r =>
          r.2.mem (((0 : Dev Cert.ModsRefIdeal.nD).tc : Thread Cert.ModsRefIdeal.nD Cert.ModsRefIdeal.τ).loc Cert.ModsRefIdeal.main_v0) = v0
          ∧ r.2.mem (((0 : Dev Cert.ModsRefIdeal.nD).tc : Thread Cert.ModsRefIdeal.nD Cert.ModsRefIdeal.τ).loc Cert.ModsRefIdeal.main_arg0) = m' (((0 : Dev Cert.ModsRefIdeal.nD).tc : Thread Cert.ModsRefIdeal.nD Cert.ModsRefIdeal.τ).loc Cert.ModsRefIdeal.main_arg0))

def bitexact_Mods_ModsRef [hMods : Cert.Mods.Facts] [hModsRef : Cert.ModsRef.Facts] : Prop :=
  ∀ (m : (ℓ : Loc Cert.Mods.nD Cert.Mods.τ Cert.Mods.sig) → Buf (Elt Bits) ℓ) (g : Dev Cert.Mods.nD → PrngReg)
    (m' : (ℓ : Loc Cert.ModsRef.nD Cert.ModsRef.τ Cert.ModsRef.sig) → Buf (Elt Bits) ℓ) (g' : Dev Cert.ModsRef.nD → PrngReg), Pre_Mods m →
    (∀ c : Dev Cert.Mods.nD,
      m ((c.tc : Thread Cert.Mods.nD Cert.Mods.τ).loc Cert.Mods.main_arg0) = Layout.block ⟨2, ![32, 1536]⟩ ⟨2, ![256, 1536]⟩ 0 8 c (m' (((0 : Dev Cert.ModsRef.nD).tc : Thread Cert.ModsRef.nD Cert.ModsRef.τ).loc Cert.ModsRef.main_arg0))) →
    ∃ (v0 : Buf (Elt Bits) (((0 : Dev Cert.ModsRef.nD).tc : Thread Cert.ModsRef.nD Cert.ModsRef.τ).loc Cert.ModsRef.main_v0)),
      θ_run (Cert.Mods.defs (F := Bits)) (onTc (τ := Cert.Mods.τ) (Cert.Mods.main (F := Bits))) ⟨m, fun _ => 0, g⟩ (fun r => ∀ c : Dev Cert.Mods.nD,
          r.2.mem ((c.tc : Thread Cert.Mods.nD Cert.Mods.τ).loc Cert.Mods.main_v1) = v0
          ∧ r.2.mem ((c.tc : Thread Cert.Mods.nD Cert.Mods.τ).loc Cert.Mods.main_arg0) = m ((c.tc : Thread Cert.Mods.nD Cert.Mods.τ).loc Cert.Mods.main_arg0))
      ∧ θ_run (Cert.ModsRef.defs (F := Bits)) (onTc (τ := Cert.ModsRef.τ) (Cert.ModsRef.main (F := Bits))) ⟨m', fun _ => 0, g'⟩ (fun r =>
          r.2.mem (((0 : Dev Cert.ModsRef.nD).tc : Thread Cert.ModsRef.nD Cert.ModsRef.τ).loc Cert.ModsRef.main_v0) = v0
          ∧ r.2.mem (((0 : Dev Cert.ModsRef.nD).tc : Thread Cert.ModsRef.nD Cert.ModsRef.τ).loc Cert.ModsRef.main_arg0) = m' (((0 : Dev Cert.ModsRef.nD).tc : Thread Cert.ModsRef.nD Cert.ModsRef.τ).loc Cert.ModsRef.main_arg0))

def preserves_Slopes_SlopesIdeal : Prop :=
  True

def algebraic_SlopesIdeal_SlopesRefIdeal [hSlopesIdeal : Cert.SlopesIdeal.Facts] [hSlopesRefIdeal : Cert.SlopesRefIdeal.Facts] : Prop :=
  ∀ (m : (ℓ : Loc Cert.SlopesIdeal.nD Cert.SlopesIdeal.τ Cert.SlopesIdeal.sig) → Buf (Elt Ideal) ℓ) (g : Dev Cert.SlopesIdeal.nD → PrngReg)
    (m' : (ℓ : Loc Cert.SlopesRefIdeal.nD Cert.SlopesRefIdeal.τ Cert.SlopesRefIdeal.sig) → Buf (Elt Ideal) ℓ) (g' : Dev Cert.SlopesRefIdeal.nD → PrngReg), Pre_SlopesIdeal m →
    (∀ c : Dev Cert.SlopesIdeal.nD,
      m ((c.tc : Thread Cert.SlopesIdeal.nD Cert.SlopesIdeal.τ).loc Cert.SlopesIdeal.main_arg0) = Layout.block ⟨2, ![24, 2048]⟩ ⟨2, ![192, 2048]⟩ 0 8 c (m' (((0 : Dev Cert.SlopesRefIdeal.nD).tc : Thread Cert.SlopesRefIdeal.nD Cert.SlopesRefIdeal.τ).loc Cert.SlopesRefIdeal.main_arg0))) →
    ∃ (v0 : Buf (Elt Ideal) (((0 : Dev Cert.SlopesRefIdeal.nD).tc : Thread Cert.SlopesRefIdeal.nD Cert.SlopesRefIdeal.τ).loc Cert.SlopesRefIdeal.main_v0)),
      θ_run (Cert.SlopesIdeal.defs (F := Ideal)) (onTc (τ := Cert.SlopesIdeal.τ) (Cert.SlopesIdeal.main (F := Ideal))) ⟨m, fun _ => 0, g⟩ (fun r => ∀ c : Dev Cert.SlopesIdeal.nD,
          r.2.mem ((c.tc : Thread Cert.SlopesIdeal.nD Cert.SlopesIdeal.τ).loc Cert.SlopesIdeal.main_v1) = v0
          ∧ r.2.mem ((c.tc : Thread Cert.SlopesIdeal.nD Cert.SlopesIdeal.τ).loc Cert.SlopesIdeal.main_arg0) = m ((c.tc : Thread Cert.SlopesIdeal.nD Cert.SlopesIdeal.τ).loc Cert.SlopesIdeal.main_arg0))
      ∧ θ_run (Cert.SlopesRefIdeal.defs (F := Ideal)) (onTc (τ := Cert.SlopesRefIdeal.τ) (Cert.SlopesRefIdeal.main (F := Ideal))) ⟨m', fun _ => 0, g'⟩ (fun r =>
          r.2.mem (((0 : Dev Cert.SlopesRefIdeal.nD).tc : Thread Cert.SlopesRefIdeal.nD Cert.SlopesRefIdeal.τ).loc Cert.SlopesRefIdeal.main_v0) = v0
          ∧ r.2.mem (((0 : Dev Cert.SlopesRefIdeal.nD).tc : Thread Cert.SlopesRefIdeal.nD Cert.SlopesRefIdeal.τ).loc Cert.SlopesRefIdeal.main_arg0) = m' (((0 : Dev Cert.SlopesRefIdeal.nD).tc : Thread Cert.SlopesRefIdeal.nD Cert.SlopesRefIdeal.τ).loc Cert.SlopesRefIdeal.main_arg0))

def bitexact_Slopes_SlopesRef [hSlopes : Cert.Slopes.Facts] [hSlopesRef : Cert.SlopesRef.Facts] : Prop :=
  ∀ (m : (ℓ : Loc Cert.Slopes.nD Cert.Slopes.τ Cert.Slopes.sig) → Buf (Elt Bits) ℓ) (g : Dev Cert.Slopes.nD → PrngReg)
    (m' : (ℓ : Loc Cert.SlopesRef.nD Cert.SlopesRef.τ Cert.SlopesRef.sig) → Buf (Elt Bits) ℓ) (g' : Dev Cert.SlopesRef.nD → PrngReg), Pre_Slopes m →
    (∀ c : Dev Cert.Slopes.nD,
      m ((c.tc : Thread Cert.Slopes.nD Cert.Slopes.τ).loc Cert.Slopes.main_arg0) = Layout.block ⟨2, ![24, 2048]⟩ ⟨2, ![192, 2048]⟩ 0 8 c (m' (((0 : Dev Cert.SlopesRef.nD).tc : Thread Cert.SlopesRef.nD Cert.SlopesRef.τ).loc Cert.SlopesRef.main_arg0))) →
    ∃ (v0 : Buf (Elt Bits) (((0 : Dev Cert.SlopesRef.nD).tc : Thread Cert.SlopesRef.nD Cert.SlopesRef.τ).loc Cert.SlopesRef.main_v0)),
      θ_run (Cert.Slopes.defs (F := Bits)) (onTc (τ := Cert.Slopes.τ) (Cert.Slopes.main (F := Bits))) ⟨m, fun _ => 0, g⟩ (fun r => ∀ c : Dev Cert.Slopes.nD,
          r.2.mem ((c.tc : Thread Cert.Slopes.nD Cert.Slopes.τ).loc Cert.Slopes.main_v1) = v0
          ∧ r.2.mem ((c.tc : Thread Cert.Slopes.nD Cert.Slopes.τ).loc Cert.Slopes.main_arg0) = m ((c.tc : Thread Cert.Slopes.nD Cert.Slopes.τ).loc Cert.Slopes.main_arg0))
      ∧ θ_run (Cert.SlopesRef.defs (F := Bits)) (onTc (τ := Cert.SlopesRef.τ) (Cert.SlopesRef.main (F := Bits))) ⟨m', fun _ => 0, g'⟩ (fun r =>
          r.2.mem (((0 : Dev Cert.SlopesRef.nD).tc : Thread Cert.SlopesRef.nD Cert.SlopesRef.τ).loc Cert.SlopesRef.main_v0) = v0
          ∧ r.2.mem (((0 : Dev Cert.SlopesRef.nD).tc : Thread Cert.SlopesRef.nD Cert.SlopesRef.τ).loc Cert.SlopesRef.main_arg0) = m' (((0 : Dev Cert.SlopesRef.nD).tc : Thread Cert.SlopesRef.nD Cert.SlopesRef.τ).loc Cert.SlopesRef.main_arg0))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpEven_UpEvenIdeal : Prop :=
  True

def algebraic_UpEvenIdeal_UpEvenRefIdeal [hUpEvenIdeal : Cert.UpEvenIdeal.Facts] [hUpEvenRefIdeal : Cert.UpEvenRefIdeal.Facts] : Prop :=
  ∀ (m : (ℓ : Loc Cert.UpEvenIdeal.nD Cert.UpEvenIdeal.τ Cert.UpEvenIdeal.sig) → Buf (Elt Ideal) ℓ) (g : Dev Cert.UpEvenIdeal.nD → PrngReg)
    (m' : (ℓ : Loc Cert.UpEvenRefIdeal.nD Cert.UpEvenRefIdeal.τ Cert.UpEvenRefIdeal.sig) → Buf (Elt Ideal) ℓ) (g' : Dev Cert.UpEvenRefIdeal.nD → PrngReg), Pre_UpEvenIdeal m →
    (∀ c : Dev Cert.UpEvenIdeal.nD,
      m' ((c.tc : Thread Cert.UpEvenRefIdeal.nD Cert.UpEvenRefIdeal.τ).loc Cert.UpEvenRefIdeal.main_arg0) = m ((c.tc : Thread Cert.UpEvenIdeal.nD Cert.UpEvenIdeal.τ).loc Cert.UpEvenIdeal.main_arg0)
      ∧ m' ((c.tc : Thread Cert.UpEvenRefIdeal.nD Cert.UpEvenRefIdeal.τ).loc Cert.UpEvenRefIdeal.main_arg1) = m ((c.tc : Thread Cert.UpEvenIdeal.nD Cert.UpEvenIdeal.τ).loc Cert.UpEvenIdeal.main_arg1)) →
    ∃ (v0 : (c : Dev Cert.UpEvenIdeal.nD) → Buf (Elt Ideal) ((c.tc : Thread Cert.UpEvenIdeal.nD Cert.UpEvenIdeal.τ).loc Cert.UpEvenIdeal.main_v0)),
      θ_run (Cert.UpEvenIdeal.defs (F := Ideal)) (onTc (τ := Cert.UpEvenIdeal.τ) (Cert.UpEvenIdeal.main (F := Ideal))) ⟨m, fun _ => 0, g⟩ (fun r => ∀ c : Dev Cert.UpEvenIdeal.nD,
          r.2.mem ((c.tc : Thread Cert.UpEvenIdeal.nD Cert.UpEvenIdeal.τ).loc Cert.UpEvenIdeal.main_v0) = v0 c
          ∧ r.2.mem ((c.tc : Thread Cert.UpEvenIdeal.nD Cert.UpEvenIdeal.τ).loc Cert.UpEvenIdeal.main_arg0) = m ((c.tc : Thread Cert.UpEvenIdeal.nD Cert.UpEvenIdeal.τ).loc Cert.UpEvenIdeal.main_arg0)
          ∧ r.2.mem ((c.tc : Thread Cert.UpEvenIdeal.nD Cert.UpEvenIdeal.τ).loc Cert.UpEvenIdeal.main_arg1) = m ((c.tc : Thread Cert.UpEvenIdeal.nD Cert.UpEvenIdeal.τ).loc Cert.UpEvenIdeal.main_arg1))
      ∧ θ_run (Cert.UpEvenRefIdeal.defs (F := Ideal)) (onTc (τ := Cert.UpEvenRefIdeal.τ) (Cert.UpEvenRefIdeal.main (F := Ideal))) ⟨m', fun _ => 0, g'⟩ (fun r => ∀ c : Dev Cert.UpEvenRefIdeal.nD,
          r.2.mem ((c.tc : Thread Cert.UpEvenRefIdeal.nD Cert.UpEvenRefIdeal.τ).loc Cert.UpEvenRefIdeal.main_v2) = v0 c
          ∧ r.2.mem ((c.tc : Thread Cert.UpEvenRefIdeal.nD Cert.UpEvenRefIdeal.τ).loc Cert.UpEvenRefIdeal.main_arg0) = m' ((c.tc : Thread Cert.UpEvenRefIdeal.nD Cert.UpEvenRefIdeal.τ).loc Cert.UpEvenRefIdeal.main_arg0)
          ∧ r.2.mem ((c.tc : Thread Cert.UpEvenRefIdeal.nD Cert.UpEvenRefIdeal.τ).loc Cert.UpEvenRefIdeal.main_arg1) = m' ((c.tc : Thread Cert.UpEvenRefIdeal.nD Cert.UpEvenRefIdeal.τ).loc Cert.UpEvenRefIdeal.main_arg1))

def preserves_MixEven_MixEvenIdeal : Prop :=
  True

def algebraic_MixEvenIdeal_MixEvenRefIdeal [hMixEvenIdeal : Cert.MixEvenIdeal.Facts] [hMixEvenRefIdeal : Cert.MixEvenRefIdeal.Facts] : Prop :=
  ∀ (m : (ℓ : Loc Cert.MixEvenIdeal.nD Cert.MixEvenIdeal.τ Cert.MixEvenIdeal.sig) → Buf (Elt Ideal) ℓ) (g : Dev Cert.MixEvenIdeal.nD → PrngReg)
    (m' : (ℓ : Loc Cert.MixEvenRefIdeal.nD Cert.MixEvenRefIdeal.τ Cert.MixEvenRefIdeal.sig) → Buf (Elt Ideal) ℓ) (g' : Dev Cert.MixEvenRefIdeal.nD → PrngReg), Pre_MixEvenIdeal m →
    (∀ c : Dev Cert.MixEvenIdeal.nD,
      m' ((c.tc : Thread Cert.MixEvenRefIdeal.nD Cert.MixEvenRefIdeal.τ).loc Cert.MixEvenRefIdeal.main_arg0) = m ((c.tc : Thread Cert.MixEvenIdeal.nD Cert.MixEvenIdeal.τ).loc Cert.MixEvenIdeal.main_arg0)
      ∧ m' ((c.tc : Thread Cert.MixEvenRefIdeal.nD Cert.MixEvenRefIdeal.τ).loc Cert.MixEvenRefIdeal.main_arg1) = m ((c.tc : Thread Cert.MixEvenIdeal.nD Cert.MixEvenIdeal.τ).loc Cert.MixEvenIdeal.main_arg1)) →
    ∃ (v0 : (c : Dev Cert.MixEvenIdeal.nD) → Buf (Elt Ideal) ((c.tc : Thread Cert.MixEvenIdeal.nD Cert.MixEvenIdeal.τ).loc Cert.MixEvenIdeal.main_v0)),
      θ_run (Cert.MixEvenIdeal.defs (F := Ideal)) (onTc (τ := Cert.MixEvenIdeal.τ) (Cert.MixEvenIdeal.main (F := Ideal))) ⟨m, fun _ => 0, g⟩ (fun r => ∀ c : Dev Cert.MixEvenIdeal.nD,
          r.2.mem ((c.tc : Thread Cert.MixEvenIdeal.nD Cert.MixEvenIdeal.τ).loc Cert.MixEvenIdeal.main_v0) = v0 c
          ∧ r.2.mem ((c.tc : Thread Cert.MixEvenIdeal.nD Cert.MixEvenIdeal.τ).loc Cert.MixEvenIdeal.main_arg0) = m ((c.tc : Thread Cert.MixEvenIdeal.nD Cert.MixEvenIdeal.τ).loc Cert.MixEvenIdeal.main_arg0)
          ∧ r.2.mem ((c.tc : Thread Cert.MixEvenIdeal.nD Cert.MixEvenIdeal.τ).loc Cert.MixEvenIdeal.main_arg1) = m ((c.tc : Thread Cert.MixEvenIdeal.nD Cert.MixEvenIdeal.τ).loc Cert.MixEvenIdeal.main_arg1))
      ∧ θ_run (Cert.MixEvenRefIdeal.defs (F := Ideal)) (onTc (τ := Cert.MixEvenRefIdeal.τ) (Cert.MixEvenRefIdeal.main (F := Ideal))) ⟨m', fun _ => 0, g'⟩ (fun r => ∀ c : Dev Cert.MixEvenRefIdeal.nD,
          r.2.mem ((c.tc : Thread Cert.MixEvenRefIdeal.nD Cert.MixEvenRefIdeal.τ).loc Cert.MixEvenRefIdeal.main_v2) = v0 c
          ∧ r.2.mem ((c.tc : Thread Cert.MixEvenRefIdeal.nD Cert.MixEvenRefIdeal.τ).loc Cert.MixEvenRefIdeal.main_arg0) = m' ((c.tc : Thread Cert.MixEvenRefIdeal.nD Cert.MixEvenRefIdeal.τ).loc Cert.MixEvenRefIdeal.main_arg0)
          ∧ r.2.mem ((c.tc : Thread Cert.MixEvenRefIdeal.nD Cert.MixEvenRefIdeal.τ).loc Cert.MixEvenRefIdeal.main_arg1) = m' ((c.tc : Thread Cert.MixEvenRefIdeal.nD Cert.MixEvenRefIdeal.τ).loc Cert.MixEvenRefIdeal.main_arg1))

def preserves_UpOdd_UpOddIdeal : Prop :=
  True

def algebraic_UpOddIdeal_UpOddRefIdeal [hUpOddIdeal : Cert.UpOddIdeal.Facts] [hUpOddRefIdeal : Cert.UpOddRefIdeal.Facts] : Prop :=
  ∀ (m : (ℓ : Loc Cert.UpOddIdeal.nD Cert.UpOddIdeal.τ Cert.UpOddIdeal.sig) → Buf (Elt Ideal) ℓ) (g : Dev Cert.UpOddIdeal.nD → PrngReg)
    (m' : (ℓ : Loc Cert.UpOddRefIdeal.nD Cert.UpOddRefIdeal.τ Cert.UpOddRefIdeal.sig) → Buf (Elt Ideal) ℓ) (g' : Dev Cert.UpOddRefIdeal.nD → PrngReg), Pre_UpOddIdeal m →
    (∀ c : Dev Cert.UpOddIdeal.nD,
      m' ((c.tc : Thread Cert.UpOddRefIdeal.nD Cert.UpOddRefIdeal.τ).loc Cert.UpOddRefIdeal.main_arg0) = m ((c.tc : Thread Cert.UpOddIdeal.nD Cert.UpOddIdeal.τ).loc Cert.UpOddIdeal.main_arg0)
      ∧ m' ((c.tc : Thread Cert.UpOddRefIdeal.nD Cert.UpOddRefIdeal.τ).loc Cert.UpOddRefIdeal.main_arg1) = m ((c.tc : Thread Cert.UpOddIdeal.nD Cert.UpOddIdeal.τ).loc Cert.UpOddIdeal.main_arg1)) →
    ∃ (v0 : (c : Dev Cert.UpOddIdeal.nD) → Buf (Elt Ideal) ((c.tc : Thread Cert.UpOddIdeal.nD Cert.UpOddIdeal.τ).loc Cert.UpOddIdeal.main_v0)),
      θ_run (Cert.UpOddIdeal.defs (F := Ideal)) (onTc (τ := Cert.UpOddIdeal.τ) (Cert.UpOddIdeal.main (F := Ideal))) ⟨m, fun _ => 0, g⟩ (fun r => ∀ c : Dev Cert.UpOddIdeal.nD,
          r.2.mem ((c.tc : Thread Cert.UpOddIdeal.nD Cert.UpOddIdeal.τ).loc Cert.UpOddIdeal.main_v0) = v0 c
          ∧ r.2.mem ((c.tc : Thread Cert.UpOddIdeal.nD Cert.UpOddIdeal.τ).loc Cert.UpOddIdeal.main_arg0) = m ((c.tc : Thread Cert.UpOddIdeal.nD Cert.UpOddIdeal.τ).loc Cert.UpOddIdeal.main_arg0)
          ∧ r.2.mem ((c.tc : Thread Cert.UpOddIdeal.nD Cert.UpOddIdeal.τ).loc Cert.UpOddIdeal.main_arg1) = m ((c.tc : Thread Cert.UpOddIdeal.nD Cert.UpOddIdeal.τ).loc Cert.UpOddIdeal.main_arg1))
      ∧ θ_run (Cert.UpOddRefIdeal.defs (F := Ideal)) (onTc (τ := Cert.UpOddRefIdeal.τ) (Cert.UpOddRefIdeal.main (F := Ideal))) ⟨m', fun _ => 0, g'⟩ (fun r => ∀ c : Dev Cert.UpOddRefIdeal.nD,
          r.2.mem ((c.tc : Thread Cert.UpOddRefIdeal.nD Cert.UpOddRefIdeal.τ).loc Cert.UpOddRefIdeal.main_v2) = v0 c
          ∧ r.2.mem ((c.tc : Thread Cert.UpOddRefIdeal.nD Cert.UpOddRefIdeal.τ).loc Cert.UpOddRefIdeal.main_arg0) = m' ((c.tc : Thread Cert.UpOddRefIdeal.nD Cert.UpOddRefIdeal.τ).loc Cert.UpOddRefIdeal.main_arg0)
          ∧ r.2.mem ((c.tc : Thread Cert.UpOddRefIdeal.nD Cert.UpOddRefIdeal.τ).loc Cert.UpOddRefIdeal.main_arg1) = m' ((c.tc : Thread Cert.UpOddRefIdeal.nD Cert.UpOddRefIdeal.τ).loc Cert.UpOddRefIdeal.main_arg1))

def preserves_GateOdd_GateOddIdeal : Prop :=
  True

def algebraic_GateOddIdeal_GateOddRefIdeal [hGateOddIdeal : Cert.GateOddIdeal.Facts] [hGateOddRefIdeal : Cert.GateOddRefIdeal.Facts] : Prop :=
  ∀ (m : (ℓ : Loc Cert.GateOddIdeal.nD Cert.GateOddIdeal.τ Cert.GateOddIdeal.sig) → Buf (Elt Ideal) ℓ) (g : Dev Cert.GateOddIdeal.nD → PrngReg)
    (m' : (ℓ : Loc Cert.GateOddRefIdeal.nD Cert.GateOddRefIdeal.τ Cert.GateOddRefIdeal.sig) → Buf (Elt Ideal) ℓ) (g' : Dev Cert.GateOddRefIdeal.nD → PrngReg), Pre_GateOddIdeal m →
    (∀ c : Dev Cert.GateOddIdeal.nD,
      m' ((c.tc : Thread Cert.GateOddRefIdeal.nD Cert.GateOddRefIdeal.τ).loc Cert.GateOddRefIdeal.main_arg0) = m ((c.tc : Thread Cert.GateOddIdeal.nD Cert.GateOddIdeal.τ).loc Cert.GateOddIdeal.main_arg0)
      ∧ m' ((c.tc : Thread Cert.GateOddRefIdeal.nD Cert.GateOddRefIdeal.τ).loc Cert.GateOddRefIdeal.main_arg1) = m ((c.tc : Thread Cert.GateOddIdeal.nD Cert.GateOddIdeal.τ).loc Cert.GateOddIdeal.main_arg1)) →
    ∃ (v0 : (c : Dev Cert.GateOddIdeal.nD) → Buf (Elt Ideal) ((c.tc : Thread Cert.GateOddIdeal.nD Cert.GateOddIdeal.τ).loc Cert.GateOddIdeal.main_v0)),
      θ_run (Cert.GateOddIdeal.defs (F := Ideal)) (onTc (τ := Cert.GateOddIdeal.τ) (Cert.GateOddIdeal.main (F := Ideal))) ⟨m, fun _ => 0, g⟩ (fun r => ∀ c : Dev Cert.GateOddIdeal.nD,
          r.2.mem ((c.tc : Thread Cert.GateOddIdeal.nD Cert.GateOddIdeal.τ).loc Cert.GateOddIdeal.main_v0) = v0 c
          ∧ r.2.mem ((c.tc : Thread Cert.GateOddIdeal.nD Cert.GateOddIdeal.τ).loc Cert.GateOddIdeal.main_arg0) = m ((c.tc : Thread Cert.GateOddIdeal.nD Cert.GateOddIdeal.τ).loc Cert.GateOddIdeal.main_arg0)
          ∧ r.2.mem ((c.tc : Thread Cert.GateOddIdeal.nD Cert.GateOddIdeal.τ).loc Cert.GateOddIdeal.main_arg1) = m ((c.tc : Thread Cert.GateOddIdeal.nD Cert.GateOddIdeal.τ).loc Cert.GateOddIdeal.main_arg1))
      ∧ θ_run (Cert.GateOddRefIdeal.defs (F := Ideal)) (onTc (τ := Cert.GateOddRefIdeal.τ) (Cert.GateOddRefIdeal.main (F := Ideal))) ⟨m', fun _ => 0, g'⟩ (fun r => ∀ c : Dev Cert.GateOddRefIdeal.nD,
          r.2.mem ((c.tc : Thread Cert.GateOddRefIdeal.nD Cert.GateOddRefIdeal.τ).loc Cert.GateOddRefIdeal.main_v2) = v0 c
          ∧ r.2.mem ((c.tc : Thread Cert.GateOddRefIdeal.nD Cert.GateOddRefIdeal.τ).loc Cert.GateOddRefIdeal.main_arg0) = m' ((c.tc : Thread Cert.GateOddRefIdeal.nD Cert.GateOddRefIdeal.τ).loc Cert.GateOddRefIdeal.main_arg0)
          ∧ r.2.mem ((c.tc : Thread Cert.GateOddRefIdeal.nD Cert.GateOddRefIdeal.τ).loc Cert.GateOddRefIdeal.main_arg1) = m' ((c.tc : Thread Cert.GateOddRefIdeal.nD Cert.GateOddRefIdeal.τ).loc Cert.GateOddRefIdeal.main_arg1))

def preserves_BackDown_BackDownIdeal : Prop :=
  True

def algebraic_BackDownIdeal_BackDownRefIdeal [hBackDownIdeal : Cert.BackDownIdeal.Facts] [hBackDownRefIdeal : Cert.BackDownRefIdeal.Facts] : Prop :=
  ∀ (m : (ℓ : Loc Cert.BackDownIdeal.nD Cert.BackDownIdeal.τ Cert.BackDownIdeal.sig) → Buf (Elt Ideal) ℓ) (g : Dev Cert.BackDownIdeal.nD → PrngReg)
    (m' : (ℓ : Loc Cert.BackDownRefIdeal.nD Cert.BackDownRefIdeal.τ Cert.BackDownRefIdeal.sig) → Buf (Elt Ideal) ℓ) (g' : Dev Cert.BackDownRefIdeal.nD → PrngReg), Pre_BackDownIdeal m →
    (∀ c : Dev Cert.BackDownIdeal.nD,
      m' ((c.tc : Thread Cert.BackDownRefIdeal.nD Cert.BackDownRefIdeal.τ).loc Cert.BackDownRefIdeal.main_arg0) = m ((c.tc : Thread Cert.BackDownIdeal.nD Cert.BackDownIdeal.τ).loc Cert.BackDownIdeal.main_arg0)
      ∧ m' ((c.tc : Thread Cert.BackDownRefIdeal.nD Cert.BackDownRefIdeal.τ).loc Cert.BackDownRefIdeal.main_arg1) = m ((c.tc : Thread Cert.BackDownIdeal.nD Cert.BackDownIdeal.τ).loc Cert.BackDownIdeal.main_arg1)) →
    ∃ (v0 : (c : Dev Cert.BackDownIdeal.nD) → Buf (Elt Ideal) ((c.tc : Thread Cert.BackDownIdeal.nD Cert.BackDownIdeal.τ).loc Cert.BackDownIdeal.main_v0)),
      θ_run (Cert.BackDownIdeal.defs (F := Ideal)) (onTc (τ := Cert.BackDownIdeal.τ) (Cert.BackDownIdeal.main (F := Ideal))) ⟨m, fun _ => 0, g⟩ (fun r => ∀ c : Dev Cert.BackDownIdeal.nD,
          r.2.mem ((c.tc : Thread Cert.BackDownIdeal.nD Cert.BackDownIdeal.τ).loc Cert.BackDownIdeal.main_v0) = v0 c
          ∧ r.2.mem ((c.tc : Thread Cert.BackDownIdeal.nD Cert.BackDownIdeal.τ).loc Cert.BackDownIdeal.main_arg0) = m ((c.tc : Thread Cert.BackDownIdeal.nD Cert.BackDownIdeal.τ).loc Cert.BackDownIdeal.main_arg0)
          ∧ r.2.mem ((c.tc : Thread Cert.BackDownIdeal.nD Cert.BackDownIdeal.τ).loc Cert.BackDownIdeal.main_arg1) = m ((c.tc : Thread Cert.BackDownIdeal.nD Cert.BackDownIdeal.τ).loc Cert.BackDownIdeal.main_arg1))
      ∧ θ_run (Cert.BackDownRefIdeal.defs (F := Ideal)) (onTc (τ := Cert.BackDownRefIdeal.τ) (Cert.BackDownRefIdeal.main (F := Ideal))) ⟨m', fun _ => 0, g'⟩ (fun r => ∀ c : Dev Cert.BackDownRefIdeal.nD,
          r.2.mem ((c.tc : Thread Cert.BackDownRefIdeal.nD Cert.BackDownRefIdeal.τ).loc Cert.BackDownRefIdeal.main_v3) = v0 c
          ∧ r.2.mem ((c.tc : Thread Cert.BackDownRefIdeal.nD Cert.BackDownRefIdeal.τ).loc Cert.BackDownRefIdeal.main_arg0) = m' ((c.tc : Thread Cert.BackDownRefIdeal.nD Cert.BackDownRefIdeal.τ).loc Cert.BackDownRefIdeal.main_arg0)
          ∧ r.2.mem ((c.tc : Thread Cert.BackDownRefIdeal.nD Cert.BackDownRefIdeal.τ).loc Cert.BackDownRefIdeal.main_arg1) = m' ((c.tc : Thread Cert.BackDownRefIdeal.nD Cert.BackDownRefIdeal.τ).loc Cert.BackDownRefIdeal.main_arg1))

def preserves_BackEven_BackEvenIdeal : Prop :=
  True

def algebraic_BackEvenIdeal_BackEvenRefIdeal [hBackEvenIdeal : Cert.BackEvenIdeal.Facts] [hBackEvenRefIdeal : Cert.BackEvenRefIdeal.Facts] : Prop :=
  ∀ (m : (ℓ : Loc Cert.BackEvenIdeal.nD Cert.BackEvenIdeal.τ Cert.BackEvenIdeal.sig) → Buf (Elt Ideal) ℓ) (g : Dev Cert.BackEvenIdeal.nD → PrngReg)
    (m' : (ℓ : Loc Cert.BackEvenRefIdeal.nD Cert.BackEvenRefIdeal.τ Cert.BackEvenRefIdeal.sig) → Buf (Elt Ideal) ℓ) (g' : Dev Cert.BackEvenRefIdeal.nD → PrngReg), Pre_BackEvenIdeal m →
    (∀ c : Dev Cert.BackEvenIdeal.nD,
      m' ((c.tc : Thread Cert.BackEvenRefIdeal.nD Cert.BackEvenRefIdeal.τ).loc Cert.BackEvenRefIdeal.main_arg0) = m ((c.tc : Thread Cert.BackEvenIdeal.nD Cert.BackEvenIdeal.τ).loc Cert.BackEvenIdeal.main_arg0)
      ∧ m' ((c.tc : Thread Cert.BackEvenRefIdeal.nD Cert.BackEvenRefIdeal.τ).loc Cert.BackEvenRefIdeal.main_arg1) = m ((c.tc : Thread Cert.BackEvenIdeal.nD Cert.BackEvenIdeal.τ).loc Cert.BackEvenIdeal.main_arg1)) →
    ∃ (v0 : (c : Dev Cert.BackEvenIdeal.nD) → Buf (Elt Ideal) ((c.tc : Thread Cert.BackEvenIdeal.nD Cert.BackEvenIdeal.τ).loc Cert.BackEvenIdeal.main_v0)),
      θ_run (Cert.BackEvenIdeal.defs (F := Ideal)) (onTc (τ := Cert.BackEvenIdeal.τ) (Cert.BackEvenIdeal.main (F := Ideal))) ⟨m, fun _ => 0, g⟩ (fun r => ∀ c : Dev Cert.BackEvenIdeal.nD,
          r.2.mem ((c.tc : Thread Cert.BackEvenIdeal.nD Cert.BackEvenIdeal.τ).loc Cert.BackEvenIdeal.main_v0) = v0 c
          ∧ r.2.mem ((c.tc : Thread Cert.BackEvenIdeal.nD Cert.BackEvenIdeal.τ).loc Cert.BackEvenIdeal.main_arg0) = m ((c.tc : Thread Cert.BackEvenIdeal.nD Cert.BackEvenIdeal.τ).loc Cert.BackEvenIdeal.main_arg0)
          ∧ r.2.mem ((c.tc : Thread Cert.BackEvenIdeal.nD Cert.BackEvenIdeal.τ).loc Cert.BackEvenIdeal.main_arg1) = m ((c.tc : Thread Cert.BackEvenIdeal.nD Cert.BackEvenIdeal.τ).loc Cert.BackEvenIdeal.main_arg1))
      ∧ θ_run (Cert.BackEvenRefIdeal.defs (F := Ideal)) (onTc (τ := Cert.BackEvenRefIdeal.τ) (Cert.BackEvenRefIdeal.main (F := Ideal))) ⟨m', fun _ => 0, g'⟩ (fun r => ∀ c : Dev Cert.BackEvenRefIdeal.nD,
          r.2.mem ((c.tc : Thread Cert.BackEvenRefIdeal.nD Cert.BackEvenRefIdeal.τ).loc Cert.BackEvenRefIdeal.main_v3) = v0 c
          ∧ r.2.mem ((c.tc : Thread Cert.BackEvenRefIdeal.nD Cert.BackEvenRefIdeal.τ).loc Cert.BackEvenRefIdeal.main_arg0) = m' ((c.tc : Thread Cert.BackEvenRefIdeal.nD Cert.BackEvenRefIdeal.τ).loc Cert.BackEvenRefIdeal.main_arg0)
          ∧ r.2.mem ((c.tc : Thread Cert.BackEvenRefIdeal.nD Cert.BackEvenRefIdeal.τ).loc Cert.BackEvenRefIdeal.main_arg1) = m' ((c.tc : Thread Cert.BackEvenRefIdeal.nD Cert.BackEvenRefIdeal.τ).loc Cert.BackEvenRefIdeal.main_arg1))

def preserves_BackOdd_BackOddIdeal : Prop :=
  True

def algebraic_BackOddIdeal_BackOddRefIdeal [hBackOddIdeal : Cert.BackOddIdeal.Facts] [hBackOddRefIdeal : Cert.BackOddRefIdeal.Facts] : Prop :=
  ∀ (m : (ℓ : Loc Cert.BackOddIdeal.nD Cert.BackOddIdeal.τ Cert.BackOddIdeal.sig) → Buf (Elt Ideal) ℓ) (g : Dev Cert.BackOddIdeal.nD → PrngReg)
    (m' : (ℓ : Loc Cert.BackOddRefIdeal.nD Cert.BackOddRefIdeal.τ Cert.BackOddRefIdeal.sig) → Buf (Elt Ideal) ℓ) (g' : Dev Cert.BackOddRefIdeal.nD → PrngReg), Pre_BackOddIdeal m →
    (∀ c : Dev Cert.BackOddIdeal.nD,
      m' ((c.tc : Thread Cert.BackOddRefIdeal.nD Cert.BackOddRefIdeal.τ).loc Cert.BackOddRefIdeal.main_arg0) = m ((c.tc : Thread Cert.BackOddIdeal.nD Cert.BackOddIdeal.τ).loc Cert.BackOddIdeal.main_arg0)
      ∧ m' ((c.tc : Thread Cert.BackOddRefIdeal.nD Cert.BackOddRefIdeal.τ).loc Cert.BackOddRefIdeal.main_arg1) = m ((c.tc : Thread Cert.BackOddIdeal.nD Cert.BackOddIdeal.τ).loc Cert.BackOddIdeal.main_arg1)) →
    ∃ (v0 : (c : Dev Cert.BackOddIdeal.nD) → Buf (Elt Ideal) ((c.tc : Thread Cert.BackOddIdeal.nD Cert.BackOddIdeal.τ).loc Cert.BackOddIdeal.main_v0)),
      θ_run (Cert.BackOddIdeal.defs (F := Ideal)) (onTc (τ := Cert.BackOddIdeal.τ) (Cert.BackOddIdeal.main (F := Ideal))) ⟨m, fun _ => 0, g⟩ (fun r => ∀ c : Dev Cert.BackOddIdeal.nD,
          r.2.mem ((c.tc : Thread Cert.BackOddIdeal.nD Cert.BackOddIdeal.τ).loc Cert.BackOddIdeal.main_v0) = v0 c
          ∧ r.2.mem ((c.tc : Thread Cert.BackOddIdeal.nD Cert.BackOddIdeal.τ).loc Cert.BackOddIdeal.main_arg0) = m ((c.tc : Thread Cert.BackOddIdeal.nD Cert.BackOddIdeal.τ).loc Cert.BackOddIdeal.main_arg0)
          ∧ r.2.mem ((c.tc : Thread Cert.BackOddIdeal.nD Cert.BackOddIdeal.τ).loc Cert.BackOddIdeal.main_arg1) = m ((c.tc : Thread Cert.BackOddIdeal.nD Cert.BackOddIdeal.τ).loc Cert.BackOddIdeal.main_arg1))
      ∧ θ_run (Cert.BackOddRefIdeal.defs (F := Ideal)) (onTc (τ := Cert.BackOddRefIdeal.τ) (Cert.BackOddRefIdeal.main (F := Ideal))) ⟨m', fun _ => 0, g'⟩ (fun r => ∀ c : Dev Cert.BackOddRefIdeal.nD,
          r.2.mem ((c.tc : Thread Cert.BackOddRefIdeal.nD Cert.BackOddRefIdeal.τ).loc Cert.BackOddRefIdeal.main_v3) = v0 c
          ∧ r.2.mem ((c.tc : Thread Cert.BackOddRefIdeal.nD Cert.BackOddRefIdeal.τ).loc Cert.BackOddRefIdeal.main_arg0) = m' ((c.tc : Thread Cert.BackOddRefIdeal.nD Cert.BackOddRefIdeal.τ).loc Cert.BackOddRefIdeal.main_arg0)
          ∧ r.2.mem ((c.tc : Thread Cert.BackOddRefIdeal.nD Cert.BackOddRefIdeal.τ).loc Cert.BackOddRefIdeal.main_arg1) = m' ((c.tc : Thread Cert.BackOddRefIdeal.nD Cert.BackOddRefIdeal.τ).loc Cert.BackOddRefIdeal.main_arg1))

def preserves_BackGate_BackGateIdeal : Prop :=
  True

def algebraic_BackGateIdeal_BackGateRefIdeal [hBackGateIdeal : Cert.BackGateIdeal.Facts] [hBackGateRefIdeal : Cert.BackGateRefIdeal.Facts] : Prop :=
  ∀ (m : (ℓ : Loc Cert.BackGateIdeal.nD Cert.BackGateIdeal.τ Cert.BackGateIdeal.sig) → Buf (Elt Ideal) ℓ) (g : Dev Cert.BackGateIdeal.nD → PrngReg)
    (m' : (ℓ : Loc Cert.BackGateRefIdeal.nD Cert.BackGateRefIdeal.τ Cert.BackGateRefIdeal.sig) → Buf (Elt Ideal) ℓ) (g' : Dev Cert.BackGateRefIdeal.nD → PrngReg), Pre_BackGateIdeal m →
    (∀ c : Dev Cert.BackGateIdeal.nD,
      m' ((c.tc : Thread Cert.BackGateRefIdeal.nD Cert.BackGateRefIdeal.τ).loc Cert.BackGateRefIdeal.main_arg0) = m ((c.tc : Thread Cert.BackGateIdeal.nD Cert.BackGateIdeal.τ).loc Cert.BackGateIdeal.main_arg0)
      ∧ m' ((c.tc : Thread Cert.BackGateRefIdeal.nD Cert.BackGateRefIdeal.τ).loc Cert.BackGateRefIdeal.main_arg1) = m ((c.tc : Thread Cert.BackGateIdeal.nD Cert.BackGateIdeal.τ).loc Cert.BackGateIdeal.main_arg1)) →
    ∃ (v0 : (c : Dev Cert.BackGateIdeal.nD) → Buf (Elt Ideal) ((c.tc : Thread Cert.BackGateIdeal.nD Cert.BackGateIdeal.τ).loc Cert.BackGateIdeal.main_v0)),
      θ_run (Cert.BackGateIdeal.defs (F := Ideal)) (onTc (τ := Cert.BackGateIdeal.τ) (Cert.BackGateIdeal.main (F := Ideal))) ⟨m, fun _ => 0, g⟩ (fun r => ∀ c : Dev Cert.BackGateIdeal.nD,
          r.2.mem ((c.tc : Thread Cert.BackGateIdeal.nD Cert.BackGateIdeal.τ).loc Cert.BackGateIdeal.main_v0) = v0 c
          ∧ r.2.mem ((c.tc : Thread Cert.BackGateIdeal.nD Cert.BackGateIdeal.τ).loc Cert.BackGateIdeal.main_arg0) = m ((c.tc : Thread Cert.BackGateIdeal.nD Cert.BackGateIdeal.τ).loc Cert.BackGateIdeal.main_arg0)
          ∧ r.2.mem ((c.tc : Thread Cert.BackGateIdeal.nD Cert.BackGateIdeal.τ).loc Cert.BackGateIdeal.main_arg1) = m ((c.tc : Thread Cert.BackGateIdeal.nD Cert.BackGateIdeal.τ).loc Cert.BackGateIdeal.main_arg1))
      ∧ θ_run (Cert.BackGateRefIdeal.defs (F := Ideal)) (onTc (τ := Cert.BackGateRefIdeal.τ) (Cert.BackGateRefIdeal.main (F := Ideal))) ⟨m', fun _ => 0, g'⟩ (fun r => ∀ c : Dev Cert.BackGateRefIdeal.nD,
          r.2.mem ((c.tc : Thread Cert.BackGateRefIdeal.nD Cert.BackGateRefIdeal.τ).loc Cert.BackGateRefIdeal.main_v3) = v0 c
          ∧ r.2.mem ((c.tc : Thread Cert.BackGateRefIdeal.nD Cert.BackGateRefIdeal.τ).loc Cert.BackGateRefIdeal.main_arg0) = m' ((c.tc : Thread Cert.BackGateRefIdeal.nD Cert.BackGateRefIdeal.τ).loc Cert.BackGateRefIdeal.main_arg0)
          ∧ r.2.mem ((c.tc : Thread Cert.BackGateRefIdeal.nD Cert.BackGateRefIdeal.τ).loc Cert.BackGateRefIdeal.main_arg1) = m' ((c.tc : Thread Cert.BackGateRefIdeal.nD Cert.BackGateRefIdeal.τ).loc Cert.BackGateRefIdeal.main_arg1))

def preserves_Second_SecondIdeal : Prop :=
  True

def algebraic_SecondIdeal_SecondRefIdeal [hSecondIdeal : Cert.SecondIdeal.Facts] [hSecondRefIdeal : Cert.SecondRefIdeal.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondRefIdeal.nD Cert.SecondRefIdeal.τ Cert.SecondRefIdeal.sig) → Buf (Elt Ideal) ℓ) (g' : Dev Cert.SecondRefIdeal.nD → PrngReg), Pre_SecondIdeal m →
    (∀ c : Dev Cert.SecondIdeal.nD,
      m' ((c.tc : Thread Cert.SecondRefIdeal.nD Cert.SecondRefIdeal.τ).loc Cert.SecondRefIdeal.main_arg0) = m ((c.tc : Thread Cert.SecondIdeal.nD Cert.SecondIdeal.τ).loc Cert.SecondIdeal.main_arg0)
      ∧ m' ((c.tc : Thread Cert.SecondRefIdeal.nD Cert.SecondRefIdeal.τ).loc Cert.SecondRefIdeal.main_arg1) = m ((c.tc : Thread Cert.SecondIdeal.nD Cert.SecondIdeal.τ).loc Cert.SecondIdeal.main_arg1)) →
    ∃ (v0 : (c : Dev Cert.SecondIdeal.nD) → Buf (Elt Ideal) ((c.tc : Thread Cert.SecondIdeal.nD Cert.SecondIdeal.τ).loc Cert.SecondIdeal.main_v0)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v0) = v0 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1))
      ∧ θ_run (Cert.SecondRefIdeal.defs (F := Ideal)) (onTc (τ := Cert.SecondRefIdeal.τ) (Cert.SecondRefIdeal.main (F := Ideal))) ⟨m', fun _ => 0, g'⟩ (fun r => ∀ c : Dev Cert.SecondRefIdeal.nD,
          r.2.mem ((c.tc : Thread Cert.SecondRefIdeal.nD Cert.SecondRefIdeal.τ).loc Cert.SecondRefIdeal.main_v2) = v0 c
          ∧ r.2.mem ((c.tc : Thread Cert.SecondRefIdeal.nD Cert.SecondRefIdeal.τ).loc Cert.SecondRefIdeal.main_arg0) = m' ((c.tc : Thread Cert.SecondRefIdeal.nD Cert.SecondRefIdeal.τ).loc Cert.SecondRefIdeal.main_arg0)
          ∧ r.2.mem ((c.tc : Thread Cert.SecondRefIdeal.nD Cert.SecondRefIdeal.τ).loc Cert.SecondRefIdeal.main_arg1) = m' ((c.tc : Thread Cert.SecondRefIdeal.nD Cert.SecondRefIdeal.τ).loc Cert.SecondRefIdeal.main_arg1))

def preserves_MixOdd_MixOddIdeal : Prop :=
  True

def algebraic_MixOddIdeal_MixOddRefIdeal [hMixOddIdeal : Cert.MixOddIdeal.Facts] [hMixOddRefIdeal : Cert.MixOddRefIdeal.Facts] : Prop :=
  ∀ (m : (ℓ : Loc Cert.MixOddIdeal.nD Cert.MixOddIdeal.τ Cert.MixOddIdeal.sig) → Buf (Elt Ideal) ℓ) (g : Dev Cert.MixOddIdeal.nD → PrngReg)
    (m' : (ℓ : Loc Cert.MixOddRefIdeal.nD Cert.MixOddRefIdeal.τ Cert.MixOddRefIdeal.sig) → Buf (Elt Ideal) ℓ) (g' : Dev Cert.MixOddRefIdeal.nD → PrngReg), Pre_MixOddIdeal m →
    (∀ c : Dev Cert.MixOddIdeal.nD,
      m' ((c.tc : Thread Cert.MixOddRefIdeal.nD Cert.MixOddRefIdeal.τ).loc Cert.MixOddRefIdeal.main_arg0) = m ((c.tc : Thread Cert.MixOddIdeal.nD Cert.MixOddIdeal.τ).loc Cert.MixOddIdeal.main_arg0)
      ∧ m' ((c.tc : Thread Cert.MixOddRefIdeal.nD Cert.MixOddRefIdeal.τ).loc Cert.MixOddRefIdeal.main_arg1) = m ((c.tc : Thread Cert.MixOddIdeal.nD Cert.MixOddIdeal.τ).loc Cert.MixOddIdeal.main_arg1)) →
    ∃ (v0 : (c : Dev Cert.MixOddIdeal.nD) → Buf (Elt Ideal) ((c.tc : Thread Cert.MixOddIdeal.nD Cert.MixOddIdeal.τ).loc Cert.MixOddIdeal.main_v0)),
      θ_run (Cert.MixOddIdeal.defs (F := Ideal)) (onTc (τ := Cert.MixOddIdeal.τ) (Cert.MixOddIdeal.main (F := Ideal))) ⟨m, fun _ => 0, g⟩ (fun r => ∀ c : Dev Cert.MixOddIdeal.nD,
          r.2.mem ((c.tc : Thread Cert.MixOddIdeal.nD Cert.MixOddIdeal.τ).loc Cert.MixOddIdeal.main_v0) = v0 c
          ∧ r.2.mem ((c.tc : Thread Cert.MixOddIdeal.nD Cert.MixOddIdeal.τ).loc Cert.MixOddIdeal.main_arg0) = m ((c.tc : Thread Cert.MixOddIdeal.nD Cert.MixOddIdeal.τ).loc Cert.MixOddIdeal.main_arg0)
          ∧ r.2.mem ((c.tc : Thread Cert.MixOddIdeal.nD Cert.MixOddIdeal.τ).loc Cert.MixOddIdeal.main_arg1) = m ((c.tc : Thread Cert.MixOddIdeal.nD Cert.MixOddIdeal.τ).loc Cert.MixOddIdeal.main_arg1))
      ∧ θ_run (Cert.MixOddRefIdeal.defs (F := Ideal)) (onTc (τ := Cert.MixOddRefIdeal.τ) (Cert.MixOddRefIdeal.main (F := Ideal))) ⟨m', fun _ => 0, g'⟩ (fun r => ∀ c : Dev Cert.MixOddRefIdeal.nD,
          r.2.mem ((c.tc : Thread Cert.MixOddRefIdeal.nD Cert.MixOddRefIdeal.τ).loc Cert.MixOddRefIdeal.main_v2) = v0 c
          ∧ r.2.mem ((c.tc : Thread Cert.MixOddRefIdeal.nD Cert.MixOddRefIdeal.τ).loc Cert.MixOddRefIdeal.main_arg0) = m' ((c.tc : Thread Cert.MixOddRefIdeal.nD Cert.MixOddRefIdeal.τ).loc Cert.MixOddRefIdeal.main_arg0)
          ∧ r.2.mem ((c.tc : Thread Cert.MixOddRefIdeal.nD Cert.MixOddRefIdeal.τ).loc Cert.MixOddRefIdeal.main_arg1) = m' ((c.tc : Thread Cert.MixOddRefIdeal.nD Cert.MixOddRefIdeal.τ).loc Cert.MixOddRefIdeal.main_arg1))

def preserves_BackUp_BackUpIdeal : Prop :=
  True

def algebraic_BackUpIdeal_BackUpRefIdeal [hBackUpIdeal : Cert.BackUpIdeal.Facts] [hBackUpRefIdeal : Cert.BackUpRefIdeal.Facts] : Prop :=
  ∀ (m : (ℓ : Loc Cert.BackUpIdeal.nD Cert.BackUpIdeal.τ Cert.BackUpIdeal.sig) → Buf (Elt Ideal) ℓ) (g : Dev Cert.BackUpIdeal.nD → PrngReg)
    (m' : (ℓ : Loc Cert.BackUpRefIdeal.nD Cert.BackUpRefIdeal.τ Cert.BackUpRefIdeal.sig) → Buf (Elt Ideal) ℓ) (g' : Dev Cert.BackUpRefIdeal.nD → PrngReg), Pre_BackUpIdeal m →
    (∀ c : Dev Cert.BackUpIdeal.nD,
      m' ((c.tc : Thread Cert.BackUpRefIdeal.nD Cert.BackUpRefIdeal.τ).loc Cert.BackUpRefIdeal.main_arg0) = m ((c.tc : Thread Cert.BackUpIdeal.nD Cert.BackUpIdeal.τ).loc Cert.BackUpIdeal.main_arg0)
      ∧ m' ((c.tc : Thread Cert.BackUpRefIdeal.nD Cert.BackUpRefIdeal.τ).loc Cert.BackUpRefIdeal.main_arg1) = m ((c.tc : Thread Cert.BackUpIdeal.nD Cert.BackUpIdeal.τ).loc Cert.BackUpIdeal.main_arg1)) →
    ∃ (v0 : (c : Dev Cert.BackUpIdeal.nD) → Buf (Elt Ideal) ((c.tc : Thread Cert.BackUpIdeal.nD Cert.BackUpIdeal.τ).loc Cert.BackUpIdeal.main_v0)),
      θ_run (Cert.BackUpIdeal.defs (F := Ideal)) (onTc (τ := Cert.BackUpIdeal.τ) (Cert.BackUpIdeal.main (F := Ideal))) ⟨m, fun _ => 0, g⟩ (fun r => ∀ c : Dev Cert.BackUpIdeal.nD,
          r.2.mem ((c.tc : Thread Cert.BackUpIdeal.nD Cert.BackUpIdeal.τ).loc Cert.BackUpIdeal.main_v0) = v0 c
          ∧ r.2.mem ((c.tc : Thread Cert.BackUpIdeal.nD Cert.BackUpIdeal.τ).loc Cert.BackUpIdeal.main_arg0) = m ((c.tc : Thread Cert.BackUpIdeal.nD Cert.BackUpIdeal.τ).loc Cert.BackUpIdeal.main_arg0)
          ∧ r.2.mem ((c.tc : Thread Cert.BackUpIdeal.nD Cert.BackUpIdeal.τ).loc Cert.BackUpIdeal.main_arg1) = m ((c.tc : Thread Cert.BackUpIdeal.nD Cert.BackUpIdeal.τ).loc Cert.BackUpIdeal.main_arg1))
      ∧ θ_run (Cert.BackUpRefIdeal.defs (F := Ideal)) (onTc (τ := Cert.BackUpRefIdeal.τ) (Cert.BackUpRefIdeal.main (F := Ideal))) ⟨m', fun _ => 0, g'⟩ (fun r => ∀ c : Dev Cert.BackUpRefIdeal.nD,
          r.2.mem ((c.tc : Thread Cert.BackUpRefIdeal.nD Cert.BackUpRefIdeal.τ).loc Cert.BackUpRefIdeal.main_v3) = v0 c
          ∧ r.2.mem ((c.tc : Thread Cert.BackUpRefIdeal.nD Cert.BackUpRefIdeal.τ).loc Cert.BackUpRefIdeal.main_arg0) = m' ((c.tc : Thread Cert.BackUpRefIdeal.nD Cert.BackUpRefIdeal.τ).loc Cert.BackUpRefIdeal.main_arg0)
          ∧ r.2.mem ((c.tc : Thread Cert.BackUpRefIdeal.nD Cert.BackUpRefIdeal.τ).loc Cert.BackUpRefIdeal.main_arg1) = m' ((c.tc : Thread Cert.BackUpRefIdeal.nD Cert.BackUpRefIdeal.τ).loc Cert.BackUpRefIdeal.main_arg1))

def preserves_BackUpEven_BackUpEvenIdeal : Prop :=
  True

def algebraic_BackUpEvenIdeal_BackUpEvenRefIdeal [hBackUpEvenIdeal : Cert.BackUpEvenIdeal.Facts] [hBackUpEvenRefIdeal : Cert.BackUpEvenRefIdeal.Facts] : Prop :=
  ∀ (m : (ℓ : Loc Cert.BackUpEvenIdeal.nD Cert.BackUpEvenIdeal.τ Cert.BackUpEvenIdeal.sig) → Buf (Elt Ideal) ℓ) (g : Dev Cert.BackUpEvenIdeal.nD → PrngReg)
    (m' : (ℓ : Loc Cert.BackUpEvenRefIdeal.nD Cert.BackUpEvenRefIdeal.τ Cert.BackUpEvenRefIdeal.sig) → Buf (Elt Ideal) ℓ) (g' : Dev Cert.BackUpEvenRefIdeal.nD → PrngReg), Pre_BackUpEvenIdeal m →
    (∀ c : Dev Cert.BackUpEvenIdeal.nD,
      m' ((c.tc : Thread Cert.BackUpEvenRefIdeal.nD Cert.BackUpEvenRefIdeal.τ).loc Cert.BackUpEvenRefIdeal.main_arg0) = m ((c.tc : Thread Cert.BackUpEvenIdeal.nD Cert.BackUpEvenIdeal.τ).loc Cert.BackUpEvenIdeal.main_arg0)
      ∧ m' ((c.tc : Thread Cert.BackUpEvenRefIdeal.nD Cert.BackUpEvenRefIdeal.τ).loc Cert.BackUpEvenRefIdeal.main_arg1) = m ((c.tc : Thread Cert.BackUpEvenIdeal.nD Cert.BackUpEvenIdeal.τ).loc Cert.BackUpEvenIdeal.main_arg1)) →
    ∃ (v0 : (c : Dev Cert.BackUpEvenIdeal.nD) → Buf (Elt Ideal) ((c.tc : Thread Cert.BackUpEvenIdeal.nD Cert.BackUpEvenIdeal.τ).loc Cert.BackUpEvenIdeal.main_v0)),
      θ_run (Cert.BackUpEvenIdeal.defs (F := Ideal)) (onTc (τ := Cert.BackUpEvenIdeal.τ) (Cert.BackUpEvenIdeal.main (F := Ideal))) ⟨m, fun _ => 0, g⟩ (fun r => ∀ c : Dev Cert.BackUpEvenIdeal.nD,
          r.2.mem ((c.tc : Thread Cert.BackUpEvenIdeal.nD Cert.BackUpEvenIdeal.τ).loc Cert.BackUpEvenIdeal.main_v0) = v0 c
          ∧ r.2.mem ((c.tc : Thread Cert.BackUpEvenIdeal.nD Cert.BackUpEvenIdeal.τ).loc Cert.BackUpEvenIdeal.main_arg0) = m ((c.tc : Thread Cert.BackUpEvenIdeal.nD Cert.BackUpEvenIdeal.τ).loc Cert.BackUpEvenIdeal.main_arg0)
          ∧ r.2.mem ((c.tc : Thread Cert.BackUpEvenIdeal.nD Cert.BackUpEvenIdeal.τ).loc Cert.BackUpEvenIdeal.main_arg1) = m ((c.tc : Thread Cert.BackUpEvenIdeal.nD Cert.BackUpEvenIdeal.τ).loc Cert.BackUpEvenIdeal.main_arg1))
      ∧ θ_run (Cert.BackUpEvenRefIdeal.defs (F := Ideal)) (onTc (τ := Cert.BackUpEvenRefIdeal.τ) (Cert.BackUpEvenRefIdeal.main (F := Ideal))) ⟨m', fun _ => 0, g'⟩ (fun r => ∀ c : Dev Cert.BackUpEvenRefIdeal.nD,
          r.2.mem ((c.tc : Thread Cert.BackUpEvenRefIdeal.nD Cert.BackUpEvenRefIdeal.τ).loc Cert.BackUpEvenRefIdeal.main_v3) = v0 c
          ∧ r.2.mem ((c.tc : Thread Cert.BackUpEvenRefIdeal.nD Cert.BackUpEvenRefIdeal.τ).loc Cert.BackUpEvenRefIdeal.main_arg0) = m' ((c.tc : Thread Cert.BackUpEvenRefIdeal.nD Cert.BackUpEvenRefIdeal.τ).loc Cert.BackUpEvenRefIdeal.main_arg0)
          ∧ r.2.mem ((c.tc : Thread Cert.BackUpEvenRefIdeal.nD Cert.BackUpEvenRefIdeal.τ).loc Cert.BackUpEvenRefIdeal.main_arg1) = m' ((c.tc : Thread Cert.BackUpEvenRefIdeal.nD Cert.BackUpEvenRefIdeal.τ).loc Cert.BackUpEvenRefIdeal.main_arg1))

def preserves_BackUpOdd_BackUpOddIdeal : Prop :=
  True

def algebraic_BackUpOddIdeal_BackUpOddRefIdeal [hBackUpOddIdeal : Cert.BackUpOddIdeal.Facts] [hBackUpOddRefIdeal : Cert.BackUpOddRefIdeal.Facts] : Prop :=
  ∀ (m : (ℓ : Loc Cert.BackUpOddIdeal.nD Cert.BackUpOddIdeal.τ Cert.BackUpOddIdeal.sig) → Buf (Elt Ideal) ℓ) (g : Dev Cert.BackUpOddIdeal.nD → PrngReg)
    (m' : (ℓ : Loc Cert.BackUpOddRefIdeal.nD Cert.BackUpOddRefIdeal.τ Cert.BackUpOddRefIdeal.sig) → Buf (Elt Ideal) ℓ) (g' : Dev Cert.BackUpOddRefIdeal.nD → PrngReg), Pre_BackUpOddIdeal m →
    (∀ c : Dev Cert.BackUpOddIdeal.nD,
      m' ((c.tc : Thread Cert.BackUpOddRefIdeal.nD Cert.BackUpOddRefIdeal.τ).loc Cert.BackUpOddRefIdeal.main_arg0) = m ((c.tc : Thread Cert.BackUpOddIdeal.nD Cert.BackUpOddIdeal.τ).loc Cert.BackUpOddIdeal.main_arg0)
      ∧ m' ((c.tc : Thread Cert.BackUpOddRefIdeal.nD Cert.BackUpOddRefIdeal.τ).loc Cert.BackUpOddRefIdeal.main_arg1) = m ((c.tc : Thread Cert.BackUpOddIdeal.nD Cert.BackUpOddIdeal.τ).loc Cert.BackUpOddIdeal.main_arg1)
      ∧ m' ((c.tc : Thread Cert.BackUpOddRefIdeal.nD Cert.BackUpOddRefIdeal.τ).loc Cert.BackUpOddRefIdeal.main_arg2) = m ((c.tc : Thread Cert.BackUpOddIdeal.nD Cert.BackUpOddIdeal.τ).loc Cert.BackUpOddIdeal.main_arg2)) →
    ∃ (v0 : (c : Dev Cert.BackUpOddIdeal.nD) → Buf (Elt Ideal) ((c.tc : Thread Cert.BackUpOddIdeal.nD Cert.BackUpOddIdeal.τ).loc Cert.BackUpOddIdeal.main_v0)),
      θ_run (Cert.BackUpOddIdeal.defs (F := Ideal)) (onTc (τ := Cert.BackUpOddIdeal.τ) (Cert.BackUpOddIdeal.main (F := Ideal))) ⟨m, fun _ => 0, g⟩ (fun r => ∀ c : Dev Cert.BackUpOddIdeal.nD,
          r.2.mem ((c.tc : Thread Cert.BackUpOddIdeal.nD Cert.BackUpOddIdeal.τ).loc Cert.BackUpOddIdeal.main_v0) = v0 c
          ∧ r.2.mem ((c.tc : Thread Cert.BackUpOddIdeal.nD Cert.BackUpOddIdeal.τ).loc Cert.BackUpOddIdeal.main_arg0) = m ((c.tc : Thread Cert.BackUpOddIdeal.nD Cert.BackUpOddIdeal.τ).loc Cert.BackUpOddIdeal.main_arg0)
          ∧ r.2.mem ((c.tc : Thread Cert.BackUpOddIdeal.nD Cert.BackUpOddIdeal.τ).loc Cert.BackUpOddIdeal.main_arg1) = m ((c.tc : Thread Cert.BackUpOddIdeal.nD Cert.BackUpOddIdeal.τ).loc Cert.BackUpOddIdeal.main_arg1)
          ∧ r.2.mem ((c.tc : Thread Cert.BackUpOddIdeal.nD Cert.BackUpOddIdeal.τ).loc Cert.BackUpOddIdeal.main_arg2) = m ((c.tc : Thread Cert.BackUpOddIdeal.nD Cert.BackUpOddIdeal.τ).loc Cert.BackUpOddIdeal.main_arg2))
      ∧ θ_run (Cert.BackUpOddRefIdeal.defs (F := Ideal)) (onTc (τ := Cert.BackUpOddRefIdeal.τ) (Cert.BackUpOddRefIdeal.main (F := Ideal))) ⟨m', fun _ => 0, g'⟩ (fun r => ∀ c : Dev Cert.BackUpOddRefIdeal.nD,
          r.2.mem ((c.tc : Thread Cert.BackUpOddRefIdeal.nD Cert.BackUpOddRefIdeal.τ).loc Cert.BackUpOddRefIdeal.main_v4) = v0 c
          ∧ r.2.mem ((c.tc : Thread Cert.BackUpOddRefIdeal.nD Cert.BackUpOddRefIdeal.τ).loc Cert.BackUpOddRefIdeal.main_arg0) = m' ((c.tc : Thread Cert.BackUpOddRefIdeal.nD Cert.BackUpOddRefIdeal.τ).loc Cert.BackUpOddRefIdeal.main_arg0)
          ∧ r.2.mem ((c.tc : Thread Cert.BackUpOddRefIdeal.nD Cert.BackUpOddRefIdeal.τ).loc Cert.BackUpOddRefIdeal.main_arg1) = m' ((c.tc : Thread Cert.BackUpOddRefIdeal.nD Cert.BackUpOddRefIdeal.τ).loc Cert.BackUpOddRefIdeal.main_arg1)
          ∧ r.2.mem ((c.tc : Thread Cert.BackUpOddRefIdeal.nD Cert.BackUpOddRefIdeal.τ).loc Cert.BackUpOddRefIdeal.main_arg2) = m' ((c.tc : Thread Cert.BackUpOddRefIdeal.nD Cert.BackUpOddRefIdeal.τ).loc Cert.BackUpOddRefIdeal.main_arg2))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)
      ∧ m' ((c.tc : Thread Cert.ModulateRefIdeal.nD Cert.ModulateRefIdeal.τ).loc Cert.ModulateRefIdeal.main_arg2) = m ((c.tc : Thread Cert.ModulateIdeal.nD Cert.ModulateIdeal.τ).loc Cert.ModulateIdeal.main_arg2)) →
    ∃ (v0 : (c : Dev Cert.ModulateIdeal.nD) → Buf (Elt Ideal) ((c.tc : Thread Cert.ModulateIdeal.nD Cert.ModulateIdeal.τ).loc Cert.ModulateIdeal.main_v1)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v1) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v33) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1)
          ∧ r.2.mem ((c.tc : Thread Cert.ModulateRefIdeal.nD Cert.ModulateRefIdeal.τ).loc Cert.ModulateRefIdeal.main_arg2) = m' ((c.tc : Thread Cert.ModulateRefIdeal.nD Cert.ModulateRefIdeal.τ).loc Cert.ModulateRefIdeal.main_arg2))

def preserves_Residual_ResidualIdeal : Prop :=
  True

def algebraic_ResidualIdeal_ResidualRefIdeal [hResidualIdeal : Cert.ResidualIdeal.Facts] [hResidualRefIdeal : Cert.ResidualRefIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualRefIdeal.nD Cert.ResidualRefIdeal.τ Cert.ResidualRefIdeal.sig) → Buf (Elt Ideal) ℓ) (g' : Dev Cert.ResidualRefIdeal.nD → PrngReg), Pre_ResidualIdeal m →
    (∀ c : Dev Cert.ResidualIdeal.nD,
      m' ((c.tc : Thread Cert.ResidualRefIdeal.nD Cert.ResidualRefIdeal.τ).loc Cert.ResidualRefIdeal.main_arg0) = m ((c.tc : Thread Cert.ResidualIdeal.nD Cert.ResidualIdeal.τ).loc Cert.ResidualIdeal.main_arg0)
      ∧ m' ((c.tc : Thread Cert.ResidualRefIdeal.nD Cert.ResidualRefIdeal.τ).loc Cert.ResidualRefIdeal.main_arg1) = m ((c.tc : Thread Cert.ResidualIdeal.nD Cert.ResidualIdeal.τ).loc Cert.ResidualIdeal.main_arg1)
      ∧ m' ((c.tc : Thread Cert.ResidualRefIdeal.nD Cert.ResidualRefIdeal.τ).loc Cert.ResidualRefIdeal.main_arg2) = m ((c.tc : Thread Cert.ResidualIdeal.nD Cert.ResidualIdeal.τ).loc Cert.ResidualIdeal.main_arg2)
      ∧ m' ((c.tc : Thread Cert.ResidualRefIdeal.nD Cert.ResidualRefIdeal.τ).loc Cert.ResidualRefIdeal.main_arg3) = m ((c.tc : Thread Cert.ResidualIdeal.nD Cert.ResidualIdeal.τ).loc Cert.ResidualIdeal.main_arg3)) →
    ∃ (v0 : (c : Dev Cert.ResidualIdeal.nD) → Buf (Elt Ideal) ((c.tc : Thread Cert.ResidualIdeal.nD Cert.ResidualIdeal.τ).loc Cert.ResidualIdeal.main_v1)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v1) = v0 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ θ_run (Cert.ResidualRefIdeal.defs (F := Ideal)) (onTc (τ := Cert.ResidualRefIdeal.τ) (Cert.ResidualRefIdeal.main (F := Ideal))) ⟨m', fun _ => 0, g'⟩ (fun r => ∀ c : Dev Cert.ResidualRefIdeal.nD,
          r.2.mem ((c.tc : Thread Cert.ResidualRefIdeal.nD Cert.ResidualRefIdeal.τ).loc Cert.ResidualRefIdeal.main_v23) = v0 c
          ∧ r.2.mem ((c.tc : Thread Cert.ResidualRefIdeal.nD Cert.ResidualRefIdeal.τ).loc Cert.ResidualRefIdeal.main_arg0) = m' ((c.tc : Thread Cert.ResidualRefIdeal.nD Cert.ResidualRefIdeal.τ).loc Cert.ResidualRefIdeal.main_arg0)
          ∧ r.2.mem ((c.tc : Thread Cert.ResidualRefIdeal.nD Cert.ResidualRefIdeal.τ).loc Cert.ResidualRefIdeal.main_arg1) = m' ((c.tc : Thread Cert.ResidualRefIdeal.nD Cert.ResidualRefIdeal.τ).loc Cert.ResidualRefIdeal.main_arg1)
          ∧ r.2.mem ((c.tc : Thread Cert.ResidualRefIdeal.nD Cert.ResidualRefIdeal.τ).loc Cert.ResidualRefIdeal.main_arg2) = m' ((c.tc : Thread Cert.ResidualRefIdeal.nD Cert.ResidualRefIdeal.τ).loc Cert.ResidualRefIdeal.main_arg2)
          ∧ r.2.mem ((c.tc : Thread Cert.ResidualRefIdeal.nD Cert.ResidualRefIdeal.τ).loc Cert.ResidualRefIdeal.main_arg3) = m' ((c.tc : Thread Cert.ResidualRefIdeal.nD Cert.ResidualRefIdeal.τ).loc Cert.ResidualRefIdeal.main_arg3))

def preserves_Activation_ActivationIdeal : Prop :=
  True

def algebraic_ActivationIdeal_ActivationRefIdeal [hActivationIdeal : Cert.ActivationIdeal.Facts] [hActivationRefIdeal : Cert.ActivationRefIdeal.Facts] : Prop :=
  ∀ (m : (ℓ : Loc Cert.ActivationIdeal.nD Cert.ActivationIdeal.τ Cert.ActivationIdeal.sig) → Buf (Elt Ideal) ℓ) (g : Dev Cert.ActivationIdeal.nD → PrngReg)
    (m' : (ℓ : Loc Cert.ActivationRefIdeal.nD Cert.ActivationRefIdeal.τ Cert.ActivationRefIdeal.sig) → Buf (Elt Ideal) ℓ) (g' : Dev Cert.ActivationRefIdeal.nD → PrngReg), Pre_ActivationIdeal m →
    (∀ c : Dev Cert.ActivationIdeal.nD,
      m' ((c.tc : Thread Cert.ActivationRefIdeal.nD Cert.ActivationRefIdeal.τ).loc Cert.ActivationRefIdeal.main_arg0) = m ((c.tc : Thread Cert.ActivationIdeal.nD Cert.ActivationIdeal.τ).loc Cert.ActivationIdeal.main_arg0)) →
    ∃ (v0 : (c : Dev Cert.ActivationIdeal.nD) → Buf (Elt Ideal) ((c.tc : Thread Cert.ActivationIdeal.nD Cert.ActivationIdeal.τ).loc Cert.ActivationIdeal.main_v0)),
      θ_run (Cert.ActivationIdeal.defs (F := Ideal)) (onTc (τ := Cert.ActivationIdeal.τ) (Cert.ActivationIdeal.main (F := Ideal))) ⟨m, fun _ => 0, g⟩ (fun r => ∀ c : Dev Cert.ActivationIdeal.nD,
          r.2.mem ((c.tc : Thread Cert.ActivationIdeal.nD Cert.ActivationIdeal.τ).loc Cert.ActivationIdeal.main_v0) = v0 c
          ∧ r.2.mem ((c.tc : Thread Cert.ActivationIdeal.nD Cert.ActivationIdeal.τ).loc Cert.ActivationIdeal.main_arg0) = m ((c.tc : Thread Cert.ActivationIdeal.nD Cert.ActivationIdeal.τ).loc Cert.ActivationIdeal.main_arg0))
      ∧ θ_run (Cert.ActivationRefIdeal.defs (F := Ideal)) (onTc (τ := Cert.ActivationRefIdeal.τ) (Cert.ActivationRefIdeal.main (F := Ideal))) ⟨m', fun _ => 0, g'⟩ (fun r => ∀ c : Dev Cert.ActivationRefIdeal.nD,
          r.2.mem ((c.tc : Thread Cert.ActivationRefIdeal.nD Cert.ActivationRefIdeal.τ).loc Cert.ActivationRefIdeal.main_v4) = v0 c
          ∧ r.2.mem ((c.tc : Thread Cert.ActivationRefIdeal.nD Cert.ActivationRefIdeal.τ).loc Cert.ActivationRefIdeal.main_arg0) = m' ((c.tc : Thread Cert.ActivationRefIdeal.nD Cert.ActivationRefIdeal.τ).loc Cert.ActivationRefIdeal.main_arg0))

def preserves_ActivationBack_ActivationBackIdeal : Prop :=
  True

def algebraic_ActivationBackIdeal_ActivationBackRefIdeal [hActivationBackIdeal : Cert.ActivationBackIdeal.Facts] [hActivationBackRefIdeal : Cert.ActivationBackRefIdeal.Facts] : Prop :=
  ∀ (m : (ℓ : Loc Cert.ActivationBackIdeal.nD Cert.ActivationBackIdeal.τ Cert.ActivationBackIdeal.sig) → Buf (Elt Ideal) ℓ) (g : Dev Cert.ActivationBackIdeal.nD → PrngReg)
    (m' : (ℓ : Loc Cert.ActivationBackRefIdeal.nD Cert.ActivationBackRefIdeal.τ Cert.ActivationBackRefIdeal.sig) → Buf (Elt Ideal) ℓ) (g' : Dev Cert.ActivationBackRefIdeal.nD → PrngReg), Pre_ActivationBackIdeal m →
    (∀ c : Dev Cert.ActivationBackIdeal.nD,
      m' ((c.tc : Thread Cert.ActivationBackRefIdeal.nD Cert.ActivationBackRefIdeal.τ).loc Cert.ActivationBackRefIdeal.main_arg0) = m ((c.tc : Thread Cert.ActivationBackIdeal.nD Cert.ActivationBackIdeal.τ).loc Cert.ActivationBackIdeal.main_arg0)
      ∧ m' ((c.tc : Thread Cert.ActivationBackRefIdeal.nD Cert.ActivationBackRefIdeal.τ).loc Cert.ActivationBackRefIdeal.main_arg1) = m ((c.tc : Thread Cert.ActivationBackIdeal.nD Cert.ActivationBackIdeal.τ).loc Cert.ActivationBackIdeal.main_arg1)) →
    ∃ (v0 : (c : Dev Cert.ActivationBackIdeal.nD) → Buf (Elt Ideal) ((c.tc : Thread Cert.ActivationBackIdeal.nD Cert.ActivationBackIdeal.τ).loc Cert.ActivationBackIdeal.main_v0)),
      θ_run (Cert.ActivationBackIdeal.defs (F := Ideal)) (onTc (τ := Cert.ActivationBackIdeal.τ) (Cert.ActivationBackIdeal.main (F := Ideal))) ⟨m, fun _ => 0, g⟩ (fun r => ∀ c : Dev Cert.ActivationBackIdeal.nD,
          r.2.mem ((c.tc : Thread Cert.ActivationBackIdeal.nD Cert.ActivationBackIdeal.τ).loc Cert.ActivationBackIdeal.main_v0) = v0 c
          ∧ r.2.mem ((c.tc : Thread Cert.ActivationBackIdeal.nD Cert.ActivationBackIdeal.τ).loc Cert.ActivationBackIdeal.main_arg0) = m ((c.tc : Thread Cert.ActivationBackIdeal.nD Cert.ActivationBackIdeal.τ).loc Cert.ActivationBackIdeal.main_arg0)
          ∧ r.2.mem ((c.tc : Thread Cert.ActivationBackIdeal.nD Cert.ActivationBackIdeal.τ).loc Cert.ActivationBackIdeal.main_arg1) = m ((c.tc : Thread Cert.ActivationBackIdeal.nD Cert.ActivationBackIdeal.τ).loc Cert.ActivationBackIdeal.main_arg1))
      ∧ θ_run (Cert.ActivationBackRefIdeal.defs (F := Ideal)) (onTc (τ := Cert.ActivationBackRefIdeal.τ) (Cert.ActivationBackRefIdeal.main (F := Ideal))) ⟨m', fun _ => 0, g'⟩ (fun r => ∀ c : Dev Cert.ActivationBackRefIdeal.nD,
          r.2.mem ((c.tc : Thread Cert.ActivationBackRefIdeal.nD Cert.ActivationBackRefIdeal.τ).loc Cert.ActivationBackRefIdeal.main_v8) = v0 c
          ∧ r.2.mem ((c.tc : Thread Cert.ActivationBackRefIdeal.nD Cert.ActivationBackRefIdeal.τ).loc Cert.ActivationBackRefIdeal.main_arg0) = m' ((c.tc : Thread Cert.ActivationBackRefIdeal.nD Cert.ActivationBackRefIdeal.τ).loc Cert.ActivationBackRefIdeal.main_arg0)
          ∧ r.2.mem ((c.tc : Thread Cert.ActivationBackRefIdeal.nD Cert.ActivationBackRefIdeal.τ).loc Cert.ActivationBackRefIdeal.main_arg1) = m' ((c.tc : Thread Cert.ActivationBackRefIdeal.nD Cert.ActivationBackRefIdeal.τ).loc Cert.ActivationBackRefIdeal.main_arg1))

def preserves_ResidualBack_ResidualBackIdeal : Prop :=
  True

def algebraic_ResidualBackIdeal_ResidualBackRefIdeal [hResidualBackIdeal : Cert.ResidualBackIdeal.Facts] [hResidualBackRefIdeal : Cert.ResidualBackRefIdeal.Facts] : Prop :=
  ∀ (m : (ℓ : Loc Cert.ResidualBackIdeal.nD Cert.ResidualBackIdeal.τ Cert.ResidualBackIdeal.sig) → Buf (Elt Ideal) ℓ) (g : Dev Cert.ResidualBackIdeal.nD → PrngReg)
    (m' : (ℓ : Loc Cert.ResidualBackRefIdeal.nD Cert.ResidualBackRefIdeal.τ Cert.ResidualBackRefIdeal.sig) → Buf (Elt Ideal) ℓ) (g' : Dev Cert.ResidualBackRefIdeal.nD → PrngReg), Pre_ResidualBackIdeal m →
    (∀ c : Dev Cert.ResidualBackIdeal.nD,
      m' ((c.tc : Thread Cert.ResidualBackRefIdeal.nD Cert.ResidualBackRefIdeal.τ).loc Cert.ResidualBackRefIdeal.main_arg0) = m ((c.tc : Thread Cert.ResidualBackIdeal.nD Cert.ResidualBackIdeal.τ).loc Cert.ResidualBackIdeal.main_arg0)
      ∧ m' ((c.tc : Thread Cert.ResidualBackRefIdeal.nD Cert.ResidualBackRefIdeal.τ).loc Cert.ResidualBackRefIdeal.main_arg1) = m ((c.tc : Thread Cert.ResidualBackIdeal.nD Cert.ResidualBackIdeal.τ).loc Cert.ResidualBackIdeal.main_arg1)
      ∧ m' ((c.tc : Thread Cert.ResidualBackRefIdeal.nD Cert.ResidualBackRefIdeal.τ).loc Cert.ResidualBackRefIdeal.main_arg2) = m ((c.tc : Thread Cert.ResidualBackIdeal.nD Cert.ResidualBackIdeal.τ).loc Cert.ResidualBackIdeal.main_arg2)
      ∧ m' ((c.tc : Thread Cert.ResidualBackRefIdeal.nD Cert.ResidualBackRefIdeal.τ).loc Cert.ResidualBackRefIdeal.main_arg3) = m ((c.tc : Thread Cert.ResidualBackIdeal.nD Cert.ResidualBackIdeal.τ).loc Cert.ResidualBackIdeal.main_arg3)
      ∧ m' ((c.tc : Thread Cert.ResidualBackRefIdeal.nD Cert.ResidualBackRefIdeal.τ).loc Cert.ResidualBackRefIdeal.main_arg4) = m ((c.tc : Thread Cert.ResidualBackIdeal.nD Cert.ResidualBackIdeal.τ).loc Cert.ResidualBackIdeal.main_arg4)) →
    ∃ (v0 : (c : Dev Cert.ResidualBackIdeal.nD) → Buf (Elt Ideal) ((c.tc : Thread Cert.ResidualBackIdeal.nD Cert.ResidualBackIdeal.τ).loc Cert.ResidualBackIdeal.main_v1_0)),
      θ_run (Cert.ResidualBackIdeal.defs (F := Ideal)) (onTc (τ := Cert.ResidualBackIdeal.τ) (Cert.ResidualBackIdeal.main (F := Ideal))) ⟨m, fun _ => 0, g⟩ (fun r => ∀ c : Dev Cert.ResidualBackIdeal.nD,
          r.2.mem ((c.tc : Thread Cert.ResidualBackIdeal.nD Cert.ResidualBackIdeal.τ).loc Cert.ResidualBackIdeal.main_v1_0) = v0 c
          ∧ r.2.mem ((c.tc : Thread Cert.ResidualBackIdeal.nD Cert.ResidualBackIdeal.τ).loc Cert.ResidualBackIdeal.main_arg0) = m ((c.tc : Thread Cert.ResidualBackIdeal.nD Cert.ResidualBackIdeal.τ).loc Cert.ResidualBackIdeal.main_arg0)
          ∧ r.2.mem ((c.tc : Thread Cert.ResidualBackIdeal.nD Cert.ResidualBackIdeal.τ).loc Cert.ResidualBackIdeal.main_arg1) = m ((c.tc : Thread Cert.ResidualBackIdeal.nD Cert.ResidualBackIdeal.τ).loc Cert.ResidualBackIdeal.main_arg1)
          ∧ r.2.mem ((c.tc : Thread Cert.ResidualBackIdeal.nD Cert.ResidualBackIdeal.τ).loc Cert.ResidualBackIdeal.main_arg2) = m ((c.tc : Thread Cert.ResidualBackIdeal.nD Cert.ResidualBackIdeal.τ).loc Cert.ResidualBackIdeal.main_arg2)
          ∧ r.2.mem ((c.tc : Thread Cert.ResidualBackIdeal.nD Cert.ResidualBackIdeal.τ).loc Cert.ResidualBackIdeal.main_arg3) = m ((c.tc : Thread Cert.ResidualBackIdeal.nD Cert.ResidualBackIdeal.τ).loc Cert.ResidualBackIdeal.main_arg3)
          ∧ r.2.mem ((c.tc : Thread Cert.ResidualBackIdeal.nD Cert.ResidualBackIdeal.τ).loc Cert.ResidualBackIdeal.main_arg4) = m ((c.tc : Thread Cert.ResidualBackIdeal.nD Cert.ResidualBackIdeal.τ).loc Cert.ResidualBackIdeal.main_arg4))
      ∧ θ_run (Cert.ResidualBackRefIdeal.defs (F := Ideal)) (onTc (τ := Cert.ResidualBackRefIdeal.τ) (Cert.ResidualBackRefIdeal.main (F := Ideal))) ⟨m', fun _ => 0, g'⟩ (fun r => ∀ c : Dev Cert.ResidualBackRefIdeal.nD,
          r.2.mem ((c.tc : Thread Cert.ResidualBackRefIdeal.nD Cert.ResidualBackRefIdeal.τ).loc Cert.ResidualBackRefIdeal.main_v44) = v0 c
          ∧ r.2.mem ((c.tc : Thread Cert.ResidualBackRefIdeal.nD Cert.ResidualBackRefIdeal.τ).loc Cert.ResidualBackRefIdeal.main_arg0) = m' ((c.tc : Thread Cert.ResidualBackRefIdeal.nD Cert.ResidualBackRefIdeal.τ).loc Cert.ResidualBackRefIdeal.main_arg0)
          ∧ r.2.mem ((c.tc : Thread Cert.ResidualBackRefIdeal.nD Cert.ResidualBackRefIdeal.τ).loc Cert.ResidualBackRefIdeal.main_arg1) = m' ((c.tc : Thread Cert.ResidualBackRefIdeal.nD Cert.ResidualBackRefIdeal.τ).loc Cert.ResidualBackRefIdeal.main_arg1)
          ∧ r.2.mem ((c.tc : Thread Cert.ResidualBackRefIdeal.nD Cert.ResidualBackRefIdeal.τ).loc Cert.ResidualBackRefIdeal.main_arg2) = m' ((c.tc : Thread Cert.ResidualBackRefIdeal.nD Cert.ResidualBackRefIdeal.τ).loc Cert.ResidualBackRefIdeal.main_arg2)
          ∧ r.2.mem ((c.tc : Thread Cert.ResidualBackRefIdeal.nD Cert.ResidualBackRefIdeal.τ).loc Cert.ResidualBackRefIdeal.main_arg3) = m' ((c.tc : Thread Cert.ResidualBackRefIdeal.nD Cert.ResidualBackRefIdeal.τ).loc Cert.ResidualBackRefIdeal.main_arg3)
          ∧ r.2.mem ((c.tc : Thread Cert.ResidualBackRefIdeal.nD Cert.ResidualBackRefIdeal.τ).loc Cert.ResidualBackRefIdeal.main_arg4) = m' ((c.tc : Thread Cert.ResidualBackRefIdeal.nD Cert.ResidualBackRefIdeal.τ).loc Cert.ResidualBackRefIdeal.main_arg4))

def preserves_ReadEven_ReadEvenIdeal : Prop :=
  True

def algebraic_ReadEvenIdeal_ReadEvenRefIdeal [hReadEvenIdeal : Cert.ReadEvenIdeal.Facts] [hReadEvenRefIdeal : Cert.ReadEvenRefIdeal.Facts] : Prop :=
  ∀ (m : (ℓ : Loc Cert.ReadEvenIdeal.nD Cert.ReadEvenIdeal.τ Cert.ReadEvenIdeal.sig) → Buf (Elt Ideal) ℓ) (g : Dev Cert.ReadEvenIdeal.nD → PrngReg)
    (m' : (ℓ : Loc Cert.ReadEvenRefIdeal.nD Cert.ReadEvenRefIdeal.τ Cert.ReadEvenRefIdeal.sig) → Buf (Elt Ideal) ℓ) (g' : Dev Cert.ReadEvenRefIdeal.nD → PrngReg), Pre_ReadEvenIdeal m →
    (∀ c : Dev Cert.ReadEvenIdeal.nD,
      m' ((c.tc : Thread Cert.ReadEvenRefIdeal.nD Cert.ReadEvenRefIdeal.τ).loc Cert.ReadEvenRefIdeal.main_arg0) = m ((c.tc : Thread Cert.ReadEvenIdeal.nD Cert.ReadEvenIdeal.τ).loc Cert.ReadEvenIdeal.main_arg0)
      ∧ m' ((c.tc : Thread Cert.ReadEvenRefIdeal.nD Cert.ReadEvenRefIdeal.τ).loc Cert.ReadEvenRefIdeal.main_arg1) = m ((c.tc : Thread Cert.ReadEvenIdeal.nD Cert.ReadEvenIdeal.τ).loc Cert.ReadEvenIdeal.main_arg1)
      ∧ m' ((c.tc : Thread Cert.ReadEvenRefIdeal.nD Cert.ReadEvenRefIdeal.τ).loc Cert.ReadEvenRefIdeal.main_arg2) = m ((c.tc : Thread Cert.ReadEvenIdeal.nD Cert.ReadEvenIdeal.τ).loc Cert.ReadEvenIdeal.main_arg2)
      ∧ m' ((c.tc : Thread Cert.ReadEvenRefIdeal.nD Cert.ReadEvenRefIdeal.τ).loc Cert.ReadEvenRefIdeal.main_arg3) = m ((c.tc : Thread Cert.ReadEvenIdeal.nD Cert.ReadEvenIdeal.τ).loc Cert.ReadEvenIdeal.main_arg3)) →
    ∃ (v0 : (c : Dev Cert.ReadEvenIdeal.nD) → Buf (Elt Ideal) ((c.tc : Thread Cert.ReadEvenIdeal.nD Cert.ReadEvenIdeal.τ).loc Cert.ReadEvenIdeal.main_v0)),
      θ_run (Cert.ReadEvenIdeal.defs (F := Ideal)) (onTc (τ := Cert.ReadEvenIdeal.τ) (Cert.ReadEvenIdeal.main (F := Ideal))) ⟨m, fun _ => 0, g⟩ (fun r => ∀ c : Dev Cert.ReadEvenIdeal.nD,
          r.2.mem ((c.tc : Thread Cert.ReadEvenIdeal.nD Cert.ReadEvenIdeal.τ).loc Cert.ReadEvenIdeal.main_v0) = v0 c
          ∧ r.2.mem ((c.tc : Thread Cert.ReadEvenIdeal.nD Cert.ReadEvenIdeal.τ).loc Cert.ReadEvenIdeal.main_arg0) = m ((c.tc : Thread Cert.ReadEvenIdeal.nD Cert.ReadEvenIdeal.τ).loc Cert.ReadEvenIdeal.main_arg0)
          ∧ r.2.mem ((c.tc : Thread Cert.ReadEvenIdeal.nD Cert.ReadEvenIdeal.τ).loc Cert.ReadEvenIdeal.main_arg1) = m ((c.tc : Thread Cert.ReadEvenIdeal.nD Cert.ReadEvenIdeal.τ).loc Cert.ReadEvenIdeal.main_arg1)
          ∧ r.2.mem ((c.tc : Thread Cert.ReadEvenIdeal.nD Cert.ReadEvenIdeal.τ).loc Cert.ReadEvenIdeal.main_arg2) = m ((c.tc : Thread Cert.ReadEvenIdeal.nD Cert.ReadEvenIdeal.τ).loc Cert.ReadEvenIdeal.main_arg2)
          ∧ r.2.mem ((c.tc : Thread Cert.ReadEvenIdeal.nD Cert.ReadEvenIdeal.τ).loc Cert.ReadEvenIdeal.main_arg3) = m ((c.tc : Thread Cert.ReadEvenIdeal.nD Cert.ReadEvenIdeal.τ).loc Cert.ReadEvenIdeal.main_arg3))
      ∧ θ_run (Cert.ReadEvenRefIdeal.defs (F := Ideal)) (onTc (τ := Cert.ReadEvenRefIdeal.τ) (Cert.ReadEvenRefIdeal.main (F := Ideal))) ⟨m', fun _ => 0, g'⟩ (fun r => ∀ c : Dev Cert.ReadEvenRefIdeal.nD,
          r.2.mem ((c.tc : Thread Cert.ReadEvenRefIdeal.nD Cert.ReadEvenRefIdeal.τ).loc Cert.ReadEvenRefIdeal.main_v21) = v0 c
          ∧ r.2.mem ((c.tc : Thread Cert.ReadEvenRefIdeal.nD Cert.ReadEvenRefIdeal.τ).loc Cert.ReadEvenRefIdeal.main_arg0) = m' ((c.tc : Thread Cert.ReadEvenRefIdeal.nD Cert.ReadEvenRefIdeal.τ).loc Cert.ReadEvenRefIdeal.main_arg0)
          ∧ r.2.mem ((c.tc : Thread Cert.ReadEvenRefIdeal.nD Cert.ReadEvenRefIdeal.τ).loc Cert.ReadEvenRefIdeal.main_arg1) = m' ((c.tc : Thread Cert.ReadEvenRefIdeal.nD Cert.ReadEvenRefIdeal.τ).loc Cert.ReadEvenRefIdeal.main_arg1)
          ∧ r.2.mem ((c.tc : Thread Cert.ReadEvenRefIdeal.nD Cert.ReadEvenRefIdeal.τ).loc Cert.ReadEvenRefIdeal.main_arg2) = m' ((c.tc : Thread Cert.ReadEvenRefIdeal.nD Cert.ReadEvenRefIdeal.τ).loc Cert.ReadEvenRefIdeal.main_arg2)
          ∧ r.2.mem ((c.tc : Thread Cert.ReadEvenRefIdeal.nD Cert.ReadEvenRefIdeal.τ).loc Cert.ReadEvenRefIdeal.main_arg3) = m' ((c.tc : Thread Cert.ReadEvenRefIdeal.nD Cert.ReadEvenRefIdeal.τ).loc Cert.ReadEvenRefIdeal.main_arg3))

def preserves_ReadOdd_ReadOddIdeal : Prop :=
  True

def algebraic_ReadOddIdeal_ReadOddRefIdeal [hReadOddIdeal : Cert.ReadOddIdeal.Facts] [hReadOddRefIdeal : Cert.ReadOddRefIdeal.Facts] : Prop :=
  ∀ (m : (ℓ : Loc Cert.ReadOddIdeal.nD Cert.ReadOddIdeal.τ Cert.ReadOddIdeal.sig) → Buf (Elt Ideal) ℓ) (g : Dev Cert.ReadOddIdeal.nD → PrngReg)
    (m' : (ℓ : Loc Cert.ReadOddRefIdeal.nD Cert.ReadOddRefIdeal.τ Cert.ReadOddRefIdeal.sig) → Buf (Elt Ideal) ℓ) (g' : Dev Cert.ReadOddRefIdeal.nD → PrngReg), Pre_ReadOddIdeal m →
    (∀ c : Dev Cert.ReadOddIdeal.nD,
      m' ((c.tc : Thread Cert.ReadOddRefIdeal.nD Cert.ReadOddRefIdeal.τ).loc Cert.ReadOddRefIdeal.main_arg0) = m ((c.tc : Thread Cert.ReadOddIdeal.nD Cert.ReadOddIdeal.τ).loc Cert.ReadOddIdeal.main_arg0)
      ∧ m' ((c.tc : Thread Cert.ReadOddRefIdeal.nD Cert.ReadOddRefIdeal.τ).loc Cert.ReadOddRefIdeal.main_arg1) = m ((c.tc : Thread Cert.ReadOddIdeal.nD Cert.ReadOddIdeal.τ).loc Cert.ReadOddIdeal.main_arg1)
      ∧ m' ((c.tc : Thread Cert.ReadOddRefIdeal.nD Cert.ReadOddRefIdeal.τ).loc Cert.ReadOddRefIdeal.main_arg2) = m ((c.tc : Thread Cert.ReadOddIdeal.nD Cert.ReadOddIdeal.τ).loc Cert.ReadOddIdeal.main_arg2)
      ∧ m' ((c.tc : Thread Cert.ReadOddRefIdeal.nD Cert.ReadOddRefIdeal.τ).loc Cert.ReadOddRefIdeal.main_arg3) = m ((c.tc : Thread Cert.ReadOddIdeal.nD Cert.ReadOddIdeal.τ).loc Cert.ReadOddIdeal.main_arg3)) →
    ∃ (v0 : (c : Dev Cert.ReadOddIdeal.nD) → Buf (Elt Ideal) ((c.tc : Thread Cert.ReadOddIdeal.nD Cert.ReadOddIdeal.τ).loc Cert.ReadOddIdeal.main_v0)),
      θ_run (Cert.ReadOddIdeal.defs (F := Ideal)) (onTc (τ := Cert.ReadOddIdeal.τ) (Cert.ReadOddIdeal.main (F := Ideal))) ⟨m, fun _ => 0, g⟩ (fun r => ∀ c : Dev Cert.ReadOddIdeal.nD,
          r.2.mem ((c.tc : Thread Cert.ReadOddIdeal.nD Cert.ReadOddIdeal.τ).loc Cert.ReadOddIdeal.main_v0) = v0 c
          ∧ r.2.mem ((c.tc : Thread Cert.ReadOddIdeal.nD Cert.ReadOddIdeal.τ).loc Cert.ReadOddIdeal.main_arg0) = m ((c.tc : Thread Cert.ReadOddIdeal.nD Cert.ReadOddIdeal.τ).loc Cert.ReadOddIdeal.main_arg0)
          ∧ r.2.mem ((c.tc : Thread Cert.ReadOddIdeal.nD Cert.ReadOddIdeal.τ).loc Cert.ReadOddIdeal.main_arg1) = m ((c.tc : Thread Cert.ReadOddIdeal.nD Cert.ReadOddIdeal.τ).loc Cert.ReadOddIdeal.main_arg1)
          ∧ r.2.mem ((c.tc : Thread Cert.ReadOddIdeal.nD Cert.ReadOddIdeal.τ).loc Cert.ReadOddIdeal.main_arg2) = m ((c.tc : Thread Cert.ReadOddIdeal.nD Cert.ReadOddIdeal.τ).loc Cert.ReadOddIdeal.main_arg2)
          ∧ r.2.mem ((c.tc : Thread Cert.ReadOddIdeal.nD Cert.ReadOddIdeal.τ).loc Cert.ReadOddIdeal.main_arg3) = m ((c.tc : Thread Cert.ReadOddIdeal.nD Cert.ReadOddIdeal.τ).loc Cert.ReadOddIdeal.main_arg3))
      ∧ θ_run (Cert.ReadOddRefIdeal.defs (F := Ideal)) (onTc (τ := Cert.ReadOddRefIdeal.τ) (Cert.ReadOddRefIdeal.main (F := Ideal))) ⟨m', fun _ => 0, g'⟩ (fun r => ∀ c : Dev Cert.ReadOddRefIdeal.nD,
          r.2.mem ((c.tc : Thread Cert.ReadOddRefIdeal.nD Cert.ReadOddRefIdeal.τ).loc Cert.ReadOddRefIdeal.main_v21) = v0 c
          ∧ r.2.mem ((c.tc : Thread Cert.ReadOddRefIdeal.nD Cert.ReadOddRefIdeal.τ).loc Cert.ReadOddRefIdeal.main_arg0) = m' ((c.tc : Thread Cert.ReadOddRefIdeal.nD Cert.ReadOddRefIdeal.τ).loc Cert.ReadOddRefIdeal.main_arg0)
          ∧ r.2.mem ((c.tc : Thread Cert.ReadOddRefIdeal.nD Cert.ReadOddRefIdeal.τ).loc Cert.ReadOddRefIdeal.main_arg1) = m' ((c.tc : Thread Cert.ReadOddRefIdeal.nD Cert.ReadOddRefIdeal.τ).loc Cert.ReadOddRefIdeal.main_arg1)
          ∧ r.2.mem ((c.tc : Thread Cert.ReadOddRefIdeal.nD Cert.ReadOddRefIdeal.τ).loc Cert.ReadOddRefIdeal.main_arg2) = m' ((c.tc : Thread Cert.ReadOddRefIdeal.nD Cert.ReadOddRefIdeal.τ).loc Cert.ReadOddRefIdeal.main_arg2)
          ∧ r.2.mem ((c.tc : Thread Cert.ReadOddRefIdeal.nD Cert.ReadOddRefIdeal.τ).loc Cert.ReadOddRefIdeal.main_arg3) = m' ((c.tc : Thread Cert.ReadOddRefIdeal.nD Cert.ReadOddRefIdeal.τ).loc Cert.ReadOddRefIdeal.main_arg3))

def Claim : Prop :=
  ∃ (hGather : Cert.Gather.Facts) (hGatherIdeal : Cert.GatherIdeal.Facts) (hGatherRefIdeal : Cert.GatherRefIdeal.Facts) (hGatherRef : Cert.GatherRef.Facts) (hChips : Cert.Chips.Facts) (hChipsIdeal : Cert.ChipsIdeal.Facts) (hChipsRefIdeal : Cert.ChipsRefIdeal.Facts) (hChipsRef : Cert.ChipsRef.Facts) (hCores : Cert.Cores.Facts) (hCoresIdeal : Cert.CoresIdeal.Facts) (hCoresRefIdeal : Cert.CoresRefIdeal.Facts) (hCoresRef : Cert.CoresRef.Facts) (hSmall : Cert.Small.Facts) (hSmallIdeal : Cert.SmallIdeal.Facts) (hSmallRefIdeal : Cert.SmallRefIdeal.Facts) (hSmallRef : Cert.SmallRef.Facts) (hUpdate : Cert.Update.Facts) (hUpdateIdeal : Cert.UpdateIdeal.Facts) (hUpdateRefIdeal : Cert.UpdateRefIdeal.Facts) (hLoss : Cert.Loss.Facts) (hLossIdeal : Cert.LossIdeal.Facts) (hLossRefIdeal : Cert.LossRefIdeal.Facts) (hAda : Cert.Ada.Facts) (hAdaIdeal : Cert.AdaIdeal.Facts) (hAdaRefIdeal : Cert.AdaRefIdeal.Facts) (hNorm : Cert.Norm.Facts) (hNormIdeal : Cert.NormIdeal.Facts) (hNormRefIdeal : Cert.NormRefIdeal.Facts) (hHidden : Cert.Hidden.Facts) (hHiddenIdeal : Cert.HiddenIdeal.Facts) (hHiddenRefIdeal : Cert.HiddenRefIdeal.Facts) (hDown : Cert.Down.Facts) (hDownIdeal : Cert.DownIdeal.Facts) (hDownRefIdeal : Cert.DownRefIdeal.Facts) (hEvenIn : Cert.EvenIn.Facts) (hEvenInIdeal : Cert.EvenInIdeal.Facts) (hEvenInRefIdeal : Cert.EvenInRefIdeal.Facts) (hEvenOut : Cert.EvenOut.Facts) (hEvenOutIdeal : Cert.EvenOutIdeal.Facts) (hEvenOutRefIdeal : Cert.EvenOutRefIdeal.Facts) (hOddIn : Cert.OddIn.Facts) (hOddInIdeal : Cert.OddInIdeal.Facts) (hOddInRefIdeal : Cert.OddInRefIdeal.Facts) (hOddGate : Cert.OddGate.Facts) (hOddGateIdeal : Cert.OddGateIdeal.Facts) (hOddGateRefIdeal : Cert.OddGateRefIdeal.Facts) (hOddOut : Cert.OddOut.Facts) (hOddOutIdeal : Cert.OddOutIdeal.Facts) (hOddOutRefIdeal : Cert.OddOutRefIdeal.Facts) (hPieces : Cert.Pieces.Facts) (hPiecesIdeal : Cert.PiecesIdeal.Facts) (hPiecesRefIdeal : Cert.PiecesRefIdeal.Facts) (hPiecesRef : Cert.PiecesRef.Facts) (hMods : Cert.Mods.Facts) (hModsIdeal : Cert.ModsIdeal.Facts) (hModsRefIdeal : Cert.ModsRefIdeal.Facts) (hModsRef : Cert.ModsRef.Facts) (hSlopes : Cert.Slopes.Facts) (hSlopesIdeal : Cert.SlopesIdeal.Facts) (hSlopesRefIdeal : Cert.SlopesRefIdeal.Facts) (hSlopesRef : Cert.SlopesRef.Facts) (hUp : Cert.Up.Facts) (hUpIdeal : Cert.UpIdeal.Facts) (hUpRefIdeal : Cert.UpRefIdeal.Facts) (hUpEven : Cert.UpEven.Facts) (hUpEvenIdeal : Cert.UpEvenIdeal.Facts) (hUpEvenRefIdeal : Cert.UpEvenRefIdeal.Facts) (hMixEven : Cert.MixEven.Facts) (hMixEvenIdeal : Cert.MixEvenIdeal.Facts) (hMixEvenRefIdeal : Cert.MixEvenRefIdeal.Facts) (hUpOdd : Cert.UpOdd.Facts) (hUpOddIdeal : Cert.UpOddIdeal.Facts) (hUpOddRefIdeal : Cert.UpOddRefIdeal.Facts) (hGateOdd : Cert.GateOdd.Facts) (hGateOddIdeal : Cert.GateOddIdeal.Facts) (hGateOddRefIdeal : Cert.GateOddRefIdeal.Facts) (hBackDown : Cert.BackDown.Facts) (hBackDownIdeal : Cert.BackDownIdeal.Facts) (hBackDownRefIdeal : Cert.BackDownRefIdeal.Facts) (hBackEven : Cert.BackEven.Facts) (hBackEvenIdeal : Cert.BackEvenIdeal.Facts) (hBackEvenRefIdeal : Cert.BackEvenRefIdeal.Facts) (hBackOdd : Cert.BackOdd.Facts) (hBackOddIdeal : Cert.BackOddIdeal.Facts) (hBackOddRefIdeal : Cert.BackOddRefIdeal.Facts) (hBackGate : Cert.BackGate.Facts) (hBackGateIdeal : Cert.BackGateIdeal.Facts) (hBackGateRefIdeal : Cert.BackGateRefIdeal.Facts) (hSecond : Cert.Second.Facts) (hSecondIdeal : Cert.SecondIdeal.Facts) (hSecondRefIdeal : Cert.SecondRefIdeal.Facts) (hMixOdd : Cert.MixOdd.Facts) (hMixOddIdeal : Cert.MixOddIdeal.Facts) (hMixOddRefIdeal : Cert.MixOddRefIdeal.Facts) (hBackUp : Cert.BackUp.Facts) (hBackUpIdeal : Cert.BackUpIdeal.Facts) (hBackUpRefIdeal : Cert.BackUpRefIdeal.Facts) (hBackUpEven : Cert.BackUpEven.Facts) (hBackUpEvenIdeal : Cert.BackUpEvenIdeal.Facts) (hBackUpEvenRefIdeal : Cert.BackUpEvenRefIdeal.Facts) (hBackUpOdd : Cert.BackUpOdd.Facts) (hBackUpOddIdeal : Cert.BackUpOddIdeal.Facts) (hBackUpOddRefIdeal : Cert.BackUpOddRefIdeal.Facts) (hModulate : Cert.Modulate.Facts) (hModulateIdeal : Cert.ModulateIdeal.Facts) (hModulateRefIdeal : Cert.ModulateRefIdeal.Facts) (hResidual : Cert.Residual.Facts) (hResidualIdeal : Cert.ResidualIdeal.Facts) (hResidualRefIdeal : Cert.ResidualRefIdeal.Facts) (hActivation : Cert.Activation.Facts) (hActivationIdeal : Cert.ActivationIdeal.Facts) (hActivationRefIdeal : Cert.ActivationRefIdeal.Facts) (hActivationBack : Cert.ActivationBack.Facts) (hActivationBackIdeal : Cert.ActivationBackIdeal.Facts) (hActivationBackRefIdeal : Cert.ActivationBackRefIdeal.Facts) (hResidualBack : Cert.ResidualBack.Facts) (hResidualBackIdeal : Cert.ResidualBackIdeal.Facts) (hResidualBackRefIdeal : Cert.ResidualBackRefIdeal.Facts) (hReadEven : Cert.ReadEven.Facts) (hReadEvenIdeal : Cert.ReadEvenIdeal.Facts) (hReadEvenRefIdeal : Cert.ReadEvenRefIdeal.Facts) (hReadOdd : Cert.ReadOdd.Facts) (hReadOddIdeal : Cert.ReadOddIdeal.Facts) (hReadOddRefIdeal : Cert.ReadOddRefIdeal.Facts),
    quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Chips (hChips := hChips)
    ∧ quiescent_ChipsIdeal (hChipsIdeal := hChipsIdeal)
    ∧ quiescent_ChipsRefIdeal (hChipsRefIdeal := hChipsRefIdeal)
    ∧ quiescent_ChipsRef (hChipsRef := hChipsRef)
    ∧ quiescent_Cores (hCores := hCores)
    ∧ quiescent_CoresIdeal (hCoresIdeal := hCoresIdeal)
    ∧ quiescent_CoresRefIdeal (hCoresRefIdeal := hCoresRefIdeal)
    ∧ quiescent_CoresRef (hCoresRef := hCoresRef)
    ∧ quiescent_Small (hSmall := hSmall)
    ∧ quiescent_SmallIdeal (hSmallIdeal := hSmallIdeal)
    ∧ quiescent_SmallRefIdeal (hSmallRefIdeal := hSmallRefIdeal)
    ∧ quiescent_SmallRef (hSmallRef := hSmallRef)
    ∧ quiescent_Update (hUpdate := hUpdate)
    ∧ quiescent_UpdateIdeal (hUpdateIdeal := hUpdateIdeal)
    ∧ quiescent_UpdateRefIdeal (hUpdateRefIdeal := hUpdateRefIdeal)
    ∧ quiescent_Loss (hLoss := hLoss)
    ∧ quiescent_LossIdeal (hLossIdeal := hLossIdeal)
    ∧ quiescent_LossRefIdeal (hLossRefIdeal := hLossRefIdeal)
    ∧ quiescent_Ada (hAda := hAda)
    ∧ quiescent_AdaIdeal (hAdaIdeal := hAdaIdeal)
    ∧ quiescent_AdaRefIdeal (hAdaRefIdeal := hAdaRefIdeal)
    ∧ quiescent_Norm (hNorm := hNorm)
    ∧ quiescent_NormIdeal (hNormIdeal := hNormIdeal)
    ∧ quiescent_NormRefIdeal (hNormRefIdeal := hNormRefIdeal)
    ∧ quiescent_Hidden (hHidden := hHidden)
    ∧ quiescent_HiddenIdeal (hHiddenIdeal := hHiddenIdeal)
    ∧ quiescent_HiddenRefIdeal (hHiddenRefIdeal := hHiddenRefIdeal)
    ∧ quiescent_Down (hDown := hDown)
    ∧ quiescent_DownIdeal (hDownIdeal := hDownIdeal)
    ∧ quiescent_DownRefIdeal (hDownRefIdeal := hDownRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OddGate (hOddGate := hOddGate)
    ∧ quiescent_OddGateIdeal (hOddGateIdeal := hOddGateIdeal)
    ∧ quiescent_OddGateRefIdeal (hOddGateRefIdeal := hOddGateRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_Pieces (hPieces := hPieces)
    ∧ quiescent_PiecesIdeal (hPiecesIdeal := hPiecesIdeal)
    ∧ quiescent_PiecesRefIdeal (hPiecesRefIdeal := hPiecesRefIdeal)
    ∧ quiescent_PiecesRef (hPiecesRef := hPiecesRef)
    ∧ quiescent_Mods (hMods := hMods)
    ∧ quiescent_ModsIdeal (hModsIdeal := hModsIdeal)
    ∧ quiescent_ModsRefIdeal (hModsRefIdeal := hModsRefIdeal)
    ∧ quiescent_ModsRef (hModsRef := hModsRef)
    ∧ quiescent_Slopes (hSlopes := hSlopes)
    ∧ quiescent_SlopesIdeal (hSlopesIdeal := hSlopesIdeal)
    ∧ quiescent_SlopesRefIdeal (hSlopesRefIdeal := hSlopesRefIdeal)
    ∧ quiescent_SlopesRef (hSlopesRef := hSlopesRef)
    ∧ quiescent_Up (hUp := hUp)
    ∧ quiescent_UpIdeal (hUpIdeal := hUpIdeal)
    ∧ quiescent_UpRefIdeal (hUpRefIdeal := hUpRefIdeal)
    ∧ quiescent_UpEven (hUpEven := hUpEven)
    ∧ quiescent_UpEvenIdeal (hUpEvenIdeal := hUpEvenIdeal)
    ∧ quiescent_UpEvenRefIdeal (hUpEvenRefIdeal := hUpEvenRefIdeal)
    ∧ quiescent_MixEven (hMixEven := hMixEven)
    ∧ quiescent_MixEvenIdeal (hMixEvenIdeal := hMixEvenIdeal)
    ∧ quiescent_MixEvenRefIdeal (hMixEvenRefIdeal := hMixEvenRefIdeal)
    ∧ quiescent_UpOdd (hUpOdd := hUpOdd)
    ∧ quiescent_UpOddIdeal (hUpOddIdeal := hUpOddIdeal)
    ∧ quiescent_UpOddRefIdeal (hUpOddRefIdeal := hUpOddRefIdeal)
    ∧ quiescent_GateOdd (hGateOdd := hGateOdd)
    ∧ quiescent_GateOddIdeal (hGateOddIdeal := hGateOddIdeal)
    ∧ quiescent_GateOddRefIdeal (hGateOddRefIdeal := hGateOddRefIdeal)
    ∧ quiescent_BackDown (hBackDown := hBackDown)
    ∧ quiescent_BackDownIdeal (hBackDownIdeal := hBackDownIdeal)
    ∧ quiescent_BackDownRefIdeal (hBackDownRefIdeal := hBackDownRefIdeal)
    ∧ quiescent_BackEven (hBackEven := hBackEven)
    ∧ quiescent_BackEvenIdeal (hBackEvenIdeal := hBackEvenIdeal)
    ∧ quiescent_BackEvenRefIdeal (hBackEvenRefIdeal := hBackEvenRefIdeal)
    ∧ quiescent_BackOdd (hBackOdd := hBackOdd)
    ∧ quiescent_BackOddIdeal (hBackOddIdeal := hBackOddIdeal)
    ∧ quiescent_BackOddRefIdeal (hBackOddRefIdeal := hBackOddRefIdeal)
    ∧ quiescent_BackGate (hBackGate := hBackGate)
    ∧ quiescent_BackGateIdeal (hBackGateIdeal := hBackGateIdeal)
    ∧ quiescent_BackGateRefIdeal (hBackGateRefIdeal := hBackGateRefIdeal)
    ∧ quiescent_Second (hSecond := hSecond)
    ∧ quiescent_SecondIdeal (hSecondIdeal := hSecondIdeal)
    ∧ quiescent_SecondRefIdeal (hSecondRefIdeal := hSecondRefIdeal)
    ∧ quiescent_MixOdd (hMixOdd := hMixOdd)
    ∧ quiescent_MixOddIdeal (hMixOddIdeal := hMixOddIdeal)
    ∧ quiescent_MixOddRefIdeal (hMixOddRefIdeal := hMixOddRefIdeal)
    ∧ quiescent_BackUp (hBackUp := hBackUp)
    ∧ quiescent_BackUpIdeal (hBackUpIdeal := hBackUpIdeal)
    ∧ quiescent_BackUpRefIdeal (hBackUpRefIdeal := hBackUpRefIdeal)
    ∧ quiescent_BackUpEven (hBackUpEven := hBackUpEven)
    ∧ quiescent_BackUpEvenIdeal (hBackUpEvenIdeal := hBackUpEvenIdeal)
    ∧ quiescent_BackUpEvenRefIdeal (hBackUpEvenRefIdeal := hBackUpEvenRefIdeal)
    ∧ quiescent_BackUpOdd (hBackUpOdd := hBackUpOdd)
    ∧ quiescent_BackUpOddIdeal (hBackUpOddIdeal := hBackUpOddIdeal)
    ∧ quiescent_BackUpOddRefIdeal (hBackUpOddRefIdeal := hBackUpOddRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_Residual (hResidual := hResidual)
    ∧ quiescent_ResidualIdeal (hResidualIdeal := hResidualIdeal)
    ∧ quiescent_ResidualRefIdeal (hResidualRefIdeal := hResidualRefIdeal)
    ∧ quiescent_Activation (hActivation := hActivation)
    ∧ quiescent_ActivationIdeal (hActivationIdeal := hActivationIdeal)
    ∧ quiescent_ActivationRefIdeal (hActivationRefIdeal := hActivationRefIdeal)
    ∧ quiescent_ActivationBack (hActivationBack := hActivationBack)
    ∧ quiescent_ActivationBackIdeal (hActivationBackIdeal := hActivationBackIdeal)
    ∧ quiescent_ActivationBackRefIdeal (hActivationBackRefIdeal := hActivationBackRefIdeal)
    ∧ quiescent_ResidualBack (hResidualBack := hResidualBack)
    ∧ quiescent_ResidualBackIdeal (hResidualBackIdeal := hResidualBackIdeal)
    ∧ quiescent_ResidualBackRefIdeal (hResidualBackRefIdeal := hResidualBackRefIdeal)
    ∧ quiescent_ReadEven (hReadEven := hReadEven)
    ∧ quiescent_ReadEvenIdeal (hReadEvenIdeal := hReadEvenIdeal)
    ∧ quiescent_ReadEvenRefIdeal (hReadEvenRefIdeal := hReadEvenRefIdeal)
    ∧ quiescent_ReadOdd (hReadOdd := hReadOdd)
    ∧ quiescent_ReadOddIdeal (hReadOddIdeal := hReadOddIdeal)
    ∧ quiescent_ReadOddRefIdeal (hReadOddRefIdeal := hReadOddRefIdeal)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Chips_ChipsIdeal
    ∧ algebraic_ChipsIdeal_ChipsRefIdeal (hChipsIdeal := hChipsIdeal) (hChipsRefIdeal := hChipsRefIdeal)
    ∧ bitexact_Chips_ChipsRef (hChips := hChips) (hChipsRef := hChipsRef)
    ∧ preserves_Cores_CoresIdeal
    ∧ algebraic_CoresIdeal_CoresRefIdeal (hCoresIdeal := hCoresIdeal) (hCoresRefIdeal := hCoresRefIdeal)
    ∧ bitexact_Cores_CoresRef (hCores := hCores) (hCoresRef := hCoresRef)
    ∧ preserves_Small_SmallIdeal
    ∧ algebraic_SmallIdeal_SmallRefIdeal (hSmallIdeal := hSmallIdeal) (hSmallRefIdeal := hSmallRefIdeal)
    ∧ bitexact_Small_SmallRef (hSmall := hSmall) (hSmallRef := hSmallRef)
    ∧ preserves_Update_UpdateIdeal
    ∧ algebraic_UpdateIdeal_UpdateRefIdeal (hUpdateIdeal := hUpdateIdeal) (hUpdateRefIdeal := hUpdateRefIdeal)
    ∧ preserves_Loss_LossIdeal
    ∧ algebraic_LossIdeal_LossRefIdeal (hLossIdeal := hLossIdeal) (hLossRefIdeal := hLossRefIdeal)
    ∧ preserves_Ada_AdaIdeal
    ∧ algebraic_AdaIdeal_AdaRefIdeal (hAdaIdeal := hAdaIdeal) (hAdaRefIdeal := hAdaRefIdeal)
    ∧ preserves_Norm_NormIdeal
    ∧ algebraic_NormIdeal_NormRefIdeal (hNormIdeal := hNormIdeal) (hNormRefIdeal := hNormRefIdeal)
    ∧ preserves_Hidden_HiddenIdeal
    ∧ algebraic_HiddenIdeal_HiddenRefIdeal (hHiddenIdeal := hHiddenIdeal) (hHiddenRefIdeal := hHiddenRefIdeal)
    ∧ preserves_Down_DownIdeal
    ∧ algebraic_DownIdeal_DownRefIdeal (hDownIdeal := hDownIdeal) (hDownRefIdeal := hDownRefIdeal)
    ∧ preserves_EvenIn_EvenInIdeal
    ∧ algebraic_EvenInIdeal_EvenInRefIdeal (hEvenInIdeal := hEvenInIdeal) (hEvenInRefIdeal := hEvenInRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddIn_OddInIdeal
    ∧ algebraic_OddInIdeal_OddInRefIdeal (hOddInIdeal := hOddInIdeal) (hOddInRefIdeal := hOddInRefIdeal)
    ∧ preserves_OddGate_OddGateIdeal
    ∧ algebraic_OddGateIdeal_OddGateRefIdeal (hOddGateIdeal := hOddGateIdeal) (hOddGateRefIdeal := hOddGateRefIdeal)
    ∧ preserves_OddOut_OddOutIdeal
    ∧ algebraic_OddOutIdeal_OddOutRefIdeal (hOddOutIdeal := hOddOutIdeal) (hOddOutRefIdeal := hOddOutRefIdeal)
    ∧ preserves_Pieces_PiecesIdeal
    ∧ algebraic_PiecesIdeal_PiecesRefIdeal (hPiecesIdeal := hPiecesIdeal) (hPiecesRefIdeal := hPiecesRefIdeal)
    ∧ bitexact_Pieces_PiecesRef (hPieces := hPieces) (hPiecesRef := hPiecesRef)
    ∧ preserves_Mods_ModsIdeal
    ∧ algebraic_ModsIdeal_ModsRefIdeal (hModsIdeal := hModsIdeal) (hModsRefIdeal := hModsRefIdeal)
    ∧ bitexact_Mods_ModsRef (hMods := hMods) (hModsRef := hModsRef)
    ∧ preserves_Slopes_SlopesIdeal
    ∧ algebraic_SlopesIdeal_SlopesRefIdeal (hSlopesIdeal := hSlopesIdeal) (hSlopesRefIdeal := hSlopesRefIdeal)
    ∧ bitexact_Slopes_SlopesRef (hSlopes := hSlopes) (hSlopesRef := hSlopesRef)
    ∧ preserves_Up_UpIdeal
    ∧ algebraic_UpIdeal_UpRefIdeal (hUpIdeal := hUpIdeal) (hUpRefIdeal := hUpRefIdeal)
    ∧ preserves_UpEven_UpEvenIdeal
    ∧ algebraic_UpEvenIdeal_UpEvenRefIdeal (hUpEvenIdeal := hUpEvenIdeal) (hUpEvenRefIdeal := hUpEvenRefIdeal)
    ∧ preserves_MixEven_MixEvenIdeal
    ∧ algebraic_MixEvenIdeal_MixEvenRefIdeal (hMixEvenIdeal := hMixEvenIdeal) (hMixEvenRefIdeal := hMixEvenRefIdeal)
    ∧ preserves_UpOdd_UpOddIdeal
    ∧ algebraic_UpOddIdeal_UpOddRefIdeal (hUpOddIdeal := hUpOddIdeal) (hUpOddRefIdeal := hUpOddRefIdeal)
    ∧ preserves_GateOdd_GateOddIdeal
    ∧ algebraic_GateOddIdeal_GateOddRefIdeal (hGateOddIdeal := hGateOddIdeal) (hGateOddRefIdeal := hGateOddRefIdeal)
    ∧ preserves_BackDown_BackDownIdeal
    ∧ algebraic_BackDownIdeal_BackDownRefIdeal (hBackDownIdeal := hBackDownIdeal) (hBackDownRefIdeal := hBackDownRefIdeal)
    ∧ preserves_BackEven_BackEvenIdeal
    ∧ algebraic_BackEvenIdeal_BackEvenRefIdeal (hBackEvenIdeal := hBackEvenIdeal) (hBackEvenRefIdeal := hBackEvenRefIdeal)
    ∧ preserves_BackOdd_BackOddIdeal
    ∧ algebraic_BackOddIdeal_BackOddRefIdeal (hBackOddIdeal := hBackOddIdeal) (hBackOddRefIdeal := hBackOddRefIdeal)
    ∧ preserves_BackGate_BackGateIdeal
    ∧ algebraic_BackGateIdeal_BackGateRefIdeal (hBackGateIdeal := hBackGateIdeal) (hBackGateRefIdeal := hBackGateRefIdeal)
    ∧ preserves_Second_SecondIdeal
    ∧ algebraic_SecondIdeal_SecondRefIdeal (hSecondIdeal := hSecondIdeal) (hSecondRefIdeal := hSecondRefIdeal)
    ∧ preserves_MixOdd_MixOddIdeal
    ∧ algebraic_MixOddIdeal_MixOddRefIdeal (hMixOddIdeal := hMixOddIdeal) (hMixOddRefIdeal := hMixOddRefIdeal)
    ∧ preserves_BackUp_BackUpIdeal
    ∧ algebraic_BackUpIdeal_BackUpRefIdeal (hBackUpIdeal := hBackUpIdeal) (hBackUpRefIdeal := hBackUpRefIdeal)
    ∧ preserves_BackUpEven_BackUpEvenIdeal
    ∧ algebraic_BackUpEvenIdeal_BackUpEvenRefIdeal (hBackUpEvenIdeal := hBackUpEvenIdeal) (hBackUpEvenRefIdeal := hBackUpEvenRefIdeal)
    ∧ preserves_BackUpOdd_BackUpOddIdeal
    ∧ algebraic_BackUpOddIdeal_BackUpOddRefIdeal (hBackUpOddIdeal := hBackUpOddIdeal) (hBackUpOddRefIdeal := hBackUpOddRefIdeal)
    ∧ preserves_Modulate_ModulateIdeal
    ∧ algebraic_ModulateIdeal_ModulateRefIdeal (hModulateIdeal := hModulateIdeal) (hModulateRefIdeal := hModulateRefIdeal)
    ∧ preserves_Residual_ResidualIdeal
    ∧ algebraic_ResidualIdeal_ResidualRefIdeal (hResidualIdeal := hResidualIdeal) (hResidualRefIdeal := hResidualRefIdeal)
    ∧ preserves_Activation_ActivationIdeal
    ∧ algebraic_ActivationIdeal_ActivationRefIdeal (hActivationIdeal := hActivationIdeal) (hActivationRefIdeal := hActivationRefIdeal)
    ∧ preserves_ActivationBack_ActivationBackIdeal
    ∧ algebraic_ActivationBackIdeal_ActivationBackRefIdeal (hActivationBackIdeal := hActivationBackIdeal) (hActivationBackRefIdeal := hActivationBackRefIdeal)
    ∧ preserves_ResidualBack_ResidualBackIdeal
    ∧ algebraic_ResidualBackIdeal_ResidualBackRefIdeal (hResidualBackIdeal := hResidualBackIdeal) (hResidualBackRefIdeal := hResidualBackRefIdeal)
    ∧ preserves_ReadEven_ReadEvenIdeal
    ∧ algebraic_ReadEvenIdeal_ReadEvenRefIdeal (hReadEvenIdeal := hReadEvenIdeal) (hReadEvenRefIdeal := hReadEvenRefIdeal)
    ∧ preserves_ReadOdd_ReadOddIdeal
    ∧ algebraic_ReadOddIdeal_ReadOddRefIdeal (hReadOddIdeal := hReadOddIdeal) (hReadOddRefIdeal := hReadOddRefIdeal)
-- ==== Gather.lean ====
abbrev S14848x1024 : Shape := ⟨2, ![14848, 1024]⟩
abbrev S8x14848x1024 : Shape := ⟨3, ![8, 14848, 1024]⟩
abbrev S7 : Shape := ⟨1, ![7]⟩
abbrev S_ : Shape := ⟨0, ![]⟩
abbrev S1x14848x1024 : Shape := ⟨3, ![1, 14848, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S14848x1024, .bf16⟩
  | .hbm, ⟨1, _⟩ => ⟨S8x14848x1024, .bf16⟩
  | _, _ => ⟨S14848x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherRef.lean ====
abbrev S118784x1024 : Shape := ⟨2, ![118784, 1024]⟩
abbrev S8x14848x1024 : Shape := ⟨3, ![8, 14848, 1024]⟩

abbrev nBuf : Space → Nat
  | .hbm => 2
  | .vmem => 0
  | .smem => 0
  | _ => 0

abbrev bufTy : (tb : Table) → Fin (tcTables nBuf tb) → BufTy
  | .hbm, ⟨0, _⟩ => ⟨S118784x1024, .bf16⟩
  | .hbm, ⟨1, _⟩ => ⟨S8x14848x1024, .bf16⟩
  | _, _ => ⟨S118784x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Chips.lean ====
abbrev S4x14848x1024 : Shape := ⟨3, ![4, 14848, 1024]⟩
abbrev S3 : Shape := ⟨1, ![3]⟩
abbrev S_ : Shape := ⟨0, ![]⟩
abbrev S1x14848x1024 : Shape := ⟨3, ![1, 14848, 1024]⟩
abbrev S14848x1024 : Shape := ⟨2, ![14848, 1024]⟩
abbrev S1 : Shape := ⟨1, ![1]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x14848x1024, .bf16⟩
  | .hbm, ⟨1, _⟩ => ⟨S4x14848x1024, .bf16⟩
  | .hbm, ⟨2, _⟩ => ⟨S14848x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | _, _ => ⟨S4x14848x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 7
abbrev cc1_sem0_1 : DmaSem sig := 8
abbrev cc1_sem1_0 : DmaSem sig := 9
abbrev cc1_sem1_1 : DmaSem sig := 10

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_8 : BitVec 32 := 0#32
  ![v10.toNat, 0, 0]
def k0_off2 (d0 : Dev nD) : Fin 3 → Nat :=
  let c2_i32_11 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v19 : BitVec 32 := Scalar.muli c2_i32_11 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_22 : BitVec 32 := 0#32
  let c0_i32_23 : BitVec 32 := 0#32
  ![v20.toNat, 0, 0]
def k0_dev1 (d0 : Dev nD) : Nat :=
  let c0_i32_17 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_16 : BitVec 32 := 4#32
  let v25 : BitVec 32 := Scalar.muli v11 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v22 : BitVec 32 := Scalar.addi v21 v12
  let c0_i32_32 : BitVec 32 := 0#32
  let c0_i32_33 : BitVec 32 := 0#32
  ![v22.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_28 : BitVec 32 := 2#32
  let v41 : BitVec 32 := Scalar.muli v12 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v23 : BitVec 32 := Scalar.muli c2_i32_13 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v24 : BitVec 32 := Scalar.addi v23 v14
  let c0_i32_42 : BitVec 32 := 0#32
  let c0_i32_43 : BitVec 32 := 0#32
  ![v24.toNat, 0, 0]
def k0_dev3 (d0 : Dev nD) : Nat :=
  let c0_i32_37 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_36 : BitVec 32 := 4#32
  let v53 : BitVec 32 := Scalar.muli v13 c4_i32_36
  let v54 : BitVec 32 := Scalar.addi c0_i32_37 v53
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_38 : BitVec 32 := 2#32
  let v55 : BitVec 32 := Scalar.muli v14 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
abbrev grid1 : Pipeline.Grid := ⟨1, ![29], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ChipsRef.lean ====
abbrev S32x14848x1024 : Shape := ⟨3, ![32, 14848, 1024]⟩
abbrev S4x2x4x14848x1024 : Shape := ⟨5, ![4, 2, 4, 14848, 1024]⟩
abbrev S1x2x4x14848x1024 : Shape := ⟨5, ![1, 2, 4, 14848, 1024]⟩
abbrev S2x4x14848x1024 : Shape := ⟨4, ![2, 4, 14848, 1024]⟩
abbrev S4x2x14848x1024 : Shape := ⟨4, ![4, 2, 14848, 1024]⟩
abbrev S118784x1024 : Shape := ⟨2, ![118784, 1024]⟩

abbrev nBuf : Space → Nat
  | .hbm => 16
  | .vmem => 0
  | .smem => 0
  | _ => 0

abbrev bufTy : (tb : Table) → Fin (tcTables nBuf tb) → BufTy
  | .hbm, ⟨0, _⟩ => ⟨S32x14848x1024, .bf16⟩
  | .hbm, ⟨1, _⟩ => ⟨S4x2x4x14848x1024, .bf16⟩
  | .hbm, ⟨2, _⟩ => ⟨S4x2x4x14848x1024, .f32⟩
  | .hbm, ⟨3, _⟩ => ⟨S1x2x4x14848x1024, .f32⟩
  | .hbm, ⟨4, _⟩ => ⟨S2x4x14848x1024, .f32⟩
  | .hbm, ⟨5, _⟩ => ⟨S1x2x4x14848x1024, .f32⟩
  | .hbm, ⟨6, _⟩ => ⟨S2x4x14848x1024, .f32⟩
  | .hbm, ⟨7, _⟩ => ⟨S2x4x14848x1024, .f32⟩
  | .hbm, ⟨8, _⟩ => ⟨S1x2x4x14848x1024, .f32⟩
  | .hbm, ⟨9, _⟩ => ⟨S2x4x14848x1024, .f32⟩
  | .hbm, ⟨10, _⟩ => ⟨S2x4x14848x1024, .f32⟩
  | .hbm, ⟨11, _⟩ => ⟨S1x2x4x14848x1024, .f32⟩
  | .hbm, ⟨12, _⟩ => ⟨S2x4x14848x1024, .f32⟩
  | .hbm, ⟨13, _⟩ => ⟨S2x4x14848x1024, .f32⟩
  | .hbm, ⟨14, _⟩ => ⟨S4x2x14848x1024, .f32⟩
  | .hbm, ⟨15, _⟩ => ⟨S118784x1024, .f32⟩
  | _, _ => ⟨S32x14848x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩

abbrev nD : Nat := 1
abbrev τ : Topo := Topo.v7x

variable {F : FTy → Type} [FloatOps F]
-- ==== Cores.lean ====
abbrev S4x14848x1024 : Shape := ⟨3, ![4, 14848, 1024]⟩
abbrev S_ : Shape := ⟨0, ![]⟩
abbrev S1x512x1024 : Shape := ⟨3, ![1, 512, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x14848x1024, .f32⟩
  | .hbm, ⟨1, _⟩ => ⟨S4x14848x1024, .f32⟩
  | .hbm, ⟨2, _⟩ => ⟨S4x14848x1024, .f32⟩
  | .hbm, ⟨3, _⟩ => ⟨S4x14848x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .bf16⟩
  | .local _ .vmem, ⟨5, _⟩ => ⟨S1x512x1024, .bf16⟩
  | _, _ => ⟨S4x14848x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v10 : BitVec 32 := Scalar.muli v2 c4_i32_4
  let v11 : BitVec 32 := Scalar.addi c0_i32 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_5 : BitVec 32 := 2#32
  let v12 : BitVec 32 := Scalar.muli v5 c2_i32_5
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_6 : BitVec 32 := 1#32
  let v14 : BitVec 32 := Scalar.muli v9 c1_i32_6
  let v15 : BitVec 32 := Scalar.addi v13 v14
  v15.toNat
abbrev grid1 : Pipeline.Grid := ⟨2, ![4, 29], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== CoresRef.lean ====
abbrev S32x14848x1024 : Shape := ⟨3, ![32, 14848, 1024]⟩
abbrev S4x2x4x14848x1024 : Shape := ⟨5, ![4, 2, 4, 14848, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32x14848x1024, .f32⟩
  | .hbm, ⟨1, _⟩ => ⟨S32x14848x1024, .f32⟩
  | .hbm, ⟨2, _⟩ => ⟨S4x2x4x14848x1024, .f32⟩
  | .hbm, ⟨3, _⟩ => ⟨S4x2x4x14848x1024, .f32⟩
  | .hbm, ⟨4, _⟩ => ⟨S32x14848x1024, .f32⟩
  | .hbm, ⟨5, _⟩ => ⟨S32x14848x1024, .f32⟩
  | .hbm, ⟨6, _⟩ => ⟨S32x14848x1024, .bf16⟩
  | _, _ => ⟨S32x14848x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Small.lean ====
abbrev S344x1024 : Shape := ⟨2, ![344, 1024]⟩
abbrev S8x344x1024 : Shape := ⟨3, ![8, 344, 1024]⟩
abbrev S7 : Shape := ⟨1, ![7]⟩
abbrev S_ : Shape := ⟨0, ![]⟩
abbrev S1x344x1024 : Shape := ⟨3, ![1, 344, 1024]⟩
abbrev S1 : Shape := ⟨1, ![1]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 3
  | .vmem => 4
  | .smem => 0
  | _ => 0

abbrev bufTy : (tb : Table) → Fin (tcTables nBuf tb) → BufTy
  | .hbm, ⟨0, _⟩ => ⟨S344x1024, .f32⟩
  | .hbm, ⟨1, _⟩ => ⟨S8x344x1024, .f32⟩
  | .hbm, ⟨2, _⟩ => ⟨S344x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 15
abbrev cc1_sem0_1 : DmaSem sig := 16
abbrev cc1_sem1_0 : DmaSem sig := 17
abbrev cc1_sem1_1 : DmaSem sig := 18

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
abbrev grid1 : Pipeline.Grid := ⟨1, ![43], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== SmallRef.lean ====
abbrev S2752x1024 : Shape := ⟨2, ![2752, 1024]⟩
abbrev S8x344x1024 : Shape := ⟨3, ![8, 344, 1024]⟩
abbrev S1x344x1024 : Shape := ⟨3, ![1, 344, 1024]⟩
abbrev S344x1024 : Shape := ⟨2, ![344, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2752x1024, .f32⟩
  | .hbm, ⟨1, _⟩ => ⟨S8x344x1024, .f32⟩
  | .hbm, ⟨2, _⟩ => ⟨S1x344x1024, .f32⟩
  | .hbm, ⟨3, _⟩ => ⟨S344x1024, .f32⟩
  | .hbm, ⟨4, _⟩ => ⟨S1x344x1024, .f32⟩
  | .hbm, ⟨5, _⟩ => ⟨S344x1024, .f32⟩
  | .hbm, ⟨6, _⟩ => ⟨S344x1024, .f32⟩
  | .hbm, ⟨7, _⟩ => ⟨S1x344x1024, .f32⟩
  | .hbm, ⟨8, _⟩ => ⟨S344x1024, .f32⟩
  | .hbm, ⟨9, _⟩ => ⟨S344x1024, .f32⟩
  | .hbm, ⟨10, _⟩ => ⟨S1x344x1024, .f32⟩
  | .hbm, ⟨11, _⟩ => ⟨S344x1024, .f32⟩
  | .hbm, ⟨12, _⟩ => ⟨S344x1024, .f32⟩
  | .hbm, ⟨13, _⟩ => ⟨S1x344x1024, .f32⟩
  | .hbm, ⟨14, _⟩ => ⟨S344x1024, .f32⟩
  | .hbm, ⟨15, _⟩ => ⟨S344x1024, .f32⟩
  | .hbm, ⟨16, _⟩ => ⟨S1x344x1024, .f32⟩
  | .hbm, ⟨17, _⟩ => ⟨S344x1024, .f32⟩
  | .hbm, ⟨18, _⟩ => ⟨S344x1024, .f32⟩
  | .hbm, ⟨19, _⟩ => ⟨S1x344x1024, .f32⟩
  | .hbm, ⟨20, _⟩ => ⟨S344x1024, .f32⟩
  | .hbm, ⟨21, _⟩ => ⟨S344x1024, .f32⟩
  | .hbm, ⟨22, _⟩ => ⟨S1x344x1024, .f32⟩
  | .hbm, ⟨23, _⟩ => ⟨S344x1024, .f32⟩
  | .hbm, ⟨24, _⟩ => ⟨S344x1024, .f32⟩
  | _, _ => ⟨S2752x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩

abbrev nD : Nat := 1
abbrev τ : Topo := Topo.v7x

variable {F : FTy → Type} [FloatOps F]
-- ==== Update.lean ====
abbrev S20992x1024 : Shape := ⟨2, ![20992, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S20992x1024, .f32⟩
  | .hbm, ⟨1, _⟩ => ⟨S20992x1024, .f32⟩
  | .hbm, ⟨2, _⟩ => ⟨S20992x1024, .f32⟩
  | .hbm, ⟨3, _⟩ => ⟨S20992x1024, .f32⟩
  | .hbm, ⟨4, _⟩ => ⟨S20992x1024, .f32⟩
  | .hbm, ⟨5, _⟩ => ⟨S20992x1024, .f32⟩
  | .hbm, ⟨6, _⟩ => ⟨S20992x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S20992x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateRefIdeal.lean ====
abbrev S20992x1024 : Shape := ⟨2, ![20992, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S20992x1024, .f32⟩
  | .hbm, ⟨1, _⟩ => ⟨S20992x1024, .f32⟩
  | .hbm, ⟨2, _⟩ => ⟨S20992x1024, .f32⟩
  | .hbm, ⟨3, _⟩ => ⟨S20992x1024, .f32⟩
  | .hbm, ⟨4, _⟩ => ⟨S_, .f32⟩
  | .hbm, ⟨5, _⟩ => ⟨S20992x1024, .f32⟩
  | .hbm, ⟨6, _⟩ => ⟨S20992x1024, .f32⟩
  | .hbm, ⟨7, _⟩ => ⟨S_, .f32⟩
  | .hbm, ⟨8, _⟩ => ⟨S20992x1024, .f32⟩
  | .hbm, ⟨9, _⟩ => ⟨S20992x1024, .f32⟩
  | .hbm, ⟨10, _⟩ => ⟨S20992x1024, .f32⟩
  | .hbm, ⟨11, _⟩ => ⟨S_, .f32⟩
  | .hbm, ⟨12, _⟩ => ⟨S20992x1024, .f32⟩
  | .hbm, ⟨13, _⟩ => ⟨S20992x1024, .f32⟩
  | .hbm, ⟨14, _⟩ => ⟨S20992x1024, .f32⟩
  | .hbm, ⟨15, _⟩ => ⟨S_, .f32⟩
  | .hbm, ⟨16, _⟩ => ⟨S20992x1024, .f32⟩
  | .hbm, ⟨17, _⟩ => ⟨S20992x1024, .f32⟩
  | .hbm, ⟨18, _⟩ => ⟨S20992x1024, .f32⟩
  | .hbm, ⟨19, _⟩ => ⟨S_, .f32⟩
  | .hbm, ⟨20, _⟩ => ⟨S20992x1024, .f32⟩
  | .hbm, ⟨21, _⟩ => ⟨S20992x1024, .f32⟩
  | .hbm, ⟨22, _⟩ => ⟨S_, .f32⟩
  | .hbm, ⟨23, _⟩ => ⟨S20992x1024, .f32⟩
  | .hbm, ⟨24, _⟩ => ⟨S20992x1024, .f32⟩
  | .hbm, ⟨25, _⟩ => ⟨S20992x1024, .f32⟩
  | .hbm, ⟨26, _⟩ => ⟨S_, .f32⟩
  | .hbm, ⟨27, _⟩ => ⟨S20992x1024, .f32⟩
  | .hbm, ⟨28, _⟩ => ⟨S20992x1024, .f32⟩
  | .hbm, ⟨29, _⟩ => ⟨S20992x1024, .f32⟩
  | .hbm, ⟨30, _⟩ => ⟨S_, .f32⟩
  | .hbm, ⟨31, _⟩ => ⟨S20992x1024, .f32⟩
  | .hbm, ⟨32, _⟩ => ⟨S20992x1024, .f32⟩
  | .hbm, ⟨33, _⟩ => ⟨S20992x1024, .f32⟩
  | .hbm, ⟨34, _⟩ => ⟨S_, .f32⟩
  | .hbm, ⟨35, _⟩ => ⟨S20992x1024, .f32⟩
  | .hbm, ⟨36, _⟩ => ⟨S20992x1024, .f32⟩
  | _, _ => ⟨S20992x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Loss.lean ====
abbrev S8448x2048 : Shape := ⟨2, ![8448, 2048]⟩
abbrev S8192x2048 : Shape := ⟨2, ![8192, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 15
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8192x2048, .f32⟩
  | .hbm, ⟨2, _⟩ => ⟨S8448x2048, .f32⟩
  | .hbm, ⟨3, _⟩ => ⟨S8x128, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x128, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | _ => false

abbrev sig : RefSig :=
  ofTc nBuf bufTy 1 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v4_s0 : Ref sig .tc := ⟨.hbm, 7, rfl⟩
abbrev main_v4_s1 : Ref sig .tc := ⟨.hbm, 8, rfl⟩
abbrev main_v4_s2 : Ref sig .tc := ⟨.hbm, 9, rfl⟩
abbrev main_v4_s3 : Ref sig .tc := ⟨.hbm, 10, rfl⟩
abbrev main_v4_s4 : Ref sig .tc := ⟨.hbm, 11, rfl⟩
abbrev main_v4_s5 : Ref sig .tc := ⟨.hbm, 12, rfl⟩
abbrev main_v4_s6 : Ref sig .tc := ⟨.hbm, 13, rfl⟩
abbrev main_v4_s7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev ar0_recv : DmaSem sig := 7
abbrev ar0_send : DmaSem sig := 8
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S67584x2048 : Shape := ⟨2, ![67584, 2048]⟩
abbrev S65536x2048 : Shape := ⟨2, ![65536, 2048]⟩
abbrev S8x8448x2048 : Shape := ⟨3, ![8, 8448, 2048]⟩
abbrev S8x8192x2048 : Shape := ⟨3, ![8, 8192, 2048]⟩
abbrev S_ : Shape := ⟨0, ![]⟩
abbrev S8x8192 : Shape := ⟨2, ![8, 8192]⟩

abbrev nBuf : Space → Nat
  | .hbm => 23
  | .vmem => 0
  | .smem => 0
  | _ => 0

abbrev bufTy : (tb : Table) → Fin (tcTables nBuf tb) → BufTy
  | .hbm, ⟨0, _⟩ => ⟨S67584x2048, .f32⟩
  | .hbm, ⟨1, _⟩ => ⟨S65536x2048, .f32⟩
  | .hbm, ⟨2, _⟩ => ⟨S8x8448x2048, .f32⟩
  | .hbm, ⟨3, _⟩ => ⟨S8x8192x2048, .f32⟩
  | .hbm, ⟨4, _⟩ => ⟨S8x8192x2048, .f32⟩
  | .hbm, ⟨5, _⟩ => ⟨S8x8192x2048, .f32⟩
  | .hbm, ⟨6, _⟩ => ⟨S8x8192x2048, .f32⟩
  | .hbm, ⟨7, _⟩ => ⟨S_, .f32⟩
  | .hbm, ⟨8, _⟩ => ⟨S8x8192, .f32⟩
  | .hbm, ⟨9, _⟩ => ⟨S_, .f32⟩
  | .hbm, ⟨10, _⟩ => ⟨S8x8192, .f32⟩
  | .hbm, ⟨11, _⟩ => ⟨S8x8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x8192x2048, .f32⟩
  | .hbm, ⟨18, _⟩ => ⟨S8x8192x2048, .f32⟩
  | .hbm, ⟨19, _⟩ => ⟨S_, .i32⟩
  | .hbm, ⟨20, _⟩ => ⟨S_, .f32⟩
  | .hbm, ⟨21, _⟩ => ⟨S8x8448x2048, .f32⟩
  | .hbm, ⟨22, _⟩ => ⟨S67584x2048, .f32⟩
  | _, _ => ⟨S67584x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Ada.lean ====
abbrev S8x2048 : Shape := ⟨2, ![8, 2048]⟩
abbrev S2048 : Shape := ⟨1, ![2048]⟩
abbrev S2x2048x1536 : Shape := ⟨3, ![2, 2048, 1536]⟩
abbrev S2x1x1536 : Shape := ⟨3, ![2, 1, 1536]⟩
abbrev S2x16x1536 : Shape := ⟨3, ![2, 16, 1536]⟩
abbrev S1x2048 : Shape := ⟨2, ![1, 2048]⟩
abbrev S1x2048x512 : Shape := ⟨3, ![1, 2048, 512]⟩
abbrev S1x1x512 : Shape := ⟨3, ![1, 1, 512]⟩
abbrev S1x16x512 : Shape := ⟨3, ![1, 16, 512]⟩
abbrev S2048x512 : Shape := ⟨2, ![2048, 512]⟩
abbrev S16x2048 : Shape := ⟨2, ![16, 2048]⟩
abbrev S16x512 : Shape := ⟨2, ![16, 512]⟩
abbrev S512 : Shape := ⟨1, ![512]⟩
abbrev S1x512 : Shape := ⟨2, ![1, 512]⟩

abbrev nBuf : Space → Nat
  | .hbm => 9
  | .vmem => 13
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2x2048x1536, .f32⟩
  | .hbm, ⟨3, _⟩ => ⟨S2x1x1536, .f32⟩
  | .hbm, ⟨4, _⟩ => ⟨S2x16x1536, .f32⟩
  | .hbm, ⟨5, _⟩ => ⟨S1x2048, .f32⟩
  | .hbm, ⟨6, _⟩ => ⟨S1x2048, .f32⟩
  | .hbm, ⟨7, _⟩ => ⟨S2x2048x1536, .f32⟩
  | .hbm, ⟨8, _⟩ => ⟨S2x1x1536, .f32⟩
  | .local _ .vmem, ⟨0, _⟩ => ⟨S8x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x1x512, .f32⟩
  | .local _ .vmem, ⟨5, _⟩ => ⟨S1x1x512, .f32⟩
  | .local _ .vmem, ⟨6, _⟩ => ⟨S1x16x512, .f32⟩
  | .local _ .vmem, ⟨7, _⟩ => ⟨S1x16x512, .f32⟩
  | .local _ .vmem, ⟨8, _⟩ => ⟨S1x2048, .f32⟩
  | .local _ .vmem, ⟨9, _⟩ => ⟨S1x2048x512, .f32⟩
  | .local _ .vmem, ⟨10, _⟩ => ⟨S1x2048x512, .f32⟩
  | .local _ .vmem, ⟨11, _⟩ => ⟨S1x1x512, .f32⟩
  | .local _ .vmem, ⟨12, _⟩ => ⟨S1x1x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let arg1 : BitVec 32 := BitVec.ofNat 32 (i 1).val
  let c0_i32_13 : BitVec 32 := 0#32
  let v33 : BitVec 1 := Scalar.cmpi .eq arg1 c0_i32_13
  let v34 : BitVec 1 := Scalar.andi v32 v33
  let v35 : BitVec 32 := Scalar.extui v34
  let c0_i32_14 : BitVec 32 := 0#32
  let v36 : BitVec 1 := Scalar.cmpi .ne v35 c0_i32_14
  v36

def k0_cond2 (i : grid0.Coords) : BitVec 1 :=
  let arg0 : BitVec 32 := BitVec.ofNat 32 (i 0).val
  let c0_i32 : BitVec 32 := 0#32
  let v32 : BitVec 1 := Scalar.cmpi .eq arg0 c0_i32
  let arg1 : BitVec 32 := BitVec.ofNat 32 (i 1).val
  let c0_i32_13 : BitVec 32 := 0#32
  let v33 : BitVec 1 := Scalar.cmpi .eq arg1 c0_i32_13
  let v34 : BitVec 1 := Scalar.andi v32 v33
  let v_true : BitVec 1 := 1#1
  let v37 : BitVec 1 := Scalar.xori v34 v_true
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdaRefIdeal.lean ====
abbrev S8x2048 : Shape := ⟨2, ![8, 2048]⟩
abbrev S2048 : Shape := ⟨1, ![2048]⟩
abbrev S2x2048x1536 : Shape := ⟨3, ![2, 2048, 1536]⟩
abbrev S2x1x1536 : Shape := ⟨3, ![2, 1, 1536]⟩
abbrev S2x16x1536 : Shape := ⟨3, ![2, 16, 1536]⟩
abbrev S_ : Shape := ⟨0, ![]⟩
abbrev S16x2048 : Shape := ⟨2, ![16, 2048]⟩
abbrev S2x1536x2048 : Shape := ⟨3, ![2, 1536, 2048]⟩
abbrev S2x1536 : Shape := ⟨2, ![2, 1536]⟩

abbrev nBuf : Space → Nat
  | .hbm => 30
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2x2048x1536, .f32⟩
  | .hbm, ⟨3, _⟩ => ⟨S2x1x1536, .f32⟩
  | .hbm, ⟨4, _⟩ => ⟨S2x16x1536, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S8x2048, .f32⟩
  | .hbm, ⟨24, _⟩ => ⟨S16x2048, .f32⟩
  | .hbm, ⟨25, _⟩ => ⟨S2x1536x2048, .f32⟩
  | .hbm, ⟨26, _⟩ => ⟨S2x2048x1536, .f32⟩
  | .hbm, ⟨27, _⟩ => ⟨S_, .f32⟩
  | .hbm, ⟨28, _⟩ => ⟨S2x1536, .f32⟩
  | .hbm, ⟨29, _⟩ => ⟨S2x1x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_call1_v0 : Ref sig .tc := ⟨.hbm, 14, rfl⟩
abbrev main_call1_v1 : Ref sig .tc := ⟨.hbm, 15, rfl⟩
abbrev main_call1_cst : Ref sig .tc := ⟨.hbm, 16, rfl⟩
abbrev main_call1_v2 : Ref sig .tc := ⟨.hbm, 17, rfl⟩
abbrev main_call1_v3 : Ref sig .tc := ⟨.hbm, 18, rfl⟩
abbrev main_call1_cst_0 : Ref sig .tc := ⟨.hbm, 19, rfl⟩
abbrev main_call1_v4 : Ref sig .tc := ⟨.hbm, 20, rfl⟩
abbrev main_call1_v5 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩

abbrev nD : Nat := 1
abbrev τ : Topo := Topo.v7x

variable {F : FTy → Type} [FloatOps F]
-- ==== Norm.lean ====
abbrev S8448x2048 : Shape := ⟨2, ![8448, 2048]⟩
abbrev S2048 : Shape := ⟨1, ![2048]⟩
abbrev S2x6x2048 : Shape := ⟨3, ![2, 6, 2048]⟩
abbrev S1x2048 : Shape := ⟨2, ![1, 2048]⟩
abbrev S256x2048 : Shape := ⟨2, ![256, 2048]⟩
abbrev S1x6x2048 : Shape := ⟨3, ![1, 6, 2048]⟩
abbrev S6x2048 : Shape := ⟨2, ![6, 2048]⟩
abbrev S256 : Shape := ⟨1, ![256]⟩
abbrev S256x1 : Shape := ⟨2, ![256, 1]⟩
abbrev S5x2048 : Shape := ⟨2, ![5, 2048]⟩
abbrev S2x2048 : Shape := ⟨2, ![2, 2048]⟩
abbrev S4x2048 : Shape := ⟨2, ![4, 2048]⟩

abbrev nBuf : Space → Nat
  | .hbm => 9
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x6x2048, .f32⟩
  | .hbm, ⟨3, _⟩ => ⟨S8448x2048, .f32⟩
  | .hbm, ⟨4, _⟩ => ⟨S8448x2048, .f32⟩
  | .hbm, ⟨5, _⟩ => ⟨S1x2048, .f32⟩
  | .hbm, ⟨6, _⟩ => ⟨S8448x2048, .f32⟩
  | .hbm, ⟨7, _⟩ => ⟨S1x2048, .f32⟩
  | .hbm, ⟨8, _⟩ => ⟨S2x6x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2x6x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S2x6x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_27 : BitVec 32 := 0#32
  let v79 : BitVec 1 := Scalar.cmpi .ne v78 c0_i32_27
  v79

def k0_cond2 (i : grid0.Coords) : BitVec 1 :=
  let arg0 : BitVec 32 := BitVec.ofNat 32 (i 0).val
  let c0_i32 : BitVec 32 := 0#32
  let v77 : BitVec 1 := Scalar.cmpi .eq arg0 c0_i32
  let v_true : BitVec 1 := 1#1
  let v80 : BitVec 1 := Scalar.xori v77 v_true
  let v81 : BitVec 32 := Scalar.extui v80
  let c0_i32_28 : BitVec 32 := 0#32
  let v82 : BitVec 1 := Scalar.cmpi .ne v81 c0_i32_28
  v82

def k0_cond3 (i : grid0.Coords) : BitVec 1 :=
  let arg0 : BitVec 32 := BitVec.ofNat 32 (i 0).val
  let c0_i32_29 : BitVec 32 := 0#32
  let v83 : BitVec 1 := Scalar.cmpi .eq arg0 c0_i32_29
  let v84 : BitVec 32 := Scalar.extui v83
  let c0_i32_30 : BitVec 32 := 0#32
  let v85 : BitVec 1 := Scalar.cmpi .ne v84 c0_i32_30
  v85

def k0_cond4 (i : grid0.Coords) : BitVec 1 :=
  let arg0 : BitVec 32 := BitVec.ofNat 32 (i 0).val
  let c0_i32_29 : BitVec 32 := 0#32
  let v83 : BitVec 1 := Scalar.cmpi .eq arg0 c0_i32_29
  let true_31 : BitVec 1 := 1#1
  let v86 : BitVec 1 := Scalar.xori v83 true_31
  let v87 : BitVec 32 := Scalar.extui v86
  let c0_i32_32 : BitVec 32 := 0#32
  let v88 : BitVec 1 := Scalar.cmpi .ne v87 c0_i32_32
  v88

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x6x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormRefIdeal.lean ====
abbrev S8448x2048 : Shape := ⟨2, ![8448, 2048]⟩
abbrev S2048 : Shape := ⟨1, ![2048]⟩
abbrev S2x6x2048 : Shape := ⟨3, ![2, 6, 2048]⟩
abbrev S8448 : Shape := ⟨1, ![8448]⟩
abbrev S8448x1 : Shape := ⟨2, ![8448, 1]⟩
abbrev S_ : Shape := ⟨0, ![]⟩
abbrev S1x1x2048 : Shape := ⟨3, ![1, 1, 2048]⟩
abbrev S1x2048 : Shape := ⟨2, ![1, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x6x2048, .f32⟩
  | .hbm, ⟨3, _⟩ => ⟨S8448x2048, .f32⟩
  | .hbm, ⟨4, _⟩ => ⟨S8448x2048, .f32⟩
  | .hbm, ⟨5, _⟩ => ⟨S8448, .i32⟩
  | .hbm, ⟨6, _⟩ => ⟨S8448x1, .i32⟩
  | .hbm, ⟨7, _⟩ => ⟨S_, .i32⟩
  | .hbm, ⟨8, _⟩ => ⟨S8448x1, .i32⟩
  | .hbm, ⟨9, _⟩ => ⟨S8448x1, .i1⟩
  | .hbm, ⟨10, _⟩ => ⟨S1x1x2048, .f32⟩
  | .hbm, ⟨11, _⟩ => ⟨S2048, .f32⟩
  | .hbm, ⟨12, _⟩ => ⟨S1x1x2048, .f32⟩
  | .hbm, ⟨13, _⟩ => ⟨S2048, .f32⟩
  | .hbm, ⟨14, _⟩ => ⟨S8448x2048, .i1⟩
  | .hbm, ⟨15, _⟩ => ⟨S8448x2048, .f32⟩
  | .hbm, ⟨16, _⟩ => ⟨S8448x2048, .f32⟩
  | .hbm, ⟨17, _⟩ => ⟨S8448x2048, .f32⟩
  | .hbm, ⟨18, _⟩ => ⟨S_, .i32⟩
  | .hbm, ⟨19, _⟩ => ⟨S8448x1, .i32⟩
  | .hbm, ⟨20, _⟩ => ⟨S8448x1, .i1⟩
  | .hbm, ⟨21, _⟩ => ⟨S1x1x2048, .f32⟩
  | .hbm, ⟨22, _⟩ => ⟨S2048, .f32⟩
  | .hbm, ⟨23, _⟩ => ⟨S1x1x2048, .f32⟩
  | .hbm, ⟨24, _⟩ => ⟨S2048, .f32⟩
  | .hbm, ⟨25, _⟩ => ⟨S8448x2048, .i1⟩
  | .hbm, ⟨26, _⟩ => ⟨S8448x2048, .f32⟩
  | .hbm, ⟨27, _⟩ => ⟨S8448x2048, .f32⟩
  | .hbm, ⟨28, _⟩ => ⟨S8448x2048, .f32⟩
  | .hbm, ⟨29, _⟩ => ⟨S8448x2048, .f32⟩
  | .hbm, ⟨30, _⟩ => ⟨S_, .f32⟩
  | .hbm, ⟨31, _⟩ => ⟨S8448, .f32⟩
  | .hbm, ⟨32, _⟩ => ⟨S8448x1, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S_, .f32⟩
  | .hbm, ⟨37, _⟩ => ⟨S8448x1, .f32⟩
  | .hbm, ⟨38, _⟩ => ⟨S8448x1, .f32⟩
  | .hbm, ⟨39, _⟩ => ⟨S8448x1, .f32⟩
  | .hbm, ⟨40, _⟩ => ⟨S8448x1, .f32⟩
  | .hbm, ⟨41, _⟩ => ⟨S_, .f32⟩
  | .hbm, ⟨42, _⟩ => ⟨S8448x1, .f32⟩
  | .hbm, ⟨43, _⟩ => ⟨S8448x1, .f32⟩
  | .hbm, ⟨44, _⟩ => ⟨S8448x2048, .f32⟩
  | .hbm, ⟨45, _⟩ => ⟨S8448x2048, .f32⟩
  | .hbm, ⟨46, _⟩ => ⟨S1x2048, .f32⟩
  | .hbm, ⟨47, _⟩ => ⟨S8448x2048, .f32⟩
  | .hbm, ⟨48, _⟩ => ⟨S8448x2048, .f32⟩
  | .hbm, ⟨49, _⟩ => ⟨S_, .f32⟩
  | .hbm, ⟨50, _⟩ => ⟨S8448x2048, .f32⟩
  | .hbm, ⟨51, _⟩ => ⟨S8448x2048, .f32⟩
  | .hbm, ⟨52, _⟩ => ⟨S8448x2048, .f32⟩
  | .hbm, ⟨53, _⟩ => ⟨S8448x2048, .f32⟩
  | .hbm, ⟨54, _⟩ => ⟨S8448x2048, .f32⟩
  | .hbm, ⟨55, _⟩ => ⟨S8448x2048, .f32⟩
  | .hbm, ⟨56, _⟩ => ⟨S8448x2048, .f32⟩
  | .hbm, ⟨57, _⟩ => ⟨S8448x2048, .f32⟩
  | .hbm, ⟨58, _⟩ => ⟨S_, .f32⟩
  | .hbm, ⟨59, _⟩ => ⟨S8448, .f32⟩
  | .hbm, ⟨60, _⟩ => ⟨S8448x1, .f32⟩
  | .hbm, ⟨61, _⟩ => ⟨S8448x2048, .f32⟩
  | .hbm, ⟨62, _⟩ => ⟨S8448x2048, .f32⟩
  | .hbm, ⟨63, _⟩ => ⟨S8448x1, .f32⟩
  | .hbm, ⟨64, _⟩ => ⟨S_, .f32⟩
  | .hbm, ⟨65, _⟩ => ⟨S8448x1, .f32⟩
  | .hbm, ⟨66, _⟩ => ⟨S8448x1, .f32⟩
  | .hbm, ⟨67, _⟩ => ⟨S_, .f32⟩
  | .hbm, ⟨68, _⟩ => ⟨S8448, .f32⟩
  | .hbm, ⟨69, _⟩ => ⟨S8448x2048, .f32⟩
  | .hbm, ⟨70, _⟩ => ⟨S8448x2048, .f32⟩
  | .hbm, ⟨71, _⟩ => ⟨S8448x2048, .f32⟩
  | .hbm, ⟨72, _⟩ => ⟨S8448x2048, .f32⟩
  | .hbm, ⟨73, _⟩ => ⟨S8448x2048, .f32⟩
  | .hbm, ⟨74, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Hidden.lean ====
abbrev S8448x2048 : Shape := ⟨2, ![8448, 2048]⟩
abbrev S8448x11264 : Shape := ⟨2, ![8448, 11264]⟩
abbrev S2048x11264 : Shape := ⟨2, ![2048, 11264]⟩
abbrev S1056x1024 : Shape := ⟨2, ![1056, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x11264, .bf16⟩
  | .hbm, ⟨2, _⟩ => ⟨S2048x11264, .f32⟩
  | .local _ .vmem, ⟨0, _⟩ => ⟨S1056x1024, .bf16⟩
  | .local _ .vmem, ⟨1, _⟩ => ⟨S1056x1024, .bf16⟩
  | .local _ .vmem, ⟨2, _⟩ => ⟨S1056x1024, .bf16⟩
  | .local _ .vmem, ⟨3, _⟩ => ⟨S1056x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HiddenRefIdeal.lean ====
abbrev S8448x2048 : Shape := ⟨2, ![8448, 2048]⟩
abbrev S8448x11264 : Shape := ⟨2, ![8448, 11264]⟩
abbrev S2048x8448 : Shape := ⟨2, ![2048, 8448]⟩
abbrev S2048x11264 : Shape := ⟨2, ![2048, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x11264, .bf16⟩
  | .hbm, ⟨2, _⟩ => ⟨S8448x2048, .f32⟩
  | .hbm, ⟨3, _⟩ => ⟨S2048x8448, .f32⟩
  | .hbm, ⟨4, _⟩ => ⟨S8448x11264, .f32⟩
  | .hbm, ⟨5, _⟩ => ⟨S2048x11264, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S8448x5632 : Shape := ⟨2, ![8448, 5632]⟩
abbrev S8448x2048 : Shape := ⟨2, ![8448, 2048]⟩
abbrev S5632x2048 : Shape := ⟨2, ![5632, 2048]⟩
abbrev S1056x1408 : Shape := ⟨2, ![1056, 1408]⟩
abbrev S1056x1024 : Shape := ⟨2, ![1056, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S5632x2048, .f32⟩
  | .local _ .vmem, ⟨0, _⟩ => ⟨S1056x1408, .bf16⟩
  | .local _ .vmem, ⟨1, _⟩ => ⟨S1056x1408, .bf16⟩
  | .local _ .vmem, ⟨2, _⟩ => ⟨S1056x1024, .bf16⟩
  | .local _ .vmem, ⟨3, _⟩ => ⟨S1056x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8448x5632 : Shape := ⟨2, ![8448, 5632]⟩
abbrev S8448x2048 : Shape := ⟨2, ![8448, 2048]⟩
abbrev S5632x8448 : Shape := ⟨2, ![5632, 8448]⟩
abbrev S5632x2048 : Shape := ⟨2, ![5632, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S8448x5632, .f32⟩
  | .hbm, ⟨3, _⟩ => ⟨S5632x8448, .f32⟩
  | .hbm, ⟨4, _⟩ => ⟨S8448x2048, .f32⟩
  | .hbm, ⟨5, _⟩ => ⟨S5632x2048, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvenIn.lean ====
abbrev S8448x2048 : Shape := ⟨2, ![8448, 2048]⟩
abbrev S8448x6144 : Shape := ⟨2, ![8448, 6144]⟩
abbrev S2048x6144 : Shape := ⟨2, ![2048, 6144]⟩
abbrev S1056x1024 : Shape := ⟨2, ![1056, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x6144, .bf16⟩
  | .hbm, ⟨2, _⟩ => ⟨S2048x6144, .f32⟩
  | .local _ .vmem, ⟨0, _⟩ => ⟨S1056x1024, .bf16⟩
  | .local _ .vmem, ⟨1, _⟩ => ⟨S1056x1024, .bf16⟩
  | .local _ .vmem, ⟨2, _⟩ => ⟨S1056x1024, .bf16⟩
  | .local _ .vmem, ⟨3, _⟩ => ⟨S1056x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInRefIdeal.lean ====
abbrev S8448x2048 : Shape := ⟨2, ![8448, 2048]⟩
abbrev S8448x6144 : Shape := ⟨2, ![8448, 6144]⟩
abbrev S2048x8448 : Shape := ⟨2, ![2048, 8448]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x6144, .bf16⟩
  | .hbm, ⟨2, _⟩ => ⟨S8448x2048, .f32⟩
  | .hbm, ⟨3, _⟩ => ⟨S2048x8448, .f32⟩
  | .hbm, ⟨4, _⟩ => ⟨S8448x6144, .f32⟩
  | .hbm, ⟨5, _⟩ => ⟨S2048x6144, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvenOut.lean ====
abbrev S8448x2048 : Shape := ⟨2, ![8448, 2048]⟩
abbrev S2048x2048 : Shape := ⟨2, ![2048, 2048]⟩
abbrev S1056x1024 : Shape := ⟨2, ![1056, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S2048x2048, .f32⟩
  | .local _ .vmem, ⟨0, _⟩ => ⟨S1056x1024, .bf16⟩
  | .local _ .vmem, ⟨1, _⟩ => ⟨S1056x1024, .bf16⟩
  | .local _ .vmem, ⟨2, _⟩ => ⟨S1056x1024, .bf16⟩
  | .local _ .vmem, ⟨3, _⟩ => ⟨S1056x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenOutRefIdeal.lean ====
abbrev S8448x2048 : Shape := ⟨2, ![8448, 2048]⟩
abbrev S2048x8448 : Shape := ⟨2, ![2048, 8448]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S8448x2048, .f32⟩
  | .hbm, ⟨3, _⟩ => ⟨S2048x8448, .f32⟩
  | .hbm, ⟨4, _⟩ => ⟨S8448x2048, .f32⟩
  | .hbm, ⟨5, _⟩ => ⟨S2048x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OddIn.lean ====
abbrev S8448x2048 : Shape := ⟨2, ![8448, 2048]⟩
abbrev S8448x12288 : Shape := ⟨2, ![8448, 12288]⟩
abbrev S2048x12288 : Shape := ⟨2, ![2048, 12288]⟩
abbrev S1056x1024 : Shape := ⟨2, ![1056, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x12288, .bf16⟩
  | .hbm, ⟨2, _⟩ => ⟨S2048x12288, .f32⟩
  | .local _ .vmem, ⟨0, _⟩ => ⟨S1056x1024, .bf16⟩
  | .local _ .vmem, ⟨1, _⟩ => ⟨S1056x1024, .bf16⟩
  | .local _ .vmem, ⟨2, _⟩ => ⟨S1056x1024, .bf16⟩
  | .local _ .vmem, ⟨3, _⟩ => ⟨S1056x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInRefIdeal.lean ====
abbrev S8448x2048 : Shape := ⟨2, ![8448, 2048]⟩
abbrev S8448x12288 : Shape := ⟨2, ![8448, 12288]⟩
abbrev S2048x8448 : Shape := ⟨2, ![2048, 8448]⟩
abbrev S2048x12288 : Shape := ⟨2, ![2048, 12288]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x12288, .bf16⟩
  | .hbm, ⟨2, _⟩ => ⟨S8448x2048, .f32⟩
  | .hbm, ⟨3, _⟩ => ⟨S2048x8448, .f32⟩
  | .hbm, ⟨4, _⟩ => ⟨S8448x12288, .f32⟩
  | .hbm, ⟨5, _⟩ => ⟨S2048x12288, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OddGate.lean ====
abbrev S8448x2048 : Shape := ⟨2, ![8448, 2048]⟩
abbrev S8448x128 : Shape := ⟨2, ![8448, 128]⟩
abbrev S2048x128 : Shape := ⟨2, ![2048, 128]⟩
abbrev S1056x1024 : Shape := ⟨2, ![1056, 1024]⟩
abbrev S1056x128 : Shape := ⟨2, ![1056, 128]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x128, .bf16⟩
  | .hbm, ⟨2, _⟩ => ⟨S2048x128, .f32⟩
  | .local _ .vmem, ⟨0, _⟩ => ⟨S1056x1024, .bf16⟩
  | .local _ .vmem, ⟨1, _⟩ => ⟨S1056x1024, .bf16⟩
  | .local _ .vmem, ⟨2, _⟩ => ⟨S1056x128, .bf16⟩
  | .local _ .vmem, ⟨3, _⟩ => ⟨S1056x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddGateRefIdeal.lean ====
abbrev S8448x2048 : Shape := ⟨2, ![8448, 2048]⟩
abbrev S8448x128 : Shape := ⟨2, ![8448, 128]⟩
abbrev S2048x8448 : Shape := ⟨2, ![2048, 8448]⟩
abbrev S2048x128 : Shape := ⟨2, ![2048, 128]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x128, .bf16⟩
  | .hbm, ⟨2, _⟩ => ⟨S8448x2048, .f32⟩
  | .hbm, ⟨3, _⟩ => ⟨S2048x8448, .f32⟩
  | .hbm, ⟨4, _⟩ => ⟨S8448x128, .f32⟩
  | .hbm, ⟨5, _⟩ => ⟨S2048x128, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OddOut.lean ====
abbrev S8448x4096 : Shape := ⟨2, ![8448, 4096]⟩
abbrev S8448x2048 : Shape := ⟨2, ![8448, 2048]⟩
abbrev S4096x2048 : Shape := ⟨2, ![4096, 2048]⟩
abbrev S1056x1024 : Shape := ⟨2, ![1056, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S8448x2048, .bf16⟩
  | .hbm, ⟨2, _⟩ => ⟨S4096x2048, .f32⟩
  | .local _ .vmem, ⟨0, _⟩ => ⟨S1056x1024, .bf16⟩
  | .local _ .vmem, ⟨1, _⟩ => ⟨S1056x1024, .bf16⟩
  | .local _ .vmem, ⟨2, _⟩ => ⟨S1056x1024, .bf16⟩
  | .local _ .vmem, ⟨3, _⟩ => ⟨S1056x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddOutRefIdeal.lean ====
abbrev S8448x4096 : Shape := ⟨2, ![8448, 4096]⟩
abbrev S8448x2048 : Shape := ⟨2, ![8448, 2048]⟩
abbrev S4096x8448 : Shape := ⟨2, ![4096, 8448]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x2048, .bf16⟩
  | .hbm, ⟨2, _⟩ => ⟨S8448x4096, .f32⟩
  | .hbm, ⟨3, _⟩ => ⟨S4096x8448, .f32⟩
  | .hbm, ⟨4, _⟩ => ⟨S8448x2048, .f32⟩
  | .hbm, ⟨5, _⟩ => ⟨S4096x2048, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Pieces.lean ====
abbrev S328x128 : Shape := ⟨2, ![328, 128]⟩
abbrev S8x328x128 : Shape := ⟨3, ![8, 328, 128]⟩
abbrev S7 : Shape := ⟨1, ![7]⟩
abbrev S_ : Shape := ⟨0, ![]⟩
abbrev S1x328x128 : Shape := ⟨3, ![1, 328, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S328x128, .f32⟩
  | .hbm, ⟨1, _⟩ => ⟨S8x328x128, .f32⟩
  | _, _ => ⟨S328x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== PiecesRef.lean ====
abbrev S2624x128 : Shape := ⟨2, ![2624, 128]⟩
abbrev S8x328x128 : Shape := ⟨3, ![8, 328, 128]⟩

abbrev nBuf : Space → Nat
  | .hbm => 2
  | .vmem => 0
  | .smem => 0
  | _ => 0

abbrev bufTy : (tb : Table) → Fin (tcTables nBuf tb) → BufTy
  | .hbm, ⟨0, _⟩ => ⟨S2624x128, .f32⟩
  | .hbm, ⟨1, _⟩ => ⟨S8x328x128, .f32⟩
  | _, _ => ⟨S2624x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Mods.lean ====
abbrev S32x1536 : Shape := ⟨2, ![32, 1536]⟩
abbrev S8x32x1536 : Shape := ⟨3, ![8, 32, 1536]⟩
abbrev S7 : Shape := ⟨1, ![7]⟩
abbrev S_ : Shape := ⟨0, ![]⟩
abbrev S1x32x1536 : Shape := ⟨3, ![1, 32, 1536]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S32x1536, .f32⟩
  | .hbm, ⟨1, _⟩ => ⟨S8x32x1536, .f32⟩
  | _, _ => ⟨S32x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== ModsRef.lean ====
abbrev S256x1536 : Shape := ⟨2, ![256, 1536]⟩
abbrev S8x32x1536 : Shape := ⟨3, ![8, 32, 1536]⟩

abbrev nBuf : Space → Nat
  | .hbm => 2
  | .vmem => 0
  | .smem => 0
  | _ => 0

abbrev bufTy : (tb : Table) → Fin (tcTables nBuf tb) → BufTy
  | .hbm, ⟨0, _⟩ => ⟨S256x1536, .f32⟩
  | .hbm, ⟨1, _⟩ => ⟨S8x32x1536, .f32⟩
  | _, _ => ⟨S256x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Slopes.lean ====
abbrev S24x2048 : Shape := ⟨2, ![24, 2048]⟩
abbrev S8x24x2048 : Shape := ⟨3, ![8, 24, 2048]⟩
abbrev S7 : Shape := ⟨1, ![7]⟩
abbrev S_ : Shape := ⟨0, ![]⟩
abbrev S1x24x2048 : Shape := ⟨3, ![1, 24, 2048]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S24x2048, .f32⟩
  | .hbm, ⟨1, _⟩ => ⟨S8x24x2048, .f32⟩
  | _, _ => ⟨S24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== SlopesRef.lean ====
abbrev S192x2048 : Shape := ⟨2, ![192, 2048]⟩
abbrev S8x24x2048 : Shape := ⟨3, ![8, 24, 2048]⟩

abbrev nBuf : Space → Nat
  | .hbm => 2
  | .vmem => 0
  | .smem => 0
  | _ => 0

abbrev bufTy : (tb : Table) → Fin (tcTables nBuf tb) → BufTy
  | .hbm, ⟨0, _⟩ => ⟨S192x2048, .f32⟩
  | .hbm, ⟨1, _⟩ => ⟨S8x24x2048, .f32⟩
  | _, _ => ⟨S192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Up.lean ====
abbrev S8448x2048 : Shape := ⟨2, ![8448, 2048]⟩
abbrev S2048x11264 : Shape := ⟨2, ![2048, 11264]⟩
abbrev S8448x11264 : Shape := ⟨2, ![8448, 11264]⟩
abbrev S1056x2048 : Shape := ⟨2, ![1056, 2048]⟩
abbrev S2048x512 : Shape := ⟨2, ![2048, 512]⟩
abbrev S1056x512 : Shape := ⟨2, ![1056, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .bf16⟩
  | .hbm, ⟨2, _⟩ => ⟨S8448x11264, .f32⟩
  | .local _ .vmem, ⟨0, _⟩ => ⟨S1056x2048, .bf16⟩
  | .local _ .vmem, ⟨1, _⟩ => ⟨S1056x2048, .bf16⟩
  | .local _ .vmem, ⟨2, _⟩ => ⟨S2048x512, .bf16⟩
  | .local _ .vmem, ⟨3, _⟩ => ⟨S2048x512, .bf16⟩
  | .local _ .vmem, ⟨4, _⟩ => ⟨S1056x512, .f32⟩
  | .local _ .vmem, ⟨5, _⟩ => ⟨S1056x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8448x2048 : Shape := ⟨2, ![8448, 2048]⟩
abbrev S2048x11264 : Shape := ⟨2, ![2048, 11264]⟩
abbrev S8448x11264 : Shape := ⟨2, ![8448, 11264]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x11264, .bf16⟩
  | .hbm, ⟨2, _⟩ => ⟨S8448x2048, .f32⟩
  | .hbm, ⟨3, _⟩ => ⟨S2048x11264, .f32⟩
  | .hbm, ⟨4, _⟩ => ⟨S8448x11264, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpEven.lean ====
abbrev S8448x2048 : Shape := ⟨2, ![8448, 2048]⟩
abbrev S2048x6144 : Shape := ⟨2, ![2048, 6144]⟩
abbrev S8448x6144 : Shape := ⟨2, ![8448, 6144]⟩
abbrev S1056x2048 : Shape := ⟨2, ![1056, 2048]⟩
abbrev S2048x512 : Shape := ⟨2, ![2048, 512]⟩
abbrev S1056x512 : Shape := ⟨2, ![1056, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x6144, .bf16⟩
  | .hbm, ⟨2, _⟩ => ⟨S8448x6144, .f32⟩
  | .local _ .vmem, ⟨0, _⟩ => ⟨S1056x2048, .bf16⟩
  | .local _ .vmem, ⟨1, _⟩ => ⟨S1056x2048, .bf16⟩
  | .local _ .vmem, ⟨2, _⟩ => ⟨S2048x512, .bf16⟩
  | .local _ .vmem, ⟨3, _⟩ => ⟨S2048x512, .bf16⟩
  | .local _ .vmem, ⟨4, _⟩ => ⟨S1056x512, .f32⟩
  | .local _ .vmem, ⟨5, _⟩ => ⟨S1056x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpEvenRefIdeal.lean ====
abbrev S8448x2048 : Shape := ⟨2, ![8448, 2048]⟩
abbrev S2048x6144 : Shape := ⟨2, ![2048, 6144]⟩
abbrev S8448x6144 : Shape := ⟨2, ![8448, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x6144, .bf16⟩
  | .hbm, ⟨2, _⟩ => ⟨S8448x2048, .f32⟩
  | .hbm, ⟨3, _⟩ => ⟨S2048x6144, .f32⟩
  | .hbm, ⟨4, _⟩ => ⟨S8448x6144, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixEven.lean ====
abbrev S8448x2048 : Shape := ⟨2, ![8448, 2048]⟩
abbrev S2048x2048 : Shape := ⟨2, ![2048, 2048]⟩
abbrev S1056x2048 : Shape := ⟨2, ![1056, 2048]⟩
abbrev S2048x512 : Shape := ⟨2, ![2048, 512]⟩
abbrev S1056x512 : Shape := ⟨2, ![1056, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .local _ .vmem, ⟨0, _⟩ => ⟨S1056x2048, .bf16⟩
  | .local _ .vmem, ⟨1, _⟩ => ⟨S1056x2048, .bf16⟩
  | .local _ .vmem, ⟨2, _⟩ => ⟨S2048x512, .bf16⟩
  | .local _ .vmem, ⟨3, _⟩ => ⟨S2048x512, .bf16⟩
  | .local _ .vmem, ⟨4, _⟩ => ⟨S1056x512, .f32⟩
  | .local _ .vmem, ⟨5, _⟩ => ⟨S1056x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixEvenRefIdeal.lean ====
abbrev S8448x2048 : Shape := ⟨2, ![8448, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S2048x2048, .f32⟩
  | .hbm, ⟨4, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpOdd.lean ====
abbrev S8448x2048 : Shape := ⟨2, ![8448, 2048]⟩
abbrev S2048x12288 : Shape := ⟨2, ![2048, 12288]⟩
abbrev S8448x12288 : Shape := ⟨2, ![8448, 12288]⟩
abbrev S1056x2048 : Shape := ⟨2, ![1056, 2048]⟩
abbrev S2048x512 : Shape := ⟨2, ![2048, 512]⟩
abbrev S1056x512 : Shape := ⟨2, ![1056, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x12288, .bf16⟩
  | .hbm, ⟨2, _⟩ => ⟨S8448x12288, .f32⟩
  | .local _ .vmem, ⟨0, _⟩ => ⟨S1056x2048, .bf16⟩
  | .local _ .vmem, ⟨1, _⟩ => ⟨S1056x2048, .bf16⟩
  | .local _ .vmem, ⟨2, _⟩ => ⟨S2048x512, .bf16⟩
  | .local _ .vmem, ⟨3, _⟩ => ⟨S2048x512, .bf16⟩
  | .local _ .vmem, ⟨4, _⟩ => ⟨S1056x512, .f32⟩
  | .local _ .vmem, ⟨5, _⟩ => ⟨S1056x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpOddRefIdeal.lean ====
abbrev S8448x2048 : Shape := ⟨2, ![8448, 2048]⟩
abbrev S2048x12288 : Shape := ⟨2, ![2048, 12288]⟩
abbrev S8448x12288 : Shape := ⟨2, ![8448, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x12288, .bf16⟩
  | .hbm, ⟨2, _⟩ => ⟨S8448x2048, .f32⟩
  | .hbm, ⟨3, _⟩ => ⟨S2048x12288, .f32⟩
  | .hbm, ⟨4, _⟩ => ⟨S8448x12288, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateOdd.lean ====
abbrev S8448x2048 : Shape := ⟨2, ![8448, 2048]⟩
abbrev S2048x128 : Shape := ⟨2, ![2048, 128]⟩
abbrev S8448x128 : Shape := ⟨2, ![8448, 128]⟩
abbrev S1056x2048 : Shape := ⟨2, ![1056, 2048]⟩
abbrev S1056x128 : Shape := ⟨2, ![1056, 128]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .bf16⟩
  | .hbm, ⟨1, _⟩ => ⟨S2048x128, .bf16⟩
  | .hbm, ⟨2, _⟩ => ⟨S8448x128, .f32⟩
  | .local _ .vmem, ⟨0, _⟩ => ⟨S1056x2048, .bf16⟩
  | .local _ .vmem, ⟨1, _⟩ => ⟨S1056x2048, .bf16⟩
  | .local _ .vmem, ⟨2, _⟩ => ⟨S2048x128, .bf16⟩
  | .local _ .vmem, ⟨3, _⟩ => ⟨S1056x128, .f32⟩
  | .local _ .vmem, ⟨4, _⟩ => ⟨S1056x128, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateOddRefIdeal.lean ====
abbrev S8448x2048 : Shape := ⟨2, ![8448, 2048]⟩
abbrev S2048x128 : Shape := ⟨2, ![2048, 128]⟩
abbrev S8448x128 : Shape := ⟨2, ![8448, 128]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x128, .bf16⟩
  | .hbm, ⟨2, _⟩ => ⟨S8448x2048, .f32⟩
  | .hbm, ⟨3, _⟩ => ⟨S2048x128, .f32⟩
  | .hbm, ⟨4, _⟩ => ⟨S8448x128, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BackDown.lean ====
abbrev S8448x2048 : Shape := ⟨2, ![8448, 2048]⟩
abbrev S5632x2048 : Shape := ⟨2, ![5632, 2048]⟩
abbrev S8448x5632 : Shape := ⟨2, ![8448, 5632]⟩
abbrev S1056x2048 : Shape := ⟨2, ![1056, 2048]⟩
abbrev S1408x2048 : Shape := ⟨2, ![1408, 2048]⟩
abbrev S1056x1408 : Shape := ⟨2, ![1056, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .bf16⟩
  | .hbm, ⟨2, _⟩ => ⟨S8448x5632, .f32⟩
  | .local _ .vmem, ⟨0, _⟩ => ⟨S1056x2048, .bf16⟩
  | .local _ .vmem, ⟨1, _⟩ => ⟨S1056x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1056x1408, .f32⟩
  | .local _ .vmem, ⟨5, _⟩ => ⟨S1056x1408, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackDownRefIdeal.lean ====
abbrev S8448x2048 : Shape := ⟨2, ![8448, 2048]⟩
abbrev S5632x2048 : Shape := ⟨2, ![5632, 2048]⟩
abbrev S2048x5632 : Shape := ⟨2, ![2048, 5632]⟩
abbrev S8448x5632 : Shape := ⟨2, ![8448, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .bf16⟩
  | .hbm, ⟨2, _⟩ => ⟨S8448x2048, .f32⟩
  | .hbm, ⟨3, _⟩ => ⟨S5632x2048, .f32⟩
  | .hbm, ⟨4, _⟩ => ⟨S2048x5632, .f32⟩
  | .hbm, ⟨5, _⟩ => ⟨S8448x5632, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BackEven.lean ====
abbrev S8448x2048 : Shape := ⟨2, ![8448, 2048]⟩
abbrev S2048x2048 : Shape := ⟨2, ![2048, 2048]⟩
abbrev S1056x2048 : Shape := ⟨2, ![1056, 2048]⟩
abbrev S1024x2048 : Shape := ⟨2, ![1024, 2048]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1056x1024, .f32⟩
  | .local _ .vmem, ⟨5, _⟩ => ⟨S1056x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackEvenRefIdeal.lean ====
abbrev S8448x2048 : Shape := ⟨2, ![8448, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S2048x2048, .f32⟩
  | .hbm, ⟨4, _⟩ => ⟨S2048x2048, .f32⟩
  | .hbm, ⟨5, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BackOdd.lean ====
abbrev S8448x2048 : Shape := ⟨2, ![8448, 2048]⟩
abbrev S4096x2048 : Shape := ⟨2, ![4096, 2048]⟩
abbrev S8448x4096 : Shape := ⟨2, ![8448, 4096]⟩
abbrev S1056x2048 : Shape := ⟨2, ![1056, 2048]⟩
abbrev S1024x2048 : Shape := ⟨2, ![1024, 2048]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4096x2048, .bf16⟩
  | .hbm, ⟨2, _⟩ => ⟨S8448x4096, .f32⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1056x1024, .f32⟩
  | .local _ .vmem, ⟨5, _⟩ => ⟨S1056x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackOddRefIdeal.lean ====
abbrev S8448x2048 : Shape := ⟨2, ![8448, 2048]⟩
abbrev S4096x2048 : Shape := ⟨2, ![4096, 2048]⟩
abbrev S2048x4096 : Shape := ⟨2, ![2048, 4096]⟩
abbrev S8448x4096 : Shape := ⟨2, ![8448, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4096x2048, .bf16⟩
  | .hbm, ⟨2, _⟩ => ⟨S8448x2048, .f32⟩
  | .hbm, ⟨3, _⟩ => ⟨S4096x2048, .f32⟩
  | .hbm, ⟨4, _⟩ => ⟨S2048x4096, .f32⟩
  | .hbm, ⟨5, _⟩ => ⟨S8448x4096, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BackGate.lean ====
abbrev S8448x128 : Shape := ⟨2, ![8448, 128]⟩
abbrev S2048x128 : Shape := ⟨2, ![2048, 128]⟩
abbrev S8448x2048 : Shape := ⟨2, ![8448, 2048]⟩
abbrev S1056x128 : Shape := ⟨2, ![1056, 128]⟩
abbrev S1024x128 : Shape := ⟨2, ![1024, 128]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x128, .bf16⟩
  | .hbm, ⟨1, _⟩ => ⟨S2048x128, .bf16⟩
  | .hbm, ⟨2, _⟩ => ⟨S8448x2048, .f32⟩
  | .local _ .vmem, ⟨0, _⟩ => ⟨S1056x128, .bf16⟩
  | .local _ .vmem, ⟨1, _⟩ => ⟨S1056x128, .bf16⟩
  | .local _ .vmem, ⟨2, _⟩ => ⟨S1024x128, .bf16⟩
  | .local _ .vmem, ⟨3, _⟩ => ⟨S1024x128, .bf16⟩
  | .local _ .vmem, ⟨4, _⟩ => ⟨S1056x1024, .f32⟩
  | .local _ .vmem, ⟨5, _⟩ => ⟨S1056x1024, .f32⟩
  | _, _ => ⟨S8448x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackGateRefIdeal.lean ====
abbrev S8448x128 : Shape := ⟨2, ![8448, 128]⟩
abbrev S2048x128 : Shape := ⟨2, ![2048, 128]⟩
abbrev S128x2048 : Shape := ⟨2, ![128, 2048]⟩
abbrev S8448x2048 : Shape := ⟨2, ![8448, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x128, .bf16⟩
  | .hbm, ⟨1, _⟩ => ⟨S2048x128, .bf16⟩
  | .hbm, ⟨2, _⟩ => ⟨S8448x128, .f32⟩
  | .hbm, ⟨3, _⟩ => ⟨S2048x128, .f32⟩
  | .hbm, ⟨4, _⟩ => ⟨S128x2048, .f32⟩
  | .hbm, ⟨5, _⟩ => ⟨S8448x2048, .f32⟩
  | _, _ => ⟨S8448x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Second.lean ====
abbrev S8448x5632 : Shape := ⟨2, ![8448, 5632]⟩
abbrev S5632x2048 : Shape := ⟨2, ![5632, 2048]⟩
abbrev S8448x2048 : Shape := ⟨2, ![8448, 2048]⟩
abbrev S1056x2816 : Shape := ⟨2, ![1056, 2816]⟩
abbrev S2816x512 : Shape := ⟨2, ![2816, 512]⟩
abbrev S1056x512 : Shape := ⟨2, ![1056, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .local _ .vmem, ⟨0, _⟩ => ⟨S1056x2816, .bf16⟩
  | .local _ .vmem, ⟨1, _⟩ => ⟨S1056x2816, .bf16⟩
  | .local _ .vmem, ⟨2, _⟩ => ⟨S2816x512, .bf16⟩
  | .local _ .vmem, ⟨3, _⟩ => ⟨S2816x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SecondRefIdeal.lean ====
abbrev S8448x5632 : Shape := ⟨2, ![8448, 5632]⟩
abbrev S5632x2048 : Shape := ⟨2, ![5632, 2048]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x5632, .f32⟩
  | .hbm, ⟨3, _⟩ => ⟨S5632x2048, .f32⟩
  | .hbm, ⟨4, _⟩ => ⟨S8448x2048, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOdd.lean ====
abbrev S8448x4096 : Shape := ⟨2, ![8448, 4096]⟩
abbrev S4096x2048 : Shape := ⟨2, ![4096, 2048]⟩
abbrev S8448x2048 : Shape := ⟨2, ![8448, 2048]⟩
abbrev S1056x2048 : Shape := ⟨2, ![1056, 2048]⟩
abbrev S2048x512 : Shape := ⟨2, ![2048, 512]⟩
abbrev S1056x512 : Shape := ⟨2, ![1056, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S4096x2048, .bf16⟩
  | .hbm, ⟨2, _⟩ => ⟨S8448x2048, .f32⟩
  | .local _ .vmem, ⟨0, _⟩ => ⟨S1056x2048, .bf16⟩
  | .local _ .vmem, ⟨1, _⟩ => ⟨S1056x2048, .bf16⟩
  | .local _ .vmem, ⟨2, _⟩ => ⟨S2048x512, .bf16⟩
  | .local _ .vmem, ⟨3, _⟩ => ⟨S2048x512, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOddRefIdeal.lean ====
abbrev S8448x4096 : Shape := ⟨2, ![8448, 4096]⟩
abbrev S4096x2048 : Shape := ⟨2, ![4096, 2048]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x2048, .bf16⟩
  | .hbm, ⟨2, _⟩ => ⟨S8448x4096, .f32⟩
  | .hbm, ⟨3, _⟩ => ⟨S4096x2048, .f32⟩
  | .hbm, ⟨4, _⟩ => ⟨S8448x2048, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BackUp.lean ====
abbrev S8448x11264 : Shape := ⟨2, ![8448, 11264]⟩
abbrev S2048x11264 : Shape := ⟨2, ![2048, 11264]⟩
abbrev S8448x2048 : Shape := ⟨2, ![8448, 2048]⟩
abbrev S1056x2816 : Shape := ⟨2, ![1056, 2816]⟩
abbrev S1024x2816 : Shape := ⟨2, ![1024, 2816]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x11264, .bf16⟩
  | .hbm, ⟨1, _⟩ => ⟨S2048x11264, .bf16⟩
  | .hbm, ⟨2, _⟩ => ⟨S8448x2048, .f32⟩
  | .local _ .vmem, ⟨0, _⟩ => ⟨S1056x2816, .bf16⟩
  | .local _ .vmem, ⟨1, _⟩ => ⟨S1056x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S8448x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackUpRefIdeal.lean ====
abbrev S8448x11264 : Shape := ⟨2, ![8448, 11264]⟩
abbrev S2048x11264 : Shape := ⟨2, ![2048, 11264]⟩
abbrev S11264x2048 : Shape := ⟨2, ![11264, 2048]⟩
abbrev S8448x2048 : Shape := ⟨2, ![8448, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x11264, .bf16⟩
  | .hbm, ⟨1, _⟩ => ⟨S2048x11264, .bf16⟩
  | .hbm, ⟨2, _⟩ => ⟨S8448x11264, .f32⟩
  | .hbm, ⟨3, _⟩ => ⟨S2048x11264, .f32⟩
  | .hbm, ⟨4, _⟩ => ⟨S11264x2048, .f32⟩
  | .hbm, ⟨5, _⟩ => ⟨S8448x2048, .f32⟩
  | _, _ => ⟨S8448x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BackUpEven.lean ====
abbrev S8448x6144 : Shape := ⟨2, ![8448, 6144]⟩
abbrev S2048x6144 : Shape := ⟨2, ![2048, 6144]⟩
abbrev S8448x2048 : Shape := ⟨2, ![8448, 2048]⟩
abbrev S1056x2048 : Shape := ⟨2, ![1056, 2048]⟩
abbrev S1024x2048 : Shape := ⟨2, ![1024, 2048]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x6144, .bf16⟩
  | .hbm, ⟨1, _⟩ => ⟨S2048x6144, .bf16⟩
  | .hbm, ⟨2, _⟩ => ⟨S8448x2048, .f32⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S8448x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackUpEvenRefIdeal.lean ====
abbrev S8448x6144 : Shape := ⟨2, ![8448, 6144]⟩
abbrev S2048x6144 : Shape := ⟨2, ![2048, 6144]⟩
abbrev S6144x2048 : Shape := ⟨2, ![6144, 2048]⟩
abbrev S8448x2048 : Shape := ⟨2, ![8448, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x6144, .bf16⟩
  | .hbm, ⟨1, _⟩ => ⟨S2048x6144, .bf16⟩
  | .hbm, ⟨2, _⟩ => ⟨S8448x6144, .f32⟩
  | .hbm, ⟨3, _⟩ => ⟨S2048x6144, .f32⟩
  | .hbm, ⟨4, _⟩ => ⟨S6144x2048, .f32⟩
  | .hbm, ⟨5, _⟩ => ⟨S8448x2048, .f32⟩
  | _, _ => ⟨S8448x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BackUpOdd.lean ====
abbrev S8448x12288 : Shape := ⟨2, ![8448, 12288]⟩
abbrev S2048x12288 : Shape := ⟨2, ![2048, 12288]⟩
abbrev S8448x2048 : Shape := ⟨2, ![8448, 2048]⟩
abbrev S1056x2048 : Shape := ⟨2, ![1056, 2048]⟩
abbrev S1024x2048 : Shape := ⟨2, ![1024, 2048]⟩
abbrev S1056x1024 : Shape := ⟨2, ![1056, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8448x12288, .bf16⟩
  | .hbm, ⟨1, _⟩ => ⟨S2048x12288, .bf16⟩
  | .hbm, ⟨2, _⟩ => ⟨S8448x2048, .f32⟩
  | .hbm, ⟨3, _⟩ => ⟨S8448x2048, .f32⟩
  | .local _ .vmem, ⟨0, _⟩ => ⟨S1056x2048, .bf16⟩
  | .local _ .vmem, ⟨1, _⟩ => ⟨S1056x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | .local _ .vmem, ⟨7, _⟩ => ⟨S1056x1024, .f32⟩
  | .local _ .vmem, ⟨8, _⟩ => ⟨S1056x1024, .f32⟩
  | _, _ => ⟨S8448x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BackUpOddRefIdeal.lean ====
abbrev S8448x12288 : Shape := ⟨2, ![8448, 12288]⟩
abbrev S2048x12288 : Shape := ⟨2, ![2048, 12288]⟩
abbrev S8448x2048 : Shape := ⟨2, ![8448, 2048]⟩
abbrev S12288x2048 : Shape := ⟨2, ![12288, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8448x12288, .bf16⟩
  | .hbm, ⟨1, _⟩ => ⟨S2048x12288, .bf16⟩
  | .hbm, ⟨2, _⟩ => ⟨S8448x2048, .f32⟩
  | .hbm, ⟨3, _⟩ => ⟨S8448x12288, .f32⟩
  | .hbm, ⟨4, _⟩ => ⟨S2048x12288, .f32⟩
  | .hbm, ⟨5, _⟩ => ⟨S12288x2048, .f32⟩
  | .hbm, ⟨6, _⟩ => ⟨S8448x2048, .f32⟩
  | .hbm, ⟨7, _⟩ => ⟨S8448x2048, .f32⟩
  | _, _ => ⟨S8448x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Modulate.lean ====
abbrev S8448x2048 : Shape := ⟨2, ![8448, 2048]⟩
abbrev S2048 : Shape := ⟨1, ![2048]⟩
abbrev S2x6x2048 : Shape := ⟨3, ![2, 6, 2048]⟩
abbrev S1x2048 : Shape := ⟨2, ![1, 2048]⟩
abbrev S256x2048 : Shape := ⟨2, ![256, 2048]⟩
abbrev S1x6x2048 : Shape := ⟨3, ![1, 6, 2048]⟩
abbrev S6x2048 : Shape := ⟨2, ![6, 2048]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x6x2048, .f32⟩
  | .hbm, ⟨3, _⟩ => ⟨S1x2048, .f32⟩
  | .hbm, ⟨4, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2x6x2048, .f32⟩
  | .local _ .vmem, ⟨4, _⟩ => ⟨S256x2048, .bf16⟩
  | .local _ .vmem, ⟨5, _⟩ => ⟨S256x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulateRefIdeal.lean ====
abbrev S8448x2048 : Shape := ⟨2, ![8448, 2048]⟩
abbrev S2048 : Shape := ⟨1, ![2048]⟩
abbrev S2x6x2048 : Shape := ⟨3, ![2, 6, 2048]⟩
abbrev S8448 : Shape := ⟨1, ![8448]⟩
abbrev S8448x1 : Shape := ⟨2, ![8448, 1]⟩
abbrev S_ : Shape := ⟨0, ![]⟩
abbrev S1x1x2048 : Shape := ⟨3, ![1, 1, 2048]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2x6x2048, .f32⟩
  | .hbm, ⟨3, _⟩ => ⟨S8448, .i32⟩
  | .hbm, ⟨4, _⟩ => ⟨S8448x1, .i32⟩
  | .hbm, ⟨5, _⟩ => ⟨S_, .i32⟩
  | .hbm, ⟨6, _⟩ => ⟨S8448x1, .i32⟩
  | .hbm, ⟨7, _⟩ => ⟨S8448x1, .i1⟩
  | .hbm, ⟨8, _⟩ => ⟨S1x1x2048, .f32⟩
  | .hbm, ⟨9, _⟩ => ⟨S2048, .f32⟩
  | .hbm, ⟨10, _⟩ => ⟨S1x1x2048, .f32⟩
  | .hbm, ⟨11, _⟩ => ⟨S2048, .f32⟩
  | .hbm, ⟨12, _⟩ => ⟨S8448x2048, .i1⟩
  | .hbm, ⟨13, _⟩ => ⟨S8448x2048, .f32⟩
  | .hbm, ⟨14, _⟩ => ⟨S8448x2048, .f32⟩
  | .hbm, ⟨15, _⟩ => ⟨S8448x2048, .f32⟩
  | .hbm, ⟨16, _⟩ => ⟨S_, .i32⟩
  | .hbm, ⟨17, _⟩ => ⟨S8448x1, .i32⟩
  | .hbm, ⟨18, _⟩ => ⟨S8448x1, .i1⟩
  | .hbm, ⟨19, _⟩ => ⟨S1x1x2048, .f32⟩
  | .hbm, ⟨20, _⟩ => ⟨S2048, .f32⟩
  | .hbm, ⟨21, _⟩ => ⟨S1x1x2048, .f32⟩
  | .hbm, ⟨22, _⟩ => ⟨S2048, .f32⟩
  | .hbm, ⟨23, _⟩ => ⟨S8448x2048, .i1⟩
  | .hbm, ⟨24, _⟩ => ⟨S8448x2048, .f32⟩
  | .hbm, ⟨25, _⟩ => ⟨S8448x2048, .f32⟩
  | .hbm, ⟨26, _⟩ => ⟨S8448x2048, .f32⟩
  | .hbm, ⟨27, _⟩ => ⟨S8448x2048, .f32⟩
  | .hbm, ⟨28, _⟩ => ⟨S_, .f32⟩
  | .hbm, ⟨29, _⟩ => ⟨S8448, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S_, .f32⟩
  | .hbm, ⟨35, _⟩ => ⟨S8448x1, .f32⟩
  | .hbm, ⟨36, _⟩ => ⟨S8448x1, .f32⟩
  | .hbm, ⟨37, _⟩ => ⟨S8448x1, .f32⟩
  | .hbm, ⟨38, _⟩ => ⟨S8448x2048, .f32⟩
  | .hbm, ⟨39, _⟩ => ⟨S8448x2048, .f32⟩
  | .hbm, ⟨40, _⟩ => ⟨S1x2048, .f32⟩
  | .hbm, ⟨41, _⟩ => ⟨S8448x2048, .f32⟩
  | .hbm, ⟨42, _⟩ => ⟨S8448x2048, .f32⟩
  | .hbm, ⟨43, _⟩ => ⟨S_, .f32⟩
  | .hbm, ⟨44, _⟩ => ⟨S8448x2048, .f32⟩
  | .hbm, ⟨45, _⟩ => ⟨S8448x2048, .f32⟩
  | .hbm, ⟨46, _⟩ => ⟨S8448x2048, .f32⟩
  | .hbm, ⟨47, _⟩ => ⟨S8448x2048, .f32⟩
  | .hbm, ⟨48, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Residual.lean ====
abbrev S8448x2048 : Shape := ⟨2, ![8448, 2048]⟩
abbrev S2048 : Shape := ⟨1, ![2048]⟩
abbrev S2x6x2048 : Shape := ⟨3, ![2, 6, 2048]⟩
abbrev S1x2048 : Shape := ⟨2, ![1, 2048]⟩
abbrev S256x2048 : Shape := ⟨2, ![256, 2048]⟩
abbrev S1x6x2048 : Shape := ⟨3, ![1, 6, 2048]⟩
abbrev S6x2048 : Shape := ⟨2, ![6, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2048, .f32⟩
  | .hbm, ⟨3, _⟩ => ⟨S2x6x2048, .f32⟩
  | .hbm, ⟨4, _⟩ => ⟨S1x2048, .f32⟩
  | .hbm, ⟨5, _⟩ => ⟨S8448x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2x6x2048, .f32⟩
  | .local _ .vmem, ⟨6, _⟩ => ⟨S256x2048, .f32⟩
  | .local _ .vmem, ⟨7, _⟩ => ⟨S256x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResidualRefIdeal.lean ====
abbrev S8448x2048 : Shape := ⟨2, ![8448, 2048]⟩
abbrev S2048 : Shape := ⟨1, ![2048]⟩
abbrev S2x6x2048 : Shape := ⟨3, ![2, 6, 2048]⟩
abbrev S8448 : Shape := ⟨1, ![8448]⟩
abbrev S8448x1 : Shape := ⟨2, ![8448, 1]⟩
abbrev S_ : Shape := ⟨0, ![]⟩
abbrev S1x1x2048 : Shape := ⟨3, ![1, 1, 2048]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2048, .f32⟩
  | .hbm, ⟨3, _⟩ => ⟨S2x6x2048, .f32⟩
  | .hbm, ⟨4, _⟩ => ⟨S8448, .i32⟩
  | .hbm, ⟨5, _⟩ => ⟨S8448x1, .i32⟩
  | .hbm, ⟨6, _⟩ => ⟨S_, .i32⟩
  | .hbm, ⟨7, _⟩ => ⟨S8448x1, .i32⟩
  | .hbm, ⟨8, _⟩ => ⟨S8448x1, .i1⟩
  | .hbm, ⟨9, _⟩ => ⟨S1x1x2048, .f32⟩
  | .hbm, ⟨10, _⟩ => ⟨S2048, .f32⟩
  | .hbm, ⟨11, _⟩ => ⟨S1x1x2048, .f32⟩
  | .hbm, ⟨12, _⟩ => ⟨S2048, .f32⟩
  | .hbm, ⟨13, _⟩ => ⟨S8448x2048, .i1⟩
  | .hbm, ⟨14, _⟩ => ⟨S8448x2048, .f32⟩
  | .hbm, ⟨15, _⟩ => ⟨S8448x2048, .f32⟩
  | .hbm, ⟨16, _⟩ => ⟨S8448x2048, .f32⟩
  | .hbm, ⟨17, _⟩ => ⟨S8448x2048, .f32⟩
  | .hbm, ⟨18, _⟩ => ⟨S_, .f32⟩
  | .hbm, ⟨19, _⟩ => ⟨S8448, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S_, .f32⟩
  | .hbm, ⟨25, _⟩ => ⟨S8448x1, .f32⟩
  | .hbm, ⟨26, _⟩ => ⟨S8448x1, .f32⟩
  | .hbm, ⟨27, _⟩ => ⟨S8448x1, .f32⟩
  | .hbm, ⟨28, _⟩ => ⟨S8448x2048, .f32⟩
  | .hbm, ⟨29, _⟩ => ⟨S8448x2048, .f32⟩
  | .hbm, ⟨30, _⟩ => ⟨S1x2048, .f32⟩
  | .hbm, ⟨31, _⟩ => ⟨S8448x2048, .f32⟩
  | .hbm, ⟨32, _⟩ => ⟨S8448x2048, .f32⟩
  | .hbm, ⟨33, _⟩ => ⟨S8448x2048, .f32⟩
  | .hbm, ⟨34, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Activation.lean ====
abbrev S8448x11264 : Shape := ⟨2, ![8448, 11264]⟩
abbrev S8448x5632 : Shape := ⟨2, ![8448, 5632]⟩
abbrev S128x11264 : Shape := ⟨2, ![128, 11264]⟩
abbrev S128x5632 : Shape := ⟨2, ![128, 5632]⟩

abbrev nBuf : Space → Nat
  | .hbm => 2
  | .vmem => 4
  | .smem => 0
  | _ => 0

abbrev bufTy : (tb : Table) → Fin (tcTables nBuf tb) → BufTy
  | .hbm, ⟨0, _⟩ => ⟨S8448x11264, .f32⟩
  | .hbm, ⟨1, _⟩ => ⟨S8448x5632, .bf16⟩
  | .local _ .vmem, ⟨0, _⟩ => ⟨S128x11264, .f32⟩
  | .local _ .vmem, ⟨1, _⟩ => ⟨S128x11264, .f32⟩
  | .local _ .vmem, ⟨2, _⟩ => ⟨S128x5632, .bf16⟩
  | .local _ .vmem, ⟨3, _⟩ => ⟨S128x5632, .bf16⟩
  | _, _ => ⟨S8448x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x11264 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ActivationRefIdeal.lean ====
abbrev S8448x11264 : Shape := ⟨2, ![8448, 11264]⟩
abbrev S8448x5632 : Shape := ⟨2, ![8448, 5632]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8448x11264, .f32⟩
  | .hbm, ⟨1, _⟩ => ⟨S8448x5632, .f32⟩
  | .hbm, ⟨2, _⟩ => ⟨S8448x5632, .f32⟩
  | .hbm, ⟨3, _⟩ => ⟨S8448x5632, .f32⟩
  | .hbm, ⟨4, _⟩ => ⟨S8448x5632, .f32⟩
  | .hbm, ⟨5, _⟩ => ⟨S_, .f32⟩
  | .hbm, ⟨6, _⟩ => ⟨S8448x5632, .f32⟩
  | .hbm, ⟨7, _⟩ => ⟨S8448x5632, .f32⟩
  | .hbm, ⟨8, _⟩ => ⟨S_, .f32⟩
  | .hbm, ⟨9, _⟩ => ⟨S8448x5632, .f32⟩
  | .hbm, ⟨10, _⟩ => ⟨S8448x5632, .f32⟩
  | .hbm, ⟨11, _⟩ => ⟨S8448x5632, .f32⟩
  | .hbm, ⟨12, _⟩ => ⟨S8448x5632, .f32⟩
  | .hbm, ⟨13, _⟩ => ⟨S8448x5632, .bf16⟩
  | _, _ => ⟨S8448x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== ActivationBack.lean ====
abbrev S8448x11264 : Shape := ⟨2, ![8448, 11264]⟩
abbrev S8448x5632 : Shape := ⟨2, ![8448, 5632]⟩
abbrev S128x11264 : Shape := ⟨2, ![128, 11264]⟩
abbrev S128x5632 : Shape := ⟨2, ![128, 5632]⟩

abbrev nBuf : Space → Nat
  | .hbm => 3
  | .vmem => 6
  | .smem => 0
  | _ => 0

abbrev bufTy : (tb : Table) → Fin (tcTables nBuf tb) → BufTy
  | .hbm, ⟨0, _⟩ => ⟨S8448x11264, .f32⟩
  | .hbm, ⟨1, _⟩ => ⟨S8448x5632, .f32⟩
  | .hbm, ⟨2, _⟩ => ⟨S8448x11264, .bf16⟩
  | .local _ .vmem, ⟨0, _⟩ => ⟨S128x11264, .f32⟩
  | .local _ .vmem, ⟨1, _⟩ => ⟨S128x11264, .f32⟩
  | .local _ .vmem, ⟨2, _⟩ => ⟨S128x5632, .f32⟩
  | .local _ .vmem, ⟨3, _⟩ => ⟨S128x5632, .f32⟩
  | .local _ .vmem, ⟨4, _⟩ => ⟨S128x11264, .bf16⟩
  | .local _ .vmem, ⟨5, _⟩ => ⟨S128x11264, .bf16⟩
  | _, _ => ⟨S8448x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x11264 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x11264 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ActivationBackRefIdeal.lean ====
abbrev S8448x11264 : Shape := ⟨2, ![8448, 11264]⟩
abbrev S8448x5632 : Shape := ⟨2, ![8448, 5632]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8448x11264, .f32⟩
  | .hbm, ⟨1, _⟩ => ⟨S8448x5632, .f32⟩
  | .hbm, ⟨2, _⟩ => ⟨S8448x5632, .f32⟩
  | .hbm, ⟨3, _⟩ => ⟨S8448x5632, .f32⟩
  | .hbm, ⟨4, _⟩ => ⟨S8448x5632, .f32⟩
  | .hbm, ⟨5, _⟩ => ⟨S8448x5632, .f32⟩
  | .hbm, ⟨6, _⟩ => ⟨S_, .f32⟩
  | .hbm, ⟨7, _⟩ => ⟨S8448x5632, .f32⟩
  | .hbm, ⟨8, _⟩ => ⟨S8448x5632, .f32⟩
  | .hbm, ⟨9, _⟩ => ⟨S_, .f32⟩
  | .hbm, ⟨10, _⟩ => ⟨S8448x5632, .f32⟩
  | .hbm, ⟨11, _⟩ => ⟨S8448x5632, .f32⟩
  | .hbm, ⟨12, _⟩ => ⟨S_, .f32⟩
  | .hbm, ⟨13, _⟩ => ⟨S8448x5632, .f32⟩
  | .hbm, ⟨14, _⟩ => ⟨S8448x5632, .f32⟩
  | .hbm, ⟨15, _⟩ => ⟨S8448x5632, .f32⟩
  | .hbm, ⟨16, _⟩ => ⟨S8448x5632, .f32⟩
  | .hbm, ⟨17, _⟩ => ⟨S8448x5632, .f32⟩
  | .hbm, ⟨18, _⟩ => ⟨S8448x5632, .f32⟩
  | .hbm, ⟨19, _⟩ => ⟨S8448x5632, .f32⟩
  | .hbm, ⟨20, _⟩ => ⟨S8448x5632, .f32⟩
  | .hbm, ⟨21, _⟩ => ⟨S8448x5632, .f32⟩
  | .hbm, ⟨22, _⟩ => ⟨S8448x5632, .f32⟩
  | .hbm, ⟨23, _⟩ => ⟨S8448x5632, .f32⟩
  | .hbm, ⟨24, _⟩ => ⟨S8448x11264, .f32⟩
  | .hbm, ⟨25, _⟩ => ⟨S8448x11264, .bf16⟩
  | _, _ => ⟨S8448x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== ResidualBack.lean ====
abbrev S8448x2048 : Shape := ⟨2, ![8448, 2048]⟩
abbrev S2048 : Shape := ⟨1, ![2048]⟩
abbrev S2x6x2048 : Shape := ⟨3, ![2, 6, 2048]⟩
abbrev S1x2048 : Shape := ⟨2, ![1, 2048]⟩
abbrev S256x2048 : Shape := ⟨2, ![256, 2048]⟩
abbrev S1x6x2048 : Shape := ⟨3, ![1, 6, 2048]⟩
abbrev S6x2048 : Shape := ⟨2, ![6, 2048]⟩
abbrev S256 : Shape := ⟨1, ![256]⟩
abbrev S256x1 : Shape := ⟨2, ![256, 1]⟩
abbrev S2x2048 : Shape := ⟨2, ![2, 2048]⟩
abbrev S3x2048 : Shape := ⟨2, ![3, 2048]⟩

abbrev nBuf : Space → Nat
  | .hbm => 9
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2048, .f32⟩
  | .hbm, ⟨3, _⟩ => ⟨S2x6x2048, .f32⟩
  | .hbm, ⟨4, _⟩ => ⟨S8448x2048, .f32⟩
  | .hbm, ⟨5, _⟩ => ⟨S1x2048, .f32⟩
  | .hbm, ⟨6, _⟩ => ⟨S8448x2048, .bf16⟩
  | .hbm, ⟨7, _⟩ => ⟨S1x2048, .f32⟩
  | .hbm, ⟨8, _⟩ => ⟨S2x6x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2x6x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S2x6x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_22 : BitVec 32 := 0#32
  let v70 : BitVec 1 := Scalar.cmpi .ne v69 c0_i32_22
  v70

def k0_cond2 (i : grid0.Coords) : BitVec 1 :=
  let arg0 : BitVec 32 := BitVec.ofNat 32 (i 0).val
  let c0_i32 : BitVec 32 := 0#32
  let v68 : BitVec 1 := Scalar.cmpi .eq arg0 c0_i32
  let v_true : BitVec 1 := 1#1
  let v71 : BitVec 1 := Scalar.xori v68 v_true
  let v72 : BitVec 32 := Scalar.extui v71
  let c0_i32_23 : BitVec 32 := 0#32
  let v73 : BitVec 1 := Scalar.cmpi .ne v72 c0_i32_23
  v73

def k0_cond3 (i : grid0.Coords) : BitVec 1 :=
  let arg0 : BitVec 32 := BitVec.ofNat 32 (i 0).val
  let c0_i32_24 : BitVec 32 := 0#32
  let v74 : BitVec 1 := Scalar.cmpi .eq arg0 c0_i32_24
  let v75 : BitVec 32 := Scalar.extui v74
  let c0_i32_25 : BitVec 32 := 0#32
  let v76 : BitVec 1 := Scalar.cmpi .ne v75 c0_i32_25
  v76

def k0_cond4 (i : grid0.Coords) : BitVec 1 :=
  let arg0 : BitVec 32 := BitVec.ofNat 32 (i 0).val
  let c0_i32_24 : BitVec 32 := 0#32
  let v74 : BitVec 1 := Scalar.cmpi .eq arg0 c0_i32_24
  let true_26 : BitVec 1 := 1#1
  let v77 : BitVec 1 := Scalar.xori v74 true_26
  let v78 : BitVec 32 := Scalar.extui v77
  let c0_i32_27 : BitVec 32 := 0#32
  let v79 : BitVec 1 := Scalar.cmpi .ne v78 c0_i32_27
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x6x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ResidualBackRefIdeal.lean ====
abbrev S8448x2048 : Shape := ⟨2, ![8448, 2048]⟩
abbrev S2048 : Shape := ⟨1, ![2048]⟩
abbrev S2x6x2048 : Shape := ⟨3, ![2, 6, 2048]⟩
abbrev S8448 : Shape := ⟨1, ![8448]⟩
abbrev S8448x1 : Shape := ⟨2, ![8448, 1]⟩
abbrev S_ : Shape := ⟨0, ![]⟩
abbrev S1x1x2048 : Shape := ⟨3, ![1, 1, 2048]⟩
abbrev S1x2048 : Shape := ⟨2, ![1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2048, .f32⟩
  | .hbm, ⟨3, _⟩ => ⟨S2x6x2048, .f32⟩
  | .hbm, ⟨4, _⟩ => ⟨S8448x2048, .f32⟩
  | .hbm, ⟨5, _⟩ => ⟨S8448, .i32⟩
  | .hbm, ⟨6, _⟩ => ⟨S8448x1, .i32⟩
  | .hbm, ⟨7, _⟩ => ⟨S_, .i32⟩
  | .hbm, ⟨8, _⟩ => ⟨S8448x1, .i32⟩
  | .hbm, ⟨9, _⟩ => ⟨S8448x1, .i1⟩
  | .hbm, ⟨10, _⟩ => ⟨S1x1x2048, .f32⟩
  | .hbm, ⟨11, _⟩ => ⟨S2048, .f32⟩
  | .hbm, ⟨12, _⟩ => ⟨S1x1x2048, .f32⟩
  | .hbm, ⟨13, _⟩ => ⟨S2048, .f32⟩
  | .hbm, ⟨14, _⟩ => ⟨S8448x2048, .i1⟩
  | .hbm, ⟨15, _⟩ => ⟨S8448x2048, .f32⟩
  | .hbm, ⟨16, _⟩ => ⟨S8448x2048, .f32⟩
  | .hbm, ⟨17, _⟩ => ⟨S8448x2048, .f32⟩
  | .hbm, ⟨18, _⟩ => ⟨S8448x2048, .f32⟩
  | .hbm, ⟨19, _⟩ => ⟨S_, .f32⟩
  | .hbm, ⟨20, _⟩ => ⟨S8448, .f32⟩
  | .hbm, ⟨21, _⟩ => ⟨S8448x1, .f32⟩
  | .hbm, ⟨22, _⟩ => ⟨S_, .f32⟩
  | .hbm, ⟨23, _⟩ => ⟨S8448x1, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S8448x2048, .f32⟩
  | .hbm, ⟨34, _⟩ => ⟨S8448x2048, .f32⟩
  | .hbm, ⟨35, _⟩ => ⟨S1x2048, .f32⟩
  | .hbm, ⟨36, _⟩ => ⟨S8448x2048, .f32⟩
  | .hbm, ⟨37, _⟩ => ⟨S8448x2048, .f32⟩
  | .hbm, ⟨38, _⟩ => ⟨S8448x2048, .f32⟩
  | .hbm, ⟨39, _⟩ => ⟨S8448x2048, .f32⟩
  | .hbm, ⟨40, _⟩ => ⟨S8448x2048, .f32⟩
  | .hbm, ⟨41, _⟩ => ⟨S8448x2048, .f32⟩
  | .hbm, ⟨42, _⟩ => ⟨S8448x2048, .f32⟩
  | .hbm, ⟨43, _⟩ => ⟨S8448x2048, .f32⟩
  | .hbm, ⟨44, _⟩ => ⟨S_, .f32⟩
  | .hbm, ⟨45, _⟩ => ⟨S8448, .f32⟩
  | .hbm, ⟨46, _⟩ => ⟨S8448x1, .f32⟩
  | .hbm, ⟨47, _⟩ => ⟨S8448x2048, .f32⟩
  | .hbm, ⟨48, _⟩ => ⟨S8448x2048, .f32⟩
  | .hbm, ⟨49, _⟩ => ⟨S8448x1, .f32⟩
  | .hbm, ⟨50, _⟩ => ⟨S_, .f32⟩
  | .hbm, ⟨51, _⟩ => ⟨S8448x1, .f32⟩
  | .hbm, ⟨52, _⟩ => ⟨S8448x1, .f32⟩
  | .hbm, ⟨53, _⟩ => ⟨S_, .f32⟩
  | .hbm, ⟨54, _⟩ => ⟨S8448, .f32⟩
  | .hbm, ⟨55, _⟩ => ⟨S8448x2048, .f32⟩
  | .hbm, ⟨56, _⟩ => ⟨S8448x2048, .f32⟩
  | .hbm, ⟨57, _⟩ => ⟨S8448x2048, .f32⟩
  | .hbm, ⟨58, _⟩ => ⟨S8448x2048, .f32⟩
  | .hbm, ⟨59, _⟩ => ⟨S8448x2048, .f32⟩
  | .hbm, ⟨60, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== ReadEven.lean ====
abbrev S8448x1024 : Shape := ⟨2, ![8448, 1024]⟩
abbrev S8448x6144 : Shape := ⟨2, ![8448, 6144]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x6144, .f32⟩
  | .hbm, ⟨3, _⟩ => ⟨S1x128, .f32⟩
  | .hbm, ⟨4, _⟩ => ⟨S8448x1024, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S256x128, .bf16⟩
  | .local _ .vmem, ⟨8, _⟩ => ⟨S256x128, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReadEvenRefIdeal.lean ====
abbrev S8448x1024 : Shape := ⟨2, ![8448, 1024]⟩
abbrev S8448x6144 : Shape := ⟨2, ![8448, 6144]⟩
abbrev S1x128 : Shape := ⟨2, ![1, 128]⟩
abbrev S8448x8x128 : Shape := ⟨3, ![8448, 8, 128]⟩
abbrev S_ : Shape := ⟨0, ![]⟩
abbrev S8448x8 : Shape := ⟨2, ![8448, 8]⟩
abbrev S8448x8x1 : Shape := ⟨3, ![8448, 8, 1]⟩
abbrev S128 : Shape := ⟨1, ![128]⟩
abbrev S1x1x128 : Shape := ⟨3, ![1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x6144, .f32⟩
  | .hbm, ⟨3, _⟩ => ⟨S1x128, .f32⟩
  | .hbm, ⟨4, _⟩ => ⟨S8448x1024, .f32⟩
  | .hbm, ⟨5, _⟩ => ⟨S8448x8x128, .f32⟩
  | .hbm, ⟨6, _⟩ => ⟨S8448x1024, .f32⟩
  | .hbm, ⟨7, _⟩ => ⟨S8448x8x128, .f32⟩
  | .hbm, ⟨8, _⟩ => ⟨S8448x8x128, .f32⟩
  | .hbm, ⟨9, _⟩ => ⟨S_, .f32⟩
  | .hbm, ⟨10, _⟩ => ⟨S8448x8, .f32⟩
  | .hbm, ⟨11, _⟩ => ⟨S8448x8x1, .f32⟩
  | .hbm, ⟨12, _⟩ => ⟨S_, .f32⟩
  | .hbm, ⟨13, _⟩ => ⟨S8448x8x1, .f32⟩
  | .hbm, ⟨14, _⟩ => ⟨S8448x8x1, .f32⟩
  | .hbm, ⟨15, _⟩ => ⟨S_, .f32⟩
  | .hbm, ⟨16, _⟩ => ⟨S8448x8x1, .f32⟩
  | .hbm, ⟨17, _⟩ => ⟨S8448x8x1, .f32⟩
  | .hbm, ⟨18, _⟩ => ⟨S8448x8x1, .f32⟩
  | .hbm, ⟨19, _⟩ => ⟨S8448x8x128, .f32⟩
  | .hbm, ⟨20, _⟩ => ⟨S8448x8x128, .f32⟩
  | .hbm, ⟨21, _⟩ => ⟨S128, .f32⟩
  | .hbm, ⟨22, _⟩ => ⟨S1x1x128, .f32⟩
  | .hbm, ⟨23, _⟩ => ⟨S8448x8x128, .f32⟩
  | .hbm, ⟨24, _⟩ => ⟨S8448x8x128, .f32⟩
  | .hbm, ⟨25, _⟩ => ⟨S8448x8x128, .f32⟩
  | .hbm, ⟨26, _⟩ => ⟨S8448x8x128, .f32⟩
  | .hbm, ⟨27, _⟩ => ⟨S_, .f32⟩
  | .hbm, ⟨28, _⟩ => ⟨S8448x8x128, .f32⟩
  | .hbm, ⟨29, _⟩ => ⟨S8448x8x128, .f32⟩
  | .hbm, ⟨30, _⟩ => ⟨S_, .f32⟩
  | .hbm, ⟨31, _⟩ => ⟨S8448x8x128, .f32⟩
  | .hbm, ⟨32, _⟩ => ⟨S8448x8x128, .f32⟩
  | .hbm, ⟨33, _⟩ => ⟨S8448x8x128, .f32⟩
  | .hbm, ⟨34, _⟩ => ⟨S8448x8x128, .f32⟩
  | .hbm, ⟨35, _⟩ => ⟨S8448x1024, .f32⟩
  | .hbm, ⟨36, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== ReadOdd.lean ====
abbrev S8448x4096 : Shape := ⟨2, ![8448, 4096]⟩
abbrev S8448x12288 : Shape := ⟨2, ![8448, 12288]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8448x4096, .f32⟩
  | .hbm, ⟨1, _⟩ => ⟨S8448x4096, .f32⟩
  | .hbm, ⟨2, _⟩ => ⟨S8448x12288, .f32⟩
  | .hbm, ⟨3, _⟩ => ⟨S1x128, .f32⟩
  | .hbm, ⟨4, _⟩ => ⟨S8448x4096, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S256x128, .bf16⟩
  | .local _ .vmem, ⟨8, _⟩ => ⟨S256x128, .bf16⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReadOddRefIdeal.lean ====
abbrev S8448x4096 : Shape := ⟨2, ![8448, 4096]⟩
abbrev S8448x12288 : Shape := ⟨2, ![8448, 12288]⟩
abbrev S1x128 : Shape := ⟨2, ![1, 128]⟩
abbrev S8448x32x128 : Shape := ⟨3, ![8448, 32, 128]⟩
abbrev S_ : Shape := ⟨0, ![]⟩
abbrev S8448x32 : Shape := ⟨2, ![8448, 32]⟩
abbrev S8448x32x1 : Shape := ⟨3, ![8448, 32, 1]⟩
abbrev S128 : Shape := ⟨1, ![128]⟩
abbrev S1x1x128 : Shape := ⟨3, ![1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S8448x4096, .f32⟩
  | .hbm, ⟨2, _⟩ => ⟨S8448x12288, .f32⟩
  | .hbm, ⟨3, _⟩ => ⟨S1x128, .f32⟩
  | .hbm, ⟨4, _⟩ => ⟨S8448x4096, .f32⟩
  | .hbm, ⟨5, _⟩ => ⟨S8448x32x128, .f32⟩
  | .hbm, ⟨6, _⟩ => ⟨S8448x4096, .f32⟩
  | .hbm, ⟨7, _⟩ => ⟨S8448x32x128, .f32⟩
  | .hbm, ⟨8, _⟩ => ⟨S8448x32x128, .f32⟩
  | .hbm, ⟨9, _⟩ => ⟨S_, .f32⟩
  | .hbm, ⟨10, _⟩ => ⟨S8448x32, .f32⟩
  | .hbm, ⟨11, _⟩ => ⟨S8448x32x1, .f32⟩
  | .hbm, ⟨12, _⟩ => ⟨S_, .f32⟩
  | .hbm, ⟨13, _⟩ => ⟨S8448x32x1, .f32⟩
  | .hbm, ⟨14, _⟩ => ⟨S8448x32x1, .f32⟩
  | .hbm, ⟨15, _⟩ => ⟨S_, .f32⟩
  | .hbm, ⟨16, _⟩ => ⟨S8448x32x1, .f32⟩
  | .hbm, ⟨17, _⟩ => ⟨S8448x32x1, .f32⟩
  | .hbm, ⟨18, _⟩ => ⟨S8448x32x1, .f32⟩
  | .hbm, ⟨19, _⟩ => ⟨S8448x32x128, .f32⟩
  | .hbm, ⟨20, _⟩ => ⟨S8448x32x128, .f32⟩
  | .hbm, ⟨21, _⟩ => ⟨S128, .f32⟩
  | .hbm, ⟨22, _⟩ => ⟨S1x1x128, .f32⟩
  | .hbm, ⟨23, _⟩ => ⟨S8448x32x128, .f32⟩
  | .hbm, ⟨24, _⟩ => ⟨S8448x32x128, .f32⟩
  | .hbm, ⟨25, _⟩ => ⟨S8448x32x128, .f32⟩
  | .hbm, ⟨26, _⟩ => ⟨S8448x32x128, .f32⟩
  | .hbm, ⟨27, _⟩ => ⟨S_, .f32⟩
  | .hbm, ⟨28, _⟩ => ⟨S8448x32x128, .f32⟩
  | .hbm, ⟨29, _⟩ => ⟨S8448x32x128, .f32⟩
  | .hbm, ⟨30, _⟩ => ⟨S_, .f32⟩
  | .hbm, ⟨31, _⟩ => ⟨S8448x32x128, .f32⟩
  | .hbm, ⟨32, _⟩ => ⟨S8448x32x128, .f32⟩
  | .hbm, ⟨33, _⟩ => ⟨S8448x32x128, .f32⟩
  | .hbm, ⟨34, _⟩ => ⟨S8448x32x128, .f32⟩
  | .hbm, ⟨35, _⟩ => ⟨S8448x4096, .f32⟩
  | .hbm, ⟨36, _⟩ => ⟨S8448x4096, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Proof.Dealt.lean ====
module

public import Idealize.ShloMosaic.Lib.Pipeline.Regions
public import Idealize.ShloMosaic.Lib.Pipeline.RegionArrays

/-
  The launch of a program whose first kernel region talks between devices without a handshake.

  A device sends into a neighbour's output as soon as it starts, so the slots of the neighbour's output that it
  writes have to be its own from the beginning. This module's theorem therefore gives the proof one step before
  the run that sees, for ALL devices at once, the kernel's own semaphores at zero, the arrays at the launch
  contents, the credits of what is owed and the proof's own ghost resources, and deals them out in any way: what
  device `c` enters its kernel region with (`X c`) and what it keeps beside it (`Z c`). The region has no windows
  (every operand is a whole array in device memory). What follows the region is the certificate's.
-/

@[expose] public section

namespace Cert.Dealt

open Idealize.ShloMosaic
open Idealize.SL
open Idealize.SL.BI (sProp bigSep bigSep_sep' bigSep_mono bigSep_congr bigSep_univ_prod)
open scoped Idealize.SL.BI
open Idealize.SL.BI.BIBase Idealize.SL.BI.Laws Idealize.SL.Sem Idealize.SL.ProofMode
open Idealize.SL.RA
open TcCoe
open Idealize.ShloMosaic.Pipeline
open PCS
open Idealize.ShloMosaic.Rounds

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Idealize.SL.Sem.Labels} {P : Type} [Fintype P]
variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (pin pcs a))) (p : P)

local notation "pcfg" => pin pcs a p

variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

/-- Once the levels are assigned on every core's cells, the facts hold for the whole machine. -/
theorem assign_levels [Preorder Lvl] (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hnone : ∀ d : Dev nD, ∀ q ∈ Finset.univ.erase Proc.tc,
      (coreLevAts ((d, q) : Thread nD τ) L lv : sProp 𝕄) = BI.emp := fun d q hq => by
    unfold coreLevAts
    rw [bigSep_congr (Ψ := fun _ : SemLoc sig => (BI.emp : sProp 𝕄)) fun sm _ => by
      rw [hL (((d, q) : Thread nD τ), sm) (Finset.ne_of_mem_erase hq), BI.bigSep_empty], BI.bigSep_emp_const]
  have hrest : (bigSep Finset.univ fun d : Dev nD => bigSep (Finset.univ.erase Proc.tc) fun q => (coreLevAts ((d, q) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) (hnone d)).trans (BI.bigSep_emp_const _), BI.bigSep_emp_const]
  refine (bigSep_mono fun c _ => lev_assign_cells (c.tc : Thread nD τ) L lv).trans <| (BI.bigSep_bupd _ _).trans <| BI.bupd_mono ?_
  have hall : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun q => (coreLevAts ((d, q) : Thread nD τ) L lv : sProp 𝕄)) := by
    rw [hrest, bigSep_sep']
    iintro ⟨-, H⟩
    isplitl [H]; · iexact H
    iempintro
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv)]
  exact hall

include phinj hw ho in
/-- The region itself, entered with the kernel's own semaphores already taken away (they went into the dealing):
    from what remains of the core's boundary, the resources `X`, what the core owes and the pipeline's ghost
    state, to the whole boundary, `Y` and what the core owes at the end. -/
theorem wp_region [Preorder Lvl] [∀ e, Nonempty (Val e)] [Infinite Name] [EP.LandsIn (upEmb : UEmb _ 𝕄)]
    (hW : IsEmpty (Fin (pcfg).W)) (hK : (pcs p).pre.K = 0) (c : Dev nD)
    (hbody : BodyObligationLoose (pdats p c) defs₀ 𝒱₀ ι Set.univ)
    (L : GSem nD τ sig → Finset Ix) (lv : GSem nD τ sig → Ix → Lvl)
    (hwaits : (levAts L lv : sProp 𝕄) ⊢ cellsWaits (pin pcs a) pdats ι p c)
    (X Y : sProp 𝕄)
    (hin : iprop(X ∗ scopedRest (pcfg).spec c) ⊢ (pdats p c).Φ 0)
    (hout : (pdats p c).Φ (Fin.last (pcfg).N) ⊢ iprop(Y ∗ ownSems0 osem c ∗ scopedRest (pcfg).spec c))
    {α : Type} (k : PUnit → Prog (TpuEff nD τ sig Val (Sig Λ₀ P fun p => (pcs p).Adm) .tc) α) (Q : α → sProp 𝕄) :
    iprop((iprop(boundary (c.tc : Thread nD τ) ∗ Y ∗ (pdats p c).owesAt ι (Fin.last (pcfg).N))
            -∗ wp frame (wpE 𝔻 𝕍 (c.tc : Thread nD τ) none) Set.univ (k ⟨⟩) Q)
        ∗ (scopedBufs (c.tc : Thread nD τ) ∗ cellsSems0 (pin pcs a) p c
            ∗ idleSems0 (pin pcs a) phinj p ho c ∗ opIdle (c.tc : Thread nD τ))
        ∗ X ∗ (pdats p c).owesAt ι 0 ∗ levAts L lv
        ∗ cellsGhost (pin pcs a) EP p c ∗ toksInit (pin pcs a) EP p c)
      ⊢ wp frame (wpE 𝔻 𝕍 (c.tc : Thread nD τ) none) Set.univ (.op (.customCall (entry p) ()) k) Q := by
  classical
  have hss := scopedSems0_split (pin pcs a) phinj p hw ho (Ix := Ix) (Val := Val) (Name := Name) (U := U) (Lvl := Lvl) c
  have hsb := scopedBufs_split (pin pcs a) p hw.stage_scoped hw.stage_inj (fun w => (hW.false w).elim) c (nD := nD) (τ := τ) (Ix := Ix) (Val := Val) (Name := Name) (U := U) (Lvl := Lvl)
  have hpf := fun V => prefHeld_of_none (nD := nD) (τ := τ) (Ix := Ix) (Name := Name) (U := U) (Lvl := Lvl) (Val := Val) (pcs p).pre hK c (fun _ => fullShare) V
  have hin' : iprop(X ∗ prefHeld (pcs p).pre c (fun _ => fullShare) (a p).1 ∗ scopedRest (pcfg).spec c) ⊢ (pdats p c).Φ 0 := by
    iintro ⟨HX, -, HR⟩
    iapply hin
    isplitl [HX] <;> iassumption
  have hout' : iprop((pdats p c).Φ (Fin.last (pcfg).N) ∗ cellsSems0 (pin pcs a) p c ∗ Dat.staging (pcfg) c ∗ idleSems0 (pin pcs a) phinj p ho c)
      ⊢ iprop(Y ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    isplitl [Hst] <;> iassumption
  have harr : (BI.emp : sProp 𝕄) ⊢ (pdats p c).arrays ((pdats p c).arrAt · 0) := by
    unfold Dat.arrays
    rw [Finset.univ_eq_empty, BI.bigSep_empty]
  iintro ⟨Hk, ⟨Hsc, Hcells, Hidle, Hop⟩, HX, HO, #Hla, Hg, Ht⟩
  ihave Hw := hwaits $$ Hla
  iapply (fupd_wp frame (wpE 𝔻 𝕍 (c.tc : Thread nD τ) none) Set.univ _ _)
  imod (cellsInit_alloc (pin pcs a) pdats EP phinj p c) $$ [Hcells Hg] with ⟨%κ, -, Hinit⟩
  · isplitl [Hcells] <;> iassumption
  imodintro
  iapply (wp_customCall_entry_frame pcs a pdats ι EP κ phinj p defs₀ 𝒱₀ (fun _ => fullShare) c Set.univ (fun _ _ => Set.mem_univ _)
      hbody (fun w => (hW.false w).elim) none (fun u h => nomatch h) (X := X) (Y := Y) (R := scopedRest (pcfg).spec c)
      (I := idleSems0 (pin pcs a) phinj p ho c) (Entails.of_eq hsb) hin' hout' (k := k) (Q := Q)) $$ [HO Hw Hinit Ht HX Hidle Hsc]
  · isplitl [HO Hw Hinit Ht]
    · unfold EntryPre PerCore.EntryPre
      isplitr; · iapply harr; iempintro
      isplitl [HO]; · iexact HO
      isplitl [Hw]; · iexact Hw
      isplitl [Hinit] <;> iassumption
    isplitr; · iapply (Entails.of_eq (hpf (a p).1).symm); iempintro
    isplitl [HX]; · iexact HX
    isplitl [Hidle]; · iexact Hidle
    iexact Hsc
  iintro ⟨Hpost, HY, Hss2, Hsc2⟩
  unfold EntryPost PerCore.EntryPost
  icases Hpost with ⟨-, HO⟩
  ihave Hbd := (show iprop(scopedBufs (c.tc : Thread nD τ) ∗ scopedSems0 (c.tc : Thread nD τ) ∗ opIdle (c.tc : Thread nD τ))
      ⊢ boundary (c.tc : Thread nD τ) from BI.Entails.refl _) $$ [Hsc2 Hss2 Hop]
  · isplitl [Hsc2]; · iexact Hsc2
    isplitl [Hss2] <;> iassumption
  iapply Hk
  isplitl [Hbd]; · iexact Hbd
  isplitl [HY] <;> iassumption

include phinj hw ho in
/-- A program `customCall (entry p) (); k` launched on memory `m` with every semaphore at zero, its devices owing
    `O₀`: if the holdings of all devices can be dealt into `X` and `Z` (`hdeal`), the kernel's body runs from the
    one to the other (`hbody`, `hin`, `hout`) and the rest of the program runs to `T` (`htail`), then every fair
    execution ends, with every final memory satisfying what is read off `T` and with the scoped semaphores zero. -/
theorem run [DecidableEq P] [Preorder Lvl] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (k : PUnit → Prog (TpuEff nD τ sig Val (Sig Λ₀ P fun p => (pcs p).Adm) .tc) PUnit)
    (hmain : ∀ c, main c = .op (.customCall (entry p) ()) k)
    (hW : IsEmpty (Fin (pcfg).W)) (hK : (pcs p).pre.K = 0)
    (hbody : ∀ c, BodyObligationLoose (pdats p c) defs₀ 𝒱₀ ι Set.univ)
    (O₀ : Dev nD → CellTallies nD τ sig Ix) (howed₀ : ∀ c, (pdats p c).owed 0 = O₀ c)
    (L : GSem nD τ sig → Finset Ix) (lv : GSem nD τ sig → Ix → Lvl) (hL : ∀ g : GSem nD τ sig, g.1.2 ≠ .tc → L g = ∅)
    (hwaits : ∀ c, (levAts L lv : sProp 𝕄) ⊢ cellsWaits (pin pcs a) pdats ι p c)
    (G : Dev nD → sProp 𝕄) (u₀ : U)
    (hu₀ : (ownU u₀ : sProp 𝕄)
      ⊢ |={Set.univ}=> iprop(BI.own (EP (initOf (cells (pin pcs a) phinj) (launchToks (pin pcs a) phinj))) ∗ bigSep Finset.univ G))
    (X Y Z T : Dev nD → sProp 𝕄)
    (hdeal : iprop((bigSep Finset.univ fun c : Dev nD => iprop(ownSems0 osem c
          ∗ unscopedRest (pcfg).spec c (fun b => m ((c.tc : Thread nD τ).loc b))
          ∗ launchCred O₀ c ∗ prngReg c (g c) ∗ G c)) ∗ levAts L lv)
      ⊢ |={Set.univ}=> bigSep Finset.univ fun c : Dev nD => iprop(X c ∗ Z c))
    (hin : ∀ c, iprop(X c ∗ scopedRest (pcfg).spec c) ⊢ (pdats p c).Φ 0)
    (hout : ∀ c, (pdats p c).Φ (Fin.last (pcfg).N) ⊢ iprop(Y c ∗ ownSems0 osem c ∗ scopedRest (pcfg).spec c))
    (htail : ∀ (c : Dev nD) (Q' : PUnit → sProp 𝕄),
      iprop((iprop((T c ∗ boundary (c.tc : Thread nD τ)) ∗ (∃ W, owes (c.tc : Thread nD τ) (0 : CellTallies nD τ sig Ix) W)) -∗ Q' ⟨⟩)
          ∗ boundary (c.tc : Thread nD τ) ∗ Y c ∗ Z c ∗ (pdats p c).owesAt ι (Fin.last (pcfg).N) ∗ levAts L lv ∗ restGhost pcs a p EP c)
        ⊢ wp frame (wpE 𝔻 𝕍 (c.tc : Thread nD τ) none) Set.univ (k ⟨⟩) Q')
    (QY : Dev nD → MemSt nD τ sig Val → Prop)
    (hfin : ∀ c (s' : Phys nD τ sig Val), iprop(T c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hss := fun c : Dev nD => scopedSems0_split (pin pcs a) phinj p hw ho (Ix := Ix) (Val := Val) (Name := Name) (U := U) (Lvl := Lvl) c
  let part : Dev nD → sProp 𝕄 := fun c => iprop(scopedBufs (c.tc : Thread nD τ) ∗ cellsSems0 (pin pcs a) p c
            ∗ idleSems0 (pin pcs a) phinj p ho c ∗ opIdle (c.tc : Thread nD τ))
  let hold : Dev nD → sProp 𝕄 := fun c => iprop(ownSems0 osem c
          ∗ unscopedRest (pcfg).spec c (fun b => m ((c.tc : Thread nD τ).loc b))
          ∗ launchCred O₀ c ∗ prngReg c (g c))
  let ghost : Dev nD → sProp 𝕄 := fun c => bigSep Finset.univ fun p' => iprop(cellsGhost (pin pcs a) EP p' c ∗ toksInit (pin pcs a) EP p' c)
  let pre : Dev nD → sProp 𝕄 := fun c => iprop(part c ∗ owes (c.tc : Thread nD τ) (O₀ c) ∅ ∗ (X c ∗ Z c) ∗ levAts L lv ∗ ghost c)
  let fin : Dev nD → sProp 𝕄 := fun c => iprop(T c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- the launch: each core's holdings regrouped, the levels assigned, the pipelines' ghost state dealt, the dealing done
    have hcore (c : Dev nD) :
        coreInit (Ix := Ix) (Name := Name) (U := U) (Lvl := Lvl) (owing O₀) 0 (⟨m, fun _ => 0, g⟩ : MemSt nD τ sig Val) (c.tc : Thread nD τ)
          ⊢ iprop(part c ∗ hold c ∗ owes (c.tc : Thread nD τ) (O₀ c) ∅ ∗ levels0 c) := by
      refine (coreInit_boundary_owing O₀ m g c).trans ?_
      have hbd : (boundary (c.tc : Thread nD τ) : sProp 𝕄)
          ⊢ iprop(scopedBufs (c.tc : Thread nD τ) ∗ ((cellsSems0 (pin pcs a) p c ∗ ownSems0 osem c) ∗ idleSems0 (pin pcs a) phinj p ho c) ∗ opIdle (c.tc : Thread nD τ)) := by
        unfold boundary; rw [hss c]
      have hub : (unscopedBufs c (fun b => m ((c.tc : Thread nD τ).loc b)) : sProp 𝕄)
          ⊢ unscopedRest (pcfg).spec c (fun b => m ((c.tc : Thread nD τ).loc b)) := by
        rw [unscopedBufs_split (pin pcs a) p (fun w => (hW.false w).elim) (fun w => (hW.false w).elim) c (fun b => m ((c.tc : Thread nD τ).loc b))]
        iintro ⟨-, H⟩; iexact H
      iintro ⟨Hb, Hub, -, HL, Hlv, Hpr, Hcr⟩
      ihave Hb' := hbd $$ Hb
      icases Hb' with ⟨Hsc, ⟨⟨Hcells, Hos⟩, Hidle⟩, Hop⟩
      ihave Hur := hub $$ Hub
      simp only [part, hold]
      isplitl [Hsc Hcells Hidle Hop]
      · isplitl [Hsc]; · iexact Hsc
        isplitl [Hcells]; · iexact Hcells
        isplitl [Hidle] <;> iassumption
      isplitr [HL Hlv]
      · isplitl [Hos]; · iexact Hos
        isplitl [Hur]; · iexact Hur
        isplitl [Hcr] <;> iassumption
      isplitl [HL] <;> iassumption
    have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ part) ∗ (bigSep Finset.univ hold)
            ∗ (bigSep Finset.univ fun c : Dev nD => owes (c.tc : Thread nD τ) (O₀ c) ∅)
            ∗ (bigSep Finset.univ fun c : Dev nD => levels0 (Ix := Ix) (Val := Val) (Name := Name) (U := U) (Lvl := Lvl) (τ := τ) (sig := sig) c) : sProp 𝕄) := by
      refine (bigSep_mono fun c _ => hcore c).trans ?_
      simp only [bigSep_sep']
      exact BI.Entails.refl _
    have hjoin : iprop(bigSep Finset.univ hold ∗ bigSep Finset.univ G)
        ⊢ (bigSep Finset.univ fun c : Dev nD => iprop(ownSems0 osem c
          ∗ unscopedRest (pcfg).spec c (fun b => m ((c.tc : Thread nD τ).loc b))
          ∗ launchCred O₀ c ∗ prngReg c (g c) ∗ G c) : sProp 𝕄) := by
      rw [← bigSep_sep']
      refine bigSep_mono fun c _ => show iprop(hold c ∗ G c) ⊢ iprop(ownSems0 osem c
          ∗ unscopedRest (pcfg).spec c (fun b => m ((c.tc : Thread nD τ).loc b))
          ∗ launchCred O₀ c ∗ prngReg c (g c) ∗ G c) from ?_
      simp only [hold]
      iintro ⟨⟨H1, H2, H3, H4⟩, H5⟩
      isplitl [H1]; · iexact H1
      isplitl [H2]; · iexact H2
      isplitl [H3]; · iexact H3
      isplitl [H4] <;> iassumption
    have hghost : iprop((bigSep Finset.univ fun c : Dev nD => bigSep Finset.univ fun p' => cellsGhost (pin pcs a) EP p' c)
          ∗ (bigSep Finset.univ fun c : Dev nD => bigSep Finset.univ fun p' => (toksInit (pin pcs a) EP p' c : sProp 𝕄)))
        ⊢ bigSep Finset.univ ghost := by
      rw [← bigSep_sep']
      exact bigSep_mono fun c _ => show iprop((bigSep Finset.univ fun p' => cellsGhost (pin pcs a) EP p' c)
            ∗ bigSep Finset.univ fun p' => (toksInit (pin pcs a) EP p' c : sProp 𝕄)) ⊢ ghost c
        from Entails.of_eq (by simp only [ghost]; rw [bigSep_sep'])
    have hpre : iprop((bigSep Finset.univ part) ∗ (bigSep Finset.univ fun c : Dev nD => owes (c.tc : Thread nD τ) (O₀ c) ∅)
          ∗ (bigSep Finset.univ fun c : Dev nD => iprop(X c ∗ Z c)) ∗ (bigSep Finset.univ fun _ : Dev nD => levAts L lv) ∗ bigSep Finset.univ ghost)
        ⊢ (bigSep Finset.univ pre : sProp 𝕄) := by
      simp only [pre, bigSep_sep']
      exact BI.Entails.refl _
    iintro ⟨Hcores, Hu⟩
    ihave Hc := hcores $$ Hcores
    icases Hc with ⟨Hp, Hh, HL, Hlv⟩
    imod (assign_levels L lv hL) $$ Hlv with #Hla
    imod hu₀ $$ Hu with ⟨HP, HG⟩
    imod (fund_ghost (pin pcs a) EP phinj) $$ HP with ⟨Hg, Ht⟩
    imod hdeal $$ [Hh HG] with HXZ
    · isplitr [Hla]
      · iapply hjoin
        isplitl [Hh] <;> iassumption
      · iexact Hla
    imodintro
    iexists ()
    isplitr []
    · iapply hpre
      isplitl [Hp]; · iexact Hp
      isplitl [HL]; · iexact HL
      isplitl [HXZ]; · iexact HXZ
      isplitr; · iapply (BI.bigSep_intro_persistent (S := Finset.univ) fun (c : Dev nD) _ => (BI.Entails.refl (levAts L lv : sProp 𝕄))); iexact Hla
      iapply hghost
      isplitl [Hg] <;> iassumption
    · iempintro
  · -- each core's run of the program
    have hgh : ghost c ⊢ iprop((cellsGhost (pin pcs a) EP p c ∗ toksInit (pin pcs a) EP p c) ∗ restGhost pcs a p EP c) :=
      Entails.of_eq (BI.bigSep_erase (Finset.mem_univ p))
    simp only [pre, part]
    rw [hmain c]
    iintro ⟨Hp, HL, ⟨HX, HZ⟩, #Hla, Hgh⟩
    ihave Hgh' := hgh $$ Hgh
    icases Hgh' with ⟨⟨Hg, Ht⟩, Hrest⟩
    iapply (wp_region pcs a pdats ι phinj p hw ho EP defs₀ 𝒱₀ hW hK c (hbody c) L lv (hwaits c) (X c) (Y c) (hin c) (hout c) k _)
    isplitl [HZ Hrest]
    · iintro ⟨Hbd, HY, HO⟩
      iapply (htail c _)
      isplitr [HZ Hrest Hbd HY HO]
      · iintro ⟨HT, HW⟩
        unfold post; simp only [liftTc_tc, fin]
        isplitl [HT]; · iexact HT
        iexact HW
      isplitl [Hbd]; · iexact Hbd
      isplitl [HY]; · iexact HY
      isplitl [HZ]; · iexact HZ
      isplitl [HO]; · iexact HO
      isplitr; · iexact Hla
      iexact Hrest
    isplitl [Hp]; · iexact Hp
    isplitl [HX]; · iexact HX
    isplitl [HL]
    · unfold Dat.owesAt owesWithin
      rw [howed₀ c]
      iexists ∅; isplitr; · ipureintro; rw [Finset.coe_empty]; exact Set.empty_subset _
      iexact HL
    isplitr; · iexact Hla
    isplitl [Hg] <;> iassumption
  · -- what each core ends with, read off a final state
    iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Dealt
-- ==== Proof.Exchange.lean ====
module

public import Idealize.ShloMosaic.Lib.Pipeline.Launch
public import Idealize.ShloMosaic.Lib.Pipeline.Kit
public import Idealize.ShloMosaic.Lib.Tactic

/-
  One protocol for kernels that exchange blocks by copies alone, each semaphore of the kernel used exactly once.

  A plan names the kernel's copy semaphores `0 … n-1`. Each device has one cell for each of them. Cell `k` of
  device `c` is credited by one copy and waited on once; the copy is issued by one device, and `rcv k d` is the device
  whose cell `k` is credited by the copy that device `d` issues (`d` itself for a sending or a local cell, the
  receiver for a landing). What the wait hands to its device is the cell's payload. A device owes the credits of the
  landings it causes elsewhere; a wait is allowed while the landings still owed all lie on higher levels.

  `St` is a device's part in the protocol at a point of its run: which of its cells are still open, which copies it
  has still to issue, which waits have their credit, which landings it owes, which cells are closed. Three rules
  move it: a remote copy, a local copy, a wait. `deal` sets the protocol up for all devices at once.
-/

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

/-- The semaphores of an exchange: who pays which cell, how much, and the level of its wait. -/
structure Plan (nD : Nat) (sig : RefSig) where
  n : ℕ
  sem : Fin n → DmaSem sig
  inj : Function.Injective sem
  rcv : Fin n → Dev nD ≃ Dev nD
  amt : ℕ
  amt_pos : 0 < amt
  lev : Fin n → ℕ

variable {nD : Nat} {τ : Topo} {sig : RefSig} {Val : EltTy → Type}

local notation "UU" => (UR sig nD τ × UR sig nD τ)
local notation "𝕄" => MT nD τ sig Unit Val ℕ (UR sig nD τ × UR sig nD τ) ℕ

/-- The exchange's own ghost resources beside the launch's. -/
abbrev ER : Emb (UR sig nD τ) (MT nD τ sig Unit Val ℕ (UR sig nD τ × UR sig nD τ) ℕ) := embR

namespace Plan

variable (P : Plan nD sig)

/-- The semaphores as semaphore places. -/
abbrev osem (k : Fin P.n) : SemLoc sig := .dma (P.sem k)

/-- Cell `k` of device `c`. -/
abbrev cell (ck : Dev nD × Fin P.n) : GSem nD τ sig := ((ck.1 : Thread nD τ), .dma (P.sem ck.2))

theorem cell_inj : Function.Injective (P.cell (τ := τ)) := by
  rintro ⟨c, k⟩ ⟨c', k'⟩ h
  have h1 : c = c' := congrArg (fun g : GSem nD τ sig => g.1.1) h
  have h2 : (SemLoc.dma (P.sem k) : SemLoc sig) = .dma (P.sem k') := congrArg Prod.snd h
  have h3 : k = k' := P.inj (by injection h2)
  rw [h1, h3]

/-- A device owes, for each landing it has still to cause, that landing's credit at the receiver's cell. -/
def owed (S : Finset (Fin P.n)) (c : Dev nD) : CellTallies nD τ sig Unit :=
  ∑ k ∈ S, tallyAt (P.cell (P.rcv k c, k)) () P.amt

theorem owed_erase {S : Finset (Fin P.n)} {k : Fin P.n} (hk : k ∈ S) (c : Dev nD) :
    P.owed (τ := τ) S c = P.owed (S.erase k) c + tallyAt (P.cell (P.rcv k c, k)) () P.amt :=
  (Finset.sum_erase_add S _ hk).symm

theorem owed_empty (c : Dev nD) : P.owed (τ := τ) ∅ c = 0 := Finset.sum_empty

/-- The cells whose waits carry a level: every core's. -/
def L (g : GSem nD τ sig) : Finset Unit := if g.1.2 = .tc then {()} else ∅
theorem L_of_ne (g : GSem nD τ sig) (h : g.1.2 ≠ .tc) : L g = ∅ := if_neg h

/-- The level of a cell of the plan. -/
def lv (g : GSem nD τ sig) (_ : Unit) : ℕ := Function.extend (P.cell (τ := τ)) (fun ck => P.lev ck.2) (fun _ => 0) g
theorem lv_cell (ck : Dev nD × Fin P.n) (u : Unit) : P.lv (τ := τ) (P.cell ck) u = P.lev ck.2 := P.cell_inj.extend_apply _ _ ck

theorem mayWait (k : Fin P.n) (S : Finset (Fin P.n)) (h : ∀ k' ∈ S, P.lev k < P.lev k') (c : Dev nD) :
    (levAts L P.lv : sProp 𝕄) ⊢ MayWait (c : Thread nD τ) (.dma (P.sem k)) () (P.owed S c) :=
  Pipeline.mayWait_of_levAts (by rw [L, if_pos rfl]; exact Finset.mem_singleton_self _) fun g i hg => by
    obtain ⟨k', hk', hp⟩ := Pipeline.sum_pos_exists hg
    obtain ⟨rfl, rfl⟩ := Pipeline.tallyAt_pos hp
    refine ⟨by rw [L, if_pos rfl]; exact Finset.mem_singleton_self _, ?_⟩
    rw [show ((c : Thread nD τ), SemLoc.dma (P.sem k)) = P.cell (τ := τ) (c, k) from rfl, P.lv_cell, P.lv_cell]
    exact h k' hk'

/-! ### The schedule -/

variable (pay : Dev nD → Fin P.n → sProp (MT nD τ sig Unit Val ℕ (UR sig nD τ × UR sig nD τ) ℕ))

open Classical in
/-- One round, one duty at each cell of the plan. -/
noncomputable def sched : Rounds.Schedule (GSem nD τ sig) Unit 𝕄 where
  duties g r := if r = 0 ∧ ∃ ck, P.cell (τ := τ) ck = g then {()} else ∅
  unitless _ := False
  amount _ _ _ := P.amt
  payload g _ _ := Function.extend (P.cell (τ := τ)) (fun ck => pay ck.1 ck.2) (fun _ => iprop(emp)) g
  amount_pos _ _ _ _ := P.amt_pos

theorem duties_cell (ck : Dev nD × Fin P.n) : (P.sched (τ := τ) pay).duties (P.cell ck) 0 = {()} := if_pos ⟨rfl, ck, rfl⟩
theorem duties_later (g : GSem nD τ sig) : ∀ r, 0 + 1 ≤ r → (P.sched (τ := τ) pay).duties g r = ∅ :=
  fun r hr => if_neg fun h => by omega
theorem payload_cell (ck : Dev nD × Fin P.n) (r : ℕ) (u : Unit) : (P.sched (τ := τ) pay).payload (P.cell ck) r u = pay ck.1 ck.2 :=
  P.cell_inj.extend_apply (fun ck => pay ck.1 ck.2) (fun _ => iprop(emp)) ck
theorem expect_cell (ck : Dev nD × Fin P.n) : (P.sched (τ := τ) pay).expect (P.cell ck) 0 = P.amt := by
  unfold Schedule.expect Schedule.amountOf; rw [duties_cell, Finset.sum_singleton]; rfl
theorem rest_cell (ck : Dev nD × Fin P.n) :
    bigSep ((P.sched (τ := τ) pay).duties (P.cell ck) 0 \ ∅) (fun u => (P.sched (τ := τ) pay).payload (P.cell ck) 0 u) = pay ck.1 ck.2 := by
  rw [Finset.sdiff_empty, duties_cell, bigSep_singleton, payload_cell]

instance sched_storable [hp : ∀ c k, BI.Storable (upEmb : UEmb _ 𝕄) (pay c k)] (g : GSem nD τ sig) (r : ℕ) (d : Unit) :
    BI.Storable (upEmb : UEmb _ 𝕄) ((P.sched (τ := τ) pay).payload g r d) := by
  by_cases h : ∃ ck, P.cell (τ := τ) ck = g
  · obtain ⟨ck, rfl⟩ := h; rw [payload_cell]; exact hp _ _
  · show BI.Storable _ (Function.extend (P.cell (τ := τ)) (fun ck => pay ck.1 ck.2) (fun _ => iprop(emp)) g)
    rw [Function.extend_apply' _ _ _ h]; infer_instance

/-! ### The ghost state -/

/-- The cells' invariants and that each cell is in its round: shared by all devices. -/
def records (κ : Dev nD × Fin P.n → ℕ) : sProp 𝕄 :=
  iprop((bigSep Finset.univ fun ck : Dev nD × Fin P.n => cellInv ER (P.sched pay) (κ ck) (P.cell ck))
    ∗ (bigSep Finset.univ fun ck : Dev nD × Fin P.n => reached ER (P.cell ck) 0) ∗ levAts L P.lv)

instance records_persistent (κ : Dev nD × Fin P.n → ℕ) : BI.Persistent (P.records (τ := τ) pay κ) := by unfold records; infer_instance

/-- Device `c`'s part: its open cells `A`, the copies `T` it has to issue, the credits `C` of its waits, the landings `S`
    it owes, its closed cells `Z`. -/
def St (c : Dev nD) (A T C S Z : Finset (Fin P.n)) : sProp 𝕄 :=
  iprop((∃ κ, P.records (τ := τ) pay κ)
    ∗ (bigSep A fun k => atPos ER (P.cell (c, k)) 0 ∅ 0)
    ∗ (bigSep T fun k => dutyTok ER (P.cell (P.rcv k c, k)) 0 ())
    ∗ (bigSep C fun k => cred (tallyAt (P.cell (c, k)) () P.amt))
    ∗ (∃ W, owes (c : Thread nD τ) (P.owed S c) W)
    ∗ (bigSep Z fun k => semVal (P.cell (c, k)) 0))

variable {P pay}
variable {A T C S Z : Finset (Fin P.n)} {c : Dev nD}

theorem records_inv (κ : Dev nD × Fin P.n → ℕ) (ck : Dev nD × Fin P.n) :
    P.records (τ := τ) pay κ ⊢ cellInv ER (P.sched pay) (κ ck) (P.cell ck) := by
  unfold records; iintro ⟨H, -, -⟩
  iapply (show (bigSep Finset.univ fun ck : Dev nD × Fin P.n => (cellInv ER (P.sched pay) (κ ck) (P.cell ck) : sProp 𝕄))
    ⊢ cellInv ER (P.sched pay) (κ ck) (P.cell ck) from bigSep_elim (Finset.mem_univ ck))
  iexact H
theorem records_reached (κ : Dev nD × Fin P.n → ℕ) (ck : Dev nD × Fin P.n) :
    P.records (τ := τ) pay κ ⊢ reached ER (P.cell ck) 0 := by
  unfold records; iintro ⟨-, H, -⟩
  iapply (show (bigSep Finset.univ fun ck : Dev nD × Fin P.n => (reached ER (P.cell ck) 0 : sProp 𝕄))
    ⊢ reached ER (P.cell ck) 0 from bigSep_elim (Finset.mem_univ ck))
  iexact H
theorem records_lev (κ : Dev nD × Fin P.n → ℕ) : P.records (τ := τ) pay κ ⊢ levAts L P.lv := by
  unfold records; iintro ⟨-, -, H⟩; iexact H

theorem take {I : Type} [DecidableEq I] {X : Finset I} {i : I} (h : i ∈ X) (Φ : I → sProp 𝕄) :
    bigSep X Φ ⊢ iprop(Φ i ∗ bigSep (X.erase i) Φ) := by
  exact Entails.of_eq (bigSep_erase h)

theorem put {I : Type} [DecidableEq I] {X : Finset I} {i : I} (h : i ∉ X) (Φ : I → sProp 𝕄) :
    iprop(Φ i ∗ bigSep X Φ) ⊢ bigSep (insert i X) Φ := by
  exact Entails.of_eq (bigSep_insert h).symm

variable [∀ c k, BI.Storable (upEmb : UEmb _ (MT nD τ sig Unit Val ℕ (UR sig nD τ × UR sig nD τ) ℕ)) (pay c k)]
variable {Λ : Labels} {defs : Defs nD τ sig Val Λ} (𝒱 : Variants)

section Rules

variable {α : Type} {Q : α → sProp (MT nD τ sig Unit Val ℕ (UR sig nD τ × UR sig nD τ) ℕ)} {sp sp' : Space} {s : Shape} {e : EltTy}

/-- A remote copy: it takes the share of the source and the target's elements; the share comes back with the sending
    cell's wait, and the elements rewritten are the payload of the target's landing cell. -/
theorem send {n : Dev nD} {src : Memref sig (Dev.tc c : Thread nD τ).2.kind sp s e} {dst : Memref sig (Dev.tc n : Thread nD τ).2.kind sp' s e}
    {hsc : dst.view.ref.isScScratch = false} {sS sR : DmaSem sig}
    {hsrc : src.view.WordExact} {hdst : dst.view.WordExact}
    {hsem : DmaTarget.Typed sp (.dma sR) (.remote (Dev.tc n : Thread nD τ) dst (.dma sS) hsc)}
    {k : PUnit → Prog (TpuEff nD τ sig Val Λ .tc) α} {q : PosShare TreeShare}
    {fs : Buf Val (src.view.loc (c : Thread nD τ))} {fd : Buf Val (dst.view.loc (Dev.tc n : Thread nD τ))}
    (i j : Fin P.n) (hi : sS = P.sem i) (hj : sR = P.sem j) (hto : P.rcv i c = c) (hn : n = P.rcv j c)
    (hiT : i ∈ T) (hjT : j ∈ T.erase i) (hiC : i ∉ C) (hjS : j ∈ S)
    (hN : dst.view.dmaCredit = P.amt)
    (hpayS : (src.view.loc (c : Thread nD τ) ↦[src.view.set]{q} fs) ⊢ pay c i)
    (hpayR : (dst.view.loc (Dev.tc n : Thread nD τ) ↦[dst.view.set]{fullShare} (dst.view.write Val fd (src.view.read Val fs) Finset.univ))
      ⊢ pay n j) :
    iprop(P.St (τ := τ) pay c A T C S Z ∗ (src.view.loc (c : Thread nD τ) ↦[src.view.set]{q} fs)
        ∗ (dst.view.loc (Dev.tc n : Thread nD τ) ↦[dst.view.set]{fullShare} fd))
      ⊢ iprop((P.St (τ := τ) pay c A ((T.erase i).erase j) (insert i C) (S.erase j) Z -∗ wp frame (wpE defs 𝒱 (c : Thread nD τ) none) Set.univ (k ⟨⟩) Q)
          -∗ wp frame (wpE defs 𝒱 (c : Thread nD τ) none) Set.univ
            (.op (.enqueueDma src (.remote (Dev.tc n : Thread nD τ) dst (.dma sS) hsc) (.dma sR) hsrc hdst hsem) k) Q) := by
  subst hi hj hn
  unfold St
  iintro ⟨⟨⟨%κ, #HR⟩, HA, HT, HC, ⟨%W, HO⟩, HZ⟩, Hsrc, Hdst⟩ Hk
  ihave HT1 := (take hiT _) $$ HT
  icases HT1 with ⟨Hi, HT1⟩
  ihave HT2 := (take hjT _) $$ HT1
  icases HT2 with ⟨Hj, HT2⟩
  rw [hto]
  iapply (Rounds.wp_send_pointsTo 𝒱 ER (P.sched pay) (c : Thread nD τ) none (sS := .dma (P.sem i)) (sem := .dma (P.sem j)) (κ₁ := κ (c, i)) (κ₂ := κ (P.rcv j c, j))
    (r₁ := 0) (r₂ := 0) (d₁ := ()) (d₂ := ()) (fd := fd) (fs := fs) (q := q)
    (by rw [P.duties_cell pay (c, i)]; exact Finset.mem_singleton_self _) (by rw [P.duties_cell pay (P.rcv j c, j)]; exact Finset.mem_singleton_self _)
    () () P.amt hN rfl rfl (P.owed (S.erase j) c) (P.owed_erase hjS c) (W := W)
    (by rw [P.payload_cell pay (c, i)]; exact hpayS)
    (by rw [P.payload_cell pay (P.rcv j c, j)]; exact hpayR)) $$ [Hsrc Hdst HO Hi Hj]
  · isplitr; · iapply (records_inv κ (c, i)); iexact HR
    isplitr; · iapply (records_inv κ (P.rcv j c, j)); iexact HR
    isplitl [Hsrc]; · iexact Hsrc
    isplitl [Hdst]; · iexact Hdst
    isplitl [HO]; · iexact HO
    isplitl [Hi]; · iexact Hi
    isplitr; · iapply (records_reached κ (c, i)); iexact HR
    isplitl [Hj]; · iexact Hj
    iapply (records_reached κ (P.rcv j c, j)); iexact HR
  iintro ⟨Hc, HO⟩
  iapply Hk
  isplitr; · iexists κ; iexact HR
  isplitl [HA]; · iexact HA
  isplitl [HT2]; · iexact HT2
  isplitl [HC Hc]
  · iapply (put hiC _)
    isplitl [Hc]; · iexact Hc
    iexact HC
  isplitl [HO]; · iexists W; iexact HO
  iexact HZ

/-- A local copy: the elements rewritten and the source's share are the payload of the cell it credits. -/
theorem copy {src : Memref sig (Dev.tc c : Thread nD τ).2.kind sp s e} {dst : Memref sig (Dev.tc c : Thread nD τ).2.kind sp' s e} {sL : DmaSem sig}
    {hsrc : src.view.WordExact} {hdst : dst.view.WordExact} {hsem : DmaTarget.Typed (nD := nD) (τ := τ) sp (.dma sL) (.here dst)}
    {k : PUnit → Prog (TpuEff nD τ sig Val Λ .tc) α} {q : PosShare TreeShare}
    {fs : Buf Val (src.view.loc (c : Thread nD τ))} {fd : Buf Val (dst.view.loc (c : Thread nD τ))}
    (i : Fin P.n) (hi : sL = P.sem i) (hto : P.rcv i c = c) (hiT : i ∈ T) (hiC : i ∉ C)
    (hN : dst.view.dmaCredit = P.amt)
    (hpay : iprop((dst.view.loc (c : Thread nD τ) ↦[dst.view.set]{fullShare} (dst.view.write Val fd (src.view.read Val fs) Finset.univ))
        ∗ (src.view.loc (c : Thread nD τ) ↦[src.view.set]{q} fs)) ⊢ pay c i) :
    iprop(P.St (τ := τ) pay c A T C S Z ∗ (src.view.loc (c : Thread nD τ) ↦[src.view.set]{q} fs)
        ∗ (dst.view.loc (c : Thread nD τ) ↦[dst.view.set]{fullShare} fd))
      ⊢ iprop((P.St (τ := τ) pay c A (T.erase i) (insert i C) S Z -∗ wp frame (wpE defs 𝒱 (c : Thread nD τ) none) Set.univ (k ⟨⟩) Q)
          -∗ wp frame (wpE defs 𝒱 (c : Thread nD τ) none) Set.univ
            (.op (.enqueueDma src (.here dst) (.dma sL) hsrc hdst hsem) k) Q) := by
  subst hi
  unfold St
  iintro ⟨⟨⟨%κ, #HR⟩, HA, HT, HC, ⟨%W, HO⟩, HZ⟩, Hsrc, Hdst⟩ Hk
  ihave HT1 := (take hiT _) $$ HT
  icases HT1 with ⟨Hi, HT1⟩
  rw [hto]
  iapply (Rounds.wp_copy_pointsTo 𝒱 ER (P.sched pay) (c : Thread nD τ) none (sem := .dma (P.sem i)) (κ := κ (c, i))
    (r := 0) (d := ()) (fd := fd) (fs := fs) (q := q)
    (by rw [P.duties_cell pay (c, i)]; exact Finset.mem_singleton_self _)
    () P.amt hN rfl
    (by rw [P.payload_cell pay (c, i)]; exact hpay)) $$ [Hsrc Hdst Hi]
  · isplitr; · iapply (records_inv κ (c, i)); iexact HR
    isplitl [Hsrc]; · iexact Hsrc
    isplitl [Hdst]; · iexact Hdst
    isplitl [Hi]; · iexact Hi
    iapply (records_reached κ (c, i)); iexact HR
  iintro Hc
  iapply Hk
  isplitr; · iexists κ; iexact HR
  isplitl [HA]; · iexact HA
  isplitl [HT1]; · iexact HT1
  isplitl [HC Hc]
  · iapply (put hiC _)
    isplitl [Hc]; · iexact Hc
    iexact HC
  isplitl [HO]; · iexists W; iexact HO
  iexact HZ

/-- A wait: the cell's payload, and the cell closed at zero. -/
theorem wait {s' : Shape} {e' : EltTy} {sW : DmaSem sig} {src : Memref sig (Dev.tc c : Thread nD τ).2.kind sp' s' e'} {κ' : Kind}
    {dst : Memref sig κ' sp s e} {hsrc : src.view.WordExact} {hdst : dst.view.WordExact}
    {k : PUnit → Prog (TpuEff nD τ sig Val Λ .tc) α}
    (i : Fin P.n) (hi : sW = P.sem i) (hiA : i ∈ A) (hiC : i ∈ C) (hiZ : i ∉ Z) (hlev : ∀ k' ∈ S, P.lev i < P.lev k')
    (hN : dst.view.dmaCredit = P.amt) :
    P.St (τ := τ) pay c A T C S Z
      ⊢ iprop(((P.St (τ := τ) pay c (A.erase i) T (C.erase i) S (insert i Z) ∗ pay c i)
            -∗ wp frame (wpE defs 𝒱 (c : Thread nD τ) none) Set.univ (k ⟨⟩) Q)
          -∗ wp frame (wpE defs 𝒱 (c : Thread nD τ) none) Set.univ (.op (.waitDma2 sW src dst hsrc hdst) k) Q) := by
  subst hi
  unfold St
  iintro ⟨⟨%κ, #HR⟩, HA, HT, HC, ⟨%W, HO⟩, HZ⟩ Hk
  ihave HA1 := (take hiA _) $$ HA
  icases HA1 with ⟨Ha, HA1⟩
  ihave HC1 := (take hiC _) $$ HC
  icases HC1 with ⟨Hc, HC1⟩
  iapply (Rounds.wp_wait_rest_token 𝒱 ER (P.sched pay) (c : Thread nD τ) none (κ := κ (c, i))
      (wpE_waitDma2_eq 𝒱 (c : Thread nD τ) none Set.univ) (Set.mem_univ _) () (O := P.owed S c) (W := W) (R := 0) (m := 0) (T := ∅)
      (by rw [Nat.zero_add, hN]; exact (P.expect_cell pay (c, i)).symm)) $$ [Hc HO Ha]
  · isplitr; · iapply (records_inv κ (c, i)); iexact HR
    isplitl [Hc]; · rw [hN]; iexact Hc
    isplitl [HO]; · iexact HO
    isplitr; · iapply (P.mayWait i S hlev c); iapply (records_lev κ); iexact HR
    iexact Ha
  iintro ⟨HO, Ha, -, Hpay⟩
  ihave Hp := (Entails.of_eq (P.rest_cell pay (c, i))) $$ Hpay
  imod (Rounds.cell_close ER (P.sched pay) (Set.mem_univ (κ (c, i))) (fun h => h) (R := 0 + 1) (P.duties_later pay (P.cell (c, i)))) $$ [Ha] with Hz
  · isplitr; · iapply (records_inv κ (c, i)); iexact HR
    iexact Ha
  iapply Hk
  isplitr [Hp]
  · isplitr; · iexists κ; iexact HR
    isplitl [HA1]; · iexact HA1
    isplitl [HT]; · iexact HT
    isplitl [HC1]; · iexact HC1
    isplitl [HO]; · iexists _; iexact HO
    iapply (put hiZ _)
    isplitl [Hz]; · iexact Hz
    iexact HZ
  iexact Hp

end Rules

/-! ### Setting up -/

variable (P pay)

/-- The cells of the plan, and one token for the duty at each. -/
def cells : Finset (GSem nD τ sig) := Finset.univ.map ⟨P.cell, P.cell_inj⟩
def toks : Finset (GSem nD τ sig × ℕ × Unit) :=
  Finset.univ.map ⟨fun ck : Dev nD × Fin P.n => (P.cell ck, 0, ()), fun _ _ h => P.cell_inj (congrArg Prod.fst h)⟩

/-- The ghost resources of device `c`'s cells as the launch funds them. -/
def G (c : Dev nD) : sProp 𝕄 :=
  iprop((bigSep Finset.univ fun k : Fin P.n => roundState ER (P.sched pay) (P.cell (c, k)) 0)
    ∗ (bigSep Finset.univ fun k : Fin P.n => reached ER (P.cell (c, k)) 0)
    ∗ (bigSep Finset.univ fun k : Fin P.n => atPos ER (P.cell (c, k)) 0 ∅ 0)
    ∗ (bigSep Finset.univ fun k : Fin P.n => dutyTok ER (P.cell (c, k)) 0 ()))

omit [∀ c k, BI.Storable (upEmb : UEmb _ (MT nD τ sig Unit Val ℕ (UR sig nD τ × UR sig nD τ) ℕ)) (pay c k)] in
theorem fund : BI.own (ER (initOf (P.cells (τ := τ)) P.toks)) ⊢ (|==> bigSep Finset.univ (P.G pay) : sProp 𝕄) := by
  have hX (Φ : GSem nD τ sig → sProp 𝕄) : bigSep P.cells Φ = bigSep Finset.univ fun c : Dev nD => bigSep Finset.univ fun k : Fin P.n => Φ (P.cell (c, k)) := by
    unfold cells; rw [bigSep_map, bigSep_univ_prod]; rfl
  have hT : bigSep P.toks (fun x => (dutyTok ER x.1 x.2.1 x.2.2 : sProp 𝕄))
      = bigSep Finset.univ fun c : Dev nD => bigSep Finset.univ fun k : Fin P.n => dutyTok ER (P.cell (c, k)) 0 () := by
    unfold toks; rw [bigSep_map, bigSep_univ_prod]; rfl
  iintro HX
  imod (Rounds.fund ER (P.sched pay) P.cells P.toks) $$ HX with ⟨Hst, Hr, Hat, Htok⟩
  imodintro
  ihave Hst' := (Entails.of_eq (hX fun g => roundState ER (P.sched pay) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat'] <;> iassumption

/-- All devices' cells at zero and their ghost resources become the shared records and each device's part: its cells
    open, and the tokens of the copies it issues. -/
theorem deal :
    (bigSep Finset.univ fun c : Dev nD => iprop(Pipeline.ownSems0 (Ix := Unit) (Name := ℕ) (U := UU) (Lvl := ℕ) (Val := Val) (τ := τ) P.osem c ∗ P.G pay c) : sProp 𝕄)
      ⊢ |={Set.univ}=> iprop(∃ κ : Dev nD × Fin P.n → ℕ,
          ((bigSep Finset.univ fun ck : Dev nD × Fin P.n => cellInv ER (P.sched pay) (κ ck) (P.cell ck))
            ∗ (bigSep Finset.univ fun ck : Dev nD × Fin P.n => reached ER (P.cell ck) 0))
          ∗ (bigSep Finset.univ fun c : Dev nD => bigSep Finset.univ fun k : Fin P.n => atPos ER (P.cell (c, k)) 0 ∅ 0)
          ∗ (bigSep Finset.univ fun c : Dev nD => bigSep Finset.univ fun k : Fin P.n => dutyTok ER (P.cell (P.rcv k c, k)) 0 ())) := by
  have hinv : iprop((bigSep Finset.univ fun c : Dev nD => bigSep Finset.univ fun k : Fin P.n => (semVal (P.cell (c, k)) 0 : sProp 𝕄))
        ∗ bigSep Finset.univ fun c : Dev nD => bigSep Finset.univ fun k : Fin P.n => roundState ER (P.sched pay) (P.cell (c, k)) 0)
      ⊢ (|={Set.univ}=> bigSep Finset.univ fun ck : Dev nD × Fin P.n => iprop(∃ κ : ℕ, cellInv ER (P.sched pay) κ (P.cell ck)) : sProp 𝕄) := by
    rw [← bigSep_univ_prod (fun ck : Dev nD × Fin P.n => (semVal (P.cell ck) 0 : sProp 𝕄)),
      ← bigSep_univ_prod (fun ck : Dev nD × Fin P.n => (roundState ER (P.sched pay) (P.cell ck) 0 : sProp 𝕄)), ← bigSep_sep']
    exact (bigSep_mono fun ck _ => (Rounds.body_intro ER (P.sched pay) (P.cell ck)).trans inv_alloc).trans (bigSep_fupd _ _)
  have htok : (bigSep Finset.univ fun c : Dev nD => bigSep Finset.univ fun k : Fin P.n => (dutyTok ER (P.cell (c, k)) 0 () : sProp 𝕄))
      ⊢ bigSep Finset.univ fun c : Dev nD => bigSep Finset.univ fun k : Fin P.n => dutyTok ER (P.cell (P.rcv k c, k)) 0 () := by
    rw [← bigSep_univ_prod (fun ck : Dev nD × Fin P.n => (dutyTok ER (P.cell ck) 0 () : sProp 𝕄)),
      ← bigSep_univ_prod (fun ck : Dev nD × Fin P.n => (dutyTok ER (P.cell (P.rcv ck.2 ck.1, ck.2)) 0 () : sProp 𝕄))]
    exact Entails.of_eq (bigSep_univ_equiv (⟨fun ck => (P.rcv ck.2 ck.1, ck.2), fun ck => ((P.rcv ck.2).symm ck.1, ck.2),
      fun ck => by simp, fun ck => by simp⟩ : Dev nD × Fin P.n ≃ Dev nD × Fin P.n) (fun ck => (dutyTok ER (P.cell ck) 0 () : sProp 𝕄)))
  unfold G
  rw [bigSep_sep', bigSep_sep', bigSep_sep', bigSep_sep']
  iintro ⟨Hv, Hst, Hr, Hat, Htok⟩
  imod hinv $$ [Hv Hst] with HI
  · isplitl [Hv]; · iexact Hv
    iexact Hst
  ihave HK := (BI.bigSep_exists_pi Finset.univ (fun (ck : Dev nD × Fin P.n) (κ : ℕ) => (cellInv ER (P.sched pay) κ (P.cell ck) : sProp 𝕄))) $$ HI
  icases HK with ⟨%κ, HI⟩
  ihave Htk := htok $$ Htok
  imodintro
  iexists κ
  isplitl [HI Hr]
  · isplitl [HI]; · iexact HI
    iapply (Entails.of_eq (bigSep_univ_prod (fun ck : Dev nD × Fin P.n => (reached ER (P.cell ck) 0 : sProp 𝕄))).symm)
    iexact Hr
  isplitl [Hat]; · iexact Hat
  iexact Htk

omit [∀ c k, BI.Storable (upEmb : UEmb _ (MT nD τ sig Unit Val ℕ (UR sig nD τ × UR sig nD τ) ℕ)) (pay c k)] in
/-- The launch credits device `c`'s cells with what the others owe them. -/
theorem creds (S : Finset (Fin P.n)) (c : Dev nD) :
    (Pipeline.launchCred (P.owed S) c : sProp 𝕄) ⊢ bigSep S fun k => cred (tallyAt (P.cell (c, k)) () P.amt) := by
  induction S using Finset.induction_on with
  | empty => rw [bigSep_empty]; iintro -; iempintro
  | insert k S hk ih =>
    rw [show P.owed (τ := τ) (insert k S) = fun d => tallyAt (P.cell (P.rcv k d, k)) () P.amt + P.owed S d from funext fun d => Finset.sum_insert hk,
      Pipeline.launchCred_add, bigSep_insert hk]
    exact BIClass.sep_mono (Pipeline.launchCred_tallyAt (.dma (P.sem k)) (P.rcv k) (P.rcv k).symm (P.rcv k).apply_symm_apply (P.rcv k).symm_apply_apply () P.amt c) ih

/-- What device `c` enters its kernel with, beside what it owes. -/
def Pre (S : Finset (Fin P.n)) (c : Dev nD) : sProp 𝕄 :=
  iprop((∃ κ, P.records (τ := τ) pay κ)
    ∗ (bigSep Finset.univ fun k => atPos ER (P.cell (c, k)) 0 ∅ 0)
    ∗ (bigSep Finset.univ fun k => dutyTok ER (P.cell (P.rcv k c, k)) 0 ())
    ∗ (bigSep S fun k => cred (tallyAt (P.cell (c, k)) () P.amt)))

omit [∀ c k, BI.Storable (upEmb : UEmb _ (MT nD τ sig Unit Val ℕ (UR sig nD τ × UR sig nD τ) ℕ)) (pay c k)] in
theorem St_intro (S : Finset (Fin P.n)) (c : Dev nD) (W : Waits sig Unit) :
    iprop(P.Pre (τ := τ) pay S c ∗ owes (c : Thread nD τ) (P.owed S c) W) ⊢ P.St pay c Finset.univ Finset.univ S S ∅ := by
  unfold Pre St
  iintro ⟨⟨HR, HA, HT, HC⟩, HO⟩
  isplitl [HR]; · iexact HR
  isplitl [HA]; · iexact HA
  isplitl [HT]; · iexact HT
  isplitl [HC]; · iexact HC
  isplitl [HO]; · iexists W; iexact HO
  rw [bigSep_empty]; iempintro

omit [∀ c k, BI.Storable (upEmb : UEmb _ (MT nD τ sig Unit Val ℕ (UR sig nD τ × UR sig nD τ) ℕ)) (pay c k)] in
theorem St_elim (A T C Z : Finset (Fin P.n)) (hZ : Z = Finset.univ) (c : Dev nD) :
    P.St (τ := τ) pay c A T C ∅ Z ⊢ iprop((∃ W, owes (c : Thread nD τ) 0 W)
      ∗ Pipeline.ownSems0 (Ix := Unit) (Name := ℕ) (U := UU) (Lvl := ℕ) (Val := Val) (τ := τ) P.osem c) := by
  subst hZ
  unfold St
  rw [P.owed_empty]
  iintro ⟨-, -, -, -, HO, HZ⟩
  isplitl [HO]; · iexact HO
  iapply (show (bigSep Finset.univ fun k => (semVal (P.cell (c, k)) 0 : sProp 𝕄))
    ⊢ Pipeline.ownSems0 (Ix := Unit) (Name := ℕ) (U := UU) (Lvl := ℕ) (Val := Val) (τ := τ) P.osem c from BI.Entails.refl _)
  iexact HZ

/-- The set-up: every device gets its part, the arrays of all devices are left to be dealt out. -/
theorem setup (S : Finset (Fin P.n)) (R p : Dev nD → sProp 𝕄) :
    iprop((bigSep Finset.univ fun c : Dev nD => iprop(Pipeline.ownSems0 (Ix := Unit) (Name := ℕ) (U := UU) (Lvl := ℕ) (Val := Val) (τ := τ) P.osem c
        ∗ R c ∗ Pipeline.launchCred (P.owed S) c ∗ p c ∗ P.G pay c)) ∗ levAts L P.lv)
      ⊢ |={Set.univ}=> iprop((bigSep Finset.univ fun c : Dev nD => P.Pre (τ := τ) pay S c) ∗ (bigSep Finset.univ R)) := by
  rw [bigSep_sep', bigSep_sep', bigSep_sep', bigSep_sep']
  iintro ⟨⟨Hv, HR, HC, -, HG⟩, #Hl⟩
  imod (P.deal pay) $$ [Hv HG] with ⟨%κ, ⟨#HI, #Hr⟩, HA, HT⟩
  · rw [bigSep_sep']
    isplitl [Hv]; · iexact Hv
    iexact HG
  ihave HC' := (show (bigSep Finset.univ fun c : Dev nD => (Pipeline.launchCred (P.owed S) c : sProp 𝕄))
      ⊢ bigSep Finset.univ fun c : Dev nD => bigSep S fun k => cred (tallyAt (P.cell (c, k)) () P.amt) from bigSep_mono fun c _ => P.creds S c) $$ HC
  imodintro
  isplitr [HR]
  · unfold Pre
    rw [bigSep_sep', bigSep_sep', bigSep_sep']
    isplitr
    · iapply (BI.bigSep_of_persistent Finset.univ iprop(∃ κ, P.records (τ := τ) pay κ))
      iexists κ
      unfold records
      isplitr; · iexact HI
      isplitr; · iexact Hr
      iexact Hl
    isplitl [HA]; · iexact HA
    isplitl [HT]; · iexact HT
    iexact HC'
  iexact HR

end Plan

end Cert.Exchange

end
-- ==== Proof.Slots.lean ====
module

public import Idealize.ShloMosaic.Lib.Pipeline.Launch
public import Idealize.ShloMosaic.Lib.Ring
public import Idealize.ShloMosaic.Lib.ValueLayout
public import Idealize.ShloMosaic.Lib.ValueIdxCoords
public import Idealize.ShloMosaic.Lib.ViewIndex
public import Idealize.ShloMosaic.Lib.Tactic

/-
  A stack of `n` arrays of shape `[R, C]` in one buffer of shape `[n, R, C]`: the region of slot `i`, that a view of
  one slot covers exactly it, what a copy into a slot leaves there, and the whole buffer as its slots.
-/

@[expose] public section

noncomputable section

namespace Cert.Slots

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {κ : Kind} {sp : Space} {e : EltTy}
variable {n R C : ℕ}

/-- The stack's shape. -/
abbrev stack (n R C : ℕ) : Shape := ⟨3, ![n, R, C]⟩

/-- The elements of slot `i`. -/
def part (M : Memref sig κ sp (stack n R C) e) (i : Fin n) : Finset M.view.ty.Idx :=
  (Finset.univ.filter fun x : (stack n R C).Idx => (x 0).val = i.val).map M.view.emb

theorem mem_part (M : Memref sig κ sp (stack n R C) e) (i : Fin n) (x : (stack n R C).Idx) : M.view.emb x ∈ part M i ↔ (x 0).val = i.val := by
  unfold part; rw [Finset.mem_map' M.view.emb, Finset.mem_filter]; exact and_iff_right (Finset.mem_univ _)

theorem part_disjoint (M : Memref sig κ sp (stack n R C) e) (i j : Fin n) (h : i ≠ j) : Disjoint (part M i) (part M j) := by
  rw [Finset.disjoint_left]; intro x hx hj
  unfold part at hx; obtain ⟨y, hy, rfl⟩ := Finset.mem_map.mp hx
  rw [mem_part] at hj
  exact h (Fin.ext (((Finset.mem_filter.mp hy).2).symm.trans hj))

theorem part_cover (M : Memref sig κ sp (stack n R C) e) : (Finset.univ.biUnion fun i => part M i) = M.view.set := by
  ext x; rw [Finset.mem_biUnion]
  constructor
  · rintro ⟨i, -, hx⟩; unfold part at hx; obtain ⟨y, -, rfl⟩ := Finset.mem_map.mp hx; exact View.emb_mem_set _ _
  · intro hx; obtain ⟨y, -, rfl⟩ := Finset.mem_map.mp hx
    exact ⟨y 0, Finset.mem_univ _, (mem_part M (y 0) y).mpr rfl⟩

theorem exists_ix2 (y : (⟨2, ![R, C]⟩ : Shape).Idx) : ∃ (a : Fin R) (b : Fin C), y = ix2 a b :=
  ⟨y 0, y 1, by funext a; fin_cases a <;> rfl⟩
theorem exists_ix3 (y : (stack n R C).Idx) : ∃ (i : Fin n) (a : Fin R) (b : Fin C), y = ix3 i a b :=
  ⟨y 0, y 1, y 2, by funext a; fin_cases a <;> rfl⟩

section Slot
variable (M : Memref sig κ sp (stack n R C) e) (off : Fin 3 → ℕ) (inb : ∀ a, off a + (⟨3, ![1, R, C]⟩ : Shape).size a ≤ (stack n R C).size a)
  (hsq : (⟨3, ![1, R, C]⟩ : Shape).Squeezes ⟨2, ![R, C]⟩)

/-- One slot as an array of its own. -/
abbrev slot (hs : ∀ a, (Rect.unit (s := stack n R C) off (⟨3, ![1, R, C]⟩ : Shape).size inb).stride a = 1) : Memref sig κ sp ⟨2, ![R, C]⟩ e :=
  (M.slice (Rect.unit (s := stack n R C) off (⟨3, ![1, R, C]⟩ : Shape).size inb) hs).squeeze ⟨2, ![R, C]⟩ hsq

variable (i : Fin n) (hoff : off = ![(i : ℕ), 0, 0])

include hoff in
theorem slot_emb (hs) (a : Fin R) (b : Fin C) : (slot M off inb hsq hs).view.emb (ix2 a b) = M.view.emb (ix3 i a b) := by
  subst hoff
  show M.view.emb ((Rect.unit (s := stack n R C) _ _ inb).emb (Shape.reshapeEquiv _ (ix2 a b))) = _
  refine congrArg M.view.emb ?_
  rw [reshapeEquiv_ix2_1ab]
  refine Shape.idx3_ext ?_ ?_ ?_
  · show i.val + 1 * 0 = i.val; omega
  · show 0 + 1 * a.val = a.val; omega
  · show 0 + 1 * b.val = b.val; omega

include hoff in
theorem slot_set (hs) : (slot M off inb hsq hs).view.set = part M i := by
  ext x
  constructor
  · intro hx; obtain ⟨y, -, rfl⟩ := Finset.mem_map.mp hx
    obtain ⟨a, b, rfl⟩ := exists_ix2 y
    rw [slot_emb M off inb hsq i hoff hs, mem_part]; rfl
  · intro hx; unfold part at hx; obtain ⟨y, hy, rfl⟩ := Finset.mem_map.mp hx
    obtain ⟨j, a, b, rfl⟩ := exists_ix3 y
    have hi : j = i := Fin.ext (Finset.mem_filter.mp hy).2
    subst hi
    rw [← slot_emb M off inb hsq j hoff hs]
    exact View.emb_mem_set _ _

include hoff in
/-- Reading a slot is reading the stack there. -/
theorem slot_read (hs) (f : M.view.ty.Contents Val) (a : Fin R) (b : Fin C) :
    (slot M off inb hsq hs).view.read Val f (ix2 a b) = M.view.read Val f (ix3 i a b) := by
  rw [View.read_apply, View.read_apply]
  show cast _ (f ((slot M off inb hsq hs).view.emb (ix2 a b))) = _
  simp only [slot_emb M off inb hsq i hoff hs a b]

include hoff in
/-- A slot written with `w` holds there what a stack with `w` in that slot holds. -/
theorem slot_write (hs) (f g : M.view.ty.Contents Val) (w : (⟨2, ![R, C]⟩ : Shape).Idx → Val e)
    (h : ∀ a b, M.view.read Val g (ix3 i a b) = w (ix2 a b)) :
    ∀ x ∈ part M i, (slot M off inb hsq hs).view.write Val f w Finset.univ x = g x := by
  intro x hx
  rw [← slot_set M off inb hsq i hoff hs] at hx
  obtain ⟨y, -, rfl⟩ := Finset.mem_map.mp hx
  refine View.eq_of_read_eq (v := (slot M off inb hsq hs).view) ?_
  rw [View.read_write_univ]
  obtain ⟨a, b, rfl⟩ := exists_ix2 y
  rw [slot_read M off inb hsq i hoff hs, h]

end Slot

end Cert.Slots

end
-- ==== Proof.Gathers.lean ====
module

public import proofs.«01_k».proof.Proof.Exchange
public import proofs.«01_k».proof.Proof.Slots
public import Idealize.ShloMosaic.Lib.Transfers

/-
  The gather, for arrays of any shape in any program: its protocol, its body on one device and how the slots of the
  results are dealt out.

  Device `c` copies its own block into slot `c` of its own result, of its sibling's, and of the three results at
  its core index on the other chips. As each of the three blocks from those chips lands, it passes it on to its
  sibling. So every device ends with all eight blocks: its own, its sibling's, three from the other chips, and
  three that its sibling passed on.
-/

@[expose] public section

noncomputable section

namespace Cert.Gathers

open Cert.Exchange Cert.Slots

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks)
open Idealize.ShloMosaic.Transfers (shareTok shareDrop pointsTo_toks)

set_option Elab.async false

/-! ## The mesh: device `4x + 2y + core` -/

abbrev nD : ℕ := 8
abbrev τ : Topo := Topo.v7x

/-- The other core of the chip. -/
def sib : Dev nD ≃ Dev nD := ⟨![1, 0, 3, 2, 5, 4, 7, 6], ![1, 0, 3, 2, 5, 4, 7, 6], by decide, by decide⟩
/-- The same core of the chip across `x`. -/
def fx : Dev nD ≃ Dev nD := ⟨![4, 5, 6, 7, 0, 1, 2, 3], ![4, 5, 6, 7, 0, 1, 2, 3], by decide, by decide⟩
/-- The same core of the chip across `y`. -/
def fy : Dev nD ≃ Dev nD := ⟨![2, 3, 0, 1, 6, 7, 4, 5], ![2, 3, 0, 1, 6, 7, 4, 5], by decide, by decide⟩
/-- The same core of the chip across both. -/
def fxy : Dev nD ≃ Dev nD := ⟨![6, 7, 4, 5, 2, 3, 0, 1], ![6, 7, 4, 5, 2, 3, 0, 1], by decide, by decide⟩

theorem sib_sib (c : Dev nD) : sib (sib c) = c := by revert c; decide
theorem fx_fx (c : Dev nD) : fx (fx c) = c := by revert c; decide
theorem fy_fy (c : Dev nD) : fy (fy c) = c := by revert c; decide
theorem fxy_fxy (c : Dev nD) : fxy (fxy c) = c := by revert c; decide

theorem fx_sib (c : Dev nD) : fx (sib c) = sib (fx c) := by revert c; decide
theorem fy_sib (c : Dev nD) : fy (sib c) = sib (fy c) := by revert c; decide
theorem fxy_sib (c : Dev nD) : fxy (sib c) = sib (fxy c) := by revert c; decide

/-- The devices whose slots a device's copies and waits name. -/
abbrev place (c : Dev nD) : Fin 8 → Dev nD := ![c, fx c, fy c, fxy c, sib c, sib (fx c), sib (fy c), sib (fxy c)]
/-- The devices a device sends to, in order. -/
abbrev target (c : Dev nD) : Fin 7 → Dev nD := ![sib c, fx c, fy c, fxy c, sib c, sib c, sib c]

/-! ## A gather in a program -/

/-- A gather of blocks of `R` by `C`: the array of the device's own block, the array of its result and the semaphores. -/
structure Call (sig : RefSig) (R C : ℕ) (e : EltTy) where
  xM : Memref sig .tc .hbm ⟨2, ![R, C]⟩ e
  oM : Memref sig .tc .hbm ⟨3, ![8, R, C]⟩ e
  sem : Fin 15 → DmaSem sig
  inj : Function.Injective sem
  sq : (⟨3, ![1, R, C]⟩ : Shape).Squeezes ⟨2, ![R, C]⟩
  amt_pos : 0 < xM.view.dmaCredit
  credit : ∀ off inb, (slot (n := 8) oM off inb sq (fun _ => rfl)).view.dmaCredit = xM.view.dmaCredit
  xAll : xM.view.set = Finset.univ
  oAll : oM.view.set = Finset.univ
  xWords : xM.view.WordExact
  oWords : ∀ off inb, (slot (n := 8) oM off inb sq (fun _ => rfl)).view.WordExact

namespace Call

variable {sig : RefSig} {R C : ℕ} {e : EltTy} (G : Call sig R C e) {F : FTy → Type} [FloatOps F]

local notation "𝕄" => MT nD τ sig Unit (Elt F) ℕ (UR sig nD τ × UR sig nD τ) ℕ

variable (m : (ℓ : Loc nD τ sig) → Buf (Elt F) ℓ) (o : G.oM.view.ty.Contents (Elt F))

/-- Slot `d` of the result is device `d`'s block. -/
def IsOut : Prop := ∀ (i : Dev nD) a b, G.oM.view.read (Elt F) o (ix3 (n0 := 8) (n1 := R) (n2 := C) i a b)
  = G.xM.view.read (Elt F) (m (G.xM.view.loc (i : Thread nD τ))) (ix2 a b)

/-- Slot `i` of device `c`'s result, holding what the result holds there. -/
def slotPts (f : G.oM.view.ty.Contents (Elt F)) (c i : Dev nD) : sProp 𝕄 :=
  G.oM.view.loc (c : Thread nD τ) ↦[part (n := 8) G.oM i]{fullShare} f

/-- A share of device `c`'s own block. -/
def ownPts (c : Dev nD) (q : PosShare TreeShare) : sProp 𝕄 :=
  G.xM.view.loc (c : Thread nD τ) ↦[G.xM.view.set]{q} m (G.xM.view.loc (c : Thread nD τ))

omit [FloatOps F] in
instance slotPts_storable (f) (c i : Dev nD) : BI.Storable (upEmb : UEmb _ 𝕄) (slotPts (F := F) G f c i) := by unfold slotPts; infer_instance
omit [FloatOps F] in
instance ownPts_storable (c : Dev nD) (q) : BI.Storable (upEmb : UEmb _ 𝕄) (ownPts G m c q) := by unfold ownPts; infer_instance

/-- The levels of the waits. -/
abbrev lev : Fin 15 → ℕ := ![0, 0, 0, 0, 0, 0, 0, 1, 1, 1, 1, 2, 2, 2, 0]

/-- The semaphores: sends `0 … 6`, landings `7 … 13`, the local copy `14`. The three blocks from the other chips
    land below those passed on by the sibling. -/
def plan : Plan nD sig where
  n := 15
  sem := G.sem
  inj := G.inj
  rcv := ![.refl _, .refl _, .refl _, .refl _, .refl _, .refl _, .refl _, sib, fx, fy, fxy, sib, sib, sib, .refl _]
  amt := G.xM.view.dmaCredit
  amt_pos := G.amt_pos
  lev := lev

/-- What each wait hands over. -/
def pay (c : Dev nD) (k : Fin 15) : sProp 𝕄 :=
  match k with
  | 0 => ownPts G m c (shareTok fullShare 4 0)
  | 1 => ownPts G m c (shareTok fullShare 4 1)
  | 2 => ownPts G m c (shareTok fullShare 4 2)
  | 3 => ownPts G m c (shareTok fullShare 4 3)
  | 4 => slotPts G o c (fx c)
  | 5 => slotPts G o c (fy c)
  | 6 => slotPts G o c (fxy c)
  | 7 => slotPts G o c (sib c)
  | 8 => slotPts G o c (fx c)
  | 9 => slotPts G o c (fy c)
  | 10 => slotPts G o c (fxy c)
  | 11 => slotPts G o c (sib (fx c))
  | 12 => slotPts G o c (sib (fy c))
  | 13 => slotPts G o c (sib (fxy c))
  | 14 => iprop(slotPts G o c c ∗ ownPts G m c (shareDrop fullShare 4))

omit [FloatOps F] in
instance pay_storable (c : Dev nD) (k : Fin (plan G).n) : BI.Storable (upEmb : UEmb _ 𝕄) (pay G m o c k) := by
  change Fin 15 at k
  unfold pay; split <;> infer_instance

/-- The landings a device causes elsewhere. -/
abbrev S₀ : Finset (Fin (plan G).n) := ({7, 8, 9, 10, 11, 12, 13} : Finset (Fin 15))

section Landing
variable (off : Fin 3 → ℕ) (inb : ∀ a, off a + (⟨3, ![1, R, C]⟩ : Shape).size a ≤ (stack 8 R C).size a)
  (hsq : (⟨3, ![1, R, C]⟩ : Shape).Squeezes ⟨2, ![R, C]⟩) (hs : ∀ a, (Rect.unit (s := stack 8 R C) off (⟨3, ![1, R, C]⟩ : Shape).size inb).stride a = 1)

omit [FloatOps F] in
/-- A slot of a result as its view holds it. -/
theorem slotPts_view (f : G.oM.view.ty.Contents (Elt F)) (c i : Dev nD) (hoff : off = ![(i : ℕ), 0, 0]) :
    slotPts G f c i = ((slot (n := 8) G.oM off inb hsq hs).view.loc (c : Thread nD τ) ↦[(slot (n := 8) G.oM off inb hsq hs).view.set]{fullShare} f : sProp 𝕄) := by
  unfold slotPts; rw [slot_set (n := 8) G.oM off inb hsq i hoff hs]

omit [FloatOps F] in
/-- A block copied into slot `i` leaves there what the result has there, if the block is device `i`'s. -/
theorem landed (f : G.oM.view.ty.Contents (Elt F)) (w : (⟨2, ![R, C]⟩ : Shape).Idx → Elt F e) (c i : Dev nD) (hoff : off = ![(i : ℕ), 0, 0])
    (h : ∀ a b, G.oM.view.read (Elt F) o (ix3 (n0 := 8) (n1 := R) (n2 := C) i a b) = w (ix2 a b)) :
    ((slot (n := 8) G.oM off inb hsq hs).view.loc (c : Thread nD τ) ↦[(slot (n := 8) G.oM off inb hsq hs).view.set]{fullShare}
        (slot (n := 8) G.oM off inb hsq hs).view.write (Elt F) f w Finset.univ : sProp 𝕄)
      ⊢ slotPts G o c i := by
  unfold slotPts
  rw [slot_set (n := 8) G.oM off inb hsq i hoff hs]
  exact Entails.of_eq (pointsTo_congr (slot_write (n := 8) G.oM off inb hsq i hoff hs f o w h))

end Landing

/-! ## The body -/

/-- A device's result as launched. -/
abbrev V1 (c : Dev nD) : G.oM.view.ty.Contents (Elt F) := m (G.oM.view.loc (c : Thread nD τ))

/-- The slots device `c` writes: its own slot of its own, its sibling's and the three other chips' results, and of
    its sibling's result the slots of the three blocks it passes on. -/
def start (c : Dev nD) : sProp 𝕄 :=
  iprop(slotPts G (V1 G m c) c c ∗ slotPts G (V1 G m (sib c)) (sib c) c
    ∗ slotPts G (V1 G m (fx c)) (fx c) c ∗ slotPts G (V1 G m (fy c)) (fy c) c ∗ slotPts G (V1 G m (fxy c)) (fxy c) c
    ∗ slotPts G (V1 G m (sib c)) (sib c) (fx c) ∗ slotPts G (V1 G m (sib c)) (sib c) (fy c) ∗ slotPts G (V1 G m (sib c)) (sib c) (fxy c))

/-- Every slot of device `c`'s result filled. -/
def full (c : Dev nD) : sProp 𝕄 :=
  iprop(slotPts G o c c ∗ slotPts G o c (sib c) ∗ slotPts G o c (fx c) ∗ slotPts G o c (fy c) ∗ slotPts G o c (fxy c)
    ∗ slotPts G o c (sib (fx c)) ∗ slotPts G o c (sib (fy c)) ∗ slotPts G o c (sib (fxy c)))

/-- The five shares of its own block that a device's copies read through. -/
def shares (c : Dev nD) : sProp 𝕄 :=
  iprop(ownPts G m c (shareDrop fullShare 4) ∗ ownPts G m c (shareTok fullShare 4 0) ∗ ownPts G m c (shareTok fullShare 4 1)
    ∗ ownPts G m c (shareTok fullShare 4 2) ∗ ownPts G m c (shareTok fullShare 4 3))

abbrev 𝒱₀ : Variants := Variants.none

/-- The copies in the order they are issued: the cell the copy credits here, and the one it credits at its receiver
    (for the local copy the same). -/
abbrev copies : List (Fin 15 × Fin 15) := [(14, 14), (0, 7), (1, 8), (2, 9), (3, 10), (4, 11), (5, 12), (6, 13)]
/-- The cells in the order they are waited on. -/
abbrev waits : List (Fin 15) := [8, 9, 10, 7, 11, 12, 13, 0, 1, 2, 3, 4, 5, 6, 14]

abbrev opens (b : ℕ) : Finset (Fin 15) := (waits.drop b).toFinset
abbrev closed (b : ℕ) : Finset (Fin 15) := (waits.take b).toFinset
abbrev toIssue (a : ℕ) : Finset (Fin 15) := ((copies.drop a).map Prod.fst ++ (copies.drop a).map Prod.snd).toFinset
abbrev credits (a b : ℕ) : Finset (Fin 15) := (({7, 8, 9, 10, 11, 12, 13} : Finset (Fin 15)) ∪ ((copies.take a).map Prod.fst).toFinset) \ closed b
abbrev owing (a : ℕ) : Finset (Fin 15) := ((copies.drop a).map Prod.snd).toFinset.erase 14

/-- Device `c` with `a` copies issued and `b` waits done. -/
def At (c : Dev nD) (a b : ℕ) : sProp 𝕄 := (plan G).St (τ := τ) (pay G m o) c (opens b) (toIssue a) (credits a b) (owing a) (closed b)

/-- Copy `a`, crediting `i` here and `j` at its receiver, is the next to issue. -/
abbrev Sends (a b : ℕ) (i j : Fin 15) : Prop :=
  (i ∈ toIssue a ∧ j ∈ (toIssue a).erase i ∧ i ∉ credits a b ∧ j ∈ owing a)
    ∧ ((toIssue a).erase i).erase j = toIssue (a + 1) ∧ insert i (credits a b) = credits (a + 1) b ∧ (owing a).erase j = owing (a + 1)
/-- Cell `i` is the next to wait on, its credit is there or on its way, and what is still owed lies above it. -/
abbrev Waits (a b : ℕ) (i : Fin 15) : Prop :=
  (i ∈ opens b ∧ i ∈ credits a b ∧ i ∉ closed b ∧ ∀ k' ∈ owing a, lev i < lev k')
    ∧ (opens b).erase i = opens (b + 1) ∧ (credits a b).erase i = credits a (b + 1) ∧ insert i (closed b) = closed (b + 1)

section Steps
variable {Λ : Labels} (defs : Defs nD τ sig (Elt F) Λ) {m o} {c : Dev nD} {α : Type} {Q : α → sProp (MT nD τ sig Unit (Elt F) ℕ (UR sig nD τ × UR sig nD τ) ℕ)} {k : PUnit → Prog (TpuEff nD τ sig (Elt F) Λ .tc) α}
  (off : Fin 3 → ℕ) (inb : ∀ a, off a + (⟨3, ![1, R, C]⟩ : Shape).size a ≤ (stack 8 R C).size a)

/-- The slot of a result that the kernel names by an offset. -/
abbrev sl : Memref sig .tc .hbm ⟨2, ![R, C]⟩ e := slot (n := 8) G.oM off inb G.sq (fun _ => rfl)

/-- The local copy of its own block. -/
theorem keep_own (hO : IsOut G m o) (hoff : off = ![(c : ℕ), 0, 0]) (f : G.oM.view.ty.Contents (Elt F))
    {hsrc : (G.xM).view.WordExact} {hdst : (sl G off inb).view.WordExact} {sL : DmaSem sig}
    {hsem : DmaTarget.Typed (nD := nD) (τ := τ) (p := .tc) .hbm (.dma sL) (.here (sl G off inb))}
    (hi : sL = (plan G).sem (14 : Fin 15)) :
    iprop(At G m o c 0 0 ∗ ownPts G m c (shareDrop fullShare 4) ∗ slotPts G f c c)
      ⊢ iprop((At G m o c 1 0 -∗ wp frame (wpE defs 𝒱₀ (c : Thread nD τ) none) Set.univ (k ⟨⟩) Q)
          -∗ wp frame (wpE defs 𝒱₀ (c : Thread nD τ) none) Set.univ
            (.op (.enqueueDma G.xM (.here (sl G off inb)) (.dma sL) hsrc hdst hsem) k) Q) := by
  have h : (14 : Fin 15) ∈ toIssue 0 ∧ (14 : Fin 15) ∉ credits 0 0 ∧ (toIssue 0).erase 14 = toIssue 1 ∧ insert 14 (credits 0 0) = credits 1 0
      ∧ owing 0 = owing 1 := by decide
  obtain ⟨h1, h2, h3, h4, h5⟩ := h
  rw [slotPts_view G off inb G.sq (fun _ => rfl) f c c hoff]
  unfold At
  rw [← h3, ← h4, ← h5]
  exact (plan G).copy (pay := pay G m o) 𝒱₀ (14 : Fin 15) hi rfl h1 h2 (G.credit off inb)
    (BIClass.sep_mono (landed G o off inb G.sq (fun _ => rfl) _ _ c c hoff (hO c)) (BI.Entails.refl _))

/-- Its own block sent to device `n`. -/
theorem send_own (hO : IsOut G m o) (a : ℕ) (i j : Fin 15) (h : Sends a 0 i j) (n : Dev nD) (hn : n = (plan G).rcv j c) (hto : (plan G).rcv i c = c)
    (q : PosShare TreeShare) (hpi : ownPts G m c q ⊢ pay G m o c i) (hpj : slotPts G o n c ⊢ pay G m o n j)
    (hoff : off = ![(c : ℕ), 0, 0]) (f : G.oM.view.ty.Contents (Elt F))
    {n' : Dev nD} (hn' : n' = n) {hsc : (sl G off inb).view.ref.isScScratch = false}
    {hsrc : (G.xM).view.WordExact} {hdst : (sl G off inb).view.WordExact} {sS sR : DmaSem sig}
    {hsem : DmaTarget.Typed .hbm (.dma sR) (.remote (Dev.tc n' : Thread nD τ) (sl G off inb) (.dma sS) hsc)}
    (hi : sS = (plan G).sem i) (hj : sR = (plan G).sem j) :
    iprop(At G m o c a 0 ∗ ownPts G m c q ∗ slotPts G f n c)
      ⊢ iprop((At G m o c (a + 1) 0 -∗ wp frame (wpE defs 𝒱₀ (c : Thread nD τ) none) Set.univ (k ⟨⟩) Q)
          -∗ wp frame (wpE defs 𝒱₀ (c : Thread nD τ) none) Set.univ
            (.op (.enqueueDma G.xM (.remote (Dev.tc n' : Thread nD τ) (sl G off inb) (.dma sS) hsc) (.dma sR) hsrc hdst hsem) k) Q) := by
  subst hn'
  obtain ⟨⟨h1, h2, h3, h4⟩, h5, h6, h7⟩ := h
  rw [slotPts_view G off inb G.sq (fun _ => rfl) f n' c hoff]
  unfold At
  rw [← h5, ← h6, ← h7]
  exact (plan G).send (pay := pay G m o) 𝒱₀ i j hi hj hto hn h1 h2 h3 h4 (G.credit off inb) hpi
    ((landed G o off inb G.sq (fun _ => rfl) f _ n' c hoff (hO c)).trans hpj)

/-- The block that landed in slot `d` passed on to the sibling. -/
theorem pass_on (a b : ℕ) (i j : Fin 15) (h : Sends a b i j) (d : Dev nD) (hn : sib c = (plan G).rcv j c) (hto : (plan G).rcv i c = c)
    (hpi : slotPts G o c d ⊢ pay G m o c i) (hpj : slotPts G o (sib c) d ⊢ pay G m o (sib c) j)
    (hoff : off = ![(d : ℕ), 0, 0]) (f : G.oM.view.ty.Contents (Elt F))
    {n' : Dev nD} (hn' : n' = sib c) {hsc : (sl G off inb).view.ref.isScScratch = false}
    {hsrc : (sl G off inb).view.WordExact} {hdst : (sl G off inb).view.WordExact} {sS sR : DmaSem sig}
    {hsem : DmaTarget.Typed .hbm (.dma sR) (.remote (Dev.tc n' : Thread nD τ) (sl G off inb) (.dma sS) hsc)}
    (hi : sS = (plan G).sem i) (hj : sR = (plan G).sem j) :
    iprop(At G m o c a b ∗ slotPts G o c d ∗ slotPts G f (sib c) d)
      ⊢ iprop((At G m o c (a + 1) b -∗ wp frame (wpE defs 𝒱₀ (c : Thread nD τ) none) Set.univ (k ⟨⟩) Q)
          -∗ wp frame (wpE defs 𝒱₀ (c : Thread nD τ) none) Set.univ
            (.op (.enqueueDma (sl G off inb) (.remote (Dev.tc n' : Thread nD τ) (sl G off inb) (.dma sS) hsc) (.dma sR) hsrc hdst hsem) k) Q) := by
  subst hn'
  obtain ⟨⟨h1, h2, h3, h4⟩, h5, h6, h7⟩ := h
  rw [slotPts_view G off inb G.sq (fun _ => rfl) f (sib c) d hoff,
    slotPts_view G off inb G.sq (fun _ => rfl) o c d hoff]
  unfold At
  rw [← h5, ← h6, ← h7]
  exact (plan G).send (pay := pay G m o) 𝒱₀ i j hi hj hto hn h1 h2 h3 h4 (G.credit off inb)
    ((Entails.of_eq (slotPts_view G off inb G.sq (fun _ => rfl) o c d hoff).symm).trans hpi)
    ((landed G o off inb G.sq (fun _ => rfl) f _ (sib c) d hoff
      (fun x y => (slot_read (n := 8) G.oM off inb G.sq d hoff (fun _ => rfl) o x y).symm)).trans hpj)

/-- A wait. -/
theorem await (a b : ℕ) (i : Fin 15) (h : Waits a b i) {s' : Shape} {e' : EltTy} {src : Memref sig .tc .hbm s' e'} {dst : Memref sig .tc .hbm ⟨2, ![R, C]⟩ e}
    (hN : dst.view.dmaCredit = G.xM.view.dmaCredit) (R : sProp 𝕄) (hR : pay G m o c i ⊢ R) {hsrc : src.view.WordExact} {hdst : dst.view.WordExact} {sW : DmaSem sig} (hi : sW = (plan G).sem i) :
    At G m o c a b
      ⊢ iprop(((At G m o c a (b + 1) ∗ R) -∗ wp frame (wpE defs 𝒱₀ (c : Thread nD τ) none) Set.univ (k ⟨⟩) Q)
          -∗ wp frame (wpE defs 𝒱₀ (c : Thread nD τ) none) Set.univ (.op (.waitDma2 sW src dst hsrc hdst) k) Q) := by
  obtain ⟨⟨h1, h2, h3, h4⟩, h5, h6, h7⟩ := h
  unfold At
  rw [← h5, ← h6, ← h7]
  iintro HS Hk
  iapply ((plan G).wait (pay := pay G m o) 𝒱₀ i hi h1 h2 h3 h4 hN) $$ [HS]
  · iexact HS
  iintro ⟨HS, HP⟩
  iapply Hk
  isplitl [HS]; · iexact HS
  iapply hR; iexact HP

end Steps

/-! ## The steps -/

section Program
variable {Λ : Labels}

/-- Its own block copied to device `n`. -/
abbrev give (n : Dev nD) (off : Fin 3 → ℕ) (inb : ∀ a, off a + (⟨3, ![1, R, C]⟩ : Shape).size a ≤ (stack 8 R C).size a) (i j : Fin 15) (k : PUnit → Prog (TpuEff nD τ sig (Elt F) Λ .tc) PUnit) : Prog (TpuEff nD τ sig (Elt F) Λ .tc) PUnit :=
  .op (.enqueueDma G.xM (.remote (Dev.tc n : Thread nD τ) (sl G off inb) (.dma (G.sem i)) rfl) (.dma (G.sem j)) G.xWords (G.oWords _ _) ⟨⟨rfl, Or.inl rfl⟩, trivial⟩) k
/-- A slot copied to the same slot of device `n`. -/
abbrev relay (n : Dev nD) (off : Fin 3 → ℕ) (inb : ∀ a, off a + (⟨3, ![1, R, C]⟩ : Shape).size a ≤ (stack 8 R C).size a) (i j : Fin 15) (k : PUnit → Prog (TpuEff nD τ sig (Elt F) Λ .tc) PUnit) : Prog (TpuEff nD τ sig (Elt F) Λ .tc) PUnit :=
  .op (.enqueueDma (sl G off inb) (.remote (Dev.tc n : Thread nD τ) (sl G off inb) (.dma (G.sem i)) rfl) (.dma (G.sem j)) (G.oWords _ _) (G.oWords _ _) ⟨⟨rfl, Or.inl rfl⟩, trivial⟩) k
/-- A wait for a block in a slot, named by the array it came from. -/
abbrev take (off : Fin 3 → ℕ) (inb : ∀ a, off a + (⟨3, ![1, R, C]⟩ : Shape).size a ≤ (stack 8 R C).size a) (i : Fin 15) (k : PUnit → Prog (TpuEff nD τ sig (Elt F) Λ .tc) PUnit) : Prog (TpuEff nD τ sig (Elt F) Λ .tc) PUnit :=
  .op (.waitDma2 (G.sem i) (sl G off inb) (sl G off inb) (G.oWords _ _) (G.oWords _ _)) k
/-- A wait for a block to have left a device's own array. -/
abbrev left (off : Fin 3 → ℕ) (inb : ∀ a, off a + (⟨3, ![1, R, C]⟩ : Shape).size a ≤ (stack 8 R C).size a) (i : Fin 15) (k : PUnit → Prog (TpuEff nD τ sig (Elt F) Λ .tc) PUnit) : Prog (TpuEff nD τ sig (Elt F) Λ .tc) PUnit :=
  .op (.waitDma2 (G.sem i) (sl G off inb) G.xM (G.oWords _ _) G.xWords) k

/-- The transfers and waits of the gather: the slots are named by `off`, the devices sent to by `peer`. -/
def steps (off : Fin 8 → Fin 3 → ℕ) (inb : ∀ k a, off k a + (⟨3, ![1, R, C]⟩ : Shape).size a ≤ (stack 8 R C).size a) (peer : Fin 7 → Dev nD) :
    Prog (TpuEff nD τ sig (Elt F) Λ .tc) PUnit :=
  .op (.enqueueDma G.xM (.here (sl G (off 0) (inb 0))) (.dma (G.sem 14)) G.xWords (G.oWords _ _) ⟨Or.inl rfl, trivial⟩) fun _ =>
  give G (peer 0) (off 0) (inb 0) 0 7 fun _ =>
  give G (peer 1) (off 0) (inb 0) 1 8 fun _ =>
  give G (peer 2) (off 0) (inb 0) 2 9 fun _ =>
  give G (peer 3) (off 0) (inb 0) 3 10 fun _ =>
  take G (off 1) (inb 1) 8 fun _ =>
  relay G (peer 4) (off 1) (inb 1) 4 11 fun _ =>
  take G (off 2) (inb 2) 9 fun _ =>
  relay G (peer 5) (off 2) (inb 2) 5 12 fun _ =>
  take G (off 3) (inb 3) 10 fun _ =>
  relay G (peer 6) (off 3) (inb 3) 6 13 fun _ =>
  take G (off 4) (inb 4) 7 fun _ =>
  take G (off 5) (inb 5) 11 fun _ =>
  take G (off 6) (inb 6) 12 fun _ =>
  take G (off 7) (inb 7) 13 fun _ =>
  left G (off 0) (inb 0) 0 fun _ =>
  left G (off 0) (inb 0) 1 fun _ =>
  left G (off 0) (inb 0) 2 fun _ =>
  left G (off 0) (inb 0) 3 fun _ =>
  take G (off 1) (inb 1) 4 fun _ =>
  take G (off 2) (inb 2) 5 fun _ =>
  take G (off 3) (inb 3) 6 fun _ =>
  .op (.waitDma2 (G.sem 14) G.xM (sl G (off 0) (inb 0)) G.xWords (G.oWords _ _)) fun _ => .ret ⟨⟩

end Program

set_option maxHeartbeats 4000000 in
set_option maxRecDepth 8192 in
/-- The body of a gather on device `c`: the copies, the waits and the blocks passed on, in the kernel's order. -/
theorem body {Λ : Labels} (defs : Defs nD τ sig (Elt F) Λ) (hO : IsOut G m o) (c : Dev nD) (off : Fin 8 → Fin 3 → ℕ) (inb : ∀ k a, off k a + (⟨3, ![1, R, C]⟩ : Shape).size a ≤ (stack 8 R C).size a)
    (hoff : ∀ k, off k = ![(place c k : ℕ), 0, 0]) (peer : Fin 7 → Dev nD) (hto : ∀ k, peer k = target c k) (K : PUnit → sProp 𝕄) :
    iprop((At G m o c 0 0 ∗ start G m c ∗ shares G m c) ∗ ((At G m o c 8 15 ∗ full G o c ∗ shares G m c) -∗ K ⟨⟩))
      ⊢ wp frame (wpE defs 𝒱₀ (c : Thread nD τ) none) Set.univ (steps G off inb peer) K := by
  unfold steps
  unfold start shares
  iintro ⟨⟨HS, ⟨D0, D1, D2, D3, D4, D5, D6, D7⟩, X4, X0, X1, X2, X3⟩, Hk⟩
  iapply (keep_own G defs (off 0) (inb 0) hO (hoff 0) _ rfl) $$ [HS X4 D0]
  · isplitl [HS]; · iexact HS
    isplitl [X4]; · iexact X4
    iexact D0
  iintro HS
  iapply (send_own G defs (off 0) (inb 0) hO 1 0 7 (by decide) (sib c) rfl rfl _ (BI.Entails.refl _)
    (by show _ ⊢ slotPts G _ _ (sib (sib c)); rw [sib_sib]) (hoff 0) _ (hto 0) rfl rfl) $$ [HS X0 D1]
  · isplitl [HS]; · iexact HS
    isplitl [X0]; · iexact X0
    iexact D1
  iintro HS
  iapply (send_own G defs (off 0) (inb 0) hO 2 1 8 (by decide) (fx c) rfl rfl _ (BI.Entails.refl _)
    (by show _ ⊢ slotPts G _ _ (fx (fx c)); rw [fx_fx]) (hoff 0) _ (hto 1) rfl rfl) $$ [HS X1 D2]
  · isplitl [HS]; · iexact HS
    isplitl [X1]; · iexact X1
    iexact D2
  iintro HS
  iapply (send_own G defs (off 0) (inb 0) hO 3 2 9 (by decide) (fy c) rfl rfl _ (BI.Entails.refl _)
    (by show _ ⊢ slotPts G _ _ (fy (fy c)); rw [fy_fy]) (hoff 0) _ (hto 2) rfl rfl) $$ [HS X2 D3]
  · isplitl [HS]; · iexact HS
    isplitl [X2]; · iexact X2
    iexact D3
  iintro HS
  iapply (send_own G defs (off 0) (inb 0) hO 4 3 10 (by decide) (fxy c) rfl rfl _ (BI.Entails.refl _)
    (by show _ ⊢ slotPts G _ _ (fxy (fxy c)); rw [fxy_fxy]) (hoff 0) _ (hto 3) rfl rfl) $$ [HS X3 D4]
  · isplitl [HS]; · iexact HS
    isplitl [X3]; · iexact X3
    iexact D4
  iintro HS
  iapply (await G defs (dst := sl G (off 1) (inb 1)) 5 0 8 (by decide) (G.credit _ _) (slotPts G o c (fx c)) (BI.Entails.refl _) rfl) $$ [HS]
  · iexact HS
  iintro ⟨HS, L0⟩
  iapply (pass_on G defs (off 1) (inb 1) 5 1 4 11 (by decide) (fx c) rfl rfl (BI.Entails.refl _)
    (by show _ ⊢ slotPts G _ _ (sib (fx (sib c))); rw [fx_sib, sib_sib]) (hoff 1) _ (hto 4) rfl rfl) $$ [HS L0 D5]
  · isplitl [HS]; · iexact HS
    isplitl [L0]; · iexact L0
    iexact D5
  iintro HS
  iapply (await G defs (dst := sl G (off 2) (inb 2)) 6 1 9 (by decide) (G.credit _ _) (slotPts G o c (fy c)) (BI.Entails.refl _) rfl) $$ [HS]
  · iexact HS
  iintro ⟨HS, L1⟩
  iapply (pass_on G defs (off 2) (inb 2) 6 2 5 12 (by decide) (fy c) rfl rfl (BI.Entails.refl _)
    (by show _ ⊢ slotPts G _ _ (sib (fy (sib c))); rw [fy_sib, sib_sib]) (hoff 2) _ (hto 5) rfl rfl) $$ [HS L1 D6]
  · isplitl [HS]; · iexact HS
    isplitl [L1]; · iexact L1
    iexact D6
  iintro HS
  iapply (await G defs (dst := sl G (off 3) (inb 3)) 7 2 10 (by decide) (G.credit _ _) (slotPts G o c (fxy c)) (BI.Entails.refl _) rfl) $$ [HS]
  · iexact HS
  iintro ⟨HS, L2⟩
  iapply (pass_on G defs (off 3) (inb 3) 7 3 6 13 (by decide) (fxy c) rfl rfl (BI.Entails.refl _)
    (by show _ ⊢ slotPts G _ _ (sib (fxy (sib c))); rw [fxy_sib, sib_sib]) (hoff 3) _ (hto 6) rfl rfl) $$ [HS L2 D7]
  · isplitl [HS]; · iexact HS
    isplitl [L2]; · iexact L2
    iexact D7
  iintro HS
  iapply (await G defs (dst := sl G (off 4) (inb 4)) 8 3 7 (by decide) (G.credit _ _) (slotPts G o c (sib c)) (BI.Entails.refl _) rfl) $$ [HS]
  · iexact HS
  iintro ⟨HS, L3⟩
  iapply (await G defs (dst := sl G (off 5) (inb 5)) 8 4 11 (by decide) (G.credit _ _) (slotPts G o c (sib (fx c))) (BI.Entails.refl _) rfl) $$ [HS]
  · iexact HS
  iintro ⟨HS, L4⟩
  iapply (await G defs (dst := sl G (off 6) (inb 6)) 8 5 12 (by decide) (G.credit _ _) (slotPts G o c (sib (fy c))) (BI.Entails.refl _) rfl) $$ [HS]
  · iexact HS
  iintro ⟨HS, L5⟩
  iapply (await G defs (dst := sl G (off 7) (inb 7)) 8 6 13 (by decide) (G.credit _ _) (slotPts G o c (sib (fxy c))) (BI.Entails.refl _) rfl) $$ [HS]
  · iexact HS
  iintro ⟨HS, L6⟩
  iapply (await G defs (dst := G.xM) 8 7 0 (by decide) rfl (ownPts G m c (shareTok fullShare 4 0)) (BI.Entails.refl _) rfl) $$ [HS]
  · iexact HS
  iintro ⟨HS, X0⟩
  iapply (await G defs (dst := G.xM) 8 8 1 (by decide) rfl (ownPts G m c (shareTok fullShare 4 1)) (BI.Entails.refl _) rfl) $$ [HS]
  · iexact HS
  iintro ⟨HS, X1⟩
  iapply (await G defs (dst := G.xM) 8 9 2 (by decide) rfl (ownPts G m c (shareTok fullShare 4 2)) (BI.Entails.refl _) rfl) $$ [HS]
  · iexact HS
  iintro ⟨HS, X2⟩
  iapply (await G defs (dst := G.xM) 8 10 3 (by decide) rfl (ownPts G m c (shareTok fullShare 4 3)) (BI.Entails.refl _) rfl) $$ [HS]
  · iexact HS
  iintro ⟨HS, X3⟩
  iapply (await G defs (dst := sl G (off 1) (inb 1)) 8 11 4 (by decide) (G.credit _ _) (slotPts G o c (fx c)) (BI.Entails.refl _) rfl) $$ [HS]
  · iexact HS
  iintro ⟨HS, L0⟩
  iapply (await G defs (dst := sl G (off 2) (inb 2)) 8 12 5 (by decide) (G.credit _ _) (slotPts G o c (fy c)) (BI.Entails.refl _) rfl) $$ [HS]
  · iexact HS
  iintro ⟨HS, L1⟩
  iapply (await G defs (dst := sl G (off 3) (inb 3)) 8 13 6 (by decide) (G.credit _ _) (slotPts G o c (fxy c)) (BI.Entails.refl _) rfl) $$ [HS]
  · iexact HS
  iintro ⟨HS, L2⟩
  iapply (await G defs (dst := sl G (off 0) (inb 0)) 8 14 14 (by decide) (G.credit _ _) (iprop(slotPts G o c c ∗ ownPts G m c (shareDrop fullShare 4))) (BI.Entails.refl _) rfl) $$ [HS]
  · iexact HS
  iintro ⟨HS, ⟨L7, X4⟩⟩
  rw [wp_ret]; imodintro
  iapply Hk
  unfold full
  isplitl [HS]; · iexact HS
  isplitl [L0 L1 L2 L3 L4 L5 L6 L7]
  · isplitl [L7]; · iexact L7
    isplitl [L3]; · iexact L3
    isplitl [L0]; · iexact L0
    isplitl [L1]; · iexact L1
    isplitl [L2]; · iexact L2
    isplitl [L4]; · iexact L4
    isplitl [L5]; · iexact L5
    iexact L6
  isplitl [X4]; · iexact X4
  isplitl [X0]; · iexact X0
  isplitl [X1]; · iexact X1
  isplitl [X2]; · iexact X2
  iexact X3

/-! ## The slots dealt out, and the whole read off -/

omit [FloatOps F] in
/-- The eight devices as seen from device `c`. -/
theorem around (Φ : Dev nD → sProp 𝕄) (c : Dev nD) : bigSep Finset.univ Φ
    = iprop(Φ c ∗ Φ (sib c) ∗ Φ (fx c) ∗ Φ (fy c) ∗ Φ (fxy c) ∗ Φ (sib (fx c)) ∗ Φ (sib (fy c)) ∗ Φ (sib (fxy c))) :=
  bigSep_univ_eq_bigSepL [c, sib c, fx c, fy c, fxy c, sib (fx c), sib (fy c), sib (fxy c)]
    (by revert c; decide) (by revert c; decide) Φ

omit [FloatOps F] in
/-- A result held whole is its eight slots. -/
theorem whole_slots (f : G.oM.view.ty.Contents (Elt F)) (c : Dev nD) :
    ((G.oM.view.loc (c : Thread nD τ)) ↦{fullShare} f : sProp 𝕄) = bigSep Finset.univ fun i : Dev nD => slotPts G f c i := by
  have hc : (Finset.univ.biUnion fun i : Dev nD => part (n := 8) G.oM i) = Finset.univ := (part_cover (n := 8) G.oM).trans G.oAll
  unfold slotPts
  exact pointsTo_blocks (ℓ := G.oM.view.loc (c : Thread nD τ)) (fun i : Dev nD => part (n := 8) G.oM i) (part_disjoint (n := 8) G.oM) hc f

omit [FloatOps F] in
/-- A device's own block held whole is the five shares. -/
theorem whole_shares (c : Dev nD) :
    ((G.xM.view.loc (c : Thread nD τ)) ↦{fullShare} m (G.xM.view.loc (c : Thread nD τ)) : sProp 𝕄) ⊣⊢ shares G m c := by
  have h : ((G.xM.view.loc (c : Thread nD τ)) ↦{fullShare} m (G.xM.view.loc (c : Thread nD τ)) : sProp 𝕄) = ownPts G m c fullShare := by
    unfold ownPts; rw [G.xAll]
  rw [h]
  unfold shares ownPts
  have := pointsTo_toks (ℓ := G.xM.view.loc (c : Thread nD τ)) (S := G.xM.view.set) (f := m (G.xM.view.loc (c : Thread nD τ))) (Ix := Unit) (Name := ℕ)
    (U := UR sig nD τ × UR sig nD τ) (Lvl := ℕ) fullShare 4
  rw [bigSep_univ_eq_bigSepL [0, 1, 2, 3] (by decide) (by decide)] at this
  exact this

omit [FloatOps F] in
/-- Every result whole, dealt to the devices that write its slots. -/
theorem deal_slots : (bigSep Finset.univ fun c : Dev nD => ((G.oM.view.loc (c : Thread nD τ)) ↦{fullShare} V1 G m c : sProp 𝕄))
    = bigSep Finset.univ fun c : Dev nD => start G m c := by
  have e (f : Dev nD ≃ Dev nD) (Φ : Dev nD → sProp 𝕄) : bigSep Finset.univ Φ = bigSep Finset.univ fun c => Φ (f c) :=
    bigSep_univ_equiv f Φ
  unfold start
  rw [bigSep_congr (fun c _ => (whole_slots G (V1 G m c) c).trans (around _ c))]
  simp only [bigSep_sep']
  rw [e sib (fun c => slotPts G (V1 G m c) c (sib c)), e fx (fun c => slotPts G (V1 G m c) c (fx c)), e fy (fun c => slotPts G (V1 G m c) c (fy c)),
    e fxy (fun c => slotPts G (V1 G m c) c (fxy c)), e sib (fun c => slotPts G (V1 G m c) c (sib (fx c))),
    e sib (fun c => slotPts G (V1 G m c) c (sib (fy c))), e sib (fun c => slotPts G (V1 G m c) c (sib (fxy c)))]
  simp only [fx_sib, fy_sib, fxy_sib, sib_sib, fx_fx, fy_fy, fxy_fxy]

theorem at_start (c : Dev nD) (W) : iprop((plan G).Pre (τ := τ) (pay G m o) (S₀ G) c ∗ owes (c : Thread nD τ) ((plan G).owed (S₀ G) c) W) ⊢ At G m o c 0 0 := by
  have h : opens 0 = Finset.univ ∧ toIssue 0 = Finset.univ ∧ credits 0 0 = ({7, 8, 9, 10, 11, 12, 13} : Finset (Fin 15))
      ∧ owing 0 = ({7, 8, 9, 10, 11, 12, 13} : Finset (Fin 15)) ∧ closed 0 = ∅ := by decide
  obtain ⟨h1, h2, h3, h4, h5⟩ := h
  unfold At; rw [h1, h2, h3, h4, h5]
  exact (plan G).St_intro (pay G m o) (S₀ G) c W

theorem at_end (c : Dev nD) : At G m o c 8 15 ⊢ iprop((∃ W, owes (c : Thread nD τ) 0 W) ∗ Pipeline.ownSems0 (plan G).osem c) := by
  have h : owing 8 = ∅ ∧ closed 15 = Finset.univ := by decide
  obtain ⟨h1, h2⟩ := h
  unfold At; rw [h1]
  exact (plan G).St_elim (pay G m o) _ _ _ _ h2 c

/-- Every device's slots filled and its own block unchanged. -/
def filled (c : Dev nD) : sProp 𝕄 := iprop(full G o c ∗ shares G m c)

theorem read_off (c : Dev nD) (s' : Phys nD τ sig (Elt F)) : iprop(filled G m o c ∗ SI s') ⊢ |={Set.univ}=> iprop(⌜s'.mem.mem (G.oM.view.loc (c : Thread nD τ)) = o
    ∧ s'.mem.mem (G.xM.view.loc (c : Thread nD τ)) = m (G.xM.view.loc (c : Thread nD τ))⌝ ∗ SI s') := by
  unfold filled full
  rw [← around (fun i => slotPts G o c i) c, ← whole_slots]
  iintro ⟨⟨Hv, Hs⟩, HSI⟩
  ihave Hx := (whole_shares G m c).2 $$ Hs
  icombine HSI Hv gives %h1
  icombine HSI Hx gives %h2
  imodintro
  isplitr
  · ipureintro; exact ⟨funext fun i => h1 i (Finset.mem_univ _), funext fun i => h2 i (Finset.mem_univ _)⟩
  iexact HSI

end Call

end Cert.Gathers

end
-- ==== Proof.GatherRun.lean ====
module

public import proofs.«01_k».proof.Proof.Gathers
public import proofs.«01_k».proof.Proof.Gen.GatherIdeal.Frame
public import proofs.«01_k».proof.Proof.Gen.GatherIdeal.Skeleton

/-
  The gather's body on one device.
-/

@[expose] public section

noncomputable section

namespace Cert.GatherRun

open Cert.GatherIdeal Cert.GatherIdeal.Gen Cert.Exchange Cert.Slots
open Cert.Gathers (Call place target)

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig Unit (Elt F) ℕ (UR sig nD τ × UR sig nD τ) ℕ

/-- The blocks gathered and the semaphores of the kernel. -/
abbrev call : Call sig 14848 1024 .bf16 where
  xM := Memref.whole main_arg0
  oM := Memref.whole main_v1
  sem k := k
  inj := fun _ _ h => h
  sq := squeezes_S1x14848x1024_S14848x1024
  amt_pos := View.dmaCredit_pos _ (by decide)
  credit := fun _ _ => rfl
  xAll := View.set_whole _
  oAll := View.set_whole _
  xWords := View.wordExact_whole _
  oWords := fun off inb => (View.wordExact_slice_whole_of_wholeWords main_v1 rfl _
    (.inr ⟨by decide, rfl, Nat.le_zero.mp (Nat.le_of_add_le_add_right (inb 1)), rfl⟩)).reshape _ _

/-- The slots the kernel names, and the devices it sends to. -/
abbrev offs (c : Dev nD) : Fin 8 → Fin 3 → ℕ := ![k0_off1 c, k0_off2 c, k0_off3 c, k0_off4 c, k0_off5 c, k0_off6 c, k0_off7 c, k0_off8 c]
abbrev peers (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
theorem offs_eq (c : Dev nD) (k : Fin 8) : offs c k = ![(place c k : ℕ), 0, 0] := by revert c k; decide
theorem peers_eq (c : Dev nD) (k : Fin 7) : peers c k = target c k := by revert c k; decide
theorem offs_inb (c : Dev nD) (k : Fin 8) (a) : offs c k a + S1x14848x1024.size a ≤ S8x14848x1024.size a := by
  rw [offs_eq]; revert c k a; decide

variable (m : (ℓ : Loc nD τ sig) → Buf (Elt F) ℓ)

/-- Slot `d` of the result is device `d`'s block. -/
def out : main_v1.ty.Contents (Elt F) :=
  fun (x : S8x14848x1024.Idx) => (show S14848x1024.Idx → Elt F .bf16 from m (((show Dev nD from x 0) : Thread nD τ).loc main_arg0)) (ix2 (x 1) (x 2))

theorem isOut : call.IsOut m (out m) := fun _ _ _ => rfl

set_option maxHeartbeats 4000000 in
set_option maxRecDepth 8192 in
/-- The kernel's body on device `c`. -/
theorem body (c : Dev nD) (K : PUnit → sProp 𝕄) :
    iprop((call.At m (out m) c 0 0 ∗ call.start m c ∗ call.shares m c) ∗ ((call.At m (out m) c 8 15 ∗ call.full (out m) c ∗ call.shares m c) -∗ K ⟨⟩))
      ⊢ wp frame (wpE (defs₀ (F := F)) Call.𝒱₀ (c : Thread nD τ) none) Set.univ (bodyAt0 t0_0) K := by
  unfold bodyAt0
  simp only [cc0_ag_weights_eq_skeleton]; unfold cc0_ag_weights_skel
  simp only [k0_part10_eq_skeleton]; unfold k0_part10_skel
  simp only [k0_part9_eq_skeleton, k0_part8_eq_skeleton, k0_part7_eq_skeleton, k0_part6_eq_skeleton,
    k0_part5_eq_skeleton, k0_part4_eq_skeleton, k0_part3_eq_skeleton, k0_part2_eq_skeleton, k0_part1_eq_skeleton]
  unfold k0_part9_skel k0_part8_skel k0_part7_skel k0_part6_skel k0_part5_skel k0_part4_skel k0_part3_skel k0_part2_skel k0_part1_skel
  simp only [Prog.lift, Prog.bind_op, Prog.bind_ret, Prog.pure_eq_ret, wp_deviceId]
  exact call.body m (out m) defs₀ (isOut m) c (offs c) (offs_inb c) (offs_eq c) (peers c) (peers_eq c) K

end Cert.GatherRun

end
-- ==== Proof.GatherLaunch.lean ====
module

public import proofs.«01_k».proof.Proof.Dealt
public import proofs.«01_k».proof.Proof.GatherRun
public import proofs.«01_k».proof.Proof.Gen.GatherIdeal.Launch

/-
  The gather launched on the eight devices: the slots of every result dealt to the devices that write them, and the
  whole result read off at the end.
-/

@[expose] public section

noncomputable section

namespace Cert.GatherRun

open Cert.Gathers (Call)
open Cert.GatherIdeal Cert.GatherIdeal.Gen Cert.Exchange Cert.Slots

open Idealize.ShloMosaic
open Idealize.ShloMosaic.TcCoe
open Idealize.ShloMosaic.Pipeline (Dat BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig Unit (Elt F) ℕ (UR sig nD τ × UR sig nD τ) ℕ

variable (m : (ℓ : Loc nD τ sig) → Buf (Elt F) ℓ)

/-! ## The region's data -/

/-- Before the body: the protocol as launched, the slots to write and the shares to read; after it: the semaphores
    back at zero, the slots filled and the shares. -/
def dats (_ : Fin 1) (c : Dev nD) : Dat τ (Elt F) Unit ℕ (UR sig nD τ × UR sig nD τ) ℕ cfg0 c where
  A w := w.elim0
  after w := w.elim0
  Φ t := match t with
    | ⟨0, _⟩ => iprop(call.plan.Pre (τ := τ) (call.pay m (out m)) call.S₀ c ∗ call.start m c ∗ call.shares m c)
    | ⟨_ + 1, _⟩ => iprop(Pipeline.ownSems0 call.plan.osem c ∗ call.full (out m) c ∗ call.shares m c)
  q _ := fullShare
  owed t := match t with
    | ⟨0, _⟩ => call.plan.owed call.S₀ c
    | ⟨_ + 1, _⟩ => 0

theorem body_obligation (c : Dev nD) : BodyObligationLoose (dats (F := F) m 0 c) (defs₀ (F := F)) Call.𝒱₀ () Set.univ := fun t => by
  rw [fin_N0 t, Finset.univ_eq_empty, bigSep_empty, bigSep_empty]
  show iprop(iprop(call.plan.Pre (τ := τ) (call.pay m (out m)) call.S₀ c ∗ call.start m c ∗ call.shares m c) ∗ (dats m 0 c).owesAt () t0_0.castSucc ∗ emp)
    ⊢ wp frame (wpE (defs₀ (F := F)) Call.𝒱₀ (c : Thread nD τ) none) Set.univ (bodyAt0 t0_0)
      (fun _ => iprop(iprop(Pipeline.ownSems0 call.plan.osem c ∗ call.full (out m) c ∗ call.shares m c) ∗ (dats m 0 c).owesAt () t0_0.succ ∗ emp))
  unfold Dat.owesAt Pipeline.owesWithin
  iintro ⟨⟨HP, HD, HX⟩, ⟨%W, -, HO⟩, -⟩
  iapply (body m c)
  isplitl [HP HD HX HO]
  · isplitl [HP HO]
    · iapply (call.at_start m (out m) c W); isplitl [HP]; · iexact HP
      iexact HO
    isplitl [HD] <;> iassumption
  iintro ⟨HS, HF, HX⟩
  ihave H := (call.at_end m (out m) c) $$ HS
  icases H with ⟨⟨%W', HO⟩, Hz⟩
  isplitl [Hz HF HX]
  · isplitl [Hz]; · iexact Hz
    isplitl [HF] <;> iassumption
  isplitl [HO]
  · iexists W'
    isplitr; · ipureintro; exact fun _ _ => Or.inl trivial
    iexact HO
  iempintro

/-! ## The launch -/

theorem ownSemFacts : Pipeline.OwnSemFacts cfg0.spec call.plan.osem := by decide

/-- What the certificate's own resources start as. -/
def u₀ : UR sig nD τ × UR sig nD τ :=
  (initOf (Pipeline.cells cfgs cellOf_inj) (Pipeline.launchToks cfgs cellOf_inj), initOf call.plan.cells call.plan.toks)

/-- From any memory with every semaphore at zero, every fair execution of the gather ends, on every device with all
    eight blocks in the result, its own block unchanged and every semaphore at zero. -/
theorem run_main (g : Dev nD → PrngReg) : θ_run (defs (F := F)) (onTc (τ := τ) main) ⟨m, fun _ => 0, g⟩
    (fun r => (∀ c : Dev nD, r.2.mem ((c : Thread nD τ).loc main_v1) = out m
      ∧ r.2.mem ((c : Thread nD τ).loc main_arg0) = m ((c : Thread nD τ).loc main_arg0)) ∧ r.2.sem = fun _ => 0) :=
  Cert.Dealt.run (fun p => (cfgs p).toPCfg) (fun p => (cfgs p).toPCfg_adm) (dats m) () cellOf_inj (0 : Fin 1)
    winFacts0.to₀ ownSemFacts embL defs₀ Call.𝒱₀ m g main (fun _ => .ret ⟨⟩)
    (hmain := fun _ => rfl) (hW := inferInstanceAs (IsEmpty (Fin 0))) (hK := rfl)
    (hbody := body_obligation m)
    (O₀ := call.plan.owed call.S₀) (howed₀ := fun _ => rfl)
    (L := Plan.L) (lv := call.plan.lv) (hL := Plan.L_of_ne)
    (hwaits := fun c => Pipeline.cellsWaits_intro cfgs (dats m) () 0 c fun w => w.elim0)
    (G := call.plan.G (call.pay m (out m))) (u₀ := u₀)
    (hu₀ := by
      unfold u₀
      iintro Hu
      ihave H := (ownU_pair _ _) $$ Hu
      icases H with ⟨HP, HX⟩
      imod (call.plan.fund (call.pay m (out m))) $$ HX with HG
      imodintro
      isplitl [HP] <;> iassumption)
    (X := fun c => iprop(call.plan.Pre (τ := τ) (call.pay m (out m)) call.S₀ c ∗ call.start m c ∗ call.shares m c)) (Y := call.filled m (out m)) (Z := fun _ => iprop(emp)) (T := call.filled m (out m))
    (hdeal := by
      refine (call.plan.setup (call.pay m (out m)) call.S₀ _ _).trans ?_
      simp only [unscopedRest0_eq, bigSep_sep']
      iintro H
      imod H with ⟨HP, HX, HV⟩
      imodintro
      isplitl
      · isplitl [HP]; · iexact HP
        isplitl [HV]
        · iapply (Entails.of_eq (call.deal_slots m)); iexact HV
        · iapply (show (bigSep Finset.univ fun c : Dev nD => (((c : Thread nD τ).loc main_arg0) ↦{fullShare} m ((c : Thread nD τ).loc main_arg0) : sProp 𝕄))
            ⊢ bigSep Finset.univ fun c => call.shares m c from bigSep_mono fun c _ => (call.whole_shares m c).1)
          iexact HX
      · iapply (Entails.of_eq (bigSep_emp_const (M := 𝕄) (Finset.univ : Finset (Dev nD))).symm); iempintro)
    (hin := fun c => by
      rw [show (dats m 0 c).Φ 0 = iprop(call.plan.Pre (τ := τ) (call.pay m (out m)) call.S₀ c ∗ call.start m c ∗ call.shares m c) from rfl]
      iintro ⟨H, -⟩; iexact H)
    (hout := fun c => by
      rw [show (dats m 0 c).Φ (Fin.last cfg0.N) = iprop(Pipeline.ownSems0 call.plan.osem c ∗ call.full (out m) c ∗ call.shares m c) from rfl]
      unfold Call.filled
      iintro ⟨Hz, HF⟩
      isplitl [HF]; · iexact HF
      isplitl [Hz]; · iexact Hz
      iapply (Entails.of_eq (scopedRest0_eq c).symm); iempintro)
    (htail := fun c Q' => by
      iintro ⟨Hk, Hb, HY, -, HO, -⟩
      rw [wp_ret]; imodintro
      iapply Hk
      isplitl [Hb HY]
      · isplitl [HY] <;> iassumption
      unfold Dat.owesAt Pipeline.owesWithin
      icases HO with ⟨%W, -, HO⟩
      iexists W; iexact HO)
    (QY := fun c s => s.mem ((c : Thread nD τ).loc main_v1) = out m ∧ s.mem ((c : Thread nD τ).loc main_arg0) = m ((c : Thread nD τ).loc main_arg0))
    (hfin := call.read_off m (out m))
    (hQ := fun _ h hs => ⟨h, sem_eq_zero_of_scoped (by decide) hs⟩)

end Cert.GatherRun

end
-- ==== Proof.GatherValue.lean ====
module

public import Idealize.ShloMosaic.Lib.Layout
public import Idealize.ShloMosaic.Lib.Pipeline.Value
public import Idealize.ShloMosaic.Lib.ValueIdxCoords

/-
  The gathered array: the eight blocks of rows of an array, stacked, are that array with its rows regrouped.
-/

@[expose] public section

namespace Cert.GatherValue

open Idealize.ShloMosaic
open Idealize.ShloMosaic.ValueIdx

variable {α : Type}

/-- If device `c` holds block `c` of the rows of `x`, the stack of what the devices hold is `x` reshaped. -/
theorem gathered (x : (⟨2, ![118784, 1024]⟩ : Shape).Idx → α) (f : Fin 8 → (⟨2, ![14848, 1024]⟩ : Shape).Idx → α)
    (h : ∀ c, f c = Layout.block ⟨2, ![14848, 1024]⟩ ⟨2, ![118784, 1024]⟩ 0 8 c x)
    (hc : (⟨2, ![118784, 1024]⟩ : Shape).ShapeCasts ⟨3, ![8, 14848, 1024]⟩) (i : (⟨3, ![8, 14848, 1024]⟩ : Shape).Idx) :
    f (i 0) (ix2 (n0 := 14848) (n1 := 1024) (i 1) (i 2)) = shapeCast ⟨3, ![8, 14848, 1024]⟩ x hc i := by
  refine (congrFun (h (i 0)) _).trans ((Layout.block_apply _ _ _ _).trans (shapeCast_apply x hc i _ ?_).symm)
  rw [Shape.rowMajor_val_two, Shape.rowMajor_val_three]
  obtain ⟨h1, h2⟩ := Layout.idx_rows_val (dS := ![14848, 1024]) (dT := ![118784, 1024]) (k := 8) (by decide) (i 0) (ix2 (n0 := 14848) (n1 := 1024) (i 1) (i 2))
  exact congrArg₂ (fun a b : ℕ => a * 1024 + b) h1 h2

end Cert.GatherValue
-- ==== Proof.ChipsRun.lean ====
module

public import proofs.«01_k».proof.Proof.Exchange
public import proofs.«01_k».proof.Proof.Slots
public import proofs.«01_k».proof.Proof.Gen.ChipsIdeal.Launch
public import proofs.«01_k».proof.Proof.Gen.ChipsIdeal.Skeleton
public import proofs.«01_k».proof.Proof.Gen.ChipsIdeal.Points

/-
  The exchange between chips, on one device.

  Every device holds four blocks, one for each chip. Device `c` copies the block for its own chip into slot
  `chip c` of its own result, and sends the block for each other chip into slot `chip c` of the result of the device
  at its core index on that chip. Nothing is passed on, so no wait depends on another device's wait.
-/

@[expose] public section

noncomputable section

namespace Cert.ChipsRun

open Cert.ChipsIdeal Cert.ChipsIdeal.Gen Cert.Exchange Cert.Slots

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig Unit (Elt F) ℕ (UR sig nD τ × UR sig nD τ) ℕ

variable (m : (ℓ : Loc nD τ sig) → Buf (Elt F) ℓ)

/-! ## The mesh: device `2 · chip + core` -/

/-- The same core of the chip across `x`. -/
def fx : Dev nD ≃ Dev nD := ⟨![4, 5, 6, 7, 0, 1, 2, 3], ![4, 5, 6, 7, 0, 1, 2, 3], by decide, by decide⟩
/-- The same core of the chip across `y`. -/
def fy : Dev nD ≃ Dev nD := ⟨![2, 3, 0, 1, 6, 7, 4, 5], ![2, 3, 0, 1, 6, 7, 4, 5], by decide, by decide⟩
/-- The same core of the chip across both. -/
def fxy : Dev nD ≃ Dev nD := ⟨![6, 7, 4, 5, 2, 3, 0, 1], ![6, 7, 4, 5, 2, 3, 0, 1], by decide, by decide⟩

/-- A device's chip. -/
abbrev chip (c : Dev nD) : Fin 4 := ⟨c.val / 2, by have : c.val < 8 := c.isLt; omega⟩
/-- The device at `c`'s core index on chip `i`. -/
abbrev peer (c : Dev nD) (i : Fin 4) : Dev nD := ⟨2 * i.val + c.val % 2, by show _ < 8; omega⟩

theorem fx_fx (c : Dev nD) : fx (fx c) = c := by revert c; decide
theorem fy_fy (c : Dev nD) : fy (fy c) = c := by revert c; decide
theorem fxy_fxy (c : Dev nD) : fxy (fxy c) = c := by revert c; decide

theorem peer_self (c : Dev nD) : peer c (chip c) = c := by revert c; decide
theorem peer_fx (c : Dev nD) : peer (fx c) (chip c) = c := by revert c; decide
theorem peer_fy (c : Dev nD) : peer (fy c) (chip c) = c := by revert c; decide
theorem peer_fxy (c : Dev nD) : peer (fxy c) (chip c) = c := by revert c; decide

theorem dev1_eq (c : Dev nD) : (⟨k0_dev1 c, k0_dev1_lt c⟩ : Dev nD) = fx c := by revert c; decide
theorem dev2_eq (c : Dev nD) : (⟨k0_dev2 c, k0_dev2_lt c⟩ : Dev nD) = fy c := by revert c; decide
theorem dev3_eq (c : Dev nD) : (⟨k0_dev3 c, k0_dev3_lt c⟩ : Dev nD) = fxy c := by revert c; decide

theorem off1_eq (c : Dev nD) : k0_off1 c = ![(chip c : ℕ), 0, 0] := by revert c; decide
theorem off2_eq (c : Dev nD) : k0_off2 c = ![(chip (fx c) : ℕ), 0, 0] := by revert c; decide
theorem off3_eq (c : Dev nD) : k0_off3 c = ![(chip (fy c) : ℕ), 0, 0] := by revert c; decide
theorem off4_eq (c : Dev nD) : k0_off4 c = ![(chip (fxy c) : ℕ), 0, 0] := by revert c; decide

/-! ## Arrays and contents -/

/-- A device's four blocks, one for each chip. -/
abbrev hM : Memref sig .tc .hbm S4x14848x1024 .bf16 := Memref.whole main_arg0
/-- The four blocks it receives, one from each chip. -/
abbrev oM : Memref sig .tc .hbm S4x14848x1024 .bf16 := Memref.whole main_v1

/-- A device's four blocks as launched. -/
abbrev H (c : Dev nD) : main_arg0.ty.Contents (Elt F) := m ((c : Thread nD τ).loc main_arg0)
/-- A device's result as launched. -/
abbrev V1 (c : Dev nD) : main_v1.ty.Contents (Elt F) := m ((c : Thread nD τ).loc main_v1)

/-- Slot `i` of what device `c` receives is the block that chip `i` holds for `c`'s chip. -/
def out (c : Dev nD) : main_v1.ty.Contents (Elt F) :=
  fun (x : S4x14848x1024.Idx) => (show S4x14848x1024.Idx → Elt F .bf16 from H m (peer c (x 0))) (ix3 (chip c) (x 1) (x 2))

/-- Slot `i` of device `c`'s result, holding what `f` holds there. -/
def slotPts (f : main_v1.ty.Contents (Elt F)) (c : Dev nD) (i : Fin 4) : sProp 𝕄 :=
  oM.view.loc (c : Thread nD τ) ↦[part (n := 4) oM i]{fullShare} f

/-- Device `c`'s block for chip `i`. -/
def ownPts (c : Dev nD) (i : Fin 4) : sProp 𝕄 :=
  hM.view.loc (c : Thread nD τ) ↦[part (n := 4) hM i]{fullShare} H m c

omit [FloatOps F] in
instance slotPts_storable (f) (c : Dev nD) (i : Fin 4) : BI.Storable (upEmb : UEmb _ 𝕄) (slotPts (F := F) f c i) := by unfold slotPts; infer_instance
omit [FloatOps F] in
instance ownPts_storable (c : Dev nD) (i : Fin 4) : BI.Storable (upEmb : UEmb _ 𝕄) (ownPts m c i) := by unfold ownPts; infer_instance

/-- The credit of one block's copy. -/
abbrev N : ℕ := (slot (n := 4) oM (![0, 0, 0]) (by decide) squeezes_S1x14848x1024_S14848x1024 (fun _ => rfl)).view.dmaCredit

/-- The semaphores: sends `0 … 2`, landings `3 … 5`, the local copy `6`. -/
def plan : Plan nD sig where
  n := 7
  sem k := ⟨k.val, by show k.val < 11; exact lt_trans k.isLt (by decide)⟩
  inj := fun _ _ h => Fin.ext (congrArg (fun x : DmaSem sig => x.val) h)
  rcv := ![.refl _, .refl _, .refl _, fx, fy, fxy, .refl _]
  amt := N
  amt_pos := View.dmaCredit_pos _ (by decide)
  lev := fun _ => 0

/-- What each wait hands over. -/
def pay (c : Dev nD) (k : Fin 7) : sProp 𝕄 :=
  match k with
  | 0 => ownPts m c (chip (fx c))
  | 1 => ownPts m c (chip (fy c))
  | 2 => ownPts m c (chip (fxy c))
  | 3 => slotPts (out m c) c (chip (fx c))
  | 4 => slotPts (out m c) c (chip (fy c))
  | 5 => slotPts (out m c) c (chip (fxy c))
  | 6 => iprop(slotPts (out m c) c (chip c) ∗ ownPts m c (chip c))

omit [FloatOps F] in
instance pay_storable (c : Dev nD) (k : Fin plan.n) : BI.Storable (upEmb : UEmb _ 𝕄) (pay m c k) := by
  change Fin 7 at k
  unfold pay; split <;> infer_instance

/-- The landings a device causes elsewhere. -/
abbrev S₀ : Finset (Fin plan.n) := ({3, 4, 5} : Finset (Fin 7))

section Landing
variable (off : Fin 3 → ℕ) (inb : ∀ a, off a + S1x14848x1024.size a ≤ S4x14848x1024.size a)
  (hsq : S1x14848x1024.Squeezes S14848x1024) (hs : ∀ a, (Rect.unit (s := S4x14848x1024) off S1x14848x1024.size inb).stride a = 1)

omit [FloatOps F] in
/-- A slot of a result as its view holds it. -/
theorem slotPts_view (f : main_v1.ty.Contents (Elt F)) (c : Dev nD) (i : Fin 4) (hoff : off = ![(i : ℕ), 0, 0]) :
    slotPts f c i = ((slot (n := 4) oM off inb hsq hs).view.loc (c : Thread nD τ) ↦[(slot (n := 4) oM off inb hsq hs).view.set]{fullShare} f : sProp 𝕄) := by
  unfold slotPts; rw [slot_set (n := 4) oM off inb hsq i hoff hs]

omit [FloatOps F] in
/-- A block of a device's own as its view holds it. -/
theorem ownPts_view (c : Dev nD) (i : Fin 4) (hoff : off = ![(i : ℕ), 0, 0]) :
    ownPts m c i = ((slot (n := 4) hM off inb hsq hs).view.loc (c : Thread nD τ) ↦[(slot (n := 4) hM off inb hsq hs).view.set]{fullShare} H m c : sProp 𝕄) := by
  unfold ownPts; rw [slot_set (n := 4) hM off inb hsq i hoff hs]

omit [FloatOps F] in
/-- A block copied into slot `i` leaves there what `g` has there, if the block is that slot of `g`. -/
theorem landed (f g : main_v1.ty.Contents (Elt F)) (w : S14848x1024.Idx → Elt F .bf16) (c : Dev nD) (i : Fin 4) (hoff : off = ![(i : ℕ), 0, 0])
    (h : ∀ a b, (show S4x14848x1024.Idx → Elt F .bf16 from g) (ix3 (n0 := 4) (n1 := 14848) (n2 := 1024) i a b) = w (ix2 a b)) :
    ((slot (n := 4) oM off inb hsq hs).view.loc (c : Thread nD τ) ↦[(slot (n := 4) oM off inb hsq hs).view.set]{fullShare}
        (slot (n := 4) oM off inb hsq hs).view.write (Elt F) f w Finset.univ : sProp 𝕄)
      ⊢ slotPts g c i := by
  unfold slotPts
  rw [slot_set (n := 4) oM off inb hsq i hoff hs]
  exact Entails.of_eq (pointsTo_congr (slot_write (n := 4) oM off inb hsq i hoff hs f g w h))

end Landing

/-! ## The body -/

/-- The slots device `c` writes: its own slot of its own result and of the three results on the other chips. -/
def start (c : Dev nD) : sProp 𝕄 :=
  iprop(slotPts (V1 m c) c (chip c) ∗ slotPts (V1 m (fx c)) (fx c) (chip c) ∗ slotPts (V1 m (fy c)) (fy c) (chip c)
    ∗ slotPts (V1 m (fxy c)) (fxy c) (chip c))

/-- Every slot of device `c`'s result filled. -/
def full (c : Dev nD) : sProp 𝕄 :=
  iprop(slotPts (out m c) c (chip c) ∗ slotPts (out m c) c (chip (fx c)) ∗ slotPts (out m c) c (chip (fy c)) ∗ slotPts (out m c) c (chip (fxy c)))

/-- Its own four blocks. -/
def owned (c : Dev nD) : sProp 𝕄 :=
  iprop(ownPts m c (chip c) ∗ ownPts m c (chip (fx c)) ∗ ownPts m c (chip (fy c)) ∗ ownPts m c (chip (fxy c)))

abbrev 𝒱₀ : Variants := Variants.none

/-- The copies in the order they are issued: the cell the copy credits here, and the one it credits at its receiver
    (for the local copy the same). -/
abbrev copies : List (Fin 7 × Fin 7) := [(6, 6), (0, 3), (1, 4), (2, 5)]
/-- The cells in the order they are waited on. -/
abbrev waits : List (Fin 7) := [3, 4, 5, 0, 1, 2, 6]

abbrev opens (b : ℕ) : Finset (Fin 7) := (waits.drop b).toFinset
abbrev closed (b : ℕ) : Finset (Fin 7) := (waits.take b).toFinset
abbrev toIssue (a : ℕ) : Finset (Fin 7) := ((copies.drop a).map Prod.fst ++ (copies.drop a).map Prod.snd).toFinset
abbrev credits (a b : ℕ) : Finset (Fin 7) := (({3, 4, 5} : Finset (Fin 7)) ∪ ((copies.take a).map Prod.fst).toFinset) \ closed b
abbrev owing (a : ℕ) : Finset (Fin 7) := ((copies.drop a).map Prod.snd).toFinset.erase 6

/-- Device `c` with `a` copies issued and `b` waits done. -/
def At (c : Dev nD) (a b : ℕ) : sProp 𝕄 := plan.St (τ := τ) (pay m) c (opens b) (toIssue a) (credits a b) (owing a) (closed b)

/-- Copy `a`, crediting `i` here and `j` at its receiver, is the next to issue. -/
abbrev Sends (a : ℕ) (i j : Fin 7) : Prop :=
  (i ∈ toIssue a ∧ j ∈ (toIssue a).erase i ∧ i ∉ credits a 0 ∧ j ∈ owing a)
    ∧ ((toIssue a).erase i).erase j = toIssue (a + 1) ∧ insert i (credits a 0) = credits (a + 1) 0 ∧ (owing a).erase j = owing (a + 1)
/-- Cell `i` is the next to wait on, its credit is there or on its way, and nothing is owed any more. -/
abbrev Waits (b : ℕ) (i : Fin 7) : Prop :=
  (i ∈ opens b ∧ i ∈ credits 4 b ∧ i ∉ closed b ∧ owing 4 = ∅)
    ∧ (opens b).erase i = opens (b + 1) ∧ (credits 4 b).erase i = credits 4 (b + 1) ∧ insert i (closed b) = closed (b + 1)

section Steps
variable {m} {c : Dev nD} {α : Type} {Q : α → sProp (MT nD τ sig Unit (Elt F) ℕ (UR sig nD τ × UR sig nD τ) ℕ)} {k : PUnit → Prog (TpuEff nD τ sig (Elt F) Λ₀ .tc) α}
  (off off' : Fin 3 → ℕ) (inb : ∀ a, off a + S1x14848x1024.size a ≤ S4x14848x1024.size a)
  (inb' : ∀ a, off' a + S1x14848x1024.size a ≤ S4x14848x1024.size a)

/-- The slot of a result that the kernel names by an offset. -/
abbrev sl : Memref sig .tc .hbm S14848x1024 .bf16 := slot (n := 4) oM off inb squeezes_S1x14848x1024_S14848x1024 (fun _ => rfl)
/-- The block of its own that the kernel names by an offset. -/
abbrev hl : Memref sig .tc .hbm S14848x1024 .bf16 := slot (n := 4) hM off inb squeezes_S1x14848x1024_S14848x1024 (fun _ => rfl)

/-- The local copy of the block for its own chip. -/
theorem keep_own (hoff : off = ![(chip c : ℕ), 0, 0]) (f : main_v1.ty.Contents (Elt F))
    {hsrc : (hl off inb).view.WordExact} {hdst : (sl off inb).view.WordExact} {sL : DmaSem sig}
    {hsem : DmaTarget.Typed (nD := nD) (τ := τ) (p := .tc) .hbm (.dma sL) (.here (sl off inb))}
    (hi : sL = plan.sem (6 : Fin 7)) :
    iprop(At m c 0 0 ∗ ownPts m c (chip c) ∗ slotPts f c (chip c))
      ⊢ iprop((At m c 1 0 -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (hl off inb) (.here (sl off inb)) (.dma sL) hsrc hdst hsem) k) Q) := by
  have h : (6 : Fin 7) ∈ toIssue 0 ∧ (6 : Fin 7) ∉ credits 0 0 ∧ (toIssue 0).erase 6 = toIssue 1 ∧ insert 6 (credits 0 0) = credits 1 0
      ∧ owing 0 = owing 1 := by decide
  obtain ⟨h1, h2, h3, h4, h5⟩ := h
  rw [slotPts_view off inb squeezes_S1x14848x1024_S14848x1024 (fun _ => rfl) f c (chip c) hoff,
    ownPts_view m off inb squeezes_S1x14848x1024_S14848x1024 (fun _ => rfl) c (chip c) hoff]
  unfold At
  rw [← h3, ← h4, ← h5]
  exact plan.copy (pay := pay m) 𝒱₀ (6 : Fin 7) hi rfl h1 h2 rfl
    (BIClass.sep_mono (landed off inb squeezes_S1x14848x1024_S14848x1024 (fun _ => rfl) f (out m c) _ c (chip c) hoff
        (fun a b => by
          rw [slot_read (n := 4) hM off inb squeezes_S1x14848x1024_S14848x1024 (chip c) hoff (fun _ => rfl) (H m c) a b]
          show (show S4x14848x1024.Idx → Elt F .bf16 from H m (peer c (chip c))) (ix3 (chip c) a b) = _
          rw [peer_self]; rfl))
      (Entails.of_eq (ownPts_view m off inb squeezes_S1x14848x1024_S14848x1024 (fun _ => rfl) c (chip c) hoff).symm))

/-- The block for the chip of device `n`, sent to it. -/
theorem send_own (a : ℕ) (i j : Fin 7) (h : Sends a i j) (n : Dev nD) (hn : n = plan.rcv j c) (hto : plan.rcv i c = c)
    (hpeer : peer n (chip c) = c)
    (hpi : ownPts m c (chip n) ⊢ pay m c i) (hpj : slotPts (out m n) n (chip c) ⊢ pay m n j)
    (hoff : off = ![(chip c : ℕ), 0, 0]) (hoff' : off' = ![(chip n : ℕ), 0, 0]) (f : main_v1.ty.Contents (Elt F))
    {n' : Dev nD} (hn' : n' = n) {hsc : (sl off inb).view.ref.isScScratch = false}
    {hsrc : (hl off' inb').view.WordExact} {hdst : (sl off inb).view.WordExact} {sS sR : DmaSem sig}
    {hsem : DmaTarget.Typed .hbm (.dma sR) (.remote (Dev.tc n' : Thread nD τ) (sl off inb) (.dma sS) hsc)}
    (hi : sS = plan.sem i) (hj : sR = plan.sem j) :
    iprop(At m c a 0 ∗ ownPts m c (chip n) ∗ slotPts f n (chip c))
      ⊢ iprop((At m c (a + 1) 0 -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (hl off' inb') (.remote (Dev.tc n' : Thread nD τ) (sl off inb) (.dma sS) hsc) (.dma sR) hsrc hdst hsem) k) Q) := by
  subst hn'
  obtain ⟨⟨h1, h2, h3, h4⟩, h5, h6, h7⟩ := h
  have hv := ownPts_view m off' inb' squeezes_S1x14848x1024_S14848x1024 (fun _ => rfl) c (chip n') hoff'
  rw [hv] at hpi ⊢
  rw [slotPts_view off inb squeezes_S1x14848x1024_S14848x1024 (fun _ => rfl) f n' (chip c) hoff]
  unfold At
  rw [← h5, ← h6, ← h7]
  exact plan.send (pay := pay m) 𝒱₀ i j hi hj hto hn h1 h2 h3 h4 rfl hpi
    ((landed off inb squeezes_S1x14848x1024_S14848x1024 (fun _ => rfl) f (out m n') _ n' (chip c) hoff
      (fun x y => by
        rw [slot_read (n := 4) hM off' inb' squeezes_S1x14848x1024_S14848x1024 (chip n') hoff' (fun _ => rfl) (H m c) x y]
        show (show S4x14848x1024.Idx → Elt F .bf16 from H m (peer n' (chip c))) (ix3 (chip n') x y) = _
        rw [hpeer]; rfl)).trans hpj)

/-- A wait. -/
theorem await (b : ℕ) (i : Fin 7) (h : Waits b i) {s' : Shape} {e' : EltTy} {src : Memref sig .tc .hbm s' e'} {dst : Memref sig .tc .hbm S14848x1024 .bf16}
    (hN : dst.view.dmaCredit = N) (R : sProp 𝕄) (hR : pay m c i ⊢ R) {hsrc : src.view.WordExact} {hdst : dst.view.WordExact} {sW : DmaSem sig} (hi : sW = plan.sem i) :
    At m c 4 b
      ⊢ iprop(((At m c 4 (b + 1) ∗ R) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sW src dst hsrc hdst) k) Q) := by
  obtain ⟨⟨h1, h2, h3, h4⟩, h5, h6, h7⟩ := h
  have h4' : ∀ k' ∈ owing 4, plan.lev i < plan.lev k' := by rw [h4]; exact fun _ h => absurd h (Finset.notMem_empty _)
  unfold At
  rw [← h5, ← h6, ← h7]
  iintro HS Hk
  iapply (plan.wait (pay := pay m) 𝒱₀ i hi h1 h2 h3 h4' hN) $$ [HS]
  · iexact HS
  iintro ⟨HS, HP⟩
  iapply Hk
  isplitl [HS]; · iexact HS
  iapply hR; iexact HP

end Steps

set_option maxHeartbeats 4000000 in
set_option maxRecDepth 8192 in
/-- The exchange's body on device `c`. -/
theorem body (c : Dev nD) (K : PUnit → sProp 𝕄) :
    iprop((At m c 0 0 ∗ start m c ∗ owned m c) ∗ ((At m c 4 7 ∗ full m c ∗ owned m c) -∗ K ⟨⟩))
      ⊢ wp frame (wpE (defs₀ (F := F)) 𝒱₀ (c : Thread nD τ) none) Set.univ (bodyAt0 t0_0) K := by
  unfold bodyAt0
  simp only [cc0_rs_chips_eq_skeleton]; unfold cc0_rs_chips_skel
  simp only [k0_part4_eq_skeleton, k0_part3_eq_skeleton, k0_part2_eq_skeleton, k0_part1_eq_skeleton]
  unfold k0_part4_skel k0_part3_skel k0_part2_skel k0_part1_skel
  simp only [Prog.lift, Prog.bind_op, Prog.bind_ret, Prog.pure_eq_ret, wp_deviceId]
  unfold start owned
  iintro ⟨⟨HS, ⟨D0, D1, D2, D3⟩, X0, X1, X2, X3⟩, Hk⟩
  iapply (keep_own (k0_off1 c) (k0_off1_inb c) (off1_eq c) _ rfl) $$ [HS X0 D0]
  · isplitl [HS]; · iexact HS
    isplitl [X0]; · iexact X0
    iexact D0
  iintro HS
  iapply (send_own (k0_off1 c) (k0_off2 c) (k0_off1_inb c) (k0_off2_inb c) 1 0 3 (by decide) (fx c) rfl rfl (peer_fx c) (BI.Entails.refl _)
    (by show _ ⊢ slotPts _ _ (chip (fx (fx c))); rw [fx_fx]) (off1_eq c) (off2_eq c) _ (dev1_eq c) rfl rfl) $$ [HS X1 D1]
  · isplitl [HS]; · iexact HS
    isplitl [X1]; · iexact X1
    iexact D1
  iintro HS
  iapply (send_own (k0_off1 c) (k0_off3 c) (k0_off1_inb c) (k0_off3_inb c) 2 1 4 (by decide) (fy c) rfl rfl (peer_fy c) (BI.Entails.refl _)
    (by show _ ⊢ slotPts _ _ (chip (fy (fy c))); rw [fy_fy]) (off1_eq c) (off3_eq c) _ (dev2_eq c) rfl rfl) $$ [HS X2 D2]
  · isplitl [HS]; · iexact HS
    isplitl [X2]; · iexact X2
    iexact D2
  iintro HS
  iapply (send_own (k0_off1 c) (k0_off4 c) (k0_off1_inb c) (k0_off4_inb c) 3 2 5 (by decide) (fxy c) rfl rfl (peer_fxy c) (BI.Entails.refl _)
    (by show _ ⊢ slotPts _ _ (chip (fxy (fxy c))); rw [fxy_fxy]) (off1_eq c) (off4_eq c) _ (dev3_eq c) rfl rfl) $$ [HS X3 D3]
  · isplitl [HS]; · iexact HS
    isplitl [X3]; · iexact X3
    iexact D3
  iintro HS
  iapply (await (dst := sl (k0_off2 c) (k0_off2_inb c)) 0 3 (by decide) rfl (slotPts (out m c) c (chip (fx c))) (BI.Entails.refl _) rfl) $$ [HS]
  · iexact HS
  iintro ⟨HS, L1⟩
  iapply (await (dst := sl (k0_off3 c) (k0_off3_inb c)) 1 4 (by decide) rfl (slotPts (out m c) c (chip (fy c))) (BI.Entails.refl _) rfl) $$ [HS]
  · iexact HS
  iintro ⟨HS, L2⟩
  iapply (await (dst := sl (k0_off4 c) (k0_off4_inb c)) 2 5 (by decide) rfl (slotPts (out m c) c (chip (fxy c))) (BI.Entails.refl _) rfl) $$ [HS]
  · iexact HS
  iintro ⟨HS, L3⟩
  iapply (await (dst := hl (k0_off2 c) (k0_off2_inb c)) 3 0 (by decide) rfl (ownPts m c (chip (fx c))) (BI.Entails.refl _) rfl) $$ [HS]
  · iexact HS
  iintro ⟨HS, X1⟩
  iapply (await (dst := hl (k0_off3 c) (k0_off3_inb c)) 4 1 (by decide) rfl (ownPts m c (chip (fy c))) (BI.Entails.refl _) rfl) $$ [HS]
  · iexact HS
  iintro ⟨HS, X2⟩
  iapply (await (dst := hl (k0_off4 c) (k0_off4_inb c)) 5 2 (by decide) rfl (ownPts m c (chip (fxy c))) (BI.Entails.refl _) rfl) $$ [HS]
  · iexact HS
  iintro ⟨HS, X3⟩
  iapply (await (dst := sl (k0_off1 c) (k0_off1_inb c)) 6 6 (by decide) rfl (iprop(slotPts (out m c) c (chip c) ∗ ownPts m c (chip c))) (BI.Entails.refl _) rfl) $$ [HS]
  · iexact HS
  iintro ⟨HS, ⟨L0, X0⟩⟩
  rw [wp_ret]; imodintro
  iapply Hk
  unfold full
  isplitl [HS]; · iexact HS
  isplitl [L0 L1 L2 L3]
  · isplitl [L0]; · iexact L0
    isplitl [L1]; · iexact L1
    isplitl [L2]; · iexact L2
    iexact L3
  isplitl [X0]; · iexact X0
  isplitl [X1]; · iexact X1
  isplitl [X2]; · iexact X2
  iexact X3

end Cert.ChipsRun

end
-- ==== Proof.ChipsSum.lean ====
module

public import proofs.«01_k».proof.Proof.Gen.ChipsIdeal.Launch
public import proofs.«01_k».proof.Proof.Gen.ChipsIdeal.Skeleton
public import proofs.«01_k».proof.Proof.Gen.ChipsIdeal.Points
public import Idealize.ShloMosaic.Lib.Pipeline.FrameBody
public import Idealize.ShloMosaic.Lib.Pipeline.Value
public import Idealize.ShloMosaic.Lib.ValueLayout
public import Idealize.ShloMosaic.Lib.Ring
public import Idealize.ShloMosaic.Lib.Tactic
public import Idealize.ShloMosaic.Lib.WordCmp

/-
  The sum of the four received blocks, on one device: the body at a grid point, the region's data and the array it
  leaves.
-/

@[expose] public section

set_option maxRecDepth 16384

noncomputable section

namespace Cert.ChipsSum

open Cert.ChipsIdeal Cert.ChipsIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose BodyObligation)

set_option Elab.async false

variable {F : FTy → Type} [FloatOps F]

local notation "𝕄" => MT nD τ sig Unit (Elt F) ℕ (UR sig nD τ × UR sig nD τ) ℕ

/-! ## The body -/

/-- Block `k` of the four staged blocks. -/
abbrev row0 : Rect S4x512x1024 := Rect.unit (s := S4x512x1024) ![0, 0, 0] S1x512x1024.size inb_S4x512x1024_S1x512x1024_0_0_0
abbrev row1 : Rect S4x512x1024 := Rect.unit (s := S4x512x1024) ![1, 0, 0] S1x512x1024.size inb_S4x512x1024_S1x512x1024_1_0_0
abbrev row2 : Rect S4x512x1024 := Rect.unit (s := S4x512x1024) ![2, 0, 0] S1x512x1024.size inb_S4x512x1024_S1x512x1024_2_0_0
abbrev row3 : Rect S4x512x1024 := Rect.unit (s := S4x512x1024) ![3, 0, 0] S1x512x1024.size inb_S4x512x1024_S1x512x1024_3_0_0
/-- The whole staged result. -/
abbrev all : Rect S512x1024 := Rect.unit (s := S512x1024) ![0, 0] S512x1024.size inb_S512x1024_S512x1024_0_0

/-- What the body stores, from the four staged blocks. -/
def stored (x : Vec F S4x512x1024 .bf16) : Vec F S512x1024 .f32 :=
  View.canon [⟨all, k1_pay1 (View.ld x row0) (View.ld x row1) (View.ld x row2) (View.ld x row3)⟩]

theorem stored_all (p : Vec F S512x1024 .f32) (y : S512x1024.Idx) :
    ∃ pc ∈ ([⟨all, p⟩] : List (View.Piece (Elt F) S512x1024 .f32)), y ∈ pc.1.set :=
  View.cover_of_tiled [⟨all, p⟩] S512x1024.size (by rfl) y

set_option maxHeartbeats 1000000 in
/-- The body, on whole staging buffers. -/
theorem body (c : Dev nD) (E : Set ℕ) (i : grid1.Coords) (a : Memref sig .tc .vmem S4x512x1024 .bf16) (ha : a.IsWhole)
    (b : Memref sig .tc .vmem S512x1024 .f32) (hb : b.IsWhole) (x : Vec F S4x512x1024 .bf16) (K : PUnit → sProp 𝕄) :
    iprop(owns (c : Thread nD τ) a fullShare x ∗ (∃ d, owns (c : Thread nD τ) b fullShare d)
        ∗ (iprop(owns (c : Thread nD τ) a fullShare x ∗ owns (c : Thread nD τ) b fullShare (stored x)) -∗ K ⟨⟩))
      ⊢ wp frame (wpE (defs₀ (F := F)) Variants.none c none) E (cc1_rs_sum i a ha b hb) K := by
  simp only [cc1_rs_sum_eq_skeleton]; unfold cc1_rs_sum_skel
  unfold owns
  iintro ⟨⟨%f, %hf, H0⟩, ⟨%d, %g, -, H1⟩, Hk⟩
  subst hf
  sl_exec
  sl_step
  iapply Hk
  isplitl [H0]
  · iexists f; isplitr; · ipureintro; rfl
    iexact H0
  iexists _; isplitr
  swap; · iexact H1
  ipureintro
  exact View.read_writes_eq_canon _ _ _ (stored_all _)

/-! ## The region's data -/

variable (X : (c : Dev nD) → main_v1.ty.Contents (Elt F)) (W : (c : Dev nD) → main_v2.ty.Contents (Elt F))

/-- The four blocks' rows at a grid point. -/
def staged (c : Dev nD) (t : Fin cfg1.N) : ((cfg1.win 0).xblock (cfg1.grid.coords t)).Idx → Elt F (cfg1.win 0).elt :=
  ((cfg1.win 0).blk t).view.read (Elt F) (X c)

/-- The received blocks at `X`, the result at `W`; nothing else is touched and nothing is owed. -/
def dat (c : Dev nD) : Dat τ (Elt F) Unit ℕ (UR sig nD τ × UR sig nD τ) ℕ cfg1 c where
  A w := match w with
    | ⟨0, _⟩ => X c
    | ⟨1, _⟩ => W c
  after w t := match w with
    | ⟨0, _⟩ => staged X c t
    | ⟨1, _⟩ => stored (staged X c t)
  Φ _ := iprop(emp)
  q _ := fullShare
  owed _ := 0

theorem A0 (c : Dev nD) : (dat X W c).A 0 = X c := by dsimp only [dat]
theorem after0 (c : Dev nD) (t : Fin cfg1.N) : (dat X W c).after 0 t = staged X c t := by dsimp only [dat]
theorem after1 (c : Dev nD) (t : Fin cfg1.N) : (dat X W c).after 1 t = stored (staged X c t) := by dsimp only [dat]

theorem before0 (c : Dev nD) (t : Fin cfg1.N) (d) : (dat X W c).before 0 t d = staged X c t :=
  ((dat X W c).before_in_eq_fetched 0 rfl (fun _ => rfl) (fun _ _ _ => rfl)
      (fun t => by rw [after0]; unfold Dat.blockOf staged; rw [A0]; try rfl) t d).trans
    (by unfold Dat.fetched Dat.blockOf staged; rw [A0]; try rfl)

theorem row (t : Fin cfg1.N) : defs₀ (F := F) .tc cfg1.body (cfg1.bodyArgs t (cfg1.slots t)) = bodyAt1 t := by
  unfold defs₀; rw [Defs.onTc_tc]

/-- What the body is entered with at a grid point, and what it leaves. -/
def entered (c : Dev nD) (t : Fin cfg1.N) : sProp 𝕄 :=
  iprop((dat X W c).Φ t.castSucc ∗ (dat X W c).owesAt () t.castSucc
    ∗ (∃ d, owns (c : Thread nD τ) (st1_0 t) fullShare ((dat X W c).before 0 t d))
    ∗ (∃ d, owns (c : Thread nD τ) (st1_1 t) fullShare ((dat X W c).before 1 t d)))
def left (c : Dev nD) (t : Fin cfg1.N) : sProp 𝕄 :=
  iprop((dat X W c).Φ t.succ ∗ (dat X W c).owesAt () t.succ
    ∗ owns (c : Thread nD τ) (st1_0 t) fullShare ((dat X W c).after 0 t)
    ∗ owns (c : Thread nD τ) (st1_1 t) fullShare ((dat X W c).after 1 t))

theorem body_at (c : Dev nD) (t : Fin cfg1.N) :
    entered X W c t ⊢ wp frame (wpE (defs₀ (F := F)) Variants.none c none) Set.univ (bodyAt1 t) (fun _ => left X W c t) := by
  unfold entered left bodyAt1
  simp only [before0]
  rw [show (dat X W c).Φ t.succ = (dat X W c).Φ t.castSucc from rfl,
    show (dat X W c).owesAt () t.succ = (dat X W c).owesAt () t.castSucc from rfl, after0, after1]
  iintro ⟨HΦ, Ho, ⟨%d0, H0⟩, ⟨%d1, H1⟩⟩
  iapply (body c Set.univ (grid1.coords t) _ _ _ _ (staged X c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dat (F := F) X W c) (defs₀ (F := F)) Variants.none () Set.univ := fun t => by
  rw [bigSep_W1, bigSep_W1, row]
  exact triple_restated (body_at X W c t) rfl .rfl fun _ => .rfl

/-! ## The result -/

/-- The four blocks added up, in the order of the chips. -/
def total (x : S4x14848x1024.Idx → Elt F .bf16) : S14848x1024.Idx → Elt F .f32 := fun i =>
  FloatOps.addf (FloatOps.addf (FloatOps.addf (FloatOps.extf .f32 bitsLt_bf16_f32 (x (ix3 (n0 := 4) (n1 := 14848) (n2 := 1024) 0 (i 0) (i 1))))
    (FloatOps.extf .f32 bitsLt_bf16_f32 (x (ix3 (n0 := 4) (n1 := 14848) (n2 := 1024) 1 (i 0) (i 1)))))
    (FloatOps.extf .f32 bitsLt_bf16_f32 (x (ix3 (n0 := 4) (n1 := 14848) (n2 := 1024) 2 (i 0) (i 1)))))
    (FloatOps.extf .f32 bitsLt_bf16_f32 (x (ix3 (n0 := 4) (n1 := 14848) (n2 := 1024) 3 (i 0) (i 1))))

theorem zeros : (![0, 0] : Fin 2 → ℕ) = fun _ => 0 := funext fun a => by fin_cases a <;> rfl

/-- A row of the staged blocks read at an element. -/
theorem row_read (x : Vec F S4x512x1024 .bf16) (k : Fin 4) (inb) (y : S512x1024.Idx) :
    shapeCast S512x1024 (View.ld x (Rect.unit (s := S4x512x1024) ![k.val, 0, 0] S1x512x1024.size inb)) shapeCasts_S1x512x1024_S512x1024 y
      = x (ix3 (n0 := 4) (n1 := 512) (n2 := 1024) k (y 0) (y 1)) := by
  rw [shapeCast_apply _ shapeCasts_S1x512x1024_S512x1024 y (ix3 (n0 := 1) (n1 := 512) (n2 := 1024) 0 (y 0) (y 1))
    (by rw [Shape.rowMajor_val_three, Shape.rowMajor_val_two]; show (0 * 512 + (y 0).val) * 1024 + (y 1).val = (y 0).val * 1024 + (y 1).val; omega)]
  refine congrArg x (funext fun a => Fin.ext ?_)
  match a with
  | ⟨0, _⟩ => show k.val + 1 * 0 = k.val; omega
  | ⟨1, _⟩ => show 0 + 1 * (y 0).val = (y 0).val; omega
  | ⟨2, _⟩ => show 0 + 1 * (y 1).val = (y 1).val; omega

theorem moves : ∀ t : Fin cfg1.N, win1_0.index t (0 : Fin 3) = 0 ∧ win1_0.index t (1 : Fin 3) = win1_1.index t (0 : Fin 2)
    ∧ win1_0.index t (2 : Fin 3) = 0 ∧ win1_1.index t (1 : Fin 2) = 0 :=
  (by decide +kernel : ∀ t : Fin grid1.N, _)

theorem reached : ∀ q : Fin 29, ∃ t : Fin cfg1.N, win1_1.index t = ![q.val, 0] :=
  (by decide +kernel : ∀ q : Fin 29, ∃ t : Fin grid1.N, win1_1.index t = ![q.val, 0])

/-- A grid point writes its rows of the sum. -/
theorem flushed (c : Dev nD) (t : Fin cfg1.N) :
    (dat X W c).flushed 1 t = ((cfg1.win 1).blk t).view.read (Elt F) (total (X c)) := by
  show (cfg1.win 1).cut (grid1.coords t) ((dat X W c).after 1 t) = _
  rw [after1]
  unfold stored
  rw [View.canon_unit_zero zeros]
  obtain ⟨e0, e1, e2, e3⟩ := moves t
  funext j
  have hx (k : Fin 4) : staged X c t (ix3 (n0 := 4) (n1 := 512) (n2 := 1024) k (j 0) (j 1))
      = (show S4x14848x1024.Idx → Elt F .bf16 from X c) (ix3 (n0 := 4) (n1 := 14848) (n2 := 1024) k
          ((((cfg1.win 1).blk t).view.emb j) 0) ((((cfg1.win 1).blk t).view.emb j) 1)) := by
    refine congrArg (X c) (funext fun a => Fin.ext ?_)
    match a with
    | ⟨0, _⟩ => show win1_0.index t (0 : Fin 3) * 4 + 1 * k.val = k.val; omega
    | ⟨1, _⟩ => show win1_0.index t (1 : Fin 3) * 512 + 1 * (j 0).val = win1_1.index t (0 : Fin 2) * 512 + 1 * (j 0).val; omega
    | ⟨2, _⟩ => show win1_0.index t (2 : Fin 3) * 1024 + 1 * (j 1).val = win1_1.index t (1 : Fin 2) * 1024 + 1 * (j 1).val; omega
  have r (k : Fin 4) (inb) := (row_read (staged X c t) k inb j).trans (hx k)
  show FloatOps.addf (FloatOps.addf (FloatOps.addf
      (FloatOps.extf .f32 bitsLt_bf16_f32 (shapeCast S512x1024 (View.ld (staged X c t) row0) shapeCasts_S1x512x1024_S512x1024 j))
      (FloatOps.extf .f32 bitsLt_bf16_f32 (shapeCast S512x1024 (View.ld (staged X c t) row1) shapeCasts_S1x512x1024_S512x1024 j)))
      (FloatOps.extf .f32 bitsLt_bf16_f32 (shapeCast S512x1024 (View.ld (staged X c t) row2) shapeCasts_S1x512x1024_S512x1024 j)))
      (FloatOps.extf .f32 bitsLt_bf16_f32 (shapeCast S512x1024 (View.ld (staged X c t) row3) shapeCasts_S1x512x1024_S512x1024 j)) = total (X c) (((cfg1.win 1).blk t).view.emb j)
  exact congrArg₂ _ (congrArg₂ _ (congrArg₂ _ (congrArg _ (r 0 _)) (congrArg _ (r 1 _))) (congrArg _ (r 2 _))) (congrArg _ (r 3 _))

theorem mem_blk (t : Fin cfg1.N) (i : S14848x1024.Idx) :
    i ∈ ((cfg1.win 1).blk t).view.set ↔ ∀ a : Fin 2, win1_1.index t a * S512x1024.size a ≤ (i a).val ∧ (i a).val < win1_1.index t a * S512x1024.size a + S512x1024.size a := by
  show i ∈ ((View.whole main_v2).slice (win1_1.rect t)).set ↔ _
  rw [View.set_slice_whole, Rect.mem_set_unit]
  exact Iff.rfl

theorem covered (i : S14848x1024.Idx) : ∃ t : Fin cfg1.N, (cfg1.win 1).flush t = true ∧ i ∈ ((cfg1.win 1).blk t).view.set := by
  have hi0 : (i 0).val < 14848 := (i 0).isLt
  have hi1 : (i 1).val < 1024 := (i 1).isLt
  obtain ⟨t, ht⟩ := reached ⟨(i 0).val / 512, by omega⟩
  have q0 : win1_1.index t (0 : Fin 2) = (i 0).val / 512 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 512 ≤ (i 0).val ∧ (i 0).val < win1_1.index t (0 : Fin 2) * 512 + 512; omega
  | ⟨1, _⟩ => show win1_1.index t (1 : Fin 2) * 1024 ≤ (i 1).val ∧ (i 1).val < win1_1.index t (1 : Fin 2) * 1024 + 1024; omega

/-- The result after the region: the sum of the four blocks. -/
theorem result (c : Dev nD) : (dat X W c).arrAt 1 cfg1.N = total (X c) :=
  (dat X W c).arrAt_eq_of_cover 1 _ (fun t _ => flushed X W c t) covered

/-- The received blocks are left as they were. -/
theorem kept (c : Dev nD) : (dat X W c).arrAt 0 cfg1.N = X c := ((dat X W c).arrAt_in 0 rfl _).trans (A0 X W c)

end Cert.ChipsSum

end
-- ==== Proof.ChipsLaunch.lean ====
module

public import proofs.«01_k».proof.Proof.Dealt
public import proofs.«01_k».proof.Proof.ChipsRun
public import proofs.«01_k».proof.Proof.ChipsSum

/-
  The exchange between the chips and the sum that follows it, launched on the eight devices.
-/

@[expose] public section

noncomputable section

namespace Cert.ChipsRun

open Cert.ChipsIdeal Cert.ChipsIdeal.Gen Cert.Exchange Cert.Slots

open Idealize.ShloMosaic
open Idealize.ShloMosaic.TcCoe
open Idealize.ShloMosaic.Pipeline (Dat BodyObligationLoose)
open Idealize.ShloMosaic.Ring (pointsTo_blocks)
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig Unit (Elt F) ℕ (UR sig nD τ × UR sig nD τ) ℕ

variable (m : (ℓ : Loc nD τ sig) → Buf (Elt F) ℓ)

/-! ## The slots -/

omit [FloatOps F] in
/-- The four chips as seen from device `c`. -/
theorem around (Φ : Fin 4 → sProp 𝕄) (c : Dev nD) : bigSep Finset.univ Φ
    = iprop(Φ (chip c) ∗ Φ (chip (fx c)) ∗ Φ (chip (fy c)) ∗ Φ (chip (fxy c))) :=
  bigSep_univ_eq_bigSepL [chip c, chip (fx c), chip (fy c), chip (fxy c)] (by revert c; decide) (by revert c; decide) Φ

omit [FloatOps F] in
/-- A result held whole is its four slots. -/
theorem whole_slots (f : main_v1.ty.Contents (Elt F)) (c : Dev nD) :
    (((c : Thread nD τ).loc main_v1) ↦{fullShare} f : sProp 𝕄) = bigSep Finset.univ fun i : Fin 4 => slotPts f c i := by
  have hc : (Finset.univ.biUnion fun i : Fin 4 => part (n := 4) oM i) = Finset.univ := (part_cover (n := 4) oM).trans (View.set_whole _)
  unfold slotPts
  exact pointsTo_blocks (ℓ := (c : Thread nD τ).loc main_v1) (fun i : Fin 4 => part (n := 4) oM i) (part_disjoint (n := 4) oM) hc f

omit [FloatOps F] in
/-- A device's own array held whole is its four blocks. -/
theorem whole_owned (c : Dev nD) : (((c : Thread nD τ).loc main_arg0) ↦{fullShare} H m c : sProp 𝕄) = owned m c := by
  have hc : (Finset.univ.biUnion fun i : Fin 4 => part (n := 4) hM i) = Finset.univ := (part_cover (n := 4) hM).trans (View.set_whole _)
  have h := pointsTo_blocks (ℓ := (c : Thread nD τ).loc main_arg0) (Ix := Unit) (Name := ℕ) (U := UR sig nD τ × UR sig nD τ) (Lvl := ℕ)
    (fun i : Fin 4 => part (n := 4) hM i) (part_disjoint (n := 4) hM) hc (q := fullShare) (H m c)
  unfold owned
  exact h.trans (around (fun i => ownPts m c i) c)

omit [FloatOps F] in
/-- Every result whole, dealt to the devices that write its slots. -/
theorem deal_slots : (bigSep Finset.univ fun c : Dev nD => (((c : Thread nD τ).loc main_v1) ↦{fullShare} V1 m c : sProp 𝕄))
    = bigSep Finset.univ fun c : Dev nD => start m c := by
  have e (f : Dev nD ≃ Dev nD) (Φ : Dev nD → sProp 𝕄) : bigSep Finset.univ Φ = bigSep Finset.univ fun c => Φ (f c) :=
    bigSep_univ_equiv f Φ
  unfold start
  rw [bigSep_congr (fun c _ => (whole_slots (V1 m c) c).trans (around _ c))]
  simp only [bigSep_sep']
  rw [e fx (fun c => slotPts (V1 m c) c (chip (fx c))), e fy (fun c => slotPts (V1 m c) c (chip (fy c))),
    e fxy (fun c => slotPts (V1 m c) c (chip (fxy c)))]
  simp only [fx_fx, fy_fy, fxy_fxy]

/-! ## The regions' data -/

/-- The exchange. Before the body: the protocol as launched, the slots to write, the blocks to read and the buffers it
    does not touch; after it: the semaphores back at zero, the slots filled, the blocks and the same buffers. -/
def exchanged (c : Dev nD) : Dat τ (Elt F) Unit ℕ (UR sig nD τ × UR sig nD τ) ℕ cfg0 c where
  A w := w.elim0
  after w := w.elim0
  Φ t := match t with
    | ⟨0, _⟩ => iprop((plan.Pre (τ := τ) (pay m) S₀ c ∗ start m c ∗ owned m c) ∗ Pipeline.scopedRest cfg0.spec c)
    | ⟨_ + 1, _⟩ => iprop((full m c ∗ owned m c) ∗ Pipeline.ownSems0 plan.osem c ∗ Pipeline.scopedRest cfg0.spec c)
  q _ := fullShare
  owed t := match t with
    | ⟨0, _⟩ => plan.owed S₀ c
    | ⟨_ + 1, _⟩ => 0

/-- A device's sum as launched. -/
abbrev V2 (c : Dev nD) : main_v2.ty.Contents (Elt F) := m ((c : Thread nD τ).loc main_v2)

/-- The two regions' data: the exchange, then the sum of what it left. -/
def dats (p : Fin 2) (c : Dev nD) : Dat τ (Elt F) Unit ℕ (UR sig nD τ × UR sig nD τ) ℕ (cfgs p) c :=
  match p with
  | ⟨0, _⟩ => exchanged m c
  | ⟨1, _⟩ => ChipsSum.dat (out m) (V2 m) c

omit [FloatOps F] in
theorem at_start (c : Dev nD) (W) : iprop(plan.Pre (τ := τ) (pay m) S₀ c ∗ owes (c : Thread nD τ) (plan.owed S₀ c) W) ⊢ At m c 0 0 := by
  have h : opens 0 = Finset.univ ∧ toIssue 0 = Finset.univ ∧ credits 0 0 = S₀ ∧ owing 0 = S₀ ∧ closed 0 = ∅ := by decide
  obtain ⟨h1, h2, h3, h4, h5⟩ := h
  unfold At; rw [h1, h2, h3, h4, h5]
  exact plan.St_intro (pay m) S₀ c W

omit [FloatOps F] in
theorem at_end (c : Dev nD) : At m c 4 7 ⊢ iprop((∃ W, owes (c : Thread nD τ) 0 W) ∗ Pipeline.ownSems0 plan.osem c) := by
  have h : owing 4 = ∅ ∧ closed 7 = Finset.univ := by decide
  obtain ⟨h1, h2⟩ := h
  unfold At; rw [h1]
  exact plan.St_elim (pay m) _ _ _ _ h2 c

theorem body_obligation (c : Dev nD) : BodyObligationLoose (exchanged m c) (defs₀ (F := F)) 𝒱₀ () Set.univ := fun t => by
  rw [fin_N0 t, Finset.univ_eq_empty, bigSep_empty, bigSep_empty]
  show iprop(iprop((plan.Pre (τ := τ) (pay m) S₀ c ∗ start m c ∗ owned m c) ∗ Pipeline.scopedRest cfg0.spec c) ∗ (exchanged m c).owesAt () t0_0.castSucc ∗ emp)
    ⊢ wp frame (wpE (defs₀ (F := F)) 𝒱₀ (c : Thread nD τ) none) Set.univ (bodyAt0 t0_0)
      (fun _ => iprop(iprop((full m c ∗ owned m c) ∗ Pipeline.ownSems0 plan.osem c ∗ Pipeline.scopedRest cfg0.spec c) ∗ (exchanged m c).owesAt () t0_0.succ ∗ emp))
  unfold Dat.owesAt Pipeline.owesWithin
  iintro ⟨⟨⟨HP, HD, HX⟩, HR⟩, ⟨%W, -, HO⟩, -⟩
  iapply (body m c)
  isplitl [HP HD HX HO]
  · isplitl [HP HO]
    · iapply (at_start m c W); isplitl [HP]; · iexact HP
      iexact HO
    isplitl [HD] <;> iassumption
  iintro ⟨HS, HF, HX⟩
  ihave H := (at_end m c) $$ HS
  icases H with ⟨⟨%W', HO⟩, Hz⟩
  isplitl [Hz HF HX HR]
  · isplitl [HF HX]
    · isplitl [HF] <;> iassumption
    isplitl [Hz] <;> iassumption
  isplitl [HO]
  · iexists W'
    isplitr; · ipureintro; exact fun _ _ => Or.inl trivial
    iexact HO
  iempintro

/-! ## The sum -/

/-- No wait stands above another. -/
theorem level (g : GSem nD τ sig) (u : Unit) : plan.lv (τ := τ) g u = 0 := by
  unfold Plan.lv Function.extend
  split <;> rfl

/-- The sum as a stretch of the program: the device's own array rides beside it. -/
def summing : Pipeline.RegionSeg (fun p => (cfgs p).toPCfg (Val := Elt F)) (fun p => (cfgs p).toPCfg_adm) (dats m) () (defs₀ (F := F)) 𝒱₀
    (Plan.L (τ := τ)) (plan.lv (τ := τ)) 1 :=
  .ofArrays (fun p => (cfgs p).toPCfg (Val := Elt F)) (fun p => (cfgs p).toPCfg_adm) (dats m) () (defs₀ (F := F)) 𝒱₀ Plan.L plan.lv 1
    (D := fun _ => 0) (X := fun _ => iprop(emp)) (Y := fun _ => iprop(emp)) (kit := launch1.toP.to₀) (hK := rfl)
    (hbody := fun c => (ChipsSum.body_obligation (out m) (V2 m) c).loose)
    (howed := fun _ _ => rfl) (hrec := fun _ => rfl)
    (hin := fun c => by
      rw [show (dats m 1 c).Φ 0 = iprop(emp) from rfl]
      iintro -; iempintro)
    (hout := fun c => by
      refine (show (iprop(emp) : sProp 𝕄) ⊢ iprop(Pipeline.scopedRest spec1 c ∗ emp) from ?_)
      iintro -
      isplitl; · iapply (Entails.of_eq (scopedRest1_eq c).symm); iempintro
      iempintro)
    (b := fun _ => 0)
    (hcut := ⟨fun _ _ _ => by rw [Plan.L, if_pos rfl]; exact Finset.mem_singleton_self _, fun _ _ _ => le_of_eq (level _ _),
      fun _ _ _ h => absurd h (lt_irrefl 0)⟩)
    (R := fun c => iprop(((c : Thread nD τ).loc main_arg0) ↦{fullShare} H m c))

theorem entry_arrays (c : Dev nD) : iprop((((c : Thread nD τ).loc main_v1) ↦{fullShare} out m c) ∗ (((c : Thread nD τ).loc main_v2) ↦{fullShare} V2 m c))
    ⊢ ((dats m 1 c).arrays ((dats m 1 c).arrAt · 0) : sProp 𝕄) := by
  have h := Pipeline.arrays_eq (Pipeline.pin (fun p => (cfgs p).toPCfg (Val := Elt F)) (fun p => (cfgs p).toPCfg_adm)) (dats m) 1 c
    launch1.arr_whole (Dat.share_full (dats m 1 c) fun _ => rfl) ((dats m 1 c).arrAt · 0)
  exact Entails.of_eq (h.trans (bigSep_W1 _)).symm

theorem exit_arrays (c : Dev nD) : ((dats m 1 c).arrays ((dats m 1 c).arrAt · cfg1.N) : sProp 𝕄)
    ⊢ iprop((((c : Thread nD τ).loc main_v1) ↦{fullShare} out m c) ∗ (((c : Thread nD τ).loc main_v2) ↦{fullShare} ChipsSum.total (out m c))) := by
  have h := Pipeline.arrays_eq (Pipeline.pin (fun p => (cfgs p).toPCfg (Val := Elt F)) (fun p => (cfgs p).toPCfg_adm)) (dats m) 1 c
    launch1.arr_whole (Dat.share_full (dats m 1 c) fun _ => rfl) ((dats m 1 c).arrAt · cfg1.N)
  rw [← ChipsSum.result (out m) (V2 m) c]
  have hk := ChipsSum.kept (out m) (V2 m) c
  refine (Entails.of_eq (h.trans (bigSep_W1 _))).trans (sep_mono (Entails.of_eq ?_) .rfl)
  exact congrArg (fun f => (((c : Thread nD τ).loc main_v1) ↦{fullShare} f : sProp 𝕄)) hk

/-! ## The launch -/

theorem ownSemFacts : Pipeline.OwnSemFacts cfg0.spec plan.osem := by decide

/-- What the certificate's own resources start as. -/
def u₀ : UR sig nD τ × UR sig nD τ :=
  (initOf (Pipeline.cells cfgs cellOf_inj) (Pipeline.launchToks cfgs cellOf_inj), initOf plan.cells plan.toks)

/-- The sum of the four blocks, and the device's own array unchanged. -/
def summed (c : Dev nD) : sProp 𝕄 :=
  iprop((((c : Thread nD τ).loc main_v2) ↦{fullShare} ChipsSum.total (out m c)) ∗ (((c : Thread nD τ).loc main_arg0) ↦{fullShare} H m c))

theorem read_off (c : Dev nD) (s' : Phys nD τ sig (Elt F)) : iprop(summed m c ∗ SI s') ⊢ |={Set.univ}=> iprop(⌜s'.mem.mem ((c : Thread nD τ).loc main_v2) = ChipsSum.total (out m c)
    ∧ s'.mem.mem ((c : Thread nD τ).loc main_arg0) = H m c⌝ ∗ SI s') := by
  unfold summed
  iintro ⟨⟨Hv, Hx⟩, HSI⟩
  icombine HSI Hv gives %h1
  icombine HSI Hx gives %h2
  imodintro
  isplitr
  · ipureintro; exact ⟨funext fun i => h1 i (Finset.mem_univ _), funext fun i => h2 i (Finset.mem_univ _)⟩
  iexact HSI

theorem tail (c : Dev nD) (Q' : PUnit → sProp 𝕄) :
    iprop((iprop((summed m c ∗ boundary (c : Thread nD τ)) ∗ (∃ W, owes (c : Thread nD τ) (0 : CellTallies nD τ sig Unit) W)) -∗ Q' ⟨⟩)
        ∗ boundary (c : Thread nD τ) ∗ iprop(full m c ∗ owned m c) ∗ iprop(((c : Thread nD τ).loc main_v2) ↦{fullShare} V2 m c)
        ∗ (exchanged m c).owesAt () (Fin.last cfg0.N) ∗ levAts Plan.L plan.lv
        ∗ Pipeline.restGhost (fun p => (cfgs p).toPCfg (Val := Elt F)) (fun p => (cfgs p).toPCfg_adm) 0 embL c)
      ⊢ wp frame (wpE (defs (F := F)) (Variants.lift 𝒱₀) (c : Thread nD τ) none) Set.univ
        (.op (.customCall (Pipeline.entry 1) ()) fun _ => .ret ⟨⟩) Q' := by
  have hg : (Pipeline.restGhost (fun p => (cfgs p).toPCfg (Val := Elt F)) (fun p => (cfgs p).toPCfg_adm) 0 embL c : sProp 𝕄)
      ⊢ iprop(Pipeline.cellsGhost (Pipeline.pin (fun p => (cfgs p).toPCfg (Val := Elt F)) (fun p => (cfgs p).toPCfg_adm)) embL 1 c
        ∗ Pipeline.toksInit (Pipeline.pin (fun p => (cfgs p).toPCfg (Val := Elt F)) (fun p => (cfgs p).toPCfg_adm)) embL 1 c) := by
    have h1 : (Finset.univ.erase (0 : Fin 2)) = {1} := by decide
    unfold Pipeline.restGhost Pipeline.PerCore.restGhost
    rw [h1, bigSep_singleton]
  have hf : (iprop(full m c ∗ owned m c) : sProp 𝕄) ⊢ iprop((((c : Thread nD τ).loc main_v1) ↦{fullShare} out m c) ∗ (((c : Thread nD τ).loc main_arg0) ↦{fullShare} H m c)) := by
    rw [whole_owned, whole_slots, around]; exact .rfl
  iintro ⟨Hk, Hb, HY, HZ, HO, Hl, Hg⟩
  ihave HY' := hf $$ HY
  icases HY' with ⟨Hv, Hx⟩
  ihave Hg' := hg $$ Hg
  icases Hg' with ⟨Hg1, Hg2⟩
  iapply ((summing m).wp (fun p => (cfgs p).toPCfg (Val := Elt F)) (fun p => (cfgs p).toPCfg_adm) (dats m) () cellOf_inj embL (defs₀ (F := F)) 𝒱₀ Plan.L plan.lv
    c none (fun u h => nomatch h) (fun _ => .ret ⟨⟩) Q')
  isplitl [Hk]
  · iintro ⟨Hb, HP⟩
    rw [wp_ret]; imodintro
    ihave HP' := (show (summing m).post c ⊢ iprop(((dats m 1 c).arrays ((dats m 1 c).arrAt · cfg1.N)) ∗ emp
      ∗ (((c : Thread nD τ).loc main_arg0) ↦{fullShare} H m c) ∗ ∃ W, owes (c : Thread nD τ) (0 : CellTallies nD τ sig Unit) W) from .rfl) $$ HP
    icases HP' with ⟨Ha, -, Hx, HO⟩
    ihave Ha' := (exit_arrays m c) $$ Ha
    icases Ha' with ⟨-, Hs⟩
    iapply Hk
    isplitl [Hs Hx Hb]
    · isplitl [Hs Hx]
      · unfold summed; isplitl [Hs] <;> iassumption
      iexact Hb
    iexact HO
  isplitl [Hb]; · iexact Hb
  isplitl [Hv Hx HZ HO]
  · iapply (show iprop(((dats m 1 c).arrays ((dats m 1 c).arrAt · 0)) ∗ emp
      ∗ (((c : Thread nD τ).loc main_arg0) ↦{fullShare} H m c) ∗ ∃ W, owes (c : Thread nD τ) (0 : CellTallies nD τ sig Unit) W) ⊢ (summing m).pre c from .rfl)
    isplitl [Hv HZ]
    · iapply (entry_arrays m c); isplitl [Hv] <;> iassumption
    isplitr; · iempintro
    isplitl [Hx]; · iexact Hx
    unfold Dat.owesAt Pipeline.owesWithin
    icases HO with ⟨%W, -, HO⟩
    iexists W; iexact HO
  isplitl [Hl]; · iexact Hl
  isplitl [Hg1] <;> iassumption

omit [FloatOps F] in
/-- The three arrays as launched, array by array. -/
theorem launched : (bigSep Finset.univ fun c : Dev nD => Pipeline.unscopedRest cfg0.spec c (fun b => m ((c : Thread nD τ).loc b)))
    ⊢ (iprop((bigSep Finset.univ fun c : Dev nD => ((c : Thread nD τ).loc main_arg0) ↦{fullShare} H m c)
      ∗ (bigSep Finset.univ fun c : Dev nD => ((c : Thread nD τ).loc main_v1) ↦{fullShare} V1 m c)
      ∗ (bigSep Finset.univ fun c : Dev nD => ((c : Thread nD τ).loc main_v2) ↦{fullShare} V2 m c)) : sProp 𝕄) := by
  rw [← bigSep_sep', ← bigSep_sep']
  exact bigSep_mono fun c _ => Entails.of_eq (unscopedRest0_eq c _)

/-- From any memory with every semaphore at zero, every fair execution ends, on every device with the sum of the
    blocks the four chips hold for it, its own array unchanged and every semaphore at zero. -/
theorem run_main (g : Dev nD → PrngReg) : θ_run (defs (F := F)) (onTc (τ := τ) main) ⟨m, fun _ => 0, g⟩
    (fun r => (∀ c : Dev nD, r.2.mem ((c : Thread nD τ).loc main_v2) = ChipsSum.total (out m c)
      ∧ r.2.mem ((c : Thread nD τ).loc main_arg0) = H m c) ∧ r.2.sem = fun _ => 0) :=
  Cert.Dealt.run (fun p => (cfgs p).toPCfg) (fun p => (cfgs p).toPCfg_adm) (dats m) () cellOf_inj (0 : Fin 2)
    winFacts0.to₀ ownSemFacts embL defs₀ 𝒱₀ m g main (fun _ => .op (.customCall (Pipeline.entry 1) ()) fun _ => .ret ⟨⟩)
    (hmain := fun _ => rfl) (hW := inferInstanceAs (IsEmpty (Fin 0))) (hK := rfl)
    (hbody := body_obligation m)
    (O₀ := plan.owed S₀) (howed₀ := fun _ => rfl)
    (L := Plan.L) (lv := plan.lv) (hL := Plan.L_of_ne)
    (hwaits := fun c => Pipeline.cellsWaits_intro cfgs (dats m) () 0 c fun w => w.elim0)
    (G := plan.G (pay m)) (u₀ := u₀)
    (hu₀ := by
      unfold u₀
      iintro Hu
      ihave H := (ownU_pair _ _) $$ Hu
      icases H with ⟨HP, HX⟩
      imod (plan.fund (pay m)) $$ HX with HG
      imodintro
      isplitl [HP] <;> iassumption)
    (X := fun c => iprop(plan.Pre (τ := τ) (pay m) S₀ c ∗ start m c ∗ owned m c)) (Y := fun c => iprop(full m c ∗ owned m c))
    (Z := fun c => iprop(((c : Thread nD τ).loc main_v2) ↦{fullShare} V2 m c)) (T := summed m)
    (hdeal := by
      refine (plan.setup (pay m) S₀ _ _).trans ?_
      iintro H
      imod H with ⟨HP, HU⟩
      imodintro
      ihave HU' := (launched m) $$ HU
      icases HU' with ⟨HX, HV, HZ⟩
      simp only [bigSep_sep']
      isplitl [HP HX HV]
      · isplitl [HP]; · iexact HP
        isplitl [HV]
        · iapply (Entails.of_eq (deal_slots m)); iexact HV
        · iapply (Entails.of_eq (bigSep_congr fun c _ => whole_owned m c)); iexact HX
      · iexact HZ)
    (hin := fun c => .rfl)
    (hout := fun c => .rfl)
    (htail := tail m)
    (QY := fun c s => s.mem ((c : Thread nD τ).loc main_v2) = ChipsSum.total (out m c) ∧ s.mem ((c : Thread nD τ).loc main_arg0) = H m c)
    (hfin := read_off m)
    (hQ := fun _ h hs => ⟨h, sem_eq_zero_of_scoped (by decide) hs⟩)

end Cert.ChipsRun

end
-- ==== Proof.ChipsBits.lean ====
module

public import proofs.«01_k».proof.Proof.ChipsLaunch
public import proofs.«01_k».proof.Proof.Gen.Chips

/-
  The program that is not idealized is the same program: its run is the idealized one's.
-/

@[expose] public section

noncomputable section

namespace Cert.ChipsBits

open Cert.Chips

open Idealize.ShloMosaic Idealize.ShloMosaic.TcCoe
open Idealize.SL.Sem

variable {F : FTy → Type} [FloatOps F]

theorem bodies : defs₀ (F := F) = Cert.ChipsIdeal.defs₀ := by
  unfold defs₀ Cert.ChipsIdeal.defs₀
  refine congrArg Defs.onTc (funext fun l => funext fun x => ?_)
  match l, x with
  | ⟨0, _⟩, (t, s) => rfl
  | ⟨1, _⟩, (t, s) => rfl

theorem table : defs (F := F) = Cert.ChipsIdeal.defs := congrArg (Pipeline.defs (pcfgs (F := F))) bodies

theorem run_main (m : (ℓ : Loc nD τ sig) → Buf (Elt F) ℓ) (g : Dev nD → PrngReg) :
    θ_run (defs (F := F)) (onTc (τ := τ) main) ⟨m, fun _ => 0, g⟩
      (fun r => (∀ c : Dev nD, r.2.mem ((c : Thread nD τ).loc main_v2) = Cert.ChipsSum.total (Cert.ChipsRun.out m c)
        ∧ r.2.mem ((c : Thread nD τ).loc main_arg0) = m ((c : Thread nD τ).loc main_arg0)) ∧ r.2.sem = fun _ => 0) := by
  rw [table]
  exact Cert.ChipsRun.run_main m g

end Cert.ChipsBits

end
-- ==== Proof.ChipsValue.lean ====
module

public import proofs.«01_k».proof.Proof.ChipsLaunch
public import proofs.«01_k».proof.Proof.Gen.ChipsRefIdeal
public import Idealize.ShloMosaic.Lib.Layout
public import Idealize.ShloMosaic.Lib.ValueIdxCoords

/-
  The sums on the eight devices are the blocks of rows of the sum over chips of the stacked array.
-/

@[expose] public section

noncomputable section

namespace Cert.ChipsValue

open Idealize.ShloMosaic Idealize.ShloMosaic.TcCoe
open Idealize.ShloMosaic.ValueIdx
open Cert.ChipsRefIdeal Cert.ChipsRefIdeal.Gen

variable {F : FTy → Type} [FloatOps F]

/-- The blocks of the thirty-two that chip `k` holds. -/
abbrev held (x : S32x14848x1024.Idx → Elt F .bf16) (k : Fin 4) (hk : S4x2x4x14848x1024.Slices ![k.val, 0, 0, 0, 0] S1x2x4x14848x1024) :
    S2x4x14848x1024.Idx → Elt F .f32 :=
  shapeCast S2x4x14848x1024 (extractStridedSlice S1x2x4x14848x1024 ![k.val, 0, 0, 0, 0]
    (extf .f32 (shapeCast S4x2x4x14848x1024 x shapeCasts_S32x14848x1024_S4x2x4x14848x1024) bitsLt_bf16_f32) hk) shapeCasts_S1x2x4x14848x1024_S2x4x14848x1024

/-- The reference's result. -/
abbrev added (x : S32x14848x1024.Idx → Elt F .bf16) : S118784x1024.Idx → Elt F .f32 :=
  shapeCast S118784x1024 (transpose S4x2x14848x1024 [1, 0, 2, 3]
    (addf (addf (addf (held x 0 slices_S4x2x4x14848x1024_S1x2x4x14848x1024_0_0_0_0_0) (held x 1 slices_S4x2x4x14848x1024_S1x2x4x14848x1024_1_0_0_0_0))
      (held x 2 slices_S4x2x4x14848x1024_S1x2x4x14848x1024_2_0_0_0_0)) (held x 3 slices_S4x2x4x14848x1024_S1x2x4x14848x1024_3_0_0_0_0))
    transposes_S2x4x14848x1024_S4x2x14848x1024_1_0_2_3) shapeCasts_S4x2x14848x1024_S118784x1024

/-- Chip `k`'s block at core `q` for chip `p`, element by element. -/
theorem held_apply (x : S32x14848x1024.Idx → Elt F .bf16) (k : Fin 4) (hk) (q : Fin 2) (p : Fin 4) (r : Fin 14848) (l : Fin 1024) :
    held x k hk (ix4 q p r l) = FloatOps.extf .f32 bitsLt_bf16_f32 (x (ix3 (n0 := 32) (n1 := 14848) (n2 := 1024) ⟨(k.val * 2 + q.val) * 4 + p.val, by omega⟩ r l)) := by
  unfold held
  rw [shapeCast_apply _ shapeCasts_S1x2x4x14848x1024_S2x4x14848x1024 (ix4 q p r l) (ix5 (n0 := 1) (n1 := 2) (n2 := 4) (n3 := 14848) (n4 := 1024) 0 q p r l)
    (by
      rw [Shape.rowMajor_val_five, Shape.rowMajor_val_four]
      show (((0 * 2 + q.val) * 4 + p.val) * 14848 + r.val) * 1024 + l.val = ((q.val * 4 + p.val) * 14848 + r.val) * 1024 + l.val
      omega)]
  rw [extractStridedSlice_apply _ _ hk _ (ix5 (n0 := 4) (n1 := 2) (n2 := 4) (n3 := 14848) (n4 := 1024) k q p r l) (fun a => match a with
    | ⟨0, _⟩ => by show k.val = k.val + 0; omega
    | ⟨1, _⟩ => by show q.val = 0 + q.val; omega
    | ⟨2, _⟩ => by show p.val = 0 + p.val; omega
    | ⟨3, _⟩ => by show r.val = 0 + r.val; omega
    | ⟨4, _⟩ => by show l.val = 0 + l.val; omega)]
  refine congrArg (FloatOps.extf .f32 bitsLt_bf16_f32) ?_
  refine shapeCast_apply x shapeCasts_S32x14848x1024_S4x2x4x14848x1024 _ _ ?_
  rw [Shape.rowMajor_val_three, Shape.rowMajor_val_five]
  rfl

/-- If device `c` holds block `c` of the stacked array, its sum is block `c` of the reference's result. -/
theorem block (m : (ℓ : Loc Cert.ChipsIdeal.nD Cert.ChipsIdeal.τ Cert.ChipsIdeal.sig) → Buf (Elt F) ℓ) (x : S32x14848x1024.Idx → Elt F .bf16)
    (h : ∀ c : Dev Cert.ChipsIdeal.nD, m ((c.tc : Thread Cert.ChipsIdeal.nD Cert.ChipsIdeal.τ).loc Cert.ChipsIdeal.main_arg0)
      = Layout.block ⟨3, ![4, 14848, 1024]⟩ ⟨3, ![32, 14848, 1024]⟩ 0 8 c x) (c : Dev Cert.ChipsIdeal.nD) :
    Cert.ChipsSum.total (Cert.ChipsRun.out m c) = Layout.block ⟨2, ![14848, 1024]⟩ ⟨2, ![118784, 1024]⟩ 0 8 c (added x) := by
  have hlt : c.val < 8 := c.isLt
  funext i
  obtain ⟨h1, h2⟩ := Layout.idx_rows_val (dS := ![14848, 1024]) (dT := ![118784, 1024]) (k := 8) (by decide) c i
  refine Eq.trans ?_ (Layout.block_apply _ _ _ _).symm
  -- the reference at this row
  unfold added
  rw [shapeCast_apply _ shapeCasts_S4x2x14848x1024_S118784x1024 _ (ix4 (n0 := 4) (n1 := 2) (n2 := 14848) (n3 := 1024) ⟨c.val / 2, by omega⟩ ⟨c.val % 2, by omega⟩ (i 0) (i 1))
    (by
      rw [Shape.rowMajor_val_four, Shape.rowMajor_val_two]
      refine Eq.trans ?_ (congrArg₂ (fun a b : ℕ => a * 1024 + b) h1 h2).symm
      show ((c.val / 2 * 2 + c.val % 2) * 14848 + (i 0).val) * 1024 + (i 1).val = (c.val * 14848 + (i 0).val) * 1024 + (i 1).val
      have : c.val / 2 * 2 + c.val % 2 = c.val := by omega
      rw [this])]
  rw [transpose_apply _ _ transposes_S2x4x14848x1024_S4x2x14848x1024_1_0_2_3 _ (ix4 (n0 := 2) (n1 := 4) (n2 := 14848) (n3 := 1024) ⟨c.val % 2, by omega⟩ ⟨c.val / 2, by omega⟩ (i 0) (i 1))
    (fun b => match b with
      | ⟨0, _⟩ => rfl
      | ⟨1, _⟩ => rfl
      | ⟨2, _⟩ => rfl
      | ⟨3, _⟩ => rfl)]
  -- what device `c` received from chip `k`
  have r (k : Fin 4) (hk) : FloatOps.extf .f32 bitsLt_bf16_f32 (Cert.ChipsRun.out m c (ix3 (n0 := 4) (n1 := 14848) (n2 := 1024) k (i 0) (i 1)))
      = held x k hk (ix4 (n0 := 2) (n1 := 4) (n2 := 14848) (n3 := 1024) ⟨c.val % 2, by omega⟩ ⟨c.val / 2, by omega⟩ (i 0) (i 1)) := by
    refine Eq.trans (congrArg (FloatOps.extf .f32 bitsLt_bf16_f32) ?_) (held_apply x k hk _ _ _ _).symm
    refine (congrFun (h (Cert.ChipsRun.peer c k)) (ix3 (n0 := 4) (n1 := 14848) (n2 := 1024) (Cert.ChipsRun.chip c) (i 0) (i 1))).trans ((Layout.block_apply _ _ _ _).trans (congrArg x ?_))
    refine funext fun a => Fin.ext ?_
    match a with
    | ⟨0, _⟩ => show (2 * k.val + c.val % 2) * 4 + c.val / 2 = (k.val * 2 + c.val % 2) * 4 + c.val / 2; omega
    | ⟨1, _⟩ => rfl
    | ⟨2, _⟩ => rfl
  exact congrArg₂ _ (congrArg₂ _ (congrArg₂ _ (r 0 _) (r 1 _)) (r 2 _)) (r 3 _)

end Cert.ChipsValue

end
-- ==== Proof.CoresRun.lean ====
module

public import proofs.«01_k».proof.Proof.Exchange
public import proofs.«01_k».proof.Proof.Gen.CoresIdeal.Launch
public import proofs.«01_k».proof.Proof.Gen.CoresIdeal.Skeleton
public import proofs.«01_k».proof.Proof.Gen.CoresIdeal.Points

/-
  The exchange between the two cores of a chip, on one device.

  Device `c` sends one of its two arrays, whole, into the result of the other core of its chip, and receives that core's
  in its own result.
-/

@[expose] public section

noncomputable section

namespace Cert.CoresRun

open Cert.CoresIdeal Cert.CoresIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false
set_option maxRecDepth 8192

variable {F : FTy → Type} [FloatOps F]

local notation "𝕄" => MT nD τ sig Unit (Elt F) ℕ (UR sig nD τ × UR sig nD τ) ℕ

variable (m : (ℓ : Loc nD τ sig) → Buf (Elt F) ℓ)

/-! ## The mesh: device `2 · chip + core` -/

/-- The other core of the chip. -/
def sib : Dev nD ≃ Dev nD := ⟨![1, 0, 3, 2, 5, 4, 7, 6], ![1, 0, 3, 2, 5, 4, 7, 6], by decide, by decide⟩

theorem sib_sib (c : Dev nD) : sib (sib c) = c := by revert c; decide
theorem dev1_eq (c : Dev nD) : (⟨k0_dev1 c, k0_dev1_lt c⟩ : Dev nD) = sib c := by revert c; decide

/-! ## Arrays and contents -/

/-- The array a device keeps, as launched. -/
abbrev Own (c : Dev nD) : main_arg0.ty.Contents (Elt F) := m ((c : Thread nD τ).loc main_arg0)
/-- The array it sends, as launched. -/
abbrev Snd (c : Dev nD) : main_arg1.ty.Contents (Elt F) := m ((c : Thread nD τ).loc main_arg1)
/-- The array it receives into, as launched. -/
abbrev V1 (c : Dev nD) : main_v1.ty.Contents (Elt F) := m ((c : Thread nD τ).loc main_v1)
/-- What it receives: the array the other core sends. -/
def got (c : Dev nD) : main_v1.ty.Contents (Elt F) := Snd m (sib c)

/-- The array device `c` sends, whole. -/
def sendPts (c : Dev nD) : sProp 𝕄 := ((c : Thread nD τ).loc main_arg1) ↦{fullShare} Snd m c
/-- The array device `c` receives into, whole, holding `f`. -/
def gotPts (f : main_v1.ty.Contents (Elt F)) (c : Dev nD) : sProp 𝕄 := ((c : Thread nD τ).loc main_v1) ↦{fullShare} f

omit [FloatOps F] in
instance sendPts_storable (c : Dev nD) : BI.Storable (upEmb : UEmb _ 𝕄) (sendPts m c) := by unfold sendPts; infer_instance
omit [FloatOps F] in
instance gotPts_storable (f) (c : Dev nD) : BI.Storable (upEmb : UEmb _ 𝕄) (gotPts (F := F) f c) := by unfold gotPts; infer_instance

/-- The credit of the copy. -/
abbrev N : ℕ := (Memref.whole main_v1 : Memref sig .tc .hbm S4x14848x1024 .f32).view.dmaCredit

/-- The semaphores: the send `0`, the landing `1`. -/
def plan : Plan nD sig where
  n := 2
  sem k := ⟨k.val, by show k.val < 8; exact lt_trans k.isLt (by decide)⟩
  inj := fun _ _ h => Fin.ext (congrArg (fun x : DmaSem sig => x.val) h)
  rcv := ![.refl _, sib]
  amt := N
  amt_pos := View.dmaCredit_pos _ (by decide)
  lev := fun _ => 0

/-- What each wait hands over. -/
def pay (c : Dev nD) (k : Fin 2) : sProp 𝕄 :=
  match k with
  | 0 => sendPts m c
  | 1 => gotPts (got m c) c

omit [FloatOps F] in
instance pay_storable (c : Dev nD) (k : Fin plan.n) : BI.Storable (upEmb : UEmb _ 𝕄) (pay m c k) := by
  change Fin 2 at k
  unfold pay; split <;> infer_instance

/-- The landing a device causes at the other core. -/
abbrev S₀ : Finset (Fin plan.n) := ({1} : Finset (Fin 2))

/-! ## The body -/

abbrev 𝒱₀ : Variants := Variants.none

omit [FloatOps F] in
theorem sent (c : Dev nD) : sendPts m c
    = ((Memref.whole main_arg1 : Memref sig .tc .hbm S4x14848x1024 .f32).view.loc (c : Thread nD τ)
        ↦[(Memref.whole main_arg1 : Memref sig .tc .hbm S4x14848x1024 .f32).view.set]{fullShare} Snd m c : sProp 𝕄) := by
  rw [show (Memref.whole main_arg1 : Memref sig .tc .hbm S4x14848x1024 .f32).view.set = Finset.univ from View.set_whole _]; rfl

omit [FloatOps F] in
theorem landing (f : main_v1.ty.Contents (Elt F)) (c : Dev nD) : gotPts f c
    = ((Memref.whole main_v1 : Memref sig .tc .hbm S4x14848x1024 .f32).view.loc (c : Thread nD τ)
        ↦[(Memref.whole main_v1 : Memref sig .tc .hbm S4x14848x1024 .f32).view.set]{fullShare} f : sProp 𝕄) := by
  rw [show (Memref.whole main_v1 : Memref sig .tc .hbm S4x14848x1024 .f32).view.set = Finset.univ from View.set_whole _]; rfl

/-- The send. -/
theorem send_all {α : Type} {Q : α → sProp (MT nD τ sig Unit (Elt F) ℕ (UR sig nD τ × UR sig nD τ) ℕ)} {k : PUnit → Prog (TpuEff nD τ sig (Elt F) Λ₀ .tc) α}
    {c n : Dev nD} (hn : n = sib c) {hsc : (Memref.whole main_v1 : Memref sig .tc .hbm S4x14848x1024 .f32).view.ref.isScScratch = false}
    {hsrc : (Memref.whole main_arg1 : Memref sig .tc .hbm S4x14848x1024 .f32).view.WordExact}
    {hdst : (Memref.whole main_v1 : Memref sig .tc .hbm S4x14848x1024 .f32).view.WordExact} {sS sR : DmaSem sig}
    {hsem : DmaTarget.Typed .hbm (.dma sR) (.remote (Dev.tc n : Thread nD τ) (Memref.whole main_v1) (.dma sS) hsc)}
    (hi : sS = plan.sem (0 : Fin 2)) (hj : sR = plan.sem (1 : Fin 2)) :
    iprop(plan.St (τ := τ) (pay m) c Finset.univ Finset.univ S₀ S₀ ∅ ∗ sendPts m c ∗ gotPts (V1 m (sib c)) (sib c))
      ⊢ iprop((plan.St (τ := τ) (pay m) c Finset.univ ∅ Finset.univ ∅ ∅ -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (Memref.whole main_arg1) (.remote (Dev.tc n : Thread nD τ) (Memref.whole main_v1) (.dma sS) hsc) (.dma sR) hsrc hdst hsem) k) Q) := by
  subst hn
  have e : (((Finset.univ : Finset (Fin 2)).erase 0).erase 1 = ∅ ∧ insert (0 : Fin 2) ({1} : Finset (Fin 2)) = Finset.univ
      ∧ ({1} : Finset (Fin 2)).erase 1 = ∅) ∧ (0 : Fin 2) ∈ (Finset.univ : Finset (Fin 2)) ∧ (1 : Fin 2) ∈ (Finset.univ : Finset (Fin 2)).erase 0
      ∧ (0 : Fin 2) ∉ ({1} : Finset (Fin 2)) ∧ (1 : Fin 2) ∈ ({1} : Finset (Fin 2)) := by decide
  obtain ⟨⟨e1, e2, e3⟩, h1, h2, h3, h4⟩ := e
  have h := plan.send (defs := defs₀ (F := F)) (pay := pay m) 𝒱₀ (src := Memref.whole main_arg1) (dst := Memref.whole main_v1) (fs := Snd m c) (fd := V1 m (sib c))
    (q := fullShare) (A := Finset.univ) (T := Finset.univ) (C := S₀) (S := S₀) (Z := ∅) (hsc := hsc) (hsrc := hsrc) (hdst := hdst) (hsem := hsem) (k := k) (Q := Q)
    (0 : Fin 2) (1 : Fin 2) hi hj rfl rfl h1 h2 h3 h4 rfl
    (Entails.of_eq (sent m c).symm)
    (by
      rw [View.write_whole_univ, View.read_whole]
      refine (Entails.of_eq (landing (Snd m c) (sib c)).symm).trans (Entails.of_eq ?_)
      show gotPts (Snd m c) (sib c) = gotPts (got m (sib c)) (sib c)
      unfold got; rw [sib_sib])
  rw [sent, landing]
  have key : ∀ T C S : Finset (Fin 2), ((Finset.univ : Finset (Fin 2)).erase 0).erase 1 = T → insert (0 : Fin 2) ({1} : Finset (Fin 2)) = C
      → ({1} : Finset (Fin 2)).erase 1 = S
      → iprop(plan.St (τ := τ) (pay m) c Finset.univ Finset.univ S₀ S₀ ∅
          ∗ ((Memref.whole main_arg1 : Memref sig .tc .hbm S4x14848x1024 .f32).view.loc (c : Thread nD τ)
            ↦[(Memref.whole main_arg1 : Memref sig .tc .hbm S4x14848x1024 .f32).view.set]{fullShare} Snd m c)
          ∗ ((Memref.whole main_v1 : Memref sig .tc .hbm S4x14848x1024 .f32).view.loc (sib c : Thread nD τ)
            ↦[(Memref.whole main_v1 : Memref sig .tc .hbm S4x14848x1024 .f32).view.set]{fullShare} V1 m (sib c)))
        ⊢ iprop((plan.St (τ := τ) (pay m) c Finset.univ T C S ∅ -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (Memref.whole main_arg1) (.remote (Dev.tc (sib c) : Thread nD τ) (Memref.whole main_v1) (.dma sS) hsc) (.dma sR) hsrc hdst hsem) k) Q) := by
    rintro _ _ _ rfl rfl rfl
    exact h
  exact key _ _ _ e1 e2 e3

/-- A wait. -/
theorem await {α : Type} {Q : α → sProp (MT nD τ sig Unit (Elt F) ℕ (UR sig nD τ × UR sig nD τ) ℕ)} {k : PUnit → Prog (TpuEff nD τ sig (Elt F) Λ₀ .tc) α}
    {c : Dev nD} (i : Fin 2) (A C Z A' C' Z' : Finset (Fin 2)) (h : (i ∈ A ∧ i ∈ C ∧ i ∉ Z) ∧ A.erase i = A' ∧ C.erase i = C' ∧ insert i Z = Z')
    {s' : Shape} {e' : EltTy} {src : Memref sig .tc .hbm s' e'} {dst : Memref sig .tc .hbm S4x14848x1024 .f32} (hN : dst.view.dmaCredit = N)
    (R : sProp 𝕄) (hR : pay m c i ⊢ R) {hsrc : src.view.WordExact} {hdst : dst.view.WordExact} {sW : DmaSem sig} (hi : sW = plan.sem i) :
    plan.St (τ := τ) (pay m) c A ∅ C ∅ Z
      ⊢ iprop(((plan.St (τ := τ) (pay m) c A' ∅ C' ∅ Z' ∗ R) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sW src dst hsrc hdst) k) Q) := by
  obtain ⟨⟨h1, h2, h3⟩, rfl, rfl, rfl⟩ := h
  iintro HS Hk
  iapply (plan.wait (pay := pay m) 𝒱₀ i hi h1 h2 h3 (fun _ h => absurd h (Finset.notMem_empty _)) hN) $$ [HS]
  · iexact HS
  iintro ⟨HS, HP⟩
  iapply Hk
  isplitl [HS]; · iexact HS
  iapply hR; iexact HP

/-- The cell waited on first, and the one waited on last. -/
abbrev early : Finset (Fin 2) := {0}
abbrev late : Finset (Fin 2) := {1}

/-- The exchange's body on device `c`. -/
theorem body (c : Dev nD) (K : PUnit → sProp 𝕄) :
    iprop((plan.St (τ := τ) (pay m) c Finset.univ Finset.univ S₀ S₀ ∅ ∗ gotPts (V1 m (sib c)) (sib c) ∗ sendPts m c)
        ∗ ((plan.St (τ := τ) (pay m) c ∅ ∅ ∅ ∅ Finset.univ ∗ gotPts (got m c) c ∗ sendPts m c) -∗ K ⟨⟩))
      ⊢ wp frame (wpE (defs₀ (F := F)) 𝒱₀ (c : Thread nD τ) none) Set.univ (bodyAt0 t0_0) K := by
  unfold bodyAt0
  simp only [cc0_rs_sibling_eq_skeleton]; unfold cc0_rs_sibling_skel
  simp only [Prog.lift, Prog.bind_op, Prog.bind_ret, Prog.pure_eq_ret, wp_deviceId]
  iintro ⟨⟨HS, HD, HX⟩, Hk⟩
  iapply (send_all m (dev1_eq c) rfl rfl) $$ [HS HD HX]
  · isplitl [HS]; · iexact HS
    isplitl [HX]; · iexact HX
    iexact HD
  iintro HS
  iapply (await m (dst := Memref.whole main_arg1) (0 : Fin 2) Finset.univ Finset.univ ∅ late late early (by decide) rfl (sendPts m c) (BI.Entails.refl _) rfl) $$ [HS]
  · iexact HS
  iintro ⟨HS, HX⟩
  iapply (await m (dst := Memref.whole main_v1) (1 : Fin 2) late late early ∅ ∅ Finset.univ (by decide) rfl (gotPts (got m c) c) (BI.Entails.refl _) rfl) $$ [HS]
  · iexact HS
  iintro ⟨HS, HD⟩
  rw [wp_ret]; imodintro
  iapply Hk
  isplitl [HS]; · iexact HS
  isplitl [HD]; · iexact HD
  iexact HX

end Cert.CoresRun

end
-- ==== Proof.CoresSum.lean ====
module

public import proofs.«01_k».proof.Proof.Gen.CoresIdeal.Launch
public import proofs.«01_k».proof.Proof.Gen.CoresIdeal.Skeleton
public import proofs.«01_k».proof.Proof.Gen.CoresIdeal.Points
public import Idealize.ShloMosaic.Lib.Pipeline.FrameBody
public import Idealize.ShloMosaic.Lib.Pipeline.Value
public import Idealize.ShloMosaic.Lib.ValueLayout
public import Idealize.ShloMosaic.Lib.Ring
public import Idealize.ShloMosaic.Lib.Tactic
public import Idealize.ShloMosaic.Lib.WordCmp

/-
  The sum of a device's own array and the received one, on one device: the body at a grid point, the region's data and
  the array it leaves.
-/

@[expose] public section

set_option maxRecDepth 16384

noncomputable section

namespace Cert.CoresSum

open Cert.CoresIdeal Cert.CoresIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose BodyObligation)

set_option Elab.async false

variable {F : FTy → Type} [FloatOps F]

local notation "𝕄" => MT nD τ sig Unit (Elt F) ℕ (UR sig nD τ × UR sig nD τ) ℕ

/-! ## The body -/

/-- A staged block, whole. -/
abbrev all : Rect S1x512x1024 := Rect.unit (s := S1x512x1024) ![0, 0, 0] S1x512x1024.size inb_S1x512x1024_S1x512x1024_0_0_0

/-- What the body stores, from the two staged blocks. -/
def stored (x y : Vec F S1x512x1024 .f32) : Vec F S1x512x1024 .bf16 :=
  View.canon [⟨all, k1_pay1 (View.ld x all) (View.ld y all)⟩]

theorem stored_all (p : Vec F S1x512x1024 .bf16) (y : S1x512x1024.Idx) :
    ∃ pc ∈ ([⟨all, p⟩] : List (View.Piece (Elt F) S1x512x1024 .bf16)), y ∈ pc.1.set :=
  View.cover_of_tiled [⟨all, p⟩] S1x512x1024.size (by rfl) y

set_option maxHeartbeats 1000000 in
/-- The body, on whole staging buffers. -/
theorem body (c : Dev nD) (E : Set ℕ) (i : grid1.Coords) (a : Memref sig .tc .vmem S1x512x1024 .f32) (ha : a.IsWhole)
    (b : Memref sig .tc .vmem S1x512x1024 .f32) (hb : b.IsWhole) (o : Memref sig .tc .vmem S1x512x1024 .bf16) (ho : o.IsWhole)
    (x y : Vec F S1x512x1024 .f32) (K : PUnit → sProp 𝕄) :
    iprop(owns (c : Thread nD τ) a fullShare x ∗ owns (c : Thread nD τ) b fullShare y ∗ (∃ d, owns (c : Thread nD τ) o fullShare d)
        ∗ (iprop(owns (c : Thread nD τ) a fullShare x ∗ owns (c : Thread nD τ) b fullShare y ∗ owns (c : Thread nD τ) o fullShare (stored x y)) -∗ K ⟨⟩))
      ⊢ wp frame (wpE (defs₀ (F := F)) Variants.none c none) E (cc1_rs_add i a ha b hb o ho) K := by
  simp only [cc1_rs_add_eq_skeleton]; unfold cc1_rs_add_skel
  unfold owns
  iintro ⟨⟨%f, %hf, H0⟩, ⟨%f', %hf', H1⟩, ⟨%d, %g, -, H2⟩, Hk⟩
  subst hf hf'
  sl_exec
  sl_step
  iapply Hk
  isplitl [H0]
  · iexists f; isplitr; · ipureintro; rfl
    iexact H0
  isplitl [H1]
  · iexists f'; isplitr; · ipureintro; rfl
    iexact H1
  iexists _; isplitr
  swap; · iexact H2
  ipureintro
  exact View.read_writes_eq_canon _ _ _ (stored_all _)

/-! ## The region's data -/

variable (X : (c : Dev nD) → main_arg0.ty.Contents (Elt F)) (Y : (c : Dev nD) → main_v1.ty.Contents (Elt F))
  (W : (c : Dev nD) → main_v2.ty.Contents (Elt F))

/-- The two arrays' blocks at a grid point. -/
def staged0 (c : Dev nD) (t : Fin cfg1.N) : ((cfg1.win 0).xblock (cfg1.grid.coords t)).Idx → Elt F (cfg1.win 0).elt :=
  ((cfg1.win 0).blk t).view.read (Elt F) (X c)
def staged1 (c : Dev nD) (t : Fin cfg1.N) : ((cfg1.win 1).xblock (cfg1.grid.coords t)).Idx → Elt F (cfg1.win 1).elt :=
  ((cfg1.win 1).blk t).view.read (Elt F) (Y c)

/-- The device's own array at `X`, the received one at `Y`, the result at `W`; nothing else is touched and nothing is owed. -/
def dat (c : Dev nD) : Dat τ (Elt F) Unit ℕ (UR sig nD τ × UR sig nD τ) ℕ cfg1 c where
  A w := match w with
    | ⟨0, _⟩ => X c
    | ⟨1, _⟩ => Y c
    | ⟨2, _⟩ => W c
  after w t := match w with
    | ⟨0, _⟩ => staged0 X c t
    | ⟨1, _⟩ => staged1 Y c t
    | ⟨2, _⟩ => stored (staged0 X c t) (staged1 Y c t)
  Φ _ := iprop(emp)
  q _ := fullShare
  owed _ := 0

theorem A0 (c : Dev nD) : (dat X Y W c).A 0 = X c := by dsimp only [dat]
theorem A1 (c : Dev nD) : (dat X Y W c).A 1 = Y c := by dsimp only [dat]
theorem after0 (c : Dev nD) (t : Fin cfg1.N) : (dat X Y W c).after 0 t = staged0 X c t := by dsimp only [dat]
theorem after1 (c : Dev nD) (t : Fin cfg1.N) : (dat X Y W c).after 1 t = staged1 Y c t := by dsimp only [dat]
theorem after2 (c : Dev nD) (t : Fin cfg1.N) : (dat X Y W c).after 2 t = stored (staged0 X c t) (staged1 Y c t) := by dsimp only [dat]

theorem before0 (c : Dev nD) (t : Fin cfg1.N) (d) : (dat X Y W c).before 0 t d = staged0 X c t :=
  ((dat X Y W c).before_in_eq_fetched 0 rfl (fun _ => rfl) (fun _ _ _ => rfl)
      (fun t => by rw [after0]; unfold Dat.blockOf staged0; rw [A0]; try rfl) t d).trans
    (by unfold Dat.fetched Dat.blockOf staged0; rw [A0]; try rfl)
theorem before1 (c : Dev nD) (t : Fin cfg1.N) (d) : (dat X Y W c).before 1 t d = staged1 Y c t :=
  ((dat X Y W c).before_in_eq_fetched 1 rfl (fun _ => rfl) (fun _ _ _ => rfl)
      (fun t => by rw [after1]; unfold Dat.blockOf staged1; rw [A1]; try rfl) t d).trans
    (by unfold Dat.fetched Dat.blockOf staged1; rw [A1]; try rfl)

theorem row (t : Fin cfg1.N) : defs₀ (F := F) .tc cfg1.body (cfg1.bodyArgs t (cfg1.slots t)) = bodyAt1 t := by
  unfold defs₀; rw [Defs.onTc_tc]

/-- What the body is entered with at a grid point, and what it leaves. -/
def entered (c : Dev nD) (t : Fin cfg1.N) : sProp 𝕄 :=
  iprop((dat X Y W c).Φ t.castSucc ∗ (dat X Y W c).owesAt () t.castSucc
    ∗ (∃ d, owns (c : Thread nD τ) (st1_0 t) fullShare ((dat X Y W c).before 0 t d))
    ∗ (∃ d, owns (c : Thread nD τ) (st1_1 t) fullShare ((dat X Y W c).before 1 t d))
    ∗ (∃ d, owns (c : Thread nD τ) (st1_2 t) fullShare ((dat X Y W c).before 2 t d)))
def left (c : Dev nD) (t : Fin cfg1.N) : sProp 𝕄 :=
  iprop((dat X Y W c).Φ t.succ ∗ (dat X Y W c).owesAt () t.succ
    ∗ owns (c : Thread nD τ) (st1_0 t) fullShare ((dat X Y W c).after 0 t)
    ∗ owns (c : Thread nD τ) (st1_1 t) fullShare ((dat X Y W c).after 1 t)
    ∗ owns (c : Thread nD τ) (st1_2 t) fullShare ((dat X Y W c).after 2 t))

theorem body_at (c : Dev nD) (t : Fin cfg1.N) :
    entered X Y W c t ⊢ wp frame (wpE (defs₀ (F := F)) Variants.none c none) Set.univ (bodyAt1 t) (fun _ => left X Y W c t) := by
  unfold entered left bodyAt1
  simp only [before0, before1]
  rw [show (dat X Y W c).Φ t.succ = (dat X Y W c).Φ t.castSucc from rfl,
    show (dat X Y W c).owesAt () t.succ = (dat X Y W c).owesAt () t.castSucc from rfl, after0, after1, after2]
  iintro ⟨HΦ, Ho, ⟨%d0, H0⟩, ⟨%d1, H1⟩, ⟨%d2, H2⟩⟩
  iapply (body c Set.univ (grid1.coords t) _ _ _ _ _ _ (staged0 X c t) (staged1 Y c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) X Y W c) (defs₀ (F := F)) Variants.none () Set.univ := fun t => by
  rw [bigSep_W1, bigSep_W1, row]
  exact triple_restated (body_at X Y W c t) rfl .rfl fun _ => .rfl

/-! ## The result -/

/-- The two arrays added up in f32 and rounded. -/
def total (x y : S4x14848x1024.Idx → Elt F .f32) : S4x14848x1024.Idx → Elt F .bf16 := fun i =>
  FloatOps.truncf .bf16 bitsLt_bf16_f32 (FloatOps.addf (x i) (y i))

theorem zeros : (![0, 0, 0] : Fin 3 → ℕ) = fun _ => 0 := funext fun a => by fin_cases a <;> rfl

theorem ld_all (x : Vec F S1x512x1024 .f32) : View.ld x all = x := funext fun y => congrArg x (funext fun a => Fin.ext (by
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega))

/-- The value stored, element by element. -/
theorem pay_apply (x y : Vec F S1x512x1024 .f32) (j : S1x512x1024.Idx) :
    k1_pay1 x y j = FloatOps.truncf .bf16 bitsLt_bf16_f32 (FloatOps.addf (x j) (y j)) := by
  have e : (ix2 (n0 := 512) (n1 := 1024) (j 1) (j 2) : S512x1024.Idx) = ix2 (j 1) (j 2) := rfl
  have hj : (j 0).val = 0 := by have : (j 0).val < 1 := (j 0).isLt; omega
  have r : (S512x1024.rowMajor (ix2 (n0 := 512) (n1 := 1024) (j 1) (j 2))).val = (S1x512x1024.rowMajor j).val := by
    rw [Shape.rowMajor_val_two, Shape.rowMajor_val_three]
    show (j 1).val * 1024 + (j 2).val = ((j 0).val * 512 + (j 1).val) * 1024 + (j 2).val
    rw [hj]; omega
  unfold k1_pay1
  refine (shapeCast_apply _ shapeCasts_S512x1024_S1x512x1024 j (ix2 (n0 := 512) (n1 := 1024) (j 1) (j 2)) r).trans ?_
  exact congrArg _ (congrArg₂ _ (shapeCast_apply x shapeCasts_S1x512x1024_S512x1024 _ j r.symm) (shapeCast_apply y shapeCasts_S1x512x1024_S512x1024 _ j r.symm))

theorem moves : ∀ t : Fin cfg1.N, win1_0.index t = win1_2.index t ∧ win1_1.index t = win1_2.index t ∧ win1_2.index t (2 : Fin 3) = 0 :=
  (by decide +kernel : ∀ t : Fin grid1.N, _)

theorem reached : ∀ (p : Fin 4) (q : Fin 29), ∃ t : Fin cfg1.N, win1_2.index t = ![p.val, q.val, 0] :=
  (by decide +kernel : ∀ (p : Fin 4) (q : Fin 29), ∃ t : Fin grid1.N, win1_2.index t = ![p.val, q.val, 0])

/-- A grid point writes its rows of the sum. -/
theorem flushed (c : Dev nD) (t : Fin cfg1.N) :
    (dat X Y W c).flushed 2 t = ((cfg1.win 2).blk t).view.read (Elt F) (total (X c) (Y c)) := by
  show (cfg1.win 2).cut (grid1.coords t) ((dat X Y W c).after 2 t) = _
  rw [after2]
  unfold stored
  rw [View.canon_unit_zero zeros]
  obtain ⟨e0, e1, e2⟩ := moves t
  have h0 (a : Fin 3) : win1_0.index t a = win1_2.index t a := congrFun e0 a
  have h1 (a : Fin 3) : win1_1.index t a = win1_2.index t a := congrFun e1 a
  funext j
  have hx : staged0 X c t j = (show S4x14848x1024.Idx → Elt F .f32 from X c) (((cfg1.win 2).blk t).view.emb j) := by
    refine congrArg (X c) (funext fun a => Fin.ext ?_)
    match a with
    | ⟨0, _⟩ => exact congrArg (fun n : ℕ => n * 1 + 1 * (j 0).val) (h0 0)
    | ⟨1, _⟩ => exact congrArg (fun n : ℕ => n * 512 + 1 * (j 1).val) (h0 1)
    | ⟨2, _⟩ => exact congrArg (fun n : ℕ => n * 1024 + 1 * (j 2).val) (h0 2)
  have hy : staged1 Y c t j = (show S4x14848x1024.Idx → Elt F .f32 from Y c) (((cfg1.win 2).blk t).view.emb j) := by
    refine congrArg (Y c) (funext fun a => Fin.ext ?_)
    match a with
    | ⟨0, _⟩ => exact congrArg (fun n : ℕ => n * 1 + 1 * (j 0).val) (h1 0)
    | ⟨1, _⟩ => exact congrArg (fun n : ℕ => n * 512 + 1 * (j 1).val) (h1 1)
    | ⟨2, _⟩ => exact congrArg (fun n : ℕ => n * 1024 + 1 * (j 2).val) (h1 2)
  show k1_pay1 (View.ld (staged0 X c t) all) (View.ld (staged1 Y c t) all) j = total (X c) (Y c) (((cfg1.win 2).blk t).view.emb j)
  rw [ld_all, ld_all]
  refine (pay_apply _ _ j).trans ?_
  exact congrArg _ (congrArg₂ _ hx hy)

theorem mem_blk (t : Fin cfg1.N) (i : S4x14848x1024.Idx) :
    i ∈ ((cfg1.win 2).blk t).view.set ↔ ∀ a : Fin 3, win1_2.index t a * S1x512x1024.size a ≤ (i a).val ∧ (i a).val < win1_2.index t a * S1x512x1024.size a + S1x512x1024.size a := by
  show i ∈ ((View.whole main_v2).slice (win1_2.rect t)).set ↔ _
  rw [View.set_slice_whole, Rect.mem_set_unit]
  exact Iff.rfl

theorem covered (i : S4x14848x1024.Idx) : ∃ t : Fin cfg1.N, (cfg1.win 2).flush t = true ∧ i ∈ ((cfg1.win 2).blk t).view.set := by
  have hi0 : (i 0).val < 4 := (i 0).isLt
  have hi1 : (i 1).val < 14848 := (i 1).isLt
  have hi2 : (i 2).val < 1024 := (i 2).isLt
  obtain ⟨t, ht⟩ := reached ⟨(i 0).val, hi0⟩ ⟨(i 1).val / 512, by omega⟩
  have q0 : win1_2.index t (0 : Fin 3) = (i 0).val := congrFun ht 0
  have q1 : win1_2.index t (1 : Fin 3) = (i 1).val / 512 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 1024 ≤ (i 2).val ∧ (i 2).val < win1_2.index t (2 : Fin 3) * 1024 + 1024; omega

/-- The result after the region: the sum of the two arrays. -/
theorem result (c : Dev nD) : (dat X Y W c).arrAt 2 cfg1.N = total (X c) (Y c) :=
  (dat X Y W c).arrAt_eq_of_cover 2 _ (fun t _ => flushed X Y W c t) covered

/-- The two arrays are left as they were. -/
theorem kept0 (c : Dev nD) : (dat X Y W c).arrAt 0 cfg1.N = X c := ((dat X Y W c).arrAt_in 0 rfl _).trans (A0 X Y W c)
theorem kept1 (c : Dev nD) : (dat X Y W c).arrAt 1 cfg1.N = Y c := ((dat X Y W c).arrAt_in 1 rfl _).trans (A1 X Y W c)

end Cert.CoresSum

end
-- ==== Proof.CoresLaunch.lean ====
module

public import proofs.«01_k».proof.Proof.Dealt
public import proofs.«01_k».proof.Proof.CoresRun
public import proofs.«01_k».proof.Proof.CoresSum

/-
  The exchange between the cores and the sum that follows it, launched on the eight devices.
-/

@[expose] public section

noncomputable section

namespace Cert.CoresRun

open Cert.CoresIdeal Cert.CoresIdeal.Gen Cert.Exchange

open Idealize.ShloMosaic
open Idealize.ShloMosaic.TcCoe
open Idealize.ShloMosaic.Pipeline (Dat BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig Unit (Elt F) ℕ (UR sig nD τ × UR sig nD τ) ℕ

variable (m : (ℓ : Loc nD τ sig) → Buf (Elt F) ℓ)

/-! ## The regions' data -/

omit [FloatOps F] in
/-- Every array received into, given to the device that writes it. -/
theorem deal_arrays : (bigSep Finset.univ fun c : Dev nD => gotPts (V1 m c) c) = bigSep Finset.univ fun c : Dev nD => gotPts (V1 m (sib c)) (sib c) :=
  bigSep_univ_equiv sib (fun c => gotPts (V1 m c) c)

/-- The exchange. Before the body: the protocol as launched, the array to write, the array to send and the buffers it
    does not touch; after it: the semaphores back at zero, the array received, the array sent and the same buffers. -/
def exchanged (c : Dev nD) : Dat τ (Elt F) Unit ℕ (UR sig nD τ × UR sig nD τ) ℕ cfg0 c where
  A w := w.elim0
  after w := w.elim0
  Φ t := match t with
    | ⟨0, _⟩ => iprop((plan.Pre (τ := τ) (pay m) S₀ c ∗ gotPts (V1 m (sib c)) (sib c) ∗ sendPts m c) ∗ Pipeline.scopedRest cfg0.spec c)
    | ⟨_ + 1, _⟩ => iprop((gotPts (got m c) c ∗ sendPts m c) ∗ Pipeline.ownSems0 plan.osem c ∗ Pipeline.scopedRest cfg0.spec c)
  q _ := fullShare
  owed t := match t with
    | ⟨0, _⟩ => plan.owed S₀ c
    | ⟨_ + 1, _⟩ => 0

/-- A device's sum as launched. -/
abbrev V2 (c : Dev nD) : main_v2.ty.Contents (Elt F) := m ((c : Thread nD τ).loc main_v2)

/-- The two regions' data: the exchange, then the sum of what it left. -/
def dats (p : Fin 2) (c : Dev nD) : Dat τ (Elt F) Unit ℕ (UR sig nD τ × UR sig nD τ) ℕ (cfgs p) c :=
  match p with
  | ⟨0, _⟩ => exchanged m c
  | ⟨1, _⟩ => CoresSum.dat (Own m) (got m) (V2 m) c

theorem body_obligation (c : Dev nD) : BodyObligationLoose (exchanged m c) (defs₀ (F := F)) 𝒱₀ () Set.univ := fun t => by
  rw [fin_N0 t, Finset.univ_eq_empty, bigSep_empty, bigSep_empty]
  show iprop(iprop((plan.Pre (τ := τ) (pay m) S₀ c ∗ gotPts (V1 m (sib c)) (sib c) ∗ sendPts m c) ∗ Pipeline.scopedRest cfg0.spec c) ∗ (exchanged m c).owesAt () t0_0.castSucc ∗ emp)
    ⊢ wp frame (wpE (defs₀ (F := F)) 𝒱₀ (c : Thread nD τ) none) Set.univ (bodyAt0 t0_0)
      (fun _ => iprop(iprop((gotPts (got m c) c ∗ sendPts m c) ∗ Pipeline.ownSems0 plan.osem c ∗ Pipeline.scopedRest cfg0.spec c) ∗ (exchanged m c).owesAt () t0_0.succ ∗ emp))
  unfold Dat.owesAt Pipeline.owesWithin
  iintro ⟨⟨⟨HP, HD, HX⟩, HR⟩, ⟨%W, -, HO⟩, -⟩
  iapply (body m c)
  isplitl [HP HD HX HO]
  · isplitl [HP HO]
    · iapply (plan.St_intro (pay m) S₀ c W); isplitl [HP]; · iexact HP
      iexact HO
    isplitl [HD] <;> iassumption
  iintro ⟨HS, HF, HX⟩
  ihave H := (plan.St_elim (pay m) _ _ _ _ rfl c) $$ HS
  icases H with ⟨⟨%W', HO⟩, Hz⟩
  isplitl [Hz HF HX HR]
  · isplitl [HF HX]
    · isplitl [HF] <;> iassumption
    isplitl [Hz] <;> iassumption
  isplitl [HO]
  · iexists W'
    isplitr; · ipureintro; exact fun _ _ => Or.inl trivial
    iexact HO
  iempintro

/-! ## The sum -/

/-- No wait stands above another. -/
theorem level (g : GSem nD τ sig) (u : Unit) : plan.lv (τ := τ) g u = 0 := by
  unfold Plan.lv Function.extend
  split <;> rfl

/-- The sum as a stretch of the program: the array sent rides beside it. -/
def summing : Pipeline.RegionSeg (fun p => (cfgs p).toPCfg (Val := Elt F)) (fun p => (cfgs p).toPCfg_adm) (dats m) () (defs₀ (F := F)) 𝒱₀
    (Plan.L (τ := τ)) (plan.lv (τ := τ)) 1 :=
  .ofArrays (fun p => (cfgs p).toPCfg (Val := Elt F)) (fun p => (cfgs p).toPCfg_adm) (dats m) () (defs₀ (F := F)) 𝒱₀ Plan.L plan.lv 1
    (D := fun _ => 0) (X := fun _ => iprop(emp)) (Y := fun _ => iprop(emp)) (kit := launch1.toP.to₀) (hK := rfl)
    (hbody := fun c => (CoresSum.body_obligation (Own m) (got m) (V2 m) c).loose)
    (howed := fun _ _ => rfl) (hrec := fun _ => rfl)
    (hin := fun c => by
      rw [show (dats m 1 c).Φ 0 = iprop(emp) from rfl]
      iintro -; iempintro)
    (hout := fun c => by
      refine (show (iprop(emp) : sProp 𝕄) ⊢ iprop(Pipeline.scopedRest spec1 c ∗ emp) from ?_)
      iintro -
      isplitl; · iapply (Entails.of_eq (scopedRest1_eq c).symm); iempintro
      iempintro)
    (b := fun _ => 0)
    (hcut := ⟨fun _ _ _ => by rw [Plan.L, if_pos rfl]; exact Finset.mem_singleton_self _, fun _ _ _ => le_of_eq (level _ _),
      fun _ _ _ h => absurd h (lt_irrefl 0)⟩)
    (R := fun c => sendPts m c)

/-- The array a device keeps, whole. -/
def keepPts (c : Dev nD) : sProp 𝕄 := ((c : Thread nD τ).loc main_arg0) ↦{fullShare} Own m c
/-- The array for the sum, whole, holding `f`. -/
def sumPts (f : main_v2.ty.Contents (Elt F)) (c : Dev nD) : sProp 𝕄 := ((c : Thread nD τ).loc main_v2) ↦{fullShare} f

theorem entry_arrays (c : Dev nD) : iprop(keepPts m c ∗ gotPts (got m c) c ∗ sumPts (V2 m c) c)
    ⊢ ((dats m 1 c).arrays ((dats m 1 c).arrAt · 0) : sProp 𝕄) := by
  have h := Pipeline.arrays_eq (Pipeline.pin (fun p => (cfgs p).toPCfg (Val := Elt F)) (fun p => (cfgs p).toPCfg_adm)) (dats m) 1 c
    launch1.arr_whole (Dat.share_full (dats m 1 c) fun _ => rfl) ((dats m 1 c).arrAt · 0)
  exact Entails.of_eq (h.trans (bigSep_W1 _)).symm

theorem exit_arrays (c : Dev nD) : ((dats m 1 c).arrays ((dats m 1 c).arrAt · cfg1.N) : sProp 𝕄)
    ⊢ iprop(keepPts m c ∗ gotPts (got m c) c ∗ sumPts (CoresSum.total (Own m c) (got m c)) c) := by
  have h := Pipeline.arrays_eq (Pipeline.pin (fun p => (cfgs p).toPCfg (Val := Elt F)) (fun p => (cfgs p).toPCfg_adm)) (dats m) 1 c
    launch1.arr_whole (Dat.share_full (dats m 1 c) fun _ => rfl) ((dats m 1 c).arrAt · cfg1.N)
  rw [← CoresSum.result (Own m) (got m) (V2 m) c]
  have h0 := CoresSum.kept0 (Own m) (got m) (V2 m) c
  have h1 := CoresSum.kept1 (Own m) (got m) (V2 m) c
  refine (Entails.of_eq (h.trans (bigSep_W1 _))).trans (sep_mono (Entails.of_eq ?_) (sep_mono (Entails.of_eq ?_) .rfl))
  · exact congrArg (fun f => (((c : Thread nD τ).loc main_arg0) ↦{fullShare} f : sProp 𝕄)) h0
  · exact congrArg (fun f => (((c : Thread nD τ).loc main_v1) ↦{fullShare} f : sProp 𝕄)) h1

/-! ## The launch -/

theorem ownSemFacts : Pipeline.OwnSemFacts cfg0.spec plan.osem := by decide

/-- What the certificate's own resources start as. -/
def u₀ : UR sig nD τ × UR sig nD τ :=
  (initOf (Pipeline.cells cfgs cellOf_inj) (Pipeline.launchToks cfgs cellOf_inj), initOf plan.cells plan.toks)

/-- The sum of the two arrays, and the device's own arrays unchanged. -/
def summed (c : Dev nD) : sProp 𝕄 := iprop(sumPts (CoresSum.total (Own m c) (got m c)) c ∗ keepPts m c ∗ sendPts m c)

theorem read_off (c : Dev nD) (s' : Phys nD τ sig (Elt F)) : iprop(summed m c ∗ SI s') ⊢ |={Set.univ}=> iprop(⌜s'.mem.mem ((c : Thread nD τ).loc main_v2) = CoresSum.total (Own m c) (got m c)
    ∧ s'.mem.mem ((c : Thread nD τ).loc main_arg0) = Own m c ∧ s'.mem.mem ((c : Thread nD τ).loc main_arg1) = Snd m c⌝ ∗ SI s') := by
  unfold summed sumPts keepPts sendPts
  iintro ⟨⟨Hv, Hx, Hy⟩, HSI⟩
  icombine HSI Hv gives %h1
  icombine HSI Hx gives %h2
  icombine HSI Hy gives %h3
  imodintro
  isplitr
  · ipureintro; exact ⟨funext fun i => h1 i (Finset.mem_univ _), funext fun i => h2 i (Finset.mem_univ _), funext fun i => h3 i (Finset.mem_univ _)⟩
  iexact HSI

theorem tail (c : Dev nD) (Q' : PUnit → sProp 𝕄) :
    iprop((iprop((summed m c ∗ boundary (c : Thread nD τ)) ∗ (∃ W, owes (c : Thread nD τ) (0 : CellTallies nD τ sig Unit) W)) -∗ Q' ⟨⟩)
        ∗ boundary (c : Thread nD τ) ∗ iprop(gotPts (got m c) c ∗ sendPts m c) ∗ iprop(keepPts m c ∗ sumPts (V2 m c) c)
        ∗ (exchanged m c).owesAt () (Fin.last cfg0.N) ∗ levAts Plan.L plan.lv
        ∗ Pipeline.restGhost (fun p => (cfgs p).toPCfg (Val := Elt F)) (fun p => (cfgs p).toPCfg_adm) 0 embL c)
      ⊢ wp frame (wpE (defs (F := F)) (Variants.lift 𝒱₀) (c : Thread nD τ) none) Set.univ
        (.op (.customCall (Pipeline.entry 1) ()) fun _ => .ret ⟨⟩) Q' := by
  have hg : (Pipeline.restGhost (fun p => (cfgs p).toPCfg (Val := Elt F)) (fun p => (cfgs p).toPCfg_adm) 0 embL c : sProp 𝕄)
      ⊢ iprop(Pipeline.cellsGhost (Pipeline.pin (fun p => (cfgs p).toPCfg (Val := Elt F)) (fun p => (cfgs p).toPCfg_adm)) embL 1 c
        ∗ Pipeline.toksInit (Pipeline.pin (fun p => (cfgs p).toPCfg (Val := Elt F)) (fun p => (cfgs p).toPCfg_adm)) embL 1 c) := by
    have h1 : (Finset.univ.erase (0 : Fin 2)) = {1} := by decide
    unfold Pipeline.restGhost Pipeline.PerCore.restGhost
    rw [h1, bigSep_singleton]
  iintro ⟨Hk, Hb, HY, HZ, HO, Hl, Hg⟩
  icases HY with ⟨Hv, Hx⟩
  icases HZ with ⟨Hw, Hs⟩
  ihave Hg' := hg $$ Hg
  icases Hg' with ⟨Hg1, Hg2⟩
  iapply ((summing m).wp (fun p => (cfgs p).toPCfg (Val := Elt F)) (fun p => (cfgs p).toPCfg_adm) (dats m) () cellOf_inj embL (defs₀ (F := F)) 𝒱₀ Plan.L plan.lv
    c none (fun u h => nomatch h) (fun _ => .ret ⟨⟩) Q')
  isplitl [Hk]
  · iintro ⟨Hb, HP⟩
    rw [wp_ret]; imodintro
    ihave HP' := (show (summing m).post c ⊢ iprop(((dats m 1 c).arrays ((dats m 1 c).arrAt · cfg1.N)) ∗ emp
      ∗ sendPts m c ∗ ∃ W, owes (c : Thread nD τ) (0 : CellTallies nD τ sig Unit) W) from .rfl) $$ HP
    icases HP' with ⟨Ha, -, Hx, HO⟩
    ihave Ha' := (exit_arrays m c) $$ Ha
    icases Ha' with ⟨Hw, -, Hs⟩
    iapply Hk
    isplitl [Hs Hw Hx Hb]
    · isplitl [Hs Hw Hx]
      · unfold summed
        isplitl [Hs]; · iexact Hs
        isplitl [Hw] <;> iassumption
      iexact Hb
    iexact HO
  isplitl [Hb]; · iexact Hb
  isplitl [Hv Hx Hw Hs HO]
  · iapply (show iprop(((dats m 1 c).arrays ((dats m 1 c).arrAt · 0)) ∗ emp
      ∗ sendPts m c ∗ ∃ W, owes (c : Thread nD τ) (0 : CellTallies nD τ sig Unit) W) ⊢ (summing m).pre c from .rfl)
    isplitl [Hv Hw Hs]
    · iapply (entry_arrays m c)
      isplitl [Hw]; · iexact Hw
      isplitl [Hv] <;> iassumption
    isplitr; · iempintro
    isplitl [Hx]; · iexact Hx
    unfold Dat.owesAt Pipeline.owesWithin
    icases HO with ⟨%W, -, HO⟩
    iexists W; iexact HO
  isplitl [Hl]; · iexact Hl
  isplitl [Hg1] <;> iassumption

omit [FloatOps F] in
/-- The four arrays as launched, array by array. -/
theorem launched : (bigSep Finset.univ fun c : Dev nD => Pipeline.unscopedRest cfg0.spec c (fun b => m ((c : Thread nD τ).loc b)))
    ⊢ (iprop((bigSep Finset.univ fun c : Dev nD => keepPts m c) ∗ (bigSep Finset.univ fun c : Dev nD => sendPts m c)
      ∗ (bigSep Finset.univ fun c : Dev nD => gotPts (V1 m c) c) ∗ (bigSep Finset.univ fun c : Dev nD => sumPts (V2 m c) c)) : sProp 𝕄) := by
  rw [← bigSep_sep', ← bigSep_sep', ← bigSep_sep']
  exact bigSep_mono fun c _ => Entails.of_eq (unscopedRest0_eq c _)

/-- From any memory with every semaphore at zero, every fair execution ends, on every device with the rounded
    sum of its own array and the one the other core sends, its own arrays unchanged and every semaphore at zero. -/
theorem run_main (g : Dev nD → PrngReg) : θ_run (defs (F := F)) (onTc (τ := τ) main) ⟨m, fun _ => 0, g⟩
    (fun r => (∀ c : Dev nD, r.2.mem ((c : Thread nD τ).loc main_v2) = CoresSum.total (Own m c) (got m c)
      ∧ r.2.mem ((c : Thread nD τ).loc main_arg0) = Own m c ∧ r.2.mem ((c : Thread nD τ).loc main_arg1) = Snd m c) ∧ r.2.sem = fun _ => 0) :=
  Cert.Dealt.run (fun p => (cfgs p).toPCfg) (fun p => (cfgs p).toPCfg_adm) (dats m) () cellOf_inj (0 : Fin 2)
    winFacts0.to₀ ownSemFacts embL defs₀ 𝒱₀ m g main (fun _ => .op (.customCall (Pipeline.entry 1) ()) fun _ => .ret ⟨⟩)
    (hmain := fun _ => rfl) (hW := inferInstanceAs (IsEmpty (Fin 0))) (hK := rfl)
    (hbody := body_obligation m)
    (O₀ := plan.owed S₀) (howed₀ := fun _ => rfl)
    (L := Plan.L) (lv := plan.lv) (hL := Plan.L_of_ne)
    (hwaits := fun c => Pipeline.cellsWaits_intro cfgs (dats m) () 0 c fun w => w.elim0)
    (G := plan.G (pay m)) (u₀ := u₀)
    (hu₀ := by
      unfold u₀
      iintro Hu
      ihave H := (ownU_pair _ _) $$ Hu
      icases H with ⟨HP, HX⟩
      imod (plan.fund (pay m)) $$ HX with HG
      imodintro
      isplitl [HP] <;> iassumption)
    (X := fun c => iprop(plan.Pre (τ := τ) (pay m) S₀ c ∗ gotPts (V1 m (sib c)) (sib c) ∗ sendPts m c)) (Y := fun c => iprop(gotPts (got m c) c ∗ sendPts m c))
    (Z := fun c => iprop(keepPts m c ∗ sumPts (V2 m c) c)) (T := summed m)
    (hdeal := by
      refine (plan.setup (pay m) S₀ _ _).trans ?_
      iintro H
      imod H with ⟨HP, HU⟩
      imodintro
      ihave HU' := (launched m) $$ HU
      icases HU' with ⟨HK, HX, HV, HZ⟩
      simp only [bigSep_sep']
      isplitl [HP HX HV]
      · isplitl [HP]; · iexact HP
        isplitl [HV]
        · iapply (Entails.of_eq (deal_arrays m)); iexact HV
        · iexact HX
      · isplitl [HK] <;> iassumption)
    (hin := fun c => .rfl)
    (hout := fun c => .rfl)
    (htail := tail m)
    (QY := fun c s => s.mem ((c : Thread nD τ).loc main_v2) = CoresSum.total (Own m c) (got m c) ∧ s.mem ((c : Thread nD τ).loc main_arg0) = Own m c ∧ s.mem ((c : Thread nD τ).loc main_arg1) = Snd m c)
    (hfin := read_off m)
    (hQ := fun _ h hs => ⟨h, sem_eq_zero_of_scoped (by decide) hs⟩)

end Cert.CoresRun

end
-- ==== Proof.CoresBits.lean ====
module

public import proofs.«01_k».proof.Proof.CoresLaunch
public import proofs.«01_k».proof.Proof.Gen.Cores

/-
  The program that is not idealized is the same program: its run is the idealized one's.
-/

@[expose] public section

noncomputable section

namespace Cert.CoresBits

open Cert.Cores

open Idealize.ShloMosaic Idealize.ShloMosaic.TcCoe
open Idealize.SL.Sem

variable {F : FTy → Type} [FloatOps F]

theorem bodies : defs₀ (F := F) = Cert.CoresIdeal.defs₀ := by
  unfold defs₀ Cert.CoresIdeal.defs₀
  refine congrArg Defs.onTc (funext fun l => funext fun x => ?_)
  match l, x with
  | ⟨0, _⟩, (t, s) => rfl
  | ⟨1, _⟩, (t, s) => rfl

theorem table : defs (F := F) = Cert.CoresIdeal.defs := congrArg (Pipeline.defs (pcfgs (F := F))) bodies

theorem run_main (m : (ℓ : Loc nD τ sig) → Buf (Elt F) ℓ) (g : Dev nD → PrngReg) :
    θ_run (defs (F := F)) (onTc (τ := τ) main) ⟨m, fun _ => 0, g⟩
      (fun r => (∀ c : Dev nD, r.2.mem ((c : Thread nD τ).loc main_v2) = Cert.CoresSum.total (Cert.CoresRun.Own m c) (Cert.CoresRun.got m c)
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) := by
  rw [table]
  exact Cert.CoresRun.run_main m g

end Cert.CoresBits

end
-- ==== Proof.CoresValue.lean ====
module

public import proofs.«01_k».proof.Proof.CoresLaunch
public import proofs.«01_k».proof.Proof.Gen.CoresRefIdeal
public import Idealize.ShloMosaic.Lib.Layout
public import Idealize.ShloMosaic.Lib.ValueIdxCoords

/-
  The sums on the eight devices are the blocks of the sum, over the whole array, of the arrays kept and the arrays sent
  with the two cores of every chip exchanged.
-/

@[expose] public section

noncomputable section

namespace Cert.CoresValue

open Idealize.ShloMosaic Idealize.ShloMosaic.TcCoe
open Idealize.ShloMosaic.ValueIdx
open Cert.CoresRefIdeal Cert.CoresRefIdeal.Gen

variable {F : FTy → Type} [FloatOps F]

/-- The arrays sent with the two cores of every chip exchanged. -/
abbrev crossed (y : S32x14848x1024.Idx → Elt F .f32) : S32x14848x1024.Idx → Elt F .f32 :=
  shapeCast S32x14848x1024 (Host.reverse [1] (shapeCast S4x2x4x14848x1024 y shapeCasts_S32x14848x1024_S4x2x4x14848x1024)) shapeCasts_S4x2x4x14848x1024_S32x14848x1024

/-- The reference's result. -/
abbrev added (x y : S32x14848x1024.Idx → Elt F .f32) : S32x14848x1024.Idx → Elt F .bf16 :=
  truncf .bf16 (addf x (crossed y)) bitsLt_bf16_f32

omit [FloatOps F] in
/-- The exchanged array, element by element. -/
theorem crossed_apply (y : S32x14848x1024.Idx → Elt F .f32) (k : Fin 4) (q : Fin 2) (p : Fin 4) (r : Fin 14848) (l : Fin 1024) :
    crossed y (ix3 (n0 := 32) (n1 := 14848) (n2 := 1024) ⟨(k.val * 2 + q.val) * 4 + p.val, by omega⟩ r l)
      = y (ix3 (n0 := 32) (n1 := 14848) (n2 := 1024) ⟨(k.val * 2 + (1 - q.val)) * 4 + p.val, by omega⟩ r l) := by
  unfold crossed
  rw [shapeCast_apply _ shapeCasts_S4x2x4x14848x1024_S32x14848x1024 _ (ix5 (n0 := 4) (n1 := 2) (n2 := 4) (n3 := 14848) (n4 := 1024) k q p r l)
    (by rw [Shape.rowMajor_val_three, Shape.rowMajor_val_five]; rfl)]
  refine shapeCast_apply y shapeCasts_S32x14848x1024_S4x2x4x14848x1024 _ _ ?_
  rw [Shape.rowMajor_val_three, Shape.rowMajor_val_five]
  show ((((k.val * 2 + (1 - q.val)) * 4 + p.val) * 14848 + r.val) * 1024 + l.val) = (((k.val * 2 + (2 - (q.val + 1))) * 4 + p.val) * 14848 + r.val) * 1024 + l.val
  have : 1 - q.val = 2 - (q.val + 1) := by omega
  rw [this]

/-- If device `c` holds block `c` of the two stacked arrays, its sum is block `c` of the reference's result. -/
theorem block (m : (ℓ : Loc Cert.CoresIdeal.nD Cert.CoresIdeal.τ Cert.CoresIdeal.sig) → Buf (Elt F) ℓ) (x y : S32x14848x1024.Idx → Elt F .f32)
    (h : ∀ c : Dev Cert.CoresIdeal.nD, m ((c.tc : Thread Cert.CoresIdeal.nD Cert.CoresIdeal.τ).loc Cert.CoresIdeal.main_arg0)
        = Layout.block ⟨3, ![4, 14848, 1024]⟩ ⟨3, ![32, 14848, 1024]⟩ 0 8 c x
      ∧ m ((c.tc : Thread Cert.CoresIdeal.nD Cert.CoresIdeal.τ).loc Cert.CoresIdeal.main_arg1)
        = Layout.block ⟨3, ![4, 14848, 1024]⟩ ⟨3, ![32, 14848, 1024]⟩ 0 8 c y) (c : Dev Cert.CoresIdeal.nD) :
    Cert.CoresSum.total (Cert.CoresRun.Own m c) (Cert.CoresRun.got m c)
      = Layout.block ⟨3, ![4, 14848, 1024]⟩ ⟨3, ![32, 14848, 1024]⟩ 0 8 c (added x y) := by
  have hlt : c.val < 8 := c.isLt
  funext i
  have hi : (i 0).val < 4 := (i 0).isLt
  refine Eq.trans ?_ (Layout.block_apply _ _ _ _).symm
  refine congrArg (FloatOps.truncf .bf16 bitsLt_bf16_f32) (congrArg₂ FloatOps.addf ?_ ?_)
  · exact (congrFun (h c).1 i).trans (Layout.block_apply _ _ _ _)
  · have hs : (Cert.CoresRun.sib c).val = c.val / 2 * 2 + (1 - c.val % 2) := by revert c; decide
    have e := crossed_apply y ⟨c.val / 2, by omega⟩ ⟨c.val % 2, by omega⟩ ⟨(i 0).val, hi⟩ (i 1) (i 2)
    refine ((congrFun (h (Cert.CoresRun.sib c)).2 i).trans (Layout.block_apply _ _ _ _)).trans (Eq.trans (congrArg y ?_) (e.symm.trans (congrArg (crossed y) ?_)))
    · refine funext fun a => Fin.ext ?_
      match a with
      | ⟨0, _⟩ => show (Cert.CoresRun.sib c).val * 4 + (i 0).val = (c.val / 2 * 2 + (1 - c.val % 2)) * 4 + (i 0).val; rw [hs]
      | ⟨1, _⟩ => rfl
      | ⟨2, _⟩ => rfl
    · refine funext fun a => Fin.ext ?_
      match a with
      | ⟨0, _⟩ => show (c.val / 2 * 2 + c.val % 2) * 4 + (i 0).val = c.val * 4 + (i 0).val; omega
      | ⟨1, _⟩ => rfl
      | ⟨2, _⟩ => rfl

end Cert.CoresValue

end
-- ==== Proof.SmallRun.lean ====
module

public import proofs.«01_k».proof.Proof.Gathers
public import proofs.«01_k».proof.Proof.Gen.SmallIdeal.Launch
public import proofs.«01_k».proof.Proof.Gen.SmallIdeal.Points
public import proofs.«01_k».proof.Proof.Gen.SmallIdeal.Skeleton

/-
  The gather of the small gradients: its body on one device.
-/

@[expose] public section

noncomputable section

namespace Cert.SmallRun

open Cert.SmallIdeal Cert.SmallIdeal.Gen Cert.Exchange Cert.Slots
open Cert.Gathers (Call place target)

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig Unit (Elt F) ℕ (UR sig nD τ × UR sig nD τ) ℕ

/-- The blocks gathered and the semaphores of the kernel. -/
abbrev call : Call sig 344 1024 .f32 where
  xM := Memref.whole main_arg0
  oM := Memref.whole main_v1
  sem k := ⟨k.val, by show k.val < 19; exact lt_trans k.isLt (by decide)⟩
  inj := fun _ _ h => Fin.ext (congrArg (fun x : DmaSem sig => x.val) h)
  sq := squeezes_S1x344x1024_S344x1024
  amt_pos := View.dmaCredit_pos _ (by decide)
  credit := fun _ _ => rfl
  xAll := View.set_whole _
  oAll := View.set_whole _
  xWords := View.wordExact_whole _
  oWords := fun _ _ => (View.wordExact_bits rfl).reshape _ _

/-- The slots the kernel names, and the devices it sends to. -/
abbrev offs (c : Dev nD) : Fin 8 → Fin 3 → ℕ := ![k0_off1 c, k0_off2 c, k0_off3 c, k0_off4 c, k0_off5 c, k0_off6 c, k0_off7 c, k0_off8 c]
abbrev peers (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
theorem offs_eq (c : Dev nD) (k : Fin 8) : offs c k = ![(place c k : ℕ), 0, 0] := by revert c k; decide
theorem peers_eq (c : Dev nD) (k : Fin 7) : peers c k = target c k := by revert c k; decide
theorem offs_inb (c : Dev nD) (k : Fin 8) (a) : offs c k a + S1x344x1024.size a ≤ S8x344x1024.size a := by
  rw [offs_eq]; revert c k a; decide

variable (m : (ℓ : Loc nD τ sig) → Buf (Elt F) ℓ)

/-- Slot `d` of the result is device `d`'s block. -/
def out : main_v1.ty.Contents (Elt F) :=
  fun (x : S8x344x1024.Idx) => (show S344x1024.Idx → Elt F .f32 from m (((show Dev nD from x 0) : Thread nD τ).loc main_arg0)) (ix2 (x 1) (x 2))

theorem isOut : call.IsOut m (out m) := fun _ _ _ => rfl

set_option maxHeartbeats 4000000 in
set_option maxRecDepth 8192 in
/-- The kernel's body on device `c`. -/
theorem body (c : Dev nD) (K : PUnit → sProp 𝕄) :
    iprop((call.At m (out m) c 0 0 ∗ call.start m c ∗ call.shares m c) ∗ ((call.At m (out m) c 8 15 ∗ call.full (out m) c ∗ call.shares m c) -∗ K ⟨⟩))
      ⊢ wp frame (wpE (defs₀ (F := F)) Call.𝒱₀ (c : Thread nD τ) none) Set.univ (bodyAt0 t0_0) K := by
  unfold bodyAt0
  simp only [cc0_ag_smallgrads_eq_skeleton]; unfold cc0_ag_smallgrads_skel
  simp only [k0_part10_eq_skeleton]; unfold k0_part10_skel
  simp only [k0_part9_eq_skeleton, k0_part8_eq_skeleton, k0_part7_eq_skeleton, k0_part6_eq_skeleton,
    k0_part5_eq_skeleton, k0_part4_eq_skeleton, k0_part3_eq_skeleton, k0_part2_eq_skeleton, k0_part1_eq_skeleton]
  unfold k0_part9_skel k0_part8_skel k0_part7_skel k0_part6_skel k0_part5_skel k0_part4_skel k0_part3_skel k0_part2_skel k0_part1_skel
  simp only [Prog.lift, Prog.bind_op, Prog.bind_ret, Prog.pure_eq_ret, wp_deviceId]
  exact call.body m (out m) defs₀ (isOut m) c (offs c) (offs_inb c) (offs_eq c) (peers c) (peers_eq c) K

end Cert.SmallRun

end
-- ==== Proof.SmallSum.lean ====
module

public import proofs.«01_k».proof.Proof.Gen.SmallIdeal.Launch
public import proofs.«01_k».proof.Proof.Gen.SmallIdeal.Skeleton
public import proofs.«01_k».proof.Proof.Gen.SmallIdeal.Points
public import Idealize.ShloMosaic.Lib.Pipeline.FrameBody
public import Idealize.ShloMosaic.Lib.Pipeline.Value
public import Idealize.ShloMosaic.Lib.ValueLayout
public import Idealize.ShloMosaic.Lib.Ring
public import Idealize.ShloMosaic.Lib.Tactic
public import Idealize.ShloMosaic.Lib.WordCmp

/-
  The sum of the eight received blocks, on one device: the body at a grid point, the region's data and the array it
  leaves.
-/

@[expose] public section

set_option maxRecDepth 16384

noncomputable section

namespace Cert.SmallSum

open Cert.SmallIdeal Cert.SmallIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose BodyObligation)

set_option Elab.async false

variable {F : FTy → Type} [FloatOps F]

local notation "𝕄" => MT nD τ sig Unit (Elt F) ℕ (UR sig nD τ × UR sig nD τ) ℕ

/-! ## The body -/

/-- Block `k` of the eight staged blocks. -/
abbrev row0 : Rect S8x8x1024 := Rect.unit (s := S8x8x1024) ![0, 0, 0] S1x8x1024.size inb_S8x8x1024_S1x8x1024_0_0_0
abbrev row1 : Rect S8x8x1024 := Rect.unit (s := S8x8x1024) ![1, 0, 0] S1x8x1024.size inb_S8x8x1024_S1x8x1024_1_0_0
abbrev row2 : Rect S8x8x1024 := Rect.unit (s := S8x8x1024) ![2, 0, 0] S1x8x1024.size inb_S8x8x1024_S1x8x1024_2_0_0
abbrev row3 : Rect S8x8x1024 := Rect.unit (s := S8x8x1024) ![3, 0, 0] S1x8x1024.size inb_S8x8x1024_S1x8x1024_3_0_0
abbrev row4 : Rect S8x8x1024 := Rect.unit (s := S8x8x1024) ![4, 0, 0] S1x8x1024.size inb_S8x8x1024_S1x8x1024_4_0_0
abbrev row5 : Rect S8x8x1024 := Rect.unit (s := S8x8x1024) ![5, 0, 0] S1x8x1024.size inb_S8x8x1024_S1x8x1024_5_0_0
abbrev row6 : Rect S8x8x1024 := Rect.unit (s := S8x8x1024) ![6, 0, 0] S1x8x1024.size inb_S8x8x1024_S1x8x1024_6_0_0
abbrev row7 : Rect S8x8x1024 := Rect.unit (s := S8x8x1024) ![7, 0, 0] S1x8x1024.size inb_S8x8x1024_S1x8x1024_7_0_0
/-- The whole staged result. -/
abbrev all : Rect S8x1024 := Rect.unit (s := S8x1024) ![0, 0] S8x1024.size inb_S8x1024_S8x1024_0_0

/-- What the body stores, from the eight staged blocks. -/
def stored (x : Vec F S8x8x1024 .f32) : Vec F S8x1024 .f32 :=
  View.canon [⟨all, k1_pay1 (View.ld x row0) (View.ld x row1) (View.ld x row2) (View.ld x row3) (View.ld x row4) (View.ld x row5) (View.ld x row6) (View.ld x row7)⟩]

theorem stored_all (p : Vec F S8x1024 .f32) (y : S8x1024.Idx) :
    ∃ pc ∈ ([⟨all, p⟩] : List (View.Piece (Elt F) S8x1024 .f32)), y ∈ pc.1.set :=
  View.cover_of_tiled [⟨all, p⟩] S8x1024.size (by rfl) y

set_option maxHeartbeats 1000000 in
/-- The body, on whole staging buffers. -/
theorem body (c : Dev nD) (E : Set ℕ) (i : grid1.Coords) (a : Memref sig .tc .vmem S8x8x1024 .f32) (ha : a.IsWhole)
    (b : Memref sig .tc .vmem S8x1024 .f32) (hb : b.IsWhole) (x : Vec F S8x8x1024 .f32) (K : PUnit → sProp 𝕄) :
    iprop(owns (c : Thread nD τ) a fullShare x ∗ (∃ d, owns (c : Thread nD τ) b fullShare d)
        ∗ (iprop(owns (c : Thread nD τ) a fullShare x ∗ owns (c : Thread nD τ) b fullShare (stored x)) -∗ K ⟨⟩))
      ⊢ wp frame (wpE (defs₀ (F := F)) Variants.none c none) E (cc1_sum_smallgrads i a ha b hb) K := by
  simp only [cc1_sum_smallgrads_eq_skeleton]; unfold cc1_sum_smallgrads_skel
  unfold owns
  iintro ⟨⟨%f, %hf, H0⟩, ⟨%d, %g, -, H1⟩, Hk⟩
  subst hf
  sl_exec
  sl_step
  iapply Hk
  isplitl [H0]
  · iexists f; isplitr; · ipureintro; rfl
    iexact H0
  iexists _; isplitr
  swap; · iexact H1
  ipureintro
  exact View.read_writes_eq_canon _ _ _ (stored_all _)

/-! ## The region's data -/

variable (X : (c : Dev nD) → main_v1.ty.Contents (Elt F)) (W : (c : Dev nD) → main_v2.ty.Contents (Elt F))

/-- The eight blocks' rows at a grid point. -/
def staged (c : Dev nD) (t : Fin cfg1.N) : ((cfg1.win 0).xblock (cfg1.grid.coords t)).Idx → Elt F (cfg1.win 0).elt :=
  ((cfg1.win 0).blk t).view.read (Elt F) (X c)

/-- The received blocks at `X`, the result at `W`; nothing else is touched and nothing is owed. -/
def dat (c : Dev nD) : Dat τ (Elt F) Unit ℕ (UR sig nD τ × UR sig nD τ) ℕ cfg1 c where
  A w := match w with
    | ⟨0, _⟩ => X c
    | ⟨1, _⟩ => W c
  after w t := match w with
    | ⟨0, _⟩ => staged X c t
    | ⟨1, _⟩ => stored (staged X c t)
  Φ _ := iprop(emp)
  q _ := fullShare
  owed _ := 0

theorem A0 (c : Dev nD) : (dat X W c).A 0 = X c := by dsimp only [dat]
theorem after0 (c : Dev nD) (t : Fin cfg1.N) : (dat X W c).after 0 t = staged X c t := by dsimp only [dat]
theorem after1 (c : Dev nD) (t : Fin cfg1.N) : (dat X W c).after 1 t = stored (staged X c t) := by dsimp only [dat]

theorem before0 (c : Dev nD) (t : Fin cfg1.N) (d) : (dat X W c).before 0 t d = staged X c t :=
  ((dat X W c).before_in_eq_fetched 0 rfl (fun _ => rfl) (fun _ _ _ => rfl)
      (fun t => by rw [after0]; unfold Dat.blockOf staged; rw [A0]; try rfl) t d).trans
    (by unfold Dat.fetched Dat.blockOf staged; rw [A0]; try rfl)

theorem row (t : Fin cfg1.N) : defs₀ (F := F) .tc cfg1.body (cfg1.bodyArgs t (cfg1.slots t)) = bodyAt1 t := by
  unfold defs₀; rw [Defs.onTc_tc]

/-- What the body is entered with at a grid point, and what it leaves. -/
def entered (c : Dev nD) (t : Fin cfg1.N) : sProp 𝕄 :=
  iprop((dat X W c).Φ t.castSucc ∗ (dat X W c).owesAt () t.castSucc
    ∗ (∃ d, owns (c : Thread nD τ) (st1_0 t) fullShare ((dat X W c).before 0 t d))
    ∗ (∃ d, owns (c : Thread nD τ) (st1_1 t) fullShare ((dat X W c).before 1 t d)))
def left (c : Dev nD) (t : Fin cfg1.N) : sProp 𝕄 :=
  iprop((dat X W c).Φ t.succ ∗ (dat X W c).owesAt () t.succ
    ∗ owns (c : Thread nD τ) (st1_0 t) fullShare ((dat X W c).after 0 t)
    ∗ owns (c : Thread nD τ) (st1_1 t) fullShare ((dat X W c).after 1 t))

theorem body_at (c : Dev nD) (t : Fin cfg1.N) :
    entered X W c t ⊢ wp frame (wpE (defs₀ (F := F)) Variants.none c none) Set.univ (bodyAt1 t) (fun _ => left X W c t) := by
  unfold entered left bodyAt1
  simp only [before0]
  rw [show (dat X W c).Φ t.succ = (dat X W c).Φ t.castSucc from rfl,
    show (dat X W c).owesAt () t.succ = (dat X W c).owesAt () t.castSucc from rfl, after0, after1]
  iintro ⟨HΦ, Ho, ⟨%d0, H0⟩, ⟨%d1, H1⟩⟩
  iapply (body c Set.univ (grid1.coords t) _ _ _ _ (staged X c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dat (F := F) X W c) (defs₀ (F := F)) Variants.none () Set.univ := fun t => by
  rw [bigSep_W1, bigSep_W1, row]
  exact triple_restated (body_at X W c t) rfl .rfl fun _ => .rfl

/-! ## The result -/

/-- The eight blocks added up, in the order of the devices. -/
def total (x : S8x344x1024.Idx → Elt F .f32) : S344x1024.Idx → Elt F .f32 := fun i =>
  FloatOps.addf (FloatOps.addf (FloatOps.addf (FloatOps.addf (FloatOps.addf (FloatOps.addf (FloatOps.addf (x (ix3 (n0 := 8) (n1 := 344) (n2 := 1024) 0 (i 0) (i 1)))
    (x (ix3 (n0 := 8) (n1 := 344) (n2 := 1024) 1 (i 0) (i 1))))
    (x (ix3 (n0 := 8) (n1 := 344) (n2 := 1024) 2 (i 0) (i 1))))
    (x (ix3 (n0 := 8) (n1 := 344) (n2 := 1024) 3 (i 0) (i 1))))
    (x (ix3 (n0 := 8) (n1 := 344) (n2 := 1024) 4 (i 0) (i 1))))
    (x (ix3 (n0 := 8) (n1 := 344) (n2 := 1024) 5 (i 0) (i 1))))
    (x (ix3 (n0 := 8) (n1 := 344) (n2 := 1024) 6 (i 0) (i 1))))
    (x (ix3 (n0 := 8) (n1 := 344) (n2 := 1024) 7 (i 0) (i 1)))

theorem zeros : (![0, 0] : Fin 2 → ℕ) = fun _ => 0 := funext fun a => by fin_cases a <;> rfl

/-- A row of the staged blocks read at an element. -/
theorem row_read (x : Vec F S8x8x1024 .f32) (k : Fin 8) (inb) (y : S8x1024.Idx) :
    shapeCast S8x1024 (View.ld x (Rect.unit (s := S8x8x1024) ![k.val, 0, 0] S1x8x1024.size inb)) shapeCasts_S1x8x1024_S8x1024 y
      = x (ix3 (n0 := 8) (n1 := 8) (n2 := 1024) k (y 0) (y 1)) := by
  rw [shapeCast_apply _ shapeCasts_S1x8x1024_S8x1024 y (ix3 (n0 := 1) (n1 := 8) (n2 := 1024) 0 (y 0) (y 1))
    (by rw [Shape.rowMajor_val_three, Shape.rowMajor_val_two]; show (0 * 8 + (y 0).val) * 1024 + (y 1).val = (y 0).val * 1024 + (y 1).val; omega)]
  refine congrArg x (funext fun a => Fin.ext ?_)
  match a with
  | ⟨0, _⟩ => show k.val + 1 * 0 = k.val; omega
  | ⟨1, _⟩ => show 0 + 1 * (y 0).val = (y 0).val; omega
  | ⟨2, _⟩ => show 0 + 1 * (y 1).val = (y 1).val; omega

theorem moves : ∀ t : Fin cfg1.N, win1_0.index t (0 : Fin 3) = 0 ∧ win1_0.index t (1 : Fin 3) = win1_1.index t (0 : Fin 2)
    ∧ win1_0.index t (2 : Fin 3) = 0 ∧ win1_1.index t (1 : Fin 2) = 0 :=
  (by decide +kernel : ∀ t : Fin grid1.N, _)

theorem reached : ∀ q : Fin 43, ∃ t : Fin cfg1.N, win1_1.index t = ![q.val, 0] :=
  (by decide +kernel : ∀ q : Fin 43, ∃ t : Fin grid1.N, win1_1.index t = ![q.val, 0])

/-- A grid point writes its rows of the sum. -/
theorem flushed (c : Dev nD) (t : Fin cfg1.N) :
    (dat X W c).flushed 1 t = ((cfg1.win 1).blk t).view.read (Elt F) (total (X c)) := by
  show (cfg1.win 1).cut (grid1.coords t) ((dat X W c).after 1 t) = _
  rw [after1]
  unfold stored
  rw [View.canon_unit_zero zeros]
  obtain ⟨e0, e1, e2, e3⟩ := moves t
  funext j
  have hx (k : Fin 8) : staged X c t (ix3 (n0 := 8) (n1 := 8) (n2 := 1024) k (j 0) (j 1))
      = (show S8x344x1024.Idx → Elt F .f32 from X c) (ix3 (n0 := 8) (n1 := 344) (n2 := 1024) k
          ((((cfg1.win 1).blk t).view.emb j) 0) ((((cfg1.win 1).blk t).view.emb j) 1)) := by
    refine congrArg (X c) (funext fun a => Fin.ext ?_)
    match a with
    | ⟨0, _⟩ => show win1_0.index t (0 : Fin 3) * 8 + 1 * k.val = k.val; omega
    | ⟨1, _⟩ => show win1_0.index t (1 : Fin 3) * 8 + 1 * (j 0).val = win1_1.index t (0 : Fin 2) * 8 + 1 * (j 0).val; omega
    | ⟨2, _⟩ => show win1_0.index t (2 : Fin 3) * 1024 + 1 * (j 1).val = win1_1.index t (1 : Fin 2) * 1024 + 1 * (j 1).val; omega
  have r (k : Fin 8) (inb) := (row_read (staged X c t) k inb j).trans (hx k)
  show FloatOps.addf (FloatOps.addf (FloatOps.addf (FloatOps.addf (FloatOps.addf (FloatOps.addf (FloatOps.addf (shapeCast S8x1024 (View.ld (staged X c t) row0) shapeCasts_S1x8x1024_S8x1024 j)
    (shapeCast S8x1024 (View.ld (staged X c t) row1) shapeCasts_S1x8x1024_S8x1024 j))
    (shapeCast S8x1024 (View.ld (staged X c t) row2) shapeCasts_S1x8x1024_S8x1024 j))
    (shapeCast S8x1024 (View.ld (staged X c t) row3) shapeCasts_S1x8x1024_S8x1024 j))
    (shapeCast S8x1024 (View.ld (staged X c t) row4) shapeCasts_S1x8x1024_S8x1024 j))
    (shapeCast S8x1024 (View.ld (staged X c t) row5) shapeCasts_S1x8x1024_S8x1024 j))
    (shapeCast S8x1024 (View.ld (staged X c t) row6) shapeCasts_S1x8x1024_S8x1024 j))
    (shapeCast S8x1024 (View.ld (staged X c t) row7) shapeCasts_S1x8x1024_S8x1024 j) = total (X c) (((cfg1.win 1).blk t).view.emb j)
  exact congrArg₂ _ (congrArg₂ _ (congrArg₂ _ (congrArg₂ _ (congrArg₂ _ (congrArg₂ _ (congrArg₂ _ (r 0 _) (r 1 _)) (r 2 _)) (r 3 _)) (r 4 _)) (r 5 _)) (r 6 _)) (r 7 _)

theorem mem_blk (t : Fin cfg1.N) (i : S344x1024.Idx) :
    i ∈ ((cfg1.win 1).blk t).view.set ↔ ∀ a : Fin 2, win1_1.index t a * S8x1024.size a ≤ (i a).val ∧ (i a).val < win1_1.index t a * S8x1024.size a + S8x1024.size a := by
  show i ∈ ((View.whole main_v2).slice (win1_1.rect t)).set ↔ _
  rw [View.set_slice_whole, Rect.mem_set_unit]
  exact Iff.rfl

theorem covered (i : S344x1024.Idx) : ∃ t : Fin cfg1.N, (cfg1.win 1).flush t = true ∧ i ∈ ((cfg1.win 1).blk t).view.set := by
  have hi0 : (i 0).val < 344 := (i 0).isLt
  have hi1 : (i 1).val < 1024 := (i 1).isLt
  obtain ⟨t, ht⟩ := reached ⟨(i 0).val / 8, by omega⟩
  have q0 : win1_1.index t (0 : Fin 2) = (i 0).val / 8 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 8 ≤ (i 0).val ∧ (i 0).val < win1_1.index t (0 : Fin 2) * 8 + 8; omega
  | ⟨1, _⟩ => show win1_1.index t (1 : Fin 2) * 1024 ≤ (i 1).val ∧ (i 1).val < win1_1.index t (1 : Fin 2) * 1024 + 1024; omega

/-- The result after the region: the sum of the eight blocks. -/
theorem result (c : Dev nD) : (dat X W c).arrAt 1 cfg1.N = total (X c) :=
  (dat X W c).arrAt_eq_of_cover 1 _ (fun t _ => flushed X W c t) covered

/-- The received blocks are left as they were. -/
theorem kept (c : Dev nD) : (dat X W c).arrAt 0 cfg1.N = X c := ((dat X W c).arrAt_in 0 rfl _).trans (A0 X W c)

end Cert.SmallSum

end
-- ==== Proof.SmallLaunch.lean ====
module

public import proofs.«01_k».proof.Proof.Dealt
public import proofs.«01_k».proof.Proof.SmallRun
public import proofs.«01_k».proof.Proof.SmallSum

/-
  The gather of the small gradients and the sum that follows it, launched on the eight devices.
-/

@[expose] public section

noncomputable section

namespace Cert.SmallRun

open Cert.Gathers (Call)
open Cert.SmallIdeal Cert.SmallIdeal.Gen Cert.Exchange Cert.Slots

open Idealize.ShloMosaic
open Idealize.ShloMosaic.TcCoe
open Idealize.ShloMosaic.Pipeline (Dat BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig Unit (Elt F) ℕ (UR sig nD τ × UR sig nD τ) ℕ

variable (m : (ℓ : Loc nD τ sig) → Buf (Elt F) ℓ)

/-! ## The regions' data -/

/-- The gather. Before the body: the protocol as launched, the slots to write, the shares of its block to read and the buffers it
    does not touch; after it: the semaphores back at zero, the slots filled, the shares and the same buffers. -/
def gatherDat (c : Dev nD) : Dat τ (Elt F) Unit ℕ (UR sig nD τ × UR sig nD τ) ℕ cfg0 c where
  A w := w.elim0
  after w := w.elim0
  Φ t := match t with
    | ⟨0, _⟩ => iprop((call.plan.Pre (τ := τ) (call.pay m (out m)) call.S₀ c ∗ call.start m c ∗ call.shares m c) ∗ Pipeline.scopedRest cfg0.spec c)
    | ⟨_ + 1, _⟩ => iprop((call.full (out m) c ∗ call.shares m c) ∗ Pipeline.ownSems0 call.plan.osem c ∗ Pipeline.scopedRest cfg0.spec c)
  q _ := fullShare
  owed t := match t with
    | ⟨0, _⟩ => call.plan.owed call.S₀ c
    | ⟨_ + 1, _⟩ => 0

/-- A device's sum as launched. -/
abbrev V2 (c : Dev nD) : main_v2.ty.Contents (Elt F) := m ((c : Thread nD τ).loc main_v2)

/-- The two regions' data: the gather, then the sum of what it left. -/
def dats (p : Fin 2) (c : Dev nD) : Dat τ (Elt F) Unit ℕ (UR sig nD τ × UR sig nD τ) ℕ (cfgs p) c :=
  match p with
  | ⟨0, _⟩ => gatherDat m c
  | ⟨1, _⟩ => SmallSum.dat (fun _ => out m) (V2 m) c

theorem body_obligation (c : Dev nD) : BodyObligationLoose (gatherDat m c) (defs₀ (F := F)) Call.𝒱₀ () Set.univ := fun t => by
  rw [fin_N0 t, Finset.univ_eq_empty, bigSep_empty, bigSep_empty]
  show iprop(iprop((call.plan.Pre (τ := τ) (call.pay m (out m)) call.S₀ c ∗ call.start m c ∗ call.shares m c) ∗ Pipeline.scopedRest cfg0.spec c) ∗ (gatherDat m c).owesAt () t0_0.castSucc ∗ emp)
    ⊢ wp frame (wpE (defs₀ (F := F)) Call.𝒱₀ (c : Thread nD τ) none) Set.univ (bodyAt0 t0_0)
      (fun _ => iprop(iprop((call.full (out m) c ∗ call.shares m c) ∗ Pipeline.ownSems0 call.plan.osem c ∗ Pipeline.scopedRest cfg0.spec c) ∗ (gatherDat m c).owesAt () t0_0.succ ∗ emp))
  unfold Dat.owesAt Pipeline.owesWithin
  iintro ⟨⟨⟨HP, HD, HX⟩, HR⟩, ⟨%W, -, HO⟩, -⟩
  iapply (body m c)
  isplitl [HP HD HX HO]
  · isplitl [HP HO]
    · iapply (call.at_start m (out m) c W); isplitl [HP]; · iexact HP
      iexact HO
    isplitl [HD] <;> iassumption
  iintro ⟨HS, HF, HX⟩
  ihave H := (call.at_end m (out m) c) $$ HS
  icases H with ⟨⟨%W', HO⟩, Hz⟩
  isplitl [Hz HF HX HR]
  · isplitl [HF HX]
    · isplitl [HF] <;> iassumption
    isplitl [Hz] <;> iassumption
  isplitl [HO]
  · iexists W'
    isplitr; · ipureintro; exact fun _ _ => Or.inl trivial
    iexact HO
  iempintro

/-! ## The sum -/

/-- No wait stands above level 2. -/
theorem level (g : GSem nD τ sig) (u : Unit) : call.plan.lv (τ := τ) g u ≤ 2 := by
  unfold Plan.lv Function.extend
  split
  · exact (by decide : ∀ k : Fin 15, Call.lev k ≤ 2) _
  · exact Nat.zero_le 2

/-- The sum as a stretch of the program: the device's own array rides beside it. -/
def summing : Pipeline.RegionSeg (fun p => (cfgs p).toPCfg (Val := Elt F)) (fun p => (cfgs p).toPCfg_adm) (dats m) () (defs₀ (F := F)) Call.𝒱₀
    (Plan.L (τ := τ)) (call.plan.lv (τ := τ)) 1 :=
  .ofArrays (fun p => (cfgs p).toPCfg (Val := Elt F)) (fun p => (cfgs p).toPCfg_adm) (dats m) () (defs₀ (F := F)) Call.𝒱₀ Plan.L call.plan.lv 1
    (D := fun _ => 0) (X := fun _ => iprop(emp)) (Y := fun _ => iprop(emp)) (kit := launch1.toP.to₀) (hK := rfl)
    (hbody := fun c => (SmallSum.body_obligation (fun _ => out m) (V2 m) c).loose)
    (howed := fun _ _ => rfl) (hrec := fun _ => rfl)
    (hin := fun c => by
      rw [show (dats m 1 c).Φ 0 = iprop(emp) from rfl]
      iintro -; iempintro)
    (hout := fun c => by
      refine (show (iprop(emp) : sProp 𝕄) ⊢ iprop(Pipeline.scopedRest spec1 c ∗ emp) from ?_)
      iintro -
      isplitl; · iapply (Entails.of_eq (scopedRest1_eq c).symm); iempintro
      iempintro)
    (b := fun _ => 2)
    (hcut := ⟨fun _ _ _ => by rw [Plan.L, if_pos rfl]; exact Finset.mem_singleton_self _, fun _ _ _ => level _ _,
      fun _ _ _ h => absurd h (lt_irrefl 0)⟩)
    (R := fun c => iprop(((c : Thread nD τ).loc main_arg0) ↦{fullShare} m ((c : Thread nD τ).loc main_arg0)))

theorem entry_arrays (c : Dev nD) : iprop((((c : Thread nD τ).loc main_v1) ↦{fullShare} out m) ∗ (((c : Thread nD τ).loc main_v2) ↦{fullShare} V2 m c))
    ⊢ ((dats m 1 c).arrays ((dats m 1 c).arrAt · 0) : sProp 𝕄) := by
  have h := Pipeline.arrays_eq (Pipeline.pin (fun p => (cfgs p).toPCfg (Val := Elt F)) (fun p => (cfgs p).toPCfg_adm)) (dats m) 1 c
    launch1.arr_whole (Dat.share_full (dats m 1 c) fun _ => rfl) ((dats m 1 c).arrAt · 0)
  exact Entails.of_eq (h.trans (bigSep_W1 _)).symm

theorem exit_arrays (c : Dev nD) : ((dats m 1 c).arrays ((dats m 1 c).arrAt · cfg1.N) : sProp 𝕄)
    ⊢ iprop((((c : Thread nD τ).loc main_v1) ↦{fullShare} out m) ∗ (((c : Thread nD τ).loc main_v2) ↦{fullShare} SmallSum.total (out m))) := by
  have h := Pipeline.arrays_eq (Pipeline.pin (fun p => (cfgs p).toPCfg (Val := Elt F)) (fun p => (cfgs p).toPCfg_adm)) (dats m) 1 c
    launch1.arr_whole (Dat.share_full (dats m 1 c) fun _ => rfl) ((dats m 1 c).arrAt · cfg1.N)
  rw [← SmallSum.result (fun _ => out m) (V2 m) c]
  have hk := SmallSum.kept (fun _ => out m) (V2 m) c
  refine (Entails.of_eq (h.trans (bigSep_W1 _))).trans (sep_mono (Entails.of_eq ?_) .rfl)
  exact congrArg (fun f => (((c : Thread nD τ).loc main_v1) ↦{fullShare} f : sProp 𝕄)) hk

/-! ## The launch -/

theorem ownSemFacts : Pipeline.OwnSemFacts cfg0.spec call.plan.osem := by decide

/-- What the certificate's own resources start as. -/
def u₀ : UR sig nD τ × UR sig nD τ :=
  (initOf (Pipeline.cells cfgs cellOf_inj) (Pipeline.launchToks cfgs cellOf_inj), initOf call.plan.cells call.plan.toks)

/-- The sum of the eight blocks, and the device's own array unchanged. -/
def summed (c : Dev nD) : sProp 𝕄 :=
  iprop((((c : Thread nD τ).loc main_v2) ↦{fullShare} SmallSum.total (out m)) ∗ (((c : Thread nD τ).loc main_arg0) ↦{fullShare} m ((c : Thread nD τ).loc main_arg0)))

theorem read_off (c : Dev nD) (s' : Phys nD τ sig (Elt F)) : iprop(summed m c ∗ SI s') ⊢ |={Set.univ}=> iprop(⌜s'.mem.mem ((c : Thread nD τ).loc main_v2) = SmallSum.total (out m)
    ∧ s'.mem.mem ((c : Thread nD τ).loc main_arg0) = m ((c : Thread nD τ).loc main_arg0)⌝ ∗ SI s') := by
  unfold summed
  iintro ⟨⟨Hv, Hx⟩, HSI⟩
  icombine HSI Hv gives %h1
  icombine HSI Hx gives %h2
  imodintro
  isplitr
  · ipureintro; exact ⟨funext fun i => h1 i (Finset.mem_univ _), funext fun i => h2 i (Finset.mem_univ _)⟩
  iexact HSI

theorem tail (c : Dev nD) (Q' : PUnit → sProp 𝕄) :
    iprop((iprop((summed m c ∗ boundary (c : Thread nD τ)) ∗ (∃ W, owes (c : Thread nD τ) (0 : CellTallies nD τ sig Unit) W)) -∗ Q' ⟨⟩)
        ∗ boundary (c : Thread nD τ) ∗ iprop(call.full (out m) c ∗ call.shares m c) ∗ iprop(((c : Thread nD τ).loc main_v2) ↦{fullShare} V2 m c)
        ∗ (gatherDat m c).owesAt () (Fin.last cfg0.N) ∗ levAts Plan.L call.plan.lv
        ∗ Pipeline.restGhost (fun p => (cfgs p).toPCfg (Val := Elt F)) (fun p => (cfgs p).toPCfg_adm) 0 embL c)
      ⊢ wp frame (wpE (defs (F := F)) (Variants.lift Call.𝒱₀) (c : Thread nD τ) none) Set.univ
        (.op (.customCall (Pipeline.entry 1) ()) fun _ => .ret ⟨⟩) Q' := by
  have hg : (Pipeline.restGhost (fun p => (cfgs p).toPCfg (Val := Elt F)) (fun p => (cfgs p).toPCfg_adm) 0 embL c : sProp 𝕄)
      ⊢ iprop(Pipeline.cellsGhost (Pipeline.pin (fun p => (cfgs p).toPCfg (Val := Elt F)) (fun p => (cfgs p).toPCfg_adm)) embL 1 c
        ∗ Pipeline.toksInit (Pipeline.pin (fun p => (cfgs p).toPCfg (Val := Elt F)) (fun p => (cfgs p).toPCfg_adm)) embL 1 c) := by
    have h1 : (Finset.univ.erase (0 : Fin 2)) = {1} := by decide
    unfold Pipeline.restGhost Pipeline.PerCore.restGhost
    rw [h1, bigSep_singleton]
  have hf : (iprop(call.full (out m) c ∗ call.shares m c) : sProp 𝕄) ⊢ iprop((((c : Thread nD τ).loc main_v1) ↦{fullShare} out m) ∗ (((c : Thread nD τ).loc main_arg0) ↦{fullShare} m ((c : Thread nD τ).loc main_arg0))) := by
    rw [show (((c : Thread nD τ).loc main_v1) ↦{fullShare} out m : sProp 𝕄) = call.full (out m) c from
      (call.whole_slots (out m) c).trans (Call.around (fun i => call.slotPts (out m) c i) c)]
    exact sep_mono .rfl (call.whole_shares m c).2
  iintro ⟨Hk, Hb, HY, HZ, HO, Hl, Hg⟩
  ihave HY' := hf $$ HY
  icases HY' with ⟨Hv, Hx⟩
  ihave Hg' := hg $$ Hg
  icases Hg' with ⟨Hg1, Hg2⟩
  iapply ((summing m).wp (fun p => (cfgs p).toPCfg (Val := Elt F)) (fun p => (cfgs p).toPCfg_adm) (dats m) () cellOf_inj embL (defs₀ (F := F)) Call.𝒱₀ Plan.L call.plan.lv
    c none (fun u h => nomatch h) (fun _ => .ret ⟨⟩) Q')
  isplitl [Hk]
  · iintro ⟨Hb, HP⟩
    rw [wp_ret]; imodintro
    ihave HP' := (show (summing m).post c ⊢ iprop(((dats m 1 c).arrays ((dats m 1 c).arrAt · cfg1.N)) ∗ emp
      ∗ (((c : Thread nD τ).loc main_arg0) ↦{fullShare} m ((c : Thread nD τ).loc main_arg0)) ∗ ∃ W, owes (c : Thread nD τ) (0 : CellTallies nD τ sig Unit) W) from .rfl) $$ HP
    icases HP' with ⟨Ha, -, Hx, HO⟩
    ihave Ha' := (exit_arrays m c) $$ Ha
    icases Ha' with ⟨-, Hs⟩
    iapply Hk
    isplitl [Hs Hx Hb]
    · isplitl [Hs Hx]
      · unfold summed; isplitl [Hs] <;> iassumption
      iexact Hb
    iexact HO
  isplitl [Hb]; · iexact Hb
  isplitl [Hv Hx HZ HO]
  · iapply (show iprop(((dats m 1 c).arrays ((dats m 1 c).arrAt · 0)) ∗ emp
      ∗ (((c : Thread nD τ).loc main_arg0) ↦{fullShare} m ((c : Thread nD τ).loc main_arg0)) ∗ ∃ W, owes (c : Thread nD τ) (0 : CellTallies nD τ sig Unit) W) ⊢ (summing m).pre c from .rfl)
    isplitl [Hv HZ]
    · iapply (entry_arrays m c); isplitl [Hv] <;> iassumption
    isplitr; · iempintro
    isplitl [Hx]; · iexact Hx
    unfold Dat.owesAt Pipeline.owesWithin
    icases HO with ⟨%W, -, HO⟩
    iexists W; iexact HO
  isplitl [Hl]; · iexact Hl
  isplitl [Hg1] <;> iassumption

omit [FloatOps F] in
/-- The three arrays as launched, array by array. -/
theorem launched : (bigSep Finset.univ fun c : Dev nD => Pipeline.unscopedRest cfg0.spec c (fun b => m ((c : Thread nD τ).loc b)))
    ⊢ (iprop((bigSep Finset.univ fun c : Dev nD => ((c : Thread nD τ).loc main_arg0) ↦{fullShare} m ((c : Thread nD τ).loc main_arg0))
      ∗ (bigSep Finset.univ fun c : Dev nD => ((c : Thread nD τ).loc main_v1) ↦{fullShare} call.V1 m c)
      ∗ (bigSep Finset.univ fun c : Dev nD => ((c : Thread nD τ).loc main_v2) ↦{fullShare} V2 m c)) : sProp 𝕄) := by
  rw [← bigSep_sep', ← bigSep_sep']
  exact bigSep_mono fun c _ => Entails.of_eq (unscopedRest0_eq c _)

/-- From any memory with every semaphore at zero, every fair execution ends, on every device with the sum of all
    eight blocks, its own array unchanged and every semaphore at zero. -/
theorem run_main (g : Dev nD → PrngReg) : θ_run (defs (F := F)) (onTc (τ := τ) main) ⟨m, fun _ => 0, g⟩
    (fun r => (∀ c : Dev nD, r.2.mem ((c : Thread nD τ).loc main_v2) = SmallSum.total (out m)
      ∧ r.2.mem ((c : Thread nD τ).loc main_arg0) = m ((c : Thread nD τ).loc main_arg0)) ∧ r.2.sem = fun _ => 0) :=
  Cert.Dealt.run (fun p => (cfgs p).toPCfg) (fun p => (cfgs p).toPCfg_adm) (dats m) () cellOf_inj (0 : Fin 2)
    winFacts0.to₀ ownSemFacts embL defs₀ Call.𝒱₀ m g main (fun _ => .op (.customCall (Pipeline.entry 1) ()) fun _ => .ret ⟨⟩)
    (hmain := fun _ => rfl) (hW := inferInstanceAs (IsEmpty (Fin 0))) (hK := rfl)
    (hbody := body_obligation m)
    (O₀ := call.plan.owed call.S₀) (howed₀ := fun _ => rfl)
    (L := Plan.L) (lv := call.plan.lv) (hL := Plan.L_of_ne)
    (hwaits := fun c => Pipeline.cellsWaits_intro cfgs (dats m) () 0 c fun w => w.elim0)
    (G := call.plan.G (call.pay m (out m))) (u₀ := u₀)
    (hu₀ := by
      unfold u₀
      iintro Hu
      ihave H := (ownU_pair _ _) $$ Hu
      icases H with ⟨HP, HX⟩
      imod (call.plan.fund (call.pay m (out m))) $$ HX with HG
      imodintro
      isplitl [HP] <;> iassumption)
    (X := fun c => iprop(call.plan.Pre (τ := τ) (call.pay m (out m)) call.S₀ c ∗ call.start m c ∗ call.shares m c)) (Y := fun c => iprop(call.full (out m) c ∗ call.shares m c))
    (Z := fun c => iprop(((c : Thread nD τ).loc main_v2) ↦{fullShare} V2 m c)) (T := summed m)
    (hdeal := by
      refine (call.plan.setup (call.pay m (out m)) call.S₀ _ _).trans ?_
      iintro H
      imod H with ⟨HP, HU⟩
      imodintro
      ihave HU' := (launched m) $$ HU
      icases HU' with ⟨HX, HV, HZ⟩
      simp only [bigSep_sep']
      isplitl [HP HX HV]
      · isplitl [HP]; · iexact HP
        isplitl [HV]
        · iapply (Entails.of_eq (call.deal_slots m)); iexact HV
        · iapply (show (bigSep Finset.univ fun c : Dev nD => (((c : Thread nD τ).loc main_arg0) ↦{fullShare} m ((c : Thread nD τ).loc main_arg0) : sProp 𝕄))
            ⊢ bigSep Finset.univ fun c => call.shares m c from bigSep_mono fun c _ => (call.whole_shares m c).1)
          iexact HX
      · iexact HZ)
    (hin := fun c => .rfl)
    (hout := fun c => .rfl)
    (htail := tail m)
    (QY := fun c s => s.mem ((c : Thread nD τ).loc main_v2) = SmallSum.total (out m) ∧ s.mem ((c : Thread nD τ).loc main_arg0) = m ((c : Thread nD τ).loc main_arg0))
    (hfin := read_off m)
    (hQ := fun _ h hs => ⟨h, sem_eq_zero_of_scoped (by decide) hs⟩)

end Cert.SmallRun

end
-- ==== Proof.SmallBits.lean ====
module

public import proofs.«01_k».proof.Proof.SmallLaunch
public import proofs.«01_k».proof.Proof.Gen.Small

/-
  The program that is not idealized is the same program: its run is the idealized one's.
-/

@[expose] public section

noncomputable section

namespace Cert.SmallBits

open Cert.Small

open Idealize.ShloMosaic Idealize.ShloMosaic.TcCoe
open Idealize.SL.Sem

variable {F : FTy → Type} [FloatOps F]

theorem bodies : defs₀ (F := F) = Cert.SmallIdeal.defs₀ := by
  unfold defs₀ Cert.SmallIdeal.defs₀
  refine congrArg Defs.onTc (funext fun l => funext fun x => ?_)
  match l, x with
  | ⟨0, _⟩, (t, s) => rfl
  | ⟨1, _⟩, (t, s) => rfl

theorem table : defs (F := F) = Cert.SmallIdeal.defs := congrArg (Pipeline.defs (pcfgs (F := F))) bodies

theorem run_main (m : (ℓ : Loc nD τ sig) → Buf (Elt F) ℓ) (g : Dev nD → PrngReg) :
    θ_run (defs (F := F)) (onTc (τ := τ) main) ⟨m, fun _ => 0, g⟩
      (fun r => (∀ c : Dev nD, r.2.mem ((c : Thread nD τ).loc main_v2) = Cert.SmallSum.total (Cert.SmallRun.out m)
        ∧ r.2.mem ((c : Thread nD τ).loc main_arg0) = m ((c : Thread nD τ).loc main_arg0)) ∧ r.2.sem = fun _ => 0) := by
  rw [table]
  exact Cert.SmallRun.run_main m g

end Cert.SmallBits

end
-- ==== Proof.SmallValue.lean ====
module

public import proofs.«01_k».proof.Proof.SmallLaunch
public import proofs.«01_k».proof.Proof.Gen.SmallRefIdeal
public import Idealize.ShloMosaic.Lib.Layout
public import Idealize.ShloMosaic.Lib.ValueIdxCoords

/-
  The sum that every device ends with is the sum of the eight blocks of rows of the stacked array.
-/

@[expose] public section

noncomputable section

namespace Cert.SmallValue

open Idealize.ShloMosaic Idealize.ShloMosaic.TcCoe
open Idealize.ShloMosaic.ValueIdx
open Cert.SmallRefIdeal Cert.SmallRefIdeal.Gen

variable {F : FTy → Type} [FloatOps F]

/-- Block `k` of the rows of the stacked array. -/
abbrev held (x : S2752x1024.Idx → Elt F .f32) (k : Fin 8) (hk : S8x344x1024.Slices ![k.val, 0, 0] S1x344x1024) : S344x1024.Idx → Elt F .f32 :=
  shapeCast S344x1024 (extractStridedSlice S1x344x1024 ![k.val, 0, 0] (shapeCast S8x344x1024 x shapeCasts_S2752x1024_S8x344x1024) hk)
    shapeCasts_S1x344x1024_S344x1024

/-- The reference's result. -/
abbrev added (x : S2752x1024.Idx → Elt F .f32) : S344x1024.Idx → Elt F .f32 :=
  addf (addf (addf (addf (addf (addf (addf (held x 0 slices_S8x344x1024_S1x344x1024_0_0_0) (held x 1 slices_S8x344x1024_S1x344x1024_1_0_0)) (held x 2 slices_S8x344x1024_S1x344x1024_2_0_0)) (held x 3 slices_S8x344x1024_S1x344x1024_3_0_0)) (held x 4 slices_S8x344x1024_S1x344x1024_4_0_0)) (held x 5 slices_S8x344x1024_S1x344x1024_5_0_0)) (held x 6 slices_S8x344x1024_S1x344x1024_6_0_0)) (held x 7 slices_S8x344x1024_S1x344x1024_7_0_0)

/-- Block `k` element by element. -/
theorem held_apply (x : S2752x1024.Idx → Elt F .f32) (k : Fin 8) (hk) (i : S344x1024.Idx) :
    held x k hk i = shapeCast S8x344x1024 x shapeCasts_S2752x1024_S8x344x1024 (ix3 (n0 := 8) (n1 := 344) (n2 := 1024) k (i 0) (i 1)) := by
  unfold held
  rw [shapeCast_apply _ shapeCasts_S1x344x1024_S344x1024 i (ix3 (n0 := 1) (n1 := 344) (n2 := 1024) 0 (i 0) (i 1))
    (by rw [Shape.rowMajor_val_three, Shape.rowMajor_val_two]; show (0 * 344 + (i 0).val) * 1024 + (i 1).val = (i 0).val * 1024 + (i 1).val; omega)]
  exact extractStridedSlice_apply _ _ hk _ _ fun a => match a with
    | ⟨0, _⟩ => by show k.val = k.val + 0; omega
    | ⟨1, _⟩ => by show (i 0).val = 0 + (i 0).val; omega
    | ⟨2, _⟩ => by show (i 1).val = 0 + (i 1).val; omega

/-- If device `c` holds block `c` of the rows of the stacked array, every device's sum is the reference's result. -/
theorem whole (m : (ℓ : Loc Cert.SmallIdeal.nD Cert.SmallIdeal.τ Cert.SmallIdeal.sig) → Buf (Elt F) ℓ) (x : S2752x1024.Idx → Elt F .f32)
    (h : ∀ c : Dev Cert.SmallIdeal.nD, m ((c.tc : Thread Cert.SmallIdeal.nD Cert.SmallIdeal.τ).loc Cert.SmallIdeal.main_arg0)
      = Layout.block ⟨2, ![344, 1024]⟩ ⟨2, ![2752, 1024]⟩ 0 8 c x) :
    Cert.SmallSum.total (Cert.SmallRun.out m) = added x := by
  funext i
  have r (k : Fin 8) (hk) : Cert.SmallRun.out m (ix3 (n0 := 8) (n1 := 344) (n2 := 1024) k (i 0) (i 1)) = held x k hk i := by
    refine Eq.trans ?_ (held_apply x k hk i).symm
    refine (congrFun (h k) (ix2 (n0 := 344) (n1 := 1024) (i 0) (i 1))).trans ((Layout.block_apply _ _ _ _).trans
      (shapeCast_apply x shapeCasts_S2752x1024_S8x344x1024 _ _ ?_).symm)
    rw [Shape.rowMajor_val_two, Shape.rowMajor_val_three]
    obtain ⟨h1, h2⟩ := Layout.idx_rows_val (dS := ![344, 1024]) (dT := ![2752, 1024]) (k := 8) (by decide) k (ix2 (n0 := 344) (n1 := 1024) (i 0) (i 1))
    exact congrArg₂ (fun a b : ℕ => a * 1024 + b) h1 h2
  exact congrArg₂ _ (congrArg₂ _ (congrArg₂ _ (congrArg₂ _ (congrArg₂ _ (congrArg₂ _ (congrArg₂ _ (r 0 _) (r 1 _)) (r 2 _)) (r 3 _)) (r 4 _)) (r 5 _)) (r 6 _)) (r 7 _)

end Cert.SmallValue

end
-- ==== Proof.UpdateValue.lean ====
module

public import proofs.«01_k».proof.Defs
public import proofs.«01_k».proof.Proof.Gen.UpdateIdeal.Value
public import proofs.«01_k».proof.Proof.Gen.UpdateRefIdeal.Run

@[expose] public section

/-! The AdamW update: what the kernel writes block by block is the formula of the reference at every index. -/

noncomputable section

namespace Cert.UpdateValue

open Idealize.ShloMosaic Idealize.ShloMosaic.TcCoe Idealize.SL.Sem

attribute [local instance] Cert.UpdateIdeal.Gen.facts Cert.UpdateRefIdeal.Gen.facts

/-- The programs' three results as functions of the four arrays, index by index. -/
abbrev delta {F : FTy → Type} [FloatOps F] (g w m v : Cert.UpdateIdeal.S20992x1024.Idx → Elt F .f32) := Cert.UpdateIdeal.Value.G4 g m v w
abbrev newM {F : FTy → Type} [FloatOps F] (g m : Cert.UpdateIdeal.S20992x1024.Idx → Elt F .f32) := Cert.UpdateIdeal.Value.G5 g m
abbrev newV {F : FTy → Type} [FloatOps F] (g v : Cert.UpdateIdeal.S20992x1024.Idx → Elt F .f32) := Cert.UpdateIdeal.Value.G6 g v

/-- Over the extended reals the two programs end with the same three arrays. -/
theorem algebraic : Cert.algebraic_UpdateIdeal_UpdateRefIdeal := by
  intro m g m' g' _ hin
  refine ⟨fun c => delta (m (c.tc.loc Cert.UpdateIdeal.main_arg0)) (m (c.tc.loc Cert.UpdateIdeal.main_arg1)) (m (c.tc.loc Cert.UpdateIdeal.main_arg2)) (m (c.tc.loc Cert.UpdateIdeal.main_arg3)),
    fun c => newM (m (c.tc.loc Cert.UpdateIdeal.main_arg0)) (m (c.tc.loc Cert.UpdateIdeal.main_arg2)),
    fun c => newV (m (c.tc.loc Cert.UpdateIdeal.main_arg0)) (m (c.tc.loc Cert.UpdateIdeal.main_arg3)),
    Cert.UpdateIdeal.Value.run m g,
    (θ_run Cert.UpdateRefIdeal.defs _ _).mono (fun r h c => ?_) (Cert.UpdateRefIdeal.Value.run (F := Ideal) m' g')⟩
  obtain ⟨h0, h1, h2, h3⟩ := hin c
  obtain ⟨a, b, d, e⟩ := h c
  refine ⟨a.trans ?_, b.trans ?_, d.trans ?_, e⟩
  all_goals rw [h0]
  · rw [h1, h2, h3]; rfl
  · rw [h2]; rfl
  · rw [h3]; rfl

end Cert.UpdateValue
end
-- ==== Proof.LossBody.lean ====
module

public import proofs.«01_k».proof.Proof.Gen.LossIdeal.Launch
public import proofs.«01_k».proof.Proof.Gen.LossIdeal.Skeleton
public import proofs.«01_k».proof.Proof.Gen.LossIdeal.Points
public import Idealize.ShloMosaic.Lib.Pipeline.FrameBody
public import Idealize.ShloMosaic.Lib.Pipeline.Value
public import Idealize.ShloMosaic.Lib.ValueLayout
public import Idealize.ShloMosaic.Lib.Tactic
public import Idealize.ShloMosaic.Lib.WordCmp

/-
  The loss, on one device: the body at a grid point, the region's data and the two arrays it leaves.
-/

@[expose] public section

set_option maxRecDepth 16384

noncomputable section

namespace Cert.LossBody

open Cert.LossIdeal Cert.LossIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose BodyObligation)

set_option Elab.async false

variable {F : FTy → Type} [FloatOps F]

local notation "𝕄" => MT nD τ sig ℕ (Elt F) ℕ (UR sig nD τ × Sites.UC) ℕ

/-! ## The body -/

/-- A whole staged tile, and the whole staged sum. -/
abbrev tile : Rect S256x2048 := Rect.unit (s := S256x2048) ![0, 0] S256x2048.size inb_S256x2048_S256x2048_0_0
abbrev cell : Rect S8x128 := Rect.unit (s := S8x128) ![0, 0] S8x128.size inb_S8x128_S8x128_0_0

/-- The first grid point. -/
abbrev atFirst (i : grid0.Coords) : Prop :=
  Scalar.cmpi .ne (Scalar.extui (Scalar.cmpi .eq (BitVec.ofNat 32 (i 0).val) 0#32) : BitVec 32) 0#32 = 1#1

/-- The gradient tile, from the two staged tiles. -/
def gradient (i : grid0.Coords) (x t : Vec F S256x2048 .f32) : Vec F S256x2048 .f32 :=
  View.canon [⟨tile, k0_pay2 i (View.ld x tile) (View.ld t tile)⟩]

/-- The sum after the body: from zero at the first point, from what it was at the others. -/
def summed (i : grid0.Coords) (x t : Vec F S256x2048 .f32) (l : Vec F S8x128 .f32) : Vec F S8x128 .f32 :=
  View.canon [⟨cell, k0_pay4 i (View.ld x tile) (View.ld t tile) (View.ld l cell)⟩]

theorem zeros : (![0, 0] : Fin 2 → ℕ) = fun _ => 0 := funext fun a => by fin_cases a <;> rfl

theorem tile_all (p : Vec F S256x2048 .f32) (y : S256x2048.Idx) :
    ∃ pc ∈ ([⟨tile, p⟩] : List (View.Piece (Elt F) S256x2048 .f32)), y ∈ pc.1.set :=
  View.cover_of_tiled [⟨tile, p⟩] S256x2048.size (by rfl) y

theorem cell_all (p : Vec F S8x128 .f32) (y : S8x128.Idx) :
    ∃ pc ∈ ([⟨cell, p⟩] : List (View.Piece (Elt F) S8x128 .f32)), y ∈ pc.1.set :=
  View.cover_of_tiled [⟨cell, p⟩] S8x128.size (by rfl) y

set_option maxHeartbeats 1000000 in
/-- The body at a later point, on whole staging buffers. -/
theorem body_next (c : Dev nD) (E : Set ℕ) (i : grid0.Coords) (hi : ¬ atFirst i) (a : Memref sig .tc .vmem S256x2048 .f32) (ha : a.IsWhole)
    (b : Memref sig .tc .vmem S256x2048 .f32) (hb : b.IsWhole) (d : Memref sig .tc .vmem S256x2048 .f32) (hd : d.IsWhole)
    (e : Memref sig .tc .vmem S8x128 .f32) (he : e.IsWhole) (x t : Vec F S256x2048 .f32) (l : Vec F S8x128 .f32) (K : PUnit → sProp 𝕄) :
    iprop(owns (c : Thread nD τ) a fullShare x ∗ owns (c : Thread nD τ) b fullShare t ∗ (∃ y, owns (c : Thread nD τ) d fullShare y)
        ∗ owns (c : Thread nD τ) e fullShare l
        ∗ (iprop(owns (c : Thread nD τ) a fullShare x ∗ owns (c : Thread nD τ) b fullShare t ∗ owns (c : Thread nD τ) d fullShare (gradient i x t)
          ∗ owns (c : Thread nD τ) e fullShare (summed i x t l)) -∗ K ⟨⟩))
      ⊢ wp frame (wpE (defs₀ (F := F)) Variants.none c none) E (cc0_loss i a ha b hb d hd e he) K := by
  simp only [cc0_loss_eq_skeleton]; unfold cc0_loss_skel
  unfold owns
  iintro ⟨⟨%f, %hf, H0⟩, ⟨%g, %hg, H1⟩, ⟨%y, %p, -, H2⟩, ⟨%q, %hq, H3⟩, Hk⟩
  subst hf; subst hg; subst hq
  sl_exec
  sl_step
  iapply Hk
  isplitl [H0]
  · iexists f; isplitr; · ipureintro; rfl
    iexact H0
  isplitl [H1]
  · iexists g; isplitr; · ipureintro; rfl
    iexact H1
  isplitl [H2]
  · iexists _; isplitr
    swap; · iexact H2
    ipureintro
    exact View.read_writes_eq_canon _ _ _ (tile_all _)
  iexists _; isplitr
  swap; · iexact H3
  ipureintro
  exact View.read_writes_eq_canon _ _ _ (cell_all _)

set_option maxHeartbeats 1000000 in
/-- The body at the first point, on whole staging buffers. -/
theorem body_first (c : Dev nD) (E : Set ℕ) (i : grid0.Coords) (hi : atFirst i) (a : Memref sig .tc .vmem S256x2048 .f32) (ha : a.IsWhole)
    (b : Memref sig .tc .vmem S256x2048 .f32) (hb : b.IsWhole) (d : Memref sig .tc .vmem S256x2048 .f32) (hd : d.IsWhole)
    (e : Memref sig .tc .vmem S8x128 .f32) (he : e.IsWhole) (x t : Vec F S256x2048 .f32) (K : PUnit → sProp 𝕄) :
    iprop(owns (c : Thread nD τ) a fullShare x ∗ owns (c : Thread nD τ) b fullShare t ∗ (∃ y, owns (c : Thread nD τ) d fullShare y)
        ∗ (∃ l, owns (c : Thread nD τ) e fullShare l)
        ∗ (iprop(owns (c : Thread nD τ) a fullShare x ∗ owns (c : Thread nD τ) b fullShare t ∗ owns (c : Thread nD τ) d fullShare (gradient i x t)
          ∗ owns (c : Thread nD τ) e fullShare (summed i x t (k0_pay3 (F := F)))) -∗ K ⟨⟩))
      ⊢ wp frame (wpE (defs₀ (F := F)) Variants.none c none) E (cc0_loss i a ha b hb d hd e he) K := by
  simp only [cc0_loss_eq_skeleton]; unfold cc0_loss_skel
  unfold owns
  iintro ⟨⟨%f, %hf, H0⟩, ⟨%g, %hg, H1⟩, ⟨%y, %p, -, H2⟩, ⟨%l, %q, -, H3⟩, Hk⟩
  subst hf; subst hg
  sl_exec
  sl_step
  iapply Hk
  isplitl [H0]
  · iexists f; isplitr; · ipureintro; rfl
    iexact H0
  isplitl [H1]
  · iexists g; isplitr; · ipureintro; rfl
    iexact H1
  isplitl [H2]
  · iexists _; isplitr
    swap; · iexact H2
    ipureintro
    exact View.read_writes_eq_canon _ _ _ (tile_all _)
  iexists _; isplitr
  swap; · iexact H3
  ipureintro
  unfold body_first.sl.v23 body_first.sl.H3_1
  refine (View.read_writes_eq_canon _ _ _ (View.cover_of_tiled _ S8x128.size (by rfl))).trans ?_
  unfold summed
  rw [View.readCov_unit_zero _ zeros, View.ld_unit_zero (S := S8x128) zeros inb_S8x128_S8x128_0_0, View.canon_cons_unit_zero zeros,
    View.canon_cons_unit_zero zeros]
  rfl

/-! ## The region's data -/

variable (X : (c : Dev nD) → main_arg0.ty.Contents (Elt F)) (T : (c : Dev nD) → main_arg1.ty.Contents (Elt F))
variable (G : (c : Dev nD) → main_v1_0.ty.Contents (Elt F)) (S : (c : Dev nD) → main_v1_1.ty.Contents (Elt F))

/-- The rows of the output and of the target at a grid point. -/
def xs (c : Dev nD) (t : Fin cfg0.N) : ((cfg0.win 0).xblock (cfg0.grid.coords t)).Idx → Elt F (cfg0.win 0).elt :=
  ((cfg0.win 0).blk t).view.read (Elt F) (X c)
def ts (c : Dev nD) (t : Fin cfg0.N) : ((cfg0.win 1).xblock (cfg0.grid.coords t)).Idx → Elt F (cfg0.win 1).elt :=
  ((cfg0.win 1).blk t).view.read (Elt F) (T c)

/-- The sum after a grid point. -/
def acc (c : Dev nD) : (n : ℕ) → n < cfg0.N → Vec F S8x128 .f32
  | 0, h => summed (grid0.coords ⟨0, h⟩) (xs X c ⟨0, h⟩) (ts T c ⟨0, h⟩) (k0_pay3 (F := F))
  | n + 1, h => summed (grid0.coords ⟨n + 1, h⟩) (xs X c ⟨n + 1, h⟩) (ts T c ⟨n + 1, h⟩) (acc c n (Nat.lt_of_succ_lt h))

/-- The four arrays at what they hold on entry; after the body the inputs as staged, the gradient and the sum; what the
all-reduce behind the region makes a device owe is owed throughout. -/
def dat (c : Dev nD) : Dat τ (Elt F) ℕ ℕ (UR sig nD τ × Sites.UC) ℕ cfg0 c where
  A w := match w with
    | ⟨0, _⟩ => X c
    | ⟨1, _⟩ => T c
    | ⟨2, _⟩ => G c
    | ⟨3, _⟩ => S c
  after w t := match w with
    | ⟨0, _⟩ => xs X c t
    | ⟨1, _⟩ => ts T c t
    | ⟨2, _⟩ => gradient (grid0.coords t) (xs X c t) (ts T c t)
    | ⟨3, _⟩ => acc X T c t.val t.isLt
  Φ _ := iprop(emp)
  q _ := fullShare
  owed _ := Sites.O0 (F := F) c

theorem A0 (c : Dev nD) : (dat X T G S c).A 0 = X c := by dsimp only [dat]
theorem A1 (c : Dev nD) : (dat X T G S c).A 1 = T c := by dsimp only [dat]
theorem after0 (c : Dev nD) (t : Fin cfg0.N) : (dat X T G S c).after 0 t = xs X c t := by dsimp only [dat]
theorem after1 (c : Dev nD) (t : Fin cfg0.N) : (dat X T G S c).after 1 t = ts T c t := by dsimp only [dat]
theorem after2 (c : Dev nD) (t : Fin cfg0.N) : (dat X T G S c).after 2 t = gradient (grid0.coords t) (xs X c t) (ts T c t) := by dsimp only [dat]
theorem after3 (c : Dev nD) (t : Fin cfg0.N) : (dat X T G S c).after 3 t = acc X T c t.val t.isLt := by dsimp only [dat]

theorem before0 (c : Dev nD) (t : Fin cfg0.N) (d) : (dat X T G S c).before 0 t d = xs X c t :=
  ((dat X T G S c).before_in_eq_fetched 0 rfl (fun _ => rfl) (fun _ _ _ => rfl)
      (fun t => by rw [after0]; unfold Dat.blockOf xs; rw [A0]; try rfl) t d).trans
    (by unfold Dat.fetched Dat.blockOf xs; rw [A0]; try rfl)
theorem before1 (c : Dev nD) (t : Fin cfg0.N) (d) : (dat X T G S c).before 1 t d = ts T c t :=
  ((dat X T G S c).before_in_eq_fetched 1 rfl (fun _ => rfl) (fun _ _ _ => rfl)
      (fun t => by rw [after1]; unfold Dat.blockOf ts; rw [A1]; try rfl) t d).trans
    (by unfold Dat.fetched Dat.blockOf ts; rw [A1]; try rfl)

/-- At a later point the sum is found as the point before left it. -/
theorem before3 (c : Dev nD) (n : ℕ) (h : n + 1 < cfg0.N) (d) :
    (dat X T G S c).before 3 ⟨n + 1, h⟩ d = acc X T c n (Nat.lt_of_succ_lt h) := by
  refine ((dat X T G S c).before_out_kept 3 rfl ⟨n + 1, h⟩ (Nat.succ_ne_zero n) ?_ (fun _ => rfl) (fun _ _ => rfl) d).trans ?_
  · refine Bool.eq_false_iff.mpr fun hf => ?_
    have h' : (n + 1 - 1) % 33 = 32 := (flush0_3 _).mp hf
    have h33 : n + 1 < 33 := h
    omega
  · rw [after3]; rfl

theorem first : ∀ h : 0 < grid0.N, atFirst (grid0.coords ⟨0, h⟩) := by decide +kernel
theorem later : ∀ t : Fin grid0.N, t.val ≠ 0 → ¬ atFirst (grid0.coords t) := by decide +kernel

theorem row (t : Fin cfg0.N) : defs₀ (F := F) .tc cfg0.body (cfg0.bodyArgs t (cfg0.slots t)) = bodyAt0 t := by
  unfold defs₀; rw [Defs.onTc_tc]

/-- What the body is entered with at a grid point, and what it leaves. -/
def entered (c : Dev nD) (t : Fin cfg0.N) : sProp 𝕄 :=
  iprop((dat X T G S c).Φ t.castSucc ∗ (dat X T G S c).owesAt 0 t.castSucc
    ∗ (∃ d, owns (c : Thread nD τ) (st0_0 t) fullShare ((dat X T G S c).before 0 t d))
    ∗ (∃ d, owns (c : Thread nD τ) (st0_1 t) fullShare ((dat X T G S c).before 1 t d))
    ∗ (∃ d, owns (c : Thread nD τ) (st0_2 t) fullShare ((dat X T G S c).before 2 t d))
    ∗ (∃ d, owns (c : Thread nD τ) (st0_3 t) fullShare ((dat X T G S c).before 3 t d)))
def left (c : Dev nD) (t : Fin cfg0.N) : sProp 𝕄 :=
  iprop((dat X T G S c).Φ t.succ ∗ (dat X T G S c).owesAt 0 t.succ
    ∗ owns (c : Thread nD τ) (st0_0 t) fullShare ((dat X T G S c).after 0 t)
    ∗ owns (c : Thread nD τ) (st0_1 t) fullShare ((dat X T G S c).after 1 t)
    ∗ owns (c : Thread nD τ) (st0_2 t) fullShare ((dat X T G S c).after 2 t)
    ∗ owns (c : Thread nD τ) (st0_3 t) fullShare ((dat X T G S c).after 3 t))

theorem body_at (c : Dev nD) (t : Fin cfg0.N) :
    entered X T G S c t ⊢ wp frame (wpE (defs₀ (F := F)) Variants.none c none) Set.univ (bodyAt0 t) (fun _ => left X T G S c t) := by
  unfold entered left bodyAt0
  simp only [before0, before1]
  rw [show (dat X T G S c).Φ t.succ = (dat X T G S c).Φ t.castSucc from rfl,
    show (dat X T G S c).owesAt 0 t.succ = (dat X T G S c).owesAt 0 t.castSucc from rfl, after0, after1, after2, after3]
  obtain ⟨n, hn⟩ := t
  match n, hn with
  | 0, hn =>
    iintro ⟨HΦ, Ho, ⟨%d0, H0⟩, ⟨%d1, H1⟩, ⟨%d2, H2⟩, ⟨%d3, H3⟩⟩
    iapply (body_first c Set.univ (grid0.coords ⟨0, hn⟩) (first hn) _ _ _ _ _ _ _ _ (xs X c ⟨0, hn⟩) (ts T c ⟨0, hn⟩) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  | n + 1, hn =>
    simp only [before3]
    iintro ⟨HΦ, Ho, ⟨%d0, H0⟩, ⟨%d1, H1⟩, ⟨%d2, H2⟩, ⟨%d3, H3⟩⟩
    iapply (body_next c Set.univ (grid0.coords ⟨n + 1, hn⟩) (later ⟨n + 1, hn⟩ (Nat.succ_ne_zero n)) _ _ _ _ _ _ _ _
      (xs X c ⟨n + 1, hn⟩) (ts T c ⟨n + 1, hn⟩) (acc X T c n (Nat.lt_of_succ_lt hn)) _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem body_obligation (c : Dev nD) : BodyObligation (dat (F := F) X T G S c) (defs₀ (F := F)) Variants.none 0 Set.univ := fun t => by
  rw [bigSep_W0, bigSep_W0, row]
  exact triple_restated (body_at X T G S c t) rfl .rfl fun _ => .rfl

/-! ## What the region leaves -/

/-- A device's error: zero on the rows without a target, the difference on the others. -/
def err (x : S8448x2048.Idx → Elt F .f32) (t : S8192x2048.Idx → Elt F .f32) : S8448x2048.Idx → Elt F .f32 := fun i =>
  if 256 ≤ (i 0).val then
    FloatOps.subf (x i) (t (ix2 (n0 := 8192) (n1 := 2048) ⟨(i 0).val - 256, by have : (i 0).val < 8448 := (i 0).isLt; omega⟩ (i 1)))
  else Scalar.ofBits .f32 0x00000000#32

/-- A device's gradient: the error over the width. -/
def dx (x : S8448x2048.Idx → Elt F .f32) (t : S8192x2048.Idx → Elt F .f32) : S8448x2048.Idx → Elt F .f32 := fun i =>
  FloatOps.divf (err x t i) (Scalar.ofBits .f32 0x45000000#32)

theorem moves : ∀ t : Fin cfg0.N, win0_0.index t (0 : Fin 2) = t.val ∧ win0_0.index t (1 : Fin 2) = 0
    ∧ win0_1.index t (0 : Fin 2) = t.val - 1 ∧ win0_1.index t (1 : Fin 2) = 0
    ∧ win0_2.index t (0 : Fin 2) = t.val ∧ win0_2.index t (1 : Fin 2) = 0 :=
  (by decide +kernel : ∀ t : Fin grid0.N, _)

/-- The points with a target are the later ones. -/
theorem targeted : ∀ t : Fin cfg0.N, Scalar.cmpi .sge (BitVec.ofNat 32 (grid0.coords t 0).val) 1#32 = if t.val = 0 then 0#1 else 1#1 :=
  (by decide +kernel : ∀ t : Fin grid0.N, _)

/-- A staged element's place in the array. -/
def place (t : Fin cfg0.N) (j : S256x2048.Idx) : S8448x2048.Idx :=
  ix2 (n0 := 8448) (n1 := 2048) ⟨t.val * 256 + (j 0).val, by have : (j 0).val < 256 := (j 0).isLt; have : t.val < 33 := t.isLt; omega⟩ (j 1)

theorem xs_at (c : Dev nD) (t : Fin cfg0.N) (j : S256x2048.Idx) :
    (show S256x2048.Idx → Elt F .f32 from xs X c t) j = (show S8448x2048.Idx → Elt F .f32 from X c) (place t j) := by
  obtain ⟨e0, e1, -⟩ := moves t
  refine congrArg (X c) (funext fun a => Fin.ext ?_)
  match a with
  | ⟨0, _⟩ => show win0_0.index t (0 : Fin 2) * 256 + 1 * (j 0).val = t.val * 256 + (j 0).val; omega
  | ⟨1, _⟩ => show win0_0.index t (1 : Fin 2) * 2048 + 1 * (j 1).val = (j 1).val; omega

theorem ts_at (c : Dev nD) (t : Fin cfg0.N) (ht : t.val ≠ 0) (j : S256x2048.Idx) (h) :
    (show S256x2048.Idx → Elt F .f32 from ts T c t) j
      = (show S8192x2048.Idx → Elt F .f32 from T c) (ix2 (n0 := 8192) (n1 := 2048) ⟨(place t j 0).val - 256, h⟩ (place t j 1)) := by
  obtain ⟨-, -, e0, e1, -⟩ := moves t
  refine congrArg (T c) (funext fun a => Fin.ext ?_)
  match a with
  | ⟨0, _⟩ => show win0_1.index t (0 : Fin 2) * 256 + 1 * (j 0).val = t.val * 256 + (j 0).val - 256; omega
  | ⟨1, _⟩ => show win0_1.index t (1 : Fin 2) * 2048 + 1 * (j 1).val = (j 1).val; omega

/-- The body's error at a grid point is the device's on its rows. -/
theorem err_at (c : Dev nD) (t : Fin cfg0.N) (j : S256x2048.Idx) :
    k0_pay1 (grid0.coords t) (View.ld (xs X c t) tile) (View.ld (ts T c t) tile) j = err (X c) (T c) (place t j) := by
  rw [View.ld_unit_zero (S := S256x2048) zeros inb_S256x2048_S256x2048_0_0, View.ld_unit_zero (S := S256x2048) zeros inb_S256x2048_S256x2048_0_0]
  show (Scalar.select (Scalar.cmpi .sge (BitVec.ofNat 32 (grid0.coords t 0).val) 1#32)
    (subf (shapeCast S256x2048 (xs X c t) shapeCasts_S256x2048_S256x2048) (shapeCast S256x2048 (ts T c t) shapeCasts_S256x2048_S256x2048))
    (broadcast S256x2048 (Scalar.ofBits .f32 0x00000000#32)) : FVec F S256x2048 .f32) j = _
  have hj : (j 0).val < 256 := (j 0).isLt
  have hp : (place t j 0).val = t.val * 256 + (j 0).val := rfl
  have e (v : Vec F S256x2048 .f32) : shapeCast S256x2048 v shapeCasts_S256x2048_S256x2048 = v := shapeCast_self v _
  rw [targeted, e (xs X c t), e (ts T c t)]
  unfold err
  by_cases ht : t.val = 0
  · rw [if_pos ht, if_neg (by rw [hp]; omega)]; rfl
  · rw [if_neg ht, if_pos (by rw [hp]; omega)]
    exact congrArg₂ FloatOps.subf (xs_at X c t j) (ts_at T c t ht j _)

/-- A grid point writes its rows of the gradient. -/
theorem flushed (c : Dev nD) (t : Fin cfg0.N) :
    (dat X T G S c).flushed 2 t = ((cfg0.win 2).blk t).view.read (Elt F) (dx (X c) (T c)) := by
  show (cfg0.win 2).cut (grid0.coords t) ((dat X T G S c).after 2 t) = _
  rw [after2]
  unfold gradient
  rw [View.canon_unit_zero zeros]
  obtain ⟨-, -, -, -, e0, e1⟩ := moves t
  funext j
  have hp : ((cfg0.win 2).blk t).view.emb j = place t j := funext fun a => Fin.ext (by
    match a with
    | ⟨0, _⟩ => show win0_2.index t (0 : Fin 2) * 256 + 1 * (j 0).val = t.val * 256 + (j 0).val; omega
    | ⟨1, _⟩ => show win0_2.index t (1 : Fin 2) * 2048 + 1 * (j 1).val = (j 1).val; omega)
  show FloatOps.divf (k0_pay1 (grid0.coords t) (View.ld (xs X c t) tile) (View.ld (ts T c t) tile) j) _ = dx (X c) (T c) (((cfg0.win 2).blk t).view.emb j)
  rw [hp, err_at]; rfl

theorem mem_blk (t : Fin cfg0.N) (i : S8448x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v1_0).slice (win0_2.rect t)).set ↔ _
  rw [View.set_slice_whole, Rect.mem_set_unit]
  exact Iff.rfl

theorem covered (i : S8448x2048.Idx) : ∃ t : Fin cfg0.N, (cfg0.win 2).flush t = true ∧ i ∈ ((cfg0.win 2).blk t).view.set := by
  have hi0 : (i 0).val < 8448 := (i 0).isLt
  have hi1 : (i 1).val < 2048 := (i 1).isLt
  refine ⟨⟨(i 0).val / 256, by show _ < 33; omega⟩, flush0_2 _, ?_⟩
  obtain ⟨-, -, -, -, e0, e1⟩ := moves ⟨(i 0).val / 256, by show _ < 33; omega⟩
  rw [mem_blk]
  intro a
  match a with
  | ⟨0, _⟩ =>
    show win0_2.index _ (0 : Fin 2) * 256 ≤ (i 0).val ∧ (i 0).val < win0_2.index _ (0 : Fin 2) * 256 + 256
    rw [e0]; dsimp only; omega
  | ⟨1, _⟩ =>
    show win0_2.index _ (1 : Fin 2) * 2048 ≤ (i 1).val ∧ (i 1).val < win0_2.index _ (1 : Fin 2) * 2048 + 2048
    rw [e1]; omega

/-- The gradient after the region. -/
theorem grads (c : Dev nD) : (dat X T G S c).arrAt 2 cfg0.N = dx (X c) (T c) :=
  (dat X T G S c).arrAt_eq_of_cover 2 _ (fun t _ => flushed X T G S c t) covered

/-- The sum of the whole grid. -/
def total (c : Dev nD) : Vec F S8x128 .f32 := acc X T c 32 (by decide)

/-- The last grid point. -/
abbrev final : Fin cfg0.N := ⟨32, by decide⟩

theorem mem_sum (i : S8x128.Idx) : i ∈ ((cfg0.win 3).blk final).view.set := by
  show i ∈ ((View.whole main_v1_1).slice (win0_3.rect final)).set
  rw [View.set_slice_whole, Rect.mem_set_unit]
  intro a
  match a with
  | ⟨0, _⟩ => show 0 * 8 ≤ (i 0).val ∧ (i 0).val < 0 * 8 + 8; have : (i 0).val < 8 := (i 0).isLt; omega
  | ⟨1, _⟩ => show 0 * 128 ≤ (i 1).val ∧ (i 1).val < 0 * 128 + 128; have : (i 1).val < 128 := (i 1).isLt; omega

/-- The sum after the region. -/
theorem sums (c : Dev nD) : (dat X T G S c).arrAt 3 cfg0.N = total X T c := by
  refine (dat X T G S c).arrAt_eq_of_cover 3 _ (fun t ht => ?_) fun i => ⟨final, (flush0_3 _).mpr rfl, mem_sum i⟩
  · have h32 : t.val = 32 := by have := (flush0_3 t).mp ht; have : t.val < 33 := t.isLt; omega
    obtain ⟨n, hn⟩ := t
    obtain rfl : n = 32 := h32
    show (cfg0.win 3).cut (grid0.coords ⟨32, hn⟩) ((dat X T G S c).after 3 ⟨32, hn⟩) = _
    rw [after3]
    funext j
    refine congrArg (total X T c) (funext fun a => Fin.ext ?_)
    match a with
    | ⟨0, _⟩ => show (j 0).val = 0 * 8 + 1 * (j 0).val; omega
    | ⟨1, _⟩ => show (j 1).val = 0 * 128 + 1 * (j 1).val; omega

/-- The inputs are left as they were. -/
theorem kept0 (c : Dev nD) : (dat X T G S c).arrAt 0 cfg0.N = X c := ((dat X T G S c).arrAt_in 0 rfl _).trans (A0 X T G S c)
theorem kept1 (c : Dev nD) : (dat X T G S c).arrAt 1 cfg0.N = T c := ((dat X T G S c).arrAt_in 1 rfl _).trans (A1 X T G S c)

end Cert.LossBody

end
-- ==== Proof.LossLaunch.lean ====
module

public import proofs.«01_k».proof.Proof.LossBody
public import proofs.«01_k».proof.Proof.Gen.LossIdeal.Regions
public import Idealize.ShloMosaic.Lib.StableHlo.CollectiveRules
public import Idealize.ShloMosaic.Lib.Pipeline.RegionArrays
public import Idealize.ShloMosaic.Lib.Pipeline.RegionsLoop
public import Idealize.ShloMosaic.Lib.Pipeline.CollectiveSegs

/-
  The loss launched on the eight devices: the region on each device, the read of one element of its sum, and the
  all-reduce of those elements.
-/

@[expose] public section

noncomputable section

namespace Cert.LossRun

open Cert.LossIdeal Cert.LossIdeal.Gen
open Cert.LossIdeal.Gen.Sites (L lv)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

set_option Elab.async false

variable {F : FTy → Type} [FloatOps F]

/-- The ghost state: the region's part and the all-reduce's. -/
abbrev UU : Type := UR sig nD τ × Sites.UC

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (g : Dev nD → PrngReg)

/-! ## What the buffers hold -/

/-- A device's output and target. -/
abbrev xOf (c : Dev nD) : main_arg0.ty.Contents (Elt F) := m ((c : Thread nD τ).loc main_arg0)
abbrev tOf (c : Dev nD) : main_arg1.ty.Contents (Elt F) := m ((c : Thread nD τ).loc main_arg1)

/-- After the region: the gradient and the sum. -/
abbrev Vr (c : Dev nD) : Valuation τ sig (Elt F) :=
  Function.update (Function.update (V0 m c) (Proc.devRef .tc main_v1_0) (LossBody.dx (xOf m c) (tOf m c)))
    (Proc.devRef .tc main_v1_1) (LossBody.total (xOf m) (tOf m) c)

/-- After the read of one element of the sum. -/
abbrev Vh (c : Dev nD) : Valuation τ sig (Elt F) := StableHlo.after hostOps1 (Vr m c)

/-- After the all-reduce. -/
abbrev Ve (c : Dev nD) : Valuation τ sig (Elt F) := (ar0 (F := F)).after₀ (Vh m) c

theorem Vr_other (c : Dev nD) (b : Ref sig .tc) (h : b ∉ ([main_v1_0, main_v1_1] : List (Ref sig .tc))) : Vr m c b = m ((c : Thread nD τ).loc b) :=
  (Function.update_of_ne (StableHlo.devRef_ne_of_ne fun e => h (by rw [e]; decide)) ..).trans
    (Function.update_of_ne (StableHlo.devRef_ne_of_ne fun e => h (by rw [e]; decide)) ..)

theorem Vr_sum (c : Dev nD) : Vr m c main_v1_1 = LossBody.total (xOf m) (tOf m) c := Function.update_self ..
theorem Vr_grad (c : Dev nD) : Vr m c main_v1_0 = LossBody.dx (xOf m c) (tOf m c) :=
  (Function.update_of_ne (by decide) ..).trans (Function.update_self ..)

/-- Neither the read nor the all-reduce writes any of the region's arrays. -/
theorem Ve_of (c : Dev nD) (b : Ref sig .tc) (h : b ∉ hostOps1_W) (h' : (Proc.devRef .tc b : DevRef τ sig) ∉ (ar0 (F := F)).siteRefs) :
    Ve m c b = Vr m c b :=
  ((ar0 (F := F)).after₀_off_siteRefs (Vh m) c h').trans (StableHlo.after_of_writes_sub hostOps1 _ hostOps1_writes h)

/-- The element a device sends. -/
def sent (c : Dev nD) : main_v3.ty.Contents (Elt F) :=
  shapeCast S_ (extractStridedSlice S1x1 ![0, 0] (LossBody.total (xOf m) (tOf m) c) slices_S8x128_S1x1_0_0) shapeCasts_S1x1_S_

theorem Vh_sent (c : Dev nD) : Vh m c main_v3 = sent m c := by
  unfold sent
  rw [← Vr_sum]
  simp only [Vh, hostOps1]; after_results <;> rfl

/-! ## The segments -/

abbrev 𝒱₀ : Variants := Variants.none

abbrev pdats (p : Fin 1) (c : Dev nD) : Dat τ (Elt F) ℕ ℕ UU ℕ (Pipeline.pin (pcfgs (F := F)) adm p) c :=
  LossBody.dat (xOf m) (tOf m) (fun c => m ((c : Thread nD τ).loc main_v1_0)) (fun c => m ((c : Thread nD τ).loc main_v1_1)) c

/-- What passes the region by: the buffers that are none of its arrays, the generator register and the all-reduce's state. -/
def aside (c : Dev nD) : sProp 𝕄 :=
  iprop(Pipeline.unscopedRest (Ix := ℕ) (Name := ℕ) (U := UU) (Lvl := ℕ) spec0 c (fun b => m ((c : Thread nD τ).loc b))
    ∗ (∃ r, prngReg c r) ∗ Sites.rides0 EC (Vh m) c)

/-- That the all-reduce's cells are under their invariants: kept to the end, where the counters are read. -/
abbrev invs : sProp 𝕄 := iprop(∃ κ, (AllReduce.Dat.once (ar0 (F := F)) (Vh m)).cellInvs (Sites.E0 EC) κ)

local notation "ℍ" => HostSeg (Name := ℕ) (U := UU) (pcfgs (F := F)) defs₀ 𝒱₀ L lv

/-- The region, the device owing the all-reduce's dues throughout. -/
def region : RegionSeg (pcfgs (F := F)) adm (pdats m) 0 defs₀ 𝒱₀ L lv 0 :=
  .ofArrays (pcfgs (F := F)) adm (pdats m) 0 defs₀ 𝒱₀ L lv 0
    (D := fun c => Sites.O0 (F := F) c) (X := fun _ => iprop(emp)) (Y := fun _ => iprop(emp)) (kit := launch0.toP.to₀) (hK := rfl)
    (hbody := fun c => (LossBody.body_obligation (xOf m) (tOf m) _ _ c).loose)
    (howed := fun _ _ => rfl) (hrec := fun _ => rfl)
    (hin := fun c => by
      rw [show (pdats m 0 c).Φ 0 = iprop(emp) from rfl]
      iintro -; iempintro)
    (hout := fun c => by
      refine (show (iprop(emp) : sProp 𝕄) ⊢ iprop(Pipeline.scopedRest spec0 c ∗ emp) from ?_)
      iintro -
      isplitl; · iapply (Entails.of_eq (scopedRest0_eq c).symm); iempintro
      iempintro)
    (b := fun _ => 0)
    (hcut := ⟨fun _ _ _ => Sites.mem_L _ _ (by decide), fun _ _ _ => le_refl _, fun _ _ _ hg => ⟨(Sites.O0_pos hg).1, (Sites.O0_pos hg).2⟩⟩)
    (R := aside m)

/-- The read of one element, over all the buffers. -/
def read : ℍ :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (Vr m) (fun c => iprop(Sites.Es EC (Vh m) 0 c ∗ invs m))

/-- The all-reduce. -/
def reduce : ℍ := Sites.seg0 EC 𝒱₀ (Vh m) (Sites.Rest0 (Vh m) fun _ => invs m)

def segs : List (Seg (pcfgs (F := F)) adm (pdats m) 0 defs₀ 𝒱₀ L lv) := [.region (region m), .host (read m), .host (reduce m)]

theorem main_eq (c : Dev nD) : main (F := F) c = Seg.run (segs m) :=
  main_segs adm (pdats m) 0 𝒱₀ L lv (read m) (reduce m) (region m) rfl rfl c

/-! ## From each to the next -/

/-- A device's first state and its last. -/
abbrev first (c : Dev nD) : sProp 𝕄 := iprop(StableHlo.held (c : Thread nD τ) (Pipeline.ucRefs τ sig) (V0 m c) ∗ Sites.Es EC (Vh m) 0 c)
abbrev last (c : Dev nD) : sProp 𝕄 := iprop(StableHlo.held (c : Thread nD τ) (Pipeline.ucRefs τ sig) (Ve m c) ∗ (Sites.Ghost0 EC c ∗ invs m))

theorem enter (c : Dev nD) : first m c ⊢ (region (F := F) m).pre c := by
  have hs := Pipeline.arrays_of_unscopedBufs (pcfgs (F := F)) adm (pdats m) launch0.win launch0.arr_whole c
    ((pdats m 0 c).share_full fun _ => rfl) (fun b => m ((c : Thread nD τ).loc b)) fun w => by
      match w with
      | ⟨0, _⟩ => rfl
      | ⟨1, _⟩ => rfl
      | ⟨2, _⟩ => rfl
      | ⟨3, _⟩ => rfl
  show _ ⊢ iprop((pdats m 0 c).arrays ((pdats m 0 c).arrAt · 0) ∗ emp ∗ aside m c ∗ ∃ W, owes (c : Thread nD τ) (Sites.O0 (F := F) c) W)
  unfold first aside
  rw [← Pipeline.unscopedBufs_held (Ix := ℕ) (Name := ℕ) (U := UU) (Lvl := ℕ) c (V0 m c), Sites.Es_0]
  iintro ⟨Hub, HO, Hp, Hr⟩
  ihave H := hs $$ Hub
  icases H with ⟨Ha, Hu⟩
  isplitl [Ha]; · iexact Ha
  isplitr; · iempintro
  isplitl [Hu Hp Hr]
  · isplitl [Hu]; · iexact Hu
    isplitl [Hp]; · iexact Hp
    iexact Hr
  iexact HO

theorem region_read (c : Dev nD) : (region (F := F) m).post c ⊢ (read m).pre c := by
  have hj := Pipeline.unscopedBufs_of_arrays (pcfgs (F := F)) adm launch0.win launch0.arr_whole c (pdats m)
    ((pdats m 0 c).share_full fun _ => rfl) (fun b => m ((c : Thread nD τ).loc b)) (fun b => Vr m c b)
    ((pdats m 0 c).arrAt · (Pipeline.pin (pcfgs (F := F)) adm 0).N) (fun w => by
      match w with
      | ⟨0, _⟩ => exact (LossBody.kept0 (xOf m) (tOf m) _ _ c).trans (Vr_other m c main_arg0 (by decide)).symm
      | ⟨1, _⟩ => exact (LossBody.kept1 (xOf m) (tOf m) _ _ c).trans (Vr_other m c main_arg1 (by decide)).symm
      | ⟨2, _⟩ => exact (LossBody.grads (xOf m) (tOf m) _ _ c).trans (Vr_grad m c).symm
      | ⟨3, _⟩ => exact (LossBody.sums (xOf m) (tOf m) _ _ c).trans (Vr_sum m c).symm)
    fun b hb => Vr_other m c b fun h => hb (by
      rcases List.mem_cons.mp h with rfl | h
      · exact Finset.mem_image.mpr ⟨2, Finset.mem_univ _, rfl⟩
      · obtain rfl := List.mem_singleton.mp h
        exact Finset.mem_image.mpr ⟨3, Finset.mem_univ _, rfl⟩)
  show iprop((pdats m 0 c).arrays ((pdats m 0 c).arrAt · (Pipeline.pin (pcfgs (F := F)) adm 0).N) ∗ emp ∗ aside m c
      ∗ ∃ W, owes (c : Thread nD τ) (Sites.O0 (F := F) c) W)
    ⊢ iprop(StableHlo.held (c : Thread nD τ) (Pipeline.ucRefs τ sig) (Vr m c) ∗ Sites.Es EC (Vh m) 0 c ∗ invs m)
  unfold aside
  rw [← Pipeline.unscopedBufs_held (Ix := ℕ) (Name := ℕ) (U := UU) (Lvl := ℕ) c (Vr m c), Sites.Es_0]
  iintro ⟨Ha, -, ⟨Hu, Hp, Hr⟩, HO⟩
  ihave #Hi := (show (AllReduce.Dat.once (ar0 (F := F)) (Vh m)).rides (Sites.E0 EC) c 1 2 ⊢ invs m from by unfold AllReduce.Dat.rides; iintro ⟨Hi, -⟩; iexact Hi) $$ Hr
  isplitl [Ha Hu]
  · iapply hj
    isplitl [Ha]; · iexact Ha
    iexact Hu
  isplitl [HO Hp Hr]
  · isplitl [HO]; · iexact HO
    isplitl [Hp]; · iexact Hp
    iexact Hr
  iexact Hi

theorem read_reduce (c : Dev nD) : (read (F := F) m).post c ⊢ (reduce m).pre c := Sites.pre0 EC 𝒱₀ (Vh m) (fun _ => invs m) c

theorem leave (c : Dev nD) : (reduce (F := F) m).post c ⊢ iprop(last m c ∗ ∃ W, owes (c : Thread nD τ) (0 : CellTallies nD τ sig ℕ) W) := by
  refine (Sites.post0 EC 𝒱₀ (Vh m) (fun _ => invs m) c).trans ?_
  iintro ⟨Hh, HE, HG⟩
  isplitl [Hh HG]
  · isplitl [Hh]; · iexact Hh
    iexact HG
  iapply (Sites.hE_last EC (Vh m) c); iexact HE

/-! ## The launch -/

/-- The ghost state at launch. -/
def u₀ : UU :=
  (initOf (Pipeline.cells (Pipeline.pin (pcfgs (F := F)) adm) cellOf_inj) (Pipeline.launchToks (Pipeline.pin (pcfgs (F := F)) adm) cellOf_inj),
    Sites.uC (U := UU) (Vh m))

theorem start :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (g c) ∗ Sites.G EC (Vh m) c)) ∗ levAts L lv)
      ⊢ (|={Set.univ}=> bigSep Finset.univ (first m) : sProp 𝕄) := by
  have hs : (bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (g c) ∗ Sites.G EC (Vh m) c))
      ⊢ (iprop((bigSep Finset.univ fun c : Dev nD => StableHlo.held (c : Thread nD τ) (Pipeline.ucRefs τ sig) (V0 m c))
        ∗ bigSep Finset.univ fun c : Dev nD => iprop(unscopedSems0 c ∗ owes (c : Thread nD τ) (Sites.O0 (F := F) c) ∅
          ∗ Pipeline.launchCred (Sites.O0 (F := F)) c ∗ prngReg c (g c) ∗ Sites.G EC (Vh m) c)) : sProp 𝕄) := by
    rw [← bigSep_sep']
    exact bigSep_mono fun c _ => by
      rw [← Pipeline.unscopedBufs_held (Ix := ℕ) (Name := ℕ) (U := UU) (Lvl := ℕ) c (V0 m c)]
      exact BI.Entails.refl _
  iintro ⟨H, Hl⟩
  ihave H' := hs $$ H
  icases H' with ⟨Hh, Hr⟩
  imod (Sites.hE0 EC (Vh m) g) $$ [Hr Hl] with HE
  · isplitl [Hr]; · iexact Hr
    iexact Hl
  imodintro
  unfold first
  rw [bigSep_sep']
  isplitl [Hh]; · iexact Hh
  iexact HE

/-- The loss: the elements the devices send, added up. -/
def loss (c : Dev nD) : main_v4.ty.Contents (Elt F) := (ar0 (F := F)).toResult ((ar0 (F := F)).foldGroup fun j => sent m ((ar0 (F := F)).peer c j))

theorem Ve_loss (c : Dev nD) : Ve m c main_v4 = loss m c := by
  unfold loss
  simp only [← Vh_sent]
  exact (ar0 (F := F)).after₀_result (Vh m) c

theorem not_site (b : Ref sig .tc) (h : b ∉ (main_v3 :: W3 : List (Ref sig .tc))) : (Proc.devRef .tc b : DevRef τ sig) ∉ (ar0 (F := F)).siteRefs := fun hm => by
  rcases (ar0 (F := F)).mem_siteRefs.mp hm with e | e | ⟨j, e⟩
  · exact h (by rw [Proc.devRef_injective _ e]; exact List.mem_cons_of_mem _ List.mem_cons_self)
  · exact h (by rw [Proc.devRef_injective _ e]; exact List.mem_cons_self)
  · have hj : ∀ j : Fin 8, ar0_stage j ∈ (main_v3 :: W3 : List (Ref sig .tc)) := by decide
    exact h (by rw [Proc.devRef_injective _ e]; exact hj j)

/-- What a device's results and arguments hold at the end. -/
theorem Ve_arg0 (c : Dev nD) : Ve m c main_arg0 = m ((c : Thread nD τ).loc main_arg0) :=
  (Ve_of m c main_arg0 (by decide) (not_site _ (by decide))).trans (Vr_other m c main_arg0 (by decide))
theorem Ve_arg1 (c : Dev nD) : Ve m c main_arg1 = m ((c : Thread nD τ).loc main_arg1) :=
  (Ve_of m c main_arg1 (by decide) (not_site _ (by decide))).trans (Vr_other m c main_arg1 (by decide))
theorem Ve_grad (c : Dev nD) : Ve m c main_v1_0 = LossBody.dx (xOf m c) (tOf m c) :=
  (Ve_of m c main_v1_0 (by decide) (not_site _ (by decide))).trans (Vr_grad m c)

-- the run theorem's implicit arguments are found by unifying its conclusion with this one
set_option backward.isDefEq.respectTransparency.types false in
/-- The run, at any float values: the loss on every device, each device's gradient, the arguments as they were, and every
counter at zero. -/
theorem run_main : θ_run (defs (F := F)) (onTc (τ := τ) main) ⟨m, fun _ => 0, g⟩
    (fun r => (∀ c : Dev nD, r.2.mem ((c : Thread nD τ).loc main_v4) = loss m c
      ∧ r.2.mem ((c : Thread nD τ).loc main_v1_0) = LossBody.dx (xOf m c) (tOf m c)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_regions_kit_sems (pcfgs (F := F)) adm (pdats m) 0 cellOf_inj EP defs₀ 𝒱₀ L lv m g main (segs m)
    (fun c Q => by rw [main_eq m c])
    (by simp only [segs, Seg.pipes_host, Seg.pipes_region, Seg.pipes_nil]; decide)
    (O₀ := Sites.O0 (F := F)) (hL := Sites.hL) (G := Sites.G EC (Vh m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := first m) (Tₙ := last m)
    (hch := ⟨enter m, region_read m, read_reduce m, leave m⟩)
    (hinit := start m g)
    (QY := fun c s => (∀ b ∈ Pipeline.ucRefs τ sig, s.mem (c, b) = Ve m c b)
      ∧ (s.sem ((ar0 (F := F)).barrierCell c) = 0 ∧ s.sem ((ar0 (F := F)).recvCell c) = 0 ∧ s.sem ((ar0 (F := F)).sendCell c) = 0))
    (hfin := fun c s' => by
      iintro ⟨⟨Hh, Hg, Hi⟩, HSI⟩
      unfold StableHlo.held
      ihave Hr := (pointsTo_read_all (Pipeline.ucRefs τ sig) (fun b => ((c : Thread nD τ).1, b)) (Ve m c) s') $$ [Hh HSI]
      · isplitl [Hh] <;> iassumption
      icases Hr with ⟨%h, HSI⟩
      imod ((AllReduce.Dat.once (ar0 (F := F)) (Vh m)).ghostAfter_read (Sites.E0 EC) c (k := 0) le_rfl s') $$ [Hg Hi HSI] with ⟨%ha, HSI⟩
      · isplitr [HSI]
        · isplitl [Hi]; · iexact Hi
          iexact Hg
        iexact HSI
      imodintro
      isplitr; · ipureintro; exact ⟨h, ha⟩
      iexact HSI)
    (hQ := fun s h hs => ⟨fun c =>
        ⟨((h c).1 (Proc.devRef .tc main_v4) (Finset.mem_filter.mpr ⟨StableHlo.devRef_mem_tcRefs main_v4, by decide⟩)).trans (Ve_loss m c),
          ((h c).1 (Proc.devRef .tc main_v1_0) (Finset.mem_filter.mpr ⟨StableHlo.devRef_mem_tcRefs main_v1_0, by decide⟩)).trans (Ve_grad m c),
          ((h c).1 (Proc.devRef .tc main_arg0) (Finset.mem_filter.mpr ⟨StableHlo.devRef_mem_tcRefs main_arg0, by decide⟩)).trans (Ve_arg0 m c),
          ((h c).1 (Proc.devRef .tc main_arg1) (Finset.mem_filter.mpr ⟨StableHlo.devRef_mem_tcRefs main_arg1, by decide⟩)).trans (Ve_arg1 m c)⟩,
      sem_eq_zero hs fun c sm hsm => by
        have hl : ∀ sm : SemLoc sig, sm.isScoped .tc = false → sm = .reg ar0_barrier ∨ sm = .dma ar0_recv ∨ sm = .dma ar0_send := by decide
        rcases hl sm hsm with rfl | rfl | rfl
        exacts [(h c).2.1, (h c).2.2.1, (h c).2.2.2]⟩)

end Cert.LossRun

end
-- ==== Proof.LossBits.lean ====
module

public import proofs.«01_k».proof.Proof.LossLaunch
public import proofs.«01_k».proof.Proof.Gen.Loss

/-
  The program that is not idealized is the same program: its run is the idealized one's.
-/

@[expose] public section

noncomputable section

namespace Cert.LossBits

open Cert.Loss

open Idealize.ShloMosaic Idealize.ShloMosaic.TcCoe
open Idealize.SL.Sem

variable {F : FTy → Type} [FloatOps F]

theorem bodies : defs₀ (F := F) = Cert.LossIdeal.defs₀ := by
  unfold defs₀ Cert.LossIdeal.defs₀
  refine congrArg Defs.onTc (funext fun l => funext fun x => ?_)
  match l, x with
  | ⟨0, _⟩, (t, s) => rfl

theorem table : defs (F := F) = Cert.LossIdeal.defs := congrArg (Pipeline.defs (pcfgs (F := F))) bodies

theorem run_main (m : (ℓ : Loc nD τ sig) → Buf (Elt F) ℓ) (g : Dev nD → PrngReg) :
    θ_run (defs (F := F)) (onTc (τ := τ) main) ⟨m, fun _ => 0, g⟩
      (fun r => (∀ c : Dev nD, r.2.mem ((c : Thread nD τ).loc main_v4) = Cert.LossRun.loss m c
        ∧ r.2.mem ((c : Thread nD τ).loc main_v1_0) = Cert.LossBody.dx (Cert.LossRun.xOf m c) (Cert.LossRun.tOf m c)
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) := by
  rw [table]
  exact Cert.LossRun.run_main m g

end Cert.LossBits

end
-- ==== Proof.LossValue.lean ====
module

public import proofs.«01_k».proof.Proof.LossLaunch
public import proofs.«01_k».proof.Proof.Gen.LossRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.Layout
public import Idealize.ShloMosaic.Lib.StableHlo.AllReduceFold

/-
  The loss over the extended reals: the eight devices' sums of sums of tiles, added up, are half the sum over all rows of
  the whole array; and a device's gradient is its block of the reference's.
-/

@[expose] public section

set_option maxRecDepth 16384

noncomputable section

namespace Cert.LossValue

open Cert.LossIdeal Cert.LossIdeal.Gen Cert.LossBody

open Idealize.ShloMosaic Idealize.ShloMosaic.TcCoe
open Idealize.ShloMosaic.ValueIdx
open Idealize.SL.Sem
open scoped BigOperators

set_option Elab.async false

/-! ## The two constants -/

/-- One half, and the number of columns. -/
abbrev half : EReal := Ideal.ofBits .f32 0x3F000000#32
abbrev cols : EReal := Ideal.ofBits .f32 0x45000000#32

theorem half_eq : half = (((1 : ℝ) / 2 : ℝ) : EReal) := by
  simp [half, Ideal.ofBits, Ideal.ieee, -EReal.coe_mul]; norm_num

theorem cols_eq : cols = ((2048 : ℝ) : EReal) := by
  simp [cols, Ideal.ofBits, Ideal.ieee, -EReal.coe_mul]; norm_num

theorem cols_ne : cols ≠ 0 := by rw [cols_eq]; exact_mod_cast (by norm_num : (2048 : ℝ) ≠ 0)

/-- Halving, as a map of sums. -/
def halve : EReal →+ EReal where
  toFun x := half * x
  map_zero' := mul_zero _
  map_add' x y := by
    rw [half_eq]
    exact EReal.left_distrib_of_nonneg_of_ne_top (EReal.coe_nonneg.mpr (by norm_num)) (EReal.coe_ne_top _) x y

theorem half_sum {ι : Type} (s : Finset ι) (f : ι → EReal) : half * ∑ i ∈ s, f i = ∑ i ∈ s, half * f i :=
  map_sum halve f s

/-! ## One device -/

section Device
variable (X : (c : Dev nD) → S8448x2048.Idx → EReal) (T : (c : Dev nD) → S8192x2048.Idx → EReal)

/-- The mean square of a row's errors. -/
def cost (x : S8448x2048.Idx → EReal) (t : S8192x2048.Idx → EReal) (r : Fin 8448) : EReal :=
  Ideal.div (∑ k : Fin 2048, err (F := Ideal) x t (ix2 (n0 := 8448) (n1 := 2048) r k) * err (F := Ideal) x t (ix2 (n0 := 8448) (n1 := 2048) r k)) cols

/-- The row of a tile's row. -/
abbrev row (t : Fin 33) (p : Fin 256) : Fin 8448 := ⟨t.val * 256 + p.val, by omega⟩

/-- A tile's part of the loss. -/
def share (x : S8448x2048.Idx → EReal) (t : S8192x2048.Idx → EReal) (n : Fin 33) : EReal :=
  half * ∑ p : Fin 256, cost x t (row n p)

/-- A grid point adds its tile's part to every element. -/
theorem step (c : Dev nD) (t : Fin cfg0.N) (l : S8x128.Idx → EReal) (j : S8x128.Idx) :
    summed (F := Ideal) (grid0.coords t) (xs (F := Ideal) X c t) (ts (F := Ideal) T c t) l j = l j + share (X c) (T c) t := by
  unfold summed
  rw [View.canon_unit_zero zeros, View.ld_unit_zero (S := S8x128) zeros inb_S8x128_S8x128_0_0]
  have he : ∀ i, k0_pay1 (F := Ideal) (grid0.coords t) (View.ld (xs (F := Ideal) X c t) tile) (View.ld (ts (F := Ideal) T c t) tile) i
      = err (F := Ideal) (X c) (T c) (place t i) := err_at (F := Ideal) X T c t
  unfold k0_pay4
  generalize k0_pay1 (F := Ideal) (grid0.coords t) (View.ld (xs (F := Ideal) X c t) tile) (View.ld (ts (F := Ideal) T c t) tile) = e at he ⊢
  refine congrArg₂ (α := EReal) (β := EReal) (γ := EReal) (· + ·) (congrFun (shapeCast_self l _) j) ?_
  refine (broadcastTo_apply _ _ j (ix2 (n0 := 1) (n1 := 1) 0 0) fun a => by fin_cases a <;> rfl).trans ?_
  rw [shapeCast_self]
  refine congrArg (α := EReal) (β := EReal) (half * ·) ?_
  refine (shapeCast_apply _ shapeCasts_S1_S1x1 _ (ix1 (n := 1) 0) (by rw [Shape.rowMajor_val_two, Shape.rowMajor_val_one]; rfl)).trans ?_
  refine (Ideal.multiReduction_add_single _ _ reduces_S256x1_S1 _ _ _).trans (Finset.sum_congr rfl fun (p : Fin 256) _ => ?_)
  refine congrArg (α := EReal) (β := EReal) (Ideal.div · cols) ?_
  refine (shapeCast_apply _ shapeCasts_S256_S256x1 _ (ix1 (n := 256) p) (by rw [Shape.rowMajor_val_two, Shape.rowMajor_val_one]; show p.val = p.val * 1 + 0; omega)).trans ?_
  refine (Ideal.multiReduction_add_single _ _ reduces_S256x2048_S256 _ _ _).trans (Finset.sum_congr rfl fun (k : Fin 2048) _ => ?_)
  have hk : e (reduces_S256x2048_S256.lift (ix1 (n := 256) p) k) = err (F := Ideal) (X c) (T c) (ix2 (n0 := 8448) (n1 := 2048) (row t p) k) :=
    (he _).trans (congrArg (err (F := Ideal) (X c) (T c)) (funext fun a => by fin_cases a <;> rfl))
  exact congrArg₂ (α := EReal) (β := EReal) (γ := EReal) (· * ·) hk hk

/-- After a grid point the elements hold the parts of the tiles so far. -/
theorem acc_eq (c : Dev nD) (j : S8x128.Idx) : ∀ (n : ℕ) (h : n < cfg0.N),
    acc (F := Ideal) X T c n h j = ∑ t : Fin (n + 1), share (X c) (T c) ⟨t.val, by have : n < 33 := h; omega⟩
  | 0, h => by
    unfold acc
    rw [step, Fin.sum_univ_one]
    show Ideal.ofBits .f32 0x00000000#32 + _ = _
    rw [Ideal.ofBits_zero_f32, zero_add]; rfl
  | n + 1, h => by
    unfold acc
    rw [step, acc_eq c j n]
    exact (Fin.sum_univ_castSucc fun t : Fin (n + 2) => share (X c) (T c) ⟨t.val, by have : n + 1 < 33 := h; omega⟩).symm

/-- The first tile has no target: its part is zero. -/
theorem share_zero (x : S8448x2048.Idx → EReal) (t : S8192x2048.Idx → EReal) : share x t 0 = 0 := by
  unfold share
  have : ∀ p : Fin 256, cost x t (row 0 p) = 0 := fun p => by
    unfold cost
    have z : ∀ k : Fin 2048, err (F := Ideal) x t (ix2 (n0 := 8448) (n1 := 2048) (row 0 p) k) = 0 := fun k => by
      unfold err
      rw [if_neg (by show ¬ 256 ≤ 0 * 256 + p.val; omega)]
      exact Ideal.ofBits_zero_f32
    rw [Finset.sum_eq_zero fun k _ => by rw [z k, zero_mul]]
    exact Ideal.zero_div cols_ne
  rw [Finset.sum_eq_zero fun p _ => this p, mul_zero]

/-- A device's sum: half the sum, over the rows that have a target, of the mean squares. -/
theorem total_eq (c : Dev nD) (j : S8x128.Idx) :
    total (F := Ideal) X T c j = half * ∑ s : Fin 8192, cost (X c) (T c) ⟨256 + s.val, by omega⟩ := by
  unfold total
  rw [acc_eq]
  refine (Fin.sum_univ_succ fun t : Fin 33 => share (X c) (T c) t).trans ?_
  rw [share_zero, zero_add, half_sum]
  have hs : ∀ t : Fin 32, share (X c) (T c) t.succ = ∑ p : Fin 256, half * cost (X c) (T c) ⟨256 + (t.val * 256 + p.val), by omega⟩ := fun t => by
    unfold share
    rw [half_sum]
    exact Finset.sum_congr rfl fun p _ => congrArg (fun r => half * cost (X c) (T c) r) (Fin.ext (by show (t.val + 1) * 256 + p.val = 256 + (t.val * 256 + p.val); omega))
  rw [Finset.sum_congr rfl fun t _ => hs t]
  have e := Equiv.sum_comp (finProdFinEquiv (m := 32) (n := 256)) fun s : Fin 8192 => half * cost (X c) (T c) ⟨256 + s.val, by omega⟩
  rw [← e, Fintype.sum_prod_type]
  refine Finset.sum_congr rfl fun t _ => Finset.sum_congr rfl fun p _ => congrArg (fun r => half * cost (X c) (T c) r) (Fin.ext ?_)
  show 256 + (t.val * 256 + p.val) = 256 + (p.val + 256 * t.val)
  omega

end Device

/-! ## The eight devices -/

/-- What the all-reduce leaves on a device: half the sum, over all devices' rows that have a target, of the mean squares. -/
theorem loss_eq (m : (ℓ : Loc nD τ sig) → Buf (Elt Ideal) ℓ) (c : Dev nD) :
    (show S_.Idx → EReal from LossRun.loss m c) ix0
      = half * ∑ d : Fin 8, ∑ s : Fin 8192, cost (LossRun.xOf m d) (LossRun.tOf m d) ⟨256 + s.val, by omega⟩ := by
  have h := AllReduce.Cfg.foldGroup_graded (ar0 (F := Ideal)) (Grading.ofHom (M := EReal) (α := EReal) id fun _ _ => rfl)
    (fun j => LossRun.sent m ((ar0 (F := Ideal)).peer c j)) ix0 0 (fun j => (LossRun.sent m ((ar0 (F := Ideal)).peer c j)) ix0) fun _ => rfl
  refine (show (show S_.Idx → EReal from LossRun.loss m c) ix0 = _ from h).trans ?_
  rw [half_sum]
  refine Finset.sum_congr rfl fun (d : Fin 8) _ => ?_
  have hd : (ar0 (F := Ideal)).peer c d = d := by fin_cases c <;> fin_cases d <;> rfl
  rw [hd]
  unfold LossRun.sent
  refine (shapeCast_apply _ shapeCasts_S1x1_S_ _ (ix2 (n0 := 1) (n1 := 1) 0 0) (by rw [Shape.rowMajor_val_two]; rfl)).trans ?_
  exact total_eq (LossRun.xOf m) (LossRun.tOf m) d _

/-! ## The reference -/

section Reference
variable (x : Cert.LossRefIdeal.S67584x2048.Idx → EReal) (t : Cert.LossRefIdeal.S65536x2048.Idx → EReal)

/-- The reference's errors. -/
def errors : Cert.LossRefIdeal.S8x8192x2048.Idx → EReal :=
  subf (F := Ideal) (φ := .f32)
    (extractStridedSlice Cert.LossRefIdeal.S8x8192x2048 ![0, 256, 0]
      (shapeCast Cert.LossRefIdeal.S8x8448x2048 x Cert.LossRefIdeal.Gen.facts.shapeCasts_S67584x2048_S8x8448x2048)
      Cert.LossRefIdeal.Gen.facts.slices_S8x8448x2048_S8x8192x2048_0_256_0)
    (shapeCast Cert.LossRefIdeal.S8x8192x2048 t Cert.LossRefIdeal.Gen.facts.shapeCasts_S65536x2048_S8x8192x2048)

/-- A device's blocks. -/
abbrev xb (d : Fin 8) : S8448x2048.Idx → EReal := Layout.block ⟨2, ![8448, 2048]⟩ ⟨2, ![67584, 2048]⟩ 0 8 d x
abbrev tb (d : Fin 8) : S8192x2048.Idx → EReal := Layout.block ⟨2, ![8192, 2048]⟩ ⟨2, ![65536, 2048]⟩ 0 8 d t

/-- The reference's error at a device's row is the device's. -/
theorem errors_at (d : Fin 8) (s : Fin 8192) (k : Fin 2048) :
    errors x t (ix3 (n0 := 8) (n1 := 8192) (n2 := 2048) d s k)
      = err (F := Ideal) (xb x d) (tb t d) (ix2 (n0 := 8448) (n1 := 2048) ⟨256 + s.val, by omega⟩ k) := by
  unfold err
  rw [if_pos (by show 256 ≤ 256 + s.val; omega)]
  refine congrArg₂ (α := EReal) (β := EReal) (γ := EReal) (· - ·) ?_ ?_
  · refine shapeCast_apply x _ _ _ ?_
    rw [Shape.rowMajor_val_two, Shape.rowMajor_val_three]
    show (d.val * 8448 + (256 + s.val)) * 2048 + k.val = ((0 + d.val) * 8448 + (256 + s.val)) * 2048 + (0 + k.val)
    omega
  · refine shapeCast_apply t _ _ _ ?_
    rw [Shape.rowMajor_val_two, Shape.rowMajor_val_three]
    show (d.val * 8192 + (256 + s.val - 256)) * 2048 + k.val = (d.val * 8192 + s.val) * 2048 + k.val
    omega

/-- The reference's loss. -/
def refLoss : Cert.LossRefIdeal.S_.Idx → EReal :=
  mulf (F := Ideal) (φ := .f32) (constant Cert.LossRefIdeal.S_ .f32 0x3F000000#32)
    (Host.reduceAdd (Host.divf (Host.reduceAdd (mulf (F := Ideal) (φ := .f32) (errors x t) (errors x t)) (constant Cert.LossRefIdeal.S_ .f32 0x00000000#32)
        Cert.LossRefIdeal.Gen.facts.reducesTo_S8x8192x2048_S8x8192_d2 Cert.LossRefIdeal.Gen.facts.h_S_)
      (broadcastInDim Cert.LossRefIdeal.S8x8192 ![] Cert.LossRefIdeal.Gen.facts.bcast_S_S8x8192 (constant Cert.LossRefIdeal.S_ .f32 0x45000000#32)))
      (constant Cert.LossRefIdeal.S_ .f32 0x00000000#32) Cert.LossRefIdeal.Gen.facts.reducesTo_S8x8192_S_d0_1 Cert.LossRefIdeal.Gen.facts.h_S_)

theorem refLoss_eq : refLoss x t ix0
    = half * ∑ d : Fin 8, ∑ s : Fin 8192, cost (xb x d) (tb t d) ⟨256 + s.val, by omega⟩ := by
  unfold refLoss
  refine congrArg (α := EReal) (β := EReal) (half * ·) ?_
  refine (Ideal.hostReduceAdd_total _ (fun b => b.elim0) _ _ _).trans ?_
  refine (congrArg (· + _) Ideal.ofBits_zero_f32).trans ((zero_add _).trans ?_)
  rw [sum_idx2]
  refine Finset.sum_congr rfl fun d _ => Finset.sum_congr rfl fun s _ => ?_
  refine congrArg (α := EReal) (β := EReal) (Ideal.div · cols) ?_
  have hr : Cert.LossRefIdeal.S8x8192x2048.Reduces [2] Cert.LossRefIdeal.S8x8192 := by decide
  refine (Ideal.hostReduceAdd_single _ hr _ _ _).trans ?_
  refine (congrArg (· + _) Ideal.ofBits_zero_f32).trans ((zero_add _).trans ?_)
  refine Finset.sum_congr rfl fun (k : Fin 2048) _ => ?_
  have hk : errors x t (hr.lift (ix2 (n0 := 8) (n1 := 8192) d s) k)
      = err (F := Ideal) (xb x d) (tb t d) (ix2 (n0 := 8448) (n1 := 2048) ⟨256 + s.val, by omega⟩ k) :=
    (congrArg (errors x t) (funext fun a => by fin_cases a <;> rfl)).trans (errors_at x t d s k)
  exact congrArg₂ (α := EReal) (β := EReal) (γ := EReal) (· * ·) hk hk

/-- The reference's gradient. -/
def refGrad : Cert.LossRefIdeal.S67584x2048.Idx → EReal :=
  shapeCast _ (pad Cert.LossRefIdeal.S8x8448x2048 ![0, 256, 0] ![0, 0, 0] ![0, 0, 0]
    (Host.divf (F := Ideal) (φ := .f32) (errors x t)
      (broadcastInDim Cert.LossRefIdeal.S8x8192x2048 ![] Cert.LossRefIdeal.Gen.facts.bcast_S_S8x8192x2048 (constant Cert.LossRefIdeal.S_ .f32 0x45000000#32)))
    (sitofp (F := Ideal) .f32 (constantI Cert.LossRefIdeal.S_ 32 0#32)) Cert.LossRefIdeal.Gen.facts.pads_S8x8192x2048_S8x8448x2048_000_25600_000
    Cert.LossRefIdeal.Gen.facts.h_S_) Cert.LossRefIdeal.Gen.facts.shapeCasts_S8x8448x2048_S67584x2048

theorem refGrad_block (d : Fin 8) :
    dx (F := Ideal) (xb x d) (tb t d) = Layout.block ⟨2, ![8448, 2048]⟩ ⟨2, ![67584, 2048]⟩ 0 8 d (refGrad x t) := by
  funext i
  obtain ⟨r, k, rfl⟩ : ∃ (r : Fin 8448) (k : Fin 2048), i = ix2 (n0 := 8448) (n1 := 2048) r k := ⟨i 0, i 1, eq_ix2 i⟩
  refine Eq.trans ?_ (Layout.block_apply _ _ _ _).symm
  unfold refGrad
  refine Eq.trans ?_ (shapeCast_apply _ _ _ (ix3 (n0 := 8) (n1 := 8448) (n2 := 2048) d r k)
    (by rw [Shape.rowMajor_val_two, Shape.rowMajor_val_three]; rfl)).symm
  by_cases hr : 256 ≤ r.val
  · refine Eq.trans ?_ (pad_apply_of_inside _ _ _ _ _ _ _ _ (ix3 (n0 := 8) (n1 := 8192) (n2 := 2048) d ⟨r.val - 256, by omega⟩ k) fun a => ?_).symm
    · refine congrArg (α := EReal) (β := EReal) (Ideal.div · cols) ?_
      rw [errors_at]
      exact congrArg (fun q => err (F := Ideal) (xb x d) (tb t d) (ix2 (n0 := 8448) (n1 := 2048) q k)) (Fin.ext (by show r.val = 256 + (r.val - 256); omega))
    · match a with
      | ⟨0, _⟩ => show d.val = 0 + d.val * (0 + 1); omega
      | ⟨1, _⟩ => show r.val = 256 + (r.val - 256) * (0 + 1); omega
      | ⟨2, _⟩ => show k.val = 0 + k.val * (0 + 1); omega
  · refine Eq.trans ?_ (pad_apply_of_not_inside _ _ _ _ _ _ _ _ 1 fun ha => hr ha.1).symm
    have z : err (F := Ideal) (xb x d) (tb t d) (ix2 (n0 := 8448) (n1 := 2048) r k) = 0 := by
      unfold err
      rw [if_neg hr]
      exact Ideal.ofBits_zero_f32
    refine (congrArg (α := EReal) (β := EReal) (Ideal.div · cols) z).trans ((Ideal.zero_div cols_ne).trans ?_)
    show (0 : EReal) = ((((0#32 : BitVec 32).toInt : ℤ) : ℝ) : EReal)
    simp

end Reference

/-! ## The claim -/

attribute [local instance] Cert.LossIdeal.Gen.facts Cert.LossRefIdeal.Gen.facts

/-- Over the extended reals every device ends with the reference's loss and its block of the reference's gradient. -/
theorem algebraic : Cert.algebraic_LossIdeal_LossRefIdeal := by
  intro m g m' g' _ hin
  set x := m' (((0 : Dev Cert.LossRefIdeal.nD).tc : Thread Cert.LossRefIdeal.nD Cert.LossRefIdeal.τ).loc Cert.LossRefIdeal.main_arg0) with hx
  set t := m' (((0 : Dev Cert.LossRefIdeal.nD).tc : Thread Cert.LossRefIdeal.nD Cert.LossRefIdeal.τ).loc Cert.LossRefIdeal.main_arg1) with ht
  have hX : ∀ c : Dev nD, LossRun.xOf m c = xb x c := fun c => (hin c).1
  have hT : ∀ c : Dev nD, LossRun.tOf m c = tb t c := fun c => (hin c).2
  refine ⟨refLoss x t, refGrad x t, (θ_run Cert.LossIdeal.defs _ _).mono (fun r h c => ?_) (LossRun.run_main (F := Ideal) m g),
    (θ_run Cert.LossRefIdeal.defs _ _).mono (fun r h => h 0) (Cert.LossRefIdeal.Value.run (F := Ideal) m' g')⟩
  obtain ⟨h4, h1, h2, h3⟩ := h.1 c
  refine ⟨h4.trans (funext fun i => ?_), h1.trans ?_, h2, h3⟩
  · have hi : i = ix0 := funext fun a => a.elim0
    rw [hi]
    refine (loss_eq m c).trans (Eq.trans ?_ (refLoss_eq x t).symm)
    rw [Finset.sum_congr rfl fun d _ => by rw [hX d, hT d]]
  · rw [hX c, hT c]; exact refGrad_block x t c

end Cert.LossValue
end
-- ==== Proof.AdaValue.lean ====
module

public import proofs.«01_k».proof.Proof.Gen.AdaIdeal.Value
public import proofs.«01_k».proof.Proof.Gen.AdaRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/-
  The gradient of the weights of the modulation. A grid point has one layer and one third of the columns: it multiplies
  the activated conditioning rows with its columns of the gradient. A block of the product is the product with a block, so
  the array is the reference's product of the whole arrays; and a block of the bias' gradient is a block of the sum.
-/

@[expose] public section

set_option maxRecDepth 16384

noncomputable section

namespace Cert.AdaValue

open Cert.AdaIdeal Cert.AdaIdeal.Gen Cert.AdaIdeal.Value

open Idealize.ShloMosaic Idealize.ShloMosaic.TcCoe
open Idealize.SL.Sem
open scoped BigOperators

/-! ## What a grid point stores -/

section Stores
variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

variable (c : Dev nD) (i : grid0.Coords)
    (arg2 : Memref sig .tc .vmem S8x2048 .f32) (h2 : arg2.IsWhole)
    (arg3 : Memref sig .tc .vmem S1x2048 .f32) (h3 : arg3.IsWhole)
    (arg4 : Memref sig .tc .vmem S1x2048x512 .f32) (h4 : arg4.IsWhole)
    (arg5 : Memref sig .tc .vmem S1x1x512 .f32) (h5 : arg5.IsWhole)
    (arg6 : Memref sig .tc .vmem S1x16x512 .f32) (h6 : arg6.IsWhole)
    (arg7 : Memref sig .tc .vmem S1x2048 .f32) (h7 : arg7.IsWhole)
    (arg8 : Memref sig .tc .vmem S1x2048x512 .f32) (h8 : arg8.IsWhole)
    (arg9 : Memref sig .tc .vmem S1x1x512 .f32) (h9 : arg9.IsWhole)
    (x0 : Vec F S8x2048 .f32) (x1 : Vec F S1x2048 .f32) (x2 : Vec F S1x2048x512 .f32) (x3 : Vec F S1x1x512 .f32)
    (x4 : Vec F S1x16x512 .f32) (o : Vec F S1x2048 .f32)

/-- Loading the whole of a buffer reads its contents. -/
theorem whole0 : View.readAt (Elt F) arg2.view (Rect.unit (s := S8x2048) ![0, 0] S8x2048.size inb_S8x2048_S8x2048_0_0).toLoadRect (h2.unread x0) = x0 := by
  rw [View.readAt_eq_ld, h2.read_unread, View.ld_unit_zero zeros2]
theorem whole1 : View.readAt (Elt F) arg3.view (Rect.unit (s := S1x2048) ![0, 0] S1x2048.size inb_S1x2048_S1x2048_0_0).toLoadRect (h3.unread x1) = x1 := by
  rw [View.readAt_eq_ld, h3.read_unread, View.ld_unit_zero zeros2]
theorem whole4 : View.readAt (Elt F) arg6.view (Rect.unit (s := S1x16x512) ![0, 0, 0] S1x16x512.size inb_S1x16x512_S1x16x512_0_0_0).toLoadRect (h6.unread x4) = x4 := by
  rw [View.readAt_eq_ld, h6.read_unread, View.ld_unit_zero zeros3]

/-- The block of the weights' gradient, and of the bias'. -/
theorem weights_A (hc0 : cond0_0 i) (hc1 : ¬cond0_1 i) :
    out0_A_6 c i arg2 h2 arg3 h3 arg4 h4 arg5 h5 arg6 h6 arg7 h7 arg8 h8 arg9 h9 hc0 hc1 x0 x1 x2 x3 x4
      = k0_pay2 (k0_pay9 x0 x1 x4) := by
  unfold out0_A_6
  rw [View.read_writes_junk_eq_canon]
  show View.canon ([⟨Rect.unit ![0, 0, 0] S1x2048x512.size inb_S1x2048x512_S1x2048x512_0_0_0, k0_pay2 (k0_pay9 _ _ _)⟩] :
    List (View.Piece (Elt F) S1x2048x512 .f32)) = _
  rw [View.canon_unit_zero zeros3, whole0, whole1, whole4]

theorem bias_A (hc0 : cond0_0 i) (hc1 : ¬cond0_1 i) :
    out0_A_7 c i arg2 h2 arg3 h3 arg4 h4 arg5 h5 arg6 h6 arg7 h7 arg8 h8 arg9 h9 hc0 hc1 x0 x1 x2 x3 x4
      = k0_pay3 (k0_pay8 x4) := by
  unfold out0_A_7
  rw [View.read_writes_junk_eq_canon]
  show View.canon ([⟨Rect.unit ![0, 0, 0] S1x1x512.size inb_S1x1x512_S1x1x512_0_0_0, k0_pay3 (k0_pay8 _)⟩] :
    List (View.Piece (Elt F) S1x1x512 .f32)) = _
  rw [View.canon_unit_zero zeros3, whole4]

/-- The block of the weights' gradient, and of the bias'. -/
theorem weights_B (hc0 : ¬cond0_0 i) (hc1 : cond0_1 i) :
    out0_B_6 c i arg2 h2 arg3 h3 arg4 h4 arg5 h5 arg6 h6 arg7 h7 arg8 h8 arg9 h9 hc0 hc1 x0 x1 x2 x3 x4 o
      = k0_pay2 (k0_pay9 x0 x1 x4) := by
  unfold out0_B_6
  rw [View.read_writes_junk_eq_canon]
  show View.canon ([⟨Rect.unit ![0, 0, 0] S1x2048x512.size inb_S1x2048x512_S1x2048x512_0_0_0, k0_pay2 (k0_pay9 _ _ _)⟩] :
    List (View.Piece (Elt F) S1x2048x512 .f32)) = _
  rw [View.canon_unit_zero zeros3, whole0, whole1, whole4]

theorem bias_B (hc0 : ¬cond0_0 i) (hc1 : cond0_1 i) :
    out0_B_7 c i arg2 h2 arg3 h3 arg4 h4 arg5 h5 arg6 h6 arg7 h7 arg8 h8 arg9 h9 hc0 hc1 x0 x1 x2 x3 x4 o
      = k0_pay3 (k0_pay8 x4) := by
  unfold out0_B_7
  rw [View.read_writes_junk_eq_canon]
  show View.canon ([⟨Rect.unit ![0, 0, 0] S1x1x512.size inb_S1x1x512_S1x1x512_0_0_0, k0_pay3 (k0_pay8 _)⟩] :
    List (View.Piece (Elt F) S1x1x512 .f32)) = _
  rw [View.canon_unit_zero zeros3, whole4]

end Stores

section Point
variable {F : FTy → Type} [FloatOps F]
variable (m : (ℓ : Loc nD τ sig) → Buf (Elt F) ℓ)

/-- At every point. -/
theorem weights_at (c : Dev nD) (t : Fin cfg0.N) :
    (dats m 0 c).after 6 t = k0_pay2 (k0_pay9 (iblk m c 0 t) (iblk m c 1 t) (iblk m c 4 t)) := by
  have hN : t.val < 6 := lt_of_lt_of_eq t.isLt (show cfg0.N = 6 from N_0)
  rw [after0_6]
  by_cases h : t.val = 0
  · rw [outsAt0_A m c t (by omega) (by omega)]; dsimp only; rw [weights_A]
  · rw [outsAt0_B m c t (by omega) (by omega)]; dsimp only; rw [weights_B]

theorem bias_at (c : Dev nD) (t : Fin cfg0.N) :
    (dats m 0 c).after 7 t = k0_pay3 (k0_pay8 (iblk m c 4 t)) := by
  have hN : t.val < 6 := lt_of_lt_of_eq t.isLt (show cfg0.N = 6 from N_0)
  rw [after0_7]
  by_cases h : t.val = 0
  · rw [outsAt0_A m c t (by omega) (by omega)]; dsimp only; rw [bias_A]
  · rw [outsAt0_B m c t (by omega) (by omega)]; dsimp only; rw [bias_B]

end Point

/-! ## Over the extended reals -/

/-- A number times its logistic. -/
abbrev silu (x : EReal) : EReal := x * Ideal.logistic x

/-- The activated conditioning rows: the batch's, then the context's, repeated. -/
def act (a0 : S8x2048.Idx → EReal) (a1 : S2048.Idx → EReal) (r : Fin 16) (k : Fin 2048) : EReal :=
  if h : r.val < 8 then silu (a0 (ix2 (n0 := 8) (n1 := 2048) ⟨r.val, h⟩ k)) else silu (a1 (ix1 (n0 := 2048) k))

/-- The weights' gradient and the bias'. -/
def weights (a0 : S8x2048.Idx → EReal) (a1 : S2048.Idx → EReal) (g : S2x16x1536.Idx → EReal) (j : S2x2048x1536.Idx) : EReal :=
  ∑ r : Fin 16, act a0 a1 r (j 1) * g (ix3 (n0 := 2) (n1 := 16) (n2 := 1536) (j 0) r (j 2))

def bias (g : S2x16x1536.Idx → EReal) (j : S2x1x1536.Idx) : EReal :=
  ∑ r : Fin 16, g (ix3 (n0 := 2) (n1 := 16) (n2 := 1536) (j 0) r (j 2))

theorem pay_rows (x0 : S8x2048.Idx → EReal) (x1 : S1x2048.Idx → EReal) (r : Fin 16) (k : Fin 2048) :
    k0_pay4 (F := Ideal) x0 x1 (ix2 (n0 := 16) (n1 := 2048) r k)
      = if h : r.val < 8 then x0 (ix2 (n0 := 8) (n1 := 2048) ⟨r.val, h⟩ k) else x1 (ix2 (n0 := 1) (n1 := 2048) 0 k) := by
  pointwise [k0_pay4]

theorem pay_weights (x0 : S8x2048.Idx → EReal) (x1 : S1x2048.Idx → EReal) (x4 : S1x16x512.Idx → EReal) (y : S1x2048x512.Idx) :
    k0_pay2 (F := Ideal) (k0_pay9 x0 x1 x4) y
      = ∑ r : Fin 16, act x0 (fun j => x1 (ix2 (n0 := 1) (n1 := 2048) 0 (j 0))) r (y 1) * x4 (ix3 (n0 := 1) (n1 := 16) (n2 := 512) 0 r (y 2)) := by
  pointwise [k0_pay2, k0_pay9, k0_pay5, k0_pay6, k0_pay7]
  refine Finset.sum_congr rfl fun r _ => ?_
  refine congrArg (α := EReal) (β := EReal) (· * x4 _) ((congrArg silu (pay_rows x0 x1 r (y 1))).trans ?_)
  unfold act
  split <;> rfl

theorem pay_bias (x4 : S1x16x512.Idx → EReal) (y : S1x1x512.Idx) :
    k0_pay3 (F := Ideal) (k0_pay8 x4) y = ∑ r : Fin 16, x4 (ix3 (n0 := 1) (n1 := 16) (n2 := 512) 0 r (y 2)) := by
  pointwise [k0_pay3, k0_pay8, k0_pay6]

section Final
variable (m : (ℓ : Loc nD τ sig) → Buf (Elt Ideal) ℓ)

/-- The windows' blocks: the conditioning arrays whole, the others a layer and a third of the columns. -/
theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index4 : ∀ t : Fin cfg0.N, win0_4.index t = ![(grid0.coords t 0).val, 0, (grid0.coords t 1).val] := (by decide +kernel : ∀ t : Fin grid0.N, _)
theorem index6 : ∀ t : Fin cfg0.N, win0_6.index t = ![(grid0.coords t 0).val, 0, (grid0.coords t 1).val] := (by decide +kernel : ∀ t : Fin grid0.N, _)
theorem index7 : ∀ t : Fin cfg0.N, win0_7.index t = ![(grid0.coords t 0).val, 0, (grid0.coords t 1).val] := (by decide +kernel : ∀ t : Fin grid0.N, _)

/-- Each array after the run. -/
theorem final_weights (c : Dev nD) : (dats m 0 c).arrAt 6 cfg0.N
    = weights (m ((c : Thread nD τ).loc main_arg0)) (m ((c : Thread nD τ).loc main_arg1)) (m ((c : Thread nD τ).loc main_arg4)) := by
  refine (dats m 0 c).arrAt_eq_of_covers 6 _ (by decide +kernel) fun t hf y => ?_
  rw [weights_at]
  blk_simp
  refine (pay_weights _ _ _ y).trans ?_
  have e0 := index0 t
  have e1 := index1 t
  have e4 := index4 t
  have e6 := index6 t
  unfold weights act
  blk_point [iblk, V, e0, e1, e4, e6]

theorem final_bias (c : Dev nD) : (dats m 0 c).arrAt 7 cfg0.N
    = bias (m ((c : Thread nD τ).loc main_arg4)) := by
  refine (dats m 0 c).arrAt_eq_of_covers 7 _ (by decide +kernel) fun t hf y => ?_
  rw [bias_at]
  blk_simp
  refine (pay_bias _ y).trans ?_
  have e4 := index4 t
  have e7 := index7 t
  unfold bias
  blk_point [iblk, V, e4, e7]

end Final

/-! ## The reference -/

section Reference
variable (m : (ℓ : Loc AdaRefIdeal.nD AdaRefIdeal.τ AdaRefIdeal.sig) → Buf (Elt Ideal) ℓ) (ρ : Dev AdaRefIdeal.nD → PrngReg)

/-- The reference computes the same two arrays. -/
theorem ref_run : θ_run AdaRefIdeal.defs (onTc (τ := AdaRefIdeal.τ) (AdaRefIdeal.main (F := Ideal))) ⟨m, fun _ => 0, ρ⟩ fun r => ∀ c : Dev AdaRefIdeal.nD,
      r.2.mem ((c.tc : Thread AdaRefIdeal.nD AdaRefIdeal.τ).loc AdaRefIdeal.main_v5)
        = weights (m ((c.tc : Thread AdaRefIdeal.nD AdaRefIdeal.τ).loc AdaRefIdeal.main_arg0)) (m ((c.tc : Thread AdaRefIdeal.nD AdaRefIdeal.τ).loc AdaRefIdeal.main_arg1))
            (m ((c.tc : Thread AdaRefIdeal.nD AdaRefIdeal.τ).loc AdaRefIdeal.main_arg4))
      ∧ r.2.mem ((c.tc : Thread AdaRefIdeal.nD AdaRefIdeal.τ).loc AdaRefIdeal.main_v7)
        = bias (m ((c.tc : Thread AdaRefIdeal.nD AdaRefIdeal.τ).loc AdaRefIdeal.main_arg4))
      ∧ r.2.mem ((c.tc : Thread AdaRefIdeal.nD AdaRefIdeal.τ).loc AdaRefIdeal.main_arg0) = m ((c.tc : Thread AdaRefIdeal.nD AdaRefIdeal.τ).loc AdaRefIdeal.main_arg0)
      ∧ r.2.mem ((c.tc : Thread AdaRefIdeal.nD AdaRefIdeal.τ).loc AdaRefIdeal.main_arg1) = m ((c.tc : Thread AdaRefIdeal.nD AdaRefIdeal.τ).loc AdaRefIdeal.main_arg1)
      ∧ r.2.mem ((c.tc : Thread AdaRefIdeal.nD AdaRefIdeal.τ).loc AdaRefIdeal.main_arg2) = m ((c.tc : Thread AdaRefIdeal.nD AdaRefIdeal.τ).loc AdaRefIdeal.main_arg2)
      ∧ r.2.mem ((c.tc : Thread AdaRefIdeal.nD AdaRefIdeal.τ).loc AdaRefIdeal.main_arg3) = m ((c.tc : Thread AdaRefIdeal.nD AdaRefIdeal.τ).loc AdaRefIdeal.main_arg3)
      ∧ r.2.mem ((c.tc : Thread AdaRefIdeal.nD AdaRefIdeal.τ).loc AdaRefIdeal.main_arg4) = m ((c.tc : Thread AdaRefIdeal.nD AdaRefIdeal.τ).loc AdaRefIdeal.main_arg4) := by
  refine (θ_run AdaRefIdeal.defs _ _).mono (fun r h c => ?_) (AdaRefIdeal.Value.run (F := Ideal) m ρ)
  obtain ⟨hw, hb, h⟩ := h c
  refine ⟨hw.trans (funext fun y => ?_), hb.trans (funext fun y => ?_), h⟩
  · unfold weights act
    pointwise
    exact congrArg₂ (fun a b : EReal => a + b) (Finset.sum_congr rfl fun x _ => mul_comm _ _) (Finset.sum_congr rfl fun x _ => mul_comm _ _)
  · unfold bias
    pointwise

end Reference

/-- On every device the results are the reference's. -/
theorem algebraic : Cert.algebraic_AdaIdeal_AdaRefIdeal := by
  intro m g m' g' _ hin
  refine ⟨fun c => weights (m ((c.tc : Thread nD τ).loc main_arg0)) (m ((c.tc : Thread nD τ).loc main_arg1)) (m ((c.tc : Thread nD τ).loc main_arg4)),
    fun c => bias (m ((c.tc : Thread nD τ).loc main_arg4)),
    (θ_run AdaIdeal.defs _ _).mono (fun r h c => ?_) (run_blocks (F := Ideal) m g),
    (θ_run AdaRefIdeal.defs _ _).mono (fun r h c => ?_) (ref_run m' g')⟩
  · obtain ⟨_, h1, h2, h⟩ := h c
    exact ⟨h1.trans (final_weights m c), h2.trans (final_bias m c), h⟩
  · obtain ⟨h1, h2, h⟩ := h c
    obtain ⟨i0, i1, _, _, i4⟩ := hin c
    exact ⟨h1.trans (by rw [i0, i1, i4]), h2.trans (by rw [i4]), h⟩

end Cert.AdaValue

end
-- ==== Proof.NormValue.lean ====
module

public import proofs.«01_k».proof.Proof.Gen.NormIdeal.Value
public import proofs.«01_k».proof.Proof.Gen.NormRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/-
  The gradient of the input of the first layer: the modulated normalisation going backwards. A grid point has 256 rows, and
  a row's gradient reads nothing of another row, so the array is the reference's. The first block's rows are the context's:
  they are scaled by the context's modulation, the others by the batch's.
-/

@[expose] public section

set_option maxRecDepth 16384

noncomputable section

namespace Cert.NormValue

open Cert.NormIdeal Cert.NormIdeal.Gen Cert.NormIdeal.Value

open Idealize.ShloMosaic Idealize.ShloMosaic.TcCoe
open Idealize.SL.Sem
open scoped BigOperators

/-! ## What a grid point stores -/

section Stores
variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

variable (c : Dev nD) (i : grid0.Coords)
    (arg1 : Memref sig .tc .vmem S256x2048 .f32) (h1 : arg1.IsWhole)
    (arg2 : Memref sig .tc .vmem S1x2048 .f32) (h2 : arg2.IsWhole)
    (arg3 : Memref sig .tc .vmem S2x6x2048 .f32) (h3 : arg3.IsWhole)
    (arg4 : Memref sig .tc .vmem S256x2048 .f32) (h4 : arg4.IsWhole)
    (arg5 : Memref sig .tc .vmem S256x2048 .f32) (h5 : arg5.IsWhole)
    (arg6 : Memref sig .tc .vmem S256x2048 .f32) (h6 : arg6.IsWhole)
    (arg7 : Memref sig .tc .vmem S1x2048 .f32) (h7 : arg7.IsWhole)
    (arg8 : Memref sig .tc .vmem S2x6x2048 .f32) (h8 : arg8.IsWhole)
    (x0 : Vec F S256x2048 .f32) (x1 : Vec F S1x2048 .f32) (x2 : Vec F S2x6x2048 .f32) (x3 x4 : Vec F S256x2048 .f32)
    (o6 : Vec F S1x2048 .f32) (o7 : Vec F S2x6x2048 .f32)

/-- Loading the whole of a buffer reads its contents. -/
theorem wholeBlock (v : Memref sig .tc .vmem S256x2048 .f32) (h : v.IsWhole) (x : Vec F S256x2048 .f32) :
    View.readAt (Elt F) v.view (Rect.unit (s := S256x2048) ![0, 0] S256x2048.size inb_S256x2048_S256x2048_0_0).toLoadRect (h.unread x) = x := by
  rw [View.readAt_eq_ld, h.read_unread, View.ld_unit_zero zeros2]
theorem wholeWeights : View.readAt (Elt F) arg2.view (Rect.unit (s := S1x2048) ![0, 0] S1x2048.size inb_S1x2048_S1x2048_0_0).toLoadRect (h2.unread x1) = x1 := by
  rw [View.readAt_eq_ld, h2.read_unread, View.ld_unit_zero zeros2]
theorem wholeMods : View.readAt (Elt F) arg3.view (Rect.unit (s := S2x6x2048) ![0, 0, 0] S2x6x2048.size inb_S2x6x2048_S2x6x2048_0_0_0).toLoadRect (h3.unread x2) = x2 := by
  rw [View.readAt_eq_ld, h3.read_unread, View.ld_unit_zero zeros3]

/-- The block of the gradient. -/
abbrev stored : Vec F S256x2048 .f32 :=
  k0_pay14 x0 (k0_pay3 x1) (k0_pay5 x0) (k0_pay6 x0) x4 (k0_pay8 x3) (k0_pay11 i x2)

theorem rows_A (hc0 : cond0_0 i) (hc1 : ¬cond0_1 i) (hc2 : cond0_2 i) (hc3 : ¬cond0_3 i) :
    out0_A_5 c i arg1 h1 arg2 h2 arg3 h3 arg4 h4 arg5 h5 arg6 h6 arg7 h7 arg8 h8 hc0 hc1 hc2 hc3 x0 x1 x2 x3 x4
      = stored i x0 x1 x2 x3 x4 := by
  unfold out0_A_5
  rw [View.read_writes_junk_eq_canon]
  show View.canon ([⟨Rect.unit ![0, 0] S256x2048.size inb_S256x2048_S256x2048_0_0, stored i _ _ _ _ _⟩] :
    List (View.Piece (Elt F) S256x2048 .f32)) = _
  rw [View.canon_unit_zero zeros2, wholeWeights, wholeMods, wholeBlock]
  exact congrArg₂ (fun a b => stored i a x1 x2 x3 b) (wholeBlock arg1 h1 x0) (wholeBlock arg5 h5 x4)

theorem rows_B (hc0 : ¬cond0_0 i) (hc1 : cond0_1 i) (hc2 : ¬cond0_2 i) (hc3 : cond0_3 i) :
    out0_B_5 c i arg1 h1 arg2 h2 arg3 h3 arg4 h4 arg5 h5 arg6 h6 arg7 h7 arg8 h8 hc0 hc1 hc2 hc3 x0 x1 x2 x3 x4 o6 o7
      = stored i x0 x1 x2 x3 x4 := by
  unfold out0_B_5
  rw [View.read_writes_junk_eq_canon]
  show View.canon ([⟨Rect.unit ![0, 0] S256x2048.size inb_S256x2048_S256x2048_0_0, stored i _ _ _ _ _⟩] :
    List (View.Piece (Elt F) S256x2048 .f32)) = _
  rw [View.canon_unit_zero zeros2, wholeWeights, wholeMods, wholeBlock]
  exact congrArg₂ (fun a b => stored i a x1 x2 x3 b) (wholeBlock arg1 h1 x0) (wholeBlock arg5 h5 x4)

end Stores

section Point
variable {F : FTy → Type} [FloatOps F]
variable (m : (ℓ : Loc nD τ sig) → Buf (Elt F) ℓ)

/-- At every point. -/
theorem rows_at (c : Dev nD) (t : Fin cfg0.N) :
    (dats m 0 c).after 5 t = stored (grid0.coords t) (iblk m c 0 t) (iblk m c 1 t) (iblk m c 2 t) (iblk m c 3 t) (iblk m c 4 t) := by
  have hN : t.val < 33 := lt_of_lt_of_eq t.isLt (show cfg0.N = 33 from N_0)
  rw [after0_5]
  by_cases h : t.val = 0
  · rw [outsAt0_A m c t (by omega) (by omega) (by omega) (by omega)]; dsimp only; rw [rows_A]
  · rw [outsAt0_B m c t (by omega) (by omega) (by omega) (by omega)]; dsimp only; rw [rows_B]

end Point

/-! ## Over the extended reals -/

/-- The mean of the squares of a row, and what is added to it. -/
abbrev spread (x : Fin 2048 → EReal) : EReal :=
  Ideal.div (∑ k, x k * x k) (Ideal.ofBits FTy.f32 0x45000000#32) + Ideal.ofBits FTy.f32 0x358637BD#32

/-- A row's gradient through its spread: `b` says whose modulation scales the row. -/
abbrev through (b : BitVec 1) (x g w : Fin 2048 → EReal) (mods : S2x6x2048.Idx → EReal) : EReal :=
  ∑ _u : Fin 1, Ideal.div
    ((∑ k, x k * (g k * (1 + Scalar.select b (mods (ix3 (n0 := 2) (n1 := 6) (n2 := 2048) 0 1 k)) (mods (ix3 (n0 := 2) (n1 := 6) (n2 := 2048) 1 1 k))) * w k))
      * (Ideal.ofBits FTy.f32 0xBF000000#32 * Ideal.div (Ideal.rsqrt (spread x)) (spread x)))
    (Ideal.ofBits FTy.f32 0x45000000#32)

/-- A row's gradient: what was carried, the gradient times the reciprocal root, and twice the part through the spread. -/
abbrev rowGrad (b : BitVec 1) (x g w : Fin 2048 → EReal) (mods : S2x6x2048.Idx → EReal) (o : EReal) (k : Fin 2048) : EReal :=
  o + (g k * (1 + Scalar.select b (mods (ix3 (n0 := 2) (n1 := 6) (n2 := 2048) 0 1 k)) (mods (ix3 (n0 := 2) (n1 := 6) (n2 := 2048) 1 1 k))) * w k * Ideal.rsqrt (spread x)
    + x k * through b x g w mods + through b x g w mods * x k)

/-- The gradient of the whole input. -/
def grad (x : S8448x2048.Idx → EReal) (w : S2048.Idx → EReal) (mods : S2x6x2048.Idx → EReal) (g o : S8448x2048.Idx → EReal)
    (j : S8448x2048.Idx) : EReal :=
  rowGrad (IntOp.cmpi .slt (BitVec.ofNat 32 (j 0).val) 256#32) (fun k => x (ix2 (n0 := 8448) (n1 := 2048) (j 0) k))
    (fun k => g (ix2 (n0 := 8448) (n1 := 2048) (j 0) k)) (fun k => w (ix1 (n0 := 2048) k)) mods (o (ix2 (n0 := 8448) (n1 := 2048) (j 0) (j 1))) (j 1)

theorem pay (i : grid0.Coords) (b : BitVec 1) (hb : Scalar.cmpi CmpIPredicate.slt (BitVec.ofNat 32 (i 0).val) 1#32 = b)
    (x0 : S256x2048.Idx → EReal) (x1 : S1x2048.Idx → EReal) (x2 : S2x6x2048.Idx → EReal)
    (x3 x4 : S256x2048.Idx → EReal) (r : Fin 256) (k : Fin 2048) :
    stored (F := Ideal) i x0 x1 x2 x3 x4 (ix2 (n0 := 256) (n1 := 2048) r k)
      = rowGrad b (fun k => x0 (ix2 (n0 := 256) (n1 := 2048) r k)) (fun k => x3 (ix2 (n0 := 256) (n1 := 2048) r k))
          (fun k => x1 (ix2 (n0 := 1) (n1 := 2048) 0 k)) x2 (x4 (ix2 (n0 := 256) (n1 := 2048) r k)) k := by
  pointwise [stored, k0_pay14, k0_pay12, k0_pay3, k0_pay5, k0_pay6, k0_pay4, k0_pay8, k0_pay11]
  rw [hb, add_assoc, add_assoc]
  exact congrArg _ (add_assoc _ _ _).symm

/-- The first block's rows are the first 256. -/
theorem first (t : Fin 33) (r : Fin 256) :
    Scalar.cmpi CmpIPredicate.slt (BitVec.ofNat 32 t.val) 1#32 = IntOp.cmpi .slt (BitVec.ofNat 32 (t.val * 256 + r.val)) 256#32 :=
  (by decide +kernel : ∀ (t : Fin 33) (r : Fin 256), Scalar.cmpi CmpIPredicate.slt (BitVec.ofNat 32 t.val) 1#32
    = IntOp.cmpi .slt (BitVec.ofNat 32 (t.val * 256 + r.val)) 256#32) t r

section Final
variable (m : (ℓ : Loc nD τ sig) → Buf (Elt Ideal) ℓ)

/-- The windows' blocks: the weights and the modulation whole, the others 256 rows. -/
theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![(grid0.coords t 0).val, 0] := (by decide +kernel : ∀ t : Fin grid0.N, _)
theorem index4 : ∀ t : Fin cfg0.N, win0_4.index t = ![(grid0.coords t 0).val, 0] := (by decide +kernel : ∀ t : Fin grid0.N, _)
theorem index5 : ∀ t : Fin cfg0.N, win0_5.index t = ![(grid0.coords t 0).val, 0] := (by decide +kernel : ∀ t : Fin grid0.N, _)

/-- The array after the run. -/
theorem final_rows (c : Dev nD) : (dats m 0 c).arrAt 5 cfg0.N
    = grad (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  rw [rows_at]
  blk_simp
  have hy : y = ix2 (n0 := 256) (n1 := 2048) (y 0) (y 1) := by
    funext a; fin_cases a <;> rfl
  refine (congrArg _ hy).trans ((pay (grid0.coords t) _ (first (grid0.coords t 0) (y 0)) _ _ _ _ _ (y 0) (y 1)).trans ?_)
  have e0 := index0 t
  have e1 := index1 t
  have e2 := index2 t
  have e3 := index3 t
  have e4 := index4 t
  have e5 := index5 t
  unfold grad
  blk_point [iblk, V, e0, e1, e2, e3, e4, e5]
  refine congrArg _ (Fin.ext ?_)
  blk_point [e5]

end Final

/-! ## The reference -/

section Reference
variable (m : (ℓ : Loc NormRefIdeal.nD NormRefIdeal.τ NormRefIdeal.sig) → Buf (Elt Ideal) ℓ) (ρ : Dev NormRefIdeal.nD → PrngReg)

/-- The reference computes the same array. -/
theorem ref_rows (c : Dev NormRefIdeal.nD) : NormRefIdeal.Value.res_out0 m c
    = grad (m ((c.tc : Thread NormRefIdeal.nD NormRefIdeal.τ).loc NormRefIdeal.main_arg0)) (m ((c.tc : Thread NormRefIdeal.nD NormRefIdeal.τ).loc NormRefIdeal.main_arg1))
        (m ((c.tc : Thread NormRefIdeal.nD NormRefIdeal.τ).loc NormRefIdeal.main_arg2)) (m ((c.tc : Thread NormRefIdeal.nD NormRefIdeal.τ).loc NormRefIdeal.main_arg3))
        (m ((c.tc : Thread NormRefIdeal.nD NormRefIdeal.τ).loc NormRefIdeal.main_arg4)) := by
  funext y
  have hy : y = ix2 (n0 := 8448) (n1 := 2048) (y 0) (y 1) := by
    funext a; fin_cases a <;> rfl
  rw [hy]
  generalize (y 0 : Fin 8448) = r
  generalize (y 1 : Fin 2048) = k
  unfold grad NormRefIdeal.Value.res_out0 NormRefIdeal.Value.res_main_v53
  pointwise

end Reference

/-- On every device the result is the reference's. -/
theorem algebraic : Cert.algebraic_NormIdeal_NormRefIdeal := by
  intro m g m' g' _ hin
  refine ⟨fun c => grad (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)),
    (θ_run NormIdeal.defs _ _).mono (fun r h c => ?_) (run_blocks (F := Ideal) m g),
    (θ_run NormRefIdeal.defs _ _).mono (fun r h c => ?_) (NormRefIdeal.Value.run (F := Ideal) m' g')⟩
  · obtain ⟨h0, _, _, h⟩ := h c
    exact ⟨h0.trans (final_rows m c), h⟩
  · obtain ⟨h0, h⟩ := h c
    obtain ⟨i0, i1, i2, i3, i4⟩ := hin c
    exact ⟨h0.trans ((ref_rows m' c).trans (by rw [i0, i1, i2, i3, i4])), h⟩

end Cert.NormValue

end
-- ==== Proof.Rows.lean ====
module

public import Idealize.ShloMosaic.PureOps.Ideal.Laws
public import Idealize.ShloMosaic.Lib.Pipeline.Value

/-
  Sums of products taken a block at a time. Two arrays share an axis; for a place of the first and a place of the second,
  the sum over the part of that axis below a bound grows by a block's sum when the bound grows by the block's length.
-/

@[expose] public section

noncomputable section

namespace Cert.Rows

open scoped BigOperators

/-- An array's entry by numbers. -/
def entry {n0 n1 : ℕ} (a : Fin n0 → Fin n1 → EReal) (k p : ℕ) : EReal :=
  if h : k < n0 ∧ p < n1 then a ⟨k, h.1⟩ ⟨p, h.2⟩ else 0

variable {K P Q : ℕ} (f : Fin K → Fin P → EReal) (g : Fin K → Fin Q → EReal)

/-- The sum over the shared axis below `n`. -/
def upto (p q n : ℕ) : EReal := ∑ k ∈ Finset.range n, entry f k p * entry g k q

theorem upto_zero (p q : ℕ) : upto f g p q 0 = 0 := rfl

/-- The whole axis. -/
theorem upto_all (p : Fin P) (q : Fin Q) : upto f g p.val q.val K = ∑ k : Fin K, f k p * g k q := by
  unfold upto
  rw [Finset.sum_range]
  refine Finset.sum_congr rfl fun k _ => ?_
  unfold entry
  rw [dif_pos ⟨k.isLt, p.isLt⟩, dif_pos ⟨k.isLt, q.isLt⟩]

/-- A block of length `b` more. -/
theorem upto_add (p q n b : ℕ) :
    upto f g p q n + ∑ r : Fin b, entry f (n + r.val) p * entry g (n + r.val) q = upto f g p q (n + b) := by
  unfold upto
  rw [Finset.sum_range_add, Finset.sum_range _ (n := b)]

/-- What is kept over steps of `b` each, started anew every `L` steps at the place `(u n, v n)`: the sum so far. -/
theorem upto_fold (b L : ℕ) (hL : 0 < L) (u v : ℕ → ℕ) {N : ℕ} (s : ∀ n, n < N → EReal)
    (hp : ∀ n, (n + 1) % L ≠ 0 → u (n + 1) = u n ∧ v (n + 1) = v n)
    (hfirst : ∀ n hn, n % L = 0 → s n hn = ∑ r : Fin b, entry f (b * (n % L) + r.val) (u n) * entry g (b * (n % L) + r.val) (v n))
    (hlater : ∀ n hn, (n + 1) % L ≠ 0 → s (n + 1) hn = s n (Nat.lt_of_succ_lt hn)
      + ∑ r : Fin b, entry f (b * ((n + 1) % L) + r.val) (u (n + 1)) * entry g (b * ((n + 1) % L) + r.val) (v (n + 1))) :
    ∀ n hn, s n hn = upto f g (u n) (v n) (b * (n % L + 1)) := by
  have first : ∀ n hn, n % L = 0 → s n hn = upto f g (u n) (v n) (b * (n % L + 1)) := fun n hn h => by
    rw [hfirst n hn h, h, Nat.mul_add, Nat.mul_one, ← upto_add, Nat.mul_zero, upto_zero, zero_add]
  intro n
  induction n with
  | zero => exact fun hn => first 0 hn (Nat.zero_mod L)
  | succ n ih =>
    intro hn
    by_cases h : (n + 1) % L = 0
    · exact first _ hn h
    have hm : (n + 1) % L = n % L + 1 := by
      have e : (n + 1) % L = (n % L + 1) % L := (Nat.mod_add_mod n L 1).symm
      rcases Nat.lt_or_ge (n % L + 1) L with h2 | h2
      · exact e.trans (Nat.mod_eq_of_lt h2)
      · exact absurd (e.trans (by rw [show n % L + 1 = L from Nat.le_antisymm (Nat.mod_lt n hL) h2, Nat.mod_self])) h
    rw [hlater n hn h, ih, ← (hp n h).1, ← (hp n h).2, hm, upto_add, ← Nat.mul_succ]

open Idealize.ShloMosaic in
/-- Loading the whole of a buffer reads its contents. -/
theorem readWhole {Val : EltTy → Type} {sig : RefSig} {κ : Kind} {sp : Space} {s : Shape} {e : EltTy}
    (arg : Memref sig κ sp s e) (h : arg.IsWhole) {off : Fin s.rank → ℕ} (h0 : off = fun _ => 0)
    (inb : ∀ a, off a + s.size a ≤ s.size a) (x : s.Idx → Val e) :
    View.readAt Val arg.view (Rect.unit off s.size inb).toLoadRect (h.unread x) = x := by
  rw [View.readAt_eq_ld, h.read_unread, View.ld_unit_zero h0]

end Cert.Rows

end
-- ==== Proof.HiddenValue.lean ====
module

public import proofs.«01_k».proof.Proof.Gen.HiddenIdeal.Value
public import proofs.«01_k».proof.Proof.Gen.HiddenRefIdeal.Run
public import proofs.«01_k».proof.Defs
public import proofs.«01_k».proof.Proof.Rows
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.VecWindow
public import Idealize.ShloMosaic.Lib.Pointwise
public import Idealize.ShloMosaic.Lib.Pipeline.ValueKit

/-
  The gradient of a layer's first feed-forward weights: the transposed input times the gradient of the output.
  The kernel has one block of the result at a time and walks over the 8448 rows 1056 at a time, in eight steps, adding each step's
  product to a buffer it keeps; at the last the buffer is the result's block.
-/

@[expose] public section

set_option maxRecDepth 16384

noncomputable section

namespace Cert.HiddenValue

open Cert.HiddenIdeal Cert.HiddenIdeal.Gen Cert.HiddenIdeal.Value

open Idealize.ShloMosaic Idealize.ShloMosaic.TcCoe
open Idealize.SL.Sem
open Cert.Rows
open scoped BigOperators

/-! ## What a grid point stores -/

section Stores
variable {F : FTy → Type} [FloatOps F]

theorem zeros2 : (![0, 0] : Fin 2 → Nat) = fun _ => 0 := funext fun a => by fin_cases a <;> rfl

variable (c : Dev nD) (i : grid0.Coords)
    (arg3 : Memref sig .tc .vmem S1056x1024 .bf16) (h3 : arg3.IsWhole)
    (arg4 : Memref sig .tc .vmem S1056x1024 .bf16) (h4 : arg4.IsWhole)
    (arg5 : Memref sig .tc .vmem S1024x1024 .f32) (h5 : arg5.IsWhole)
    (arg6 : Memref sig .tc .vmem S1024x1024 .f32) (h6 : arg6.IsWhole)
    (x0 : Vec F S1056x1024 .bf16) (x1 : Vec F S1056x1024 .bf16) (acc : Vec F S1024x1024 .f32)

/-- The first step leaves its product in the buffer. -/
theorem kept_A (hc0 : cond0_0 i) (hc1 : ¬cond0_1 i) (hc2 : ¬cond0_2 i) :
    sout0_A_0 c i arg3 h3 arg4 h4 arg5 h5 arg6 h6 hc0 hc1 hc2 x0 x1 = k0_pay2 x0 x1 := by
  unfold sout0_A_0
  rw [View.read_writes_junk_eq_canon]
  show View.canon ([⟨Rect.unit ![0, 0] S1024x1024.size inb_S1024x1024_S1024x1024_0_0, k0_pay2 _ _⟩] :
    List (View.Piece (Elt F) S1024x1024 .f32)) = _
  rw [View.canon_unit_zero zeros2]
  exact congrArg₂ (fun a b => k0_pay2 a b) (readWhole _ _ zeros2 ..) (readWhole _ _ zeros2 ..)

/-- A later step adds its product to what it held. -/
theorem kept_B (hc0 : ¬cond0_0 i) (hc1 : cond0_1 i) (hc2 : ¬cond0_2 i) :
    sout0_B_0 c i arg3 h3 arg4 h4 arg5 h5 arg6 h6 hc0 hc1 hc2 x0 x1 acc = k0_pay3 x0 x1 acc := by
  unfold sout0_B_0
  rw [View.read_writes_junk_eq_canon]
  show View.canon ([⟨Rect.unit ![0, 0] S1024x1024.size inb_S1024x1024_S1024x1024_0_0, k0_pay3 _ _ _⟩] :
    List (View.Piece (Elt F) S1024x1024 .f32)) = _
  rw [View.canon_unit_zero zeros2]
  exact congr (congrArg₂ (fun a b => k0_pay3 a b) (readWhole _ _ zeros2 ..) (readWhole _ _ zeros2 ..)) (readWhole _ _ zeros2 ..)

theorem kept_C (hc0 : ¬cond0_0 i) (hc1 : cond0_1 i) (hc2 : cond0_2 i) :
    sout0_C_0 c i arg3 h3 arg4 h4 arg5 h5 arg6 h6 hc0 hc1 hc2 x0 x1 acc = k0_pay3 x0 x1 acc := by
  unfold sout0_C_0
  rw [View.read_writes_junk_eq_canon]
  show View.canon ([⟨Rect.unit ![0, 0] S1024x1024.size inb_S1024x1024_S1024x1024_0_0, k0_pay3 _ _ _⟩] :
    List (View.Piece (Elt F) S1024x1024 .f32)) = _
  rw [View.canon_unit_zero zeros2]
  exact congr (congrArg₂ (fun a b => k0_pay3 a b) (readWhole _ _ zeros2 ..) (readWhole _ _ zeros2 ..)) (readWhole _ _ zeros2 ..)

/-- The last step also stores what the buffer then holds. -/
theorem stored_C (hc0 : ¬cond0_0 i) (hc1 : cond0_1 i) (hc2 : cond0_2 i) :
    out0_C_2 c i arg3 h3 arg4 h4 arg5 h5 arg6 h6 hc0 hc1 hc2 x0 x1 acc = k0_pay3 x0 x1 acc := by
  unfold out0_C_2
  rw [View.read_writes_junk_eq_canon]
  show View.canon ([⟨Rect.unit ![0, 0] S1024x1024.size inb_S1024x1024_S1024x1024_0_0, _⟩] :
    List (View.Piece (Elt F) S1024x1024 .f32)) = _
  rw [View.canon_unit_zero zeros2]
  unfold kernelRun0_C.sl.v12 kernelRun0_C.sl.HS0_1
  refine (View.readCov_full _ _ inb_S1024x1024_S1024x1024_0_0 _ _).trans ?_
  exact congr (congrArg₂ (fun a b => k0_pay3 a b) (readWhole _ _ zeros2 ..) (readWhole _ _ zeros2 ..)) (readWhole _ _ zeros2 ..)

end Stores

/-! ## Over the extended reals -/

/-- The arguments, the place summed over first. -/
abbrev rows0 (a : S8448x2048.Idx → EReal) (k : Fin 8448) (p : Fin 2048) : EReal := a (ix2 (n0 := 8448) (n1 := 2048) k p)
abbrev rows1 (a : S8448x11264.Idx → EReal) (k : Fin 8448) (q : Fin 11264) : EReal := a (ix2 (n0 := 8448) (n1 := 11264) k q)

/-- The product. -/
def product (a0 : S8448x2048.Idx → EReal) (a1 : S8448x11264.Idx → EReal) (j : S2048x11264.Idx) : EReal :=
  ∑ k : Fin 8448, rows0 a0 k (j 0) * rows1 a1 k (j 1)

theorem pay_first (x0 : S1056x1024.Idx → EReal) (x1 : S1056x1024.Idx → EReal) (y : S1024x1024.Idx) :
    k0_pay2 (F := Ideal) x0 x1 y = ∑ r : Fin 1056, x0 (ix2 (n0 := 1056) (n1 := 1024) r (y 0)) * x1 (ix2 (n0 := 1056) (n1 := 1024) r (y 1)) := by
  pointwise [k0_pay2, k0_pay1]

theorem pay_later (x0 : S1056x1024.Idx → EReal) (x1 : S1056x1024.Idx → EReal) (acc : S1024x1024.Idx → EReal) (y : S1024x1024.Idx) :
    k0_pay3 (F := Ideal) x0 x1 acc y = acc y + ∑ r : Fin 1056, x0 (ix2 (n0 := 1056) (n1 := 1024) r (y 0)) * x1 (ix2 (n0 := 1056) (n1 := 1024) r (y 1)) := by
  pointwise [k0_pay3, k0_pay1]

section Final
variable (m : (ℓ : Loc nD τ sig) → Buf (Elt Ideal) ℓ)

/-- The windows' blocks. -/
theorem index0 : ∀ t : Fin cfg0.N, win0_0.index t = ![t.val % 8, t.val / 88] := (by decide +kernel : ∀ t : Fin grid0.N, _)
theorem index1 : ∀ t : Fin cfg0.N, win0_1.index t = ![t.val % 8, t.val / 8 % 11] := (by decide +kernel : ∀ t : Fin grid0.N, _)
theorem index2 : ∀ t : Fin cfg0.N, win0_2.index t = ![t.val / 88, t.val / 8 % 11] := (by decide +kernel : ∀ t : Fin grid0.N, _)

/-- A block's entry in its array. -/
theorem block0 (c : Dev nD) (t : Fin cfg0.N) (r : Fin 1056) (i : Fin 1024) : iblk m c 0 t (ix2 (n0 := 1056) (n1 := 1024) r i)
      = entry (rows0 (m ((c : Thread nD τ).loc main_arg0))) (1056 * (t.val % 8) + r.val) (1024 * (t.val / 88) + i.val) := by
  have hN : t.val < 176 := lt_of_lt_of_eq t.isLt (show cfg0.N = 176 from N_0)
  have e := index0 t
  unfold entry rows0
  rw [dif_pos ⟨by omega, by omega⟩]
  blk_point [iblk, V, e]

theorem block1 (c : Dev nD) (t : Fin cfg0.N) (r : Fin 1056) (i : Fin 1024) : iblk m c 1 t (ix2 (n0 := 1056) (n1 := 1024) r i)
      = entry (rows1 (m ((c : Thread nD τ).loc main_arg1))) (1056 * (t.val % 8) + r.val) (1024 * (t.val / 8 % 11) + i.val) := by
  have hN : t.val < 176 := lt_of_lt_of_eq t.isLt (show cfg0.N = 176 from N_0)
  have e := index1 t
  unfold entry rows1
  rw [dif_pos ⟨by omega, by omega⟩]
  blk_point [iblk, V, e]

/-- A point's product. -/
theorem added (c : Dev nD) (t : Fin cfg0.N) (y : S1024x1024.Idx) :
    ∑ r : Fin 1056, (show EReal from iblk m c 0 t (ix2 (n0 := 1056) (n1 := 1024) r (y 0))) * (show EReal from iblk m c 1 t (ix2 (n0 := 1056) (n1 := 1024) r (y 1)))
      = ∑ r : Fin 1056, entry (rows0 (m ((c : Thread nD τ).loc main_arg0))) (1056 * (t.val % 8) + r.val) (1024 * (t.val / 88) + (y 0).val)
        * entry (rows1 (m ((c : Thread nD τ).loc main_arg1))) (1056 * (t.val % 8) + r.val) (1024 * (t.val / 8 % 11) + (y 1).val) :=
  Finset.sum_congr rfl fun r _ => congrArg₂ (fun a b : EReal => a * b) (block0 m c t r (y 0)) (block1 m c t r (y 1))

/-- After a point the buffer holds the sum over the blocks so far. -/
theorem kept (c : Dev nD) (n : ℕ) (hn : n < cfg0.N) (y : S1024x1024.Idx) : (outsAt0 m c n hn).2 y
    = upto (rows0 (m ((c : Thread nD τ).loc main_arg0))) (rows1 (m ((c : Thread nD τ).loc main_arg1))) (1024 * (n / 88) + (y 0).val) (1024 * (n / 8 % 11) + (y 1).val) (1056 * (n % 8 + 1)) := by
  refine upto_fold _ _ 1056 8 (by decide) (fun n => 1024 * (n / 88) + (y 0).val) (fun n => 1024 * (n / 8 % 11) + (y 1).val)
    (fun n hn => (outsAt0 m c n hn).2 y) (fun n h0 => ⟨by dsimp only; omega, by dsimp only; omega⟩) (fun n hn h0 => ?_) (fun n hn h0 => ?_) n hn
  · dsimp only
    rw [outsAt0_A m c ⟨n, hn⟩ h0 (by dsimp only; omega) (by dsimp only; omega)]; dsimp only; rw [kept_A]
    exact (pay_first _ _ y).trans (added m c ⟨n, hn⟩ y)
  · have hs : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 8 = 7
      · rw [outsAt0_C m c ⟨n + 1, hn⟩ h0 (by dsimp only; omega) h2]; dsimp only; rw [kept_C]; rfl
      · rw [outsAt0_B m c ⟨n + 1, hn⟩ h0 (by dsimp only; omega) h2]; dsimp only; rw [kept_B]; rfl
    dsimp only
    rw [hs]
    exact (pay_later _ _ _ y).trans (congrArg (α := EReal) (β := EReal) (_ + ·) (added m c ⟨n + 1, hn⟩ y))

/-- A point that stores a block stores what the buffer holds. -/
theorem stored (c : Dev nD) (t : Fin cfg0.N) (h : t.val % 8 = 7) :
    (dats m 0 c).after 2 t = (outsAt0 m c t.val t.isLt).2 := by
  rw [after0_2, outsAt0_C m c t (by omega) (by omega) h]; dsimp only; rw [stored_C, kept_C]

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  rw [stored m c t h]
  blk_simp
  refine (kept m c _ _ y).trans (Eq.trans ?_ (upto_all _ _ _ _))
  have e := index2 t
  rw [h]
  refine congrArg₂ (fun p q => upto (rows0 (m ((c : Thread nD τ).loc main_arg0))) (rows1 (m ((c : Thread nD τ).loc main_arg1))) p q 8448) ?_ ?_
  · refine Eq.trans ?_ (Pipeline.Window.rect_emb_val win0_2 t y 0).symm
    rw [e]
    exact congrArg (· + _) (Nat.mul_comm ..)
  · refine Eq.trans ?_ (Pipeline.Window.rect_emb_val win0_2 t y 1).symm
    rw [e]
    exact congrArg (· + _) (Nat.mul_comm ..)

end Final

/-- On every device the results are the reference's. -/
theorem algebraic : Cert.algebraic_HiddenIdeal_HiddenRefIdeal := by
  intro m g m' g' _ hin
  refine ⟨fun c => product (m ((c.tc : Thread nD τ).loc main_arg0)) (m ((c.tc : Thread nD τ).loc main_arg1)),
    (θ_run HiddenIdeal.defs _ _).mono (fun r h c => ?_) (run_blocks (F := Ideal) m g),
    (θ_run HiddenRefIdeal.defs _ _).mono (fun r h c => ?_) (HiddenRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.HiddenValue

end
-- ==== Proof.DownValue.lean ====
module

public import proofs.«01_k».proof.Proof.Gen.DownIdeal.Value
public import proofs.«01_k».proof.Proof.Gen.DownRefIdeal.Run
public import proofs.«01_k».proof.Defs
public import proofs.«01_k».proof.Proof.Rows
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.VecWindow
public import Idealize.ShloMosaic.Lib.Pointwise
public import Idealize.ShloMosaic.Lib.Pipeline.ValueKit

/-
  The gradient of a layer's second feed-forward weights: the transposed input times the gradient of the output.
  The kernel has one block of the result at a time and walks over the 8448 rows 1056 at a time, in eight steps, adding each step's
  product to a buffer it keeps; at the last the buffer is the result's block.
-/

@[expose] public section

set_option maxRecDepth 16384

noncomputable section

namespace Cert.DownValue

open Cert.DownIdeal Cert.DownIdeal.Gen Cert.DownIdeal.Value

open Idealize.ShloMosaic Idealize.ShloMosaic.TcCoe
open Idealize.SL.Sem
open Cert.Rows
open scoped BigOperators

/-! ## What a grid point stores -/

section Stores
variable {F : FTy → Type} [FloatOps F]

theorem zeros2 : (![0, 0] : Fin 2 → Nat) = fun _ => 0 := funext fun a => by fin_cases a <;> rfl

variable (c : Dev nD) (i : grid0.Coords)
    (arg3 : Memref sig .tc .vmem S1056x1408 .bf16) (h3 : arg3.IsWhole)
    (arg4 : Memref sig .tc .vmem S1056x1024 .bf16) (h4 : arg4.IsWhole)
    (arg5 : Memref sig .tc .vmem S1408x1024 .f32) (h5 : arg5.IsWhole)
    (arg6 : Memref sig .tc .vmem S1408x1024 .f32) (h6 : arg6.IsWhole)
    (x0 : Vec F S1056x1408 .bf16) (x1 : Vec F S1056x1024 .bf16) (acc : Vec F S1408x1024 .f32)

/-- The first step leaves its product in the buffer. -/
theorem kept_A (hc0 : cond0_0 i) (hc1 : ¬cond0_1 i) (hc2 : ¬cond0_2 i) :
    sout0_A_0 c i arg3 h3 arg4 h4 arg5 h5 arg6 h6 hc0 hc1 hc2 x0 x1 = k0_pay2 x0 x1 := by
  unfold sout0_A_0
  rw [View.read_writes_junk_eq_canon]
  show View.canon ([⟨Rect.unit ![0, 0] S1408x1024.size inb_S1408x1024_S1408x1024_0_0, k0_pay2 _ _⟩] :
    List (View.Piece (Elt F) S1408x1024 .f32)) = _
  rw [View.canon_unit_zero zeros2]
  exact congrArg₂ (fun a b => k0_pay2 a b) (readWhole _ _ zeros2 ..) (readWhole _ _ zeros2 ..)

/-- A later step adds its product to what it held. -/
theorem kept_B (hc0 : ¬cond0_0 i) (hc1 : cond0_1 i) (hc2 : ¬cond0_2 i) :
    sout0_B_0 c i arg3 h3 arg4 h4 arg5 h5 arg6 h6 hc0 hc1 hc2 x0 x1 acc = k0_pay3 x0 x1 acc := by
  unfold sout0_B_0
  rw [View.read_writes_junk_eq_canon]
  show View.canon ([⟨Rect.unit ![0, 0] S1408x1024.size inb_S1408x1024_S1408x1024_0_0, k0_pay3 _ _ _⟩] :
    List (View.Piece (Elt F) S1408x1024 .f32)) = _
  rw [View.canon_unit_zero zeros2]
  exact congr (congrArg₂ (fun a b => k0_pay3 a b) (readWhole _ _ zeros2 ..) (readWhole _ _ zeros2 ..)) (readWhole _ _ zeros2 ..)

theorem kept_C (hc0 : ¬cond0_0 i) (hc1 : cond0_1 i) (hc2 : cond0_2 i) :
    sout0_C_0 c i arg3 h3 arg4 h4 arg5 h5 arg6 h6 hc0 hc1 hc2 x0 x1 acc = k0_pay3 x0 x1 acc := by
  unfold sout0_C_0
  rw [View.read_writes_junk_eq_canon]
  show View.canon ([⟨Rect.unit ![0, 0] S1408x1024.size inb_S1408x1024_S1408x1024_0_0, k0_pay3 _ _ _⟩] :
    List (View.Piece (Elt F) S1408x1024 .f32)) = _
  rw [View.canon_unit_zero zeros2]
  exact congr (congrArg₂ (fun a b => k0_pay3 a b) (readWhole _ _ zeros2 ..) (readWhole _ _ zeros2 ..)) (readWhole _ _ zeros2 ..)

/-- The last step also stores what the buffer then holds. -/
theorem stored_C (hc0 : ¬cond0_0 i) (hc1 : cond0_1 i) (hc2 : cond0_2 i) :
    out0_C_2 c i arg3 h3 arg4 h4 arg5 h5 arg6 h6 hc0 hc1 hc2 x0 x1 acc = k0_pay3 x0 x1 acc := by
  unfold out0_C_2
  rw [View.read_writes_junk_eq_canon]
  show View.canon ([⟨Rect.unit ![0, 0] S1408x1024.size inb_S1408x1024_S1408x1024_0_0, _⟩] :
    List (View.Piece (Elt F) S1408x1024 .f32)) = _
  rw [View.canon_unit_zero zeros2]
  unfold kernelRun0_C.sl.v12 kernelRun0_C.sl.HS0_1
  refine (View.readCov_full _ _ inb_S1408x1024_S1408x1024_0_0 _ _).trans ?_
  exact congr (congrArg₂ (fun a b => k0_pay3 a b) (readWhole _ _ zeros2 ..) (readWhole _ _ zeros2 ..)) (readWhole _ _ zeros2 ..)

end Stores

/-! ## Over the extended reals -/

/-- The arguments, the place summed over first. -/
abbrev rows0 (a : S8448x5632.Idx → EReal) (k : Fin 8448) (p : Fin 5632) : EReal := a (ix2 (n0 := 8448) (n1 := 5632) k p)
abbrev rows1 (a : S8448x2048.Idx → EReal) (k : Fin 8448) (q : Fin 2048) : EReal := a (ix2 (n0 := 8448) (n1 := 2048) k q)

/-- The product. -/
def product (a0 : S8448x5632.Idx → EReal) (a1 : S8448x2048.Idx → EReal) (j : S5632x2048.Idx) : EReal :=
  ∑ k : Fin 8448, rows0 a0 k (j 0) * rows1 a1 k (j 1)

theorem pay_first (x0 : S1056x1408.Idx → EReal) (x1 : S1056x1024.Idx → EReal) (y : S1408x1024.Idx) :
    k0_pay2 (F := Ideal) x0 x1 y = ∑ r : Fin 1056, x0 (ix2 (n0 := 1056) (n1 := 1408) r (y 0)) * x1 (ix2 (n0 := 1056) (n1 := 1024) r (y 1)) := by
  pointwise [k0_pay2, k0_pay1]

theorem pay_later (x0 : S1056x1408.Idx → EReal) (x1 : S1056x1024.Idx → EReal) (acc : S1408x1024.Idx → EReal) (y : S1408x1024.Idx) :
    k0_pay3 (F := Ideal) x0 x1 acc y = acc y + ∑ r : Fin 1056, x0 (ix2 (n0 := 1056) (n1 := 1408) r (y 0)) * x1 (ix2 (n0 := 1056) (n1 := 1024) r (y 1)) := by
  pointwise [k0_pay3, k0_pay1]

section Final
variable (m : (ℓ : Loc nD τ sig) → Buf (Elt Ideal) ℓ)

/-- The windows' blocks. -/
theorem index0 : ∀ t : Fin cfg0.N, win0_0.index t = ![t.val % 8, t.val / 16] := (by decide +kernel : ∀ t : Fin grid0.N, _)
theorem index1 : ∀ t : Fin cfg0.N, win0_1.index t = ![t.val % 8, t.val / 8 % 2] := (by decide +kernel : ∀ t : Fin grid0.N, _)
theorem index2 : ∀ t : Fin cfg0.N, win0_2.index t = ![t.val / 16, t.val / 8 % 2] := (by decide +kernel : ∀ t : Fin grid0.N, _)

/-- A block's entry in its array. -/
theorem block0 (c : Dev nD) (t : Fin cfg0.N) (r : Fin 1056) (i : Fin 1408) : iblk m c 0 t (ix2 (n0 := 1056) (n1 := 1408) r i)
      = entry (rows0 (m ((c : Thread nD τ).loc main_arg0))) (1056 * (t.val % 8) + r.val) (1408 * (t.val / 16) + i.val) := by
  have hN : t.val < 64 := lt_of_lt_of_eq t.isLt (show cfg0.N = 64 from N_0)
  have e := index0 t
  unfold entry rows0
  rw [dif_pos ⟨by omega, by omega⟩]
  blk_point [iblk, V, e]

theorem block1 (c : Dev nD) (t : Fin cfg0.N) (r : Fin 1056) (i : Fin 1024) : iblk m c 1 t (ix2 (n0 := 1056) (n1 := 1024) r i)
      = entry (rows1 (m ((c : Thread nD τ).loc main_arg1))) (1056 * (t.val % 8) + r.val) (1024 * (t.val / 8 % 2) + i.val) := by
  have hN : t.val < 64 := lt_of_lt_of_eq t.isLt (show cfg0.N = 64 from N_0)
  have e := index1 t
  unfold entry rows1
  rw [dif_pos ⟨by omega, by omega⟩]
  blk_point [iblk, V, e]

/-- A point's product. -/
theorem added (c : Dev nD) (t : Fin cfg0.N) (y : S1408x1024.Idx) :
    ∑ r : Fin 1056, (show EReal from iblk m c 0 t (ix2 (n0 := 1056) (n1 := 1408) r (y 0))) * (show EReal from iblk m c 1 t (ix2 (n0 := 1056) (n1 := 1024) r (y 1)))
      = ∑ r : Fin 1056, entry (rows0 (m ((c : Thread nD τ).loc main_arg0))) (1056 * (t.val % 8) + r.val) (1408 * (t.val / 16) + (y 0).val)
        * entry (rows1 (m ((c : Thread nD τ).loc main_arg1))) (1056 * (t.val % 8) + r.val) (1024 * (t.val / 8 % 2) + (y 1).val) :=
  Finset.sum_congr rfl fun r _ => congrArg₂ (fun a b : EReal => a * b) (block0 m c t r (y 0)) (block1 m c t r (y 1))

/-- After a point the buffer holds the sum over the blocks so far. -/
theorem kept (c : Dev nD) (n : ℕ) (hn : n < cfg0.N) (y : S1408x1024.Idx) : (outsAt0 m c n hn).2 y
    = upto (rows0 (m ((c : Thread nD τ).loc main_arg0))) (rows1 (m ((c : Thread nD τ).loc main_arg1))) (1408 * (n / 16) + (y 0).val) (1024 * (n / 8 % 2) + (y 1).val) (1056 * (n % 8 + 1)) := by
  refine upto_fold _ _ 1056 8 (by decide) (fun n => 1408 * (n / 16) + (y 0).val) (fun n => 1024 * (n / 8 % 2) + (y 1).val)
    (fun n hn => (outsAt0 m c n hn).2 y) (fun n h0 => ⟨by dsimp only; omega, by dsimp only; omega⟩) (fun n hn h0 => ?_) (fun n hn h0 => ?_) n hn
  · dsimp only
    rw [outsAt0_A m c ⟨n, hn⟩ h0 (by dsimp only; omega) (by dsimp only; omega)]; dsimp only; rw [kept_A]
    exact (pay_first _ _ y).trans (added m c ⟨n, hn⟩ y)
  · have hs : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 8 = 7
      · rw [outsAt0_C m c ⟨n + 1, hn⟩ h0 (by dsimp only; omega) h2]; dsimp only; rw [kept_C]; rfl
      · rw [outsAt0_B m c ⟨n + 1, hn⟩ h0 (by dsimp only; omega) h2]; dsimp only; rw [kept_B]; rfl
    dsimp only
    rw [hs]
    exact (pay_later _ _ _ y).trans (congrArg (α := EReal) (β := EReal) (_ + ·) (added m c ⟨n + 1, hn⟩ y))

/-- A point that stores a block stores what the buffer holds. -/
theorem stored (c : Dev nD) (t : Fin cfg0.N) (h : t.val % 8 = 7) :
    (dats m 0 c).after 2 t = (outsAt0 m c t.val t.isLt).2 := by
  rw [after0_2, outsAt0_C m c t (by omega) (by omega) h]; dsimp only; rw [stored_C, kept_C]

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  rw [stored m c t h]
  blk_simp
  refine (kept m c _ _ y).trans (Eq.trans ?_ (upto_all _ _ _ _))
  have e := index2 t
  rw [h]
  refine congrArg₂ (fun p q => upto (rows0 (m ((c : Thread nD τ).loc main_arg0))) (rows1 (m ((c : Thread nD τ).loc main_arg1))) p q 8448) ?_ ?_
  · refine Eq.trans ?_ (Pipeline.Window.rect_emb_val win0_2 t y 0).symm
    rw [e]
    exact congrArg (· + _) (Nat.mul_comm ..)
  · refine Eq.trans ?_ (Pipeline.Window.rect_emb_val win0_2 t y 1).symm
    rw [e]
    exact congrArg (· + _) (Nat.mul_comm ..)

end Final

/-- On every device the results are the reference's. -/
theorem algebraic : Cert.algebraic_DownIdeal_DownRefIdeal := by
  intro m g m' g' _ hin
  refine ⟨fun c => product (m ((c.tc : Thread nD τ).loc main_arg0)) (m ((c.tc : Thread nD τ).loc main_arg1)),
    (θ_run DownIdeal.defs _ _).mono (fun r h c => ?_) (run_blocks (F := Ideal) m g),
    (θ_run DownRefIdeal.defs _ _).mono (fun r h c => ?_) (DownRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.DownValue

end
-- ==== Proof.EvenInValue.lean ====
module

public import proofs.«01_k».proof.Proof.Gen.EvenInIdeal.Value
public import proofs.«01_k».proof.Proof.Gen.EvenInRefIdeal.Run
public import proofs.«01_k».proof.Defs
public import proofs.«01_k».proof.Proof.Rows
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.VecWindow
public import Idealize.ShloMosaic.Lib.Pointwise
public import Idealize.ShloMosaic.Lib.Pipeline.ValueKit

/-
  The gradient of the even layer's first mixer weights: the transposed input times the gradient of the output.
  The kernel has one block of the result at a time and walks over the 8448 rows 1056 at a time, in eight steps, adding each step's
  product to a buffer it keeps; at the last the buffer is the result's block.
-/

@[expose] public section

set_option maxRecDepth 16384

noncomputable section

namespace Cert.EvenInValue

open Cert.EvenInIdeal Cert.EvenInIdeal.Gen Cert.EvenInIdeal.Value

open Idealize.ShloMosaic Idealize.ShloMosaic.TcCoe
open Idealize.SL.Sem
open Cert.Rows
open scoped BigOperators

/-! ## What a grid point stores -/

section Stores
variable {F : FTy → Type} [FloatOps F]

theorem zeros2 : (![0, 0] : Fin 2 → Nat) = fun _ => 0 := funext fun a => by fin_cases a <;> rfl

variable (c : Dev nD) (i : grid0.Coords)
    (arg3 : Memref sig .tc .vmem S1056x1024 .bf16) (h3 : arg3.IsWhole)
    (arg4 : Memref sig .tc .vmem S1056x1024 .bf16) (h4 : arg4.IsWhole)
    (arg5 : Memref sig .tc .vmem S1024x1024 .f32) (h5 : arg5.IsWhole)
    (arg6 : Memref sig .tc .vmem S1024x1024 .f32) (h6 : arg6.IsWhole)
    (x0 : Vec F S1056x1024 .bf16) (x1 : Vec F S1056x1024 .bf16) (acc : Vec F S1024x1024 .f32)

/-- The first step leaves its product in the buffer. -/
theorem kept_A (hc0 : cond0_0 i) (hc1 : ¬cond0_1 i) (hc2 : ¬cond0_2 i) :
    sout0_A_0 c i arg3 h3 arg4 h4 arg5 h5 arg6 h6 hc0 hc1 hc2 x0 x1 = k0_pay2 x0 x1 := by
  unfold sout0_A_0
  rw [View.read_writes_junk_eq_canon]
  show View.canon ([⟨Rect.unit ![0, 0] S1024x1024.size inb_S1024x1024_S1024x1024_0_0, k0_pay2 _ _⟩] :
    List (View.Piece (Elt F) S1024x1024 .f32)) = _
  rw [View.canon_unit_zero zeros2]
  exact congrArg₂ (fun a b => k0_pay2 a b) (readWhole _ _ zeros2 ..) (readWhole _ _ zeros2 ..)

/-- A later step adds its product to what it held. -/
theorem kept_B (hc0 : ¬cond0_0 i) (hc1 : cond0_1 i) (hc2 : ¬cond0_2 i) :
    sout0_B_0 c i arg3 h3 arg4 h4 arg5 h5 arg6 h6 hc0 hc1 hc2 x0 x1 acc = k0_pay3 x0 x1 acc := by
  unfold sout0_B_0
  rw [View.read_writes_junk_eq_canon]
  show View.canon ([⟨Rect.unit ![0, 0] S1024x1024.size inb_S1024x1024_S1024x1024_0_0, k0_pay3 _ _ _⟩] :
    List (View.Piece (Elt F) S1024x1024 .f32)) = _
  rw [View.canon_unit_zero zeros2]
  exact congr (congrArg₂ (fun a b => k0_pay3 a b) (readWhole _ _ zeros2 ..) (readWhole _ _ zeros2 ..)) (readWhole _ _ zeros2 ..)

theorem kept_C (hc0 : ¬cond0_0 i) (hc1 : cond0_1 i) (hc2 : cond0_2 i) :
    sout0_C_0 c i arg3 h3 arg4 h4 arg5 h5 arg6 h6 hc0 hc1 hc2 x0 x1 acc = k0_pay3 x0 x1 acc := by
  unfold sout0_C_0
  rw [View.read_writes_junk_eq_canon]
  show View.canon ([⟨Rect.unit ![0, 0] S1024x1024.size inb_S1024x1024_S1024x1024_0_0, k0_pay3 _ _ _⟩] :
    List (View.Piece (Elt F) S1024x1024 .f32)) = _
  rw [View.canon_unit_zero zeros2]
  exact congr (congrArg₂ (fun a b => k0_pay3 a b) (readWhole _ _ zeros2 ..) (readWhole _ _ zeros2 ..)) (readWhole _ _ zeros2 ..)

/-- The last step also stores what the buffer then holds. -/
theorem stored_C (hc0 : ¬cond0_0 i) (hc1 : cond0_1 i) (hc2 : cond0_2 i) :
    out0_C_2 c i arg3 h3 arg4 h4 arg5 h5 arg6 h6 hc0 hc1 hc2 x0 x1 acc = k0_pay3 x0 x1 acc := by
  unfold out0_C_2
  rw [View.read_writes_junk_eq_canon]
  show View.canon ([⟨Rect.unit ![0, 0] S1024x1024.size inb_S1024x1024_S1024x1024_0_0, _⟩] :
    List (View.Piece (Elt F) S1024x1024 .f32)) = _
  rw [View.canon_unit_zero zeros2]
  unfold kernelRun0_C.sl.v12 kernelRun0_C.sl.HS0_1
  refine (View.readCov_full _ _ inb_S1024x1024_S1024x1024_0_0 _ _).trans ?_
  exact congr (congrArg₂ (fun a b => k0_pay3 a b) (readWhole _ _ zeros2 ..) (readWhole _ _ zeros2 ..)) (readWhole _ _ zeros2 ..)

end Stores

/-! ## Over the extended reals -/

/-- The arguments, the place summed over first. -/
abbrev rows0 (a : S8448x2048.Idx → EReal) (k : Fin 8448) (p : Fin 2048) : EReal := a (ix2 (n0 := 8448) (n1 := 2048) k p)
abbrev rows1 (a : S8448x6144.Idx → EReal) (k : Fin 8448) (q : Fin 6144) : EReal := a (ix2 (n0 := 8448) (n1 := 6144) k q)

/-- The product. -/
def product (a0 : S8448x2048.Idx → EReal) (a1 : S8448x6144.Idx → EReal) (j : S2048x6144.Idx) : EReal :=
  ∑ k : Fin 8448, rows0 a0 k (j 0) * rows1 a1 k (j 1)

theorem pay_first (x0 : S1056x1024.Idx → EReal) (x1 : S1056x1024.Idx → EReal) (y : S1024x1024.Idx) :
    k0_pay2 (F := Ideal) x0 x1 y = ∑ r : Fin 1056, x0 (ix2 (n0 := 1056) (n1 := 1024) r (y 0)) * x1 (ix2 (n0 := 1056) (n1 := 1024) r (y 1)) := by
  pointwise [k0_pay2, k0_pay1]

theorem pay_later (x0 : S1056x1024.Idx → EReal) (x1 : S1056x1024.Idx → EReal) (acc : S1024x1024.Idx → EReal) (y : S1024x1024.Idx) :
    k0_pay3 (F := Ideal) x0 x1 acc y = acc y + ∑ r : Fin 1056, x0 (ix2 (n0 := 1056) (n1 := 1024) r (y 0)) * x1 (ix2 (n0 := 1056) (n1 := 1024) r (y 1)) := by
  pointwise [k0_pay3, k0_pay1]

section Final
variable (m : (ℓ : Loc nD τ sig) → Buf (Elt Ideal) ℓ)

/-- The windows' blocks. -/
theorem index0 : ∀ t : Fin cfg0.N, win0_0.index t = ![t.val % 8, t.val / 48] := (by decide +kernel : ∀ t : Fin grid0.N, _)
theorem index1 : ∀ t : Fin cfg0.N, win0_1.index t = ![t.val % 8, t.val / 8 % 6] := (by decide +kernel : ∀ t : Fin grid0.N, _)
theorem index2 : ∀ t : Fin cfg0.N, win0_2.index t = ![t.val / 48, t.val / 8 % 6] := (by decide +kernel : ∀ t : Fin grid0.N, _)

/-- A block's entry in its array. -/
theorem block0 (c : Dev nD) (t : Fin cfg0.N) (r : Fin 1056) (i : Fin 1024) : iblk m c 0 t (ix2 (n0 := 1056) (n1 := 1024) r i)
      = entry (rows0 (m ((c : Thread nD τ).loc main_arg0))) (1056 * (t.val % 8) + r.val) (1024 * (t.val / 48) + i.val) := by
  have hN : t.val < 96 := lt_of_lt_of_eq t.isLt (show cfg0.N = 96 from N_0)
  have e := index0 t
  unfold entry rows0
  rw [dif_pos ⟨by omega, by omega⟩]
  blk_point [iblk, V, e]

theorem block1 (c : Dev nD) (t : Fin cfg0.N) (r : Fin 1056) (i : Fin 1024) : iblk m c 1 t (ix2 (n0 := 1056) (n1 := 1024) r i)
      = entry (rows1 (m ((c : Thread nD τ).loc main_arg1))) (1056 * (t.val % 8) + r.val) (1024 * (t.val / 8 % 6) + i.val) := by
  have hN : t.val < 96 := lt_of_lt_of_eq t.isLt (show cfg0.N = 96 from N_0)
  have e := index1 t
  unfold entry rows1
  rw [dif_pos ⟨by omega, by omega⟩]
  blk_point [iblk, V, e]

/-- A point's product. -/
theorem added (c : Dev nD) (t : Fin cfg0.N) (y : S1024x1024.Idx) :
    ∑ r : Fin 1056, (show EReal from iblk m c 0 t (ix2 (n0 := 1056) (n1 := 1024) r (y 0))) * (show EReal from iblk m c 1 t (ix2 (n0 := 1056) (n1 := 1024) r (y 1)))
      = ∑ r : Fin 1056, entry (rows0 (m ((c : Thread nD τ).loc main_arg0))) (1056 * (t.val % 8) + r.val) (1024 * (t.val / 48) + (y 0).val)
        * entry (rows1 (m ((c : Thread nD τ).loc main_arg1))) (1056 * (t.val % 8) + r.val) (1024 * (t.val / 8 % 6) + (y 1).val) :=
  Finset.sum_congr rfl fun r _ => congrArg₂ (fun a b : EReal => a * b) (block0 m c t r (y 0)) (block1 m c t r (y 1))

/-- After a point the buffer holds the sum over the blocks so far. -/
theorem kept (c : Dev nD) (n : ℕ) (hn : n < cfg0.N) (y : S1024x1024.Idx) : (outsAt0 m c n hn).2 y
    = upto (rows0 (m ((c : Thread nD τ).loc main_arg0))) (rows1 (m ((c : Thread nD τ).loc main_arg1))) (1024 * (n / 48) + (y 0).val) (1024 * (n / 8 % 6) + (y 1).val) (1056 * (n % 8 + 1)) := by
  refine upto_fold _ _ 1056 8 (by decide) (fun n => 1024 * (n / 48) + (y 0).val) (fun n => 1024 * (n / 8 % 6) + (y 1).val)
    (fun n hn => (outsAt0 m c n hn).2 y) (fun n h0 => ⟨by dsimp only; omega, by dsimp only; omega⟩) (fun n hn h0 => ?_) (fun n hn h0 => ?_) n hn
  · dsimp only
    rw [outsAt0_A m c ⟨n, hn⟩ h0 (by dsimp only; omega) (by dsimp only; omega)]; dsimp only; rw [kept_A]
    exact (pay_first _ _ y).trans (added m c ⟨n, hn⟩ y)
  · have hs : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 8 = 7
      · rw [outsAt0_C m c ⟨n + 1, hn⟩ h0 (by dsimp only; omega) h2]; dsimp only; rw [kept_C]; rfl
      · rw [outsAt0_B m c ⟨n + 1, hn⟩ h0 (by dsimp only; omega) h2]; dsimp only; rw [kept_B]; rfl
    dsimp only
    rw [hs]
    exact (pay_later _ _ _ y).trans (congrArg (α := EReal) (β := EReal) (_ + ·) (added m c ⟨n + 1, hn⟩ y))

/-- A point that stores a block stores what the buffer holds. -/
theorem stored (c : Dev nD) (t : Fin cfg0.N) (h : t.val % 8 = 7) :
    (dats m 0 c).after 2 t = (outsAt0 m c t.val t.isLt).2 := by
  rw [after0_2, outsAt0_C m c t (by omega) (by omega) h]; dsimp only; rw [stored_C, kept_C]

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  rw [stored m c t h]
  blk_simp
  refine (kept m c _ _ y).trans (Eq.trans ?_ (upto_all _ _ _ _))
  have e := index2 t
  rw [h]
  refine congrArg₂ (fun p q => upto (rows0 (m ((c : Thread nD τ).loc main_arg0))) (rows1 (m ((c : Thread nD τ).loc main_arg1))) p q 8448) ?_ ?_
  · refine Eq.trans ?_ (Pipeline.Window.rect_emb_val win0_2 t y 0).symm
    rw [e]
    exact congrArg (· + _) (Nat.mul_comm ..)
  · refine Eq.trans ?_ (Pipeline.Window.rect_emb_val win0_2 t y 1).symm
    rw [e]
    exact congrArg (· + _) (Nat.mul_comm ..)

end Final

/-- On every device the results are the reference's. -/
theorem algebraic : Cert.algebraic_EvenInIdeal_EvenInRefIdeal := by
  intro m g m' g' _ hin
  refine ⟨fun c => product (m ((c.tc : Thread nD τ).loc main_arg0)) (m ((c.tc : Thread nD τ).loc main_arg1)),
    (θ_run EvenInIdeal.defs _ _).mono (fun r h c => ?_) (run_blocks (F := Ideal) m g),
    (θ_run EvenInRefIdeal.defs _ _).mono (fun r h c => ?_) (EvenInRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.EvenInValue

end
-- ==== Proof.EvenOutValue.lean ====
module

public import proofs.«01_k».proof.Proof.Gen.EvenOutIdeal.Value
public import proofs.«01_k».proof.Proof.Gen.EvenOutRefIdeal.Run
public import proofs.«01_k».proof.Defs
public import proofs.«01_k».proof.Proof.Rows
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.VecWindow
public import Idealize.ShloMosaic.Lib.Pointwise
public import Idealize.ShloMosaic.Lib.Pipeline.ValueKit

/-
  The gradient of the even layer's last mixer weights: the transposed input times the gradient of the output.
  The kernel has one block of the result at a time and walks over the 8448 rows 1056 at a time, in eight steps, adding each step's
  product to a buffer it keeps; at the last the buffer is the result's block.
-/

@[expose] public section

set_option maxRecDepth 16384

noncomputable section

namespace Cert.EvenOutValue

open Cert.EvenOutIdeal Cert.EvenOutIdeal.Gen Cert.EvenOutIdeal.Value

open Idealize.ShloMosaic Idealize.ShloMosaic.TcCoe
open Idealize.SL.Sem
open Cert.Rows
open scoped BigOperators

/-! ## What a grid point stores -/

section Stores
variable {F : FTy → Type} [FloatOps F]

theorem zeros2 : (![0, 0] : Fin 2 → Nat) = fun _ => 0 := funext fun a => by fin_cases a <;> rfl

variable (c : Dev nD) (i : grid0.Coords)
    (arg3 : Memref sig .tc .vmem S1056x1024 .bf16) (h3 : arg3.IsWhole)
    (arg4 : Memref sig .tc .vmem S1056x1024 .bf16) (h4 : arg4.IsWhole)
    (arg5 : Memref sig .tc .vmem S1024x1024 .f32) (h5 : arg5.IsWhole)
    (arg6 : Memref sig .tc .vmem S1024x1024 .f32) (h6 : arg6.IsWhole)
    (x0 : Vec F S1056x1024 .bf16) (x1 : Vec F S1056x1024 .bf16) (acc : Vec F S1024x1024 .f32)

/-- The first step leaves its product in the buffer. -/
theorem kept_A (hc0 : cond0_0 i) (hc1 : ¬cond0_1 i) (hc2 : ¬cond0_2 i) :
    sout0_A_0 c i arg3 h3 arg4 h4 arg5 h5 arg6 h6 hc0 hc1 hc2 x0 x1 = k0_pay2 x0 x1 := by
  unfold sout0_A_0
  rw [View.read_writes_junk_eq_canon]
  show View.canon ([⟨Rect.unit ![0, 0] S1024x1024.size inb_S1024x1024_S1024x1024_0_0, k0_pay2 _ _⟩] :
    List (View.Piece (Elt F) S1024x1024 .f32)) = _
  rw [View.canon_unit_zero zeros2]
  exact congrArg₂ (fun a b => k0_pay2 a b) (readWhole _ _ zeros2 ..) (readWhole _ _ zeros2 ..)

/-- A later step adds its product to what it held. -/
theorem kept_B (hc0 : ¬cond0_0 i) (hc1 : cond0_1 i) (hc2 : ¬cond0_2 i) :
    sout0_B_0 c i arg3 h3 arg4 h4 arg5 h5 arg6 h6 hc0 hc1 hc2 x0 x1 acc = k0_pay3 x0 x1 acc := by
  unfold sout0_B_0
  rw [View.read_writes_junk_eq_canon]
  show View.canon ([⟨Rect.unit ![0, 0] S1024x1024.size inb_S1024x1024_S1024x1024_0_0, k0_pay3 _ _ _⟩] :
    List (View.Piece (Elt F) S1024x1024 .f32)) = _
  rw [View.canon_unit_zero zeros2]
  exact congr (congrArg₂ (fun a b => k0_pay3 a b) (readWhole _ _ zeros2 ..) (readWhole _ _ zeros2 ..)) (readWhole _ _ zeros2 ..)

theorem kept_C (hc0 : ¬cond0_0 i) (hc1 : cond0_1 i) (hc2 : cond0_2 i) :
    sout0_C_0 c i arg3 h3 arg4 h4 arg5 h5 arg6 h6 hc0 hc1 hc2 x0 x1 acc = k0_pay3 x0 x1 acc := by
  unfold sout0_C_0
  rw [View.read_writes_junk_eq_canon]
  show View.canon ([⟨Rect.unit ![0, 0] S1024x1024.size inb_S1024x1024_S1024x1024_0_0, k0_pay3 _ _ _⟩] :
    List (View.Piece (Elt F) S1024x1024 .f32)) = _
  rw [View.canon_unit_zero zeros2]
  exact congr (congrArg₂ (fun a b => k0_pay3 a b) (readWhole _ _ zeros2 ..) (readWhole _ _ zeros2 ..)) (readWhole _ _ zeros2 ..)

/-- The last step also stores what the buffer then holds. -/
theorem stored_C (hc0 : ¬cond0_0 i) (hc1 : cond0_1 i) (hc2 : cond0_2 i) :
    out0_C_2 c i arg3 h3 arg4 h4 arg5 h5 arg6 h6 hc0 hc1 hc2 x0 x1 acc = k0_pay3 x0 x1 acc := by
  unfold out0_C_2
  rw [View.read_writes_junk_eq_canon]
  show View.canon ([⟨Rect.unit ![0, 0] S1024x1024.size inb_S1024x1024_S1024x1024_0_0, _⟩] :
    List (View.Piece (Elt F) S1024x1024 .f32)) = _
  rw [View.canon_unit_zero zeros2]
  unfold kernelRun0_C.sl.v12 kernelRun0_C.sl.HS0_1
  refine (View.readCov_full _ _ inb_S1024x1024_S1024x1024_0_0 _ _).trans ?_
  exact congr (congrArg₂ (fun a b => k0_pay3 a b) (readWhole _ _ zeros2 ..) (readWhole _ _ zeros2 ..)) (readWhole _ _ zeros2 ..)

end Stores

/-! ## Over the extended reals -/

/-- The arguments, the place summed over first. -/
abbrev rows0 (a : S8448x2048.Idx → EReal) (k : Fin 8448) (p : Fin 2048) : EReal := a (ix2 (n0 := 8448) (n1 := 2048) k p)
abbrev rows1 (a : S8448x2048.Idx → EReal) (k : Fin 8448) (q : Fin 2048) : EReal := a (ix2 (n0 := 8448) (n1 := 2048) k q)

/-- The product. -/
def product (a0 : S8448x2048.Idx → EReal) (a1 : S8448x2048.Idx → EReal) (j : S2048x2048.Idx) : EReal :=
  ∑ k : Fin 8448, rows0 a0 k (j 0) * rows1 a1 k (j 1)

theorem pay_first (x0 : S1056x1024.Idx → EReal) (x1 : S1056x1024.Idx → EReal) (y : S1024x1024.Idx) :
    k0_pay2 (F := Ideal) x0 x1 y = ∑ r : Fin 1056, x0 (ix2 (n0 := 1056) (n1 := 1024) r (y 0)) * x1 (ix2 (n0 := 1056) (n1 := 1024) r (y 1)) := by
  pointwise [k0_pay2, k0_pay1]

theorem pay_later (x0 : S1056x1024.Idx → EReal) (x1 : S1056x1024.Idx → EReal) (acc : S1024x1024.Idx → EReal) (y : S1024x1024.Idx) :
    k0_pay3 (F := Ideal) x0 x1 acc y = acc y + ∑ r : Fin 1056, x0 (ix2 (n0 := 1056) (n1 := 1024) r (y 0)) * x1 (ix2 (n0 := 1056) (n1 := 1024) r (y 1)) := by
  pointwise [k0_pay3, k0_pay1]

section Final
variable (m : (ℓ : Loc nD τ sig) → Buf (Elt Ideal) ℓ)

/-- The windows' blocks. -/
theorem index0 : ∀ t : Fin cfg0.N, win0_0.index t = ![t.val % 8, t.val / 16] := (by decide +kernel : ∀ t : Fin grid0.N, _)
theorem index1 : ∀ t : Fin cfg0.N, win0_1.index t = ![t.val % 8, t.val / 8 % 2] := (by decide +kernel : ∀ t : Fin grid0.N, _)
theorem index2 : ∀ t : Fin cfg0.N, win0_2.index t = ![t.val / 16, t.val / 8 % 2] := (by decide +kernel : ∀ t : Fin grid0.N, _)

/-- A block's entry in its array. -/
theorem block0 (c : Dev nD) (t : Fin cfg0.N) (r : Fin 1056) (i : Fin 1024) : iblk m c 0 t (ix2 (n0 := 1056) (n1 := 1024) r i)
      = entry (rows0 (m ((c : Thread nD τ).loc main_arg0))) (1056 * (t.val % 8) + r.val) (1024 * (t.val / 16) + i.val) := by
  have hN : t.val < 32 := lt_of_lt_of_eq t.isLt (show cfg0.N = 32 from N_0)
  have e := index0 t
  unfold entry rows0
  rw [dif_pos ⟨by omega, by omega⟩]
  blk_point [iblk, V, e]

theorem block1 (c : Dev nD) (t : Fin cfg0.N) (r : Fin 1056) (i : Fin 1024) : iblk m c 1 t (ix2 (n0 := 1056) (n1 := 1024) r i)
      = entry (rows1 (m ((c : Thread nD τ).loc main_arg1))) (1056 * (t.val % 8) + r.val) (1024 * (t.val / 8 % 2) + i.val) := by
  have hN : t.val < 32 := lt_of_lt_of_eq t.isLt (show cfg0.N = 32 from N_0)
  have e := index1 t
  unfold entry rows1
  rw [dif_pos ⟨by omega, by omega⟩]
  blk_point [iblk, V, e]

/-- A point's product. -/
theorem added (c : Dev nD) (t : Fin cfg0.N) (y : S1024x1024.Idx) :
    ∑ r : Fin 1056, (show EReal from iblk m c 0 t (ix2 (n0 := 1056) (n1 := 1024) r (y 0))) * (show EReal from iblk m c 1 t (ix2 (n0 := 1056) (n1 := 1024) r (y 1)))
      = ∑ r : Fin 1056, entry (rows0 (m ((c : Thread nD τ).loc main_arg0))) (1056 * (t.val % 8) + r.val) (1024 * (t.val / 16) + (y 0).val)
        * entry (rows1 (m ((c : Thread nD τ).loc main_arg1))) (1056 * (t.val % 8) + r.val) (1024 * (t.val / 8 % 2) + (y 1).val) :=
  Finset.sum_congr rfl fun r _ => congrArg₂ (fun a b : EReal => a * b) (block0 m c t r (y 0)) (block1 m c t r (y 1))

/-- After a point the buffer holds the sum over the blocks so far. -/
theorem kept (c : Dev nD) (n : ℕ) (hn : n < cfg0.N) (y : S1024x1024.Idx) : (outsAt0 m c n hn).2 y
    = upto (rows0 (m ((c : Thread nD τ).loc main_arg0))) (rows1 (m ((c : Thread nD τ).loc main_arg1))) (1024 * (n / 16) + (y 0).val) (1024 * (n / 8 % 2) + (y 1).val) (1056 * (n % 8 + 1)) := by
  refine upto_fold _ _ 1056 8 (by decide) (fun n => 1024 * (n / 16) + (y 0).val) (fun n => 1024 * (n / 8 % 2) + (y 1).val)
    (fun n hn => (outsAt0 m c n hn).2 y) (fun n h0 => ⟨by dsimp only; omega, by dsimp only; omega⟩) (fun n hn h0 => ?_) (fun n hn h0 => ?_) n hn
  · dsimp only
    rw [outsAt0_A m c ⟨n, hn⟩ h0 (by dsimp only; omega) (by dsimp only; omega)]; dsimp only; rw [kept_A]
    exact (pay_first _ _ y).trans (added m c ⟨n, hn⟩ y)
  · have hs : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 8 = 7
      · rw [outsAt0_C m c ⟨n + 1, hn⟩ h0 (by dsimp only; omega) h2]; dsimp only; rw [kept_C]; rfl
      · rw [outsAt0_B m c ⟨n + 1, hn⟩ h0 (by dsimp only; omega) h2]; dsimp only; rw [kept_B]; rfl
    dsimp only
    rw [hs]
    exact (pay_later _ _ _ y).trans (congrArg (α := EReal) (β := EReal) (_ + ·) (added m c ⟨n + 1, hn⟩ y))

/-- A point that stores a block stores what the buffer holds. -/
theorem stored (c : Dev nD) (t : Fin cfg0.N) (h : t.val % 8 = 7) :
    (dats m 0 c).after 2 t = (outsAt0 m c t.val t.isLt).2 := by
  rw [after0_2, outsAt0_C m c t (by omega) (by omega) h]; dsimp only; rw [stored_C, kept_C]

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  rw [stored m c t h]
  blk_simp
  refine (kept m c _ _ y).trans (Eq.trans ?_ (upto_all _ _ _ _))
  have e := index2 t
  rw [h]
  refine congrArg₂ (fun p q => upto (rows0 (m ((c : Thread nD τ).loc main_arg0))) (rows1 (m ((c : Thread nD τ).loc main_arg1))) p q 8448) ?_ ?_
  · refine Eq.trans ?_ (Pipeline.Window.rect_emb_val win0_2 t y 0).symm
    rw [e]
    exact congrArg (· + _) (Nat.mul_comm ..)
  · refine Eq.trans ?_ (Pipeline.Window.rect_emb_val win0_2 t y 1).symm
    rw [e]
    exact congrArg (· + _) (Nat.mul_comm ..)

end Final

/-- On every device the results are the reference's. -/
theorem algebraic : Cert.algebraic_EvenOutIdeal_EvenOutRefIdeal := by
  intro m g m' g' _ hin
  refine ⟨fun c => product (m ((c.tc : Thread nD τ).loc main_arg0)) (m ((c.tc : Thread nD τ).loc main_arg1)),
    (θ_run EvenOutIdeal.defs _ _).mono (fun r h c => ?_) (run_blocks (F := Ideal) m g),
    (θ_run EvenOutRefIdeal.defs _ _).mono (fun r h c => ?_) (EvenOutRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.EvenOutValue

end
-- ==== Proof.OddInValue.lean ====
module

public import proofs.«01_k».proof.Proof.Gen.OddInIdeal.Value
public import proofs.«01_k».proof.Proof.Gen.OddInRefIdeal.Run
public import proofs.«01_k».proof.Defs
public import proofs.«01_k».proof.Proof.Rows
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.VecWindow
public import Idealize.ShloMosaic.Lib.Pointwise
public import Idealize.ShloMosaic.Lib.Pipeline.ValueKit

/-
  The gradient of the odd layer's first mixer weights: the transposed input times the gradient of the output.
  The kernel has one block of the result at a time and walks over the 8448 rows 1056 at a time, in eight steps, adding each step's
  product to a buffer it keeps; at the last the buffer is the result's block.
-/

@[expose] public section

set_option maxRecDepth 16384

noncomputable section

namespace Cert.OddInValue

open Cert.OddInIdeal Cert.OddInIdeal.Gen Cert.OddInIdeal.Value

open Idealize.ShloMosaic Idealize.ShloMosaic.TcCoe
open Idealize.SL.Sem
open Cert.Rows
open scoped BigOperators

/-! ## What a grid point stores -/

section Stores
variable {F : FTy → Type} [FloatOps F]

theorem zeros2 : (![0, 0] : Fin 2 → Nat) = fun _ => 0 := funext fun a => by fin_cases a <;> rfl

variable (c : Dev nD) (i : grid0.Coords)
    (arg3 : Memref sig .tc .vmem S1056x1024 .bf16) (h3 : arg3.IsWhole)
    (arg4 : Memref sig .tc .vmem S1056x1024 .bf16) (h4 : arg4.IsWhole)
    (arg5 : Memref sig .tc .vmem S1024x1024 .f32) (h5 : arg5.IsWhole)
    (arg6 : Memref sig .tc .vmem S1024x1024 .f32) (h6 : arg6.IsWhole)
    (x0 : Vec F S1056x1024 .bf16) (x1 : Vec F S1056x1024 .bf16) (acc : Vec F S1024x1024 .f32)

/-- The first step leaves its product in the buffer. -/
theorem kept_A (hc0 : cond0_0 i) (hc1 : ¬cond0_1 i) (hc2 : ¬cond0_2 i) :
    sout0_A_0 c i arg3 h3 arg4 h4 arg5 h5 arg6 h6 hc0 hc1 hc2 x0 x1 = k0_pay2 x0 x1 := by
  unfold sout0_A_0
  rw [View.read_writes_junk_eq_canon]
  show View.canon ([⟨Rect.unit ![0, 0] S1024x1024.size inb_S1024x1024_S1024x1024_0_0, k0_pay2 _ _⟩] :
    List (View.Piece (Elt F) S1024x1024 .f32)) = _
  rw [View.canon_unit_zero zeros2]
  exact congrArg₂ (fun a b => k0_pay2 a b) (readWhole _ _ zeros2 ..) (readWhole _ _ zeros2 ..)

/-- A later step adds its product to what it held. -/
theorem kept_B (hc0 : ¬cond0_0 i) (hc1 : cond0_1 i) (hc2 : ¬cond0_2 i) :
    sout0_B_0 c i arg3 h3 arg4 h4 arg5 h5 arg6 h6 hc0 hc1 hc2 x0 x1 acc = k0_pay3 x0 x1 acc := by
  unfold sout0_B_0
  rw [View.read_writes_junk_eq_canon]
  show View.canon ([⟨Rect.unit ![0, 0] S1024x1024.size inb_S1024x1024_S1024x1024_0_0, k0_pay3 _ _ _⟩] :
    List (View.Piece (Elt F) S1024x1024 .f32)) = _
  rw [View.canon_unit_zero zeros2]
  exact congr (congrArg₂ (fun a b => k0_pay3 a b) (readWhole _ _ zeros2 ..) (readWhole _ _ zeros2 ..)) (readWhole _ _ zeros2 ..)

theorem kept_C (hc0 : ¬cond0_0 i) (hc1 : cond0_1 i) (hc2 : cond0_2 i) :
    sout0_C_0 c i arg3 h3 arg4 h4 arg5 h5 arg6 h6 hc0 hc1 hc2 x0 x1 acc = k0_pay3 x0 x1 acc := by
  unfold sout0_C_0
  rw [View.read_writes_junk_eq_canon]
  show View.canon ([⟨Rect.unit ![0, 0] S1024x1024.size inb_S1024x1024_S1024x1024_0_0, k0_pay3 _ _ _⟩] :
    List (View.Piece (Elt F) S1024x1024 .f32)) = _
  rw [View.canon_unit_zero zeros2]
  exact congr (congrArg₂ (fun a b => k0_pay3 a b) (readWhole _ _ zeros2 ..) (readWhole _ _ zeros2 ..)) (readWhole _ _ zeros2 ..)

/-- The last step also stores what the buffer then holds. -/
theorem stored_C (hc0 : ¬cond0_0 i) (hc1 : cond0_1 i) (hc2 : cond0_2 i) :
    out0_C_2 c i arg3 h3 arg4 h4 arg5 h5 arg6 h6 hc0 hc1 hc2 x0 x1 acc = k0_pay3 x0 x1 acc := by
  unfold out0_C_2
  rw [View.read_writes_junk_eq_canon]
  show View.canon ([⟨Rect.unit ![0, 0] S1024x1024.size inb_S1024x1024_S1024x1024_0_0, _⟩] :
    List (View.Piece (Elt F) S1024x1024 .f32)) = _
  rw [View.canon_unit_zero zeros2]
  unfold kernelRun0_C.sl.v12 kernelRun0_C.sl.HS0_1
  refine (View.readCov_full _ _ inb_S1024x1024_S1024x1024_0_0 _ _).trans ?_
  exact congr (congrArg₂ (fun a b => k0_pay3 a b) (readWhole _ _ zeros2 ..) (readWhole _ _ zeros2 ..)) (readWhole _ _ zeros2 ..)

end Stores

/-! ## Over the extended reals -/

/-- The arguments, the place summed over first. -/
abbrev rows0 (a : S8448x2048.Idx → EReal) (k : Fin 8448) (p : Fin 2048) : EReal := a (ix2 (n0 := 8448) (n1 := 2048) k p)
abbrev rows1 (a : S8448x12288.Idx → EReal) (k : Fin 8448) (q : Fin 12288) : EReal := a (ix2 (n0 := 8448) (n1 := 12288) k q)

/-- The product. -/
def product (a0 : S8448x2048.Idx → EReal) (a1 : S8448x12288.Idx → EReal) (j : S2048x12288.Idx) : EReal :=
  ∑ k : Fin 8448, rows0 a0 k (j 0) * rows1 a1 k (j 1)

theorem pay_first (x0 : S1056x1024.Idx → EReal) (x1 : S1056x1024.Idx → EReal) (y : S1024x1024.Idx) :
    k0_pay2 (F := Ideal) x0 x1 y = ∑ r : Fin 1056, x0 (ix2 (n0 := 1056) (n1 := 1024) r (y 0)) * x1 (ix2 (n0 := 1056) (n1 := 1024) r (y 1)) := by
  pointwise [k0_pay2, k0_pay1]

theorem pay_later (x0 : S1056x1024.Idx → EReal) (x1 : S1056x1024.Idx → EReal) (acc : S1024x1024.Idx → EReal) (y : S1024x1024.Idx) :
    k0_pay3 (F := Ideal) x0 x1 acc y = acc y + ∑ r : Fin 1056, x0 (ix2 (n0 := 1056) (n1 := 1024) r (y 0)) * x1 (ix2 (n0 := 1056) (n1 := 1024) r (y 1)) := by
  pointwise [k0_pay3, k0_pay1]

section Final
variable (m : (ℓ : Loc nD τ sig) → Buf (Elt Ideal) ℓ)

/-- The windows' blocks. -/
theorem index0 : ∀ t : Fin cfg0.N, win0_0.index t = ![t.val % 8, t.val / 96] := (by decide +kernel : ∀ t : Fin grid0.N, _)
theorem index1 : ∀ t : Fin cfg0.N, win0_1.index t = ![t.val % 8, t.val / 8 % 12] := (by decide +kernel : ∀ t : Fin grid0.N, _)
theorem index2 : ∀ t : Fin cfg0.N, win0_2.index t = ![t.val / 96, t.val / 8 % 12] := (by decide +kernel : ∀ t : Fin grid0.N, _)

/-- A block's entry in its array. -/
theorem block0 (c : Dev nD) (t : Fin cfg0.N) (r : Fin 1056) (i : Fin 1024) : iblk m c 0 t (ix2 (n0 := 1056) (n1 := 1024) r i)
      = entry (rows0 (m ((c : Thread nD τ).loc main_arg0))) (1056 * (t.val % 8) + r.val) (1024 * (t.val / 96) + i.val) := by
  have hN : t.val < 192 := lt_of_lt_of_eq t.isLt (show cfg0.N = 192 from N_0)
  have e := index0 t
  unfold entry rows0
  rw [dif_pos ⟨by omega, by omega⟩]
  blk_point [iblk, V, e]

theorem block1 (c : Dev nD) (t : Fin cfg0.N) (r : Fin 1056) (i : Fin 1024) : iblk m c 1 t (ix2 (n0 := 1056) (n1 := 1024) r i)
      = entry (rows1 (m ((c : Thread nD τ).loc main_arg1))) (1056 * (t.val % 8) + r.val) (1024 * (t.val / 8 % 12) + i.val) := by
  have hN : t.val < 192 := lt_of_lt_of_eq t.isLt (show cfg0.N = 192 from N_0)
  have e := index1 t
  unfold entry rows1
  rw [dif_pos ⟨by omega, by omega⟩]
  blk_point [iblk, V, e]

/-- A point's product. -/
theorem added (c : Dev nD) (t : Fin cfg0.N) (y : S1024x1024.Idx) :
    ∑ r : Fin 1056, (show EReal from iblk m c 0 t (ix2 (n0 := 1056) (n1 := 1024) r (y 0))) * (show EReal from iblk m c 1 t (ix2 (n0 := 1056) (n1 := 1024) r (y 1)))
      = ∑ r : Fin 1056, entry (rows0 (m ((c : Thread nD τ).loc main_arg0))) (1056 * (t.val % 8) + r.val) (1024 * (t.val / 96) + (y 0).val)
        * entry (rows1 (m ((c : Thread nD τ).loc main_arg1))) (1056 * (t.val % 8) + r.val) (1024 * (t.val / 8 % 12) + (y 1).val) :=
  Finset.sum_congr rfl fun r _ => congrArg₂ (fun a b : EReal => a * b) (block0 m c t r (y 0)) (block1 m c t r (y 1))

/-- After a point the buffer holds the sum over the blocks so far. -/
theorem kept (c : Dev nD) (n : ℕ) (hn : n < cfg0.N) (y : S1024x1024.Idx) : (outsAt0 m c n hn).2 y
    = upto (rows0 (m ((c : Thread nD τ).loc main_arg0))) (rows1 (m ((c : Thread nD τ).loc main_arg1))) (1024 * (n / 96) + (y 0).val) (1024 * (n / 8 % 12) + (y 1).val) (1056 * (n % 8 + 1)) := by
  refine upto_fold _ _ 1056 8 (by decide) (fun n => 1024 * (n / 96) + (y 0).val) (fun n => 1024 * (n / 8 % 12) + (y 1).val)
    (fun n hn => (outsAt0 m c n hn).2 y) (fun n h0 => ⟨by dsimp only; omega, by dsimp only; omega⟩) (fun n hn h0 => ?_) (fun n hn h0 => ?_) n hn
  · dsimp only
    rw [outsAt0_A m c ⟨n, hn⟩ h0 (by dsimp only; omega) (by dsimp only; omega)]; dsimp only; rw [kept_A]
    exact (pay_first _ _ y).trans (added m c ⟨n, hn⟩ y)
  · have hs : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 8 = 7
      · rw [outsAt0_C m c ⟨n + 1, hn⟩ h0 (by dsimp only; omega) h2]; dsimp only; rw [kept_C]; rfl
      · rw [outsAt0_B m c ⟨n + 1, hn⟩ h0 (by dsimp only; omega) h2]; dsimp only; rw [kept_B]; rfl
    dsimp only
    rw [hs]
    exact (pay_later _ _ _ y).trans (congrArg (α := EReal) (β := EReal) (_ + ·) (added m c ⟨n + 1, hn⟩ y))

/-- A point that stores a block stores what the buffer holds. -/
theorem stored (c : Dev nD) (t : Fin cfg0.N) (h : t.val % 8 = 7) :
    (dats m 0 c).after 2 t = (outsAt0 m c t.val t.isLt).2 := by
  rw [after0_2, outsAt0_C m c t (by omega) (by omega) h]; dsimp only; rw [stored_C, kept_C]

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  rw [stored m c t h]
  blk_simp
  refine (kept m c _ _ y).trans (Eq.trans ?_ (upto_all _ _ _ _))
  have e := index2 t
  rw [h]
  refine congrArg₂ (fun p q => upto (rows0 (m ((c : Thread nD τ).loc main_arg0))) (rows1 (m ((c : Thread nD τ).loc main_arg1))) p q 8448) ?_ ?_
  · refine Eq.trans ?_ (Pipeline.Window.rect_emb_val win0_2 t y 0).symm
    rw [e]
    exact congrArg (· + _) (Nat.mul_comm ..)
  · refine Eq.trans ?_ (Pipeline.Window.rect_emb_val win0_2 t y 1).symm
    rw [e]
    exact congrArg (· + _) (Nat.mul_comm ..)

end Final

/-- On every device the results are the reference's. -/
theorem algebraic : Cert.algebraic_OddInIdeal_OddInRefIdeal := by
  intro m g m' g' _ hin
  refine ⟨fun c => product (m ((c.tc : Thread nD τ).loc main_arg0)) (m ((c.tc : Thread nD τ).loc main_arg1)),
    (θ_run OddInIdeal.defs _ _).mono (fun r h c => ?_) (run_blocks (F := Ideal) m g),
    (θ_run OddInRefIdeal.defs _ _).mono (fun r h c => ?_) (OddInRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.OddInValue

end
-- ==== Proof.OddGateValue.lean ====
module

public import proofs.«01_k».proof.Proof.Gen.OddGateIdeal.Value
public import proofs.«01_k».proof.Proof.Gen.OddGateRefIdeal.Run
public import proofs.«01_k».proof.Defs
public import proofs.«01_k».proof.Proof.Rows
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.VecWindow
public import Idealize.ShloMosaic.Lib.Pointwise
public import Idealize.ShloMosaic.Lib.Pipeline.ValueKit

/-
  The gradient of the odd layer's gate weights: the transposed input times the gradient of the output.
  The kernel has one block of the result at a time and walks over the 8448 rows 1056 at a time, in eight steps, adding each step's
  product to a buffer it keeps; at the last the buffer is the result's block.
-/

@[expose] public section

set_option maxRecDepth 16384

noncomputable section

namespace Cert.OddGateValue

open Cert.OddGateIdeal Cert.OddGateIdeal.Gen Cert.OddGateIdeal.Value

open Idealize.ShloMosaic Idealize.ShloMosaic.TcCoe
open Idealize.SL.Sem
open Cert.Rows
open scoped BigOperators

/-! ## What a grid point stores -/

section Stores
variable {F : FTy → Type} [FloatOps F]

theorem zeros2 : (![0, 0] : Fin 2 → Nat) = fun _ => 0 := funext fun a => by fin_cases a <;> rfl

variable (c : Dev nD) (i : grid0.Coords)
    (arg3 : Memref sig .tc .vmem S1056x1024 .bf16) (h3 : arg3.IsWhole)
    (arg4 : Memref sig .tc .vmem S1056x128 .bf16) (h4 : arg4.IsWhole)
    (arg5 : Memref sig .tc .vmem S1024x128 .f32) (h5 : arg5.IsWhole)
    (arg6 : Memref sig .tc .vmem S1024x128 .f32) (h6 : arg6.IsWhole)
    (x0 : Vec F S1056x1024 .bf16) (x1 : Vec F S1056x128 .bf16) (acc : Vec F S1024x128 .f32)

/-- The first step leaves its product in the buffer. -/
theorem kept_A (hc0 : cond0_0 i) (hc1 : ¬cond0_1 i) (hc2 : ¬cond0_2 i) :
    sout0_A_0 c i arg3 h3 arg4 h4 arg5 h5 arg6 h6 hc0 hc1 hc2 x0 x1 = k0_pay2 x0 x1 := by
  unfold sout0_A_0
  rw [View.read_writes_junk_eq_canon]
  show View.canon ([⟨Rect.unit ![0, 0] S1024x128.size inb_S1024x128_S1024x128_0_0, k0_pay2 _ _⟩] :
    List (View.Piece (Elt F) S1024x128 .f32)) = _
  rw [View.canon_unit_zero zeros2]
  exact congrArg₂ (fun a b => k0_pay2 a b) (readWhole _ _ zeros2 ..) (readWhole _ _ zeros2 ..)

/-- A later step adds its product to what it held. -/
theorem kept_B (hc0 : ¬cond0_0 i) (hc1 : cond0_1 i) (hc2 : ¬cond0_2 i) :
    sout0_B_0 c i arg3 h3 arg4 h4 arg5 h5 arg6 h6 hc0 hc1 hc2 x0 x1 acc = k0_pay3 x0 x1 acc := by
  unfold sout0_B_0
  rw [View.read_writes_junk_eq_canon]
  show View.canon ([⟨Rect.unit ![0, 0] S1024x128.size inb_S1024x128_S1024x128_0_0, k0_pay3 _ _ _⟩] :
    List (View.Piece (Elt F) S1024x128 .f32)) = _
  rw [View.canon_unit_zero zeros2]
  exact congr (congrArg₂ (fun a b => k0_pay3 a b) (readWhole _ _ zeros2 ..) (readWhole _ _ zeros2 ..)) (readWhole _ _ zeros2 ..)

theorem kept_C (hc0 : ¬cond0_0 i) (hc1 : cond0_1 i) (hc2 : cond0_2 i) :
    sout0_C_0 c i arg3 h3 arg4 h4 arg5 h5 arg6 h6 hc0 hc1 hc2 x0 x1 acc = k0_pay3 x0 x1 acc := by
  unfold sout0_C_0
  rw [View.read_writes_junk_eq_canon]
  show View.canon ([⟨Rect.unit ![0, 0] S1024x128.size inb_S1024x128_S1024x128_0_0, k0_pay3 _ _ _⟩] :
    List (View.Piece (Elt F) S1024x128 .f32)) = _
  rw [View.canon_unit_zero zeros2]
  exact congr (congrArg₂ (fun a b => k0_pay3 a b) (readWhole _ _ zeros2 ..) (readWhole _ _ zeros2 ..)) (readWhole _ _ zeros2 ..)

/-- The last step also stores what the buffer then holds. -/
theorem stored_C (hc0 : ¬cond0_0 i) (hc1 : cond0_1 i) (hc2 : cond0_2 i) :
    out0_C_2 c i arg3 h3 arg4 h4 arg5 h5 arg6 h6 hc0 hc1 hc2 x0 x1 acc = k0_pay3 x0 x1 acc := by
  unfold out0_C_2
  rw [View.read_writes_junk_eq_canon]
  show View.canon ([⟨Rect.unit ![0, 0] S1024x128.size inb_S1024x128_S1024x128_0_0, _⟩] :
    List (View.Piece (Elt F) S1024x128 .f32)) = _
  rw [View.canon_unit_zero zeros2]
  unfold kernelRun0_C.sl.v12 kernelRun0_C.sl.HS0_1
  refine (View.readCov_full _ _ inb_S1024x128_S1024x128_0_0 _ _).trans ?_
  exact congr (congrArg₂ (fun a b => k0_pay3 a b) (readWhole _ _ zeros2 ..) (readWhole _ _ zeros2 ..)) (readWhole _ _ zeros2 ..)

end Stores

/-! ## Over the extended reals -/

/-- The arguments, the place summed over first. -/
abbrev rows0 (a : S8448x2048.Idx → EReal) (k : Fin 8448) (p : Fin 2048) : EReal := a (ix2 (n0 := 8448) (n1 := 2048) k p)
abbrev rows1 (a : S8448x128.Idx → EReal) (k : Fin 8448) (q : Fin 128) : EReal := a (ix2 (n0 := 8448) (n1 := 128) k q)

/-- The product. -/
def product (a0 : S8448x2048.Idx → EReal) (a1 : S8448x128.Idx → EReal) (j : S2048x128.Idx) : EReal :=
  ∑ k : Fin 8448, rows0 a0 k (j 0) * rows1 a1 k (j 1)

theorem pay_first (x0 : S1056x1024.Idx → EReal) (x1 : S1056x128.Idx → EReal) (y : S1024x128.Idx) :
    k0_pay2 (F := Ideal) x0 x1 y = ∑ r : Fin 1056, x0 (ix2 (n0 := 1056) (n1 := 1024) r (y 0)) * x1 (ix2 (n0 := 1056) (n1 := 128) r (y 1)) := by
  pointwise [k0_pay2, k0_pay1]

theorem pay_later (x0 : S1056x1024.Idx → EReal) (x1 : S1056x128.Idx → EReal) (acc : S1024x128.Idx → EReal) (y : S1024x128.Idx) :
    k0_pay3 (F := Ideal) x0 x1 acc y = acc y + ∑ r : Fin 1056, x0 (ix2 (n0 := 1056) (n1 := 1024) r (y 0)) * x1 (ix2 (n0 := 1056) (n1 := 128) r (y 1)) := by
  pointwise [k0_pay3, k0_pay1]

section Final
variable (m : (ℓ : Loc nD τ sig) → Buf (Elt Ideal) ℓ)

/-- The windows' blocks. -/
theorem index0 : ∀ t : Fin cfg0.N, win0_0.index t = ![t.val % 8, t.val / 8] := (by decide +kernel : ∀ t : Fin grid0.N, _)
theorem index1 : ∀ t : Fin cfg0.N, win0_1.index t = ![t.val % 8, t.val / 8 % 1] := (by decide +kernel : ∀ t : Fin grid0.N, _)
theorem index2 : ∀ t : Fin cfg0.N, win0_2.index t = ![t.val / 8, t.val / 8 % 1] := (by decide +kernel : ∀ t : Fin grid0.N, _)

/-- A block's entry in its array. -/
theorem block0 (c : Dev nD) (t : Fin cfg0.N) (r : Fin 1056) (i : Fin 1024) : iblk m c 0 t (ix2 (n0 := 1056) (n1 := 1024) r i)
      = entry (rows0 (m ((c : Thread nD τ).loc main_arg0))) (1056 * (t.val % 8) + r.val) (1024 * (t.val / 8) + i.val) := by
  have hN : t.val < 16 := lt_of_lt_of_eq t.isLt (show cfg0.N = 16 from N_0)
  have e := index0 t
  unfold entry rows0
  rw [dif_pos ⟨by omega, by omega⟩]
  blk_point [iblk, V, e]

theorem block1 (c : Dev nD) (t : Fin cfg0.N) (r : Fin 1056) (i : Fin 128) : iblk m c 1 t (ix2 (n0 := 1056) (n1 := 128) r i)
      = entry (rows1 (m ((c : Thread nD τ).loc main_arg1))) (1056 * (t.val % 8) + r.val) (128 * (t.val / 8 % 1) + i.val) := by
  have hN : t.val < 16 := lt_of_lt_of_eq t.isLt (show cfg0.N = 16 from N_0)
  have e := index1 t
  unfold entry rows1
  rw [dif_pos ⟨by omega, by omega⟩]
  blk_point [iblk, V, e]

/-- A point's product. -/
theorem added (c : Dev nD) (t : Fin cfg0.N) (y : S1024x128.Idx) :
    ∑ r : Fin 1056, (show EReal from iblk m c 0 t (ix2 (n0 := 1056) (n1 := 1024) r (y 0))) * (show EReal from iblk m c 1 t (ix2 (n0 := 1056) (n1 := 128) r (y 1)))
      = ∑ r : Fin 1056, entry (rows0 (m ((c : Thread nD τ).loc main_arg0))) (1056 * (t.val % 8) + r.val) (1024 * (t.val / 8) + (y 0).val)
        * entry (rows1 (m ((c : Thread nD τ).loc main_arg1))) (1056 * (t.val % 8) + r.val) (128 * (t.val / 8 % 1) + (y 1).val) :=
  Finset.sum_congr rfl fun r _ => congrArg₂ (fun a b : EReal => a * b) (block0 m c t r (y 0)) (block1 m c t r (y 1))

/-- After a point the buffer holds the sum over the blocks so far. -/
theorem kept (c : Dev nD) (n : ℕ) (hn : n < cfg0.N) (y : S1024x128.Idx) : (outsAt0 m c n hn).2 y
    = upto (rows0 (m ((c : Thread nD τ).loc main_arg0))) (rows1 (m ((c : Thread nD τ).loc main_arg1))) (1024 * (n / 8) + (y 0).val) (128 * (n / 8 % 1) + (y 1).val) (1056 * (n % 8 + 1)) := by
  refine upto_fold _ _ 1056 8 (by decide) (fun n => 1024 * (n / 8) + (y 0).val) (fun n => 128 * (n / 8 % 1) + (y 1).val)
    (fun n hn => (outsAt0 m c n hn).2 y) (fun n h0 => ⟨by dsimp only; omega, by dsimp only; omega⟩) (fun n hn h0 => ?_) (fun n hn h0 => ?_) n hn
  · dsimp only
    rw [outsAt0_A m c ⟨n, hn⟩ h0 (by dsimp only; omega) (by dsimp only; omega)]; dsimp only; rw [kept_A]
    exact (pay_first _ _ y).trans (added m c ⟨n, hn⟩ y)
  · have hs : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 8 = 7
      · rw [outsAt0_C m c ⟨n + 1, hn⟩ h0 (by dsimp only; omega) h2]; dsimp only; rw [kept_C]; rfl
      · rw [outsAt0_B m c ⟨n + 1, hn⟩ h0 (by dsimp only; omega) h2]; dsimp only; rw [kept_B]; rfl
    dsimp only
    rw [hs]
    exact (pay_later _ _ _ y).trans (congrArg (α := EReal) (β := EReal) (_ + ·) (added m c ⟨n + 1, hn⟩ y))

/-- A point that stores a block stores what the buffer holds. -/
theorem stored (c : Dev nD) (t : Fin cfg0.N) (h : t.val % 8 = 7) :
    (dats m 0 c).after 2 t = (outsAt0 m c t.val t.isLt).2 := by
  rw [after0_2, outsAt0_C m c t (by omega) (by omega) h]; dsimp only; rw [stored_C, kept_C]

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  rw [stored m c t h]
  blk_simp
  refine (kept m c _ _ y).trans (Eq.trans ?_ (upto_all _ _ _ _))
  have e := index2 t
  rw [h]
  refine congrArg₂ (fun p q => upto (rows0 (m ((c : Thread nD τ).loc main_arg0))) (rows1 (m ((c : Thread nD τ).loc main_arg1))) p q 8448) ?_ ?_
  · refine Eq.trans ?_ (Pipeline.Window.rect_emb_val win0_2 t y 0).symm
    rw [e]
    exact congrArg (· + _) (Nat.mul_comm ..)
  · refine Eq.trans ?_ (Pipeline.Window.rect_emb_val win0_2 t y 1).symm
    rw [e]
    exact congrArg (· + _) (Nat.mul_comm ..)

end Final

/-- On every device the results are the reference's. -/
theorem algebraic : Cert.algebraic_OddGateIdeal_OddGateRefIdeal := by
  intro m g m' g' _ hin
  refine ⟨fun c => product (m ((c.tc : Thread nD τ).loc main_arg0)) (m ((c.tc : Thread nD τ).loc main_arg1)),
    (θ_run OddGateIdeal.defs _ _).mono (fun r h c => ?_) (run_blocks (F := Ideal) m g),
    (θ_run OddGateRefIdeal.defs _ _).mono (fun r h c => ?_) (OddGateRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.OddGateValue

end
-- ==== Proof.OddOutValue.lean ====
module

public import proofs.«01_k».proof.Proof.Gen.OddOutIdeal.Value
public import proofs.«01_k».proof.Proof.Gen.OddOutRefIdeal.Run
public import proofs.«01_k».proof.Defs
public import proofs.«01_k».proof.Proof.Rows
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.VecWindow
public import Idealize.ShloMosaic.Lib.Pointwise
public import Idealize.ShloMosaic.Lib.Pipeline.ValueKit

/-
  The gradient of the odd layer's last mixer weights: the transposed input times the gradient of the output.
  The kernel has one block of the result at a time and walks over the 8448 rows 1056 at a time, in eight steps, adding each step's
  product to a buffer it keeps; at the last the buffer is the result's block.
-/

@[expose] public section

set_option maxRecDepth 16384

noncomputable section

namespace Cert.OddOutValue

open Cert.OddOutIdeal Cert.OddOutIdeal.Gen Cert.OddOutIdeal.Value

open Idealize.ShloMosaic Idealize.ShloMosaic.TcCoe
open Idealize.SL.Sem
open Cert.Rows
open scoped BigOperators

/-! ## What a grid point stores -/

section Stores
variable {F : FTy → Type} [FloatOps F]

theorem zeros2 : (![0, 0] : Fin 2 → Nat) = fun _ => 0 := funext fun a => by fin_cases a <;> rfl

variable (c : Dev nD) (i : grid0.Coords)
    (arg3 : Memref sig .tc .vmem S1056x1024 .bf16) (h3 : arg3.IsWhole)
    (arg4 : Memref sig .tc .vmem S1056x1024 .bf16) (h4 : arg4.IsWhole)
    (arg5 : Memref sig .tc .vmem S1024x1024 .f32) (h5 : arg5.IsWhole)
    (arg6 : Memref sig .tc .vmem S1024x1024 .f32) (h6 : arg6.IsWhole)
    (x0 : Vec F S1056x1024 .bf16) (x1 : Vec F S1056x1024 .bf16) (acc : Vec F S1024x1024 .f32)

/-- The first step leaves its product in the buffer. -/
theorem kept_A (hc0 : cond0_0 i) (hc1 : ¬cond0_1 i) (hc2 : ¬cond0_2 i) :
    sout0_A_0 c i arg3 h3 arg4 h4 arg5 h5 arg6 h6 hc0 hc1 hc2 x0 x1 = k0_pay2 x0 x1 := by
  unfold sout0_A_0
  rw [View.read_writes_junk_eq_canon]
  show View.canon ([⟨Rect.unit ![0, 0] S1024x1024.size inb_S1024x1024_S1024x1024_0_0, k0_pay2 _ _⟩] :
    List (View.Piece (Elt F) S1024x1024 .f32)) = _
  rw [View.canon_unit_zero zeros2]
  exact congrArg₂ (fun a b => k0_pay2 a b) (readWhole _ _ zeros2 ..) (readWhole _ _ zeros2 ..)

/-- A later step adds its product to what it held. -/
theorem kept_B (hc0 : ¬cond0_0 i) (hc1 : cond0_1 i) (hc2 : ¬cond0_2 i) :
    sout0_B_0 c i arg3 h3 arg4 h4 arg5 h5 arg6 h6 hc0 hc1 hc2 x0 x1 acc = k0_pay3 x0 x1 acc := by
  unfold sout0_B_0
  rw [View.read_writes_junk_eq_canon]
  show View.canon ([⟨Rect.unit ![0, 0] S1024x1024.size inb_S1024x1024_S1024x1024_0_0, k0_pay3 _ _ _⟩] :
    List (View.Piece (Elt F) S1024x1024 .f32)) = _
  rw [View.canon_unit_zero zeros2]
  exact congr (congrArg₂ (fun a b => k0_pay3 a b) (readWhole _ _ zeros2 ..) (readWhole _ _ zeros2 ..)) (readWhole _ _ zeros2 ..)

theorem kept_C (hc0 : ¬cond0_0 i) (hc1 : cond0_1 i) (hc2 : cond0_2 i) :
    sout0_C_0 c i arg3 h3 arg4 h4 arg5 h5 arg6 h6 hc0 hc1 hc2 x0 x1 acc = k0_pay3 x0 x1 acc := by
  unfold sout0_C_0
  rw [View.read_writes_junk_eq_canon]
  show View.canon ([⟨Rect.unit ![0, 0] S1024x1024.size inb_S1024x1024_S1024x1024_0_0, k0_pay3 _ _ _⟩] :
    List (View.Piece (Elt F) S1024x1024 .f32)) = _
  rw [View.canon_unit_zero zeros2]
  exact congr (congrArg₂ (fun a b => k0_pay3 a b) (readWhole _ _ zeros2 ..) (readWhole _ _ zeros2 ..)) (readWhole _ _ zeros2 ..)

/-- The last step also stores what the buffer then holds. -/
theorem stored_C (hc0 : ¬cond0_0 i) (hc1 : cond0_1 i) (hc2 : cond0_2 i) :
    out0_C_2 c i arg3 h3 arg4 h4 arg5 h5 arg6 h6 hc0 hc1 hc2 x0 x1 acc = k0_pay3 x0 x1 acc := by
  unfold out0_C_2
  rw [View.read_writes_junk_eq_canon]
  show View.canon ([⟨Rect.unit ![0, 0] S1024x1024.size inb_S1024x1024_S1024x1024_0_0, _⟩] :
    List (View.Piece (Elt F) S1024x1024 .f32)) = _
  rw [View.canon_unit_zero zeros2]
  unfold kernelRun0_C.sl.v12 kernelRun0_C.sl.HS0_1
  refine (View.readCov_full _ _ inb_S1024x1024_S1024x1024_0_0 _ _).trans ?_
  exact congr (congrArg₂ (fun a b => k0_pay3 a b) (readWhole _ _ zeros2 ..) (readWhole _ _ zeros2 ..)) (readWhole _ _ zeros2 ..)

end Stores

/-! ## Over the extended reals -/

/-- The arguments, the place summed over first. -/
abbrev rows0 (a : S8448x4096.Idx → EReal) (k : Fin 8448) (p : Fin 4096) : EReal := a (ix2 (n0 := 8448) (n1 := 4096) k p)
abbrev rows1 (a : S8448x2048.Idx → EReal) (k : Fin 8448) (q : Fin 2048) : EReal := a (ix2 (n0 := 8448) (n1 := 2048) k q)

/-- The product. -/
def product (a0 : S8448x4096.Idx → EReal) (a1 : S8448x2048.Idx → EReal) (j : S4096x2048.Idx) : EReal :=
  ∑ k : Fin 8448, rows0 a0 k (j 0) * rows1 a1 k (j 1)

theorem pay_first (x0 : S1056x1024.Idx → EReal) (x1 : S1056x1024.Idx → EReal) (y : S1024x1024.Idx) :
    k0_pay2 (F := Ideal) x0 x1 y = ∑ r : Fin 1056, x0 (ix2 (n0 := 1056) (n1 := 1024) r (y 0)) * x1 (ix2 (n0 := 1056) (n1 := 1024) r (y 1)) := by
  pointwise [k0_pay2, k0_pay1]

theorem pay_later (x0 : S1056x1024.Idx → EReal) (x1 : S1056x1024.Idx → EReal) (acc : S1024x1024.Idx → EReal) (y : S1024x1024.Idx) :
    k0_pay3 (F := Ideal) x0 x1 acc y = acc y + ∑ r : Fin 1056, x0 (ix2 (n0 := 1056) (n1 := 1024) r (y 0)) * x1 (ix2 (n0 := 1056) (n1 := 1024) r (y 1)) := by
  pointwise [k0_pay3, k0_pay1]

section Final
variable (m : (ℓ : Loc nD τ sig) → Buf (Elt Ideal) ℓ)

/-- The windows' blocks. -/
theorem index0 : ∀ t : Fin cfg0.N, win0_0.index t = ![t.val % 8, t.val / 16] := (by decide +kernel : ∀ t : Fin grid0.N, _)
theorem index1 : ∀ t : Fin cfg0.N, win0_1.index t = ![t.val % 8, t.val / 8 % 2] := (by decide +kernel : ∀ t : Fin grid0.N, _)
theorem index2 : ∀ t : Fin cfg0.N, win0_2.index t = ![t.val / 16, t.val / 8 % 2] := (by decide +kernel : ∀ t : Fin grid0.N, _)

/-- A block's entry in its array. -/
theorem block0 (c : Dev nD) (t : Fin cfg0.N) (r : Fin 1056) (i : Fin 1024) : iblk m c 0 t (ix2 (n0 := 1056) (n1 := 1024) r i)
      = entry (rows0 (m ((c : Thread nD τ).loc main_arg0))) (1056 * (t.val % 8) + r.val) (1024 * (t.val / 16) + i.val) := by
  have hN : t.val < 64 := lt_of_lt_of_eq t.isLt (show cfg0.N = 64 from N_0)
  have e := index0 t
  unfold entry rows0
  rw [dif_pos ⟨by omega, by omega⟩]
  blk_point [iblk, V, e]

theorem block1 (c : Dev nD) (t : Fin cfg0.N) (r : Fin 1056) (i : Fin 1024) : iblk m c 1 t (ix2 (n0 := 1056) (n1 := 1024) r i)
      = entry (rows1 (m ((c : Thread nD τ).loc main_arg1))) (1056 * (t.val % 8) + r.val) (1024 * (t.val / 8 % 2) + i.val) := by
  have hN : t.val < 64 := lt_of_lt_of_eq t.isLt (show cfg0.N = 64 from N_0)
  have e := index1 t
  unfold entry rows1
  rw [dif_pos ⟨by omega, by omega⟩]
  blk_point [iblk, V, e]

/-- A point's product. -/
theorem added (c : Dev nD) (t : Fin cfg0.N) (y : S1024x1024.Idx) :
    ∑ r : Fin 1056, (show EReal from iblk m c 0 t (ix2 (n0 := 1056) (n1 := 1024) r (y 0))) * (show EReal from iblk m c 1 t (ix2 (n0 := 1056) (n1 := 1024) r (y 1)))
      = ∑ r : Fin 1056, entry (rows0 (m ((c : Thread nD τ).loc main_arg0))) (1056 * (t.val % 8) + r.val) (1024 * (t.val / 16) + (y 0).val)
        * entry (rows1 (m ((c : Thread nD τ).loc main_arg1))) (1056 * (t.val % 8) + r.val) (1024 * (t.val / 8 % 2) + (y 1).val) :=
  Finset.sum_congr rfl fun r _ => congrArg₂ (fun a b : EReal => a * b) (block0 m c t r (y 0)) (block1 m c t r (y 1))

/-- After a point the buffer holds the sum over the blocks so far. -/
theorem kept (c : Dev nD) (n : ℕ) (hn : n < cfg0.N) (y : S1024x1024.Idx) : (outsAt0 m c n hn).2 y
    = upto (rows0 (m ((c : Thread nD τ).loc main_arg0))) (rows1 (m ((c : Thread nD τ).loc main_arg1))) (1024 * (n / 16) + (y 0).val) (1024 * (n / 8 % 2) + (y 1).val) (1056 * (n % 8 + 1)) := by
  refine upto_fold _ _ 1056 8 (by decide) (fun n => 1024 * (n / 16) + (y 0).val) (fun n => 1024 * (n / 8 % 2) + (y 1).val)
    (fun n hn => (outsAt0 m c n hn).2 y) (fun n h0 => ⟨by dsimp only; omega, by dsimp only; omega⟩) (fun n hn h0 => ?_) (fun n hn h0 => ?_) n hn
  · dsimp only
    rw [outsAt0_A m c ⟨n, hn⟩ h0 (by dsimp only; omega) (by dsimp only; omega)]; dsimp only; rw [kept_A]
    exact (pay_first _ _ y).trans (added m c ⟨n, hn⟩ y)
  · have hs : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 8 = 7
      · rw [outsAt0_C m c ⟨n + 1, hn⟩ h0 (by dsimp only; omega) h2]; dsimp only; rw [kept_C]; rfl
      · rw [outsAt0_B m c ⟨n + 1, hn⟩ h0 (by dsimp only; omega) h2]; dsimp only; rw [kept_B]; rfl
    dsimp only
    rw [hs]
    exact (pay_later _ _ _ y).trans (congrArg (α := EReal) (β := EReal) (_ + ·) (added m c ⟨n + 1, hn⟩ y))

/-- A point that stores a block stores what the buffer holds. -/
theorem stored (c : Dev nD) (t : Fin cfg0.N) (h : t.val % 8 = 7) :
    (dats m 0 c).after 2 t = (outsAt0 m c t.val t.isLt).2 := by
  rw [after0_2, outsAt0_C m c t (by omega) (by omega) h]; dsimp only; rw [stored_C, kept_C]

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  rw [stored m c t h]
  blk_simp
  refine (kept m c _ _ y).trans (Eq.trans ?_ (upto_all _ _ _ _))
  have e := index2 t
  rw [h]
  refine congrArg₂ (fun p q => upto (rows0 (m ((c : Thread nD τ).loc main_arg0))) (rows1 (m ((c : Thread nD τ).loc main_arg1))) p q 8448) ?_ ?_
  · refine Eq.trans ?_ (Pipeline.Window.rect_emb_val win0_2 t y 0).symm
    rw [e]
    exact congrArg (· + _) (Nat.mul_comm ..)
  · refine Eq.trans ?_ (Pipeline.Window.rect_emb_val win0_2 t y 1).symm
    rw [e]
    exact congrArg (· + _) (Nat.mul_comm ..)

end Final

/-- On every device the results are the reference's. -/
theorem algebraic : Cert.algebraic_OddOutIdeal_OddOutRefIdeal := by
  intro m g m' g' _ hin
  refine ⟨fun c => product (m ((c.tc : Thread nD τ).loc main_arg0)) (m ((c.tc : Thread nD τ).loc main_arg1)),
    (θ_run OddOutIdeal.defs _ _).mono (fun r h c => ?_) (run_blocks (F := Ideal) m g),
    (θ_run OddOutRefIdeal.defs _ _).mono (fun r h c => ?_) (OddOutRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.OddOutValue

end
-- ==== Proof.PiecesRun.lean ====
module

public import proofs.«01_k».proof.Proof.Gathers
public import proofs.«01_k».proof.Proof.Gen.PiecesIdeal.Frame
public import proofs.«01_k».proof.Proof.Gen.PiecesIdeal.Skeleton

/-
  The body of the gather of the small weights on one device.
-/

@[expose] public section

noncomputable section

namespace Cert.PiecesRun

open Cert.PiecesIdeal Cert.PiecesIdeal.Gen Cert.Exchange Cert.Slots
open Cert.Gathers (Call place target)

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig Unit (Elt F) ℕ (UR sig nD τ × UR sig nD τ) ℕ

/-- The blocks gathered and the semaphores of the kernel. -/
abbrev call : Call sig 328 128 .f32 where
  xM := Memref.whole main_arg0
  oM := Memref.whole main_v1
  sem k := k
  inj := fun _ _ h => h
  sq := squeezes_S1x328x128_S328x128
  amt_pos := View.dmaCredit_pos _ (by decide)
  credit := fun _ _ => rfl
  xAll := View.set_whole _
  oAll := View.set_whole _
  xWords := View.wordExact_whole _
  oWords := fun _ _ => (View.wordExact_bits rfl).reshape _ _

/-- The slots the kernel names, and the devices it sends to. -/
abbrev offs (c : Dev nD) : Fin 8 → Fin 3 → ℕ := ![k0_off1 c, k0_off2 c, k0_off3 c, k0_off4 c, k0_off5 c, k0_off6 c, k0_off7 c, k0_off8 c]
abbrev peers (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
theorem offs_eq (c : Dev nD) (k : Fin 8) : offs c k = ![(place c k : ℕ), 0, 0] := by revert c k; decide
theorem peers_eq (c : Dev nD) (k : Fin 7) : peers c k = target c k := by revert c k; decide
theorem offs_inb (c : Dev nD) (k : Fin 8) (a) : offs c k a + S1x328x128.size a ≤ S8x328x128.size a := by
  rw [offs_eq]; revert c k a; decide

variable (m : (ℓ : Loc nD τ sig) → Buf (Elt F) ℓ)

/-- Slot `d` of the result is device `d`'s block. -/
def out : main_v1.ty.Contents (Elt F) :=
  fun (x : S8x328x128.Idx) => (show S328x128.Idx → Elt F .f32 from m (((show Dev nD from x 0) : Thread nD τ).loc main_arg0)) (ix2 (x 1) (x 2))

theorem isOut : call.IsOut m (out m) := fun _ _ _ => rfl

set_option maxHeartbeats 4000000 in
set_option maxRecDepth 8192 in
/-- The kernel's body on device `c`. -/
theorem body (c : Dev nD) (K : PUnit → sProp 𝕄) :
    iprop((call.At m (out m) c 0 0 ∗ call.start m c ∗ call.shares m c) ∗ ((call.At m (out m) c 8 15 ∗ call.full (out m) c ∗ call.shares m c) -∗ K ⟨⟩))
      ⊢ wp frame (wpE (defs₀ (F := F)) Call.𝒱₀ (c : Thread nD τ) none) Set.univ (bodyAt0 t0_0) K := by
  unfold bodyAt0
  simp only [cc0_ag_small_eq_skeleton]; unfold cc0_ag_small_skel
  simp only [k0_part10_eq_skeleton]; unfold k0_part10_skel
  simp only [k0_part9_eq_skeleton, k0_part8_eq_skeleton, k0_part7_eq_skeleton, k0_part6_eq_skeleton,
    k0_part5_eq_skeleton, k0_part4_eq_skeleton, k0_part3_eq_skeleton, k0_part2_eq_skeleton, k0_part1_eq_skeleton]
  unfold k0_part9_skel k0_part8_skel k0_part7_skel k0_part6_skel k0_part5_skel k0_part4_skel k0_part3_skel k0_part2_skel k0_part1_skel
  simp only [Prog.lift, Prog.bind_op, Prog.bind_ret, Prog.pure_eq_ret, wp_deviceId]
  exact call.body m (out m) defs₀ (isOut m) c (offs c) (offs_inb c) (offs_eq c) (peers c) (peers_eq c) K

end Cert.PiecesRun

end
-- ==== Proof.PiecesLaunch.lean ====
module

public import proofs.«01_k».proof.Proof.Dealt
public import proofs.«01_k».proof.Proof.PiecesRun
public import proofs.«01_k».proof.Proof.Gen.PiecesIdeal.Launch

/-
  The gather launched on the eight devices: the slots of every result dealt to the devices that write them, and the
  whole result read off at the end.
-/

@[expose] public section

noncomputable section

namespace Cert.PiecesRun

open Cert.Gathers (Call)
open Cert.PiecesIdeal Cert.PiecesIdeal.Gen Cert.Exchange Cert.Slots

open Idealize.ShloMosaic
open Idealize.ShloMosaic.TcCoe
open Idealize.ShloMosaic.Pipeline (Dat BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig Unit (Elt F) ℕ (UR sig nD τ × UR sig nD τ) ℕ

variable (m : (ℓ : Loc nD τ sig) → Buf (Elt F) ℓ)

/-! ## The region's data -/

/-- Before the body: the protocol as launched, the slots to write and the shares to read; after it: the semaphores
    back at zero, the slots filled and the shares. -/
def dats (_ : Fin 1) (c : Dev nD) : Dat τ (Elt F) Unit ℕ (UR sig nD τ × UR sig nD τ) ℕ cfg0 c where
  A w := w.elim0
  after w := w.elim0
  Φ t := match t with
    | ⟨0, _⟩ => iprop(call.plan.Pre (τ := τ) (call.pay m (out m)) call.S₀ c ∗ call.start m c ∗ call.shares m c)
    | ⟨_ + 1, _⟩ => iprop(Pipeline.ownSems0 call.plan.osem c ∗ call.full (out m) c ∗ call.shares m c)
  q _ := fullShare
  owed t := match t with
    | ⟨0, _⟩ => call.plan.owed call.S₀ c
    | ⟨_ + 1, _⟩ => 0

theorem body_obligation (c : Dev nD) : BodyObligationLoose (dats (F := F) m 0 c) (defs₀ (F := F)) Call.𝒱₀ () Set.univ := fun t => by
  rw [fin_N0 t, Finset.univ_eq_empty, bigSep_empty, bigSep_empty]
  show iprop(iprop(call.plan.Pre (τ := τ) (call.pay m (out m)) call.S₀ c ∗ call.start m c ∗ call.shares m c) ∗ (dats m 0 c).owesAt () t0_0.castSucc ∗ emp)
    ⊢ wp frame (wpE (defs₀ (F := F)) Call.𝒱₀ (c : Thread nD τ) none) Set.univ (bodyAt0 t0_0)
      (fun _ => iprop(iprop(Pipeline.ownSems0 call.plan.osem c ∗ call.full (out m) c ∗ call.shares m c) ∗ (dats m 0 c).owesAt () t0_0.succ ∗ emp))
  unfold Dat.owesAt Pipeline.owesWithin
  iintro ⟨⟨HP, HD, HX⟩, ⟨%W, -, HO⟩, -⟩
  iapply (body m c)
  isplitl [HP HD HX HO]
  · isplitl [HP HO]
    · iapply (call.at_start m (out m) c W); isplitl [HP]; · iexact HP
      iexact HO
    isplitl [HD] <;> iassumption
  iintro ⟨HS, HF, HX⟩
  ihave H := (call.at_end m (out m) c) $$ HS
  icases H with ⟨⟨%W', HO⟩, Hz⟩
  isplitl [Hz HF HX]
  · isplitl [Hz]; · iexact Hz
    isplitl [HF] <;> iassumption
  isplitl [HO]
  · iexists W'
    isplitr; · ipureintro; exact fun _ _ => Or.inl trivial
    iexact HO
  iempintro

/-! ## The launch -/

theorem ownSemFacts : Pipeline.OwnSemFacts cfg0.spec call.plan.osem := by decide

/-- What the certificate's own resources start as. -/
def u₀ : UR sig nD τ × UR sig nD τ :=
  (initOf (Pipeline.cells cfgs cellOf_inj) (Pipeline.launchToks cfgs cellOf_inj), initOf call.plan.cells call.plan.toks)

/-- From any memory with every semaphore at zero, every fair execution of the gather ends, on every device with all
    eight blocks in the result, its own block unchanged and every semaphore at zero. -/
theorem run_main (g : Dev nD → PrngReg) : θ_run (defs (F := F)) (onTc (τ := τ) main) ⟨m, fun _ => 0, g⟩
    (fun r => (∀ c : Dev nD, r.2.mem ((c : Thread nD τ).loc main_v1) = out m
      ∧ r.2.mem ((c : Thread nD τ).loc main_arg0) = m ((c : Thread nD τ).loc main_arg0)) ∧ r.2.sem = fun _ => 0) :=
  Cert.Dealt.run (fun p => (cfgs p).toPCfg) (fun p => (cfgs p).toPCfg_adm) (dats m) () cellOf_inj (0 : Fin 1)
    winFacts0.to₀ ownSemFacts embL defs₀ Call.𝒱₀ m g main (fun _ => .ret ⟨⟩)
    (hmain := fun _ => rfl) (hW := inferInstanceAs (IsEmpty (Fin 0))) (hK := rfl)
    (hbody := body_obligation m)
    (O₀ := call.plan.owed call.S₀) (howed₀ := fun _ => rfl)
    (L := Plan.L) (lv := call.plan.lv) (hL := Plan.L_of_ne)
    (hwaits := fun c => Pipeline.cellsWaits_intro cfgs (dats m) () 0 c fun w => w.elim0)
    (G := call.plan.G (call.pay m (out m))) (u₀ := u₀)
    (hu₀ := by
      unfold u₀
      iintro Hu
      ihave H := (ownU_pair _ _) $$ Hu
      icases H with ⟨HP, HX⟩
      imod (call.plan.fund (call.pay m (out m))) $$ HX with HG
      imodintro
      isplitl [HP] <;> iassumption)
    (X := fun c => iprop(call.plan.Pre (τ := τ) (call.pay m (out m)) call.S₀ c ∗ call.start m c ∗ call.shares m c)) (Y := call.filled m (out m)) (Z := fun _ => iprop(emp)) (T := call.filled m (out m))
    (hdeal := by
      refine (call.plan.setup (call.pay m (out m)) call.S₀ _ _).trans ?_
      simp only [unscopedRest0_eq, bigSep_sep']
      iintro H
      imod H with ⟨HP, HX, HV⟩
      imodintro
      isplitl
      · isplitl [HP]; · iexact HP
        isplitl [HV]
        · iapply (Entails.of_eq (call.deal_slots m)); iexact HV
        · iapply (show (bigSep Finset.univ fun c : Dev nD => (((c : Thread nD τ).loc main_arg0) ↦{fullShare} m ((c : Thread nD τ).loc main_arg0) : sProp 𝕄))
            ⊢ bigSep Finset.univ fun c => call.shares m c from bigSep_mono fun c _ => (call.whole_shares m c).1)
          iexact HX
      · iapply (Entails.of_eq (bigSep_emp_const (M := 𝕄) (Finset.univ : Finset (Dev nD))).symm); iempintro)
    (hin := fun c => by
      rw [show (dats m 0 c).Φ 0 = iprop(call.plan.Pre (τ := τ) (call.pay m (out m)) call.S₀ c ∗ call.start m c ∗ call.shares m c) from rfl]
      iintro ⟨H, -⟩; iexact H)
    (hout := fun c => by
      rw [show (dats m 0 c).Φ (Fin.last cfg0.N) = iprop(Pipeline.ownSems0 call.plan.osem c ∗ call.full (out m) c ∗ call.shares m c) from rfl]
      unfold Call.filled
      iintro ⟨Hz, HF⟩
      isplitl [HF]; · iexact HF
      isplitl [Hz]; · iexact Hz
      iapply (Entails.of_eq (scopedRest0_eq c).symm); iempintro)
    (htail := fun c Q' => by
      iintro ⟨Hk, Hb, HY, -, HO, -⟩
      rw [wp_ret]; imodintro
      iapply Hk
      isplitl [Hb HY]
      · isplitl [HY] <;> iassumption
      unfold Dat.owesAt Pipeline.owesWithin
      icases HO with ⟨%W, -, HO⟩
      iexists W; iexact HO)
    (QY := fun c s => s.mem ((c : Thread nD τ).loc main_v1) = out m ∧ s.mem ((c : Thread nD τ).loc main_arg0) = m ((c : Thread nD τ).loc main_arg0))
    (hfin := call.read_off m (out m))
    (hQ := fun _ h hs => ⟨h, sem_eq_zero_of_scoped (by decide) hs⟩)

end Cert.PiecesRun

end
-- ==== Proof.PiecesValue.lean ====
module

public import Idealize.ShloMosaic.Lib.Layout
public import Idealize.ShloMosaic.Lib.Pipeline.Value
public import Idealize.ShloMosaic.Lib.ValueIdxCoords

/-
  The gathered array: the eight blocks of rows of an array, stacked, are that array with its rows regrouped.
-/

@[expose] public section

namespace Cert.PiecesValue

open Idealize.ShloMosaic
open Idealize.ShloMosaic.ValueIdx

variable {α : Type}

/-- If device `c` holds block `c` of the rows of `x`, the stack of what the devices hold is `x` reshaped. -/
theorem gathered (x : (⟨2, ![2624, 128]⟩ : Shape).Idx → α) (f : Fin 8 → (⟨2, ![328, 128]⟩ : Shape).Idx → α)
    (h : ∀ c, f c = Layout.block ⟨2, ![328, 128]⟩ ⟨2, ![2624, 128]⟩ 0 8 c x)
    (hc : (⟨2, ![2624, 128]⟩ : Shape).ShapeCasts ⟨3, ![8, 328, 128]⟩) (i : (⟨3, ![8, 328, 128]⟩ : Shape).Idx) :
    f (i 0) (ix2 (n0 := 328) (n1 := 128) (i 1) (i 2)) = shapeCast ⟨3, ![8, 328, 128]⟩ x hc i := by
  refine (congrFun (h (i 0)) _).trans ((Layout.block_apply _ _ _ _).trans (shapeCast_apply x hc i _ ?_).symm)
  rw [Shape.rowMajor_val_two, Shape.rowMajor_val_three]
  obtain ⟨h1, h2⟩ := Layout.idx_rows_val (dS := ![328, 128]) (dT := ![2624, 128]) (k := 8) (by decide) (i 0) (ix2 (n0 := 328) (n1 := 128) (i 1) (i 2))
  exact congrArg₂ (fun a b : ℕ => a * 128 + b) h1 h2

end Cert.PiecesValue
-- ==== Proof.ModsRun.lean ====
module

public import proofs.«01_k».proof.Proof.Gathers
public import proofs.«01_k».proof.Proof.Gen.ModsIdeal.Frame
public import proofs.«01_k».proof.Proof.Gen.ModsIdeal.Skeleton

/-
  The body of the gather of the modulation on one device.
-/

@[expose] public section

noncomputable section

namespace Cert.ModsRun

open Cert.ModsIdeal Cert.ModsIdeal.Gen Cert.Exchange Cert.Slots
open Cert.Gathers (Call place target)

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig Unit (Elt F) ℕ (UR sig nD τ × UR sig nD τ) ℕ

/-- The blocks gathered and the semaphores of the kernel. -/
abbrev call : Call sig 32 1536 .f32 where
  xM := Memref.whole main_arg0
  oM := Memref.whole main_v1
  sem k := k
  inj := fun _ _ h => h
  sq := squeezes_S1x32x1536_S32x1536
  amt_pos := View.dmaCredit_pos _ (by decide)
  credit := fun _ _ => rfl
  xAll := View.set_whole _
  oAll := View.set_whole _
  xWords := View.wordExact_whole _
  oWords := fun _ _ => (View.wordExact_bits rfl).reshape _ _

/-- The slots the kernel names, and the devices it sends to. -/
abbrev offs (c : Dev nD) : Fin 8 → Fin 3 → ℕ := ![k0_off1 c, k0_off2 c, k0_off3 c, k0_off4 c, k0_off5 c, k0_off6 c, k0_off7 c, k0_off8 c]
abbrev peers (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
theorem offs_eq (c : Dev nD) (k : Fin 8) : offs c k = ![(place c k : ℕ), 0, 0] := by revert c k; decide
theorem peers_eq (c : Dev nD) (k : Fin 7) : peers c k = target c k := by revert c k; decide
theorem offs_inb (c : Dev nD) (k : Fin 8) (a) : offs c k a + S1x32x1536.size a ≤ S8x32x1536.size a := by
  rw [offs_eq]; revert c k a; decide

variable (m : (ℓ : Loc nD τ sig) → Buf (Elt F) ℓ)

/-- Slot `d` of the result is device `d`'s block. -/
def out : main_v1.ty.Contents (Elt F) :=
  fun (x : S8x32x1536.Idx) => (show S32x1536.Idx → Elt F .f32 from m (((show Dev nD from x 0) : Thread nD τ).loc main_arg0)) (ix2 (x 1) (x 2))

theorem isOut : call.IsOut m (out m) := fun _ _ _ => rfl

set_option maxHeartbeats 4000000 in
set_option maxRecDepth 8192 in
/-- The kernel's body on device `c`. -/
theorem body (c : Dev nD) (K : PUnit → sProp 𝕄) :
    iprop((call.At m (out m) c 0 0 ∗ call.start m c ∗ call.shares m c) ∗ ((call.At m (out m) c 8 15 ∗ call.full (out m) c ∗ call.shares m c) -∗ K ⟨⟩))
      ⊢ wp frame (wpE (defs₀ (F := F)) Call.𝒱₀ (c : Thread nD τ) none) Set.univ (bodyAt0 t0_0) K := by
  unfold bodyAt0
  simp only [cc0_ag_mod_eq_skeleton]; unfold cc0_ag_mod_skel
  simp only [k0_part10_eq_skeleton]; unfold k0_part10_skel
  simp only [k0_part9_eq_skeleton, k0_part8_eq_skeleton, k0_part7_eq_skeleton, k0_part6_eq_skeleton,
    k0_part5_eq_skeleton, k0_part4_eq_skeleton, k0_part3_eq_skeleton, k0_part2_eq_skeleton, k0_part1_eq_skeleton]
  unfold k0_part9_skel k0_part8_skel k0_part7_skel k0_part6_skel k0_part5_skel k0_part4_skel k0_part3_skel k0_part2_skel k0_part1_skel
  simp only [Prog.lift, Prog.bind_op, Prog.bind_ret, Prog.pure_eq_ret, wp_deviceId]
  exact call.body m (out m) defs₀ (isOut m) c (offs c) (offs_inb c) (offs_eq c) (peers c) (peers_eq c) K

end Cert.ModsRun

end
-- ==== Proof.ModsLaunch.lean ====
module

public import proofs.«01_k».proof.Proof.Dealt
public import proofs.«01_k».proof.Proof.ModsRun
public import proofs.«01_k».proof.Proof.Gen.ModsIdeal.Launch

/-
  The gather launched on the eight devices: the slots of every result dealt to the devices that write them, and the
  whole result read off at the end.
-/

@[expose] public section

noncomputable section

namespace Cert.ModsRun

open Cert.Gathers (Call)
open Cert.ModsIdeal Cert.ModsIdeal.Gen Cert.Exchange Cert.Slots

open Idealize.ShloMosaic
open Idealize.ShloMosaic.TcCoe
open Idealize.ShloMosaic.Pipeline (Dat BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig Unit (Elt F) ℕ (UR sig nD τ × UR sig nD τ) ℕ

variable (m : (ℓ : Loc nD τ sig) → Buf (Elt F) ℓ)

/-! ## The region's data -/

/-- Before the body: the protocol as launched, the slots to write and the shares to read; after it: the semaphores
    back at zero, the slots filled and the shares. -/
def dats (_ : Fin 1) (c : Dev nD) : Dat τ (Elt F) Unit ℕ (UR sig nD τ × UR sig nD τ) ℕ cfg0 c where
  A w := w.elim0
  after w := w.elim0
  Φ t := match t with
    | ⟨0, _⟩ => iprop(call.plan.Pre (τ := τ) (call.pay m (out m)) call.S₀ c ∗ call.start m c ∗ call.shares m c)
    | ⟨_ + 1, _⟩ => iprop(Pipeline.ownSems0 call.plan.osem c ∗ call.full (out m) c ∗ call.shares m c)
  q _ := fullShare
  owed t := match t with
    | ⟨0, _⟩ => call.plan.owed call.S₀ c
    | ⟨_ + 1, _⟩ => 0

theorem body_obligation (c : Dev nD) : BodyObligationLoose (dats (F := F) m 0 c) (defs₀ (F := F)) Call.𝒱₀ () Set.univ := fun t => by
  rw [fin_N0 t, Finset.univ_eq_empty, bigSep_empty, bigSep_empty]
  show iprop(iprop(call.plan.Pre (τ := τ) (call.pay m (out m)) call.S₀ c ∗ call.start m c ∗ call.shares m c) ∗ (dats m 0 c).owesAt () t0_0.castSucc ∗ emp)
    ⊢ wp frame (wpE (defs₀ (F := F)) Call.𝒱₀ (c : Thread nD τ) none) Set.univ (bodyAt0 t0_0)
      (fun _ => iprop(iprop(Pipeline.ownSems0 call.plan.osem c ∗ call.full (out m) c ∗ call.shares m c) ∗ (dats m 0 c).owesAt () t0_0.succ ∗ emp))
  unfold Dat.owesAt Pipeline.owesWithin
  iintro ⟨⟨HP, HD, HX⟩, ⟨%W, -, HO⟩, -⟩
  iapply (body m c)
  isplitl [HP HD HX HO]
  · isplitl [HP HO]
    · iapply (call.at_start m (out m) c W); isplitl [HP]; · iexact HP
      iexact HO
    isplitl [HD] <;> iassumption
  iintro ⟨HS, HF, HX⟩
  ihave H := (call.at_end m (out m) c) $$ HS
  icases H with ⟨⟨%W', HO⟩, Hz⟩
  isplitl [Hz HF HX]
  · isplitl [Hz]; · iexact Hz
    isplitl [HF] <;> iassumption
  isplitl [HO]
  · iexists W'
    isplitr; · ipureintro; exact fun _ _ => Or.inl trivial
    iexact HO
  iempintro

/-! ## The launch -/

theorem ownSemFacts : Pipeline.OwnSemFacts cfg0.spec call.plan.osem := by decide

/-- What the certificate's own resources start as. -/
def u₀ : UR sig nD τ × UR sig nD τ :=
  (initOf (Pipeline.cells cfgs cellOf_inj) (Pipeline.launchToks cfgs cellOf_inj), initOf call.plan.cells call.plan.toks)

/-- From any memory with every semaphore at zero, every fair execution of the gather ends, on every device with all
    eight blocks in the result, its own block unchanged and every semaphore at zero. -/
theorem run_main (g : Dev nD → PrngReg) : θ_run (defs (F := F)) (onTc (τ := τ) main) ⟨m, fun _ => 0, g⟩
    (fun r => (∀ c : Dev nD, r.2.mem ((c : Thread nD τ).loc main_v1) = out m
      ∧ r.2.mem ((c : Thread nD τ).loc main_arg0) = m ((c : Thread nD τ).loc main_arg0)) ∧ r.2.sem = fun _ => 0) :=
  Cert.Dealt.run (fun p => (cfgs p).toPCfg) (fun p => (cfgs p).toPCfg_adm) (dats m) () cellOf_inj (0 : Fin 1)
    winFacts0.to₀ ownSemFacts embL defs₀ Call.𝒱₀ m g main (fun _ => .ret ⟨⟩)
    (hmain := fun _ => rfl) (hW := inferInstanceAs (IsEmpty (Fin 0))) (hK := rfl)
    (hbody := body_obligation m)
    (O₀ := call.plan.owed call.S₀) (howed₀ := fun _ => rfl)
    (L := Plan.L) (lv := call.plan.lv) (hL := Plan.L_of_ne)
    (hwaits := fun c => Pipeline.cellsWaits_intro cfgs (dats m) () 0 c fun w => w.elim0)
    (G := call.plan.G (call.pay m (out m))) (u₀ := u₀)
    (hu₀ := by
      unfold u₀
      iintro Hu
      ihave H := (ownU_pair _ _) $$ Hu
      icases H with ⟨HP, HX⟩
      imod (call.plan.fund (call.pay m (out m))) $$ HX with HG
      imodintro
      isplitl [HP] <;> iassumption)
    (X := fun c => iprop(call.plan.Pre (τ := τ) (call.pay m (out m)) call.S₀ c ∗ call.start m c ∗ call.shares m c)) (Y := call.filled m (out m)) (Z := fun _ => iprop(emp)) (T := call.filled m (out m))
    (hdeal := by
      refine (call.plan.setup (call.pay m (out m)) call.S₀ _ _).trans ?_
      simp only [unscopedRest0_eq, bigSep_sep']
      iintro H
      imod H with ⟨HP, HX, HV⟩
      imodintro
      isplitl
      · isplitl [HP]; · iexact HP
        isplitl [HV]
        · iapply (Entails.of_eq (call.deal_slots m)); iexact HV
        · iapply (show (bigSep Finset.univ fun c : Dev nD => (((c : Thread nD τ).loc main_arg0) ↦{fullShare} m ((c : Thread nD τ).loc main_arg0) : sProp 𝕄))
            ⊢ bigSep Finset.univ fun c => call.shares m c from bigSep_mono fun c _ => (call.whole_shares m c).1)
          iexact HX
      · iapply (Entails.of_eq (bigSep_emp_const (M := 𝕄) (Finset.univ : Finset (Dev nD))).symm); iempintro)
    (hin := fun c => by
      rw [show (dats m 0 c).Φ 0 = iprop(call.plan.Pre (τ := τ) (call.pay m (out m)) call.S₀ c ∗ call.start m c ∗ call.shares m c) from rfl]
      iintro ⟨H, -⟩; iexact H)
    (hout := fun c => by
      rw [show (dats m 0 c).Φ (Fin.last cfg0.N) = iprop(Pipeline.ownSems0 call.plan.osem c ∗ call.full (out m) c ∗ call.shares m c) from rfl]
      unfold Call.filled
      iintro ⟨Hz, HF⟩
      isplitl [HF]; · iexact HF
      isplitl [Hz]; · iexact Hz
      iapply (Entails.of_eq (scopedRest0_eq c).symm); iempintro)
    (htail := fun c Q' => by
      iintro ⟨Hk, Hb, HY, -, HO, -⟩
      rw [wp_ret]; imodintro
      iapply Hk
      isplitl [Hb HY]
      · isplitl [HY] <;> iassumption
      unfold Dat.owesAt Pipeline.owesWithin
      icases HO with ⟨%W, -, HO⟩
      iexists W; iexact HO)
    (QY := fun c s => s.mem ((c : Thread nD τ).loc main_v1) = out m ∧ s.mem ((c : Thread nD τ).loc main_arg0) = m ((c : Thread nD τ).loc main_arg0))
    (hfin := call.read_off m (out m))
    (hQ := fun _ h hs => ⟨h, sem_eq_zero_of_scoped (by decide) hs⟩)

end Cert.ModsRun

end
-- ==== Proof.ModsValue.lean ====
module

public import Idealize.ShloMosaic.Lib.Layout
public import Idealize.ShloMosaic.Lib.Pipeline.Value
public import Idealize.ShloMosaic.Lib.ValueIdxCoords

/-
  The gathered array: the eight blocks of rows of an array, stacked, are that array with its rows regrouped.
-/

@[expose] public section

namespace Cert.ModsValue

open Idealize.ShloMosaic
open Idealize.ShloMosaic.ValueIdx

variable {α : Type}

/-- If device `c` holds block `c` of the rows of `x`, the stack of what the devices hold is `x` reshaped. -/
theorem gathered (x : (⟨2, ![256, 1536]⟩ : Shape).Idx → α) (f : Fin 8 → (⟨2, ![32, 1536]⟩ : Shape).Idx → α)
    (h : ∀ c, f c = Layout.block ⟨2, ![32, 1536]⟩ ⟨2, ![256, 1536]⟩ 0 8 c x)
    (hc : (⟨2, ![256, 1536]⟩ : Shape).ShapeCasts ⟨3, ![8, 32, 1536]⟩) (i : (⟨3, ![8, 32, 1536]⟩ : Shape).Idx) :
    f (i 0) (ix2 (n0 := 32) (n1 := 1536) (i 1) (i 2)) = shapeCast ⟨3, ![8, 32, 1536]⟩ x hc i := by
  refine (congrFun (h (i 0)) _).trans ((Layout.block_apply _ _ _ _).trans (shapeCast_apply x hc i _ ?_).symm)
  rw [Shape.rowMajor_val_two, Shape.rowMajor_val_three]
  obtain ⟨h1, h2⟩ := Layout.idx_rows_val (dS := ![32, 1536]) (dT := ![256, 1536]) (k := 8) (by decide) (i 0) (ix2 (n0 := 32) (n1 := 1536) (i 1) (i 2))
  exact congrArg₂ (fun a b : ℕ => a * 1536 + b) h1 h2

end Cert.ModsValue
-- ==== Proof.SlopesRun.lean ====
module

public import proofs.«01_k».proof.Proof.Gathers
public import proofs.«01_k».proof.Proof.Gen.SlopesIdeal.Frame
public import proofs.«01_k».proof.Proof.Gen.SlopesIdeal.Skeleton

/-
  The body of the gather of the gradient of the modulation on one device.
-/

@[expose] public section

noncomputable section

namespace Cert.SlopesRun

open Cert.SlopesIdeal Cert.SlopesIdeal.Gen Cert.Exchange Cert.Slots
open Cert.Gathers (Call place target)

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig Unit (Elt F) ℕ (UR sig nD τ × UR sig nD τ) ℕ

/-- The blocks gathered and the semaphores of the kernel. -/
abbrev call : Call sig 24 2048 .f32 where
  xM := Memref.whole main_arg0
  oM := Memref.whole main_v1
  sem k := k
  inj := fun _ _ h => h
  sq := squeezes_S1x24x2048_S24x2048
  amt_pos := View.dmaCredit_pos _ (by decide)
  credit := fun _ _ => rfl
  xAll := View.set_whole _
  oAll := View.set_whole _
  xWords := View.wordExact_whole _
  oWords := fun _ _ => (View.wordExact_bits rfl).reshape _ _

/-- The slots the kernel names, and the devices it sends to. -/
abbrev offs (c : Dev nD) : Fin 8 → Fin 3 → ℕ := ![k0_off1 c, k0_off2 c, k0_off3 c, k0_off4 c, k0_off5 c, k0_off6 c, k0_off7 c, k0_off8 c]
abbrev peers (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]
theorem offs_eq (c : Dev nD) (k : Fin 8) : offs c k = ![(place c k : ℕ), 0, 0] := by revert c k; decide
theorem peers_eq (c : Dev nD) (k : Fin 7) : peers c k = target c k := by revert c k; decide
theorem offs_inb (c : Dev nD) (k : Fin 8) (a) : offs c k a + S1x24x2048.size a ≤ S8x24x2048.size a := by
  rw [offs_eq]; revert c k a; decide

variable (m : (ℓ : Loc nD τ sig) → Buf (Elt F) ℓ)

/-- Slot `d` of the result is device `d`'s block. -/
def out : main_v1.ty.Contents (Elt F) :=
  fun (x : S8x24x2048.Idx) => (show S24x2048.Idx → Elt F .f32 from m (((show Dev nD from x 0) : Thread nD τ).loc main_arg0)) (ix2 (x 1) (x 2))

theorem isOut : call.IsOut m (out m) := fun _ _ _ => rfl

set_option maxHeartbeats 4000000 in
set_option maxRecDepth 8192 in
/-- The kernel's body on device `c`. -/
theorem body (c : Dev nD) (K : PUnit → sProp 𝕄) :
    iprop((call.At m (out m) c 0 0 ∗ call.start m c ∗ call.shares m c) ∗ ((call.At m (out m) c 8 15 ∗ call.full (out m) c ∗ call.shares m c) -∗ K ⟨⟩))
      ⊢ wp frame (wpE (defs₀ (F := F)) Call.𝒱₀ (c : Thread nD τ) none) Set.univ (bodyAt0 t0_0) K := by
  unfold bodyAt0
  simp only [cc0_ag_dmod_eq_skeleton]; unfold cc0_ag_dmod_skel
  simp only [k0_part10_eq_skeleton]; unfold k0_part10_skel
  simp only [k0_part9_eq_skeleton, k0_part8_eq_skeleton, k0_part7_eq_skeleton, k0_part6_eq_skeleton,
    k0_part5_eq_skeleton, k0_part4_eq_skeleton, k0_part3_eq_skeleton, k0_part2_eq_skeleton, k0_part1_eq_skeleton]
  unfold k0_part9_skel k0_part8_skel k0_part7_skel k0_part6_skel k0_part5_skel k0_part4_skel k0_part3_skel k0_part2_skel k0_part1_skel
  simp only [Prog.lift, Prog.bind_op, Prog.bind_ret, Prog.pure_eq_ret, wp_deviceId]
  exact call.body m (out m) defs₀ (isOut m) c (offs c) (offs_inb c) (offs_eq c) (peers c) (peers_eq c) K

end Cert.SlopesRun

end
-- ==== Proof.SlopesLaunch.lean ====
module

public import proofs.«01_k».proof.Proof.Dealt
public import proofs.«01_k».proof.Proof.SlopesRun
public import proofs.«01_k».proof.Proof.Gen.SlopesIdeal.Launch

/-
  The gather launched on the eight devices: the slots of every result dealt to the devices that write them, and the
  whole result read off at the end.
-/

@[expose] public section

noncomputable section

namespace Cert.SlopesRun

open Cert.Gathers (Call)
open Cert.SlopesIdeal Cert.SlopesIdeal.Gen Cert.Exchange Cert.Slots

open Idealize.ShloMosaic
open Idealize.ShloMosaic.TcCoe
open Idealize.ShloMosaic.Pipeline (Dat BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig Unit (Elt F) ℕ (UR sig nD τ × UR sig nD τ) ℕ

variable (m : (ℓ : Loc nD τ sig) → Buf (Elt F) ℓ)

/-! ## The region's data -/

/-- Before the body: the protocol as launched, the slots to write and the shares to read; after it: the semaphores
    back at zero, the slots filled and the shares. -/
def dats (_ : Fin 1) (c : Dev nD) : Dat τ (Elt F) Unit ℕ (UR sig nD τ × UR sig nD τ) ℕ cfg0 c where
  A w := w.elim0
  after w := w.elim0
  Φ t := match t with
    | ⟨0, _⟩ => iprop(call.plan.Pre (τ := τ) (call.pay m (out m)) call.S₀ c ∗ call.start m c ∗ call.shares m c)
    | ⟨_ + 1, _⟩ => iprop(Pipeline.ownSems0 call.plan.osem c ∗ call.full (out m) c ∗ call.shares m c)
  q _ := fullShare
  owed t := match t with
    | ⟨0, _⟩ => call.plan.owed call.S₀ c
    | ⟨_ + 1, _⟩ => 0

theorem body_obligation (c : Dev nD) : BodyObligationLoose (dats (F := F) m 0 c) (defs₀ (F := F)) Call.𝒱₀ () Set.univ := fun t => by
  rw [fin_N0 t, Finset.univ_eq_empty, bigSep_empty, bigSep_empty]
  show iprop(iprop(call.plan.Pre (τ := τ) (call.pay m (out m)) call.S₀ c ∗ call.start m c ∗ call.shares m c) ∗ (dats m 0 c).owesAt () t0_0.castSucc ∗ emp)
    ⊢ wp frame (wpE (defs₀ (F := F)) Call.𝒱₀ (c : Thread nD τ) none) Set.univ (bodyAt0 t0_0)
      (fun _ => iprop(iprop(Pipeline.ownSems0 call.plan.osem c ∗ call.full (out m) c ∗ call.shares m c) ∗ (dats m 0 c).owesAt () t0_0.succ ∗ emp))
  unfold Dat.owesAt Pipeline.owesWithin
  iintro ⟨⟨HP, HD, HX⟩, ⟨%W, -, HO⟩, -⟩
  iapply (body m c)
  isplitl [HP HD HX HO]
  · isplitl [HP HO]
    · iapply (call.at_start m (out m) c W); isplitl [HP]; · iexact HP
      iexact HO
    isplitl [HD] <;> iassumption
  iintro ⟨HS, HF, HX⟩
  ihave H := (call.at_end m (out m) c) $$ HS
  icases H with ⟨⟨%W', HO⟩, Hz⟩
  isplitl [Hz HF HX]
  · isplitl [Hz]; · iexact Hz
    isplitl [HF] <;> iassumption
  isplitl [HO]
  · iexists W'
    isplitr; · ipureintro; exact fun _ _ => Or.inl trivial
    iexact HO
  iempintro

/-! ## The launch -/

theorem ownSemFacts : Pipeline.OwnSemFacts cfg0.spec call.plan.osem := by decide

/-- What the certificate's own resources start as. -/
def u₀ : UR sig nD τ × UR sig nD τ :=
  (initOf (Pipeline.cells cfgs cellOf_inj) (Pipeline.launchToks cfgs cellOf_inj), initOf call.plan.cells call.plan.toks)

/-- From any memory with every semaphore at zero, every fair execution of the gather ends, on every device with all
    eight blocks in the result, its own block unchanged and every semaphore at zero. -/
theorem run_main (g : Dev nD → PrngReg) : θ_run (defs (F := F)) (onTc (τ := τ) main) ⟨m, fun _ => 0, g⟩
    (fun r => (∀ c : Dev nD, r.2.mem ((c : Thread nD τ).loc main_v1) = out m
      ∧ r.2.mem ((c : Thread nD τ).loc main_arg0) = m ((c : Thread nD τ).loc main_arg0)) ∧ r.2.sem = fun _ => 0) :=
  Cert.Dealt.run (fun p => (cfgs p).toPCfg) (fun p => (cfgs p).toPCfg_adm) (dats m) () cellOf_inj (0 : Fin 1)
    winFacts0.to₀ ownSemFacts embL defs₀ Call.𝒱₀ m g main (fun _ => .ret ⟨⟩)
    (hmain := fun _ => rfl) (hW := inferInstanceAs (IsEmpty (Fin 0))) (hK := rfl)
    (hbody := body_obligation m)
    (O₀ := call.plan.owed call.S₀) (howed₀ := fun _ => rfl)
    (L := Plan.L) (lv := call.plan.lv) (hL := Plan.L_of_ne)
    (hwaits := fun c => Pipeline.cellsWaits_intro cfgs (dats m) () 0 c fun w => w.elim0)
    (G := call.plan.G (call.pay m (out m))) (u₀ := u₀)
    (hu₀ := by
      unfold u₀
      iintro Hu
      ihave H := (ownU_pair _ _) $$ Hu
      icases H with ⟨HP, HX⟩
      imod (call.plan.fund (call.pay m (out m))) $$ HX with HG
      imodintro
      isplitl [HP] <;> iassumption)
    (X := fun c => iprop(call.plan.Pre (τ := τ) (call.pay m (out m)) call.S₀ c ∗ call.start m c ∗ call.shares m c)) (Y := call.filled m (out m)) (Z := fun _ => iprop(emp)) (T := call.filled m (out m))
    (hdeal := by
      refine (call.plan.setup (call.pay m (out m)) call.S₀ _ _).trans ?_
      simp only [unscopedRest0_eq, bigSep_sep']
      iintro H
      imod H with ⟨HP, HX, HV⟩
      imodintro
      isplitl
      · isplitl [HP]; · iexact HP
        isplitl [HV]
        · iapply (Entails.of_eq (call.deal_slots m)); iexact HV
        · iapply (show (bigSep Finset.univ fun c : Dev nD => (((c : Thread nD τ).loc main_arg0) ↦{fullShare} m ((c : Thread nD τ).loc main_arg0) : sProp 𝕄))
            ⊢ bigSep Finset.univ fun c => call.shares m c from bigSep_mono fun c _ => (call.whole_shares m c).1)
          iexact HX
      · iapply (Entails.of_eq (bigSep_emp_const (M := 𝕄) (Finset.univ : Finset (Dev nD))).symm); iempintro)
    (hin := fun c => by
      rw [show (dats m 0 c).Φ 0 = iprop(call.plan.Pre (τ := τ) (call.pay m (out m)) call.S₀ c ∗ call.start m c ∗ call.shares m c) from rfl]
      iintro ⟨H, -⟩; iexact H)
    (hout := fun c => by
      rw [show (dats m 0 c).Φ (Fin.last cfg0.N) = iprop(Pipeline.ownSems0 call.plan.osem c ∗ call.full (out m) c ∗ call.shares m c) from rfl]
      unfold Call.filled
      iintro ⟨Hz, HF⟩
      isplitl [HF]; · iexact HF
      isplitl [Hz]; · iexact Hz
      iapply (Entails.of_eq (scopedRest0_eq c).symm); iempintro)
    (htail := fun c Q' => by
      iintro ⟨Hk, Hb, HY, -, HO, -⟩
      rw [wp_ret]; imodintro
      iapply Hk
      isplitl [Hb HY]
      · isplitl [HY] <;> iassumption
      unfold Dat.owesAt Pipeline.owesWithin
      icases HO with ⟨%W, -, HO⟩
      iexists W; iexact HO)
    (QY := fun c s => s.mem ((c : Thread nD τ).loc main_v1) = out m ∧ s.mem ((c : Thread nD τ).loc main_arg0) = m ((c : Thread nD τ).loc main_arg0))
    (hfin := call.read_off m (out m))
    (hQ := fun _ h hs => ⟨h, sem_eq_zero_of_scoped (by decide) hs⟩)

end Cert.SlopesRun

end
-- ==== Proof.SlopesValue.lean ====
module

public import Idealize.ShloMosaic.Lib.Layout
public import Idealize.ShloMosaic.Lib.Pipeline.Value
public import Idealize.ShloMosaic.Lib.ValueIdxCoords

/-
  The gathered array: the eight blocks of rows of an array, stacked, are that array with its rows regrouped.
-/

@[expose] public section

namespace Cert.SlopesValue

open Idealize.ShloMosaic
open Idealize.ShloMosaic.ValueIdx

variable {α : Type}

/-- If device `c` holds block `c` of the rows of `x`, the stack of what the devices hold is `x` reshaped. -/
theorem gathered (x : (⟨2, ![192, 2048]⟩ : Shape).Idx → α) (f : Fin 8 → (⟨2, ![24, 2048]⟩ : Shape).Idx → α)
    (h : ∀ c, f c = Layout.block ⟨2, ![24, 2048]⟩ ⟨2, ![192, 2048]⟩ 0 8 c x)
    (hc : (⟨2, ![192, 2048]⟩ : Shape).ShapeCasts ⟨3, ![8, 24, 2048]⟩) (i : (⟨3, ![8, 24, 2048]⟩ : Shape).Idx) :
    f (i 0) (ix2 (n0 := 24) (n1 := 2048) (i 1) (i 2)) = shapeCast ⟨3, ![8, 24, 2048]⟩ x hc i := by
  refine (congrFun (h (i 0)) _).trans ((Layout.block_apply _ _ _ _).trans (shapeCast_apply x hc i _ ?_).symm)
  rw [Shape.rowMajor_val_two, Shape.rowMajor_val_three]
  obtain ⟨h1, h2⟩ := Layout.idx_rows_val (dS := ![24, 2048]) (dT := ![192, 2048]) (k := 8) (by decide) (i 0) (ix2 (n0 := 24) (n1 := 2048) (i 1) (i 2))
  exact congrArg₂ (fun a b : ℕ => a * 2048 + b) h1 h2

end Cert.SlopesValue
-- ==== Proof.UpValue.lean ====
module

public import proofs.«01_k».proof.Proof.Gen.UpIdeal.Value
public import proofs.«01_k».proof.Proof.Gen.UpRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The first product of a layer's feed-forward part:
   a block of the result is a product of a block of rows by a block of columns of the weights. -/

@[expose] public section

set_option maxRecDepth 16384

noncomputable section

namespace Cert.UpValue

open Cert.UpIdeal Cert.UpIdeal.Gen Cert.UpIdeal.Value

open Idealize.ShloMosaic Idealize.ShloMosaic.TcCoe
open Idealize.SL.Sem
open scoped BigOperators

/-- The product. -/
def product (a : S8448x2048.Idx → EReal) (w : S2048x11264.Idx → EReal) (j : S8448x11264.Idx) : EReal :=
  ∑ k : Fin 2048, a (ix2 (n0 := 8448) (n1 := 2048) (j 0) k) * w (ix2 (n0 := 2048) (n1 := 11264) k (j 1))

theorem pay (x0 : S1056x2048.Idx → EReal) (x1 : S2048x512.Idx → EReal) (y : S1056x512.Idx) :
    k0_pay1 (F := Ideal) x0 x1 y = ∑ k : Fin 2048, x0 (ix2 (n0 := 1056) (n1 := 2048) (y 0) k) * x1 (ix2 (n0 := 2048) (n1 := 512) k (y 1)) := by
  pointwise [k0_pay1]

section Final
variable (m : (ℓ : Loc nD τ sig) → Buf (Elt Ideal) ℓ)

theorem index0 : ∀ t : Fin cfg0.N, win0_0.index t = ![t.val / 22, 0] := (by decide +kernel : ∀ t : Fin grid0.N, _)
theorem index1 : ∀ t : Fin cfg0.N, win0_1.index t = ![0, t.val % 22] := (by decide +kernel : ∀ t : Fin grid0.N, _)
theorem index2 : ∀ t : Fin cfg0.N, win0_2.index t = ![t.val / 22, t.val % 22] := (by decide +kernel : ∀ t : Fin grid0.N, _)

theorem zeros2 : (![0, 0] : Fin 2 → Nat) = fun _ => 0 := funext fun a => by fin_cases a <;> rfl

/-- A point stores the product of its blocks. -/
theorem stored (c : Dev nD) (t : Fin cfg0.N) : (dats m 0 c).after 2 t = k0_pay1 (iblk m c 0 t) (iblk m c 1 t) := by
  rw [after0_2]
  unfold out0_2
  rw [View.canon_unit_zero zeros2]
  exact congrArg₂ (fun a b => k0_pay1 a b) (View.ld_unit_zero zeros2 _ _) (View.ld_unit_zero zeros2 _ _)

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  rw [stored m c t]
  blk_simp
  refine (pay _ _ y).trans (Finset.sum_congr rfl fun k _ => congrArg₂ (fun a b : EReal => a * b) ?_ ?_)
  all_goals
    have e0 := index0 t
    have e1 := index1 t
    have e2 := index2 t
    blk_point [iblk, V, e0, e1, e2]

end Final

/-- On every device the results are the reference's. -/
theorem algebraic : Cert.algebraic_UpIdeal_UpRefIdeal := by
  intro m g m' g' _ hin
  refine ⟨fun c => product (m ((c.tc : Thread nD τ).loc main_arg0)) (m ((c.tc : Thread nD τ).loc main_arg1)),
    (θ_run UpIdeal.defs _ _).mono (fun r h c => ?_) (run_blocks (F := Ideal) m g),
    (θ_run UpRefIdeal.defs _ _).mono (fun r h c => ?_) (UpRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.UpValue

end
-- ==== Proof.UpEvenValue.lean ====
module

public import proofs.«01_k».proof.Proof.Gen.UpEvenIdeal.Value
public import proofs.«01_k».proof.Proof.Gen.UpEvenRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The first product of the even layer's mixer:
   a block of the result is a product of a block of rows by a block of columns of the weights. -/

@[expose] public section

set_option maxRecDepth 16384

noncomputable section

namespace Cert.UpEvenValue

open Cert.UpEvenIdeal Cert.UpEvenIdeal.Gen Cert.UpEvenIdeal.Value

open Idealize.ShloMosaic Idealize.ShloMosaic.TcCoe
open Idealize.SL.Sem
open scoped BigOperators

/-- The product. -/
def product (a : S8448x2048.Idx → EReal) (w : S2048x6144.Idx → EReal) (j : S8448x6144.Idx) : EReal :=
  ∑ k : Fin 2048, a (ix2 (n0 := 8448) (n1 := 2048) (j 0) k) * w (ix2 (n0 := 2048) (n1 := 6144) k (j 1))

theorem pay (x0 : S1056x2048.Idx → EReal) (x1 : S2048x512.Idx → EReal) (y : S1056x512.Idx) :
    k0_pay1 (F := Ideal) x0 x1 y = ∑ k : Fin 2048, x0 (ix2 (n0 := 1056) (n1 := 2048) (y 0) k) * x1 (ix2 (n0 := 2048) (n1 := 512) k (y 1)) := by
  pointwise [k0_pay1]

section Final
variable (m : (ℓ : Loc nD τ sig) → Buf (Elt Ideal) ℓ)

theorem index0 : ∀ t : Fin cfg0.N, win0_0.index t = ![t.val / 12, 0] := (by decide +kernel : ∀ t : Fin grid0.N, _)
theorem index1 : ∀ t : Fin cfg0.N, win0_1.index t = ![0, t.val % 12] := (by decide +kernel : ∀ t : Fin grid0.N, _)
theorem index2 : ∀ t : Fin cfg0.N, win0_2.index t = ![t.val / 12, t.val % 12] := (by decide +kernel : ∀ t : Fin grid0.N, _)

theorem zeros2 : (![0, 0] : Fin 2 → Nat) = fun _ => 0 := funext fun a => by fin_cases a <;> rfl

/-- A point stores the product of its blocks. -/
theorem stored (c : Dev nD) (t : Fin cfg0.N) : (dats m 0 c).after 2 t = k0_pay1 (iblk m c 0 t) (iblk m c 1 t) := by
  rw [after0_2]
  unfold out0_2
  rw [View.canon_unit_zero zeros2]
  exact congrArg₂ (fun a b => k0_pay1 a b) (View.ld_unit_zero zeros2 _ _) (View.ld_unit_zero zeros2 _ _)

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  rw [stored m c t]
  blk_simp
  refine (pay _ _ y).trans (Finset.sum_congr rfl fun k _ => congrArg₂ (fun a b : EReal => a * b) ?_ ?_)
  all_goals
    have e0 := index0 t
    have e1 := index1 t
    have e2 := index2 t
    blk_point [iblk, V, e0, e1, e2]

end Final

/-- On every device the results are the reference's. -/
theorem algebraic : Cert.algebraic_UpEvenIdeal_UpEvenRefIdeal := by
  intro m g m' g' _ hin
  refine ⟨fun c => product (m ((c.tc : Thread nD τ).loc main_arg0)) (m ((c.tc : Thread nD τ).loc main_arg1)),
    (θ_run UpEvenIdeal.defs _ _).mono (fun r h c => ?_) (run_blocks (F := Ideal) m g),
    (θ_run UpEvenRefIdeal.defs _ _).mono (fun r h c => ?_) (UpEvenRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.UpEvenValue

end
-- ==== Proof.MixEvenValue.lean ====
module

public import proofs.«01_k».proof.Proof.Gen.MixEvenIdeal.Value
public import proofs.«01_k».proof.Proof.Gen.MixEvenRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The last product of the even layer's mixer:
   a block of the result is a product of a block of rows by a block of columns of the weights. -/

@[expose] public section

set_option maxRecDepth 16384

noncomputable section

namespace Cert.MixEvenValue

open Cert.MixEvenIdeal Cert.MixEvenIdeal.Gen Cert.MixEvenIdeal.Value

open Idealize.ShloMosaic Idealize.ShloMosaic.TcCoe
open Idealize.SL.Sem
open scoped BigOperators

/-- The product. -/
def product (a : S8448x2048.Idx → EReal) (w : S2048x2048.Idx → EReal) (j : S8448x2048.Idx) : EReal :=
  ∑ k : Fin 2048, a (ix2 (n0 := 8448) (n1 := 2048) (j 0) k) * w (ix2 (n0 := 2048) (n1 := 2048) k (j 1))

theorem pay (x0 : S1056x2048.Idx → EReal) (x1 : S2048x512.Idx → EReal) (y : S1056x512.Idx) :
    k0_pay1 (F := Ideal) x0 x1 y = ∑ k : Fin 2048, x0 (ix2 (n0 := 1056) (n1 := 2048) (y 0) k) * x1 (ix2 (n0 := 2048) (n1 := 512) k (y 1)) := by
  pointwise [k0_pay1]

section Final
variable (m : (ℓ : Loc nD τ sig) → Buf (Elt Ideal) ℓ)

theorem index0 : ∀ t : Fin cfg0.N, win0_0.index t = ![t.val / 4, 0] := (by decide +kernel : ∀ t : Fin grid0.N, _)
theorem index1 : ∀ t : Fin cfg0.N, win0_1.index t = ![0, t.val % 4] := (by decide +kernel : ∀ t : Fin grid0.N, _)
theorem index2 : ∀ t : Fin cfg0.N, win0_2.index t = ![t.val / 4, t.val % 4] := (by decide +kernel : ∀ t : Fin grid0.N, _)

theorem zeros2 : (![0, 0] : Fin 2 → Nat) = fun _ => 0 := funext fun a => by fin_cases a <;> rfl

/-- A point stores the product of its blocks. -/
theorem stored (c : Dev nD) (t : Fin cfg0.N) : (dats m 0 c).after 2 t = k0_pay1 (iblk m c 0 t) (iblk m c 1 t) := by
  rw [after0_2]
  unfold out0_2
  rw [View.canon_unit_zero zeros2]
  exact congrArg₂ (fun a b => k0_pay1 a b) (View.ld_unit_zero zeros2 _ _) (View.ld_unit_zero zeros2 _ _)

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  rw [stored m c t]
  blk_simp
  refine (pay _ _ y).trans (Finset.sum_congr rfl fun k _ => congrArg₂ (fun a b : EReal => a * b) ?_ ?_)
  all_goals
    have e0 := index0 t
    have e1 := index1 t
    have e2 := index2 t
    blk_point [iblk, V, e0, e1, e2]

end Final

/-- On every device the results are the reference's. -/
theorem algebraic : Cert.algebraic_MixEvenIdeal_MixEvenRefIdeal := by
  intro m g m' g' _ hin
  refine ⟨fun c => product (m ((c.tc : Thread nD τ).loc main_arg0)) (m ((c.tc : Thread nD τ).loc main_arg1)),
    (θ_run MixEvenIdeal.defs _ _).mono (fun r h c => ?_) (run_blocks (F := Ideal) m g),
    (θ_run MixEvenRefIdeal.defs _ _).mono (fun r h c => ?_) (MixEvenRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.MixEvenValue

end
-- ==== Proof.UpOddValue.lean ====
module

public import proofs.«01_k».proof.Proof.Gen.UpOddIdeal.Value
public import proofs.«01_k».proof.Proof.Gen.UpOddRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The first product of the odd layer's mixer:
   a block of the result is a product of a block of rows by a block of columns of the weights. -/

@[expose] public section

set_option maxRecDepth 16384

noncomputable section

namespace Cert.UpOddValue

open Cert.UpOddIdeal Cert.UpOddIdeal.Gen Cert.UpOddIdeal.Value

open Idealize.ShloMosaic Idealize.ShloMosaic.TcCoe
open Idealize.SL.Sem
open scoped BigOperators

/-- The product. -/
def product (a : S8448x2048.Idx → EReal) (w : S2048x12288.Idx → EReal) (j : S8448x12288.Idx) : EReal :=
  ∑ k : Fin 2048, a (ix2 (n0 := 8448) (n1 := 2048) (j 0) k) * w (ix2 (n0 := 2048) (n1 := 12288) k (j 1))

theorem pay (x0 : S1056x2048.Idx → EReal) (x1 : S2048x512.Idx → EReal) (y : S1056x512.Idx) :
    k0_pay1 (F := Ideal) x0 x1 y = ∑ k : Fin 2048, x0 (ix2 (n0 := 1056) (n1 := 2048) (y 0) k) * x1 (ix2 (n0 := 2048) (n1 := 512) k (y 1)) := by
  pointwise [k0_pay1]

section Final
variable (m : (ℓ : Loc nD τ sig) → Buf (Elt Ideal) ℓ)

theorem index0 : ∀ t : Fin cfg0.N, win0_0.index t = ![t.val / 24, 0] := (by decide +kernel : ∀ t : Fin grid0.N, _)
theorem index1 : ∀ t : Fin cfg0.N, win0_1.index t = ![0, t.val % 24] := (by decide +kernel : ∀ t : Fin grid0.N, _)
theorem index2 : ∀ t : Fin cfg0.N, win0_2.index t = ![t.val / 24, t.val % 24] := (by decide +kernel : ∀ t : Fin grid0.N, _)

theorem zeros2 : (![0, 0] : Fin 2 → Nat) = fun _ => 0 := funext fun a => by fin_cases a <;> rfl

/-- A point stores the product of its blocks. -/
theorem stored (c : Dev nD) (t : Fin cfg0.N) : (dats m 0 c).after 2 t = k0_pay1 (iblk m c 0 t) (iblk m c 1 t) := by
  rw [after0_2]
  unfold out0_2
  rw [View.canon_unit_zero zeros2]
  exact congrArg₂ (fun a b => k0_pay1 a b) (View.ld_unit_zero zeros2 _ _) (View.ld_unit_zero zeros2 _ _)

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  rw [stored m c t]
  blk_simp
  refine (pay _ _ y).trans (Finset.sum_congr rfl fun k _ => congrArg₂ (fun a b : EReal => a * b) ?_ ?_)
  all_goals
    have e0 := index0 t
    have e1 := index1 t
    have e2 := index2 t
    blk_point [iblk, V, e0, e1, e2]

end Final

/-- On every device the results are the reference's. -/
theorem algebraic : Cert.algebraic_UpOddIdeal_UpOddRefIdeal := by
  intro m g m' g' _ hin
  refine ⟨fun c => product (m ((c.tc : Thread nD τ).loc main_arg0)) (m ((c.tc : Thread nD τ).loc main_arg1)),
    (θ_run UpOddIdeal.defs _ _).mono (fun r h c => ?_) (run_blocks (F := Ideal) m g),
    (θ_run UpOddRefIdeal.defs _ _).mono (fun r h c => ?_) (UpOddRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.UpOddValue

end
-- ==== Proof.GateOddValue.lean ====
module

public import proofs.«01_k».proof.Proof.Gen.GateOddIdeal.Value
public import proofs.«01_k».proof.Proof.Gen.GateOddRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The product of the odd layer's gates:
   a block of the result is a product of a block of rows by a block of columns of the weights. -/

@[expose] public section

set_option maxRecDepth 16384

noncomputable section

namespace Cert.GateOddValue

open Cert.GateOddIdeal Cert.GateOddIdeal.Gen Cert.GateOddIdeal.Value

open Idealize.ShloMosaic Idealize.ShloMosaic.TcCoe
open Idealize.SL.Sem
open scoped BigOperators

/-- The product. -/
def product (a : S8448x2048.Idx → EReal) (w : S2048x128.Idx → EReal) (j : S8448x128.Idx) : EReal :=
  ∑ k : Fin 2048, a (ix2 (n0 := 8448) (n1 := 2048) (j 0) k) * w (ix2 (n0 := 2048) (n1 := 128) k (j 1))

theorem pay (x0 : S1056x2048.Idx → EReal) (x1 : S2048x128.Idx → EReal) (y : S1056x128.Idx) :
    k0_pay1 (F := Ideal) x0 x1 y = ∑ k : Fin 2048, x0 (ix2 (n0 := 1056) (n1 := 2048) (y 0) k) * x1 (ix2 (n0 := 2048) (n1 := 128) k (y 1)) := by
  pointwise [k0_pay1]

section Final
variable (m : (ℓ : Loc nD τ sig) → Buf (Elt Ideal) ℓ)

theorem index0 : ∀ t : Fin cfg0.N, win0_0.index t = ![t.val / 1, 0] := (by decide +kernel : ∀ t : Fin grid0.N, _)
theorem index1 : ∀ t : Fin cfg0.N, win0_1.index t = ![0, t.val % 1] := (by decide +kernel : ∀ t : Fin grid0.N, _)
theorem index2 : ∀ t : Fin cfg0.N, win0_2.index t = ![t.val / 1, t.val % 1] := (by decide +kernel : ∀ t : Fin grid0.N, _)

theorem zeros2 : (![0, 0] : Fin 2 → Nat) = fun _ => 0 := funext fun a => by fin_cases a <;> rfl

/-- A point stores the product of its blocks. -/
theorem stored (c : Dev nD) (t : Fin cfg0.N) : (dats m 0 c).after 2 t = k0_pay1 (iblk m c 0 t) (iblk m c 1 t) := by
  rw [after0_2]
  unfold out0_2
  rw [View.canon_unit_zero zeros2]
  exact congrArg₂ (fun a b => k0_pay1 a b) (View.ld_unit_zero zeros2 _ _) (View.ld_unit_zero zeros2 _ _)

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  rw [stored m c t]
  blk_simp
  refine (pay _ _ y).trans (Finset.sum_congr rfl fun k _ => congrArg₂ (fun a b : EReal => a * b) ?_ ?_)
  all_goals
    have e0 := index0 t
    have e1 := index1 t
    have e2 := index2 t
    blk_point [iblk, V, e0, e1, e2]

end Final

/-- On every device the results are the reference's. -/
theorem algebraic : Cert.algebraic_GateOddIdeal_GateOddRefIdeal := by
  intro m g m' g' _ hin
  refine ⟨fun c => product (m ((c.tc : Thread nD τ).loc main_arg0)) (m ((c.tc : Thread nD τ).loc main_arg1)),
    (θ_run GateOddIdeal.defs _ _).mono (fun r h c => ?_) (run_blocks (F := Ideal) m g),
    (θ_run GateOddRefIdeal.defs _ _).mono (fun r h c => ?_) (GateOddRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.GateOddValue

end
-- ==== Proof.BackDownValue.lean ====
module

public import proofs.«01_k».proof.Proof.Gen.BackDownIdeal.Value
public import proofs.«01_k».proof.Proof.Gen.BackDownRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The gradient of the input of a layer's second feed-forward product:
   a block of the result is a product of a block of rows by a block of rows of the weights, transposed. -/

@[expose] public section

set_option maxRecDepth 16384

noncomputable section

namespace Cert.BackDownValue

open Cert.BackDownIdeal Cert.BackDownIdeal.Gen Cert.BackDownIdeal.Value

open Idealize.ShloMosaic Idealize.ShloMosaic.TcCoe
open Idealize.SL.Sem
open scoped BigOperators

/-- The product. -/
def product (a : S8448x2048.Idx → EReal) (w : S5632x2048.Idx → EReal) (j : S8448x5632.Idx) : EReal :=
  ∑ k : Fin 2048, a (ix2 (n0 := 8448) (n1 := 2048) (j 0) k) * w (ix2 (n0 := 5632) (n1 := 2048) (j 1) k)

theorem pay (x0 : S1056x2048.Idx → EReal) (x1 : S1408x2048.Idx → EReal) (y : S1056x1408.Idx) :
    k0_pay1 (F := Ideal) x0 x1 y = ∑ k : Fin 2048, x0 (ix2 (n0 := 1056) (n1 := 2048) (y 0) k) * x1 (ix2 (n0 := 1408) (n1 := 2048) (y 1) k) := by
  pointwise [k0_pay1]

section Final
variable (m : (ℓ : Loc nD τ sig) → Buf (Elt Ideal) ℓ)

theorem index0 : ∀ t : Fin cfg0.N, win0_0.index t = ![t.val / 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, t.val % 4] := (by decide +kernel : ∀ t : Fin grid0.N, _)

theorem zeros2 : (![0, 0] : Fin 2 → Nat) = fun _ => 0 := funext fun a => by fin_cases a <;> rfl

/-- A point stores the product of its blocks. -/
theorem stored (c : Dev nD) (t : Fin cfg0.N) : (dats m 0 c).after 2 t = k0_pay1 (iblk m c 0 t) (iblk m c 1 t) := by
  rw [after0_2]
  unfold out0_2
  rw [View.canon_unit_zero zeros2]
  exact congrArg₂ (fun a b => k0_pay1 a b) (View.ld_unit_zero zeros2 _ _) (View.ld_unit_zero zeros2 _ _)

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  rw [stored m c t]
  blk_simp
  refine (pay _ _ y).trans (Finset.sum_congr rfl fun k _ => congrArg₂ (fun a b : EReal => a * b) ?_ ?_)
  all_goals
    have e0 := index0 t
    have e1 := index1 t
    have e2 := index2 t
    blk_point [iblk, V, e0, e1, e2]

end Final

/-- On every device the results are the reference's. -/
theorem algebraic : Cert.algebraic_BackDownIdeal_BackDownRefIdeal := by
  intro m g m' g' _ hin
  refine ⟨fun c => product (m ((c.tc : Thread nD τ).loc main_arg0)) (m ((c.tc : Thread nD τ).loc main_arg1)),
    (θ_run BackDownIdeal.defs _ _).mono (fun r h c => ?_) (run_blocks (F := Ideal) m g),
    (θ_run BackDownRefIdeal.defs _ _).mono (fun r h c => ?_) (BackDownRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.BackDownValue

end
-- ==== Proof.BackEvenValue.lean ====
module

public import proofs.«01_k».proof.Proof.Gen.BackEvenIdeal.Value
public import proofs.«01_k».proof.Proof.Gen.BackEvenRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The gradient of the input of the even layer's last product:
   a block of the result is a product of a block of rows by a block of rows of the weights, transposed. -/

@[expose] public section

set_option maxRecDepth 16384

noncomputable section

namespace Cert.BackEvenValue

open Cert.BackEvenIdeal Cert.BackEvenIdeal.Gen Cert.BackEvenIdeal.Value

open Idealize.ShloMosaic Idealize.ShloMosaic.TcCoe
open Idealize.SL.Sem
open scoped BigOperators

/-- The product. -/
def product (a : S8448x2048.Idx → EReal) (w : S2048x2048.Idx → EReal) (j : S8448x2048.Idx) : EReal :=
  ∑ k : Fin 2048, a (ix2 (n0 := 8448) (n1 := 2048) (j 0) k) * w (ix2 (n0 := 2048) (n1 := 2048) (j 1) k)

theorem pay (x0 : S1056x2048.Idx → EReal) (x1 : S1024x2048.Idx → EReal) (y : S1056x1024.Idx) :
    k0_pay1 (F := Ideal) x0 x1 y = ∑ k : Fin 2048, x0 (ix2 (n0 := 1056) (n1 := 2048) (y 0) k) * x1 (ix2 (n0 := 1024) (n1 := 2048) (y 1) k) := by
  pointwise [k0_pay1]

section Final
variable (m : (ℓ : Loc nD τ sig) → Buf (Elt Ideal) ℓ)

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

theorem zeros2 : (![0, 0] : Fin 2 → Nat) = fun _ => 0 := funext fun a => by fin_cases a <;> rfl

/-- A point stores the product of its blocks. -/
theorem stored (c : Dev nD) (t : Fin cfg0.N) : (dats m 0 c).after 2 t = k0_pay1 (iblk m c 0 t) (iblk m c 1 t) := by
  rw [after0_2]
  unfold out0_2
  rw [View.canon_unit_zero zeros2]
  exact congrArg₂ (fun a b => k0_pay1 a b) (View.ld_unit_zero zeros2 _ _) (View.ld_unit_zero zeros2 _ _)

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  rw [stored m c t]
  blk_simp
  refine (pay _ _ y).trans (Finset.sum_congr rfl fun k _ => congrArg₂ (fun a b : EReal => a * b) ?_ ?_)
  all_goals
    have e0 := index0 t
    have e1 := index1 t
    have e2 := index2 t
    blk_point [iblk, V, e0, e1, e2]

end Final

/-- On every device the results are the reference's. -/
theorem algebraic : Cert.algebraic_BackEvenIdeal_BackEvenRefIdeal := by
  intro m g m' g' _ hin
  refine ⟨fun c => product (m ((c.tc : Thread nD τ).loc main_arg0)) (m ((c.tc : Thread nD τ).loc main_arg1)),
    (θ_run BackEvenIdeal.defs _ _).mono (fun r h c => ?_) (run_blocks (F := Ideal) m g),
    (θ_run BackEvenRefIdeal.defs _ _).mono (fun r h c => ?_) (BackEvenRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.BackEvenValue

end
-- ==== Proof.BackOddValue.lean ====
module

public import proofs.«01_k».proof.Proof.Gen.BackOddIdeal.Value
public import proofs.«01_k».proof.Proof.Gen.BackOddRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The gradient of the input of the odd layer's last product:
   a block of the result is a product of a block of rows by a block of rows of the weights, transposed. -/

@[expose] public section

set_option maxRecDepth 16384

noncomputable section

namespace Cert.BackOddValue

open Cert.BackOddIdeal Cert.BackOddIdeal.Gen Cert.BackOddIdeal.Value

open Idealize.ShloMosaic Idealize.ShloMosaic.TcCoe
open Idealize.SL.Sem
open scoped BigOperators

/-- The product. -/
def product (a : S8448x2048.Idx → EReal) (w : S4096x2048.Idx → EReal) (j : S8448x4096.Idx) : EReal :=
  ∑ k : Fin 2048, a (ix2 (n0 := 8448) (n1 := 2048) (j 0) k) * w (ix2 (n0 := 4096) (n1 := 2048) (j 1) k)

theorem pay (x0 : S1056x2048.Idx → EReal) (x1 : S1024x2048.Idx → EReal) (y : S1056x1024.Idx) :
    k0_pay1 (F := Ideal) x0 x1 y = ∑ k : Fin 2048, x0 (ix2 (n0 := 1056) (n1 := 2048) (y 0) k) * x1 (ix2 (n0 := 1024) (n1 := 2048) (y 1) k) := by
  pointwise [k0_pay1]

section Final
variable (m : (ℓ : Loc nD τ sig) → Buf (Elt Ideal) ℓ)

theorem index0 : ∀ t : Fin cfg0.N, win0_0.index t = ![t.val / 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, t.val % 4] := (by decide +kernel : ∀ t : Fin grid0.N, _)

theorem zeros2 : (![0, 0] : Fin 2 → Nat) = fun _ => 0 := funext fun a => by fin_cases a <;> rfl

/-- A point stores the product of its blocks. -/
theorem stored (c : Dev nD) (t : Fin cfg0.N) : (dats m 0 c).after 2 t = k0_pay1 (iblk m c 0 t) (iblk m c 1 t) := by
  rw [after0_2]
  unfold out0_2
  rw [View.canon_unit_zero zeros2]
  exact congrArg₂ (fun a b => k0_pay1 a b) (View.ld_unit_zero zeros2 _ _) (View.ld_unit_zero zeros2 _ _)

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  rw [stored m c t]
  blk_simp
  refine (pay _ _ y).trans (Finset.sum_congr rfl fun k _ => congrArg₂ (fun a b : EReal => a * b) ?_ ?_)
  all_goals
    have e0 := index0 t
    have e1 := index1 t
    have e2 := index2 t
    blk_point [iblk, V, e0, e1, e2]

end Final

/-- On every device the results are the reference's. -/
theorem algebraic : Cert.algebraic_BackOddIdeal_BackOddRefIdeal := by
  intro m g m' g' _ hin
  refine ⟨fun c => product (m ((c.tc : Thread nD τ).loc main_arg0)) (m ((c.tc : Thread nD τ).loc main_arg1)),
    (θ_run BackOddIdeal.defs _ _).mono (fun r h c => ?_) (run_blocks (F := Ideal) m g),
    (θ_run BackOddRefIdeal.defs _ _).mono (fun r h c => ?_) (BackOddRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.BackOddValue

end
-- ==== Proof.BackGateValue.lean ====
module

public import proofs.«01_k».proof.Proof.Gen.BackGateIdeal.Value
public import proofs.«01_k».proof.Proof.Gen.BackGateRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The gradient of the input of the product of the odd layer's gates:
   a block of the result is a product of a block of rows by a block of rows of the weights, transposed. -/

@[expose] public section

set_option maxRecDepth 16384

noncomputable section

namespace Cert.BackGateValue

open Cert.BackGateIdeal Cert.BackGateIdeal.Gen Cert.BackGateIdeal.Value

open Idealize.ShloMosaic Idealize.ShloMosaic.TcCoe
open Idealize.SL.Sem
open scoped BigOperators

/-- The product. -/
def product (a : S8448x128.Idx → EReal) (w : S2048x128.Idx → EReal) (j : S8448x2048.Idx) : EReal :=
  ∑ k : Fin 128, a (ix2 (n0 := 8448) (n1 := 128) (j 0) k) * w (ix2 (n0 := 2048) (n1 := 128) (j 1) k)

theorem pay (x0 : S1056x128.Idx → EReal) (x1 : S1024x128.Idx → EReal) (y : S1056x1024.Idx) :
    k0_pay1 (F := Ideal) x0 x1 y = ∑ k : Fin 128, x0 (ix2 (n0 := 1056) (n1 := 128) (y 0) k) * x1 (ix2 (n0 := 1024) (n1 := 128) (y 1) k) := by
  pointwise [k0_pay1]

section Final
variable (m : (ℓ : Loc nD τ sig) → Buf (Elt Ideal) ℓ)

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

theorem zeros2 : (![0, 0] : Fin 2 → Nat) = fun _ => 0 := funext fun a => by fin_cases a <;> rfl

/-- A point stores the product of its blocks. -/
theorem stored (c : Dev nD) (t : Fin cfg0.N) : (dats m 0 c).after 2 t = k0_pay1 (iblk m c 0 t) (iblk m c 1 t) := by
  rw [after0_2]
  unfold out0_2
  rw [View.canon_unit_zero zeros2]
  exact congrArg₂ (fun a b => k0_pay1 a b) (View.ld_unit_zero zeros2 _ _) (View.ld_unit_zero zeros2 _ _)

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  rw [stored m c t]
  blk_simp
  refine (pay _ _ y).trans (Finset.sum_congr rfl fun k _ => congrArg₂ (fun a b : EReal => a * b) ?_ ?_)
  all_goals
    have e0 := index0 t
    have e1 := index1 t
    have e2 := index2 t
    blk_point [iblk, V, e0, e1, e2]

end Final

/-- On every device the results are the reference's. -/
theorem algebraic : Cert.algebraic_BackGateIdeal_BackGateRefIdeal := by
  intro m g m' g' _ hin
  refine ⟨fun c => product (m ((c.tc : Thread nD τ).loc main_arg0)) (m ((c.tc : Thread nD τ).loc main_arg1)),
    (θ_run BackGateIdeal.defs _ _).mono (fun r h c => ?_) (run_blocks (F := Ideal) m g),
    (θ_run BackGateRefIdeal.defs _ _).mono (fun r h c => ?_) (BackGateRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.BackGateValue

end
-- ==== Proof.SecondValue.lean ====
module

public import proofs.«01_k».proof.Proof.Gen.SecondIdeal.Value
public import proofs.«01_k».proof.Proof.Gen.SecondRefIdeal.Run
public import proofs.«01_k».proof.Defs
public import proofs.«01_k».proof.Proof.Rows
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.VecWindow
public import Idealize.ShloMosaic.Lib.Pointwise
public import Idealize.ShloMosaic.Lib.Pipeline.ValueKit

/-
  The second product of the feed-forward part: the activations times the weights.
  The kernel has one block of the result at a time and walks over the inner dimension 2816 at a time, in two steps, adding each step's
  product to a buffer it keeps; at the last the buffer is the result's block.
-/

@[expose] public section

set_option maxRecDepth 16384

noncomputable section

namespace Cert.SecondValue

open Cert.SecondIdeal Cert.SecondIdeal.Gen Cert.SecondIdeal.Value

open Idealize.ShloMosaic Idealize.ShloMosaic.TcCoe
open Idealize.SL.Sem
open Cert.Rows
open scoped BigOperators

/-! ## What a grid point stores -/

section Stores
variable {F : FTy → Type} [FloatOps F]

theorem zeros2 : (![0, 0] : Fin 2 → Nat) = fun _ => 0 := funext fun a => by fin_cases a <;> rfl

variable (c : Dev nD) (i : grid0.Coords)
    (arg3 : Memref sig .tc .vmem S1056x2816 .bf16) (h3 : arg3.IsWhole)
    (arg4 : Memref sig .tc .vmem S2816x512 .bf16) (h4 : arg4.IsWhole)
    (arg5 : Memref sig .tc .vmem S1056x512 .f32) (h5 : arg5.IsWhole)
    (arg6 : Memref sig .tc .vmem S1056x512 .f32) (h6 : arg6.IsWhole)
    (x0 : Vec F S1056x2816 .bf16) (x1 : Vec F S2816x512 .bf16) (acc : Vec F S1056x512 .f32)

/-- The first step leaves its product in the buffer. -/
theorem kept_A (hc0 : cond0_0 i) (hc1 : ¬cond0_1 i) (hc2 : ¬cond0_2 i) :
    sout0_A_0 c i arg3 h3 arg4 h4 arg5 h5 arg6 h6 hc0 hc1 hc2 x0 x1 = k0_pay2 x0 x1 := by
  unfold sout0_A_0
  rw [View.read_writes_junk_eq_canon]
  show View.canon ([⟨Rect.unit ![0, 0] S1056x512.size inb_S1056x512_S1056x512_0_0, k0_pay2 _ _⟩] :
    List (View.Piece (Elt F) S1056x512 .f32)) = _
  rw [View.canon_unit_zero zeros2]
  exact congrArg₂ (fun a b => k0_pay2 a b) (readWhole _ _ zeros2 ..) (readWhole _ _ zeros2 ..)

/-- The second step adds its product to what it held. -/
theorem kept_B (hc0 : ¬cond0_0 i) (hc1 : cond0_1 i) (hc2 : cond0_2 i) :
    sout0_B_0 c i arg3 h3 arg4 h4 arg5 h5 arg6 h6 hc0 hc1 hc2 x0 x1 acc = k0_pay3 x0 x1 acc := by
  unfold sout0_B_0
  rw [View.read_writes_junk_eq_canon]
  show View.canon ([⟨Rect.unit ![0, 0] S1056x512.size inb_S1056x512_S1056x512_0_0, k0_pay3 _ _ _⟩] :
    List (View.Piece (Elt F) S1056x512 .f32)) = _
  rw [View.canon_unit_zero zeros2]
  exact congr (congrArg₂ (fun a b => k0_pay3 a b) (readWhole _ _ zeros2 ..) (readWhole _ _ zeros2 ..)) (readWhole _ _ zeros2 ..)

/-- The last step also stores what the buffer then holds. -/
theorem stored_B (hc0 : ¬cond0_0 i) (hc1 : cond0_1 i) (hc2 : cond0_2 i) :
    out0_B_2 c i arg3 h3 arg4 h4 arg5 h5 arg6 h6 hc0 hc1 hc2 x0 x1 acc = k0_pay3 x0 x1 acc := by
  unfold out0_B_2
  rw [View.read_writes_junk_eq_canon]
  show View.canon ([⟨Rect.unit ![0, 0] S1056x512.size inb_S1056x512_S1056x512_0_0, _⟩] :
    List (View.Piece (Elt F) S1056x512 .f32)) = _
  rw [View.canon_unit_zero zeros2]
  unfold kernelRun0_B.sl.v12 kernelRun0_B.sl.HS0_1
  refine (View.readCov_full _ _ inb_S1056x512_S1056x512_0_0 _ _).trans ?_
  exact congr (congrArg₂ (fun a b => k0_pay3 a b) (readWhole _ _ zeros2 ..) (readWhole _ _ zeros2 ..)) (readWhole _ _ zeros2 ..)

end Stores

/-! ## Over the extended reals -/

/-- The arguments, the place summed over first. -/
abbrev rows0 (a : S8448x5632.Idx → EReal) (k : Fin 5632) (p : Fin 8448) : EReal := a (ix2 (n0 := 8448) (n1 := 5632) p k)
abbrev rows1 (a : S5632x2048.Idx → EReal) (k : Fin 5632) (q : Fin 2048) : EReal := a (ix2 (n0 := 5632) (n1 := 2048) k q)

/-- The product. -/
def product (a0 : S8448x5632.Idx → EReal) (a1 : S5632x2048.Idx → EReal) (j : S8448x2048.Idx) : EReal :=
  ∑ k : Fin 5632, rows0 a0 k (j 0) * rows1 a1 k (j 1)

theorem pay_first (x0 : S1056x2816.Idx → EReal) (x1 : S2816x512.Idx → EReal) (y : S1056x512.Idx) :
    k0_pay2 (F := Ideal) x0 x1 y = ∑ r : Fin 2816, x0 (ix2 (n0 := 1056) (n1 := 2816) (y 0) r) * x1 (ix2 (n0 := 2816) (n1 := 512) r (y 1)) := by
  pointwise [k0_pay2, k0_pay1]

theorem pay_later (x0 : S1056x2816.Idx → EReal) (x1 : S2816x512.Idx → EReal) (acc : S1056x512.Idx → EReal) (y : S1056x512.Idx) :
    k0_pay3 (F := Ideal) x0 x1 acc y = acc y + ∑ r : Fin 2816, x0 (ix2 (n0 := 1056) (n1 := 2816) (y 0) r) * x1 (ix2 (n0 := 2816) (n1 := 512) r (y 1)) := by
  pointwise [k0_pay3, k0_pay1]

section Final
variable (m : (ℓ : Loc nD τ sig) → Buf (Elt Ideal) ℓ)

/-- The windows' blocks. -/
theorem index0 : ∀ t : Fin cfg0.N, win0_0.index t = ![t.val / 8, t.val % 2] := (by decide +kernel : ∀ t : Fin grid0.N, _)
theorem index1 : ∀ t : Fin cfg0.N, win0_1.index t = ![t.val % 2, t.val / 2 % 4] := (by decide +kernel : ∀ t : Fin grid0.N, _)
theorem index2 : ∀ t : Fin cfg0.N, win0_2.index t = ![t.val / 8, t.val / 2 % 4] := (by decide +kernel : ∀ t : Fin grid0.N, _)

/-- A block's entry in its array. -/
theorem block0 (c : Dev nD) (t : Fin cfg0.N) (r : Fin 2816) (i : Fin 1056) : iblk m c 0 t (ix2 (n0 := 1056) (n1 := 2816) i r)
      = entry (rows0 (m ((c : Thread nD τ).loc main_arg0))) (2816 * (t.val % 2) + r.val) (1056 * (t.val / 8) + i.val) := by
  have hN : t.val < 64 := lt_of_lt_of_eq t.isLt (show cfg0.N = 64 from N_0)
  have e := index0 t
  unfold entry rows0
  rw [dif_pos ⟨by omega, by omega⟩]
  blk_point [iblk, V, e]

theorem block1 (c : Dev nD) (t : Fin cfg0.N) (r : Fin 2816) (i : Fin 512) : iblk m c 1 t (ix2 (n0 := 2816) (n1 := 512) r i)
      = entry (rows1 (m ((c : Thread nD τ).loc main_arg1))) (2816 * (t.val % 2) + r.val) (512 * (t.val / 2 % 4) + i.val) := by
  have hN : t.val < 64 := lt_of_lt_of_eq t.isLt (show cfg0.N = 64 from N_0)
  have e := index1 t
  unfold entry rows1
  rw [dif_pos ⟨by omega, by omega⟩]
  blk_point [iblk, V, e]

/-- A point's product. -/
theorem added (c : Dev nD) (t : Fin cfg0.N) (y : S1056x512.Idx) :
    ∑ r : Fin 2816, (show EReal from iblk m c 0 t (ix2 (n0 := 1056) (n1 := 2816) (y 0) r)) * (show EReal from iblk m c 1 t (ix2 (n0 := 2816) (n1 := 512) r (y 1)))
      = ∑ r : Fin 2816, entry (rows0 (m ((c : Thread nD τ).loc main_arg0))) (2816 * (t.val % 2) + r.val) (1056 * (t.val / 8) + (y 0).val)
        * entry (rows1 (m ((c : Thread nD τ).loc main_arg1))) (2816 * (t.val % 2) + r.val) (512 * (t.val / 2 % 4) + (y 1).val) :=
  Finset.sum_congr rfl fun r _ => congrArg₂ (fun a b : EReal => a * b) (block0 m c t r (y 0)) (block1 m c t r (y 1))

/-- After a point the buffer holds the sum over the blocks so far. -/
theorem kept (c : Dev nD) (n : ℕ) (hn : n < cfg0.N) (y : S1056x512.Idx) : (outsAt0 m c n hn).2 y
    = upto (rows0 (m ((c : Thread nD τ).loc main_arg0))) (rows1 (m ((c : Thread nD τ).loc main_arg1))) (1056 * (n / 8) + (y 0).val) (512 * (n / 2 % 4) + (y 1).val) (2816 * (n % 2 + 1)) := by
  refine upto_fold _ _ 2816 2 (by decide) (fun n => 1056 * (n / 8) + (y 0).val) (fun n => 512 * (n / 2 % 4) + (y 1).val)
    (fun n hn => (outsAt0 m c n hn).2 y) (fun n h0 => ⟨by dsimp only; omega, by dsimp only; omega⟩) (fun n hn h0 => ?_) (fun n hn h0 => ?_) n hn
  · dsimp only
    rw [outsAt0_A m c ⟨n, hn⟩ h0 (by dsimp only; omega) (by dsimp only; omega)]; dsimp only; rw [kept_A]
    exact (pay_first _ _ y).trans (added m c ⟨n, hn⟩ y)
  · have hs : (outsAt0 m c (n + 1) hn).2 = k0_pay3 (iblk m c 0 ⟨n + 1, hn⟩) (iblk m c 1 ⟨n + 1, hn⟩) (outsAt0 m c n (Nat.lt_of_succ_lt hn)).2 := by
      rw [outsAt0_B m c ⟨n + 1, hn⟩ h0 (by dsimp only; omega) (by dsimp only; omega)]; dsimp only; rw [kept_B]; rfl
    dsimp only
    rw [hs]
    exact (pay_later _ _ _ y).trans (congrArg (α := EReal) (β := EReal) (_ + ·) (added m c ⟨n + 1, hn⟩ y))

/-- A point that stores a block stores what the buffer holds. -/
theorem stored (c : Dev nD) (t : Fin cfg0.N) (h : t.val % 2 = 1) :
    (dats m 0 c).after 2 t = (outsAt0 m c t.val t.isLt).2 := by
  rw [after0_2, outsAt0_B m c t (by omega) (by omega) h]; dsimp only; rw [stored_B, kept_B]

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  rw [stored m c t h]
  blk_simp
  refine (kept m c _ _ y).trans (Eq.trans ?_ (upto_all _ _ _ _))
  have e := index2 t
  rw [h]
  refine congrArg₂ (fun p q => upto (rows0 (m ((c : Thread nD τ).loc main_arg0))) (rows1 (m ((c : Thread nD τ).loc main_arg1))) p q 5632) ?_ ?_
  · refine Eq.trans ?_ (Pipeline.Window.rect_emb_val win0_2 t y 0).symm
    rw [e]
    exact congrArg (· + _) (Nat.mul_comm ..)
  · refine Eq.trans ?_ (Pipeline.Window.rect_emb_val win0_2 t y 1).symm
    rw [e]
    exact congrArg (· + _) (Nat.mul_comm ..)

end Final

/-- On every device the results are the reference's. -/
theorem algebraic : Cert.algebraic_SecondIdeal_SecondRefIdeal := by
  intro m g m' g' _ hin
  refine ⟨fun c => product (m ((c.tc : Thread nD τ).loc main_arg0)) (m ((c.tc : Thread nD τ).loc main_arg1)),
    (θ_run SecondIdeal.defs _ _).mono (fun r h c => ?_) (run_blocks (F := Ideal) m g),
    (θ_run SecondRefIdeal.defs _ _).mono (fun r h c => ?_) (SecondRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.SecondValue

end
-- ==== Proof.MixOddValue.lean ====
module

public import proofs.«01_k».proof.Proof.Gen.MixOddIdeal.Value
public import proofs.«01_k».proof.Proof.Gen.MixOddRefIdeal.Run
public import proofs.«01_k».proof.Defs
public import proofs.«01_k».proof.Proof.Rows
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.VecWindow
public import Idealize.ShloMosaic.Lib.Pointwise
public import Idealize.ShloMosaic.Lib.Pipeline.ValueKit

/-
  The last product of the odd layer's mixer: the values times the weights.
  The kernel has one block of the result at a time and walks over the inner dimension 2048 at a time, in two steps, adding each step's
  product to a buffer it keeps; at the last the buffer is the result's block.
-/

@[expose] public section

set_option maxRecDepth 16384

noncomputable section

namespace Cert.MixOddValue

open Cert.MixOddIdeal Cert.MixOddIdeal.Gen Cert.MixOddIdeal.Value

open Idealize.ShloMosaic Idealize.ShloMosaic.TcCoe
open Idealize.SL.Sem
open Cert.Rows
open scoped BigOperators

/-! ## What a grid point stores -/

section Stores
variable {F : FTy → Type} [FloatOps F]

theorem zeros2 : (![0, 0] : Fin 2 → Nat) = fun _ => 0 := funext fun a => by fin_cases a <;> rfl

variable (c : Dev nD) (i : grid0.Coords)
    (arg3 : Memref sig .tc .vmem S1056x2048 .bf16) (h3 : arg3.IsWhole)
    (arg4 : Memref sig .tc .vmem S2048x512 .bf16) (h4 : arg4.IsWhole)
    (arg5 : Memref sig .tc .vmem S1056x512 .f32) (h5 : arg5.IsWhole)
    (arg6 : Memref sig .tc .vmem S1056x512 .f32) (h6 : arg6.IsWhole)
    (x0 : Vec F S1056x2048 .bf16) (x1 : Vec F S2048x512 .bf16) (acc : Vec F S1056x512 .f32)

/-- The first step leaves its product in the buffer. -/
theorem kept_A (hc0 : cond0_0 i) (hc1 : ¬cond0_1 i) (hc2 : ¬cond0_2 i) :
    sout0_A_0 c i arg3 h3 arg4 h4 arg5 h5 arg6 h6 hc0 hc1 hc2 x0 x1 = k0_pay2 x0 x1 := by
  unfold sout0_A_0
  rw [View.read_writes_junk_eq_canon]
  show View.canon ([⟨Rect.unit ![0, 0] S1056x512.size inb_S1056x512_S1056x512_0_0, k0_pay2 _ _⟩] :
    List (View.Piece (Elt F) S1056x512 .f32)) = _
  rw [View.canon_unit_zero zeros2]
  exact congrArg₂ (fun a b => k0_pay2 a b) (readWhole _ _ zeros2 ..) (readWhole _ _ zeros2 ..)

/-- The second step adds its product to what it held. -/
theorem kept_B (hc0 : ¬cond0_0 i) (hc1 : cond0_1 i) (hc2 : cond0_2 i) :
    sout0_B_0 c i arg3 h3 arg4 h4 arg5 h5 arg6 h6 hc0 hc1 hc2 x0 x1 acc = k0_pay3 x0 x1 acc := by
  unfold sout0_B_0
  rw [View.read_writes_junk_eq_canon]
  show View.canon ([⟨Rect.unit ![0, 0] S1056x512.size inb_S1056x512_S1056x512_0_0, k0_pay3 _ _ _⟩] :
    List (View.Piece (Elt F) S1056x512 .f32)) = _
  rw [View.canon_unit_zero zeros2]
  exact congr (congrArg₂ (fun a b => k0_pay3 a b) (readWhole _ _ zeros2 ..) (readWhole _ _ zeros2 ..)) (readWhole _ _ zeros2 ..)

/-- The last step also stores what the buffer then holds. -/
theorem stored_B (hc0 : ¬cond0_0 i) (hc1 : cond0_1 i) (hc2 : cond0_2 i) :
    out0_B_2 c i arg3 h3 arg4 h4 arg5 h5 arg6 h6 hc0 hc1 hc2 x0 x1 acc = k0_pay3 x0 x1 acc := by
  unfold out0_B_2
  rw [View.read_writes_junk_eq_canon]
  show View.canon ([⟨Rect.unit ![0, 0] S1056x512.size inb_S1056x512_S1056x512_0_0, _⟩] :
    List (View.Piece (Elt F) S1056x512 .f32)) = _
  rw [View.canon_unit_zero zeros2]
  unfold kernelRun0_B.sl.v12 kernelRun0_B.sl.HS0_1
  refine (View.readCov_full _ _ inb_S1056x512_S1056x512_0_0 _ _).trans ?_
  exact congr (congrArg₂ (fun a b => k0_pay3 a b) (readWhole _ _ zeros2 ..) (readWhole _ _ zeros2 ..)) (readWhole _ _ zeros2 ..)

end Stores

/-! ## Over the extended reals -/

/-- The arguments, the place summed over first. -/
abbrev rows0 (a : S8448x4096.Idx → EReal) (k : Fin 4096) (p : Fin 8448) : EReal := a (ix2 (n0 := 8448) (n1 := 4096) p k)
abbrev rows1 (a : S4096x2048.Idx → EReal) (k : Fin 4096) (q : Fin 2048) : EReal := a (ix2 (n0 := 4096) (n1 := 2048) k q)

/-- The product. -/
def product (a0 : S8448x4096.Idx → EReal) (a1 : S4096x2048.Idx → EReal) (j : S8448x2048.Idx) : EReal :=
  ∑ k : Fin 4096, rows0 a0 k (j 0) * rows1 a1 k (j 1)

theorem pay_first (x0 : S1056x2048.Idx → EReal) (x1 : S2048x512.Idx → EReal) (y : S1056x512.Idx) :
    k0_pay2 (F := Ideal) x0 x1 y = ∑ r : Fin 2048, x0 (ix2 (n0 := 1056) (n1 := 2048) (y 0) r) * x1 (ix2 (n0 := 2048) (n1 := 512) r (y 1)) := by
  pointwise [k0_pay2, k0_pay1]

theorem pay_later (x0 : S1056x2048.Idx → EReal) (x1 : S2048x512.Idx → EReal) (acc : S1056x512.Idx → EReal) (y : S1056x512.Idx) :
    k0_pay3 (F := Ideal) x0 x1 acc y = acc y + ∑ r : Fin 2048, x0 (ix2 (n0 := 1056) (n1 := 2048) (y 0) r) * x1 (ix2 (n0 := 2048) (n1 := 512) r (y 1)) := by
  pointwise [k0_pay3, k0_pay1]

section Final
variable (m : (ℓ : Loc nD τ sig) → Buf (Elt Ideal) ℓ)

/-- The windows' blocks. -/
theorem index0 : ∀ t : Fin cfg0.N, win0_0.index t = ![t.val / 8, t.val % 2] := (by decide +kernel : ∀ t : Fin grid0.N, _)
theorem index1 : ∀ t : Fin cfg0.N, win0_1.index t = ![t.val % 2, t.val / 2 % 4] := (by decide +kernel : ∀ t : Fin grid0.N, _)
theorem index2 : ∀ t : Fin cfg0.N, win0_2.index t = ![t.val / 8, t.val / 2 % 4] := (by decide +kernel : ∀ t : Fin grid0.N, _)

/-- A block's entry in its array. -/
theorem block0 (c : Dev nD) (t : Fin cfg0.N) (r : Fin 2048) (i : Fin 1056) : iblk m c 0 t (ix2 (n0 := 1056) (n1 := 2048) i r)
      = entry (rows0 (m ((c : Thread nD τ).loc main_arg0))) (2048 * (t.val % 2) + r.val) (1056 * (t.val / 8) + i.val) := by
  have hN : t.val < 64 := lt_of_lt_of_eq t.isLt (show cfg0.N = 64 from N_0)
  have e := index0 t
  unfold entry rows0
  rw [dif_pos ⟨by omega, by omega⟩]
  blk_point [iblk, V, e]

theorem block1 (c : Dev nD) (t : Fin cfg0.N) (r : Fin 2048) (i : Fin 512) : iblk m c 1 t (ix2 (n0 := 2048) (n1 := 512) r i)
      = entry (rows1 (m ((c : Thread nD τ).loc main_arg1))) (2048 * (t.val % 2) + r.val) (512 * (t.val / 2 % 4) + i.val) := by
  have hN : t.val < 64 := lt_of_lt_of_eq t.isLt (show cfg0.N = 64 from N_0)
  have e := index1 t
  unfold entry rows1
  rw [dif_pos ⟨by omega, by omega⟩]
  blk_point [iblk, V, e]

/-- A point's product. -/
theorem added (c : Dev nD) (t : Fin cfg0.N) (y : S1056x512.Idx) :
    ∑ r : Fin 2048, (show EReal from iblk m c 0 t (ix2 (n0 := 1056) (n1 := 2048) (y 0) r)) * (show EReal from iblk m c 1 t (ix2 (n0 := 2048) (n1 := 512) r (y 1)))
      = ∑ r : Fin 2048, entry (rows0 (m ((c : Thread nD τ).loc main_arg0))) (2048 * (t.val % 2) + r.val) (1056 * (t.val / 8) + (y 0).val)
        * entry (rows1 (m ((c : Thread nD τ).loc main_arg1))) (2048 * (t.val % 2) + r.val) (512 * (t.val / 2 % 4) + (y 1).val) :=
  Finset.sum_congr rfl fun r _ => congrArg₂ (fun a b : EReal => a * b) (block0 m c t r (y 0)) (block1 m c t r (y 1))

/-- After a point the buffer holds the sum over the blocks so far. -/
theorem kept (c : Dev nD) (n : ℕ) (hn : n < cfg0.N) (y : S1056x512.Idx) : (outsAt0 m c n hn).2 y
    = upto (rows0 (m ((c : Thread nD τ).loc main_arg0))) (rows1 (m ((c : Thread nD τ).loc main_arg1))) (1056 * (n / 8) + (y 0).val) (512 * (n / 2 % 4) + (y 1).val) (2048 * (n % 2 + 1)) := by
  refine upto_fold _ _ 2048 2 (by decide) (fun n => 1056 * (n / 8) + (y 0).val) (fun n => 512 * (n / 2 % 4) + (y 1).val)
    (fun n hn => (outsAt0 m c n hn).2 y) (fun n h0 => ⟨by dsimp only; omega, by dsimp only; omega⟩) (fun n hn h0 => ?_) (fun n hn h0 => ?_) n hn
  · dsimp only
    rw [outsAt0_A m c ⟨n, hn⟩ h0 (by dsimp only; omega) (by dsimp only; omega)]; dsimp only; rw [kept_A]
    exact (pay_first _ _ y).trans (added m c ⟨n, hn⟩ y)
  · have hs : (outsAt0 m c (n + 1) hn).2 = k0_pay3 (iblk m c 0 ⟨n + 1, hn⟩) (iblk m c 1 ⟨n + 1, hn⟩) (outsAt0 m c n (Nat.lt_of_succ_lt hn)).2 := by
      rw [outsAt0_B m c ⟨n + 1, hn⟩ h0 (by dsimp only; omega) (by dsimp only; omega)]; dsimp only; rw [kept_B]; rfl
    dsimp only
    rw [hs]
    exact (pay_later _ _ _ y).trans (congrArg (α := EReal) (β := EReal) (_ + ·) (added m c ⟨n + 1, hn⟩ y))

/-- A point that stores a block stores what the buffer holds. -/
theorem stored (c : Dev nD) (t : Fin cfg0.N) (h : t.val % 2 = 1) :
    (dats m 0 c).after 2 t = (outsAt0 m c t.val t.isLt).2 := by
  rw [after0_2, outsAt0_B m c t (by omega) (by omega) h]; dsimp only; rw [stored_B, kept_B]

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  rw [stored m c t h]
  blk_simp
  refine (kept m c _ _ y).trans (Eq.trans ?_ (upto_all _ _ _ _))
  have e := index2 t
  rw [h]
  refine congrArg₂ (fun p q => upto (rows0 (m ((c : Thread nD τ).loc main_arg0))) (rows1 (m ((c : Thread nD τ).loc main_arg1))) p q 4096) ?_ ?_
  · refine Eq.trans ?_ (Pipeline.Window.rect_emb_val win0_2 t y 0).symm
    rw [e]
    exact congrArg (· + _) (Nat.mul_comm ..)
  · refine Eq.trans ?_ (Pipeline.Window.rect_emb_val win0_2 t y 1).symm
    rw [e]
    exact congrArg (· + _) (Nat.mul_comm ..)

end Final

/-- On every device the results are the reference's. -/
theorem algebraic : Cert.algebraic_MixOddIdeal_MixOddRefIdeal := by
  intro m g m' g' _ hin
  refine ⟨fun c => product (m ((c.tc : Thread nD τ).loc main_arg0)) (m ((c.tc : Thread nD τ).loc main_arg1)),
    (θ_run MixOddIdeal.defs _ _).mono (fun r h c => ?_) (run_blocks (F := Ideal) m g),
    (θ_run MixOddRefIdeal.defs _ _).mono (fun r h c => ?_) (MixOddRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.MixOddValue

end
-- ==== Proof.BackUpValue.lean ====
module

public import proofs.«01_k».proof.Proof.Gen.BackUpIdeal.Value
public import proofs.«01_k».proof.Proof.Gen.BackUpRefIdeal.Run
public import proofs.«01_k».proof.Defs
public import proofs.«01_k».proof.Proof.Rows
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.VecWindow
public import Idealize.ShloMosaic.Lib.Pointwise
public import Idealize.ShloMosaic.Lib.Pipeline.ValueKit

/-
  The gradient of the input of the first feed-forward product: the output's gradient times the weights transposed.
  The kernel has one block of the result at a time and walks over the inner dimension 2816 at a time, in four steps, adding each step's
  product to a buffer it keeps; at the last the buffer is the result's block.
-/

@[expose] public section

set_option maxRecDepth 16384

noncomputable section

namespace Cert.BackUpValue

open Cert.BackUpIdeal Cert.BackUpIdeal.Gen Cert.BackUpIdeal.Value

open Idealize.ShloMosaic Idealize.ShloMosaic.TcCoe
open Idealize.SL.Sem
open Cert.Rows
open scoped BigOperators

/-! ## What a grid point stores -/

section Stores
variable {F : FTy → Type} [FloatOps F]

theorem zeros2 : (![0, 0] : Fin 2 → Nat) = fun _ => 0 := funext fun a => by fin_cases a <;> rfl

variable (c : Dev nD) (i : grid0.Coords)
    (arg3 : Memref sig .tc .vmem S1056x2816 .bf16) (h3 : arg3.IsWhole)
    (arg4 : Memref sig .tc .vmem S1024x2816 .bf16) (h4 : arg4.IsWhole)
    (arg5 : Memref sig .tc .vmem S1056x1024 .f32) (h5 : arg5.IsWhole)
    (arg6 : Memref sig .tc .vmem S1056x1024 .f32) (h6 : arg6.IsWhole)
    (x0 : Vec F S1056x2816 .bf16) (x1 : Vec F S1024x2816 .bf16) (acc : Vec F S1056x1024 .f32)

/-- The first step leaves its product in the buffer. -/
theorem kept_A (hc0 : cond0_0 i) (hc1 : ¬cond0_1 i) (hc2 : ¬cond0_2 i) :
    sout0_A_0 c i arg3 h3 arg4 h4 arg5 h5 arg6 h6 hc0 hc1 hc2 x0 x1 = k0_pay2 x0 x1 := by
  unfold sout0_A_0
  rw [View.read_writes_junk_eq_canon]
  show View.canon ([⟨Rect.unit ![0, 0] S1056x1024.size inb_S1056x1024_S1056x1024_0_0, k0_pay2 _ _⟩] :
    List (View.Piece (Elt F) S1056x1024 .f32)) = _
  rw [View.canon_unit_zero zeros2]
  exact congrArg₂ (fun a b => k0_pay2 a b) (readWhole _ _ zeros2 ..) (readWhole _ _ zeros2 ..)

/-- A later step adds its product to what it held. -/
theorem kept_B (hc0 : ¬cond0_0 i) (hc1 : cond0_1 i) (hc2 : ¬cond0_2 i) :
    sout0_B_0 c i arg3 h3 arg4 h4 arg5 h5 arg6 h6 hc0 hc1 hc2 x0 x1 acc = k0_pay3 x0 x1 acc := by
  unfold sout0_B_0
  rw [View.read_writes_junk_eq_canon]
  show View.canon ([⟨Rect.unit ![0, 0] S1056x1024.size inb_S1056x1024_S1056x1024_0_0, k0_pay3 _ _ _⟩] :
    List (View.Piece (Elt F) S1056x1024 .f32)) = _
  rw [View.canon_unit_zero zeros2]
  exact congr (congrArg₂ (fun a b => k0_pay3 a b) (readWhole _ _ zeros2 ..) (readWhole _ _ zeros2 ..)) (readWhole _ _ zeros2 ..)

theorem kept_C (hc0 : ¬cond0_0 i) (hc1 : cond0_1 i) (hc2 : cond0_2 i) :
    sout0_C_0 c i arg3 h3 arg4 h4 arg5 h5 arg6 h6 hc0 hc1 hc2 x0 x1 acc = k0_pay3 x0 x1 acc := by
  unfold sout0_C_0
  rw [View.read_writes_junk_eq_canon]
  show View.canon ([⟨Rect.unit ![0, 0] S1056x1024.size inb_S1056x1024_S1056x1024_0_0, k0_pay3 _ _ _⟩] :
    List (View.Piece (Elt F) S1056x1024 .f32)) = _
  rw [View.canon_unit_zero zeros2]
  exact congr (congrArg₂ (fun a b => k0_pay3 a b) (readWhole _ _ zeros2 ..) (readWhole _ _ zeros2 ..)) (readWhole _ _ zeros2 ..)

/-- The last step also stores what the buffer then holds. -/
theorem stored_C (hc0 : ¬cond0_0 i) (hc1 : cond0_1 i) (hc2 : cond0_2 i) :
    out0_C_2 c i arg3 h3 arg4 h4 arg5 h5 arg6 h6 hc0 hc1 hc2 x0 x1 acc = k0_pay3 x0 x1 acc := by
  unfold out0_C_2
  rw [View.read_writes_junk_eq_canon]
  show View.canon ([⟨Rect.unit ![0, 0] S1056x1024.size inb_S1056x1024_S1056x1024_0_0, _⟩] :
    List (View.Piece (Elt F) S1056x1024 .f32)) = _
  rw [View.canon_unit_zero zeros2]
  unfold kernelRun0_C.sl.v12 kernelRun0_C.sl.HS0_1
  refine (View.readCov_full _ _ inb_S1056x1024_S1056x1024_0_0 _ _).trans ?_
  exact congr (congrArg₂ (fun a b => k0_pay3 a b) (readWhole _ _ zeros2 ..) (readWhole _ _ zeros2 ..)) (readWhole _ _ zeros2 ..)

end Stores

/-! ## Over the extended reals -/

/-- The arguments, the place summed over first. -/
abbrev rows0 (a : S8448x11264.Idx → EReal) (k : Fin 11264) (p : Fin 8448) : EReal := a (ix2 (n0 := 8448) (n1 := 11264) p k)
abbrev rows1 (a : S2048x11264.Idx → EReal) (k : Fin 11264) (q : Fin 2048) : EReal := a (ix2 (n0 := 2048) (n1 := 11264) q k)

/-- The product. -/
def product (a0 : S8448x11264.Idx → EReal) (a1 : S2048x11264.Idx → EReal) (j : S8448x2048.Idx) : EReal :=
  ∑ k : Fin 11264, rows0 a0 k (j 0) * rows1 a1 k (j 1)

theorem pay_first (x0 : S1056x2816.Idx → EReal) (x1 : S1024x2816.Idx → EReal) (y : S1056x1024.Idx) :
    k0_pay2 (F := Ideal) x0 x1 y = ∑ r : Fin 2816, x0 (ix2 (n0 := 1056) (n1 := 2816) (y 0) r) * x1 (ix2 (n0 := 1024) (n1 := 2816) (y 1) r) := by
  pointwise [k0_pay2, k0_pay1]

theorem pay_later (x0 : S1056x2816.Idx → EReal) (x1 : S1024x2816.Idx → EReal) (acc : S1056x1024.Idx → EReal) (y : S1056x1024.Idx) :
    k0_pay3 (F := Ideal) x0 x1 acc y = acc y + ∑ r : Fin 2816, x0 (ix2 (n0 := 1056) (n1 := 2816) (y 0) r) * x1 (ix2 (n0 := 1024) (n1 := 2816) (y 1) r) := by
  pointwise [k0_pay3, k0_pay1]

section Final
variable (m : (ℓ : Loc nD τ sig) → Buf (Elt Ideal) ℓ)

/-- The windows' blocks. -/
theorem index0 : ∀ t : Fin cfg0.N, win0_0.index t = ![t.val / 8, t.val % 4] := (by decide +kernel : ∀ t : Fin grid0.N, _)
theorem index1 : ∀ t : Fin cfg0.N, win0_1.index t = ![t.val / 4 % 2, t.val % 4] := (by decide +kernel : ∀ t : Fin grid0.N, _)
theorem index2 : ∀ t : Fin cfg0.N, win0_2.index t = ![t.val / 8, t.val / 4 % 2] := (by decide +kernel : ∀ t : Fin grid0.N, _)

/-- A block's entry in its array. -/
theorem block0 (c : Dev nD) (t : Fin cfg0.N) (r : Fin 2816) (i : Fin 1056) : iblk m c 0 t (ix2 (n0 := 1056) (n1 := 2816) i r)
      = entry (rows0 (m ((c : Thread nD τ).loc main_arg0))) (2816 * (t.val % 4) + r.val) (1056 * (t.val / 8) + i.val) := by
  have hN : t.val < 64 := lt_of_lt_of_eq t.isLt (show cfg0.N = 64 from N_0)
  have e := index0 t
  unfold entry rows0
  rw [dif_pos ⟨by omega, by omega⟩]
  blk_point [iblk, V, e]

theorem block1 (c : Dev nD) (t : Fin cfg0.N) (r : Fin 2816) (i : Fin 1024) : iblk m c 1 t (ix2 (n0 := 1024) (n1 := 2816) i r)
      = entry (rows1 (m ((c : Thread nD τ).loc main_arg1))) (2816 * (t.val % 4) + r.val) (1024 * (t.val / 4 % 2) + i.val) := by
  have hN : t.val < 64 := lt_of_lt_of_eq t.isLt (show cfg0.N = 64 from N_0)
  have e := index1 t
  unfold entry rows1
  rw [dif_pos ⟨by omega, by omega⟩]
  blk_point [iblk, V, e]

/-- A point's product. -/
theorem added (c : Dev nD) (t : Fin cfg0.N) (y : S1056x1024.Idx) :
    ∑ r : Fin 2816, (show EReal from iblk m c 0 t (ix2 (n0 := 1056) (n1 := 2816) (y 0) r)) * (show EReal from iblk m c 1 t (ix2 (n0 := 1024) (n1 := 2816) (y 1) r))
      = ∑ r : Fin 2816, entry (rows0 (m ((c : Thread nD τ).loc main_arg0))) (2816 * (t.val % 4) + r.val) (1056 * (t.val / 8) + (y 0).val)
        * entry (rows1 (m ((c : Thread nD τ).loc main_arg1))) (2816 * (t.val % 4) + r.val) (1024 * (t.val / 4 % 2) + (y 1).val) :=
  Finset.sum_congr rfl fun r _ => congrArg₂ (fun a b : EReal => a * b) (block0 m c t r (y 0)) (block1 m c t r (y 1))

/-- After a point the buffer holds the sum over the blocks so far. -/
theorem kept (c : Dev nD) (n : ℕ) (hn : n < cfg0.N) (y : S1056x1024.Idx) : (outsAt0 m c n hn).2 y
    = upto (rows0 (m ((c : Thread nD τ).loc main_arg0))) (rows1 (m ((c : Thread nD τ).loc main_arg1))) (1056 * (n / 8) + (y 0).val) (1024 * (n / 4 % 2) + (y 1).val) (2816 * (n % 4 + 1)) := by
  refine upto_fold _ _ 2816 4 (by decide) (fun n => 1056 * (n / 8) + (y 0).val) (fun n => 1024 * (n / 4 % 2) + (y 1).val)
    (fun n hn => (outsAt0 m c n hn).2 y) (fun n h0 => ⟨by dsimp only; omega, by dsimp only; omega⟩) (fun n hn h0 => ?_) (fun n hn h0 => ?_) n hn
  · dsimp only
    rw [outsAt0_A m c ⟨n, hn⟩ h0 (by dsimp only; omega) (by dsimp only; omega)]; dsimp only; rw [kept_A]
    exact (pay_first _ _ y).trans (added m c ⟨n, hn⟩ y)
  · have hs : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 4 = 3
      · rw [outsAt0_C m c ⟨n + 1, hn⟩ h0 (by dsimp only; omega) h2]; dsimp only; rw [kept_C]; rfl
      · rw [outsAt0_B m c ⟨n + 1, hn⟩ h0 (by dsimp only; omega) h2]; dsimp only; rw [kept_B]; rfl
    dsimp only
    rw [hs]
    exact (pay_later _ _ _ y).trans (congrArg (α := EReal) (β := EReal) (_ + ·) (added m c ⟨n + 1, hn⟩ y))

/-- A point that stores a block stores what the buffer holds. -/
theorem stored (c : Dev nD) (t : Fin cfg0.N) (h : t.val % 4 = 3) :
    (dats m 0 c).after 2 t = (outsAt0 m c t.val t.isLt).2 := by
  rw [after0_2, outsAt0_C m c t (by omega) (by omega) h]; dsimp only; rw [stored_C, kept_C]

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h : t.val % 4 = 3 := (flush0_2 t).mp hf
  rw [stored m c t h]
  blk_simp
  refine (kept m c _ _ y).trans (Eq.trans ?_ (upto_all _ _ _ _))
  have e := index2 t
  rw [h]
  refine congrArg₂ (fun p q => upto (rows0 (m ((c : Thread nD τ).loc main_arg0))) (rows1 (m ((c : Thread nD τ).loc main_arg1))) p q 11264) ?_ ?_
  · refine Eq.trans ?_ (Pipeline.Window.rect_emb_val win0_2 t y 0).symm
    rw [e]
    exact congrArg (· + _) (Nat.mul_comm ..)
  · refine Eq.trans ?_ (Pipeline.Window.rect_emb_val win0_2 t y 1).symm
    rw [e]
    exact congrArg (· + _) (Nat.mul_comm ..)

end Final

/-- On every device the results are the reference's. -/
theorem algebraic : Cert.algebraic_BackUpIdeal_BackUpRefIdeal := by
  intro m g m' g' _ hin
  refine ⟨fun c => product (m ((c.tc : Thread nD τ).loc main_arg0)) (m ((c.tc : Thread nD τ).loc main_arg1)),
    (θ_run BackUpIdeal.defs _ _).mono (fun r h c => ?_) (run_blocks (F := Ideal) m g),
    (θ_run BackUpRefIdeal.defs _ _).mono (fun r h c => ?_) (BackUpRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.BackUpValue

end
-- ==== Proof.BackUpEvenValue.lean ====
module

public import proofs.«01_k».proof.Proof.Gen.BackUpEvenIdeal.Value
public import proofs.«01_k».proof.Proof.Gen.BackUpEvenRefIdeal.Run
public import proofs.«01_k».proof.Defs
public import proofs.«01_k».proof.Proof.Rows
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.VecWindow
public import Idealize.ShloMosaic.Lib.Pointwise
public import Idealize.ShloMosaic.Lib.Pipeline.ValueKit

/-
  The gradient of the input of the first product of the even layer's mixer: the output's gradient times the weights transposed.
  The kernel has one block of the result at a time and walks over the inner dimension 2048 at a time, in three steps, adding each step's
  product to a buffer it keeps; at the last the buffer is the result's block.
-/

@[expose] public section

set_option maxRecDepth 16384

noncomputable section

namespace Cert.BackUpEvenValue

open Cert.BackUpEvenIdeal Cert.BackUpEvenIdeal.Gen Cert.BackUpEvenIdeal.Value

open Idealize.ShloMosaic Idealize.ShloMosaic.TcCoe
open Idealize.SL.Sem
open Cert.Rows
open scoped BigOperators

/-! ## What a grid point stores -/

section Stores
variable {F : FTy → Type} [FloatOps F]

theorem zeros2 : (![0, 0] : Fin 2 → Nat) = fun _ => 0 := funext fun a => by fin_cases a <;> rfl

variable (c : Dev nD) (i : grid0.Coords)
    (arg3 : Memref sig .tc .vmem S1056x2048 .bf16) (h3 : arg3.IsWhole)
    (arg4 : Memref sig .tc .vmem S1024x2048 .bf16) (h4 : arg4.IsWhole)
    (arg5 : Memref sig .tc .vmem S1056x1024 .f32) (h5 : arg5.IsWhole)
    (arg6 : Memref sig .tc .vmem S1056x1024 .f32) (h6 : arg6.IsWhole)
    (x0 : Vec F S1056x2048 .bf16) (x1 : Vec F S1024x2048 .bf16) (acc : Vec F S1056x1024 .f32)

/-- The first step leaves its product in the buffer. -/
theorem kept_A (hc0 : cond0_0 i) (hc1 : ¬cond0_1 i) (hc2 : ¬cond0_2 i) :
    sout0_A_0 c i arg3 h3 arg4 h4 arg5 h5 arg6 h6 hc0 hc1 hc2 x0 x1 = k0_pay2 x0 x1 := by
  unfold sout0_A_0
  rw [View.read_writes_junk_eq_canon]
  show View.canon ([⟨Rect.unit ![0, 0] S1056x1024.size inb_S1056x1024_S1056x1024_0_0, k0_pay2 _ _⟩] :
    List (View.Piece (Elt F) S1056x1024 .f32)) = _
  rw [View.canon_unit_zero zeros2]
  exact congrArg₂ (fun a b => k0_pay2 a b) (readWhole _ _ zeros2 ..) (readWhole _ _ zeros2 ..)

/-- A later step adds its product to what it held. -/
theorem kept_B (hc0 : ¬cond0_0 i) (hc1 : cond0_1 i) (hc2 : ¬cond0_2 i) :
    sout0_B_0 c i arg3 h3 arg4 h4 arg5 h5 arg6 h6 hc0 hc1 hc2 x0 x1 acc = k0_pay3 x0 x1 acc := by
  unfold sout0_B_0
  rw [View.read_writes_junk_eq_canon]
  show View.canon ([⟨Rect.unit ![0, 0] S1056x1024.size inb_S1056x1024_S1056x1024_0_0, k0_pay3 _ _ _⟩] :
    List (View.Piece (Elt F) S1056x1024 .f32)) = _
  rw [View.canon_unit_zero zeros2]
  exact congr (congrArg₂ (fun a b => k0_pay3 a b) (readWhole _ _ zeros2 ..) (readWhole _ _ zeros2 ..)) (readWhole _ _ zeros2 ..)

theorem kept_C (hc0 : ¬cond0_0 i) (hc1 : cond0_1 i) (hc2 : cond0_2 i) :
    sout0_C_0 c i arg3 h3 arg4 h4 arg5 h5 arg6 h6 hc0 hc1 hc2 x0 x1 acc = k0_pay3 x0 x1 acc := by
  unfold sout0_C_0
  rw [View.read_writes_junk_eq_canon]
  show View.canon ([⟨Rect.unit ![0, 0] S1056x1024.size inb_S1056x1024_S1056x1024_0_0, k0_pay3 _ _ _⟩] :
    List (View.Piece (Elt F) S1056x1024 .f32)) = _
  rw [View.canon_unit_zero zeros2]
  exact congr (congrArg₂ (fun a b => k0_pay3 a b) (readWhole _ _ zeros2 ..) (readWhole _ _ zeros2 ..)) (readWhole _ _ zeros2 ..)

/-- The last step also stores what the buffer then holds. -/
theorem stored_C (hc0 : ¬cond0_0 i) (hc1 : cond0_1 i) (hc2 : cond0_2 i) :
    out0_C_2 c i arg3 h3 arg4 h4 arg5 h5 arg6 h6 hc0 hc1 hc2 x0 x1 acc = k0_pay3 x0 x1 acc := by
  unfold out0_C_2
  rw [View.read_writes_junk_eq_canon]
  show View.canon ([⟨Rect.unit ![0, 0] S1056x1024.size inb_S1056x1024_S1056x1024_0_0, _⟩] :
    List (View.Piece (Elt F) S1056x1024 .f32)) = _
  rw [View.canon_unit_zero zeros2]
  unfold kernelRun0_C.sl.v12 kernelRun0_C.sl.HS0_1
  refine (View.readCov_full _ _ inb_S1056x1024_S1056x1024_0_0 _ _).trans ?_
  exact congr (congrArg₂ (fun a b => k0_pay3 a b) (readWhole _ _ zeros2 ..) (readWhole _ _ zeros2 ..)) (readWhole _ _ zeros2 ..)

end Stores

/-! ## Over the extended reals -/

/-- The arguments, the place summed over first. -/
abbrev rows0 (a : S8448x6144.Idx → EReal) (k : Fin 6144) (p : Fin 8448) : EReal := a (ix2 (n0 := 8448) (n1 := 6144) p k)
abbrev rows1 (a : S2048x6144.Idx → EReal) (k : Fin 6144) (q : Fin 2048) : EReal := a (ix2 (n0 := 2048) (n1 := 6144) q k)

/-- The product. -/
def product (a0 : S8448x6144.Idx → EReal) (a1 : S2048x6144.Idx → EReal) (j : S8448x2048.Idx) : EReal :=
  ∑ k : Fin 6144, rows0 a0 k (j 0) * rows1 a1 k (j 1)

theorem pay_first (x0 : S1056x2048.Idx → EReal) (x1 : S1024x2048.Idx → EReal) (y : S1056x1024.Idx) :
    k0_pay2 (F := Ideal) x0 x1 y = ∑ r : Fin 2048, x0 (ix2 (n0 := 1056) (n1 := 2048) (y 0) r) * x1 (ix2 (n0 := 1024) (n1 := 2048) (y 1) r) := by
  pointwise [k0_pay2, k0_pay1]

theorem pay_later (x0 : S1056x2048.Idx → EReal) (x1 : S1024x2048.Idx → EReal) (acc : S1056x1024.Idx → EReal) (y : S1056x1024.Idx) :
    k0_pay3 (F := Ideal) x0 x1 acc y = acc y + ∑ r : Fin 2048, x0 (ix2 (n0 := 1056) (n1 := 2048) (y 0) r) * x1 (ix2 (n0 := 1024) (n1 := 2048) (y 1) r) := by
  pointwise [k0_pay3, k0_pay1]

section Final
variable (m : (ℓ : Loc nD τ sig) → Buf (Elt Ideal) ℓ)

/-- The windows' blocks. -/
theorem index0 : ∀ t : Fin cfg0.N, win0_0.index t = ![t.val / 6, t.val % 3] := (by decide +kernel : ∀ t : Fin grid0.N, _)
theorem index1 : ∀ t : Fin cfg0.N, win0_1.index t = ![t.val / 3 % 2, t.val % 3] := (by decide +kernel : ∀ t : Fin grid0.N, _)
theorem index2 : ∀ t : Fin cfg0.N, win0_2.index t = ![t.val / 6, t.val / 3 % 2] := (by decide +kernel : ∀ t : Fin grid0.N, _)

/-- A block's entry in its array. -/
theorem block0 (c : Dev nD) (t : Fin cfg0.N) (r : Fin 2048) (i : Fin 1056) : iblk m c 0 t (ix2 (n0 := 1056) (n1 := 2048) i r)
      = entry (rows0 (m ((c : Thread nD τ).loc main_arg0))) (2048 * (t.val % 3) + r.val) (1056 * (t.val / 6) + i.val) := by
  have hN : t.val < 48 := lt_of_lt_of_eq t.isLt (show cfg0.N = 48 from N_0)
  have e := index0 t
  unfold entry rows0
  rw [dif_pos ⟨by omega, by omega⟩]
  blk_point [iblk, V, e]

theorem block1 (c : Dev nD) (t : Fin cfg0.N) (r : Fin 2048) (i : Fin 1024) : iblk m c 1 t (ix2 (n0 := 1024) (n1 := 2048) i r)
      = entry (rows1 (m ((c : Thread nD τ).loc main_arg1))) (2048 * (t.val % 3) + r.val) (1024 * (t.val / 3 % 2) + i.val) := by
  have hN : t.val < 48 := lt_of_lt_of_eq t.isLt (show cfg0.N = 48 from N_0)
  have e := index1 t
  unfold entry rows1
  rw [dif_pos ⟨by omega, by omega⟩]
  blk_point [iblk, V, e]

/-- A point's product. -/
theorem added (c : Dev nD) (t : Fin cfg0.N) (y : S1056x1024.Idx) :
    ∑ r : Fin 2048, (show EReal from iblk m c 0 t (ix2 (n0 := 1056) (n1 := 2048) (y 0) r)) * (show EReal from iblk m c 1 t (ix2 (n0 := 1024) (n1 := 2048) (y 1) r))
      = ∑ r : Fin 2048, entry (rows0 (m ((c : Thread nD τ).loc main_arg0))) (2048 * (t.val % 3) + r.val) (1056 * (t.val / 6) + (y 0).val)
        * entry (rows1 (m ((c : Thread nD τ).loc main_arg1))) (2048 * (t.val % 3) + r.val) (1024 * (t.val / 3 % 2) + (y 1).val) :=
  Finset.sum_congr rfl fun r _ => congrArg₂ (fun a b : EReal => a * b) (block0 m c t r (y 0)) (block1 m c t r (y 1))

/-- After a point the buffer holds the sum over the blocks so far. -/
theorem kept (c : Dev nD) (n : ℕ) (hn : n < cfg0.N) (y : S1056x1024.Idx) : (outsAt0 m c n hn).2 y
    = upto (rows0 (m ((c : Thread nD τ).loc main_arg0))) (rows1 (m ((c : Thread nD τ).loc main_arg1))) (1056 * (n / 6) + (y 0).val) (1024 * (n / 3 % 2) + (y 1).val) (2048 * (n % 3 + 1)) := by
  refine upto_fold _ _ 2048 3 (by decide) (fun n => 1056 * (n / 6) + (y 0).val) (fun n => 1024 * (n / 3 % 2) + (y 1).val)
    (fun n hn => (outsAt0 m c n hn).2 y) (fun n h0 => ⟨by dsimp only; omega, by dsimp only; omega⟩) (fun n hn h0 => ?_) (fun n hn h0 => ?_) n hn
  · dsimp only
    rw [outsAt0_A m c ⟨n, hn⟩ h0 (by dsimp only; omega) (by dsimp only; omega)]; dsimp only; rw [kept_A]
    exact (pay_first _ _ y).trans (added m c ⟨n, hn⟩ y)
  · have hs : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 3 = 2
      · rw [outsAt0_C m c ⟨n + 1, hn⟩ h0 (by dsimp only; omega) h2]; dsimp only; rw [kept_C]; rfl
      · rw [outsAt0_B m c ⟨n + 1, hn⟩ h0 (by dsimp only; omega) h2]; dsimp only; rw [kept_B]; rfl
    dsimp only
    rw [hs]
    exact (pay_later _ _ _ y).trans (congrArg (α := EReal) (β := EReal) (_ + ·) (added m c ⟨n + 1, hn⟩ y))

/-- A point that stores a block stores what the buffer holds. -/
theorem stored (c : Dev nD) (t : Fin cfg0.N) (h : t.val % 3 = 2) :
    (dats m 0 c).after 2 t = (outsAt0 m c t.val t.isLt).2 := by
  rw [after0_2, outsAt0_C m c t (by omega) (by omega) h]; dsimp only; rw [stored_C, kept_C]

/-- The array after the run. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h : t.val % 3 = 2 := (flush0_2 t).mp hf
  rw [stored m c t h]
  blk_simp
  refine (kept m c _ _ y).trans (Eq.trans ?_ (upto_all _ _ _ _))
  have e := index2 t
  rw [h]
  refine congrArg₂ (fun p q => upto (rows0 (m ((c : Thread nD τ).loc main_arg0))) (rows1 (m ((c : Thread nD τ).loc main_arg1))) p q 6144) ?_ ?_
  · refine Eq.trans ?_ (Pipeline.Window.rect_emb_val win0_2 t y 0).symm
    rw [e]
    exact congrArg (· + _) (Nat.mul_comm ..)
  · refine Eq.trans ?_ (Pipeline.Window.rect_emb_val win0_2 t y 1).symm
    rw [e]
    exact congrArg (· + _) (Nat.mul_comm ..)

end Final

/-- On every device the results are the reference's. -/
theorem algebraic : Cert.algebraic_BackUpEvenIdeal_BackUpEvenRefIdeal := by
  intro m g m' g' _ hin
  refine ⟨fun c => product (m ((c.tc : Thread nD τ).loc main_arg0)) (m ((c.tc : Thread nD τ).loc main_arg1)),
    (θ_run BackUpEvenIdeal.defs _ _).mono (fun r h c => ?_) (run_blocks (F := Ideal) m g),
    (θ_run BackUpEvenRefIdeal.defs _ _).mono (fun r h c => ?_) (BackUpEvenRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    unfold product
    pointwise

end Cert.BackUpEvenValue

end
-- ==== Proof.BackUpOddValue.lean ====
module

public import proofs.«01_k».proof.Proof.Gen.BackUpOddIdeal.Value
public import proofs.«01_k».proof.Proof.Gen.BackUpOddRefIdeal.Run
public import proofs.«01_k».proof.Defs
public import proofs.«01_k».proof.Proof.Rows
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.VecWindow
public import Idealize.ShloMosaic.Lib.Pointwise
public import Idealize.ShloMosaic.Lib.Pipeline.ValueKit

/-
  The gradient of the input of the first product of the odd layer's mixer: the output's gradient times the weights
  transposed, added to the gradient that comes through the gates.
  The kernel has one block of the result at a time and walks over the inner dimension 2048 at a time, in six steps, adding each step's
  product to a buffer it keeps; at the last the buffer and a block of the gradient through the gates are the result's block.
-/

@[expose] public section

set_option maxRecDepth 16384

noncomputable section

namespace Cert.BackUpOddValue

open Cert.BackUpOddIdeal Cert.BackUpOddIdeal.Gen Cert.BackUpOddIdeal.Value

open Idealize.ShloMosaic Idealize.ShloMosaic.TcCoe
open Idealize.SL.Sem
open Cert.Rows
open scoped BigOperators

/-! ## What a grid point stores -/

section Stores
variable {F : FTy → Type} [FloatOps F]

theorem zeros2 : (![0, 0] : Fin 2 → Nat) = fun _ => 0 := funext fun a => by fin_cases a <;> rfl

variable (c : Dev nD) (i : grid0.Coords)
    (arg3 : Memref sig .tc .vmem S1056x2048 .bf16) (h3 : arg3.IsWhole)
    (arg4 : Memref sig .tc .vmem S1024x2048 .bf16) (h4 : arg4.IsWhole)
    (arg5 : Memref sig .tc .vmem S1056x1024 .f32) (h5 : arg5.IsWhole)
    (arg6 : Memref sig .tc .vmem S1056x1024 .f32) (h6 : arg6.IsWhole)
    (arg7 : Memref sig .tc .vmem S1056x1024 .f32) (h7 : arg7.IsWhole)
    (x0 : Vec F S1056x2048 .bf16) (x1 : Vec F S1024x2048 .bf16) (x2 : Vec F S1056x1024 .f32) (acc : Vec F S1056x1024 .f32)

/-- The first step leaves its product in the buffer. -/
theorem kept_A (hc0 : cond0_0 i) (hc1 : ¬cond0_1 i) (hc2 : ¬cond0_2 i) :
    sout0_A_0 c i arg3 h3 arg4 h4 arg5 h5 arg6 h6 arg7 h7 hc0 hc1 hc2 x0 x1 x2 = k0_pay2 x0 x1 := by
  unfold sout0_A_0
  rw [View.read_writes_junk_eq_canon]
  show View.canon ([⟨Rect.unit ![0, 0] S1056x1024.size inb_S1056x1024_S1056x1024_0_0, k0_pay2 _ _⟩] :
    List (View.Piece (Elt F) S1056x1024 .f32)) = _
  rw [View.canon_unit_zero zeros2]
  exact congrArg₂ (fun a b => k0_pay2 a b) (readWhole _ _ zeros2 ..) (readWhole _ _ zeros2 ..)

/-- A later step adds its product to what it held. -/
theorem kept_B (hc0 : ¬cond0_0 i) (hc1 : cond0_1 i) (hc2 : ¬cond0_2 i) :
    sout0_B_0 c i arg3 h3 arg4 h4 arg5 h5 arg6 h6 arg7 h7 hc0 hc1 hc2 x0 x1 x2 acc = k0_pay3 x0 x1 acc := by
  unfold sout0_B_0
  rw [View.read_writes_junk_eq_canon]
  show View.canon ([⟨Rect.unit ![0, 0] S1056x1024.size inb_S1056x1024_S1056x1024_0_0, k0_pay3 _ _ _⟩] :
    List (View.Piece (Elt F) S1056x1024 .f32)) = _
  rw [View.canon_unit_zero zeros2]
  exact congr (congrArg₂ (fun a b => k0_pay3 a b) (readWhole _ _ zeros2 ..) (readWhole _ _ zeros2 ..)) (readWhole _ _ zeros2 ..)

theorem kept_C (hc0 : ¬cond0_0 i) (hc1 : cond0_1 i) (hc2 : cond0_2 i) :
    sout0_C_0 c i arg3 h3 arg4 h4 arg5 h5 arg6 h6 arg7 h7 hc0 hc1 hc2 x0 x1 x2 acc = k0_pay3 x0 x1 acc := by
  unfold sout0_C_0
  rw [View.read_writes_junk_eq_canon]
  show View.canon ([⟨Rect.unit ![0, 0] S1056x1024.size inb_S1056x1024_S1056x1024_0_0, k0_pay3 _ _ _⟩] :
    List (View.Piece (Elt F) S1056x1024 .f32)) = _
  rw [View.canon_unit_zero zeros2]
  exact congr (congrArg₂ (fun a b => k0_pay3 a b) (readWhole _ _ zeros2 ..) (readWhole _ _ zeros2 ..)) (readWhole _ _ zeros2 ..)

/-- The last step also stores what the buffer then holds, with the array added. -/
theorem stored_C (hc0 : ¬cond0_0 i) (hc1 : cond0_1 i) (hc2 : cond0_2 i) :
    out0_C_3 c i arg3 h3 arg4 h4 arg5 h5 arg6 h6 arg7 h7 hc0 hc1 hc2 x0 x1 x2 acc = k0_pay4 (k0_pay3 x0 x1 acc) x2 := by
  unfold out0_C_3
  rw [View.read_writes_junk_eq_canon]
  show View.canon ([⟨Rect.unit ![0, 0] S1056x1024.size inb_S1056x1024_S1056x1024_0_0, _⟩] :
    List (View.Piece (Elt F) S1056x1024 .f32)) = _
  rw [View.canon_unit_zero zeros2]
  unfold kernelRun0_C.sl.v12 kernelRun0_C.sl.HS0_1
  refine congrArg₂ (fun a b => k0_pay4 a b) ((View.readCov_full _ _ inb_S1056x1024_S1056x1024_0_0 _ _).trans ?_) (readWhole _ _ zeros2 ..)
  exact congr (congrArg₂ (fun a b => k0_pay3 a b) (readWhole _ _ zeros2 ..) (readWhole _ _ zeros2 ..)) (readWhole _ _ zeros2 ..)

end Stores

/-! ## Over the extended reals -/

/-- The arguments, the place summed over first. -/
abbrev rows0 (a : S8448x12288.Idx → EReal) (k : Fin 12288) (p : Fin 8448) : EReal := a (ix2 (n0 := 8448) (n1 := 12288) p k)
abbrev rows1 (a : S2048x12288.Idx → EReal) (k : Fin 12288) (q : Fin 2048) : EReal := a (ix2 (n0 := 2048) (n1 := 12288) q k)

/-- The product. -/
def product (a0 : S8448x12288.Idx → EReal) (a1 : S2048x12288.Idx → EReal) (a2 : S8448x2048.Idx → EReal) (j : S8448x2048.Idx) : EReal :=
  a2 j + ∑ k : Fin 12288, rows0 a0 k (j 0) * rows1 a1 k (j 1)

theorem pay_first (x0 : S1056x2048.Idx → EReal) (x1 : S1024x2048.Idx → EReal) (y : S1056x1024.Idx) :
    k0_pay2 (F := Ideal) x0 x1 y = ∑ r : Fin 2048, x0 (ix2 (n0 := 1056) (n1 := 2048) (y 0) r) * x1 (ix2 (n0 := 1024) (n1 := 2048) (y 1) r) := by
  pointwise [k0_pay2, k0_pay1]

theorem pay_later (x0 : S1056x2048.Idx → EReal) (x1 : S1024x2048.Idx → EReal) (acc : S1056x1024.Idx → EReal) (y : S1056x1024.Idx) :
    k0_pay3 (F := Ideal) x0 x1 acc y = acc y + ∑ r : Fin 2048, x0 (ix2 (n0 := 1056) (n1 := 2048) (y 0) r) * x1 (ix2 (n0 := 1024) (n1 := 2048) (y 1) r) := by
  pointwise [k0_pay3, k0_pay1]

theorem pay_last (x : S1056x1024.Idx → EReal) (x2 : S1056x1024.Idx → EReal) (y : S1056x1024.Idx) : k0_pay4 (F := Ideal) x x2 y = x2 y + x y := by
  refine Eq.trans ?_ (add_comm (x y) (x2 y))
  pointwise [k0_pay4]

section Final
variable (m : (ℓ : Loc nD τ sig) → Buf (Elt Ideal) ℓ)

/-- The windows' blocks. -/
theorem index0 : ∀ t : Fin cfg0.N, win0_0.index t = ![t.val / 12, t.val % 6] := (by decide +kernel : ∀ t : Fin grid0.N, _)
theorem index1 : ∀ t : Fin cfg0.N, win0_1.index t = ![t.val / 6 % 2, t.val % 6] := (by decide +kernel : ∀ t : Fin grid0.N, _)
theorem index2 : ∀ t : Fin cfg0.N, win0_2.index t = ![t.val / 12, t.val / 6 % 2] := (by decide +kernel : ∀ t : Fin grid0.N, _)
theorem index3 : ∀ t : Fin cfg0.N, win0_3.index t = ![t.val / 12, t.val / 6 % 2] := (by decide +kernel : ∀ t : Fin grid0.N, _)

/-- A block's entry in its array. -/
theorem block0 (c : Dev nD) (t : Fin cfg0.N) (r : Fin 2048) (i : Fin 1056) : iblk m c 0 t (ix2 (n0 := 1056) (n1 := 2048) i r)
      = entry (rows0 (m ((c : Thread nD τ).loc main_arg0))) (2048 * (t.val % 6) + r.val) (1056 * (t.val / 12) + i.val) := by
  have hN : t.val < 96 := lt_of_lt_of_eq t.isLt (show cfg0.N = 96 from N_0)
  have e := index0 t
  unfold entry rows0
  rw [dif_pos ⟨by omega, by omega⟩]
  blk_point [iblk, V, e]

theorem block1 (c : Dev nD) (t : Fin cfg0.N) (r : Fin 2048) (i : Fin 1024) : iblk m c 1 t (ix2 (n0 := 1024) (n1 := 2048) i r)
      = entry (rows1 (m ((c : Thread nD τ).loc main_arg1))) (2048 * (t.val % 6) + r.val) (1024 * (t.val / 6 % 2) + i.val) := by
  have hN : t.val < 96 := lt_of_lt_of_eq t.isLt (show cfg0.N = 96 from N_0)
  have e := index1 t
  unfold entry rows1
  rw [dif_pos ⟨by omega, by omega⟩]
  blk_point [iblk, V, e]

/-- A point's product. -/
theorem added (c : Dev nD) (t : Fin cfg0.N) (y : S1056x1024.Idx) :
    ∑ r : Fin 2048, (show EReal from iblk m c 0 t (ix2 (n0 := 1056) (n1 := 2048) (y 0) r)) * (show EReal from iblk m c 1 t (ix2 (n0 := 1024) (n1 := 2048) (y 1) r))
      = ∑ r : Fin 2048, entry (rows0 (m ((c : Thread nD τ).loc main_arg0))) (2048 * (t.val % 6) + r.val) (1056 * (t.val / 12) + (y 0).val)
        * entry (rows1 (m ((c : Thread nD τ).loc main_arg1))) (2048 * (t.val % 6) + r.val) (1024 * (t.val / 6 % 2) + (y 1).val) :=
  Finset.sum_congr rfl fun r _ => congrArg₂ (fun a b : EReal => a * b) (block0 m c t r (y 0)) (block1 m c t r (y 1))

/-- After a point the buffer holds the sum over the blocks so far. -/
theorem kept (c : Dev nD) (n : ℕ) (hn : n < cfg0.N) (y : S1056x1024.Idx) : (outsAt0 m c n hn).2 y
    = upto (rows0 (m ((c : Thread nD τ).loc main_arg0))) (rows1 (m ((c : Thread nD τ).loc main_arg1))) (1056 * (n / 12) + (y 0).val) (1024 * (n / 6 % 2) + (y 1).val) (2048 * (n % 6 + 1)) := by
  refine upto_fold _ _ 2048 6 (by decide) (fun n => 1056 * (n / 12) + (y 0).val) (fun n => 1024 * (n / 6 % 2) + (y 1).val)
    (fun n hn => (outsAt0 m c n hn).2 y) (fun n h0 => ⟨by dsimp only; omega, by dsimp only; omega⟩) (fun n hn h0 => ?_) (fun n hn h0 => ?_) n hn
  · dsimp only
    rw [outsAt0_A m c ⟨n, hn⟩ h0 (by dsimp only; omega) (by dsimp only; omega)]; dsimp only; rw [kept_A]
    exact (pay_first _ _ y).trans (added m c ⟨n, hn⟩ y)
  · have hs : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 6 = 5
      · rw [outsAt0_C m c ⟨n + 1, hn⟩ h0 (by dsimp only; omega) h2]; dsimp only; rw [kept_C]; rfl
      · rw [outsAt0_B m c ⟨n + 1, hn⟩ h0 (by dsimp only; omega) h2]; dsimp only; rw [kept_B]; rfl
    dsimp only
    rw [hs]
    exact (pay_later _ _ _ y).trans (congrArg (α := EReal) (β := EReal) (_ + ·) (added m c ⟨n + 1, hn⟩ y))

/-- A point that stores a block stores what the buffer holds, with the block of the array added. -/
theorem stored (c : Dev nD) (t : Fin cfg0.N) (h : t.val % 6 = 5) :
    (dats m 0 c).after 3 t = k0_pay4 (outsAt0 m c t.val t.isLt).2 (iblk m c 2 t) := by
  rw [after0_3, outsAt0_C m c t (by omega) (by omega) h]; dsimp only; rw [stored_C, kept_C]

/-- The array after the run. -/
theorem final (c : Dev nD) : (dats m 0 c).arrAt 3 cfg0.N
    = product (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 6 = 5 := (flush0_3 t).mp hf
  rw [stored m c t h]
  blk_simp
  refine (pay_last _ _ y).trans (congrArg₂ (fun a b : EReal => a + b) ?_ ((kept m c _ _ y).trans (Eq.trans ?_ (upto_all _ _ _ _))))
  · have e2 := index2 t
    have e3 := index3 t
    blk_point [iblk, V, e2, e3]
  have e := index3 t
  rw [h]
  refine congrArg₂ (fun p q => upto (rows0 (m ((c : Thread nD τ).loc main_arg0))) (rows1 (m ((c : Thread nD τ).loc main_arg1))) p q 12288) ?_ ?_
  · refine Eq.trans ?_ (Pipeline.Window.rect_emb_val win0_3 t y 0).symm
    rw [e]
    exact congrArg (· + _) (Nat.mul_comm ..)
  · refine Eq.trans ?_ (Pipeline.Window.rect_emb_val win0_3 t y 1).symm
    rw [e]
    exact congrArg (· + _) (Nat.mul_comm ..)

end Final

/-- On every device the results are the reference's. -/
theorem algebraic : Cert.algebraic_BackUpOddIdeal_BackUpOddRefIdeal := by
  intro m g m' g' _ hin
  refine ⟨fun c => product (m ((c.tc : Thread nD τ).loc main_arg0)) (m ((c.tc : Thread nD τ).loc main_arg1)) (m ((c.tc : Thread nD τ).loc main_arg2)),
    (θ_run BackUpOddIdeal.defs _ _).mono (fun r h c => ?_) (run_blocks (F := Ideal) m g),
    (θ_run BackUpOddRefIdeal.defs _ _).mono (fun r h c => ?_) (BackUpOddRefIdeal.Value.run (F := Ideal) m' g')⟩
  · exact ⟨(h c).1.trans (final m c), (h c).2⟩
  · obtain ⟨i0, i1, i2⟩ := hin c
    refine ⟨(h c).1.trans (funext fun y => ?_), (h c).2⟩
    rw [i0, i1, i2]
    unfold product
    pointwise

end Cert.BackUpOddValue

end
-- ==== Proof.ModulateValue.lean ====
module

public import proofs.«01_k».proof.Proof.Gen.ModulateIdeal.Value
public import proofs.«01_k».proof.Proof.Gen.ModulateRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The modulated normalisation before a layer's mixer: a grid point has 256 rows, and a row reads nothing of another row.
   The first block's rows are the context's: they are scaled and shifted by the context's modulation, the others by the
   batch's. -/

@[expose] public section

set_option maxRecDepth 16384

noncomputable section

namespace Cert.ModulateValue

open Cert.ModulateIdeal Cert.ModulateIdeal.Gen Cert.ModulateIdeal.Value

open Idealize.ShloMosaic Idealize.ShloMosaic.TcCoe
open Idealize.SL.Sem
open scoped BigOperators

/-- A row divided by the root of its mean square and weighted. -/
abbrev rowNorm (x w : Fin 2048 → EReal) (k : Fin 2048) : EReal :=
  x k * Ideal.rsqrt (Ideal.div (∑ k, x k * x k) (Ideal.ofBits FTy.f32 0x45000000#32) + Ideal.ofBits FTy.f32 0x358637BD#32) * w k

/-- The modulation's part `p` for a row: the context's if `b` says so, otherwise the batch's. -/
abbrev part (b : BitVec 1) (mods : S2x6x2048.Idx → EReal) (p : Fin 6) (k : Fin 2048) : EReal :=
  Scalar.select b (mods (ix3 (n0 := 2) (n1 := 6) (n2 := 2048) 0 p k)) (mods (ix3 (n0 := 2) (n1 := 6) (n2 := 2048) 1 p k))

/-- The whole result. -/
def rows (x : S8448x2048.Idx → EReal) (w : S2048.Idx → EReal) (mods : S2x6x2048.Idx → EReal) (j : S8448x2048.Idx) : EReal :=
  rowNorm (fun k => x (ix2 (n0 := 8448) (n1 := 2048) (j 0) k)) (fun k => w (ix1 (n0 := 2048) k)) (j 1)
      * (1 + part (IntOp.cmpi .slt (BitVec.ofNat 32 (j 0).val) 256#32) mods 1 (j 1))
    + part (IntOp.cmpi .slt (BitVec.ofNat 32 (j 0).val) 256#32) mods 0 (j 1)

theorem pay (i : grid0.Coords) (b : BitVec 1) (hb : Scalar.cmpi CmpIPredicate.slt (BitVec.ofNat 32 (i 0).val) 1#32 = b)
    (x0 : S256x2048.Idx → EReal) (x1 : S1x2048.Idx → EReal) (x2 : S2x6x2048.Idx → EReal) (r : Fin 256) (k : Fin 2048) :
    k0_pay1 (F := Ideal) i x0 x1 x2 (ix2 (n0 := 256) (n1 := 2048) r k)
      = rowNorm (fun k => x0 (ix2 (n0 := 256) (n1 := 2048) r k)) (fun k => x1 (ix2 (n0 := 1) (n1 := 2048) 0 k)) k
          * (1 + part b x2 1 k) + part b x2 0 k := by
  pointwise [k0_pay1]
  rw [hb]

/-- The first block's rows are the first 256. -/
theorem first (t : Fin 33) (r : Fin 256) :
    Scalar.cmpi CmpIPredicate.slt (BitVec.ofNat 32 t.val) 1#32 = IntOp.cmpi .slt (BitVec.ofNat 32 (t.val * 256 + r.val)) 256#32 :=
  (by decide +kernel : ∀ (t : Fin 33) (r : Fin 256), Scalar.cmpi CmpIPredicate.slt (BitVec.ofNat 32 t.val) 1#32
    = IntOp.cmpi .slt (BitVec.ofNat 32 (t.val * 256 + r.val)) 256#32) t r

section Final
variable (m : (ℓ : Loc nD τ sig) → Buf (Elt Ideal) ℓ)

/-- The windows' blocks: the weights and the modulation whole, the others 256 rows. -/
theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![(grid0.coords t 0).val, 0] := (by decide +kernel : ∀ t : Fin grid0.N, _)

theorem zeros2 : (![0, 0] : Fin 2 → Nat) = fun _ => 0 := funext fun a => by fin_cases a <;> rfl
theorem zeros3 : (![0, 0, 0] : Fin 3 → Nat) = fun _ => 0 := funext fun a => by fin_cases a <;> rfl

/-- What a point stores. -/
theorem stored (c : Dev nD) (t : Fin cfg0.N) :
    (dats m 0 c).after 3 t = k0_pay1 (grid0.coords t) (iblk m c 0 t) (iblk m c 1 t) (iblk m c 2 t) := by
  rw [after0_3]
  unfold out0_3
  rw [View.canon_unit_zero zeros2]
  exact congr (congrArg₂ (fun a b => k0_pay1 (grid0.coords t) a b) (View.ld_unit_zero zeros2 _ _) (View.ld_unit_zero zeros2 _ _))
    (View.ld_unit_zero zeros3 _ _)

/-- The array after the run. -/
theorem final (c : Dev nD) : (dats m 0 c).arrAt 3 cfg0.N
    = rows (m ((c : Thread nD τ).loc main_arg0)) (m ((c : Thread nD τ).loc main_arg1)) (m ((c : Thread nD τ).loc main_arg2)) := by
  refine (dats m 0 c).arrAt_eq_of_covers 3 _ (by decide +kernel) fun t hf y => ?_
  rw [stored]
  blk_simp
  have hy : y = ix2 (n0 := 256) (n1 := 2048) (y 0) (y 1) := by
    funext a; fin_cases a <;> rfl
  refine (congrArg _ hy).trans ((pay (grid0.coords t) _ (first (grid0.coords t 0) (y 0)) _ _ _ (y 0) (y 1)).trans ?_)
  have e0 := index0 t
  have e1 := index1 t
  have e2 := index2 t
  have e3 := index3 t
  unfold rows
  blk_point [iblk, V, e0, e1, e2, e3]
  all_goals
    refine congrArg _ (Fin.ext ?_)
    blk_point [e3]

end Final

/-- On every device the result is the reference's. -/
theorem algebraic : Cert.algebraic_ModulateIdeal_ModulateRefIdeal := by
  intro m g m' g' _ hin
  refine ⟨fun c => rows (m ((c.tc : Thread nD τ).loc main_arg0)) (m ((c.tc : Thread nD τ).loc main_arg1)) (m ((c.tc : Thread nD τ).loc main_arg2)),
    (θ_run ModulateIdeal.defs _ _).mono (fun r h c => ?_) (run_blocks (F := Ideal) m g),
    (θ_run ModulateRefIdeal.defs _ _).mono (fun r h c => ?_) (ModulateRefIdeal.Value.run (F := Ideal) m' g')⟩
  · exact ⟨(h c).1.trans (final m c), (h c).2⟩
  · obtain ⟨i0, i1, i2⟩ := hin c
    refine ⟨(h c).1.trans (funext fun y => ?_), (h c).2⟩
    rw [i0, i1, i2]
    have hy : y = ix2 (n0 := 8448) (n1 := 2048) (y 0) (y 1) := by
      funext a; fin_cases a <;> rfl
    rw [hy]
    generalize (y 0 : Fin 8448) = r
    generalize (y 1 : Fin 2048) = k
    unfold rows
    pointwise

end Cert.ModulateValue

end
-- ==== Proof.ResidualValue.lean ====
module

public import proofs.«01_k».proof.Proof.Gen.ResidualIdeal.Value
public import proofs.«01_k».proof.Proof.Gen.ResidualRefIdeal.Run
public import proofs.«01_k».proof.Proof.ModulateValue
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The sum after a layer's mixer: to a row of the input is added the normalised row of the mixer's output, times the gate of
   the modulation. A grid point has 256 rows, and a row reads nothing of another row; the first block's rows are the
   context's. -/

@[expose] public section

set_option maxRecDepth 16384

noncomputable section

namespace Cert.ResidualValue

open Cert.ResidualIdeal Cert.ResidualIdeal.Gen Cert.ResidualIdeal.Value

open Idealize.ShloMosaic Idealize.ShloMosaic.TcCoe
open Idealize.SL.Sem
open Cert.ModulateValue (rowNorm part first)
open scoped BigOperators

/-- The whole result. -/
def rows (x y : S8448x2048.Idx → EReal) (w : S2048.Idx → EReal) (mods : S2x6x2048.Idx → EReal) (j : S8448x2048.Idx) : EReal :=
  x (ix2 (n0 := 8448) (n1 := 2048) (j 0) (j 1)) + part (IntOp.cmpi .slt (BitVec.ofNat 32 (j 0).val) 256#32) mods 2 (j 1)
    * rowNorm (fun k => y (ix2 (n0 := 8448) (n1 := 2048) (j 0) k)) (fun k => w (ix1 (n0 := 2048) k)) (j 1)

theorem pay (i : grid0.Coords) (b : BitVec 1) (hb : Scalar.cmpi CmpIPredicate.slt (BitVec.ofNat 32 (i 0).val) 1#32 = b)
    (x0 x1 : S256x2048.Idx → EReal) (x2 : S1x2048.Idx → EReal) (x3 : S2x6x2048.Idx → EReal) (r : Fin 256) (k : Fin 2048) :
    k0_pay1 (F := Ideal) i x0 x1 x2 x3 (ix2 (n0 := 256) (n1 := 2048) r k)
      = x0 (ix2 (n0 := 256) (n1 := 2048) r k) + part b x3 2 k
          * rowNorm (fun k => x1 (ix2 (n0 := 256) (n1 := 2048) r k)) (fun k => x2 (ix2 (n0 := 1) (n1 := 2048) 0 k)) k := by
  pointwise [k0_pay1]
  rw [hb]

section Final
variable (m : (ℓ : Loc nD τ sig) → Buf (Elt Ideal) ℓ)

/-- The windows' blocks: the weights and the modulation whole, the others 256 rows. -/
theorem index0 : ∀ t : Fin cfg0.N, win0_0.index t = ![(grid0.coords t 0).val, 0] := (by decide +kernel : ∀ t : Fin grid0.N, _)
theorem index1 : ∀ t : Fin cfg0.N, win0_1.index t = ![(grid0.coords t 0).val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![(grid0.coords t 0).val, 0] := (by decide +kernel : ∀ t : Fin grid0.N, _)

theorem zeros2 : (![0, 0] : Fin 2 → Nat) = fun _ => 0 := funext fun a => by fin_cases a <;> rfl
theorem zeros3 : (![0, 0, 0] : Fin 3 → Nat) = fun _ => 0 := funext fun a => by fin_cases a <;> rfl

/-- What a point stores. -/
theorem stored (c : Dev nD) (t : Fin cfg0.N) :
    (dats m 0 c).after 4 t
      = k0_pay1 (grid0.coords t) (iblk m c 0 t) (iblk m c 1 t) (iblk m c 2 t) (iblk m c 3 t) := by
  rw [after0_4]
  unfold out0_4
  rw [View.canon_unit_zero zeros2]
  exact congr (congr (congrArg₂ (fun a b => k0_pay1 (grid0.coords t) a b) (View.ld_unit_zero zeros2 _ _) (View.ld_unit_zero zeros2 _ _))
    (View.ld_unit_zero zeros2 _ _)) (View.ld_unit_zero zeros3 _ _)

/-- The array after the run. -/
theorem final (c : Dev nD) : (dats m 0 c).arrAt 4 cfg0.N
    = rows (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  rw [stored]
  blk_simp
  have hy : y = ix2 (n0 := 256) (n1 := 2048) (y 0) (y 1) := by
    funext a; fin_cases a <;> rfl
  refine (congrArg _ hy).trans ((pay (grid0.coords t) _ (first (grid0.coords t 0) (y 0)) _ _ _ _ (y 0) (y 1)).trans ?_)
  have e0 := index0 t
  have e1 := index1 t
  have e2 := index2 t
  have e3 := index3 t
  have e4 := index4 t
  unfold rows
  blk_point [iblk, V, e0, e1, e2, e3, e4]
  all_goals
    refine congrArg _ (Fin.ext ?_)
    blk_point [e4]

end Final

/-- On every device the result is the reference's. -/
theorem algebraic : Cert.algebraic_ResidualIdeal_ResidualRefIdeal := by
  intro m g m' g' _ hin
  refine ⟨fun c => rows (m ((c.tc : Thread nD τ).loc main_arg0)) (m ((c.tc : Thread nD τ).loc main_arg1)) (m ((c.tc : Thread nD τ).loc main_arg2))
      (m ((c.tc : Thread nD τ).loc main_arg3)),
    (θ_run ResidualIdeal.defs _ _).mono (fun r h c => ?_) (run_blocks (F := Ideal) m g),
    (θ_run ResidualRefIdeal.defs _ _).mono (fun r h c => ?_) (ResidualRefIdeal.Value.run (F := Ideal) m' g')⟩
  · exact ⟨(h c).1.trans (final m c), (h c).2⟩
  · obtain ⟨i0, i1, i2, i3⟩ := hin c
    refine ⟨(h c).1.trans (funext fun y => ?_), (h c).2⟩
    rw [i0, i1, i2, i3]
    have hy : y = ix2 (n0 := 8448) (n1 := 2048) (y 0) (y 1) := by
      funext a; fin_cases a <;> rfl
    rw [hy]
    generalize (y 0 : Fin 8448) = r
    generalize (y 1 : Fin 2048) = k
    unfold rows
    pointwise

end Cert.ResidualValue

end
-- ==== Proof.ActivationValue.lean ====
module

public import proofs.«01_k».proof.Proof.Gen.ActivationIdeal.Value
public import proofs.«01_k».proof.Proof.Gen.ActivationRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The activation of the feed-forward part: the first half of a row, times its logistic, times the second half. A grid point
   has 128 rows. -/

@[expose] public section

set_option maxRecDepth 16384

noncomputable section

namespace Cert.ActivationValue

open Cert.ActivationIdeal Cert.ActivationIdeal.Gen Cert.ActivationIdeal.Value

open Idealize.ShloMosaic Idealize.ShloMosaic.TcCoe
open Idealize.SL.Sem

/-- The place `k` of the first half of a row, and of the second. -/
abbrev half (k : Fin 5632) : Fin 11264 := ⟨k.val, by omega⟩
abbrev second (k : Fin 5632) : Fin 11264 := ⟨5632 + k.val, by omega⟩

/-- The whole result. -/
def rows (x : S8448x11264.Idx → EReal) (j : S8448x5632.Idx) : EReal :=
  x (ix2 (n0 := 8448) (n1 := 11264) (j 0) (half (j 1))) * Ideal.logistic (x (ix2 (n0 := 8448) (n1 := 11264) (j 0) (half (j 1))))
    * x (ix2 (n0 := 8448) (n1 := 11264) (j 0) (second (j 1)))

theorem pay (x : S128x11264.Idx → EReal) (r : Fin 128) (k : Fin 5632) : k0_pay1 (F := Ideal) x (ix2 (n0 := 128) (n1 := 5632) r k)
    = x (ix2 (n0 := 128) (n1 := 11264) r (half k)) * Ideal.logistic (x (ix2 (n0 := 128) (n1 := 11264) r (half k)))
      * x (ix2 (n0 := 128) (n1 := 11264) r (second k)) := by
  pointwise [k0_pay1]

section Final
variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)

theorem zeros2 : (![0, 0] : Fin 2 → Nat) = fun _ => 0 := funext fun a => by fin_cases a <;> rfl

/-- What a point stores. -/
theorem stored (c : Dev nD) (t : Fin cfg0.N) : (dats m 0 c).after 1 t = k0_pay1 (iblk m c 0 t) := by
  rw [after0_1]
  unfold out0_1
  rw [View.canon_unit_zero zeros2]
  exact congrArg k0_pay1 (View.ld_unit_zero zeros2 _ _)

/-- The array after the run. -/
theorem final (c : Dev nD) : (dats m 0 c).arrAt 1 cfg0.N = rows (m ((c : Thread nD τ).loc main_arg0)) := by
  refine (dats m 0 c).arrAt_eq_of_covers 1 _ (by decide +kernel) fun t hf y => ?_
  rw [stored]
  blk_simp
  have hy : y = ix2 (n0 := 128) (n1 := 5632) (y 0) (y 1) := by
    funext a; fin_cases a <;> rfl
  refine (congrArg _ hy).trans ((pay _ (y 0) (y 1)).trans ?_)
  have e0 := index0 t
  have e1 := index1 t
  unfold rows
  blk_point [iblk, V, e0, e1]
  · show (y 1).val = ((win0_1.blk t).view.emb y 1).val
    blk_point [e1]
  · refine congrArg (5632 + ·) (show (y 1).val = ((win0_1.blk t).view.emb y 1).val from ?_)
    blk_point [e1]

end Final

/-- On every device the result is the reference's. -/
theorem algebraic : Cert.algebraic_ActivationIdeal_ActivationRefIdeal := by
  intro m g m' g' _ hin
  refine ⟨fun c => rows (m ((c.tc : Thread nD τ).loc main_arg0)),
    (θ_run ActivationIdeal.defs _ _).mono (fun r h c => ?_) (run_blocks (F := Ideal) m g),
    (θ_run ActivationRefIdeal.defs _ _).mono (fun r h c => ?_) (ActivationRefIdeal.Value.run (F := Ideal) m' g')⟩
  · exact ⟨(h c).1.trans (final m c), (h c).2⟩
  · refine ⟨(h c).1.trans (funext fun y => ?_), (h c).2⟩
    rw [hin c]
    have hy : y = ix2 (n0 := 8448) (n1 := 5632) (y 0) (y 1) := by
      funext a; fin_cases a <;> rfl
    rw [hy]
    generalize (y 0 : Fin 8448) = r
    generalize (y 1 : Fin 5632) = k
    unfold rows
    pointwise
    rfl

end Cert.ActivationValue

end
-- ==== Proof.ActivationBackValue.lean ====
module

public import proofs.«01_k».proof.Proof.Gen.ActivationBackIdeal.Value
public import proofs.«01_k».proof.Proof.Gen.ActivationBackRefIdeal.Run
public import proofs.«01_k».proof.Proof.ActivationValue
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The activation of the feed-forward part going backwards: the gradient of the first half of a row, which passes through
   its logistic, beside the gradient of the second half. A grid point has 128 rows. -/

@[expose] public section

set_option maxRecDepth 16384

noncomputable section

namespace Cert.ActivationBackValue

open Cert.ActivationBackIdeal Cert.ActivationBackIdeal.Gen Cert.ActivationBackIdeal.Value

open Idealize.ShloMosaic Idealize.ShloMosaic.TcCoe
open Idealize.SL.Sem
open Cert.ActivationValue (half second)
open scoped BigOperators

/-- A row's gradient: `x` the row of the input, `d` the gradient of the row of the result. -/
def slope (x : Fin 11264 → EReal) (d : Fin 5632 → EReal) (k : Fin 11264) : EReal :=
  if h : k.val < 5632 then
    d ⟨k.val, h⟩ * x (second ⟨k.val, h⟩) * Ideal.logistic (x k)
      + x k * (d ⟨k.val, h⟩ * x (second ⟨k.val, h⟩)) * (Ideal.logistic (x k) * (1 - Ideal.logistic (x k)))
  else x (half ⟨k.val - 5632, by omega⟩) * Ideal.logistic (x (half ⟨k.val - 5632, by omega⟩)) * d ⟨k.val - 5632, by omega⟩

/-- The whole result. -/
def rows (x : S8448x11264.Idx → EReal) (d : S8448x5632.Idx → EReal) (j : S8448x11264.Idx) : EReal :=
  slope (fun k => x (ix2 (n0 := 8448) (n1 := 11264) (j 0) k)) (fun k => d (ix2 (n0 := 8448) (n1 := 5632) (j 0) k)) (j 1)

theorem pay (x : S128x11264.Idx → EReal) (d : S128x5632.Idx → EReal) (r : Fin 128) (k : Fin 11264) :
    k0_pay1 (F := Ideal) x d (ix2 (n0 := 128) (n1 := 11264) r k)
      = slope (fun k => x (ix2 (n0 := 128) (n1 := 11264) r k)) (fun k => d (ix2 (n0 := 128) (n1 := 5632) r k)) k := by
  pointwise [k0_pay1]
  unfold slope
  by_cases h : k.val < 5632
  · rw [dif_pos h, dif_pos h, dif_pos h, zero_add]
  · rw [dif_neg h, dif_neg h, dif_neg h, add_zero]

section Final
variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)

theorem zeros2 : (![0, 0] : Fin 2 → Nat) = fun _ => 0 := funext fun a => by fin_cases a <;> rfl

/-- What a point stores. -/
theorem stored (c : Dev nD) (t : Fin cfg0.N) : (dats m 0 c).after 2 t = k0_pay1 (iblk m c 0 t) (iblk m c 1 t) := by
  rw [after0_2]
  unfold out0_2
  rw [View.canon_unit_zero zeros2]
  exact congrArg₂ (fun a b => k0_pay1 a b) (View.ld_unit_zero zeros2 _ _) (View.ld_unit_zero zeros2 _ _)

/-- The array after the run. -/
theorem final (c : Dev nD) : (dats m 0 c).arrAt 2 cfg0.N
    = rows (m ((c : Thread nD τ).loc main_arg0)) (m ((c : Thread nD τ).loc main_arg1)) := by
  refine (dats m 0 c).arrAt_eq_of_covers 2 _ (by decide +kernel) fun t hf y => ?_
  rw [stored]
  blk_simp
  have hy : y = ix2 (n0 := 128) (n1 := 11264) (y 0) (y 1) := by
    funext a; fin_cases a <;> rfl
  refine (congrArg _ hy).trans ((pay _ _ (y 0) (y 1)).trans ?_)
  have e0 := index0 t
  have e1 := index1 t
  have e2 := index2 t
  unfold rows
  refine congr (congrArg₂ slope (funext fun k => ?_) (funext fun k => ?_)) (Fin.ext ?_)
  all_goals blk_point [iblk, V, e0, e1, e2]

end Final

/-- On every device the result is the reference's. -/
theorem algebraic : Cert.algebraic_ActivationBackIdeal_ActivationBackRefIdeal := by
  intro m g m' g' _ hin
  refine ⟨fun c => rows (m ((c.tc : Thread nD τ).loc main_arg0)) (m ((c.tc : Thread nD τ).loc main_arg1)),
    (θ_run ActivationBackIdeal.defs _ _).mono (fun r h c => ?_) (run_blocks (F := Ideal) m g),
    (θ_run ActivationBackRefIdeal.defs _ _).mono (fun r h c => ?_) (ActivationBackRefIdeal.Value.run (F := Ideal) m' g')⟩
  · exact ⟨(h c).1.trans (final m c), (h c).2⟩
  · obtain ⟨i0, i1⟩ := hin c
    refine ⟨(h c).1.trans (funext fun y => ?_), (h c).2⟩
    rw [i0, i1]
    have hy : y = ix2 (n0 := 8448) (n1 := 11264) (y 0) (y 1) := by
      funext a; fin_cases a <;> rfl
    rw [hy]
    generalize (y 0 : Fin 8448) = r
    generalize (y 1 : Fin 11264) = k
    unfold rows slope
    pointwise
    rfl

end Cert.ActivationBackValue

end
-- ==== Proof.ResidualBackValue.lean ====
module

public import proofs.«01_k».proof.Proof.Gen.ResidualBackIdeal.Value
public import proofs.«01_k».proof.Proof.Gen.ResidualBackRefIdeal.Run
public import proofs.«01_k».proof.Proof.ModulateValue
public import proofs.«01_k».proof.Proof.Rows
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/-
  The sum after a layer's mixer, going backwards to the mixer's output: the gated normalisation's gradient. A grid point has
  256 rows, and a row's gradient reads nothing of another row, so the array is the reference's. The first block's rows are
  the context's, with the context's gate.
-/

@[expose] public section

set_option maxRecDepth 16384

noncomputable section

namespace Cert.ResidualBackValue

open Cert.ResidualBackIdeal Cert.ResidualBackIdeal.Gen Cert.ResidualBackIdeal.Value

open Idealize.ShloMosaic Idealize.ShloMosaic.TcCoe
open Idealize.SL.Sem
open Cert.ModulateValue (part first zeros2 zeros3)
open Cert.Rows (readWhole)
open scoped BigOperators

/-! ## What a grid point stores -/

section Stores
variable {F : FTy → Type} [FloatOps F]

variable (c : Dev nD) (i : grid0.Coords)
    (arg1 : Memref sig .tc .vmem S256x2048 .f32) (h1 : arg1.IsWhole)
    (arg2 : Memref sig .tc .vmem S256x2048 .f32) (h2 : arg2.IsWhole)
    (arg3 : Memref sig .tc .vmem S1x2048 .f32) (h3 : arg3.IsWhole)
    (arg4 : Memref sig .tc .vmem S2x6x2048 .f32) (h4 : arg4.IsWhole)
    (arg5 : Memref sig .tc .vmem S256x2048 .f32) (h5 : arg5.IsWhole)
    (arg6 : Memref sig .tc .vmem S256x2048 .bf16) (h6 : arg6.IsWhole)
    (arg7 : Memref sig .tc .vmem S1x2048 .f32) (h7 : arg7.IsWhole)
    (arg8 : Memref sig .tc .vmem S2x6x2048 .f32) (h8 : arg8.IsWhole)
    (x0 x1 : Vec F S256x2048 .f32) (x2 : Vec F S1x2048 .f32) (x3 : Vec F S2x6x2048 .f32) (x4 : Vec F S256x2048 .f32)
    (o6 : Vec F S1x2048 .f32) (o7 : Vec F S2x6x2048 .f32)

/-- The block of the gradient. -/
abbrev stored : Vec F S256x2048 .bf16 := k0_pay13 x1 (k0_pay4 x1) (k0_pay10 i x1 x2 x3 x4) (k0_pay11 i x1 x2 x3 x4)

theorem rows_A (hc0 : cond0_0 i) (hc1 : ¬cond0_1 i) (hc2 : cond0_2 i) (hc3 : ¬cond0_3 i) :
    out0_A_5 c i arg1 h1 arg2 h2 arg3 h3 arg4 h4 arg5 h5 arg6 h6 arg7 h7 arg8 h8 hc0 hc1 hc2 hc3 x0 x1 x2 x3 x4
      = stored i x1 x2 x3 x4 := by
  unfold out0_A_5
  rw [View.read_writes_junk_eq_canon]
  show View.canon ([⟨Rect.unit ![0, 0] S256x2048.size inb_S256x2048_S256x2048_0_0, stored i _ _ _ _⟩] :
    List (View.Piece (Elt F) S256x2048 .bf16)) = _
  rw [View.canon_unit_zero zeros2]
  exact congr (congr (congrArg₂ (fun a b => stored i a b) (readWhole _ _ zeros2 ..) (readWhole _ _ zeros2 ..))
    (readWhole _ _ zeros3 ..)) (readWhole _ _ zeros2 ..)

theorem rows_B (hc0 : ¬cond0_0 i) (hc1 : cond0_1 i) (hc2 : ¬cond0_2 i) (hc3 : cond0_3 i) :
    out0_B_5 c i arg1 h1 arg2 h2 arg3 h3 arg4 h4 arg5 h5 arg6 h6 arg7 h7 arg8 h8 hc0 hc1 hc2 hc3 x0 x1 x2 x3 x4 o6 o7
      = stored i x1 x2 x3 x4 := by
  unfold out0_B_5
  rw [View.read_writes_junk_eq_canon]
  show View.canon ([⟨Rect.unit ![0, 0] S256x2048.size inb_S256x2048_S256x2048_0_0, stored i _ _ _ _⟩] :
    List (View.Piece (Elt F) S256x2048 .bf16)) = _
  rw [View.canon_unit_zero zeros2]
  exact congr (congr (congrArg₂ (fun a b => stored i a b) (readWhole _ _ zeros2 ..) (readWhole _ _ zeros2 ..))
    (readWhole _ _ zeros3 ..)) (readWhole _ _ zeros2 ..)

end Stores

section Point
variable {F : FTy → Type} [FloatOps F]
variable (m : (ℓ : Loc nD τ sig) → Buf (Elt F) ℓ)

/-- At every point. -/
theorem rows_at (c : Dev nD) (t : Fin cfg0.N) :
    (dats m 0 c).after 5 t = stored (grid0.coords t) (iblk m c 1 t) (iblk m c 2 t) (iblk m c 3 t) (iblk m c 4 t) := by
  have hN : t.val < 33 := lt_of_lt_of_eq t.isLt (show cfg0.N = 33 from N_0)
  rw [after0_5]
  by_cases h : t.val = 0
  · rw [outsAt0_A m c t (by omega) (by omega) (by omega) (by omega)]; dsimp only; rw [rows_A]
  · rw [outsAt0_B m c t (by omega) (by omega) (by omega) (by omega)]; dsimp only; rw [rows_B]

end Point

/-! ## Over the extended reals -/

/-- The mean of the squares of a row, and what is added to it. -/
abbrev spread (x : Fin 2048 → EReal) : EReal :=
  Ideal.div (∑ k, x k * x k) (Ideal.ofBits FTy.f32 0x45000000#32) + Ideal.ofBits FTy.f32 0x358637BD#32

/-- A row's gradient through its spread: `b` says whose gate the row has. -/
abbrev through (b : BitVec 1) (y g w : Fin 2048 → EReal) (mods : S2x6x2048.Idx → EReal) : EReal :=
  ∑ _u : Fin 1, Ideal.div ((∑ k, y k * (part b mods 2 k * g k * w k))
      * (Ideal.ofBits FTy.f32 0xBF000000#32 * Ideal.div (Ideal.rsqrt (spread y)) (spread y)))
    (Ideal.ofBits FTy.f32 0x45000000#32)

/-- A row's gradient: the gradient times the reciprocal root, and twice the part through the spread. -/
abbrev rowGrad (b : BitVec 1) (y g w : Fin 2048 → EReal) (mods : S2x6x2048.Idx → EReal) (k : Fin 2048) : EReal :=
  part b mods 2 k * g k * w k * Ideal.rsqrt (spread y) + y k * through b y g w mods + through b y g w mods * y k

/-- The gradient of the mixer's whole output. -/
def grad (y : S8448x2048.Idx → EReal) (w : S2048.Idx → EReal) (mods : S2x6x2048.Idx → EReal) (g : S8448x2048.Idx → EReal)
    (j : S8448x2048.Idx) : EReal :=
  rowGrad (IntOp.cmpi .slt (BitVec.ofNat 32 (j 0).val) 256#32) (fun k => y (ix2 (n0 := 8448) (n1 := 2048) (j 0) k))
    (fun k => g (ix2 (n0 := 8448) (n1 := 2048) (j 0) k)) (fun k => w (ix1 (n0 := 2048) k)) mods (j 1)

theorem pay (i : grid0.Coords) (b : BitVec 1) (hb : Scalar.cmpi CmpIPredicate.slt (BitVec.ofNat 32 (i 0).val) 1#32 = b)
    (x1 : S256x2048.Idx → EReal) (x2 : S1x2048.Idx → EReal) (x3 : S2x6x2048.Idx → EReal) (x4 : S256x2048.Idx → EReal)
    (r : Fin 256) (k : Fin 2048) :
    stored (F := Ideal) i x1 x2 x3 x4 (ix2 (n0 := 256) (n1 := 2048) r k)
      = rowGrad b (fun k => x1 (ix2 (n0 := 256) (n1 := 2048) r k)) (fun k => x4 (ix2 (n0 := 256) (n1 := 2048) r k))
          (fun k => x2 (ix2 (n0 := 1) (n1 := 2048) 0 k)) x3 k := by
  pointwise [stored, k0_pay13, k0_pay11, k0_pay10, k0_pay9, k0_pay6, k0_pay4, k0_pay3, k0_pay2, k0_pay1]
  rw [hb]

section Final
variable (m : (ℓ : Loc nD τ sig) → Buf (Elt Ideal) ℓ)

/-- The windows' blocks: the weights and the modulation whole, the others 256 rows. -/
theorem index1 : ∀ t : Fin cfg0.N, win0_1.index t = ![(grid0.coords t 0).val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![(grid0.coords t 0).val, 0] := (by decide +kernel : ∀ t : Fin grid0.N, _)
theorem index5 : ∀ t : Fin cfg0.N, win0_5.index t = ![(grid0.coords t 0).val, 0] := (by decide +kernel : ∀ t : Fin grid0.N, _)

/-- The array after the run. -/
theorem final_rows (c : Dev nD) : (dats m 0 c).arrAt 5 cfg0.N
    = grad (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  rw [rows_at]
  blk_simp
  have hy : y = ix2 (n0 := 256) (n1 := 2048) (y 0) (y 1) := by
    funext a; fin_cases a <;> rfl
  refine (congrArg _ hy).trans ((pay (grid0.coords t) _ (first (grid0.coords t 0) (y 0)) _ _ _ _ (y 0) (y 1)).trans ?_)
  have e1 := index1 t
  have e2 := index2 t
  have e3 := index3 t
  have e4 := index4 t
  have e5 := index5 t
  unfold grad
  blk_point [iblk, V, e1, e2, e3, e4, e5]
  refine congrArg _ (Fin.ext ?_)
  blk_point [e5]

end Final

/-! ## The reference -/

/-- The reference computes the same array. -/
theorem ref_rows (m : (ℓ : Loc ResidualBackRefIdeal.nD ResidualBackRefIdeal.τ ResidualBackRefIdeal.sig) → Buf (Elt Ideal) ℓ)
    (c : Dev ResidualBackRefIdeal.nD) : ResidualBackRefIdeal.Value.res_out0 m c
      = grad (m (c.tc.loc ResidualBackRefIdeal.main_arg1)) (m (c.tc.loc ResidualBackRefIdeal.main_arg2))
          (m (c.tc.loc ResidualBackRefIdeal.main_arg3)) (m (c.tc.loc ResidualBackRefIdeal.main_arg4)) := by
  funext y
  have hy : y = ix2 (n0 := 8448) (n1 := 2048) (y 0) (y 1) := by
    funext a; fin_cases a <;> rfl
  rw [hy]
  generalize (y 0 : Fin 8448) = r
  generalize (y 1 : Fin 2048) = k
  unfold grad ResidualBackRefIdeal.Value.res_out0 ResidualBackRefIdeal.Value.res_main_v44
  pointwise

/-- On every device the result is the reference's. -/
theorem algebraic : Cert.algebraic_ResidualBackIdeal_ResidualBackRefIdeal := by
  intro m g m' g' _ hin
  refine ⟨fun c => grad (m (c.tc.loc main_arg1)) (m (c.tc.loc main_arg2)) (m (c.tc.loc main_arg3)) (m (c.tc.loc main_arg4)),
    (θ_run ResidualBackIdeal.defs _ _).mono (fun r h c => ?_) (run_blocks (F := Ideal) m g),
    (θ_run ResidualBackRefIdeal.defs _ _).mono (fun r h c => ?_) (ResidualBackRefIdeal.Value.run (F := Ideal) m' g')⟩
  · obtain ⟨h0, _, _, h⟩ := h c
    exact ⟨h0.trans (final_rows m c), h⟩
  · obtain ⟨h0, h⟩ := h c
    obtain ⟨_, i1, i2, i3, i4⟩ := hin c
    exact ⟨h0.trans ((ref_rows m' c).trans (by rw [i1, i2, i3, i4])), h⟩

end Cert.ResidualBackValue

end
-- ==== Proof.ReadEvenValue.lean ====
module

public import proofs.«01_k».proof.Proof.Gen.ReadEvenIdeal.Value
public import proofs.«01_k».proof.Proof.Gen.ReadEvenRefIdeal.Run
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The readout of the even layer's recurrence: the sum of the two directions, normalised head by head and gated. A grid
   point has 256 rows of one head. -/

@[expose] public section

set_option maxRecDepth 16384

noncomputable section

namespace Cert.ReadEvenValue

open Cert.ReadEvenIdeal Cert.ReadEvenIdeal.Gen Cert.ReadEvenIdeal.Value

open Idealize.ShloMosaic Idealize.ShloMosaic.TcCoe
open Idealize.SL.Sem
open scoped BigOperators

/-- One head's part of a row: `o` divided by the root of its mean square, weighted, times `g` and the logistic of `g`. -/
abbrev readRow (o g w : Fin 128 → EReal) (q : Fin 128) : EReal :=
  o q * Ideal.rsqrt (Ideal.div (∑ k, o k * o k) (Ideal.ofBits FTy.f32 0x43000000#32) + Ideal.ofBits FTy.f32 0x358637BD#32) * w q
    * (g q * Ideal.logistic (g q))

/-- The whole result; column `k` is in the head `k / 128`, and the heads' gates begin at column 4096 of `p`. -/
def rows (a b : S8448x1024.Idx → EReal) (p : S8448x6144.Idx → EReal) (w : S1x128.Idx → EReal) (j : S8448x1024.Idx) : EReal :=
  readRow (fun q => a (ix2 (n0 := 8448) (n1 := 1024) (j 0) ⟨(j 1).val / 128 * 128 + q.val, by have h : (j 1).val < 1024 := (j 1).isLt; omega⟩)
      + b (ix2 (n0 := 8448) (n1 := 1024) (j 0) ⟨(j 1).val / 128 * 128 + q.val, by have h : (j 1).val < 1024 := (j 1).isLt; omega⟩))
    (fun q => p (ix2 (n0 := 8448) (n1 := 6144) (j 0) ⟨4096 + ((j 1).val / 128 * 128 + q.val), by have h : (j 1).val < 1024 := (j 1).isLt; omega⟩))
    (fun q => w (ix2 (n0 := 1) (n1 := 128) 0 q)) ⟨(j 1).val % 128, Nat.mod_lt _ (by decide)⟩

theorem pay (x0 x1 x2 : S256x128.Idx → EReal) (x3 : S1x128.Idx → EReal) (r : Fin 256) (q : Fin 128) :
    k0_pay1 (F := Ideal) x0 x1 x2 x3 (ix2 (n0 := 256) (n1 := 128) r q)
      = readRow (fun q => x0 (ix2 (n0 := 256) (n1 := 128) r q) + x1 (ix2 (n0 := 256) (n1 := 128) r q)) (fun q => x2 (ix2 (n0 := 256) (n1 := 128) r q))
          (fun q => x3 (ix2 (n0 := 1) (n1 := 128) 0 q)) q := by
  pointwise [k0_pay1]

section Final
variable (m : (ℓ : Loc nD τ sig) → Buf (Elt Ideal) ℓ)

theorem index0 : ∀ t : Fin cfg0.N, win0_0.index t = ![t.val % 33, t.val / 33] := (by decide +kernel : ∀ t : Fin grid0.N, _)
theorem index1 : ∀ t : Fin cfg0.N, win0_1.index t = ![t.val % 33, t.val / 33] := (by decide +kernel : ∀ t : Fin grid0.N, _)
theorem index2 : ∀ t : Fin cfg0.N, win0_2.index t = ![t.val % 33, 32 + t.val / 33] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val % 33, t.val / 33] := (by decide +kernel : ∀ t : Fin grid0.N, _)

theorem zeros2 : (![0, 0] : Fin 2 → Nat) = fun _ => 0 := funext fun a => by fin_cases a <;> rfl

/-- What a point stores. -/
theorem stored (c : Dev nD) (t : Fin cfg0.N) :
    (dats m 0 c).after 4 t = k0_pay1 (iblk m c 0 t) (iblk m c 1 t) (iblk m c 2 t) (iblk m c 3 t) := by
  rw [after0_4]
  unfold out0_4
  rw [View.canon_unit_zero zeros2]
  exact congr (congr (congrArg₂ (fun a b => k0_pay1 a b) (View.ld_unit_zero zeros2 _ _) (View.ld_unit_zero zeros2 _ _))
    (View.ld_unit_zero zeros2 _ _)) (View.ld_unit_zero zeros2 _ _)

/-- The array after the run. -/
theorem final (c : Dev nD) : (dats m 0 c).arrAt 4 cfg0.N
    = rows (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  rw [stored]
  blk_simp
  have hy : y = ix2 (n0 := 256) (n1 := 128) (y 0) (y 1) := by
    funext a; fin_cases a <;> rfl
  refine (congrArg _ hy).trans ((pay _ _ _ _ (y 0) (y 1)).trans ?_)
  have e0 := index0 t
  have e1 := index1 t
  have e2 := index2 t
  have e3 := index3 t
  have e4 := index4 t
  unfold rows
  blk_point [iblk, V, e0, e1, e2, e3, e4]
  refine congrArg (readRow _ _ _) (Fin.ext ?_)
  show (y 1).val = (t.val / 33 * 128 + (y 1).val) % 128
  omega

end Final

/-- On every device the result is the reference's. -/
theorem algebraic : Cert.algebraic_ReadEvenIdeal_ReadEvenRefIdeal := by
  intro m g m' g' _ hin
  refine ⟨fun c => rows (m ((c.tc : Thread nD τ).loc main_arg0)) (m ((c.tc : Thread nD τ).loc main_arg1)) (m ((c.tc : Thread nD τ).loc main_arg2))
      (m ((c.tc : Thread nD τ).loc main_arg3)),
    (θ_run ReadEvenIdeal.defs _ _).mono (fun r h c => ?_) (run_blocks (F := Ideal) m g),
    (θ_run ReadEvenRefIdeal.defs _ _).mono (fun r h c => ?_) (ReadEvenRefIdeal.Value.run (F := Ideal) m' g')⟩
  · exact ⟨(h c).1.trans (final m c), (h c).2⟩
  · obtain ⟨i0, i1, i2, i3⟩ := hin c
    refine ⟨(h c).1.trans (funext fun y => ?_), (h c).2⟩
    rw [i0, i1, i2, i3]
    have hy : y = ix2 (n0 := 8448) (n1 := 1024) (y 0) (y 1) := by
      funext a; fin_cases a <;> rfl
    rw [hy]
    generalize (y 0 : Fin 8448) = r
    generalize (y 1 : Fin 1024) = k
    have e : ∀ h, (⟨k.val / 128 * 128 + k.val % 128, h⟩ : Fin 1024) = k := fun _ => Fin.ext (Nat.div_add_mod' _ _)
    have e' : ∀ h, (⟨4096 + (k.val / 128 * 128 + k.val % 128), h⟩ : Fin 6144) = ⟨4096 + k.val, by have := k.isLt; omega⟩ :=
      fun _ => Fin.ext (congrArg (4096 + ·) (Nat.div_add_mod' _ _))
    unfold rows
    pointwise
    dsimp only [readRow]
    rw [e, e']
    rfl

end Cert.ReadEvenValue

end
-- ==== Proof.ReadOddValue.lean ====
module

public import proofs.«01_k».proof.Proof.Gen.ReadOddIdeal.Value
public import proofs.«01_k».proof.Proof.Gen.ReadOddRefIdeal.Run
public import proofs.«01_k».proof.Proof.ReadEvenValue
public import proofs.«01_k».proof.Defs
public import Idealize.ShloMosaic.PureOps.Ideal.Laws
public import Idealize.ShloMosaic.Lib.IdealHost
public import Idealize.ShloMosaic.Lib.KernelVsHost
public import Idealize.ShloMosaic.Lib.ValueIdx
public import Idealize.ShloMosaic.Lib.Pointwise
public import Idealize.ShloMosaic.Lib.Pipeline.ValueKit

/- The readout of the odd layer's recurrence: the sum of the two directions, normalised head by head and gated. A grid
   point has 256 rows of one head. -/

@[expose] public section

set_option maxRecDepth 16384

noncomputable section

namespace Cert.ReadOddValue

open Cert.ReadOddIdeal Cert.ReadOddIdeal.Gen Cert.ReadOddIdeal.Value

open Idealize.ShloMosaic Idealize.ShloMosaic.TcCoe
open Idealize.SL.Sem
open Cert.ReadEvenValue (readRow)
open scoped BigOperators

/-- The whole result; column `k` is in the head `k / 128`, and the heads' gates begin at column 8192 of `p`. -/
def rows (a b : S8448x4096.Idx → EReal) (p : S8448x12288.Idx → EReal) (w : S1x128.Idx → EReal) (j : S8448x4096.Idx) : EReal :=
  readRow (fun q => a (ix2 (n0 := 8448) (n1 := 4096) (j 0) ⟨(j 1).val / 128 * 128 + q.val, by have h : (j 1).val < 4096 := (j 1).isLt; omega⟩)
      + b (ix2 (n0 := 8448) (n1 := 4096) (j 0) ⟨(j 1).val / 128 * 128 + q.val, by have h : (j 1).val < 4096 := (j 1).isLt; omega⟩))
    (fun q => p (ix2 (n0 := 8448) (n1 := 12288) (j 0) ⟨8192 + ((j 1).val / 128 * 128 + q.val), by have h : (j 1).val < 4096 := (j 1).isLt; omega⟩))
    (fun q => w (ix2 (n0 := 1) (n1 := 128) 0 q)) ⟨(j 1).val % 128, Nat.mod_lt _ (by decide)⟩

theorem pay (x0 x1 x2 : S256x128.Idx → EReal) (x3 : S1x128.Idx → EReal) (r : Fin 256) (q : Fin 128) :
    k0_pay1 (F := Ideal) x0 x1 x2 x3 (ix2 (n0 := 256) (n1 := 128) r q)
      = readRow (fun q => x0 (ix2 (n0 := 256) (n1 := 128) r q) + x1 (ix2 (n0 := 256) (n1 := 128) r q)) (fun q => x2 (ix2 (n0 := 256) (n1 := 128) r q))
          (fun q => x3 (ix2 (n0 := 1) (n1 := 128) 0 q)) q := by
  pointwise [k0_pay1]

section Final
variable (m : (ℓ : Loc nD τ sig) → Buf (Elt Ideal) ℓ)

theorem index0 : ∀ t : Fin cfg0.N, win0_0.index t = ![t.val % 33, t.val / 33] := (by decide +kernel : ∀ t : Fin grid0.N, _)
theorem index1 : ∀ t : Fin cfg0.N, win0_1.index t = ![t.val % 33, t.val / 33] := (by decide +kernel : ∀ t : Fin grid0.N, _)
theorem index2 : ∀ t : Fin cfg0.N, win0_2.index t = ![t.val % 33, 64 + t.val / 33] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val % 33, t.val / 33] := (by decide +kernel : ∀ t : Fin grid0.N, _)

theorem zeros2 : (![0, 0] : Fin 2 → Nat) = fun _ => 0 := funext fun a => by fin_cases a <;> rfl

/-- What a point stores. -/
theorem stored (c : Dev nD) (t : Fin cfg0.N) :
    (dats m 0 c).after 4 t = k0_pay1 (iblk m c 0 t) (iblk m c 1 t) (iblk m c 2 t) (iblk m c 3 t) := by
  rw [after0_4]
  unfold out0_4
  rw [View.canon_unit_zero zeros2]
  exact congr (congr (congrArg₂ (fun a b => k0_pay1 a b) (View.ld_unit_zero zeros2 _ _) (View.ld_unit_zero zeros2 _ _))
    (View.ld_unit_zero zeros2 _ _)) (View.ld_unit_zero zeros2 _ _)

/-- The array after the run. -/
theorem final (c : Dev nD) : (dats m 0 c).arrAt 4 cfg0.N
    = rows (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  rw [stored]
  blk_simp
  have hy : y = ix2 (n0 := 256) (n1 := 128) (y 0) (y 1) := by
    funext a; fin_cases a <;> rfl
  refine (congrArg _ hy).trans ((pay _ _ _ _ (y 0) (y 1)).trans ?_)
  have e0 := index0 t
  have e1 := index1 t
  have e2 := index2 t
  have e3 := index3 t
  have e4 := index4 t
  unfold rows
  blk_point [iblk, V, e0, e1, e2, e3, e4]
  refine congrArg (readRow _ _ _) (Fin.ext ?_)
  show (y 1).val = (t.val / 33 * 128 + (y 1).val) % 128
  omega

end Final

/-- On every device the result is the reference's. -/
theorem algebraic : Cert.algebraic_ReadOddIdeal_ReadOddRefIdeal := by
  intro m g m' g' _ hin
  refine ⟨fun c => rows (m ((c.tc : Thread nD τ).loc main_arg0)) (m ((c.tc : Thread nD τ).loc main_arg1)) (m ((c.tc : Thread nD τ).loc main_arg2))
      (m ((c.tc : Thread nD τ).loc main_arg3)),
    (θ_run ReadOddIdeal.defs _ _).mono (fun r h c => ?_) (run_blocks (F := Ideal) m g),
    (θ_run ReadOddRefIdeal.defs _ _).mono (fun r h c => ?_) (ReadOddRefIdeal.Value.run (F := Ideal) m' g')⟩
  · exact ⟨(h c).1.trans (final m c), (h c).2⟩
  · obtain ⟨i0, i1, i2, i3⟩ := hin c
    refine ⟨(h c).1.trans (funext fun y => ?_), (h c).2⟩
    rw [i0, i1, i2, i3]
    have hy : y = ix2 (n0 := 8448) (n1 := 4096) (y 0) (y 1) := by
      funext a; fin_cases a <;> rfl
    rw [hy]
    generalize (y 0 : Fin 8448) = r
    generalize (y 1 : Fin 4096) = k
    have e : ∀ h, (⟨k.val / 128 * 128 + k.val % 128, h⟩ : Fin 4096) = k := fun _ => Fin.ext (Nat.div_add_mod' _ _)
    have e' : ∀ h, (⟨8192 + (k.val / 128 * 128 + k.val % 128), h⟩ : Fin 12288) = ⟨8192 + k.val, by have := k.isLt; omega⟩ :=
      fun _ => Fin.ext (congrArg (8192 + ·) (Nat.div_add_mod' _ _))
    unfold rows
    pointwise
    dsimp only [readRow]
    rw [e, e']
    rfl

end Cert.ReadOddValue

end
-- ==== Proof.lean ====
/- The claims of the certificate: for the all-gathers, the exchanges between cores and between chips with their sums, the
   gather and sum of the small gradients, the update of the weights, the loss, the two gradients of the backward pass, the
   weight gradients, the products of the forward and backward pass and the calls between them — the frames, the
   idealization, and the value against the reference. -/
module

public import proofs.«01_k».proof.Defs
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRefIdeal
public import proofs.«01_k».proof.Proof.Gen.GatherRefIdeal.Run
public import proofs.«01_k».proof.Proof.Gen.GatherRef
public import proofs.«01_k».proof.Proof.Gen.GatherRef.Run
public import proofs.«01_k».proof.Proof.Gen.Update.Frame
public import proofs.«01_k».proof.Proof.Gen.UpdateIdeal.Frame
public import proofs.«01_k».proof.Proof.Gen.Chips
public import proofs.«01_k».proof.Proof.Gen.ChipsIdeal
public import proofs.«01_k».proof.Proof.Gen.ChipsIdeal.Skeleton
public import proofs.«01_k».proof.Proof.Gen.ChipsIdeal.Launch
public import proofs.«01_k».proof.Proof.Gen.ChipsIdeal.Points
public import proofs.«01_k».proof.Proof.Gen.ChipsIdeal.Regions
public import proofs.«01_k».proof.Proof.Gen.ChipsRefIdeal
public import proofs.«01_k».proof.Proof.Gen.ChipsRefIdeal.Run
public import proofs.«01_k».proof.Proof.Gen.ChipsRef
public import proofs.«01_k».proof.Proof.Gen.ChipsRef.Run
public import proofs.«01_k».proof.Proof.Gen.Cores
public import proofs.«01_k».proof.Proof.Gen.CoresIdeal
public import proofs.«01_k».proof.Proof.Gen.CoresIdeal.Skeleton
public import proofs.«01_k».proof.Proof.Gen.CoresIdeal.Launch
public import proofs.«01_k».proof.Proof.Gen.CoresIdeal.Points
public import proofs.«01_k».proof.Proof.Gen.CoresIdeal.Regions
public import proofs.«01_k».proof.Proof.Gen.CoresRefIdeal
public import proofs.«01_k».proof.Proof.Gen.CoresRefIdeal.Run
public import proofs.«01_k».proof.Proof.Gen.CoresRef
public import proofs.«01_k».proof.Proof.Gen.CoresRef.Run
public import proofs.«01_k».proof.Proof.Gen.Small
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Regions
public import proofs.«01_k».proof.Proof.Gen.SmallRefIdeal
public import proofs.«01_k».proof.Proof.Gen.SmallRefIdeal.Run
public import proofs.«01_k».proof.Proof.Gen.SmallRef
public import proofs.«01_k».proof.Proof.Gen.SmallRef.Run
public import proofs.«01_k».proof.Proof.Gen.Loss
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Regions
public import proofs.«01_k».proof.Proof.Gen.LossRefIdeal
public import proofs.«01_k».proof.Proof.Gen.LossRefIdeal.Run
public import proofs.«01_k».proof.Proof.Gen.Ada.Frame
public import proofs.«01_k».proof.Proof.Gen.Norm.Frame
public import proofs.«01_k».proof.Proof.Gen.AdaIdeal.Frame
public import proofs.«01_k».proof.Proof.Gen.NormIdeal.Frame
public import proofs.«01_k».proof.Proof.Gen.Hidden.Frame
public import proofs.«01_k».proof.Proof.Gen.HiddenIdeal.Frame
public import proofs.«01_k».proof.Proof.Gen.Down.Frame
public import proofs.«01_k».proof.Proof.Gen.DownIdeal.Frame
public import proofs.«01_k».proof.Proof.Gen.EvenIn.Frame
public import proofs.«01_k».proof.Proof.Gen.EvenInIdeal.Frame
public import proofs.«01_k».proof.Proof.Gen.EvenOut.Frame
public import proofs.«01_k».proof.Proof.Gen.EvenOutIdeal.Frame
public import proofs.«01_k».proof.Proof.Gen.OddIn.Frame
public import proofs.«01_k».proof.Proof.Gen.OddInIdeal.Frame
public import proofs.«01_k».proof.Proof.Gen.OddGate.Frame
public import proofs.«01_k».proof.Proof.Gen.OddGateIdeal.Frame
public import proofs.«01_k».proof.Proof.Gen.OddOut.Frame
public import proofs.«01_k».proof.Proof.Gen.OddOutIdeal.Frame
public import proofs.«01_k».proof.Proof.Gen.Pieces
public import proofs.«01_k».proof.Proof.Gen.PiecesIdeal
public import proofs.«01_k».proof.Proof.Gen.PiecesIdeal.Skeleton
public import proofs.«01_k».proof.Proof.Gen.PiecesIdeal.Launch
public import proofs.«01_k».proof.Proof.Gen.PiecesIdeal.Points
public import proofs.«01_k».proof.Proof.Gen.PiecesIdeal.Frame
public import proofs.«01_k».proof.Proof.Gen.PiecesRefIdeal
public import proofs.«01_k».proof.Proof.Gen.PiecesRefIdeal.Run
public import proofs.«01_k».proof.Proof.Gen.PiecesRef
public import proofs.«01_k».proof.Proof.Gen.PiecesRef.Run
public import proofs.«01_k».proof.Proof.Gen.Mods
public import proofs.«01_k».proof.Proof.Gen.ModsIdeal
public import proofs.«01_k».proof.Proof.Gen.ModsIdeal.Skeleton
public import proofs.«01_k».proof.Proof.Gen.ModsIdeal.Launch
public import proofs.«01_k».proof.Proof.Gen.ModsIdeal.Points
public import proofs.«01_k».proof.Proof.Gen.ModsIdeal.Frame
public import proofs.«01_k».proof.Proof.Gen.ModsRefIdeal
public import proofs.«01_k».proof.Proof.Gen.ModsRefIdeal.Run
public import proofs.«01_k».proof.Proof.Gen.ModsRef
public import proofs.«01_k».proof.Proof.Gen.ModsRef.Run
public import proofs.«01_k».proof.Proof.Gen.Slopes
public import proofs.«01_k».proof.Proof.Gen.SlopesIdeal
public import proofs.«01_k».proof.Proof.Gen.SlopesIdeal.Skeleton
public import proofs.«01_k».proof.Proof.Gen.SlopesIdeal.Launch
public import proofs.«01_k».proof.Proof.Gen.SlopesIdeal.Points
public import proofs.«01_k».proof.Proof.Gen.SlopesIdeal.Frame
public import proofs.«01_k».proof.Proof.Gen.SlopesRefIdeal
public import proofs.«01_k».proof.Proof.Gen.SlopesRefIdeal.Run
public import proofs.«01_k».proof.Proof.Gen.SlopesRef
public import proofs.«01_k».proof.Proof.Gen.SlopesRef.Run
public import proofs.«01_k».proof.Proof.Gen.Up.Frame
public import proofs.«01_k».proof.Proof.Gen.UpIdeal.Frame
public import proofs.«01_k».proof.Proof.Gen.UpEven.Frame
public import proofs.«01_k».proof.Proof.Gen.UpEvenIdeal.Frame
public import proofs.«01_k».proof.Proof.Gen.MixEven.Frame
public import proofs.«01_k».proof.Proof.Gen.MixEvenIdeal.Frame
public import proofs.«01_k».proof.Proof.Gen.UpOdd.Frame
public import proofs.«01_k».proof.Proof.Gen.UpOddIdeal.Frame
public import proofs.«01_k».proof.Proof.Gen.GateOdd.Frame
public import proofs.«01_k».proof.Proof.Gen.GateOddIdeal.Frame
public import proofs.«01_k».proof.Proof.Gen.BackDown.Frame
public import proofs.«01_k».proof.Proof.Gen.BackDownIdeal.Frame
public import proofs.«01_k».proof.Proof.Gen.BackEven.Frame
public import proofs.«01_k».proof.Proof.Gen.BackEvenIdeal.Frame
public import proofs.«01_k».proof.Proof.Gen.BackOdd.Frame
public import proofs.«01_k».proof.Proof.Gen.BackOddIdeal.Frame
public import proofs.«01_k».proof.Proof.Gen.BackGate.Frame
public import proofs.«01_k».proof.Proof.Gen.BackGateIdeal.Frame
public import proofs.«01_k».proof.Proof.Gen.Second.Frame
public import proofs.«01_k».proof.Proof.Gen.SecondIdeal.Frame
public import proofs.«01_k».proof.Proof.Gen.MixOdd.Frame
public import proofs.«01_k».proof.Proof.Gen.MixOddIdeal.Frame
public import proofs.«01_k».proof.Proof.Gen.BackUp.Frame
public import proofs.«01_k».proof.Proof.Gen.BackUpIdeal.Frame
public import proofs.«01_k».proof.Proof.Gen.BackUpEven.Frame
public import proofs.«01_k».proof.Proof.Gen.BackUpEvenIdeal.Frame
public import proofs.«01_k».proof.Proof.Gen.BackUpOdd.Frame
public import proofs.«01_k».proof.Proof.Gen.BackUpOddIdeal.Frame
public import proofs.«01_k».proof.Proof.Gen.Modulate.Frame
public import proofs.«01_k».proof.Proof.Gen.ModulateIdeal.Frame
public import proofs.«01_k».proof.Proof.Gen.Residual.Frame
public import proofs.«01_k».proof.Proof.Gen.ResidualIdeal.Frame
public import proofs.«01_k».proof.Proof.Gen.Activation.Frame
public import proofs.«01_k».proof.Proof.Gen.ActivationIdeal.Frame
public import proofs.«01_k».proof.Proof.Gen.ActivationBack.Frame
public import proofs.«01_k».proof.Proof.Gen.ActivationBackIdeal.Frame
public import proofs.«01_k».proof.Proof.Gen.ResidualBack.Frame
public import proofs.«01_k».proof.Proof.Gen.ResidualBackIdeal.Frame
public import proofs.«01_k».proof.Proof.Gen.ReadEven.Frame
public import proofs.«01_k».proof.Proof.Gen.ReadEvenIdeal.Frame
public import proofs.«01_k».proof.Proof.Gen.ReadOdd.Frame
public import proofs.«01_k».proof.Proof.Gen.ReadOddIdeal.Frame
public import proofs.«01_k».proof.Proof.GatherLaunch
public import proofs.«01_k».proof.Proof.GatherValue
public import proofs.«01_k».proof.Proof.ChipsBits
public import proofs.«01_k».proof.Proof.ChipsValue
public import proofs.«01_k».proof.Proof.CoresBits
public import proofs.«01_k».proof.Proof.CoresValue
public import proofs.«01_k».proof.Proof.SmallBits
public import proofs.«01_k».proof.Proof.SmallValue
public import proofs.«01_k».proof.Proof.UpdateValue
public import proofs.«01_k».proof.Proof.LossBits
public import proofs.«01_k».proof.Proof.LossValue
public import proofs.«01_k».proof.Proof.AdaValue
public import proofs.«01_k».proof.Proof.NormValue
public import proofs.«01_k».proof.Proof.HiddenValue
public import proofs.«01_k».proof.Proof.DownValue
public import proofs.«01_k».proof.Proof.EvenInValue
public import proofs.«01_k».proof.Proof.EvenOutValue
public import proofs.«01_k».proof.Proof.OddInValue
public import proofs.«01_k».proof.Proof.OddGateValue
public import proofs.«01_k».proof.Proof.OddOutValue
public import proofs.«01_k».proof.Proof.PiecesLaunch
public import proofs.«01_k».proof.Proof.PiecesValue
public import proofs.«01_k».proof.Proof.ModsLaunch
public import proofs.«01_k».proof.Proof.ModsValue
public import proofs.«01_k».proof.Proof.SlopesLaunch
public import proofs.«01_k».proof.Proof.SlopesValue
public import proofs.«01_k».proof.Proof.UpValue
public import proofs.«01_k».proof.Proof.UpEvenValue
public import proofs.«01_k».proof.Proof.MixEvenValue
public import proofs.«01_k».proof.Proof.UpOddValue
public import proofs.«01_k».proof.Proof.GateOddValue
public import proofs.«01_k».proof.Proof.BackDownValue
public import proofs.«01_k».proof.Proof.BackEvenValue
public import proofs.«01_k».proof.Proof.BackOddValue
public import proofs.«01_k».proof.Proof.BackGateValue
public import proofs.«01_k».proof.Proof.SecondValue
public import proofs.«01_k».proof.Proof.MixOddValue
public import proofs.«01_k».proof.Proof.BackUpValue
public import proofs.«01_k».proof.Proof.BackUpEvenValue
public import proofs.«01_k».proof.Proof.BackUpOddValue
public import proofs.«01_k».proof.Proof.ModulateValue
public import proofs.«01_k».proof.Proof.ResidualValue
public import proofs.«01_k».proof.Proof.ActivationValue
public import proofs.«01_k».proof.Proof.ActivationBackValue
public import proofs.«01_k».proof.Proof.ResidualBackValue
public import proofs.«01_k».proof.Proof.ReadEvenValue
public import proofs.«01_k».proof.Proof.ReadOddValue
public import Idealize.ShloMosaic.Adequacy
public import Idealize.ShloMosaic.Init

@[expose] public section

noncomputable section

namespace Cert.Proof

open Idealize.ShloMosaic Idealize.SL.Sem Cert.Gather

/-- The gather of the blocks of an array is the array regrouped. -/
theorem gather_value {F : FTy → Type} (m : (ℓ : Loc Cert.GatherIdeal.nD Cert.GatherIdeal.τ Cert.GatherIdeal.sig) → Buf (Elt F) ℓ)
    (x : Cert.GatherRefIdeal.S118784x1024.Idx → Elt F .bf16)
    (h : ∀ c : Dev Cert.GatherIdeal.nD, m ((c.tc : Thread Cert.GatherIdeal.nD Cert.GatherIdeal.τ).loc Cert.GatherIdeal.main_arg0)
      = Layout.block ⟨2, ![14848, 1024]⟩ ⟨2, ![118784, 1024]⟩ 0 8 c x)
    (hc : Cert.GatherRefIdeal.S118784x1024.ShapeCasts Cert.GatherRefIdeal.S8x14848x1024) :
    Cert.GatherRun.out m = shapeCast Cert.GatherRefIdeal.S8x14848x1024 x hc :=
  funext fun i => Cert.GatherValue.gathered x
    (fun c => m ((Dev.tc (nD := Cert.GatherIdeal.nD) c : Thread Cert.GatherIdeal.nD Cert.GatherIdeal.τ).loc Cert.GatherIdeal.main_arg0)) h hc i

theorem frame_Gather : Cert.quiescent_Gather := fun m g _ =>
  (θ_run Cert.Gather.defs _ _).mono (fun _ h => ⟨fun c => (h.1 c).2, h.2⟩) (Cert.GatherRun.run_main (F := Bits) m g)

theorem frame_GatherIdeal : Cert.quiescent_GatherIdeal := fun m g _ =>
  (θ_run Cert.GatherIdeal.defs _ _).mono (fun _ h => ⟨fun c => (h.1 c).2, h.2⟩) (Cert.GatherRun.run_main (F := Ideal) m g)

theorem frame_GatherRefIdeal : Cert.quiescent_GatherRefIdeal := fun m g _ =>
  (θ_run Cert.GatherRefIdeal.defs _ _).mono (fun _ h => ⟨fun c => (h c).2, sem_eq_zero_of_no_sems rfl _⟩) (Cert.GatherRefIdeal.Value.run (F := Ideal) m g)

theorem frame_GatherRef : Cert.quiescent_GatherRef := fun m g _ =>
  (θ_run Cert.GatherRef.defs _ _).mono (fun _ h => ⟨fun c => (h c).2, sem_eq_zero_of_no_sems rfl _⟩) (Cert.GatherRef.Value.run (F := Bits) m g)

theorem algebraic_Gather : Cert.algebraic_GatherIdeal_GatherRefIdeal := fun m g m' g' _ h =>
  ⟨_, (θ_run Cert.GatherIdeal.defs _ _).mono (fun _ hr c => ⟨(hr.1 c).1.trans (gather_value m _ h _), (hr.1 c).2⟩)
      (Cert.GatherRun.run_main (F := Ideal) m g),
    (θ_run Cert.GatherRefIdeal.defs _ _).mono (fun _ hr => hr 0) (Cert.GatherRefIdeal.Value.run (F := Ideal) m' g')⟩

theorem bitexact_Gather : Cert.bitexact_Gather_GatherRef := fun m g m' g' _ h =>
  ⟨_, (θ_run Cert.Gather.defs _ _).mono (fun _ hr c => ⟨(hr.1 c).1.trans (gather_value m _ h _), (hr.1 c).2⟩)
      (Cert.GatherRun.run_main (F := Bits) m g),
    (θ_run Cert.GatherRef.defs _ _).mono (fun _ hr => hr 0) (Cert.GatherRef.Value.run (F := Bits) m' g')⟩

theorem frame_Chips : Cert.quiescent_Chips := fun m g _ =>
  (θ_run Cert.Chips.defs _ _).mono (fun _ h => ⟨fun c => (h.1 c).2, h.2⟩) (Cert.ChipsBits.run_main (F := Bits) m g)

theorem frame_ChipsIdeal : Cert.quiescent_ChipsIdeal := fun m g _ =>
  (θ_run Cert.ChipsIdeal.defs _ _).mono (fun _ h => ⟨fun c => (h.1 c).2, h.2⟩) (Cert.ChipsRun.run_main (F := Ideal) m g)

theorem frame_ChipsRefIdeal : Cert.quiescent_ChipsRefIdeal := fun m g _ =>
  (θ_run Cert.ChipsRefIdeal.defs _ _).mono (fun _ h => ⟨fun c => (h c).2, sem_eq_zero_of_no_sems rfl _⟩) (Cert.ChipsRefIdeal.Value.run (F := Ideal) m g)

theorem frame_ChipsRef : Cert.quiescent_ChipsRef := fun m g _ =>
  (θ_run Cert.ChipsRef.defs _ _).mono (fun _ h => ⟨fun c => (h c).2, sem_eq_zero_of_no_sems rfl _⟩) (Cert.ChipsRef.Value.run (F := Bits) m g)

theorem algebraic_Chips : Cert.algebraic_ChipsIdeal_ChipsRefIdeal := fun m g m' g' _ h =>
  ⟨_, (θ_run Cert.ChipsIdeal.defs _ _).mono (fun _ hr c => ⟨(hr.1 c).1.trans (Cert.ChipsValue.block m _ h c), (hr.1 c).2⟩)
      (Cert.ChipsRun.run_main (F := Ideal) m g),
    (θ_run Cert.ChipsRefIdeal.defs _ _).mono (fun _ hr => hr 0) (Cert.ChipsRefIdeal.Value.run (F := Ideal) m' g')⟩

theorem bitexact_Chips : Cert.bitexact_Chips_ChipsRef := fun m g m' g' _ h =>
  ⟨_, (θ_run Cert.Chips.defs _ _).mono (fun _ hr c => ⟨(hr.1 c).1.trans (Cert.ChipsValue.block m _ h c), (hr.1 c).2⟩)
      (Cert.ChipsBits.run_main (F := Bits) m g),
    (θ_run Cert.ChipsRef.defs _ _).mono (fun _ hr => hr 0) (Cert.ChipsRef.Value.run (F := Bits) m' g')⟩

theorem frame_Cores : Cert.quiescent_Cores := fun m g _ =>
  (θ_run Cert.Cores.defs _ _).mono (fun _ h => ⟨fun c => (h.1 c).2, h.2⟩) (Cert.CoresBits.run_main (F := Bits) m g)

theorem frame_CoresIdeal : Cert.quiescent_CoresIdeal := fun m g _ =>
  (θ_run Cert.CoresIdeal.defs _ _).mono (fun _ h => ⟨fun c => (h.1 c).2, h.2⟩) (Cert.CoresRun.run_main (F := Ideal) m g)

theorem frame_CoresRefIdeal : Cert.quiescent_CoresRefIdeal := fun m g _ =>
  (θ_run Cert.CoresRefIdeal.defs _ _).mono (fun _ h => ⟨fun c => (h c).2, sem_eq_zero_of_no_sems rfl _⟩) (Cert.CoresRefIdeal.Value.run (F := Ideal) m g)

theorem frame_CoresRef : Cert.quiescent_CoresRef := fun m g _ =>
  (θ_run Cert.CoresRef.defs _ _).mono (fun _ h => ⟨fun c => (h c).2, sem_eq_zero_of_no_sems rfl _⟩) (Cert.CoresRef.Value.run (F := Bits) m g)

theorem algebraic_Cores : Cert.algebraic_CoresIdeal_CoresRefIdeal := fun m g m' g' _ h =>
  ⟨_, (θ_run Cert.CoresIdeal.defs _ _).mono (fun _ hr c => ⟨(hr.1 c).1.trans (Cert.CoresValue.block m _ _ h c), (hr.1 c).2⟩)
      (Cert.CoresRun.run_main (F := Ideal) m g),
    (θ_run Cert.CoresRefIdeal.defs _ _).mono (fun _ hr => hr 0) (Cert.CoresRefIdeal.Value.run (F := Ideal) m' g')⟩

theorem bitexact_Cores : Cert.bitexact_Cores_CoresRef := fun m g m' g' _ h =>
  ⟨_, (θ_run Cert.Cores.defs _ _).mono (fun _ hr c => ⟨(hr.1 c).1.trans (Cert.CoresValue.block m _ _ h c), (hr.1 c).2⟩)
      (Cert.CoresBits.run_main (F := Bits) m g),
    (θ_run Cert.CoresRef.defs _ _).mono (fun _ hr => hr 0) (Cert.CoresRef.Value.run (F := Bits) m' g')⟩

theorem frame_Small : Cert.quiescent_Small := fun m g _ =>
  (θ_run Cert.Small.defs _ _).mono (fun _ h => ⟨fun c => (h.1 c).2, h.2⟩) (Cert.SmallBits.run_main (F := Bits) m g)

theorem frame_SmallIdeal : Cert.quiescent_SmallIdeal := fun m g _ =>
  (θ_run Cert.SmallIdeal.defs _ _).mono (fun _ h => ⟨fun c => (h.1 c).2, h.2⟩) (Cert.SmallRun.run_main (F := Ideal) m g)

theorem frame_SmallRefIdeal : Cert.quiescent_SmallRefIdeal := fun m g _ =>
  (θ_run Cert.SmallRefIdeal.defs _ _).mono (fun _ h => ⟨fun c => (h c).2, sem_eq_zero_of_no_sems rfl _⟩) (Cert.SmallRefIdeal.Value.run (F := Ideal) m g)

theorem frame_SmallRef : Cert.quiescent_SmallRef := fun m g _ =>
  (θ_run Cert.SmallRef.defs _ _).mono (fun _ h => ⟨fun c => (h c).2, sem_eq_zero_of_no_sems rfl _⟩) (Cert.SmallRef.Value.run (F := Bits) m g)

theorem algebraic_Small : Cert.algebraic_SmallIdeal_SmallRefIdeal := fun m g m' g' _ h =>
  ⟨_, (θ_run Cert.SmallIdeal.defs _ _).mono (fun _ hr c => ⟨(hr.1 c).1.trans (Cert.SmallValue.whole m _ h), (hr.1 c).2⟩)
      (Cert.SmallRun.run_main (F := Ideal) m g),
    (θ_run Cert.SmallRefIdeal.defs _ _).mono (fun _ hr => hr 0) (Cert.SmallRefIdeal.Value.run (F := Ideal) m' g')⟩

theorem bitexact_Small : Cert.bitexact_Small_SmallRef := fun m g m' g' _ h =>
  ⟨_, (θ_run Cert.Small.defs _ _).mono (fun _ hr c => ⟨(hr.1 c).1.trans (Cert.SmallValue.whole m _ h), (hr.1 c).2⟩)
      (Cert.SmallBits.run_main (F := Bits) m g),
    (θ_run Cert.SmallRef.defs _ _).mono (fun _ hr => hr 0) (Cert.SmallRef.Value.run (F := Bits) m' g')⟩

theorem frame_UpdateRefIdeal : Cert.quiescent_UpdateRefIdeal := fun m g _ =>
  (θ_run Cert.UpdateRefIdeal.defs _ _).mono (fun _ h => ⟨fun c => (h c).2.2.2, sem_eq_zero_of_no_sems rfl _⟩) (Cert.UpdateRefIdeal.Value.run (F := Ideal) m g)

theorem frame_Loss : Cert.quiescent_Loss := fun m g _ =>
  (θ_run Cert.Loss.defs _ _).mono (fun _ h => ⟨fun c => (h.1 c).2.2, h.2⟩) (Cert.LossBits.run_main (F := Bits) m g)

theorem frame_LossIdeal : Cert.quiescent_LossIdeal := fun m g _ =>
  (θ_run Cert.LossIdeal.defs _ _).mono (fun _ h => ⟨fun c => (h.1 c).2.2, h.2⟩) (Cert.LossRun.run_main (F := Ideal) m g)

theorem frame_LossRefIdeal : Cert.quiescent_LossRefIdeal := fun m g _ =>
  (θ_run Cert.LossRefIdeal.defs _ _).mono (fun _ h => ⟨fun c => (h c).2.2, sem_eq_zero_of_no_sems rfl _⟩) (Cert.LossRefIdeal.Value.run (F := Ideal) m g)

theorem frame_AdaRefIdeal : Cert.quiescent_AdaRefIdeal := fun m g _ =>
  (θ_run Cert.AdaRefIdeal.defs _ _).mono (fun _ h => ⟨fun c => (h c).2.2, sem_eq_zero_of_no_sems rfl _⟩) (Cert.AdaRefIdeal.Value.run (F := Ideal) m g)

theorem frame_NormRefIdeal : Cert.quiescent_NormRefIdeal := fun m g _ =>
  (θ_run Cert.NormRefIdeal.defs _ _).mono (fun _ h => ⟨fun c => (h c).2, sem_eq_zero_of_no_sems rfl _⟩) (Cert.NormRefIdeal.Value.run (F := Ideal) m g)

theorem frame_HiddenRefIdeal : Cert.quiescent_HiddenRefIdeal := fun m g _ =>
  (θ_run Cert.HiddenRefIdeal.defs _ _).mono (fun _ h => ⟨fun c => (h c).2, sem_eq_zero_of_no_sems rfl _⟩) (Cert.HiddenRefIdeal.Value.run (F := Ideal) m g)

theorem frame_DownRefIdeal : Cert.quiescent_DownRefIdeal := fun m g _ =>
  (θ_run Cert.DownRefIdeal.defs _ _).mono (fun _ h => ⟨fun c => (h c).2, sem_eq_zero_of_no_sems rfl _⟩) (Cert.DownRefIdeal.Value.run (F := Ideal) m g)

theorem frame_EvenInRefIdeal : Cert.quiescent_EvenInRefIdeal := fun m g _ =>
  (θ_run Cert.EvenInRefIdeal.defs _ _).mono (fun _ h => ⟨fun c => (h c).2, sem_eq_zero_of_no_sems rfl _⟩) (Cert.EvenInRefIdeal.Value.run (F := Ideal) m g)

theorem frame_EvenOutRefIdeal : Cert.quiescent_EvenOutRefIdeal := fun m g _ =>
  (θ_run Cert.EvenOutRefIdeal.defs _ _).mono (fun _ h => ⟨fun c => (h c).2, sem_eq_zero_of_no_sems rfl _⟩) (Cert.EvenOutRefIdeal.Value.run (F := Ideal) m g)

theorem frame_OddInRefIdeal : Cert.quiescent_OddInRefIdeal := fun m g _ =>
  (θ_run Cert.OddInRefIdeal.defs _ _).mono (fun _ h => ⟨fun c => (h c).2, sem_eq_zero_of_no_sems rfl _⟩) (Cert.OddInRefIdeal.Value.run (F := Ideal) m g)

theorem frame_OddGateRefIdeal : Cert.quiescent_OddGateRefIdeal := fun m g _ =>
  (θ_run Cert.OddGateRefIdeal.defs _ _).mono (fun _ h => ⟨fun c => (h c).2, sem_eq_zero_of_no_sems rfl _⟩) (Cert.OddGateRefIdeal.Value.run (F := Ideal) m g)

theorem frame_OddOutRefIdeal : Cert.quiescent_OddOutRefIdeal := fun m g _ =>
  (θ_run Cert.OddOutRefIdeal.defs _ _).mono (fun _ h => ⟨fun c => (h c).2, sem_eq_zero_of_no_sems rfl _⟩) (Cert.OddOutRefIdeal.Value.run (F := Ideal) m g)

/-- The gather of the blocks of an array is the array regrouped. -/
theorem pieces_value {F : FTy → Type} (m : (ℓ : Loc Cert.PiecesIdeal.nD Cert.PiecesIdeal.τ Cert.PiecesIdeal.sig) → Buf (Elt F) ℓ)
    (x : Cert.PiecesRefIdeal.S2624x128.Idx → Elt F .f32)
    (h : ∀ c : Dev Cert.PiecesIdeal.nD, m ((c.tc : Thread Cert.PiecesIdeal.nD Cert.PiecesIdeal.τ).loc Cert.PiecesIdeal.main_arg0)
      = Layout.block ⟨2, ![328, 128]⟩ ⟨2, ![2624, 128]⟩ 0 8 c x)
    (hc : Cert.PiecesRefIdeal.S2624x128.ShapeCasts Cert.PiecesRefIdeal.S8x328x128) :
    Cert.PiecesRun.out m = shapeCast Cert.PiecesRefIdeal.S8x328x128 x hc :=
  funext fun i => Cert.PiecesValue.gathered x
    (fun c => m ((Dev.tc (nD := Cert.PiecesIdeal.nD) c : Thread Cert.PiecesIdeal.nD Cert.PiecesIdeal.τ).loc Cert.PiecesIdeal.main_arg0)) h hc i

theorem frame_Pieces : Cert.quiescent_Pieces := fun m g _ =>
  (θ_run Cert.Pieces.defs _ _).mono (fun _ h => ⟨fun c => (h.1 c).2, h.2⟩) (Cert.PiecesRun.run_main (F := Bits) m g)

theorem frame_PiecesIdeal : Cert.quiescent_PiecesIdeal := fun m g _ =>
  (θ_run Cert.PiecesIdeal.defs _ _).mono (fun _ h => ⟨fun c => (h.1 c).2, h.2⟩) (Cert.PiecesRun.run_main (F := Ideal) m g)

theorem frame_PiecesRefIdeal : Cert.quiescent_PiecesRefIdeal := fun m g _ =>
  (θ_run Cert.PiecesRefIdeal.defs _ _).mono (fun _ h => ⟨fun c => (h c).2, sem_eq_zero_of_no_sems rfl _⟩) (Cert.PiecesRefIdeal.Value.run (F := Ideal) m g)

theorem frame_PiecesRef : Cert.quiescent_PiecesRef := fun m g _ =>
  (θ_run Cert.PiecesRef.defs _ _).mono (fun _ h => ⟨fun c => (h c).2, sem_eq_zero_of_no_sems rfl _⟩) (Cert.PiecesRef.Value.run (F := Bits) m g)

theorem algebraic_Pieces : Cert.algebraic_PiecesIdeal_PiecesRefIdeal := fun m g m' g' _ h =>
  ⟨_, (θ_run Cert.PiecesIdeal.defs _ _).mono (fun _ hr c => ⟨(hr.1 c).1.trans (pieces_value m _ h _), (hr.1 c).2⟩)
      (Cert.PiecesRun.run_main (F := Ideal) m g),
    (θ_run Cert.PiecesRefIdeal.defs _ _).mono (fun _ hr => hr 0) (Cert.PiecesRefIdeal.Value.run (F := Ideal) m' g')⟩

theorem bitexact_Pieces : Cert.bitexact_Pieces_PiecesRef := fun m g m' g' _ h =>
  ⟨_, (θ_run Cert.Pieces.defs _ _).mono (fun _ hr c => ⟨(hr.1 c).1.trans (pieces_value m _ h _), (hr.1 c).2⟩)
      (Cert.PiecesRun.run_main (F := Bits) m g),
    (θ_run Cert.PiecesRef.defs _ _).mono (fun _ hr => hr 0) (Cert.PiecesRef.Value.run (F := Bits) m' g')⟩

/-- The gather of the blocks of an array is the array regrouped. -/
theorem mods_value {F : FTy → Type} (m : (ℓ : Loc Cert.ModsIdeal.nD Cert.ModsIdeal.τ Cert.ModsIdeal.sig) → Buf (Elt F) ℓ)
    (x : Cert.ModsRefIdeal.S256x1536.Idx → Elt F .f32)
    (h : ∀ c : Dev Cert.ModsIdeal.nD, m ((c.tc : Thread Cert.ModsIdeal.nD Cert.ModsIdeal.τ).loc Cert.ModsIdeal.main_arg0)
      = Layout.block ⟨2, ![32, 1536]⟩ ⟨2, ![256, 1536]⟩ 0 8 c x)
    (hc : Cert.ModsRefIdeal.S256x1536.ShapeCasts Cert.ModsRefIdeal.S8x32x1536) :
    Cert.ModsRun.out m = shapeCast Cert.ModsRefIdeal.S8x32x1536 x hc :=
  funext fun i => Cert.ModsValue.gathered x
    (fun c => m ((Dev.tc (nD := Cert.ModsIdeal.nD) c : Thread Cert.ModsIdeal.nD Cert.ModsIdeal.τ).loc Cert.ModsIdeal.main_arg0)) h hc i

theorem frame_Mods : Cert.quiescent_Mods := fun m g _ =>
  (θ_run Cert.Mods.defs _ _).mono (fun _ h => ⟨fun c => (h.1 c).2, h.2⟩) (Cert.ModsRun.run_main (F := Bits) m g)

theorem frame_ModsIdeal : Cert.quiescent_ModsIdeal := fun m g _ =>
  (θ_run Cert.ModsIdeal.defs _ _).mono (fun _ h => ⟨fun c => (h.1 c).2, h.2⟩) (Cert.ModsRun.run_main (F := Ideal) m g)

theorem frame_ModsRefIdeal : Cert.quiescent_ModsRefIdeal := fun m g _ =>
  (θ_run Cert.ModsRefIdeal.defs _ _).mono (fun _ h => ⟨fun c => (h c).2, sem_eq_zero_of_no_sems rfl _⟩) (Cert.ModsRefIdeal.Value.run (F := Ideal) m g)

theorem frame_ModsRef : Cert.quiescent_ModsRef := fun m g _ =>
  (θ_run Cert.ModsRef.defs _ _).mono (fun _ h => ⟨fun c => (h c).2, sem_eq_zero_of_no_sems rfl _⟩) (Cert.ModsRef.Value.run (F := Bits) m g)

theorem algebraic_Mods : Cert.algebraic_ModsIdeal_ModsRefIdeal := fun m g m' g' _ h =>
  ⟨_, (θ_run Cert.ModsIdeal.defs _ _).mono (fun _ hr c => ⟨(hr.1 c).1.trans (mods_value m _ h _), (hr.1 c).2⟩)
      (Cert.ModsRun.run_main (F := Ideal) m g),
    (θ_run Cert.ModsRefIdeal.defs _ _).mono (fun _ hr => hr 0) (Cert.ModsRefIdeal.Value.run (F := Ideal) m' g')⟩

theorem bitexact_Mods : Cert.bitexact_Mods_ModsRef := fun m g m' g' _ h =>
  ⟨_, (θ_run Cert.Mods.defs _ _).mono (fun _ hr c => ⟨(hr.1 c).1.trans (mods_value m _ h _), (hr.1 c).2⟩)
      (Cert.ModsRun.run_main (F := Bits) m g),
    (θ_run Cert.ModsRef.defs _ _).mono (fun _ hr => hr 0) (Cert.ModsRef.Value.run (F := Bits) m' g')⟩

/-- The gather of the blocks of an array is the array regrouped. -/
theorem slopes_value {F : FTy → Type} (m : (ℓ : Loc Cert.SlopesIdeal.nD Cert.SlopesIdeal.τ Cert.SlopesIdeal.sig) → Buf (Elt F) ℓ)
    (x : Cert.SlopesRefIdeal.S192x2048.Idx → Elt F .f32)
    (h : ∀ c : Dev Cert.SlopesIdeal.nD, m ((c.tc : Thread Cert.SlopesIdeal.nD Cert.SlopesIdeal.τ).loc Cert.SlopesIdeal.main_arg0)
      = Layout.block ⟨2, ![24, 2048]⟩ ⟨2, ![192, 2048]⟩ 0 8 c x)
    (hc : Cert.SlopesRefIdeal.S192x2048.ShapeCasts Cert.SlopesRefIdeal.S8x24x2048) :
    Cert.SlopesRun.out m = shapeCast Cert.SlopesRefIdeal.S8x24x2048 x hc :=
  funext fun i => Cert.SlopesValue.gathered x
    (fun c => m ((Dev.tc (nD := Cert.SlopesIdeal.nD) c : Thread Cert.SlopesIdeal.nD Cert.SlopesIdeal.τ).loc Cert.SlopesIdeal.main_arg0)) h hc i

theorem frame_Slopes : Cert.quiescent_Slopes := fun m g _ =>
  (θ_run Cert.Slopes.defs _ _).mono (fun _ h => ⟨fun c => (h.1 c).2, h.2⟩) (Cert.SlopesRun.run_main (F := Bits) m g)

theorem frame_SlopesIdeal : Cert.quiescent_SlopesIdeal := fun m g _ =>
  (θ_run Cert.SlopesIdeal.defs _ _).mono (fun _ h => ⟨fun c => (h.1 c).2, h.2⟩) (Cert.SlopesRun.run_main (F := Ideal) m g)

theorem frame_SlopesRefIdeal : Cert.quiescent_SlopesRefIdeal := fun m g _ =>
  (θ_run Cert.SlopesRefIdeal.defs _ _).mono (fun _ h => ⟨fun c => (h c).2, sem_eq_zero_of_no_sems rfl _⟩) (Cert.SlopesRefIdeal.Value.run (F := Ideal) m g)

theorem frame_SlopesRef : Cert.quiescent_SlopesRef := fun m g _ =>
  (θ_run Cert.SlopesRef.defs _ _).mono (fun _ h => ⟨fun c => (h c).2, sem_eq_zero_of_no_sems rfl _⟩) (Cert.SlopesRef.Value.run (F := Bits) m g)

theorem algebraic_Slopes : Cert.algebraic_SlopesIdeal_SlopesRefIdeal := fun m g m' g' _ h =>
  ⟨_, (θ_run Cert.SlopesIdeal.defs _ _).mono (fun _ hr c => ⟨(hr.1 c).1.trans (slopes_value m _ h _), (hr.1 c).2⟩)
      (Cert.SlopesRun.run_main (F := Ideal) m g),
    (θ_run Cert.SlopesRefIdeal.defs _ _).mono (fun _ hr => hr 0) (Cert.SlopesRefIdeal.Value.run (F := Ideal) m' g')⟩

theorem bitexact_Slopes : Cert.bitexact_Slopes_SlopesRef := fun m g m' g' _ h =>
  ⟨_, (θ_run Cert.Slopes.defs _ _).mono (fun _ hr c => ⟨(hr.1 c).1.trans (slopes_value m _ h _), (hr.1 c).2⟩)
      (Cert.SlopesRun.run_main (F := Bits) m g),
    (θ_run Cert.SlopesRef.defs _ _).mono (fun _ hr => hr 0) (Cert.SlopesRef.Value.run (F := Bits) m' g')⟩

theorem frame_UpRefIdeal : Cert.quiescent_UpRefIdeal := fun m g _ =>
  (θ_run Cert.UpRefIdeal.defs _ _).mono (fun _ h => ⟨fun c => (h c).2, sem_eq_zero_of_no_sems rfl _⟩) (Cert.UpRefIdeal.Value.run (F := Ideal) m g)

theorem frame_UpEvenRefIdeal : Cert.quiescent_UpEvenRefIdeal := fun m g _ =>
  (θ_run Cert.UpEvenRefIdeal.defs _ _).mono (fun _ h => ⟨fun c => (h c).2, sem_eq_zero_of_no_sems rfl _⟩) (Cert.UpEvenRefIdeal.Value.run (F := Ideal) m g)

theorem frame_MixEvenRefIdeal : Cert.quiescent_MixEvenRefIdeal := fun m g _ =>
  (θ_run Cert.MixEvenRefIdeal.defs _ _).mono (fun _ h => ⟨fun c => (h c).2, sem_eq_zero_of_no_sems rfl _⟩) (Cert.MixEvenRefIdeal.Value.run (F := Ideal) m g)

theorem frame_UpOddRefIdeal : Cert.quiescent_UpOddRefIdeal := fun m g _ =>
  (θ_run Cert.UpOddRefIdeal.defs _ _).mono (fun _ h => ⟨fun c => (h c).2, sem_eq_zero_of_no_sems rfl _⟩) (Cert.UpOddRefIdeal.Value.run (F := Ideal) m g)

theorem frame_GateOddRefIdeal : Cert.quiescent_GateOddRefIdeal := fun m g _ =>
  (θ_run Cert.GateOddRefIdeal.defs _ _).mono (fun _ h => ⟨fun c => (h c).2, sem_eq_zero_of_no_sems rfl _⟩) (Cert.GateOddRefIdeal.Value.run (F := Ideal) m g)

theorem frame_BackDownRefIdeal : Cert.quiescent_BackDownRefIdeal := fun m g _ =>
  (θ_run Cert.BackDownRefIdeal.defs _ _).mono (fun _ h => ⟨fun c => (h c).2, sem_eq_zero_of_no_sems rfl _⟩) (Cert.BackDownRefIdeal.Value.run (F := Ideal) m g)

theorem frame_BackEvenRefIdeal : Cert.quiescent_BackEvenRefIdeal := fun m g _ =>
  (θ_run Cert.BackEvenRefIdeal.defs _ _).mono (fun _ h => ⟨fun c => (h c).2, sem_eq_zero_of_no_sems rfl _⟩) (Cert.BackEvenRefIdeal.Value.run (F := Ideal) m g)

theorem frame_BackOddRefIdeal : Cert.quiescent_BackOddRefIdeal := fun m g _ =>
  (θ_run Cert.BackOddRefIdeal.defs _ _).mono (fun _ h => ⟨fun c => (h c).2, sem_eq_zero_of_no_sems rfl _⟩) (Cert.BackOddRefIdeal.Value.run (F := Ideal) m g)

theorem frame_BackGateRefIdeal : Cert.quiescent_BackGateRefIdeal := fun m g _ =>
  (θ_run Cert.BackGateRefIdeal.defs _ _).mono (fun _ h => ⟨fun c => (h c).2, sem_eq_zero_of_no_sems rfl _⟩) (Cert.BackGateRefIdeal.Value.run (F := Ideal) m g)

theorem frame_SecondRefIdeal : Cert.quiescent_SecondRefIdeal := fun m g _ =>
  (θ_run Cert.SecondRefIdeal.defs _ _).mono (fun _ h => ⟨fun c => (h c).2, sem_eq_zero_of_no_sems rfl _⟩) (Cert.SecondRefIdeal.Value.run (F := Ideal) m g)

theorem frame_MixOddRefIdeal : Cert.quiescent_MixOddRefIdeal := fun m g _ =>
  (θ_run Cert.MixOddRefIdeal.defs _ _).mono (fun _ h => ⟨fun c => (h c).2, sem_eq_zero_of_no_sems rfl _⟩) (Cert.MixOddRefIdeal.Value.run (F := Ideal) m g)

theorem frame_BackUpRefIdeal : Cert.quiescent_BackUpRefIdeal := fun m g _ =>
  (θ_run Cert.BackUpRefIdeal.defs _ _).mono (fun _ h => ⟨fun c => (h c).2, sem_eq_zero_of_no_sems rfl _⟩) (Cert.BackUpRefIdeal.Value.run (F := Ideal) m g)

theorem frame_BackUpEvenRefIdeal : Cert.quiescent_BackUpEvenRefIdeal := fun m g _ =>
  (θ_run Cert.BackUpEvenRefIdeal.defs _ _).mono (fun _ h => ⟨fun c => (h c).2, sem_eq_zero_of_no_sems rfl _⟩) (Cert.BackUpEvenRefIdeal.Value.run (F := Ideal) m g)

theorem frame_BackUpOddRefIdeal : Cert.quiescent_BackUpOddRefIdeal := fun m g _ =>
  (θ_run Cert.BackUpOddRefIdeal.defs _ _).mono (fun _ h => ⟨fun c => (h c).2, sem_eq_zero_of_no_sems rfl _⟩) (Cert.BackUpOddRefIdeal.Value.run (F := Ideal) m g)

theorem frame_ModulateRefIdeal : Cert.quiescent_ModulateRefIdeal := fun m g _ =>
  (θ_run Cert.ModulateRefIdeal.defs _ _).mono (fun _ h => ⟨fun c => (h c).2, sem_eq_zero_of_no_sems rfl _⟩) (Cert.ModulateRefIdeal.Value.run (F := Ideal) m g)

theorem frame_ResidualRefIdeal : Cert.quiescent_ResidualRefIdeal := fun m g _ =>
  (θ_run Cert.ResidualRefIdeal.defs _ _).mono (fun _ h => ⟨fun c => (h c).2, sem_eq_zero_of_no_sems rfl _⟩) (Cert.ResidualRefIdeal.Value.run (F := Ideal) m g)

theorem frame_ActivationRefIdeal : Cert.quiescent_ActivationRefIdeal := fun m g _ =>
  (θ_run Cert.ActivationRefIdeal.defs _ _).mono (fun _ h => ⟨fun c => (h c).2, sem_eq_zero_of_no_sems rfl _⟩) (Cert.ActivationRefIdeal.Value.run (F := Ideal) m g)

theorem frame_ActivationBackRefIdeal : Cert.quiescent_ActivationBackRefIdeal := fun m g _ =>
  (θ_run Cert.ActivationBackRefIdeal.defs _ _).mono (fun _ h => ⟨fun c => (h c).2, sem_eq_zero_of_no_sems rfl _⟩) (Cert.ActivationBackRefIdeal.Value.run (F := Ideal) m g)

theorem frame_ResidualBackRefIdeal : Cert.quiescent_ResidualBackRefIdeal := fun m g _ =>
  (θ_run Cert.ResidualBackRefIdeal.defs _ _).mono (fun _ h => ⟨fun c => (h c).2, sem_eq_zero_of_no_sems rfl _⟩) (Cert.ResidualBackRefIdeal.Value.run (F := Ideal) m g)

theorem frame_ReadEvenRefIdeal : Cert.quiescent_ReadEvenRefIdeal := fun m g _ =>
  (θ_run Cert.ReadEvenRefIdeal.defs _ _).mono (fun _ h => ⟨fun c => (h c).2, sem_eq_zero_of_no_sems rfl _⟩) (Cert.ReadEvenRefIdeal.Value.run (F := Ideal) m g)

theorem frame_ReadOddRefIdeal : Cert.quiescent_ReadOddRefIdeal := fun m g _ =>
  (θ_run Cert.ReadOddRefIdeal.defs _ _).mono (fun _ h => ⟨fun c => (h c).2, sem_eq_zero_of_no_sems rfl _⟩) (Cert.ReadOddRefIdeal.Value.run (F := Ideal) m g)

theorem claim : Cert.Claim := ⟨Cert.Gather.Gen.facts, Cert.GatherIdeal.Gen.facts, Cert.GatherRefIdeal.Gen.facts, Cert.GatherRef.Gen.facts,
  Cert.Chips.Gen.facts, Cert.ChipsIdeal.Gen.facts, Cert.ChipsRefIdeal.Gen.facts, Cert.ChipsRef.Gen.facts,
  Cert.Cores.Gen.facts, Cert.CoresIdeal.Gen.facts, Cert.CoresRefIdeal.Gen.facts, Cert.CoresRef.Gen.facts,
  Cert.Small.Gen.facts, Cert.SmallIdeal.Gen.facts, Cert.SmallRefIdeal.Gen.facts, Cert.SmallRef.Gen.facts,
  Cert.Update.Gen.facts, Cert.UpdateIdeal.Gen.facts, Cert.UpdateRefIdeal.Gen.facts,
  Cert.Loss.Gen.facts, Cert.LossIdeal.Gen.facts, Cert.LossRefIdeal.Gen.facts,
  Cert.Ada.Gen.facts, Cert.AdaIdeal.Gen.facts, Cert.AdaRefIdeal.Gen.facts,
  Cert.Norm.Gen.facts, Cert.NormIdeal.Gen.facts, Cert.NormRefIdeal.Gen.facts,
  Cert.Hidden.Gen.facts, Cert.HiddenIdeal.Gen.facts, Cert.HiddenRefIdeal.Gen.facts,
  Cert.Down.Gen.facts, Cert.DownIdeal.Gen.facts, Cert.DownRefIdeal.Gen.facts,
  Cert.EvenIn.Gen.facts, Cert.EvenInIdeal.Gen.facts, Cert.EvenInRefIdeal.Gen.facts,
  Cert.EvenOut.Gen.facts, Cert.EvenOutIdeal.Gen.facts, Cert.EvenOutRefIdeal.Gen.facts,
  Cert.OddIn.Gen.facts, Cert.OddInIdeal.Gen.facts, Cert.OddInRefIdeal.Gen.facts,
  Cert.OddGate.Gen.facts, Cert.OddGateIdeal.Gen.facts, Cert.OddGateRefIdeal.Gen.facts,
  Cert.OddOut.Gen.facts, Cert.OddOutIdeal.Gen.facts, Cert.OddOutRefIdeal.Gen.facts,
  Cert.Pieces.Gen.facts, Cert.PiecesIdeal.Gen.facts, Cert.PiecesRefIdeal.Gen.facts, Cert.PiecesRef.Gen.facts,
  Cert.Mods.Gen.facts, Cert.ModsIdeal.Gen.facts, Cert.ModsRefIdeal.Gen.facts, Cert.ModsRef.Gen.facts,
  Cert.Slopes.Gen.facts, Cert.SlopesIdeal.Gen.facts, Cert.SlopesRefIdeal.Gen.facts, Cert.SlopesRef.Gen.facts,
  Cert.Up.Gen.facts, Cert.UpIdeal.Gen.facts, Cert.UpRefIdeal.Gen.facts,
  Cert.UpEven.Gen.facts, Cert.UpEvenIdeal.Gen.facts, Cert.UpEvenRefIdeal.Gen.facts,
  Cert.MixEven.Gen.facts, Cert.MixEvenIdeal.Gen.facts, Cert.MixEvenRefIdeal.Gen.facts,
  Cert.UpOdd.Gen.facts, Cert.UpOddIdeal.Gen.facts, Cert.UpOddRefIdeal.Gen.facts,
  Cert.GateOdd.Gen.facts, Cert.GateOddIdeal.Gen.facts, Cert.GateOddRefIdeal.Gen.facts,
  Cert.BackDown.Gen.facts, Cert.BackDownIdeal.Gen.facts, Cert.BackDownRefIdeal.Gen.facts,
  Cert.BackEven.Gen.facts, Cert.BackEvenIdeal.Gen.facts, Cert.BackEvenRefIdeal.Gen.facts,
  Cert.BackOdd.Gen.facts, Cert.BackOddIdeal.Gen.facts, Cert.BackOddRefIdeal.Gen.facts,
  Cert.BackGate.Gen.facts, Cert.BackGateIdeal.Gen.facts, Cert.BackGateRefIdeal.Gen.facts,
  Cert.Second.Gen.facts, Cert.SecondIdeal.Gen.facts, Cert.SecondRefIdeal.Gen.facts,
  Cert.MixOdd.Gen.facts, Cert.MixOddIdeal.Gen.facts, Cert.MixOddRefIdeal.Gen.facts,
  Cert.BackUp.Gen.facts, Cert.BackUpIdeal.Gen.facts, Cert.BackUpRefIdeal.Gen.facts,
  Cert.BackUpEven.Gen.facts, Cert.BackUpEvenIdeal.Gen.facts, Cert.BackUpEvenRefIdeal.Gen.facts,
  Cert.BackUpOdd.Gen.facts, Cert.BackUpOddIdeal.Gen.facts, Cert.BackUpOddRefIdeal.Gen.facts,
  Cert.Modulate.Gen.facts, Cert.ModulateIdeal.Gen.facts, Cert.ModulateRefIdeal.Gen.facts,
  Cert.Residual.Gen.facts, Cert.ResidualIdeal.Gen.facts, Cert.ResidualRefIdeal.Gen.facts,
  Cert.Activation.Gen.facts, Cert.ActivationIdeal.Gen.facts, Cert.ActivationRefIdeal.Gen.facts,
  Cert.ActivationBack.Gen.facts, Cert.ActivationBackIdeal.Gen.facts, Cert.ActivationBackRefIdeal.Gen.facts,
  Cert.ResidualBack.Gen.facts, Cert.ResidualBackIdeal.Gen.facts, Cert.ResidualBackRefIdeal.Gen.facts,
  Cert.ReadEven.Gen.facts, Cert.ReadEvenIdeal.Gen.facts, Cert.ReadEvenRefIdeal.Gen.facts,
  Cert.ReadOdd.Gen.facts, Cert.ReadOddIdeal.Gen.facts, Cert.ReadOddRefIdeal.Gen.facts,
  frame_Gather, frame_GatherIdeal, frame_GatherRefIdeal, frame_GatherRef,
  frame_Chips, frame_ChipsIdeal, frame_ChipsRefIdeal, frame_ChipsRef,
  frame_Cores, frame_CoresIdeal, frame_CoresRefIdeal, frame_CoresRef,
  frame_Small, frame_SmallIdeal, frame_SmallRefIdeal, frame_SmallRef,
  fun m g _ => Cert.Update.Gen.frame m g, fun m g _ => Cert.UpdateIdeal.Gen.frame m g, frame_UpdateRefIdeal,
  frame_Loss, frame_LossIdeal, frame_LossRefIdeal,
  fun m g _ => Cert.Ada.Gen.frame m g, fun m g _ => Cert.AdaIdeal.Gen.frame m g, frame_AdaRefIdeal,
  fun m g _ => Cert.Norm.Gen.frame m g, fun m g _ => Cert.NormIdeal.Gen.frame m g, frame_NormRefIdeal,
  fun m g _ => Cert.Hidden.Gen.frame m g, fun m g _ => Cert.HiddenIdeal.Gen.frame m g, frame_HiddenRefIdeal,
  fun m g _ => Cert.Down.Gen.frame m g, fun m g _ => Cert.DownIdeal.Gen.frame m g, frame_DownRefIdeal,
  fun m g _ => Cert.EvenIn.Gen.frame m g, fun m g _ => Cert.EvenInIdeal.Gen.frame m g, frame_EvenInRefIdeal,
  fun m g _ => Cert.EvenOut.Gen.frame m g, fun m g _ => Cert.EvenOutIdeal.Gen.frame m g, frame_EvenOutRefIdeal,
  fun m g _ => Cert.OddIn.Gen.frame m g, fun m g _ => Cert.OddInIdeal.Gen.frame m g, frame_OddInRefIdeal,
  fun m g _ => Cert.OddGate.Gen.frame m g, fun m g _ => Cert.OddGateIdeal.Gen.frame m g, frame_OddGateRefIdeal,
  fun m g _ => Cert.OddOut.Gen.frame m g, fun m g _ => Cert.OddOutIdeal.Gen.frame m g, frame_OddOutRefIdeal,
  frame_Pieces, frame_PiecesIdeal, frame_PiecesRefIdeal, frame_PiecesRef,
  frame_Mods, frame_ModsIdeal, frame_ModsRefIdeal, frame_ModsRef,
  frame_Slopes, frame_SlopesIdeal, frame_SlopesRefIdeal, frame_SlopesRef,
  fun m g _ => Cert.Up.Gen.frame m g, fun m g _ => Cert.UpIdeal.Gen.frame m g, frame_UpRefIdeal,
  fun m g _ => Cert.UpEven.Gen.frame m g, fun m g _ => Cert.UpEvenIdeal.Gen.frame m g, frame_UpEvenRefIdeal,
  fun m g _ => Cert.MixEven.Gen.frame m g, fun m g _ => Cert.MixEvenIdeal.Gen.frame m g, frame_MixEvenRefIdeal,
  fun m g _ => Cert.UpOdd.Gen.frame m g, fun m g _ => Cert.UpOddIdeal.Gen.frame m g, frame_UpOddRefIdeal,
  fun m g _ => Cert.GateOdd.Gen.frame m g, fun m g _ => Cert.GateOddIdeal.Gen.frame m g, frame_GateOddRefIdeal,
  fun m g _ => Cert.BackDown.Gen.frame m g, fun m g _ => Cert.BackDownIdeal.Gen.frame m g, frame_BackDownRefIdeal,
  fun m g _ => Cert.BackEven.Gen.frame m g, fun m g _ => Cert.BackEvenIdeal.Gen.frame m g, frame_BackEvenRefIdeal,
  fun m g _ => Cert.BackOdd.Gen.frame m g, fun m g _ => Cert.BackOddIdeal.Gen.frame m g, frame_BackOddRefIdeal,
  fun m g _ => Cert.BackGate.Gen.frame m g, fun m g _ => Cert.BackGateIdeal.Gen.frame m g, frame_BackGateRefIdeal,
  fun m g _ => Cert.Second.Gen.frame m g, fun m g _ => Cert.SecondIdeal.Gen.frame m g, frame_SecondRefIdeal,
  fun m g _ => Cert.MixOdd.Gen.frame m g, fun m g _ => Cert.MixOddIdeal.Gen.frame m g, frame_MixOddRefIdeal,
  fun m g _ => Cert.BackUp.Gen.frame m g, fun m g _ => Cert.BackUpIdeal.Gen.frame m g, frame_BackUpRefIdeal,
  fun m g _ => Cert.BackUpEven.Gen.frame m g, fun m g _ => Cert.BackUpEvenIdeal.Gen.frame m g, frame_BackUpEvenRefIdeal,
  fun m g _ => Cert.BackUpOdd.Gen.frame m g, fun m g _ => Cert.BackUpOddIdeal.Gen.frame m g, frame_BackUpOddRefIdeal,
  fun m g _ => Cert.Modulate.Gen.frame m g, fun m g _ => Cert.ModulateIdeal.Gen.frame m g, frame_ModulateRefIdeal,
  fun m g _ => Cert.Residual.Gen.frame m g, fun m g _ => Cert.ResidualIdeal.Gen.frame m g, frame_ResidualRefIdeal,
  fun m g _ => Cert.Activation.Gen.frame m g, fun m g _ => Cert.ActivationIdeal.Gen.frame m g, frame_ActivationRefIdeal,
  fun m g _ => Cert.ActivationBack.Gen.frame m g, fun m g _ => Cert.ActivationBackIdeal.Gen.frame m g, frame_ActivationBackRefIdeal,
  fun m g _ => Cert.ResidualBack.Gen.frame m g, fun m g _ => Cert.ResidualBackIdeal.Gen.frame m g, frame_ResidualBackRefIdeal,
  fun m g _ => Cert.ReadEven.Gen.frame m g, fun m g _ => Cert.ReadEvenIdeal.Gen.frame m g, frame_ReadEvenRefIdeal,
  fun m g _ => Cert.ReadOdd.Gen.frame m g, fun m g _ => Cert.ReadOddIdeal.Gen.frame m g, frame_ReadOddRefIdeal,
  trivial, algebraic_Gather, bitexact_Gather, trivial, algebraic_Chips, bitexact_Chips,
  trivial, algebraic_Cores, bitexact_Cores, trivial, algebraic_Small, bitexact_Small, trivial, Cert.UpdateValue.algebraic,
  trivial, Cert.LossValue.algebraic,
  trivial, Cert.AdaValue.algebraic, trivial, Cert.NormValue.algebraic,
  trivial, Cert.HiddenValue.algebraic,
  trivial, Cert.DownValue.algebraic,
  trivial, Cert.EvenInValue.algebraic,
  trivial, Cert.EvenOutValue.algebraic,
  trivial, Cert.OddInValue.algebraic,
  trivial, Cert.OddGateValue.algebraic,
  trivial, Cert.OddOutValue.algebraic,
  trivial, algebraic_Pieces, bitexact_Pieces,
  trivial, algebraic_Mods, bitexact_Mods,
  trivial, algebraic_Slopes, bitexact_Slopes,
  trivial, Cert.UpValue.algebraic,
  trivial, Cert.UpEvenValue.algebraic,
  trivial, Cert.MixEvenValue.algebraic,
  trivial, Cert.UpOddValue.algebraic,
  trivial, Cert.GateOddValue.algebraic,
  trivial, Cert.BackDownValue.algebraic,
  trivial, Cert.BackEvenValue.algebraic,
  trivial, Cert.BackOddValue.algebraic,
  trivial, Cert.BackGateValue.algebraic,
  trivial, Cert.SecondValue.algebraic,
  trivial, Cert.MixOddValue.algebraic,
  trivial, Cert.BackUpValue.algebraic,
  trivial, Cert.BackUpEvenValue.algebraic,
  trivial, Cert.BackUpOddValue.algebraic,
  trivial, Cert.ModulateValue.algebraic,
  trivial, Cert.ResidualValue.algebraic,
  trivial, Cert.ActivationValue.algebraic,
  trivial, Cert.ActivationBackValue.algebraic,
  trivial, Cert.ResidualBackValue.algebraic,
  trivial, Cert.ReadEvenValue.algebraic,
  trivial, Cert.ReadOddValue.algebraic⟩

end Cert.Proof

end
